-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_FfnOut (m : (ℓ : Loc Cert.FfnOut.nD Cert.FfnOut.τ Cert.FfnOut.sig) → Buf (Elt Bits) ℓ) : Prop :=
  True

def Pre_FfnOutIdeal (m : (ℓ : Loc Cert.FfnOutIdeal.nD Cert.FfnOutIdeal.τ Cert.FfnOutIdeal.sig) → Buf (Elt Ideal) ℓ) : Prop :=
  True

def Pre_FfnOutIdeal_finite2 [hPre_finite2 : Cert.Pre_finite2.Facts] (m : (ℓ : Loc Cert.FfnOutIdeal.nD Cert.FfnOutIdeal.τ Cert.FfnOutIdeal.sig) → Buf (Elt Ideal) ℓ) : Prop :=
  ∀ c : Dev Cert.FfnOutIdeal.nD,
    (Cert.Pre_finite2.fn (F := Ideal) (m ((c.tc : Thread Cert.FfnOutIdeal.nD Cert.FfnOutIdeal.τ).loc Cert.FfnOutIdeal.main_arg0)) (m ((c.tc : Thread Cert.FfnOutIdeal.nD Cert.FfnOutIdeal.τ).loc Cert.FfnOutIdeal.main_arg1)) (m ((c.tc : Thread Cert.FfnOutIdeal.nD Cert.FfnOutIdeal.τ).loc Cert.FfnOutIdeal.main_arg2)) (m ((c.tc : Thread Cert.FfnOutIdeal.nD Cert.FfnOutIdeal.τ).loc Cert.FfnOutIdeal.main_arg3))) = (fun _ => 1#1)

def Pre_FfnOutRefIdeal (m : (ℓ : Loc Cert.FfnOutRefIdeal.nD Cert.FfnOutRefIdeal.τ Cert.FfnOutRefIdeal.sig) → Buf (Elt Ideal) ℓ) : Prop :=
  True

def Pre_FfnOutRefIdeal_finite2 [hPre_finite2 : Cert.Pre_finite2.Facts] (m : (ℓ : Loc Cert.FfnOutRefIdeal.nD Cert.FfnOutRefIdeal.τ Cert.FfnOutRefIdeal.sig) → Buf (Elt Ideal) ℓ) : Prop :=
  ∀ c : Dev Cert.FfnOutRefIdeal.nD,
    (Cert.Pre_finite2.fn (F := Ideal) (m ((c.tc : Thread Cert.FfnOutRefIdeal.nD Cert.FfnOutRefIdeal.τ).loc Cert.FfnOutRefIdeal.main_arg0)) (m ((c.tc : Thread Cert.FfnOutRefIdeal.nD Cert.FfnOutRefIdeal.τ).loc Cert.FfnOutRefIdeal.main_arg1)) (m ((c.tc : Thread Cert.FfnOutRefIdeal.nD Cert.FfnOutRefIdeal.τ).loc Cert.FfnOutRefIdeal.main_arg2)) (m ((c.tc : Thread Cert.FfnOutRefIdeal.nD Cert.FfnOutRefIdeal.τ).loc Cert.FfnOutRefIdeal.main_arg3))) = (fun _ => 1#1)

def Pre_DwFfnIn (m : (ℓ : Loc Cert.DwFfnIn.nD Cert.DwFfnIn.τ Cert.DwFfnIn.sig) → Buf (Elt Bits) ℓ) : Prop :=
  True

def Pre_DwFfnInIdeal (m : (ℓ : Loc Cert.DwFfnInIdeal.nD Cert.DwFfnInIdeal.τ Cert.DwFfnInIdeal.sig) → Buf (Elt Ideal) ℓ) : Prop :=
  True

def Pre_DwFfnInRefIdeal (m : (ℓ : Loc Cert.DwFfnInRefIdeal.nD Cert.DwFfnInRefIdeal.τ Cert.DwFfnInRefIdeal.sig) → Buf (Elt Ideal) ℓ) : Prop :=
  True

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInIdeal_finite4 [hPre_finite4 : Cert.Pre_finite4.Facts] (m : (ℓ : Loc Cert.FfnInIdeal.nD Cert.FfnInIdeal.τ Cert.FfnInIdeal.sig) → Buf (Elt Ideal) ℓ) : Prop :=
  ∀ c : Dev Cert.FfnInIdeal.nD,
    (Cert.Pre_finite4.fn (F := Ideal) (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1)) (m ((c.tc : Thread Cert.FfnInIdeal.nD Cert.FfnInIdeal.τ).loc Cert.FfnInIdeal.main_arg2)) (m ((c.tc : Thread Cert.FfnInIdeal.nD Cert.FfnInIdeal.τ).loc Cert.FfnInIdeal.main_arg3)) (m ((c.tc : Thread Cert.FfnInIdeal.nD Cert.FfnInIdeal.τ).loc Cert.FfnInIdeal.main_arg4)) (m ((c.tc : Thread Cert.FfnInIdeal.nD Cert.FfnInIdeal.τ).loc Cert.FfnInIdeal.main_arg5)) (m ((c.tc : Thread Cert.FfnInIdeal.nD Cert.FfnInIdeal.τ).loc Cert.FfnInIdeal.main_arg6)) (m ((c.tc : Thread Cert.FfnInIdeal.nD Cert.FfnInIdeal.τ).loc Cert.FfnInIdeal.main_arg7))) = (fun _ => 1#1)

def Pre_FfnInRefIdeal (m : (ℓ : Loc Cert.FfnInRefIdeal.nD Cert.FfnInRefIdeal.τ Cert.FfnInRefIdeal.sig) → Buf (Elt Ideal) ℓ) : Prop :=
  True

def Pre_FfnInRefIdeal_finite4 [hPre_finite4 : Cert.Pre_finite4.Facts] (m : (ℓ : Loc Cert.FfnInRefIdeal.nD Cert.FfnInRefIdeal.τ Cert.FfnInRefIdeal.sig) → Buf (Elt Ideal) ℓ) : Prop :=
  ∀ c : Dev Cert.FfnInRefIdeal.nD,
    (Cert.Pre_finite4.fn (F := Ideal) (m ((c.tc : Thread Cert.FfnInRefIdeal.nD Cert.FfnInRefIdeal.τ).loc Cert.FfnInRefIdeal.main_arg0)) (m ((c.tc : Thread Cert.FfnInRefIdeal.nD Cert.FfnInRefIdeal.τ).loc Cert.FfnInRefIdeal.main_arg1)) (m ((c.tc : Thread Cert.FfnInRefIdeal.nD Cert.FfnInRefIdeal.τ).loc Cert.FfnInRefIdeal.main_arg2)) (m ((c.tc : Thread Cert.FfnInRefIdeal.nD Cert.FfnInRefIdeal.τ).loc Cert.FfnInRefIdeal.main_arg3)) (m ((c.tc : Thread Cert.FfnInRefIdeal.nD Cert.FfnInRefIdeal.τ).loc Cert.FfnInRefIdeal.main_arg4)) (m ((c.tc : Thread Cert.FfnInRefIdeal.nD Cert.FfnInRefIdeal.τ).loc Cert.FfnInRefIdeal.main_arg5)) (m ((c.tc : Thread Cert.FfnInRefIdeal.nD Cert.FfnInRefIdeal.τ).loc Cert.FfnInRefIdeal.main_arg6)) (m ((c.tc : Thread Cert.FfnInRefIdeal.nD Cert.FfnInRefIdeal.τ).loc Cert.FfnInRefIdeal.main_arg7))) = (fun _ => 1#1)

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInRefIdeal (m : (ℓ : Loc Cert.DwInRefIdeal.nD Cert.DwInRefIdeal.τ Cert.DwInRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjIdeal_finite6 [hPre_finite6 : Cert.Pre_finite6.Facts] (m : (ℓ : Loc Cert.InProjIdeal.nD Cert.InProjIdeal.τ Cert.InProjIdeal.sig) → Buf (Elt Ideal) ℓ) : Prop :=
  ∀ c : Dev Cert.InProjIdeal.nD,
    (Cert.Pre_finite6.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4)) (m ((c.tc : Thread Cert.InProjIdeal.nD Cert.InProjIdeal.τ).loc Cert.InProjIdeal.main_arg5)) (m ((c.tc : Thread Cert.InProjIdeal.nD Cert.InProjIdeal.τ).loc Cert.InProjIdeal.main_arg6))) = (fun _ => 1#1)

def Pre_InProjRefIdeal (m : (ℓ : Loc Cert.InProjRefIdeal.nD Cert.InProjRefIdeal.τ Cert.InProjRefIdeal.sig) → Buf (Elt Ideal) ℓ) : Prop :=
  True

def Pre_InProjRefIdeal_finite6 [hPre_finite6 : Cert.Pre_finite6.Facts] (m : (ℓ : Loc Cert.InProjRefIdeal.nD Cert.InProjRefIdeal.τ Cert.InProjRefIdeal.sig) → Buf (Elt Ideal) ℓ) : Prop :=
  ∀ c : Dev Cert.InProjRefIdeal.nD,
    (Cert.Pre_finite6.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3)) (m ((c.tc : Thread Cert.InProjRefIdeal.nD Cert.InProjRefIdeal.τ).loc Cert.InProjRefIdeal.main_arg4)) (m ((c.tc : Thread Cert.InProjRefIdeal.nD Cert.InProjRefIdeal.τ).loc Cert.InProjRefIdeal.main_arg5)) (m ((c.tc : Thread Cert.InProjRefIdeal.nD Cert.InProjRefIdeal.τ).loc Cert.InProjRefIdeal.main_arg6))) = (fun _ => 1#1)

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjIdeal_finite7 [hPre_finite7 : Cert.Pre_finite7.Facts] (m : (ℓ : Loc Cert.OutProjIdeal.nD Cert.OutProjIdeal.τ Cert.OutProjIdeal.sig) → Buf (Elt Ideal) ℓ) : Prop :=
  ∀ c : Dev Cert.OutProjIdeal.nD,
    (Cert.Pre_finite7.fn (F := Ideal) (m ((c.tc : Thread Cert.OutProjIdeal.nD Cert.OutProjIdeal.τ).loc Cert.OutProjIdeal.main_arg0)) (m ((c.tc : Thread Cert.OutProjIdeal.nD Cert.OutProjIdeal.τ).loc Cert.OutProjIdeal.main_arg1)) (m ((c.tc : Thread Cert.OutProjIdeal.nD Cert.OutProjIdeal.τ).loc Cert.OutProjIdeal.main_arg2)) (m ((c.tc : Thread Cert.OutProjIdeal.nD Cert.OutProjIdeal.τ).loc Cert.OutProjIdeal.main_arg3)) (m ((c.tc : Thread Cert.OutProjIdeal.nD Cert.OutProjIdeal.τ).loc Cert.OutProjIdeal.main_arg4))) = (fun _ => 1#1)

def Pre_OutProjRefIdeal (m : (ℓ : Loc Cert.OutProjRefIdeal.nD Cert.OutProjRefIdeal.τ Cert.OutProjRefIdeal.sig) → Buf (Elt Ideal) ℓ) : Prop :=
  True

def Pre_OutProjRefIdeal_finite7 [hPre_finite7 : Cert.Pre_finite7.Facts] (m : (ℓ : Loc Cert.OutProjRefIdeal.nD Cert.OutProjRefIdeal.τ Cert.OutProjRefIdeal.sig) → Buf (Elt Ideal) ℓ) : Prop :=
  ∀ c : Dev Cert.OutProjRefIdeal.nD,
    (Cert.Pre_finite7.fn (F := Ideal) (m ((c.tc : Thread Cert.OutProjRefIdeal.nD Cert.OutProjRefIdeal.τ).loc Cert.OutProjRefIdeal.main_arg0)) (m ((c.tc : Thread Cert.OutProjRefIdeal.nD Cert.OutProjRefIdeal.τ).loc Cert.OutProjRefIdeal.main_arg1)) (m ((c.tc : Thread Cert.OutProjRefIdeal.nD Cert.OutProjRefIdeal.τ).loc Cert.OutProjRefIdeal.main_arg2)) (m ((c.tc : Thread Cert.OutProjRefIdeal.nD Cert.OutProjRefIdeal.τ).loc Cert.OutProjRefIdeal.main_arg3)) (m ((c.tc : Thread Cert.OutProjRefIdeal.nD Cert.OutProjRefIdeal.τ).loc Cert.OutProjRefIdeal.main_arg4))) = (fun _ => 1#1)

def Pre_FfnInFwd (m : (ℓ : Loc Cert.FfnInFwd.nD Cert.FfnInFwd.τ Cert.FfnInFwd.sig) → Buf (Elt Bits) ℓ) : Prop :=
  True

def Pre_FfnInFwdIdeal (m : (ℓ : Loc Cert.FfnInFwdIdeal.nD Cert.FfnInFwdIdeal.τ Cert.FfnInFwdIdeal.sig) → Buf (Elt Ideal) ℓ) : Prop :=
  True

def Pre_FfnInFwdRefIdeal (m : (ℓ : Loc Cert.FfnInFwdRefIdeal.nD Cert.FfnInFwdRefIdeal.τ Cert.FfnInFwdRefIdeal.sig) → Buf (Elt Ideal) ℓ) : Prop :=
  True

def Pre_FfnOutFwd (m : (ℓ : Loc Cert.FfnOutFwd.nD Cert.FfnOutFwd.τ Cert.FfnOutFwd.sig) → Buf (Elt Bits) ℓ) : Prop :=
  True

def Pre_FfnOutFwdIdeal (m : (ℓ : Loc Cert.FfnOutFwdIdeal.nD Cert.FfnOutFwdIdeal.τ Cert.FfnOutFwdIdeal.sig) → Buf (Elt Ideal) ℓ) : Prop :=
  True

def Pre_FfnOutFwdRefIdeal (m : (ℓ : Loc Cert.FfnOutFwdRefIdeal.nD Cert.FfnOutFwdRefIdeal.τ Cert.FfnOutFwdRefIdeal.sig) → Buf (Elt Ideal) ℓ) : Prop :=
  True

def Pre_InProjQkv (m : (ℓ : Loc Cert.InProjQkv.nD Cert.InProjQkv.τ Cert.InProjQkv.sig) → Buf (Elt Bits) ℓ) : Prop :=
  True

def Pre_InProjQkvIdeal (m : (ℓ : Loc Cert.InProjQkvIdeal.nD Cert.InProjQkvIdeal.τ Cert.InProjQkvIdeal.sig) → Buf (Elt Ideal) ℓ) : Prop :=
  True

def Pre_InProjQkvRefIdeal (m : (ℓ : Loc Cert.InProjQkvRefIdeal.nD Cert.InProjQkvRefIdeal.τ Cert.InProjQkvRefIdeal.sig) → Buf (Elt Ideal) ℓ) : Prop :=
  True

def Pre_OutProjFwd (m : (ℓ : Loc Cert.OutProjFwd.nD Cert.OutProjFwd.τ Cert.OutProjFwd.sig) → Buf (Elt Bits) ℓ) : Prop :=
  True

def Pre_OutProjFwdIdeal (m : (ℓ : Loc Cert.OutProjFwdIdeal.nD Cert.OutProjFwdIdeal.τ Cert.OutProjFwdIdeal.sig) → Buf (Elt Ideal) ℓ) : Prop :=
  True

def Pre_OutProjFwdRefIdeal (m : (ℓ : Loc Cert.OutProjFwdRefIdeal.nD Cert.OutProjFwdRefIdeal.τ Cert.OutProjFwdRefIdeal.sig) → Buf (Elt Ideal) ℓ) : Prop :=
  True

def Pre_InProjFirst (m : (ℓ : Loc Cert.InProjFirst.nD Cert.InProjFirst.τ Cert.InProjFirst.sig) → Buf (Elt Bits) ℓ) : Prop :=
  True

def Pre_InProjFirstIdeal (m : (ℓ : Loc Cert.InProjFirstIdeal.nD Cert.InProjFirstIdeal.τ Cert.InProjFirstIdeal.sig) → Buf (Elt Ideal) ℓ) : Prop :=
  True

def Pre_InProjFirstIdeal_finite12 [hPre_finite12 : Cert.Pre_finite12.Facts] (m : (ℓ : Loc Cert.InProjFirstIdeal.nD Cert.InProjFirstIdeal.τ Cert.InProjFirstIdeal.sig) → Buf (Elt Ideal) ℓ) : Prop :=
  ∀ c : Dev Cert.InProjFirstIdeal.nD,
    (Cert.Pre_finite12.fn (F := Ideal) (m ((c.tc : Thread Cert.InProjFirstIdeal.nD Cert.InProjFirstIdeal.τ).loc Cert.InProjFirstIdeal.main_arg0)) (m ((c.tc : Thread Cert.InProjFirstIdeal.nD Cert.InProjFirstIdeal.τ).loc Cert.InProjFirstIdeal.main_arg1)) (m ((c.tc : Thread Cert.InProjFirstIdeal.nD Cert.InProjFirstIdeal.τ).loc Cert.InProjFirstIdeal.main_arg2)) (m ((c.tc : Thread Cert.InProjFirstIdeal.nD Cert.InProjFirstIdeal.τ).loc Cert.InProjFirstIdeal.main_arg3)) (m ((c.tc : Thread Cert.InProjFirstIdeal.nD Cert.InProjFirstIdeal.τ).loc Cert.InProjFirstIdeal.main_arg4))) = (fun _ => 1#1)

def Pre_InProjFirstRefIdeal (m : (ℓ : Loc Cert.InProjFirstRefIdeal.nD Cert.InProjFirstRefIdeal.τ Cert.InProjFirstRefIdeal.sig) → Buf (Elt Ideal) ℓ) : Prop :=
  True

def Pre_InProjFirstRefIdeal_finite12 [hPre_finite12 : Cert.Pre_finite12.Facts] (m : (ℓ : Loc Cert.InProjFirstRefIdeal.nD Cert.InProjFirstRefIdeal.τ Cert.InProjFirstRefIdeal.sig) → Buf (Elt Ideal) ℓ) : Prop :=
  ∀ c : Dev Cert.InProjFirstRefIdeal.nD,
    (Cert.Pre_finite12.fn (F := Ideal) (m ((c.tc : Thread Cert.InProjFirstRefIdeal.nD Cert.InProjFirstRefIdeal.τ).loc Cert.InProjFirstRefIdeal.main_arg0)) (m ((c.tc : Thread Cert.InProjFirstRefIdeal.nD Cert.InProjFirstRefIdeal.τ).loc Cert.InProjFirstRefIdeal.main_arg1)) (m ((c.tc : Thread Cert.InProjFirstRefIdeal.nD Cert.InProjFirstRefIdeal.τ).loc Cert.InProjFirstRefIdeal.main_arg2)) (m ((c.tc : Thread Cert.InProjFirstRefIdeal.nD Cert.InProjFirstRefIdeal.τ).loc Cert.InProjFirstRefIdeal.main_arg3)) (m ((c.tc : Thread Cert.InProjFirstRefIdeal.nD Cert.InProjFirstRefIdeal.τ).loc Cert.InProjFirstRefIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_FfnOut [hFfnOut : Cert.FfnOut.Facts] : Prop :=
  ∀ (m : (ℓ : Loc Cert.FfnOut.nD Cert.FfnOut.τ Cert.FfnOut.sig) → Buf (Elt Bits) ℓ) (g : Dev Cert.FfnOut.nD → PrngReg), Pre_FfnOut m →
    θ_run (Cert.FfnOut.defs (F := Bits)) (onTc (τ := Cert.FfnOut.τ) (Cert.FfnOut.main (F := Bits))) ⟨m, fun _ => 0, g⟩ (fun r => (∀ c : Dev Cert.FfnOut.nD,
      r.2.mem ((c.tc : Thread Cert.FfnOut.nD Cert.FfnOut.τ).loc Cert.FfnOut.main_arg0) = m ((c.tc : Thread Cert.FfnOut.nD Cert.FfnOut.τ).loc Cert.FfnOut.main_arg0)
      ∧ r.2.mem ((c.tc : Thread Cert.FfnOut.nD Cert.FfnOut.τ).loc Cert.FfnOut.main_arg1) = m ((c.tc : Thread Cert.FfnOut.nD Cert.FfnOut.τ).loc Cert.FfnOut.main_arg1)
      ∧ r.2.mem ((c.tc : Thread Cert.FfnOut.nD Cert.FfnOut.τ).loc Cert.FfnOut.main_arg2) = m ((c.tc : Thread Cert.FfnOut.nD Cert.FfnOut.τ).loc Cert.FfnOut.main_arg2)
      ∧ r.2.mem ((c.tc : Thread Cert.FfnOut.nD Cert.FfnOut.τ).loc Cert.FfnOut.main_arg3) = m ((c.tc : Thread Cert.FfnOut.nD Cert.FfnOut.τ).loc Cert.FfnOut.main_arg3))
      ∧ r.2.sem = fun _ => 0)

def quiescent_FfnOutIdeal [hFfnOutIdeal : Cert.FfnOutIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg), Pre_FfnOutIdeal m →
    θ_run (Cert.FfnOutIdeal.defs (F := Ideal)) (onTc (τ := Cert.FfnOutIdeal.τ) (Cert.FfnOutIdeal.main (F := Ideal))) ⟨m, fun _ => 0, g⟩ (fun r => (∀ c : Dev Cert.FfnOutIdeal.nD,
      r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
      ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
      ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2)
      ∧ r.2.mem ((c.tc : Thread Cert.FfnOutIdeal.nD Cert.FfnOutIdeal.τ).loc Cert.FfnOutIdeal.main_arg3) = m ((c.tc : Thread Cert.FfnOutIdeal.nD Cert.FfnOutIdeal.τ).loc Cert.FfnOutIdeal.main_arg3))
      ∧ r.2.sem = fun _ => 0)

def quiescent_FfnOutIdeal_pre_finite2 [hFfnOutIdeal : Cert.FfnOutIdeal.Facts] [hPre_finite2 : Cert.Pre_finite2.Facts] : Prop :=
  ∀ (m : (ℓ : Loc Cert.FfnOutIdeal.nD Cert.FfnOutIdeal.τ Cert.FfnOutIdeal.sig) → Buf (Elt Ideal) ℓ) (g : Dev Cert.FfnOutIdeal.nD → PrngReg), Pre_FfnOutIdeal_finite2 m →
    θ_run (Cert.FfnOutIdeal.defs (F := Ideal)) (onTc (τ := Cert.FfnOutIdeal.τ) (Cert.FfnOutIdeal.main (F := Ideal))) ⟨m, fun _ => 0, g⟩ (fun r => (∀ c : Dev Cert.FfnOutIdeal.nD,
      r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
      ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
      ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2)
      ∧ r.2.mem ((c.tc : Thread Cert.FfnOutIdeal.nD Cert.FfnOutIdeal.τ).loc Cert.FfnOutIdeal.main_arg3) = m ((c.tc : Thread Cert.FfnOutIdeal.nD Cert.FfnOutIdeal.τ).loc Cert.FfnOutIdeal.main_arg3))
      ∧ r.2.sem = fun _ => 0)

def quiescent_FfnOutRefIdeal [hFfnOutRefIdeal : Cert.FfnOutRefIdeal.Facts] : Prop :=
  ∀ (m : (ℓ : Loc Cert.FfnOutRefIdeal.nD Cert.FfnOutRefIdeal.τ Cert.FfnOutRefIdeal.sig) → Buf (Elt Ideal) ℓ) (g : Dev Cert.FfnOutRefIdeal.nD → PrngReg), Pre_FfnOutRefIdeal m →
    θ_run (Cert.FfnOutRefIdeal.defs (F := Ideal)) (onTc (τ := Cert.FfnOutRefIdeal.τ) (Cert.FfnOutRefIdeal.main (F := Ideal))) ⟨m, fun _ => 0, g⟩ (fun r => (∀ c : Dev Cert.FfnOutRefIdeal.nD,
      r.2.mem ((c.tc : Thread Cert.FfnOutRefIdeal.nD Cert.FfnOutRefIdeal.τ).loc Cert.FfnOutRefIdeal.main_arg0) = m ((c.tc : Thread Cert.FfnOutRefIdeal.nD Cert.FfnOutRefIdeal.τ).loc Cert.FfnOutRefIdeal.main_arg0)
      ∧ r.2.mem ((c.tc : Thread Cert.FfnOutRefIdeal.nD Cert.FfnOutRefIdeal.τ).loc Cert.FfnOutRefIdeal.main_arg1) = m ((c.tc : Thread Cert.FfnOutRefIdeal.nD Cert.FfnOutRefIdeal.τ).loc Cert.FfnOutRefIdeal.main_arg1)
      ∧ r.2.mem ((c.tc : Thread Cert.FfnOutRefIdeal.nD Cert.FfnOutRefIdeal.τ).loc Cert.FfnOutRefIdeal.main_arg2) = m ((c.tc : Thread Cert.FfnOutRefIdeal.nD Cert.FfnOutRefIdeal.τ).loc Cert.FfnOutRefIdeal.main_arg2)
      ∧ r.2.mem ((c.tc : Thread Cert.FfnOutRefIdeal.nD Cert.FfnOutRefIdeal.τ).loc Cert.FfnOutRefIdeal.main_arg3) = m ((c.tc : Thread Cert.FfnOutRefIdeal.nD Cert.FfnOutRefIdeal.τ).loc Cert.FfnOutRefIdeal.main_arg3))
      ∧ r.2.sem = fun _ => 0)

def quiescent_FfnOutRefIdeal_pre_finite2 [hFfnOutRefIdeal : Cert.FfnOutRefIdeal.Facts] [hPre_finite2 : Cert.Pre_finite2.Facts] : Prop :=
  ∀ (m : (ℓ : Loc Cert.FfnOutRefIdeal.nD Cert.FfnOutRefIdeal.τ Cert.FfnOutRefIdeal.sig) → Buf (Elt Ideal) ℓ) (g : Dev Cert.FfnOutRefIdeal.nD → PrngReg), Pre_FfnOutRefIdeal_finite2 m →
    θ_run (Cert.FfnOutRefIdeal.defs (F := Ideal)) (onTc (τ := Cert.FfnOutRefIdeal.τ) (Cert.FfnOutRefIdeal.main (F := Ideal))) ⟨m, fun _ => 0, g⟩ (fun r => (∀ c : Dev Cert.FfnOutRefIdeal.nD,
      r.2.mem ((c.tc : Thread Cert.FfnOutRefIdeal.nD Cert.FfnOutRefIdeal.τ).loc Cert.FfnOutRefIdeal.main_arg0) = m ((c.tc : Thread Cert.FfnOutRefIdeal.nD Cert.FfnOutRefIdeal.τ).loc Cert.FfnOutRefIdeal.main_arg0)
      ∧ r.2.mem ((c.tc : Thread Cert.FfnOutRefIdeal.nD Cert.FfnOutRefIdeal.τ).loc Cert.FfnOutRefIdeal.main_arg1) = m ((c.tc : Thread Cert.FfnOutRefIdeal.nD Cert.FfnOutRefIdeal.τ).loc Cert.FfnOutRefIdeal.main_arg1)
      ∧ r.2.mem ((c.tc : Thread Cert.FfnOutRefIdeal.nD Cert.FfnOutRefIdeal.τ).loc Cert.FfnOutRefIdeal.main_arg2) = m ((c.tc : Thread Cert.FfnOutRefIdeal.nD Cert.FfnOutRefIdeal.τ).loc Cert.FfnOutRefIdeal.main_arg2)
      ∧ r.2.mem ((c.tc : Thread Cert.FfnOutRefIdeal.nD Cert.FfnOutRefIdeal.τ).loc Cert.FfnOutRefIdeal.main_arg3) = m ((c.tc : Thread Cert.FfnOutRefIdeal.nD Cert.FfnOutRefIdeal.τ).loc Cert.FfnOutRefIdeal.main_arg3))
      ∧ r.2.sem = fun _ => 0)

def quiescent_DwFfnIn [hDwFfnIn : Cert.DwFfnIn.Facts] : Prop :=
  ∀ (m : (ℓ : Loc Cert.DwFfnIn.nD Cert.DwFfnIn.τ Cert.DwFfnIn.sig) → Buf (Elt Bits) ℓ) (g : Dev Cert.DwFfnIn.nD → PrngReg), Pre_DwFfnIn m →
    θ_run (Cert.DwFfnIn.defs (F := Bits)) (onTc (τ := Cert.DwFfnIn.τ) (Cert.DwFfnIn.main (F := Bits))) ⟨m, fun _ => 0, g⟩ (fun r => (∀ c : Dev Cert.DwFfnIn.nD,
      r.2.mem ((c.tc : Thread Cert.DwFfnIn.nD Cert.DwFfnIn.τ).loc Cert.DwFfnIn.main_arg0) = m ((c.tc : Thread Cert.DwFfnIn.nD Cert.DwFfnIn.τ).loc Cert.DwFfnIn.main_arg0)
      ∧ r.2.mem ((c.tc : Thread Cert.DwFfnIn.nD Cert.DwFfnIn.τ).loc Cert.DwFfnIn.main_arg1) = m ((c.tc : Thread Cert.DwFfnIn.nD Cert.DwFfnIn.τ).loc Cert.DwFfnIn.main_arg1)
      ∧ r.2.mem ((c.tc : Thread Cert.DwFfnIn.nD Cert.DwFfnIn.τ).loc Cert.DwFfnIn.main_arg2) = m ((c.tc : Thread Cert.DwFfnIn.nD Cert.DwFfnIn.τ).loc Cert.DwFfnIn.main_arg2)
      ∧ r.2.mem ((c.tc : Thread Cert.DwFfnIn.nD Cert.DwFfnIn.τ).loc Cert.DwFfnIn.main_arg3) = m ((c.tc : Thread Cert.DwFfnIn.nD Cert.DwFfnIn.τ).loc Cert.DwFfnIn.main_arg3))
      ∧ r.2.sem = fun _ => 0)

def quiescent_DwFfnInIdeal [hDwFfnInIdeal : Cert.DwFfnInIdeal.Facts] : Prop :=
  ∀ (m : (ℓ : Loc Cert.DwFfnInIdeal.nD Cert.DwFfnInIdeal.τ Cert.DwFfnInIdeal.sig) → Buf (Elt Ideal) ℓ) (g : Dev Cert.DwFfnInIdeal.nD → PrngReg), Pre_DwFfnInIdeal m →
    θ_run (Cert.DwFfnInIdeal.defs (F := Ideal)) (onTc (τ := Cert.DwFfnInIdeal.τ) (Cert.DwFfnInIdeal.main (F := Ideal))) ⟨m, fun _ => 0, g⟩ (fun r => (∀ c : Dev Cert.DwFfnInIdeal.nD,
      r.2.mem ((c.tc : Thread Cert.DwFfnInIdeal.nD Cert.DwFfnInIdeal.τ).loc Cert.DwFfnInIdeal.main_arg0) = m ((c.tc : Thread Cert.DwFfnInIdeal.nD Cert.DwFfnInIdeal.τ).loc Cert.DwFfnInIdeal.main_arg0)
      ∧ r.2.mem ((c.tc : Thread Cert.DwFfnInIdeal.nD Cert.DwFfnInIdeal.τ).loc Cert.DwFfnInIdeal.main_arg1) = m ((c.tc : Thread Cert.DwFfnInIdeal.nD Cert.DwFfnInIdeal.τ).loc Cert.DwFfnInIdeal.main_arg1)
      ∧ r.2.mem ((c.tc : Thread Cert.DwFfnInIdeal.nD Cert.DwFfnInIdeal.τ).loc Cert.DwFfnInIdeal.main_arg2) = m ((c.tc : Thread Cert.DwFfnInIdeal.nD Cert.DwFfnInIdeal.τ).loc Cert.DwFfnInIdeal.main_arg2)
      ∧ r.2.mem ((c.tc : Thread Cert.DwFfnInIdeal.nD Cert.DwFfnInIdeal.τ).loc Cert.DwFfnInIdeal.main_arg3) = m ((c.tc : Thread Cert.DwFfnInIdeal.nD Cert.DwFfnInIdeal.τ).loc Cert.DwFfnInIdeal.main_arg3))
      ∧ r.2.sem = fun _ => 0)

def quiescent_DwFfnInRefIdeal [hDwFfnInRefIdeal : Cert.DwFfnInRefIdeal.Facts] : Prop :=
  ∀ (m : (ℓ : Loc Cert.DwFfnInRefIdeal.nD Cert.DwFfnInRefIdeal.τ Cert.DwFfnInRefIdeal.sig) → Buf (Elt Ideal) ℓ) (g : Dev Cert.DwFfnInRefIdeal.nD → PrngReg), Pre_DwFfnInRefIdeal m →
    θ_run (Cert.DwFfnInRefIdeal.defs (F := Ideal)) (onTc (τ := Cert.DwFfnInRefIdeal.τ) (Cert.DwFfnInRefIdeal.main (F := Ideal))) ⟨m, fun _ => 0, g⟩ (fun r => (∀ c : Dev Cert.DwFfnInRefIdeal.nD,
      r.2.mem ((c.tc : Thread Cert.DwFfnInRefIdeal.nD Cert.DwFfnInRefIdeal.τ).loc Cert.DwFfnInRefIdeal.main_arg0) = m ((c.tc : Thread Cert.DwFfnInRefIdeal.nD Cert.DwFfnInRefIdeal.τ).loc Cert.DwFfnInRefIdeal.main_arg0)
      ∧ r.2.mem ((c.tc : Thread Cert.DwFfnInRefIdeal.nD Cert.DwFfnInRefIdeal.τ).loc Cert.DwFfnInRefIdeal.main_arg1) = m ((c.tc : Thread Cert.DwFfnInRefIdeal.nD Cert.DwFfnInRefIdeal.τ).loc Cert.DwFfnInRefIdeal.main_arg1)
      ∧ r.2.mem ((c.tc : Thread Cert.DwFfnInRefIdeal.nD Cert.DwFfnInRefIdeal.τ).loc Cert.DwFfnInRefIdeal.main_arg2) = m ((c.tc : Thread Cert.DwFfnInRefIdeal.nD Cert.DwFfnInRefIdeal.τ).loc Cert.DwFfnInRefIdeal.main_arg2)
      ∧ r.2.mem ((c.tc : Thread Cert.DwFfnInRefIdeal.nD Cert.DwFfnInRefIdeal.τ).loc Cert.DwFfnInRefIdeal.main_arg3) = m ((c.tc : Thread Cert.DwFfnInRefIdeal.nD Cert.DwFfnInRefIdeal.τ).loc Cert.DwFfnInRefIdeal.main_arg3))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1)
      ∧ r.2.mem ((c.tc : Thread Cert.FfnIn.nD Cert.FfnIn.τ).loc Cert.FfnIn.main_arg2) = m ((c.tc : Thread Cert.FfnIn.nD Cert.FfnIn.τ).loc Cert.FfnIn.main_arg2)
      ∧ r.2.mem ((c.tc : Thread Cert.FfnIn.nD Cert.FfnIn.τ).loc Cert.FfnIn.main_arg3) = m ((c.tc : Thread Cert.FfnIn.nD Cert.FfnIn.τ).loc Cert.FfnIn.main_arg3)
      ∧ r.2.mem ((c.tc : Thread Cert.FfnIn.nD Cert.FfnIn.τ).loc Cert.FfnIn.main_arg4) = m ((c.tc : Thread Cert.FfnIn.nD Cert.FfnIn.τ).loc Cert.FfnIn.main_arg4)
      ∧ r.2.mem ((c.tc : Thread Cert.FfnIn.nD Cert.FfnIn.τ).loc Cert.FfnIn.main_arg5) = m ((c.tc : Thread Cert.FfnIn.nD Cert.FfnIn.τ).loc Cert.FfnIn.main_arg5)
      ∧ r.2.mem ((c.tc : Thread Cert.FfnIn.nD Cert.FfnIn.τ).loc Cert.FfnIn.main_arg6) = m ((c.tc : Thread Cert.FfnIn.nD Cert.FfnIn.τ).loc Cert.FfnIn.main_arg6)
      ∧ r.2.mem ((c.tc : Thread Cert.FfnIn.nD Cert.FfnIn.τ).loc Cert.FfnIn.main_arg7) = m ((c.tc : Thread Cert.FfnIn.nD Cert.FfnIn.τ).loc Cert.FfnIn.main_arg7))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
      ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
      ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
      ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4)
      ∧ r.2.mem ((c.tc : Thread Cert.FfnInIdeal.nD Cert.FfnInIdeal.τ).loc Cert.FfnInIdeal.main_arg5) = m ((c.tc : Thread Cert.FfnInIdeal.nD Cert.FfnInIdeal.τ).loc Cert.FfnInIdeal.main_arg5)
      ∧ r.2.mem ((c.tc : Thread Cert.FfnInIdeal.nD Cert.FfnInIdeal.τ).loc Cert.FfnInIdeal.main_arg6) = m ((c.tc : Thread Cert.FfnInIdeal.nD Cert.FfnInIdeal.τ).loc Cert.FfnInIdeal.main_arg6)
      ∧ r.2.mem ((c.tc : Thread Cert.FfnInIdeal.nD Cert.FfnInIdeal.τ).loc Cert.FfnInIdeal.main_arg7) = m ((c.tc : Thread Cert.FfnInIdeal.nD Cert.FfnInIdeal.τ).loc Cert.FfnInIdeal.main_arg7))
      ∧ r.2.sem = fun _ => 0)

def quiescent_FfnInIdeal_pre_finite4 [hFfnInIdeal : Cert.FfnInIdeal.Facts] [hPre_finite4 : Cert.Pre_finite4.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal_finite4 m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
      ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
      ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
      ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4)
      ∧ r.2.mem ((c.tc : Thread Cert.FfnInIdeal.nD Cert.FfnInIdeal.τ).loc Cert.FfnInIdeal.main_arg5) = m ((c.tc : Thread Cert.FfnInIdeal.nD Cert.FfnInIdeal.τ).loc Cert.FfnInIdeal.main_arg5)
      ∧ r.2.mem ((c.tc : Thread Cert.FfnInIdeal.nD Cert.FfnInIdeal.τ).loc Cert.FfnInIdeal.main_arg6) = m ((c.tc : Thread Cert.FfnInIdeal.nD Cert.FfnInIdeal.τ).loc Cert.FfnInIdeal.main_arg6)
      ∧ r.2.mem ((c.tc : Thread Cert.FfnInIdeal.nD Cert.FfnInIdeal.τ).loc Cert.FfnInIdeal.main_arg7) = m ((c.tc : Thread Cert.FfnInIdeal.nD Cert.FfnInIdeal.τ).loc Cert.FfnInIdeal.main_arg7))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1)
      ∧ r.2.mem ((c.tc : Thread Cert.FfnInRefIdeal.nD Cert.FfnInRefIdeal.τ).loc Cert.FfnInRefIdeal.main_arg2) = m ((c.tc : Thread Cert.FfnInRefIdeal.nD Cert.FfnInRefIdeal.τ).loc Cert.FfnInRefIdeal.main_arg2)
      ∧ r.2.mem ((c.tc : Thread Cert.FfnInRefIdeal.nD Cert.FfnInRefIdeal.τ).loc Cert.FfnInRefIdeal.main_arg3) = m ((c.tc : Thread Cert.FfnInRefIdeal.nD Cert.FfnInRefIdeal.τ).loc Cert.FfnInRefIdeal.main_arg3)
      ∧ r.2.mem ((c.tc : Thread Cert.FfnInRefIdeal.nD Cert.FfnInRefIdeal.τ).loc Cert.FfnInRefIdeal.main_arg4) = m ((c.tc : Thread Cert.FfnInRefIdeal.nD Cert.FfnInRefIdeal.τ).loc Cert.FfnInRefIdeal.main_arg4)
      ∧ r.2.mem ((c.tc : Thread Cert.FfnInRefIdeal.nD Cert.FfnInRefIdeal.τ).loc Cert.FfnInRefIdeal.main_arg5) = m ((c.tc : Thread Cert.FfnInRefIdeal.nD Cert.FfnInRefIdeal.τ).loc Cert.FfnInRefIdeal.main_arg5)
      ∧ r.2.mem ((c.tc : Thread Cert.FfnInRefIdeal.nD Cert.FfnInRefIdeal.τ).loc Cert.FfnInRefIdeal.main_arg6) = m ((c.tc : Thread Cert.FfnInRefIdeal.nD Cert.FfnInRefIdeal.τ).loc Cert.FfnInRefIdeal.main_arg6)
      ∧ r.2.mem ((c.tc : Thread Cert.FfnInRefIdeal.nD Cert.FfnInRefIdeal.τ).loc Cert.FfnInRefIdeal.main_arg7) = m ((c.tc : Thread Cert.FfnInRefIdeal.nD Cert.FfnInRefIdeal.τ).loc Cert.FfnInRefIdeal.main_arg7))
      ∧ r.2.sem = fun _ => 0)

def quiescent_FfnInRefIdeal_pre_finite4 [hFfnInRefIdeal : Cert.FfnInRefIdeal.Facts] [hPre_finite4 : Cert.Pre_finite4.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal_finite4 m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1)
      ∧ r.2.mem ((c.tc : Thread Cert.FfnInRefIdeal.nD Cert.FfnInRefIdeal.τ).loc Cert.FfnInRefIdeal.main_arg2) = m ((c.tc : Thread Cert.FfnInRefIdeal.nD Cert.FfnInRefIdeal.τ).loc Cert.FfnInRefIdeal.main_arg2)
      ∧ r.2.mem ((c.tc : Thread Cert.FfnInRefIdeal.nD Cert.FfnInRefIdeal.τ).loc Cert.FfnInRefIdeal.main_arg3) = m ((c.tc : Thread Cert.FfnInRefIdeal.nD Cert.FfnInRefIdeal.τ).loc Cert.FfnInRefIdeal.main_arg3)
      ∧ r.2.mem ((c.tc : Thread Cert.FfnInRefIdeal.nD Cert.FfnInRefIdeal.τ).loc Cert.FfnInRefIdeal.main_arg4) = m ((c.tc : Thread Cert.FfnInRefIdeal.nD Cert.FfnInRefIdeal.τ).loc Cert.FfnInRefIdeal.main_arg4)
      ∧ r.2.mem ((c.tc : Thread Cert.FfnInRefIdeal.nD Cert.FfnInRefIdeal.τ).loc Cert.FfnInRefIdeal.main_arg5) = m ((c.tc : Thread Cert.FfnInRefIdeal.nD Cert.FfnInRefIdeal.τ).loc Cert.FfnInRefIdeal.main_arg5)
      ∧ r.2.mem ((c.tc : Thread Cert.FfnInRefIdeal.nD Cert.FfnInRefIdeal.τ).loc Cert.FfnInRefIdeal.main_arg6) = m ((c.tc : Thread Cert.FfnInRefIdeal.nD Cert.FfnInRefIdeal.τ).loc Cert.FfnInRefIdeal.main_arg6)
      ∧ r.2.mem ((c.tc : Thread Cert.FfnInRefIdeal.nD Cert.FfnInRefIdeal.τ).loc Cert.FfnInRefIdeal.main_arg7) = m ((c.tc : Thread Cert.FfnInRefIdeal.nD Cert.FfnInRefIdeal.τ).loc Cert.FfnInRefIdeal.main_arg7))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1)
      ∧ r.2.mem ((c.tc : Thread Cert.DwIn.nD Cert.DwIn.τ).loc Cert.DwIn.main_arg2) = m ((c.tc : Thread Cert.DwIn.nD Cert.DwIn.τ).loc Cert.DwIn.main_arg2))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1)
      ∧ r.2.mem ((c.tc : Thread Cert.DwInIdeal.nD Cert.DwInIdeal.τ).loc Cert.DwInIdeal.main_arg2) = m ((c.tc : Thread Cert.DwInIdeal.nD Cert.DwInIdeal.τ).loc Cert.DwInIdeal.main_arg2))
      ∧ r.2.sem = fun _ => 0)

def quiescent_DwInRefIdeal [hDwInRefIdeal : Cert.DwInRefIdeal.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1)
      ∧ r.2.mem ((c.tc : Thread Cert.DwInRefIdeal.nD Cert.DwInRefIdeal.τ).loc Cert.DwInRefIdeal.main_arg2) = m ((c.tc : Thread Cert.DwInRefIdeal.nD Cert.DwInRefIdeal.τ).loc Cert.DwInRefIdeal.main_arg2))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5)
      ∧ r.2.mem ((c.tc : Thread Cert.InProj.nD Cert.InProj.τ).loc Cert.InProj.main_arg6) = m ((c.tc : Thread Cert.InProj.nD Cert.InProj.τ).loc Cert.InProj.main_arg6))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6))
      ∧ r.2.sem = fun _ => 0)

def quiescent_InProjIdeal_pre_finite6 [hInProjIdeal : Cert.InProjIdeal.Facts] [hPre_finite6 : Cert.Pre_finite6.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal_finite6 m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5)
      ∧ r.2.mem ((c.tc : Thread Cert.InProjRefIdeal.nD Cert.InProjRefIdeal.τ).loc Cert.InProjRefIdeal.main_arg6) = m ((c.tc : Thread Cert.InProjRefIdeal.nD Cert.InProjRefIdeal.τ).loc Cert.InProjRefIdeal.main_arg6))
      ∧ r.2.sem = fun _ => 0)

def quiescent_InProjRefIdeal_pre_finite6 [hInProjRefIdeal : Cert.InProjRefIdeal.Facts] [hPre_finite6 : Cert.Pre_finite6.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal_finite6 m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5)
      ∧ r.2.mem ((c.tc : Thread Cert.InProjRefIdeal.nD Cert.InProjRefIdeal.τ).loc Cert.InProjRefIdeal.main_arg6) = m ((c.tc : Thread Cert.InProjRefIdeal.nD Cert.InProjRefIdeal.τ).loc Cert.InProjRefIdeal.main_arg6))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ r.2.sem = fun _ => 0)

def quiescent_OutProjIdeal_pre_finite7 [hOutProjIdeal : Cert.OutProjIdeal.Facts] [hPre_finite7 : Cert.Pre_finite7.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal_finite7 m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4))
      ∧ r.2.sem = fun _ => 0)

def quiescent_OutProjRefIdeal_pre_finite7 [hOutProjRefIdeal : Cert.OutProjRefIdeal.Facts] [hPre_finite7 : Cert.Pre_finite7.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal_finite7 m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4))
      ∧ r.2.sem = fun _ => 0)

def quiescent_FfnInFwd [hFfnInFwd : Cert.FfnInFwd.Facts] : Prop :=
  ∀ (m : (ℓ : Loc Cert.FfnInFwd.nD Cert.FfnInFwd.τ Cert.FfnInFwd.sig) → Buf (Elt Bits) ℓ) (g : Dev Cert.FfnInFwd.nD → PrngReg), Pre_FfnInFwd m →
    θ_run (Cert.FfnInFwd.defs (F := Bits)) (onTc (τ := Cert.FfnInFwd.τ) (Cert.FfnInFwd.main (F := Bits))) ⟨m, fun _ => 0, g⟩ (fun r => (∀ c : Dev Cert.FfnInFwd.nD,
      r.2.mem ((c.tc : Thread Cert.FfnInFwd.nD Cert.FfnInFwd.τ).loc Cert.FfnInFwd.main_arg0) = m ((c.tc : Thread Cert.FfnInFwd.nD Cert.FfnInFwd.τ).loc Cert.FfnInFwd.main_arg0)
      ∧ r.2.mem ((c.tc : Thread Cert.FfnInFwd.nD Cert.FfnInFwd.τ).loc Cert.FfnInFwd.main_arg1) = m ((c.tc : Thread Cert.FfnInFwd.nD Cert.FfnInFwd.τ).loc Cert.FfnInFwd.main_arg1))
      ∧ r.2.sem = fun _ => 0)

def quiescent_FfnInFwdIdeal [hFfnInFwdIdeal : Cert.FfnInFwdIdeal.Facts] : Prop :=
  ∀ (m : (ℓ : Loc Cert.FfnInFwdIdeal.nD Cert.FfnInFwdIdeal.τ Cert.FfnInFwdIdeal.sig) → Buf (Elt Ideal) ℓ) (g : Dev Cert.FfnInFwdIdeal.nD → PrngReg), Pre_FfnInFwdIdeal m →
    θ_run (Cert.FfnInFwdIdeal.defs (F := Ideal)) (onTc (τ := Cert.FfnInFwdIdeal.τ) (Cert.FfnInFwdIdeal.main (F := Ideal))) ⟨m, fun _ => 0, g⟩ (fun r => (∀ c : Dev Cert.FfnInFwdIdeal.nD,
      r.2.mem ((c.tc : Thread Cert.FfnInFwdIdeal.nD Cert.FfnInFwdIdeal.τ).loc Cert.FfnInFwdIdeal.main_arg0) = m ((c.tc : Thread Cert.FfnInFwdIdeal.nD Cert.FfnInFwdIdeal.τ).loc Cert.FfnInFwdIdeal.main_arg0)
      ∧ r.2.mem ((c.tc : Thread Cert.FfnInFwdIdeal.nD Cert.FfnInFwdIdeal.τ).loc Cert.FfnInFwdIdeal.main_arg1) = m ((c.tc : Thread Cert.FfnInFwdIdeal.nD Cert.FfnInFwdIdeal.τ).loc Cert.FfnInFwdIdeal.main_arg1))
      ∧ r.2.sem = fun _ => 0)

def quiescent_FfnInFwdRefIdeal [hFfnInFwdRefIdeal : Cert.FfnInFwdRefIdeal.Facts] : Prop :=
  ∀ (m : (ℓ : Loc Cert.FfnInFwdRefIdeal.nD Cert.FfnInFwdRefIdeal.τ Cert.FfnInFwdRefIdeal.sig) → Buf (Elt Ideal) ℓ) (g : Dev Cert.FfnInFwdRefIdeal.nD → PrngReg), Pre_FfnInFwdRefIdeal m →
    θ_run (Cert.FfnInFwdRefIdeal.defs (F := Ideal)) (onTc (τ := Cert.FfnInFwdRefIdeal.τ) (Cert.FfnInFwdRefIdeal.main (F := Ideal))) ⟨m, fun _ => 0, g⟩ (fun r => (∀ c : Dev Cert.FfnInFwdRefIdeal.nD,
      r.2.mem ((c.tc : Thread Cert.FfnInFwdRefIdeal.nD Cert.FfnInFwdRefIdeal.τ).loc Cert.FfnInFwdRefIdeal.main_arg0) = m ((c.tc : Thread Cert.FfnInFwdRefIdeal.nD Cert.FfnInFwdRefIdeal.τ).loc Cert.FfnInFwdRefIdeal.main_arg0)
      ∧ r.2.mem ((c.tc : Thread Cert.FfnInFwdRefIdeal.nD Cert.FfnInFwdRefIdeal.τ).loc Cert.FfnInFwdRefIdeal.main_arg1) = m ((c.tc : Thread Cert.FfnInFwdRefIdeal.nD Cert.FfnInFwdRefIdeal.τ).loc Cert.FfnInFwdRefIdeal.main_arg1))
      ∧ r.2.sem = fun _ => 0)

def quiescent_FfnOutFwd [hFfnOutFwd : Cert.FfnOutFwd.Facts] : Prop :=
  ∀ (m : (ℓ : Loc Cert.FfnOutFwd.nD Cert.FfnOutFwd.τ Cert.FfnOutFwd.sig) → Buf (Elt Bits) ℓ) (g : Dev Cert.FfnOutFwd.nD → PrngReg), Pre_FfnOutFwd m →
    θ_run (Cert.FfnOutFwd.defs (F := Bits)) (onTc (τ := Cert.FfnOutFwd.τ) (Cert.FfnOutFwd.main (F := Bits))) ⟨m, fun _ => 0, g⟩ (fun r => (∀ c : Dev Cert.FfnOutFwd.nD,
      r.2.mem ((c.tc : Thread Cert.FfnOutFwd.nD Cert.FfnOutFwd.τ).loc Cert.FfnOutFwd.main_arg0) = m ((c.tc : Thread Cert.FfnOutFwd.nD Cert.FfnOutFwd.τ).loc Cert.FfnOutFwd.main_arg0)
      ∧ r.2.mem ((c.tc : Thread Cert.FfnOutFwd.nD Cert.FfnOutFwd.τ).loc Cert.FfnOutFwd.main_arg1) = m ((c.tc : Thread Cert.FfnOutFwd.nD Cert.FfnOutFwd.τ).loc Cert.FfnOutFwd.main_arg1)
      ∧ r.2.mem ((c.tc : Thread Cert.FfnOutFwd.nD Cert.FfnOutFwd.τ).loc Cert.FfnOutFwd.main_arg2) = m ((c.tc : Thread Cert.FfnOutFwd.nD Cert.FfnOutFwd.τ).loc Cert.FfnOutFwd.main_arg2)
      ∧ r.2.mem ((c.tc : Thread Cert.FfnOutFwd.nD Cert.FfnOutFwd.τ).loc Cert.FfnOutFwd.main_arg3) = m ((c.tc : Thread Cert.FfnOutFwd.nD Cert.FfnOutFwd.τ).loc Cert.FfnOutFwd.main_arg3)
      ∧ r.2.mem ((c.tc : Thread Cert.FfnOutFwd.nD Cert.FfnOutFwd.τ).loc Cert.FfnOutFwd.main_arg4) = m ((c.tc : Thread Cert.FfnOutFwd.nD Cert.FfnOutFwd.τ).loc Cert.FfnOutFwd.main_arg4)
      ∧ r.2.mem ((c.tc : Thread Cert.FfnOutFwd.nD Cert.FfnOutFwd.τ).loc Cert.FfnOutFwd.main_arg5) = m ((c.tc : Thread Cert.FfnOutFwd.nD Cert.FfnOutFwd.τ).loc Cert.FfnOutFwd.main_arg5))
      ∧ r.2.sem = fun _ => 0)

def quiescent_FfnOutFwdIdeal [hFfnOutFwdIdeal : Cert.FfnOutFwdIdeal.Facts] : Prop :=
  ∀ (m : (ℓ : Loc Cert.FfnOutFwdIdeal.nD Cert.FfnOutFwdIdeal.τ Cert.FfnOutFwdIdeal.sig) → Buf (Elt Ideal) ℓ) (g : Dev Cert.FfnOutFwdIdeal.nD → PrngReg), Pre_FfnOutFwdIdeal m →
    θ_run (Cert.FfnOutFwdIdeal.defs (F := Ideal)) (onTc (τ := Cert.FfnOutFwdIdeal.τ) (Cert.FfnOutFwdIdeal.main (F := Ideal))) ⟨m, fun _ => 0, g⟩ (fun r => (∀ c : Dev Cert.FfnOutFwdIdeal.nD,
      r.2.mem ((c.tc : Thread Cert.FfnOutFwdIdeal.nD Cert.FfnOutFwdIdeal.τ).loc Cert.FfnOutFwdIdeal.main_arg0) = m ((c.tc : Thread Cert.FfnOutFwdIdeal.nD Cert.FfnOutFwdIdeal.τ).loc Cert.FfnOutFwdIdeal.main_arg0)
      ∧ r.2.mem ((c.tc : Thread Cert.FfnOutFwdIdeal.nD Cert.FfnOutFwdIdeal.τ).loc Cert.FfnOutFwdIdeal.main_arg1) = m ((c.tc : Thread Cert.FfnOutFwdIdeal.nD Cert.FfnOutFwdIdeal.τ).loc Cert.FfnOutFwdIdeal.main_arg1)
      ∧ r.2.mem ((c.tc : Thread Cert.FfnOutFwdIdeal.nD Cert.FfnOutFwdIdeal.τ).loc Cert.FfnOutFwdIdeal.main_arg2) = m ((c.tc : Thread Cert.FfnOutFwdIdeal.nD Cert.FfnOutFwdIdeal.τ).loc Cert.FfnOutFwdIdeal.main_arg2)
      ∧ r.2.mem ((c.tc : Thread Cert.FfnOutFwdIdeal.nD Cert.FfnOutFwdIdeal.τ).loc Cert.FfnOutFwdIdeal.main_arg3) = m ((c.tc : Thread Cert.FfnOutFwdIdeal.nD Cert.FfnOutFwdIdeal.τ).loc Cert.FfnOutFwdIdeal.main_arg3)
      ∧ r.2.mem ((c.tc : Thread Cert.FfnOutFwdIdeal.nD Cert.FfnOutFwdIdeal.τ).loc Cert.FfnOutFwdIdeal.main_arg4) = m ((c.tc : Thread Cert.FfnOutFwdIdeal.nD Cert.FfnOutFwdIdeal.τ).loc Cert.FfnOutFwdIdeal.main_arg4)
      ∧ r.2.mem ((c.tc : Thread Cert.FfnOutFwdIdeal.nD Cert.FfnOutFwdIdeal.τ).loc Cert.FfnOutFwdIdeal.main_arg5) = m ((c.tc : Thread Cert.FfnOutFwdIdeal.nD Cert.FfnOutFwdIdeal.τ).loc Cert.FfnOutFwdIdeal.main_arg5))
      ∧ r.2.sem = fun _ => 0)

def quiescent_FfnOutFwdRefIdeal [hFfnOutFwdRefIdeal : Cert.FfnOutFwdRefIdeal.Facts] : Prop :=
  ∀ (m : (ℓ : Loc Cert.FfnOutFwdRefIdeal.nD Cert.FfnOutFwdRefIdeal.τ Cert.FfnOutFwdRefIdeal.sig) → Buf (Elt Ideal) ℓ) (g : Dev Cert.FfnOutFwdRefIdeal.nD → PrngReg), Pre_FfnOutFwdRefIdeal m →
    θ_run (Cert.FfnOutFwdRefIdeal.defs (F := Ideal)) (onTc (τ := Cert.FfnOutFwdRefIdeal.τ) (Cert.FfnOutFwdRefIdeal.main (F := Ideal))) ⟨m, fun _ => 0, g⟩ (fun r => (∀ c : Dev Cert.FfnOutFwdRefIdeal.nD,
      r.2.mem ((c.tc : Thread Cert.FfnOutFwdRefIdeal.nD Cert.FfnOutFwdRefIdeal.τ).loc Cert.FfnOutFwdRefIdeal.main_arg0) = m ((c.tc : Thread Cert.FfnOutFwdRefIdeal.nD Cert.FfnOutFwdRefIdeal.τ).loc Cert.FfnOutFwdRefIdeal.main_arg0)
      ∧ r.2.mem ((c.tc : Thread Cert.FfnOutFwdRefIdeal.nD Cert.FfnOutFwdRefIdeal.τ).loc Cert.FfnOutFwdRefIdeal.main_arg1) = m ((c.tc : Thread Cert.FfnOutFwdRefIdeal.nD Cert.FfnOutFwdRefIdeal.τ).loc Cert.FfnOutFwdRefIdeal.main_arg1)
      ∧ r.2.mem ((c.tc : Thread Cert.FfnOutFwdRefIdeal.nD Cert.FfnOutFwdRefIdeal.τ).loc Cert.FfnOutFwdRefIdeal.main_arg2) = m ((c.tc : Thread Cert.FfnOutFwdRefIdeal.nD Cert.FfnOutFwdRefIdeal.τ).loc Cert.FfnOutFwdRefIdeal.main_arg2)
      ∧ r.2.mem ((c.tc : Thread Cert.FfnOutFwdRefIdeal.nD Cert.FfnOutFwdRefIdeal.τ).loc Cert.FfnOutFwdRefIdeal.main_arg3) = m ((c.tc : Thread Cert.FfnOutFwdRefIdeal.nD Cert.FfnOutFwdRefIdeal.τ).loc Cert.FfnOutFwdRefIdeal.main_arg3)
      ∧ r.2.mem ((c.tc : Thread Cert.FfnOutFwdRefIdeal.nD Cert.FfnOutFwdRefIdeal.τ).loc Cert.FfnOutFwdRefIdeal.main_arg4) = m ((c.tc : Thread Cert.FfnOutFwdRefIdeal.nD Cert.FfnOutFwdRefIdeal.τ).loc Cert.FfnOutFwdRefIdeal.main_arg4)
      ∧ r.2.mem ((c.tc : Thread Cert.FfnOutFwdRefIdeal.nD Cert.FfnOutFwdRefIdeal.τ).loc Cert.FfnOutFwdRefIdeal.main_arg5) = m ((c.tc : Thread Cert.FfnOutFwdRefIdeal.nD Cert.FfnOutFwdRefIdeal.τ).loc Cert.FfnOutFwdRefIdeal.main_arg5))
      ∧ r.2.sem = fun _ => 0)

def quiescent_InProjQkv [hInProjQkv : Cert.InProjQkv.Facts] : Prop :=
  ∀ (m : (ℓ : Loc Cert.InProjQkv.nD Cert.InProjQkv.τ Cert.InProjQkv.sig) → Buf (Elt Bits) ℓ) (g : Dev Cert.InProjQkv.nD → PrngReg), Pre_InProjQkv m →
    θ_run (Cert.InProjQkv.defs (F := Bits)) (onTc (τ := Cert.InProjQkv.τ) (Cert.InProjQkv.main (F := Bits))) ⟨m, fun _ => 0, g⟩ (fun r => (∀ c : Dev Cert.InProjQkv.nD,
      r.2.mem ((c.tc : Thread Cert.InProjQkv.nD Cert.InProjQkv.τ).loc Cert.InProjQkv.main_arg0) = m ((c.tc : Thread Cert.InProjQkv.nD Cert.InProjQkv.τ).loc Cert.InProjQkv.main_arg0)
      ∧ r.2.mem ((c.tc : Thread Cert.InProjQkv.nD Cert.InProjQkv.τ).loc Cert.InProjQkv.main_arg1) = m ((c.tc : Thread Cert.InProjQkv.nD Cert.InProjQkv.τ).loc Cert.InProjQkv.main_arg1))
      ∧ r.2.sem = fun _ => 0)

def quiescent_InProjQkvIdeal [hInProjQkvIdeal : Cert.InProjQkvIdeal.Facts] : Prop :=
  ∀ (m : (ℓ : Loc Cert.InProjQkvIdeal.nD Cert.InProjQkvIdeal.τ Cert.InProjQkvIdeal.sig) → Buf (Elt Ideal) ℓ) (g : Dev Cert.InProjQkvIdeal.nD → PrngReg), Pre_InProjQkvIdeal m →
    θ_run (Cert.InProjQkvIdeal.defs (F := Ideal)) (onTc (τ := Cert.InProjQkvIdeal.τ) (Cert.InProjQkvIdeal.main (F := Ideal))) ⟨m, fun _ => 0, g⟩ (fun r => (∀ c : Dev Cert.InProjQkvIdeal.nD,
      r.2.mem ((c.tc : Thread Cert.InProjQkvIdeal.nD Cert.InProjQkvIdeal.τ).loc Cert.InProjQkvIdeal.main_arg0) = m ((c.tc : Thread Cert.InProjQkvIdeal.nD Cert.InProjQkvIdeal.τ).loc Cert.InProjQkvIdeal.main_arg0)
      ∧ r.2.mem ((c.tc : Thread Cert.InProjQkvIdeal.nD Cert.InProjQkvIdeal.τ).loc Cert.InProjQkvIdeal.main_arg1) = m ((c.tc : Thread Cert.InProjQkvIdeal.nD Cert.InProjQkvIdeal.τ).loc Cert.InProjQkvIdeal.main_arg1))
      ∧ r.2.sem = fun _ => 0)

def quiescent_InProjQkvRefIdeal [hInProjQkvRefIdeal : Cert.InProjQkvRefIdeal.Facts] : Prop :=
  ∀ (m : (ℓ : Loc Cert.InProjQkvRefIdeal.nD Cert.InProjQkvRefIdeal.τ Cert.InProjQkvRefIdeal.sig) → Buf (Elt Ideal) ℓ) (g : Dev Cert.InProjQkvRefIdeal.nD → PrngReg), Pre_InProjQkvRefIdeal m →
    θ_run (Cert.InProjQkvRefIdeal.defs (F := Ideal)) (onTc (τ := Cert.InProjQkvRefIdeal.τ) (Cert.InProjQkvRefIdeal.main (F := Ideal))) ⟨m, fun _ => 0, g⟩ (fun r => (∀ c : Dev Cert.InProjQkvRefIdeal.nD,
      r.2.mem ((c.tc : Thread Cert.InProjQkvRefIdeal.nD Cert.InProjQkvRefIdeal.τ).loc Cert.InProjQkvRefIdeal.main_arg0) = m ((c.tc : Thread Cert.InProjQkvRefIdeal.nD Cert.InProjQkvRefIdeal.τ).loc Cert.InProjQkvRefIdeal.main_arg0)
      ∧ r.2.mem ((c.tc : Thread Cert.InProjQkvRefIdeal.nD Cert.InProjQkvRefIdeal.τ).loc Cert.InProjQkvRefIdeal.main_arg1) = m ((c.tc : Thread Cert.InProjQkvRefIdeal.nD Cert.InProjQkvRefIdeal.τ).loc Cert.InProjQkvRefIdeal.main_arg1))
      ∧ r.2.sem = fun _ => 0)

def quiescent_OutProjFwd [hOutProjFwd : Cert.OutProjFwd.Facts] : Prop :=
  ∀ (m : (ℓ : Loc Cert.OutProjFwd.nD Cert.OutProjFwd.τ Cert.OutProjFwd.sig) → Buf (Elt Bits) ℓ) (g : Dev Cert.OutProjFwd.nD → PrngReg), Pre_OutProjFwd m →
    θ_run (Cert.OutProjFwd.defs (F := Bits)) (onTc (τ := Cert.OutProjFwd.τ) (Cert.OutProjFwd.main (F := Bits))) ⟨m, fun _ => 0, g⟩ (fun r => (∀ c : Dev Cert.OutProjFwd.nD,
      r.2.mem ((c.tc : Thread Cert.OutProjFwd.nD Cert.OutProjFwd.τ).loc Cert.OutProjFwd.main_arg0) = m ((c.tc : Thread Cert.OutProjFwd.nD Cert.OutProjFwd.τ).loc Cert.OutProjFwd.main_arg0)
      ∧ r.2.mem ((c.tc : Thread Cert.OutProjFwd.nD Cert.OutProjFwd.τ).loc Cert.OutProjFwd.main_arg1) = m ((c.tc : Thread Cert.OutProjFwd.nD Cert.OutProjFwd.τ).loc Cert.OutProjFwd.main_arg1)
      ∧ r.2.mem ((c.tc : Thread Cert.OutProjFwd.nD Cert.OutProjFwd.τ).loc Cert.OutProjFwd.main_arg2) = m ((c.tc : Thread Cert.OutProjFwd.nD Cert.OutProjFwd.τ).loc Cert.OutProjFwd.main_arg2)
      ∧ r.2.mem ((c.tc : Thread Cert.OutProjFwd.nD Cert.OutProjFwd.τ).loc Cert.OutProjFwd.main_arg3) = m ((c.tc : Thread Cert.OutProjFwd.nD Cert.OutProjFwd.τ).loc Cert.OutProjFwd.main_arg3)
      ∧ r.2.mem ((c.tc : Thread Cert.OutProjFwd.nD Cert.OutProjFwd.τ).loc Cert.OutProjFwd.main_arg4) = m ((c.tc : Thread Cert.OutProjFwd.nD Cert.OutProjFwd.τ).loc Cert.OutProjFwd.main_arg4)
      ∧ r.2.mem ((c.tc : Thread Cert.OutProjFwd.nD Cert.OutProjFwd.τ).loc Cert.OutProjFwd.main_arg5) = m ((c.tc : Thread Cert.OutProjFwd.nD Cert.OutProjFwd.τ).loc Cert.OutProjFwd.main_arg5))
      ∧ r.2.sem = fun _ => 0)

def quiescent_OutProjFwdIdeal [hOutProjFwdIdeal : Cert.OutProjFwdIdeal.Facts] : Prop :=
  ∀ (m : (ℓ : Loc Cert.OutProjFwdIdeal.nD Cert.OutProjFwdIdeal.τ Cert.OutProjFwdIdeal.sig) → Buf (Elt Ideal) ℓ) (g : Dev Cert.OutProjFwdIdeal.nD → PrngReg), Pre_OutProjFwdIdeal m →
    θ_run (Cert.OutProjFwdIdeal.defs (F := Ideal)) (onTc (τ := Cert.OutProjFwdIdeal.τ) (Cert.OutProjFwdIdeal.main (F := Ideal))) ⟨m, fun _ => 0, g⟩ (fun r => (∀ c : Dev Cert.OutProjFwdIdeal.nD,
      r.2.mem ((c.tc : Thread Cert.OutProjFwdIdeal.nD Cert.OutProjFwdIdeal.τ).loc Cert.OutProjFwdIdeal.main_arg0) = m ((c.tc : Thread Cert.OutProjFwdIdeal.nD Cert.OutProjFwdIdeal.τ).loc Cert.OutProjFwdIdeal.main_arg0)
      ∧ r.2.mem ((c.tc : Thread Cert.OutProjFwdIdeal.nD Cert.OutProjFwdIdeal.τ).loc Cert.OutProjFwdIdeal.main_arg1) = m ((c.tc : Thread Cert.OutProjFwdIdeal.nD Cert.OutProjFwdIdeal.τ).loc Cert.OutProjFwdIdeal.main_arg1)
      ∧ r.2.mem ((c.tc : Thread Cert.OutProjFwdIdeal.nD Cert.OutProjFwdIdeal.τ).loc Cert.OutProjFwdIdeal.main_arg2) = m ((c.tc : Thread Cert.OutProjFwdIdeal.nD Cert.OutProjFwdIdeal.τ).loc Cert.OutProjFwdIdeal.main_arg2)
      ∧ r.2.mem ((c.tc : Thread Cert.OutProjFwdIdeal.nD Cert.OutProjFwdIdeal.τ).loc Cert.OutProjFwdIdeal.main_arg3) = m ((c.tc : Thread Cert.OutProjFwdIdeal.nD Cert.OutProjFwdIdeal.τ).loc Cert.OutProjFwdIdeal.main_arg3)
      ∧ r.2.mem ((c.tc : Thread Cert.OutProjFwdIdeal.nD Cert.OutProjFwdIdeal.τ).loc Cert.OutProjFwdIdeal.main_arg4) = m ((c.tc : Thread Cert.OutProjFwdIdeal.nD Cert.OutProjFwdIdeal.τ).loc Cert.OutProjFwdIdeal.main_arg4)
      ∧ r.2.mem ((c.tc : Thread Cert.OutProjFwdIdeal.nD Cert.OutProjFwdIdeal.τ).loc Cert.OutProjFwdIdeal.main_arg5) = m ((c.tc : Thread Cert.OutProjFwdIdeal.nD Cert.OutProjFwdIdeal.τ).loc Cert.OutProjFwdIdeal.main_arg5))
      ∧ r.2.sem = fun _ => 0)

def quiescent_OutProjFwdRefIdeal [hOutProjFwdRefIdeal : Cert.OutProjFwdRefIdeal.Facts] : Prop :=
  ∀ (m : (ℓ : Loc Cert.OutProjFwdRefIdeal.nD Cert.OutProjFwdRefIdeal.τ Cert.OutProjFwdRefIdeal.sig) → Buf (Elt Ideal) ℓ) (g : Dev Cert.OutProjFwdRefIdeal.nD → PrngReg), Pre_OutProjFwdRefIdeal m →
    θ_run (Cert.OutProjFwdRefIdeal.defs (F := Ideal)) (onTc (τ := Cert.OutProjFwdRefIdeal.τ) (Cert.OutProjFwdRefIdeal.main (F := Ideal))) ⟨m, fun _ => 0, g⟩ (fun r => (∀ c : Dev Cert.OutProjFwdRefIdeal.nD,
      r.2.mem ((c.tc : Thread Cert.OutProjFwdRefIdeal.nD Cert.OutProjFwdRefIdeal.τ).loc Cert.OutProjFwdRefIdeal.main_arg0) = m ((c.tc : Thread Cert.OutProjFwdRefIdeal.nD Cert.OutProjFwdRefIdeal.τ).loc Cert.OutProjFwdRefIdeal.main_arg0)
      ∧ r.2.mem ((c.tc : Thread Cert.OutProjFwdRefIdeal.nD Cert.OutProjFwdRefIdeal.τ).loc Cert.OutProjFwdRefIdeal.main_arg1) = m ((c.tc : Thread Cert.OutProjFwdRefIdeal.nD Cert.OutProjFwdRefIdeal.τ).loc Cert.OutProjFwdRefIdeal.main_arg1)
      ∧ r.2.mem ((c.tc : Thread Cert.OutProjFwdRefIdeal.nD Cert.OutProjFwdRefIdeal.τ).loc Cert.OutProjFwdRefIdeal.main_arg2) = m ((c.tc : Thread Cert.OutProjFwdRefIdeal.nD Cert.OutProjFwdRefIdeal.τ).loc Cert.OutProjFwdRefIdeal.main_arg2)
      ∧ r.2.mem ((c.tc : Thread Cert.OutProjFwdRefIdeal.nD Cert.OutProjFwdRefIdeal.τ).loc Cert.OutProjFwdRefIdeal.main_arg3) = m ((c.tc : Thread Cert.OutProjFwdRefIdeal.nD Cert.OutProjFwdRefIdeal.τ).loc Cert.OutProjFwdRefIdeal.main_arg3)
      ∧ r.2.mem ((c.tc : Thread Cert.OutProjFwdRefIdeal.nD Cert.OutProjFwdRefIdeal.τ).loc Cert.OutProjFwdRefIdeal.main_arg4) = m ((c.tc : Thread Cert.OutProjFwdRefIdeal.nD Cert.OutProjFwdRefIdeal.τ).loc Cert.OutProjFwdRefIdeal.main_arg4)
      ∧ r.2.mem ((c.tc : Thread Cert.OutProjFwdRefIdeal.nD Cert.OutProjFwdRefIdeal.τ).loc Cert.OutProjFwdRefIdeal.main_arg5) = m ((c.tc : Thread Cert.OutProjFwdRefIdeal.nD Cert.OutProjFwdRefIdeal.τ).loc Cert.OutProjFwdRefIdeal.main_arg5))
      ∧ r.2.sem = fun _ => 0)

def quiescent_InProjFirst [hInProjFirst : Cert.InProjFirst.Facts] : Prop :=
  ∀ (m : (ℓ : Loc Cert.InProjFirst.nD Cert.InProjFirst.τ Cert.InProjFirst.sig) → Buf (Elt Bits) ℓ) (g : Dev Cert.InProjFirst.nD → PrngReg), Pre_InProjFirst m →
    θ_run (Cert.InProjFirst.defs (F := Bits)) (onTc (τ := Cert.InProjFirst.τ) (Cert.InProjFirst.main (F := Bits))) ⟨m, fun _ => 0, g⟩ (fun r => (∀ c : Dev Cert.InProjFirst.nD,
      r.2.mem ((c.tc : Thread Cert.InProjFirst.nD Cert.InProjFirst.τ).loc Cert.InProjFirst.main_arg0) = m ((c.tc : Thread Cert.InProjFirst.nD Cert.InProjFirst.τ).loc Cert.InProjFirst.main_arg0)
      ∧ r.2.mem ((c.tc : Thread Cert.InProjFirst.nD Cert.InProjFirst.τ).loc Cert.InProjFirst.main_arg1) = m ((c.tc : Thread Cert.InProjFirst.nD Cert.InProjFirst.τ).loc Cert.InProjFirst.main_arg1)
      ∧ r.2.mem ((c.tc : Thread Cert.InProjFirst.nD Cert.InProjFirst.τ).loc Cert.InProjFirst.main_arg2) = m ((c.tc : Thread Cert.InProjFirst.nD Cert.InProjFirst.τ).loc Cert.InProjFirst.main_arg2)
      ∧ r.2.mem ((c.tc : Thread Cert.InProjFirst.nD Cert.InProjFirst.τ).loc Cert.InProjFirst.main_arg3) = m ((c.tc : Thread Cert.InProjFirst.nD Cert.InProjFirst.τ).loc Cert.InProjFirst.main_arg3)
      ∧ r.2.mem ((c.tc : Thread Cert.InProjFirst.nD Cert.InProjFirst.τ).loc Cert.InProjFirst.main_arg4) = m ((c.tc : Thread Cert.InProjFirst.nD Cert.InProjFirst.τ).loc Cert.InProjFirst.main_arg4))
      ∧ r.2.sem = fun _ => 0)

def quiescent_InProjFirstIdeal [hInProjFirstIdeal : Cert.InProjFirstIdeal.Facts] : Prop :=
  ∀ (m : (ℓ : Loc Cert.InProjFirstIdeal.nD Cert.InProjFirstIdeal.τ Cert.InProjFirstIdeal.sig) → Buf (Elt Ideal) ℓ) (g : Dev Cert.InProjFirstIdeal.nD → PrngReg), Pre_InProjFirstIdeal m →
    θ_run (Cert.InProjFirstIdeal.defs (F := Ideal)) (onTc (τ := Cert.InProjFirstIdeal.τ) (Cert.InProjFirstIdeal.main (F := Ideal))) ⟨m, fun _ => 0, g⟩ (fun r => (∀ c : Dev Cert.InProjFirstIdeal.nD,
      r.2.mem ((c.tc : Thread Cert.InProjFirstIdeal.nD Cert.InProjFirstIdeal.τ).loc Cert.InProjFirstIdeal.main_arg0) = m ((c.tc : Thread Cert.InProjFirstIdeal.nD Cert.InProjFirstIdeal.τ).loc Cert.InProjFirstIdeal.main_arg0)
      ∧ r.2.mem ((c.tc : Thread Cert.InProjFirstIdeal.nD Cert.InProjFirstIdeal.τ).loc Cert.InProjFirstIdeal.main_arg1) = m ((c.tc : Thread Cert.InProjFirstIdeal.nD Cert.InProjFirstIdeal.τ).loc Cert.InProjFirstIdeal.main_arg1)
      ∧ r.2.mem ((c.tc : Thread Cert.InProjFirstIdeal.nD Cert.InProjFirstIdeal.τ).loc Cert.InProjFirstIdeal.main_arg2) = m ((c.tc : Thread Cert.InProjFirstIdeal.nD Cert.InProjFirstIdeal.τ).loc Cert.InProjFirstIdeal.main_arg2)
      ∧ r.2.mem ((c.tc : Thread Cert.InProjFirstIdeal.nD Cert.InProjFirstIdeal.τ).loc Cert.InProjFirstIdeal.main_arg3) = m ((c.tc : Thread Cert.InProjFirstIdeal.nD Cert.InProjFirstIdeal.τ).loc Cert.InProjFirstIdeal.main_arg3)
      ∧ r.2.mem ((c.tc : Thread Cert.InProjFirstIdeal.nD Cert.InProjFirstIdeal.τ).loc Cert.InProjFirstIdeal.main_arg4) = m ((c.tc : Thread Cert.InProjFirstIdeal.nD Cert.InProjFirstIdeal.τ).loc Cert.InProjFirstIdeal.main_arg4))
      ∧ r.2.sem = fun _ => 0)

def quiescent_InProjFirstIdeal_pre_finite12 [hInProjFirstIdeal : Cert.InProjFirstIdeal.Facts] [hPre_finite12 : Cert.Pre_finite12.Facts] : Prop :=
  ∀ (m : (ℓ : Loc Cert.InProjFirstIdeal.nD Cert.InProjFirstIdeal.τ Cert.InProjFirstIdeal.sig) → Buf (Elt Ideal) ℓ) (g : Dev Cert.InProjFirstIdeal.nD → PrngReg), Pre_InProjFirstIdeal_finite12 m →
    θ_run (Cert.InProjFirstIdeal.defs (F := Ideal)) (onTc (τ := Cert.InProjFirstIdeal.τ) (Cert.InProjFirstIdeal.main (F := Ideal))) ⟨m, fun _ => 0, g⟩ (fun r => (∀ c : Dev Cert.InProjFirstIdeal.nD,
      r.2.mem ((c.tc : Thread Cert.InProjFirstIdeal.nD Cert.InProjFirstIdeal.τ).loc Cert.InProjFirstIdeal.main_arg0) = m ((c.tc : Thread Cert.InProjFirstIdeal.nD Cert.InProjFirstIdeal.τ).loc Cert.InProjFirstIdeal.main_arg0)
      ∧ r.2.mem ((c.tc : Thread Cert.InProjFirstIdeal.nD Cert.InProjFirstIdeal.τ).loc Cert.InProjFirstIdeal.main_arg1) = m ((c.tc : Thread Cert.InProjFirstIdeal.nD Cert.InProjFirstIdeal.τ).loc Cert.InProjFirstIdeal.main_arg1)
      ∧ r.2.mem ((c.tc : Thread Cert.InProjFirstIdeal.nD Cert.InProjFirstIdeal.τ).loc Cert.InProjFirstIdeal.main_arg2) = m ((c.tc : Thread Cert.InProjFirstIdeal.nD Cert.InProjFirstIdeal.τ).loc Cert.InProjFirstIdeal.main_arg2)
      ∧ r.2.mem ((c.tc : Thread Cert.InProjFirstIdeal.nD Cert.InProjFirstIdeal.τ).loc Cert.InProjFirstIdeal.main_arg3) = m ((c.tc : Thread Cert.InProjFirstIdeal.nD Cert.InProjFirstIdeal.τ).loc Cert.InProjFirstIdeal.main_arg3)
      ∧ r.2.mem ((c.tc : Thread Cert.InProjFirstIdeal.nD Cert.InProjFirstIdeal.τ).loc Cert.InProjFirstIdeal.main_arg4) = m ((c.tc : Thread Cert.InProjFirstIdeal.nD Cert.InProjFirstIdeal.τ).loc Cert.InProjFirstIdeal.main_arg4))
      ∧ r.2.sem = fun _ => 0)

def quiescent_InProjFirstRefIdeal [hInProjFirstRefIdeal : Cert.InProjFirstRefIdeal.Facts] : Prop :=
  ∀ (m : (ℓ : Loc Cert.InProjFirstRefIdeal.nD Cert.InProjFirstRefIdeal.τ Cert.InProjFirstRefIdeal.sig) → Buf (Elt Ideal) ℓ) (g : Dev Cert.InProjFirstRefIdeal.nD → PrngReg), Pre_InProjFirstRefIdeal m →
    θ_run (Cert.InProjFirstRefIdeal.defs (F := Ideal)) (onTc (τ := Cert.InProjFirstRefIdeal.τ) (Cert.InProjFirstRefIdeal.main (F := Ideal))) ⟨m, fun _ => 0, g⟩ (fun r => (∀ c : Dev Cert.InProjFirstRefIdeal.nD,
      r.2.mem ((c.tc : Thread Cert.InProjFirstRefIdeal.nD Cert.InProjFirstRefIdeal.τ).loc Cert.InProjFirstRefIdeal.main_arg0) = m ((c.tc : Thread Cert.InProjFirstRefIdeal.nD Cert.InProjFirstRefIdeal.τ).loc Cert.InProjFirstRefIdeal.main_arg0)
      ∧ r.2.mem ((c.tc : Thread Cert.InProjFirstRefIdeal.nD Cert.InProjFirstRefIdeal.τ).loc Cert.InProjFirstRefIdeal.main_arg1) = m ((c.tc : Thread Cert.InProjFirstRefIdeal.nD Cert.InProjFirstRefIdeal.τ).loc Cert.InProjFirstRefIdeal.main_arg1)
      ∧ r.2.mem ((c.tc : Thread Cert.InProjFirstRefIdeal.nD Cert.InProjFirstRefIdeal.τ).loc Cert.InProjFirstRefIdeal.main_arg2) = m ((c.tc : Thread Cert.InProjFirstRefIdeal.nD Cert.InProjFirstRefIdeal.τ).loc Cert.InProjFirstRefIdeal.main_arg2)
      ∧ r.2.mem ((c.tc : Thread Cert.InProjFirstRefIdeal.nD Cert.InProjFirstRefIdeal.τ).loc Cert.InProjFirstRefIdeal.main_arg3) = m ((c.tc : Thread Cert.InProjFirstRefIdeal.nD Cert.InProjFirstRefIdeal.τ).loc Cert.InProjFirstRefIdeal.main_arg3)
      ∧ r.2.mem ((c.tc : Thread Cert.InProjFirstRefIdeal.nD Cert.InProjFirstRefIdeal.τ).loc Cert.InProjFirstRefIdeal.main_arg4) = m ((c.tc : Thread Cert.InProjFirstRefIdeal.nD Cert.InProjFirstRefIdeal.τ).loc Cert.InProjFirstRefIdeal.main_arg4))
      ∧ r.2.sem = fun _ => 0)

def quiescent_InProjFirstRefIdeal_pre_finite12 [hInProjFirstRefIdeal : Cert.InProjFirstRefIdeal.Facts] [hPre_finite12 : Cert.Pre_finite12.Facts] : Prop :=
  ∀ (m : (ℓ : Loc Cert.InProjFirstRefIdeal.nD Cert.InProjFirstRefIdeal.τ Cert.InProjFirstRefIdeal.sig) → Buf (Elt Ideal) ℓ) (g : Dev Cert.InProjFirstRefIdeal.nD → PrngReg), Pre_InProjFirstRefIdeal_finite12 m →
    θ_run (Cert.InProjFirstRefIdeal.defs (F := Ideal)) (onTc (τ := Cert.InProjFirstRefIdeal.τ) (Cert.InProjFirstRefIdeal.main (F := Ideal))) ⟨m, fun _ => 0, g⟩ (fun r => (∀ c : Dev Cert.InProjFirstRefIdeal.nD,
      r.2.mem ((c.tc : Thread Cert.InProjFirstRefIdeal.nD Cert.InProjFirstRefIdeal.τ).loc Cert.InProjFirstRefIdeal.main_arg0) = m ((c.tc : Thread Cert.InProjFirstRefIdeal.nD Cert.InProjFirstRefIdeal.τ).loc Cert.InProjFirstRefIdeal.main_arg0)
      ∧ r.2.mem ((c.tc : Thread Cert.InProjFirstRefIdeal.nD Cert.InProjFirstRefIdeal.τ).loc Cert.InProjFirstRefIdeal.main_arg1) = m ((c.tc : Thread Cert.InProjFirstRefIdeal.nD Cert.InProjFirstRefIdeal.τ).loc Cert.InProjFirstRefIdeal.main_arg1)
      ∧ r.2.mem ((c.tc : Thread Cert.InProjFirstRefIdeal.nD Cert.InProjFirstRefIdeal.τ).loc Cert.InProjFirstRefIdeal.main_arg2) = m ((c.tc : Thread Cert.InProjFirstRefIdeal.nD Cert.InProjFirstRefIdeal.τ).loc Cert.InProjFirstRefIdeal.main_arg2)
      ∧ r.2.mem ((c.tc : Thread Cert.InProjFirstRefIdeal.nD Cert.InProjFirstRefIdeal.τ).loc Cert.InProjFirstRefIdeal.main_arg3) = m ((c.tc : Thread Cert.InProjFirstRefIdeal.nD Cert.InProjFirstRefIdeal.τ).loc Cert.InProjFirstRefIdeal.main_arg3)
      ∧ r.2.mem ((c.tc : Thread Cert.InProjFirstRefIdeal.nD Cert.InProjFirstRefIdeal.τ).loc Cert.InProjFirstRefIdeal.main_arg4) = m ((c.tc : Thread Cert.InProjFirstRefIdeal.nD Cert.InProjFirstRefIdeal.τ).loc Cert.InProjFirstRefIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v14_1)) (v2 : (c : Dev Cert.KernelIdeal.nD) → Buf (Elt Ideal) ((c.tc : Thread Cert.KernelIdeal.nD Cert.KernelIdeal.τ).loc Cert.KernelIdeal.main_v14_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v14_1) = v1 c
          ∧ r.2.mem ((c.tc : Thread Cert.KernelIdeal.nD Cert.KernelIdeal.τ).loc Cert.KernelIdeal.main_v14_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_v112) = v1 c
          ∧ r.2.mem ((c.tc : Thread Cert.ReferenceIdeal.nD Cert.ReferenceIdeal.τ).loc Cert.ReferenceIdeal.main_v115) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_FfnOut_FfnOutIdeal : Prop :=
  True

def algebraic_FfnOutIdeal_FfnOutRefIdeal_pre_finite2 [hFfnOutIdeal : Cert.FfnOutIdeal.Facts] [hFfnOutRefIdeal : Cert.FfnOutRefIdeal.Facts] [hPre_finite2 : Cert.Pre_finite2.Facts] : Prop :=
  ∀ (m : (ℓ : Loc Cert.FfnOutIdeal.nD Cert.FfnOutIdeal.τ Cert.FfnOutIdeal.sig) → Buf (Elt Ideal) ℓ) (g : Dev Cert.FfnOutIdeal.nD → PrngReg)
    (m' : (ℓ : Loc Cert.FfnOutRefIdeal.nD Cert.FfnOutRefIdeal.τ Cert.FfnOutRefIdeal.sig) → Buf (Elt Ideal) ℓ) (g' : Dev Cert.FfnOutRefIdeal.nD → PrngReg), Pre_FfnOutIdeal_finite2 m →
    (∀ c : Dev Cert.FfnOutIdeal.nD,
      m' ((c.tc : Thread Cert.FfnOutRefIdeal.nD Cert.FfnOutRefIdeal.τ).loc Cert.FfnOutRefIdeal.main_arg0) = m ((c.tc : Thread Cert.FfnOutIdeal.nD Cert.FfnOutIdeal.τ).loc Cert.FfnOutIdeal.main_arg0)
      ∧ m' ((c.tc : Thread Cert.FfnOutRefIdeal.nD Cert.FfnOutRefIdeal.τ).loc Cert.FfnOutRefIdeal.main_arg1) = m ((c.tc : Thread Cert.FfnOutIdeal.nD Cert.FfnOutIdeal.τ).loc Cert.FfnOutIdeal.main_arg1)
      ∧ m' ((c.tc : Thread Cert.FfnOutRefIdeal.nD Cert.FfnOutRefIdeal.τ).loc Cert.FfnOutRefIdeal.main_arg2) = m ((c.tc : Thread Cert.FfnOutIdeal.nD Cert.FfnOutIdeal.τ).loc Cert.FfnOutIdeal.main_arg2)
      ∧ m' ((c.tc : Thread Cert.FfnOutRefIdeal.nD Cert.FfnOutRefIdeal.τ).loc Cert.FfnOutRefIdeal.main_arg3) = m ((c.tc : Thread Cert.FfnOutIdeal.nD Cert.FfnOutIdeal.τ).loc Cert.FfnOutIdeal.main_arg3)) →
    ∃ (v0 : (c : Dev Cert.FfnOutIdeal.nD) → Buf (Elt Ideal) ((c.tc : Thread Cert.FfnOutIdeal.nD Cert.FfnOutIdeal.τ).loc Cert.FfnOutIdeal.main_v9_0)) (v1 : (c : Dev Cert.FfnOutIdeal.nD) → Buf (Elt Ideal) ((c.tc : Thread Cert.FfnOutIdeal.nD Cert.FfnOutIdeal.τ).loc Cert.FfnOutIdeal.main_v9_1)),
      θ_run (Cert.FfnOutIdeal.defs (F := Ideal)) (onTc (τ := Cert.FfnOutIdeal.τ) (Cert.FfnOutIdeal.main (F := Ideal))) ⟨m, fun _ => 0, g⟩ (fun r => ∀ c : Dev Cert.FfnOutIdeal.nD,
          r.2.mem ((c.tc : Thread Cert.FfnOutIdeal.nD Cert.FfnOutIdeal.τ).loc Cert.FfnOutIdeal.main_v9_0) = v0 c
          ∧ r.2.mem ((c.tc : Thread Cert.FfnOutIdeal.nD Cert.FfnOutIdeal.τ).loc Cert.FfnOutIdeal.main_v9_1) = v1 c
          ∧ r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
          ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
          ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2)
          ∧ r.2.mem ((c.tc : Thread Cert.FfnOutIdeal.nD Cert.FfnOutIdeal.τ).loc Cert.FfnOutIdeal.main_arg3) = m ((c.tc : Thread Cert.FfnOutIdeal.nD Cert.FfnOutIdeal.τ).loc Cert.FfnOutIdeal.main_arg3))
      ∧ θ_run (Cert.FfnOutRefIdeal.defs (F := Ideal)) (onTc (τ := Cert.FfnOutRefIdeal.τ) (Cert.FfnOutRefIdeal.main (F := Ideal))) ⟨m', fun _ => 0, g'⟩ (fun r => ∀ c : Dev Cert.FfnOutRefIdeal.nD,
          r.2.mem ((c.tc : Thread Cert.FfnOutRefIdeal.nD Cert.FfnOutRefIdeal.τ).loc Cert.FfnOutRefIdeal.main_v12) = v0 c
          ∧ r.2.mem ((c.tc : Thread Cert.FfnOutRefIdeal.nD Cert.FfnOutRefIdeal.τ).loc Cert.FfnOutRefIdeal.main_v13) = v1 c
          ∧ r.2.mem ((c.tc : Thread Cert.FfnOutRefIdeal.nD Cert.FfnOutRefIdeal.τ).loc Cert.FfnOutRefIdeal.main_arg0) = m' ((c.tc : Thread Cert.FfnOutRefIdeal.nD Cert.FfnOutRefIdeal.τ).loc Cert.FfnOutRefIdeal.main_arg0)
          ∧ r.2.mem ((c.tc : Thread Cert.FfnOutRefIdeal.nD Cert.FfnOutRefIdeal.τ).loc Cert.FfnOutRefIdeal.main_arg1) = m' ((c.tc : Thread Cert.FfnOutRefIdeal.nD Cert.FfnOutRefIdeal.τ).loc Cert.FfnOutRefIdeal.main_arg1)
          ∧ r.2.mem ((c.tc : Thread Cert.FfnOutRefIdeal.nD Cert.FfnOutRefIdeal.τ).loc Cert.FfnOutRefIdeal.main_arg2) = m' ((c.tc : Thread Cert.FfnOutRefIdeal.nD Cert.FfnOutRefIdeal.τ).loc Cert.FfnOutRefIdeal.main_arg2)
          ∧ r.2.mem ((c.tc : Thread Cert.FfnOutRefIdeal.nD Cert.FfnOutRefIdeal.τ).loc Cert.FfnOutRefIdeal.main_arg3) = m' ((c.tc : Thread Cert.FfnOutRefIdeal.nD Cert.FfnOutRefIdeal.τ).loc Cert.FfnOutRefIdeal.main_arg3))

def preserves_DwFfnIn_DwFfnInIdeal : Prop :=
  True

def algebraic_DwFfnInIdeal_DwFfnInRefIdeal [hDwFfnInIdeal : Cert.DwFfnInIdeal.Facts] [hDwFfnInRefIdeal : Cert.DwFfnInRefIdeal.Facts] : Prop :=
  ∀ (m : (ℓ : Loc Cert.DwFfnInIdeal.nD Cert.DwFfnInIdeal.τ Cert.DwFfnInIdeal.sig) → Buf (Elt Ideal) ℓ) (g : Dev Cert.DwFfnInIdeal.nD → PrngReg)
    (m' : (ℓ : Loc Cert.DwFfnInRefIdeal.nD Cert.DwFfnInRefIdeal.τ Cert.DwFfnInRefIdeal.sig) → Buf (Elt Ideal) ℓ) (g' : Dev Cert.DwFfnInRefIdeal.nD → PrngReg), Pre_DwFfnInIdeal m →
    (∀ c : Dev Cert.DwFfnInIdeal.nD,
      m' ((c.tc : Thread Cert.DwFfnInRefIdeal.nD Cert.DwFfnInRefIdeal.τ).loc Cert.DwFfnInRefIdeal.main_arg0) = m ((c.tc : Thread Cert.DwFfnInIdeal.nD Cert.DwFfnInIdeal.τ).loc Cert.DwFfnInIdeal.main_arg0)
      ∧ m' ((c.tc : Thread Cert.DwFfnInRefIdeal.nD Cert.DwFfnInRefIdeal.τ).loc Cert.DwFfnInRefIdeal.main_arg1) = m ((c.tc : Thread Cert.DwFfnInIdeal.nD Cert.DwFfnInIdeal.τ).loc Cert.DwFfnInIdeal.main_arg1)
      ∧ m' ((c.tc : Thread Cert.DwFfnInRefIdeal.nD Cert.DwFfnInRefIdeal.τ).loc Cert.DwFfnInRefIdeal.main_arg2) = m ((c.tc : Thread Cert.DwFfnInIdeal.nD Cert.DwFfnInIdeal.τ).loc Cert.DwFfnInIdeal.main_arg2)
      ∧ m' ((c.tc : Thread Cert.DwFfnInRefIdeal.nD Cert.DwFfnInRefIdeal.τ).loc Cert.DwFfnInRefIdeal.main_arg3) = m ((c.tc : Thread Cert.DwFfnInIdeal.nD Cert.DwFfnInIdeal.τ).loc Cert.DwFfnInIdeal.main_arg3)) →
    ∃ (v0 : (c : Dev Cert.DwFfnInIdeal.nD) → Buf (Elt Ideal) ((c.tc : Thread Cert.DwFfnInIdeal.nD Cert.DwFfnInIdeal.τ).loc Cert.DwFfnInIdeal.main_v5)),
      θ_run (Cert.DwFfnInIdeal.defs (F := Ideal)) (onTc (τ := Cert.DwFfnInIdeal.τ) (Cert.DwFfnInIdeal.main (F := Ideal))) ⟨m, fun _ => 0, g⟩ (fun r => ∀ c : Dev Cert.DwFfnInIdeal.nD,
          r.2.mem ((c.tc : Thread Cert.DwFfnInIdeal.nD Cert.DwFfnInIdeal.τ).loc Cert.DwFfnInIdeal.main_v5) = v0 c
          ∧ r.2.mem ((c.tc : Thread Cert.DwFfnInIdeal.nD Cert.DwFfnInIdeal.τ).loc Cert.DwFfnInIdeal.main_arg0) = m ((c.tc : Thread Cert.DwFfnInIdeal.nD Cert.DwFfnInIdeal.τ).loc Cert.DwFfnInIdeal.main_arg0)
          ∧ r.2.mem ((c.tc : Thread Cert.DwFfnInIdeal.nD Cert.DwFfnInIdeal.τ).loc Cert.DwFfnInIdeal.main_arg1) = m ((c.tc : Thread Cert.DwFfnInIdeal.nD Cert.DwFfnInIdeal.τ).loc Cert.DwFfnInIdeal.main_arg1)
          ∧ r.2.mem ((c.tc : Thread Cert.DwFfnInIdeal.nD Cert.DwFfnInIdeal.τ).loc Cert.DwFfnInIdeal.main_arg2) = m ((c.tc : Thread Cert.DwFfnInIdeal.nD Cert.DwFfnInIdeal.τ).loc Cert.DwFfnInIdeal.main_arg2)
          ∧ r.2.mem ((c.tc : Thread Cert.DwFfnInIdeal.nD Cert.DwFfnInIdeal.τ).loc Cert.DwFfnInIdeal.main_arg3) = m ((c.tc : Thread Cert.DwFfnInIdeal.nD Cert.DwFfnInIdeal.τ).loc Cert.DwFfnInIdeal.main_arg3))
      ∧ θ_run (Cert.DwFfnInRefIdeal.defs (F := Ideal)) (onTc (τ := Cert.DwFfnInRefIdeal.τ) (Cert.DwFfnInRefIdeal.main (F := Ideal))) ⟨m', fun _ => 0, g'⟩ (fun r => ∀ c : Dev Cert.DwFfnInRefIdeal.nD,
          r.2.mem ((c.tc : Thread Cert.DwFfnInRefIdeal.nD Cert.DwFfnInRefIdeal.τ).loc Cert.DwFfnInRefIdeal.main_v8) = v0 c
          ∧ r.2.mem ((c.tc : Thread Cert.DwFfnInRefIdeal.nD Cert.DwFfnInRefIdeal.τ).loc Cert.DwFfnInRefIdeal.main_arg0) = m' ((c.tc : Thread Cert.DwFfnInRefIdeal.nD Cert.DwFfnInRefIdeal.τ).loc Cert.DwFfnInRefIdeal.main_arg0)
          ∧ r.2.mem ((c.tc : Thread Cert.DwFfnInRefIdeal.nD Cert.DwFfnInRefIdeal.τ).loc Cert.DwFfnInRefIdeal.main_arg1) = m' ((c.tc : Thread Cert.DwFfnInRefIdeal.nD Cert.DwFfnInRefIdeal.τ).loc Cert.DwFfnInRefIdeal.main_arg1)
          ∧ r.2.mem ((c.tc : Thread Cert.DwFfnInRefIdeal.nD Cert.DwFfnInRefIdeal.τ).loc Cert.DwFfnInRefIdeal.main_arg2) = m' ((c.tc : Thread Cert.DwFfnInRefIdeal.nD Cert.DwFfnInRefIdeal.τ).loc Cert.DwFfnInRefIdeal.main_arg2)
          ∧ r.2.mem ((c.tc : Thread Cert.DwFfnInRefIdeal.nD Cert.DwFfnInRefIdeal.τ).loc Cert.DwFfnInRefIdeal.main_arg3) = m' ((c.tc : Thread Cert.DwFfnInRefIdeal.nD Cert.DwFfnInRefIdeal.τ).loc Cert.DwFfnInRefIdeal.main_arg3))

def preserves_FfnIn_FfnInIdeal : Prop :=
  True

def algebraic_FfnInIdeal_FfnInRefIdeal_pre_finite4 [hFfnInIdeal : Cert.FfnInIdeal.Facts] [hFfnInRefIdeal : Cert.FfnInRefIdeal.Facts] [hPre_finite4 : Cert.Pre_finite4.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal_finite4 m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)
      ∧ m' ((c.tc : Thread Cert.FfnInRefIdeal.nD Cert.FfnInRefIdeal.τ).loc Cert.FfnInRefIdeal.main_arg2) = m ((c.tc : Thread Cert.FfnInIdeal.nD Cert.FfnInIdeal.τ).loc Cert.FfnInIdeal.main_arg2)
      ∧ m' ((c.tc : Thread Cert.FfnInRefIdeal.nD Cert.FfnInRefIdeal.τ).loc Cert.FfnInRefIdeal.main_arg3) = m ((c.tc : Thread Cert.FfnInIdeal.nD Cert.FfnInIdeal.τ).loc Cert.FfnInIdeal.main_arg3)
      ∧ m' ((c.tc : Thread Cert.FfnInRefIdeal.nD Cert.FfnInRefIdeal.τ).loc Cert.FfnInRefIdeal.main_arg4) = m ((c.tc : Thread Cert.FfnInIdeal.nD Cert.FfnInIdeal.τ).loc Cert.FfnInIdeal.main_arg4)
      ∧ m' ((c.tc : Thread Cert.FfnInRefIdeal.nD Cert.FfnInRefIdeal.τ).loc Cert.FfnInRefIdeal.main_arg5) = m ((c.tc : Thread Cert.FfnInIdeal.nD Cert.FfnInIdeal.τ).loc Cert.FfnInIdeal.main_arg5)
      ∧ m' ((c.tc : Thread Cert.FfnInRefIdeal.nD Cert.FfnInRefIdeal.τ).loc Cert.FfnInRefIdeal.main_arg6) = m ((c.tc : Thread Cert.FfnInIdeal.nD Cert.FfnInIdeal.τ).loc Cert.FfnInIdeal.main_arg6)
      ∧ m' ((c.tc : Thread Cert.FfnInRefIdeal.nD Cert.FfnInRefIdeal.τ).loc Cert.FfnInRefIdeal.main_arg7) = m ((c.tc : Thread Cert.FfnInIdeal.nD Cert.FfnInIdeal.τ).loc Cert.FfnInIdeal.main_arg7)) →
    ∃ (v0 : (c : Dev Cert.FfnInIdeal.nD) → Buf (Elt Ideal) ((c.tc : Thread Cert.FfnInIdeal.nD Cert.FfnInIdeal.τ).loc Cert.FfnInIdeal.main_v23_0)) (v1 : (c : Dev Cert.FfnInIdeal.nD) → Buf (Elt Ideal) ((c.tc : Thread Cert.FfnInIdeal.nD Cert.FfnInIdeal.τ).loc Cert.FfnInIdeal.main_v23_1)) (v2 : (c : Dev Cert.FfnInIdeal.nD) → Buf (Elt Ideal) ((c.tc : Thread Cert.FfnInIdeal.nD Cert.FfnInIdeal.τ).loc Cert.FfnInIdeal.main_v23_2)) (v3 : (c : Dev Cert.FfnInIdeal.nD) → Buf (Elt Ideal) ((c.tc : Thread Cert.FfnInIdeal.nD Cert.FfnInIdeal.τ).loc Cert.FfnInIdeal.main_v23_3)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v23_0) = v0 c
          ∧ r.2.mem ((c.tc : Thread Cert.FfnInIdeal.nD Cert.FfnInIdeal.τ).loc Cert.FfnInIdeal.main_v23_1) = v1 c
          ∧ r.2.mem ((c.tc : Thread Cert.FfnInIdeal.nD Cert.FfnInIdeal.τ).loc Cert.FfnInIdeal.main_v23_2) = v2 c
          ∧ r.2.mem ((c.tc : Thread Cert.FfnInIdeal.nD Cert.FfnInIdeal.τ).loc Cert.FfnInIdeal.main_v23_3) = v3 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
          ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
          ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
          ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4)
          ∧ r.2.mem ((c.tc : Thread Cert.FfnInIdeal.nD Cert.FfnInIdeal.τ).loc Cert.FfnInIdeal.main_arg5) = m ((c.tc : Thread Cert.FfnInIdeal.nD Cert.FfnInIdeal.τ).loc Cert.FfnInIdeal.main_arg5)
          ∧ r.2.mem ((c.tc : Thread Cert.FfnInIdeal.nD Cert.FfnInIdeal.τ).loc Cert.FfnInIdeal.main_arg6) = m ((c.tc : Thread Cert.FfnInIdeal.nD Cert.FfnInIdeal.τ).loc Cert.FfnInIdeal.main_arg6)
          ∧ r.2.mem ((c.tc : Thread Cert.FfnInIdeal.nD Cert.FfnInIdeal.τ).loc Cert.FfnInIdeal.main_arg7) = m ((c.tc : Thread Cert.FfnInIdeal.nD Cert.FfnInIdeal.τ).loc Cert.FfnInIdeal.main_arg7))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v58) = v0 c
          ∧ r.2.mem ((c.tc : Thread Cert.FfnInRefIdeal.nD Cert.FfnInRefIdeal.τ).loc Cert.FfnInRefIdeal.main_v80) = v1 c
          ∧ r.2.mem ((c.tc : Thread Cert.FfnInRefIdeal.nD Cert.FfnInRefIdeal.τ).loc Cert.FfnInRefIdeal.main_v83) = v2 c
          ∧ r.2.mem ((c.tc : Thread Cert.FfnInRefIdeal.nD Cert.FfnInRefIdeal.τ).loc Cert.FfnInRefIdeal.main_v86) = v3 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1)
          ∧ r.2.mem ((c.tc : Thread Cert.FfnInRefIdeal.nD Cert.FfnInRefIdeal.τ).loc Cert.FfnInRefIdeal.main_arg2) = m' ((c.tc : Thread Cert.FfnInRefIdeal.nD Cert.FfnInRefIdeal.τ).loc Cert.FfnInRefIdeal.main_arg2)
          ∧ r.2.mem ((c.tc : Thread Cert.FfnInRefIdeal.nD Cert.FfnInRefIdeal.τ).loc Cert.FfnInRefIdeal.main_arg3) = m' ((c.tc : Thread Cert.FfnInRefIdeal.nD Cert.FfnInRefIdeal.τ).loc Cert.FfnInRefIdeal.main_arg3)
          ∧ r.2.mem ((c.tc : Thread Cert.FfnInRefIdeal.nD Cert.FfnInRefIdeal.τ).loc Cert.FfnInRefIdeal.main_arg4) = m' ((c.tc : Thread Cert.FfnInRefIdeal.nD Cert.FfnInRefIdeal.τ).loc Cert.FfnInRefIdeal.main_arg4)
          ∧ r.2.mem ((c.tc : Thread Cert.FfnInRefIdeal.nD Cert.FfnInRefIdeal.τ).loc Cert.FfnInRefIdeal.main_arg5) = m' ((c.tc : Thread Cert.FfnInRefIdeal.nD Cert.FfnInRefIdeal.τ).loc Cert.FfnInRefIdeal.main_arg5)
          ∧ r.2.mem ((c.tc : Thread Cert.FfnInRefIdeal.nD Cert.FfnInRefIdeal.τ).loc Cert.FfnInRefIdeal.main_arg6) = m' ((c.tc : Thread Cert.FfnInRefIdeal.nD Cert.FfnInRefIdeal.τ).loc Cert.FfnInRefIdeal.main_arg6)
          ∧ r.2.mem ((c.tc : Thread Cert.FfnInRefIdeal.nD Cert.FfnInRefIdeal.τ).loc Cert.FfnInRefIdeal.main_arg7) = m' ((c.tc : Thread Cert.FfnInRefIdeal.nD Cert.FfnInRefIdeal.τ).loc Cert.FfnInRefIdeal.main_arg7))

def preserves_DwIn_DwInIdeal : Prop :=
  True

def algebraic_DwInIdeal_DwInRefIdeal [hDwInIdeal : Cert.DwInIdeal.Facts] [hDwInRefIdeal : Cert.DwInRefIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInRefIdeal.nD Cert.DwInRefIdeal.τ Cert.DwInRefIdeal.sig) → Buf (Elt Ideal) ℓ) (g' : Dev Cert.DwInRefIdeal.nD → PrngReg), Pre_DwInIdeal m →
    (∀ c : Dev Cert.DwInIdeal.nD,
      m' ((c.tc : Thread Cert.DwInRefIdeal.nD Cert.DwInRefIdeal.τ).loc Cert.DwInRefIdeal.main_arg0) = m ((c.tc : Thread Cert.DwInIdeal.nD Cert.DwInIdeal.τ).loc Cert.DwInIdeal.main_arg0)
      ∧ m' ((c.tc : Thread Cert.DwInRefIdeal.nD Cert.DwInRefIdeal.τ).loc Cert.DwInRefIdeal.main_arg1) = m ((c.tc : Thread Cert.DwInIdeal.nD Cert.DwInIdeal.τ).loc Cert.DwInIdeal.main_arg1)
      ∧ m' ((c.tc : Thread Cert.DwInRefIdeal.nD Cert.DwInRefIdeal.τ).loc Cert.DwInRefIdeal.main_arg2) = m ((c.tc : Thread Cert.DwInIdeal.nD Cert.DwInIdeal.τ).loc Cert.DwInIdeal.main_arg2)) →
    ∃ (v0 : (c : Dev Cert.DwInIdeal.nD) → Buf (Elt Ideal) ((c.tc : Thread Cert.DwInIdeal.nD Cert.DwInIdeal.τ).loc Cert.DwInIdeal.main_v2)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v2) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1)
          ∧ r.2.mem ((c.tc : Thread Cert.DwInIdeal.nD Cert.DwInIdeal.τ).loc Cert.DwInIdeal.main_arg2) = m ((c.tc : Thread Cert.DwInIdeal.nD Cert.DwInIdeal.τ).loc Cert.DwInIdeal.main_arg2))
      ∧ θ_run (Cert.DwInRefIdeal.defs (F := Ideal)) (onTc (τ := Cert.DwInRefIdeal.τ) (Cert.DwInRefIdeal.main (F := Ideal))) ⟨m', fun _ => 0, g'⟩ (fun r => ∀ c : Dev Cert.DwInRefIdeal.nD,
          r.2.mem ((c.tc : Thread Cert.DwInRefIdeal.nD Cert.DwInRefIdeal.τ).loc Cert.DwInRefIdeal.main_v5) = v0 c
          ∧ r.2.mem ((c.tc : Thread Cert.DwInRefIdeal.nD Cert.DwInRefIdeal.τ).loc Cert.DwInRefIdeal.main_arg0) = m' ((c.tc : Thread Cert.DwInRefIdeal.nD Cert.DwInRefIdeal.τ).loc Cert.DwInRefIdeal.main_arg0)
          ∧ r.2.mem ((c.tc : Thread Cert.DwInRefIdeal.nD Cert.DwInRefIdeal.τ).loc Cert.DwInRefIdeal.main_arg1) = m' ((c.tc : Thread Cert.DwInRefIdeal.nD Cert.DwInRefIdeal.τ).loc Cert.DwInRefIdeal.main_arg1)
          ∧ r.2.mem ((c.tc : Thread Cert.DwInRefIdeal.nD Cert.DwInRefIdeal.τ).loc Cert.DwInRefIdeal.main_arg2) = m' ((c.tc : Thread Cert.DwInRefIdeal.nD Cert.DwInRefIdeal.τ).loc Cert.DwInRefIdeal.main_arg2))

def preserves_InProj_InProjIdeal : Prop :=
  True

def algebraic_InProjIdeal_InProjRefIdeal_pre_finite6 [hInProjIdeal : Cert.InProjIdeal.Facts] [hInProjRefIdeal : Cert.InProjRefIdeal.Facts] [hPre_finite6 : Cert.Pre_finite6.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal_finite6 m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)
      ∧ m' ((c.tc : Thread Cert.InProjRefIdeal.nD Cert.InProjRefIdeal.τ).loc Cert.InProjRefIdeal.main_arg5) = m ((c.tc : Thread Cert.InProjIdeal.nD Cert.InProjIdeal.τ).loc Cert.InProjIdeal.main_arg5)
      ∧ m' ((c.tc : Thread Cert.InProjRefIdeal.nD Cert.InProjRefIdeal.τ).loc Cert.InProjRefIdeal.main_arg6) = m ((c.tc : Thread Cert.InProjIdeal.nD Cert.InProjIdeal.τ).loc Cert.InProjIdeal.main_arg6)) →
    ∃ (v0 : (c : Dev Cert.InProjIdeal.nD) → Buf (Elt Ideal) ((c.tc : Thread Cert.InProjIdeal.nD Cert.InProjIdeal.τ).loc Cert.InProjIdeal.main_v27_0)) (v1 : (c : Dev Cert.InProjIdeal.nD) → Buf (Elt Ideal) ((c.tc : Thread Cert.InProjIdeal.nD Cert.InProjIdeal.τ).loc Cert.InProjIdeal.main_v27_1)) (v2 : (c : Dev Cert.InProjIdeal.nD) → Buf (Elt Ideal) ((c.tc : Thread Cert.InProjIdeal.nD Cert.InProjIdeal.τ).loc Cert.InProjIdeal.main_v27_2)) (v3 : (c : Dev Cert.InProjIdeal.nD) → Buf (Elt Ideal) ((c.tc : Thread Cert.InProjIdeal.nD Cert.InProjIdeal.τ).loc Cert.InProjIdeal.main_v27_3)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v27_0) = v0 c
          ∧ r.2.mem ((c.tc : Thread Cert.InProjIdeal.nD Cert.InProjIdeal.τ).loc Cert.InProjIdeal.main_v27_1) = v1 c
          ∧ r.2.mem ((c.tc : Thread Cert.InProjIdeal.nD Cert.InProjIdeal.τ).loc Cert.InProjIdeal.main_v27_2) = v2 c
          ∧ r.2.mem ((c.tc : Thread Cert.InProjIdeal.nD Cert.InProjIdeal.τ).loc Cert.InProjIdeal.main_v27_3) = v3 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
          ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v59) = v0 c
          ∧ r.2.mem ((c.tc : Thread Cert.InProjRefIdeal.nD Cert.InProjRefIdeal.τ).loc Cert.InProjRefIdeal.main_v83) = v1 c
          ∧ r.2.mem ((c.tc : Thread Cert.InProjRefIdeal.nD Cert.InProjRefIdeal.τ).loc Cert.InProjRefIdeal.main_v84) = v2 c
          ∧ r.2.mem ((c.tc : Thread Cert.InProjRefIdeal.nD Cert.InProjRefIdeal.τ).loc Cert.InProjRefIdeal.main_v87) = v3 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4)
          ∧ r.2.mem ((c.tc : Thread Cert.InProjRefIdeal.nD Cert.InProjRefIdeal.τ).loc Cert.InProjRefIdeal.main_arg5) = m' ((c.tc : Thread Cert.InProjRefIdeal.nD Cert.InProjRefIdeal.τ).loc Cert.InProjRefIdeal.main_arg5)
          ∧ r.2.mem ((c.tc : Thread Cert.InProjRefIdeal.nD Cert.InProjRefIdeal.τ).loc Cert.InProjRefIdeal.main_arg6) = m' ((c.tc : Thread Cert.InProjRefIdeal.nD Cert.InProjRefIdeal.τ).loc Cert.InProjRefIdeal.main_arg6))

def preserves_OutProj_OutProjIdeal : Prop :=
  True

def algebraic_OutProjIdeal_OutProjRefIdeal_pre_finite7 [hOutProjIdeal : Cert.OutProjIdeal.Facts] [hOutProjRefIdeal : Cert.OutProjRefIdeal.Facts] [hPre_finite7 : Cert.Pre_finite7.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal_finite7 m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)) →
    ∃ (v0 : (c : Dev Cert.OutProjIdeal.nD) → Buf (Elt Ideal) ((c.tc : Thread Cert.OutProjIdeal.nD Cert.OutProjIdeal.τ).loc Cert.OutProjIdeal.main_v22_0)) (v1 : (c : Dev Cert.OutProjIdeal.nD) → Buf (Elt Ideal) ((c.tc : Thread Cert.OutProjIdeal.nD Cert.OutProjIdeal.τ).loc Cert.OutProjIdeal.main_v22_1)) (v2 : (c : Dev Cert.OutProjIdeal.nD) → Buf (Elt Ideal) ((c.tc : Thread Cert.OutProjIdeal.nD Cert.OutProjIdeal.τ).loc Cert.OutProjIdeal.main_v22_2)) (v3 : (c : Dev Cert.OutProjIdeal.nD) → Buf (Elt Ideal) ((c.tc : Thread Cert.OutProjIdeal.nD Cert.OutProjIdeal.τ).loc Cert.OutProjIdeal.main_v22_3)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v22_0) = v0 c
          ∧ r.2.mem ((c.tc : Thread Cert.OutProjIdeal.nD Cert.OutProjIdeal.τ).loc Cert.OutProjIdeal.main_v22_1) = v1 c
          ∧ r.2.mem ((c.tc : Thread Cert.OutProjIdeal.nD Cert.OutProjIdeal.τ).loc Cert.OutProjIdeal.main_v22_2) = v2 c
          ∧ r.2.mem ((c.tc : Thread Cert.OutProjIdeal.nD Cert.OutProjIdeal.τ).loc Cert.OutProjIdeal.main_v22_3) = v3 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v24) = v0 c
          ∧ r.2.mem ((c.tc : Thread Cert.OutProjRefIdeal.nD Cert.OutProjRefIdeal.τ).loc Cert.OutProjRefIdeal.main_v50) = v1 c
          ∧ r.2.mem ((c.tc : Thread Cert.OutProjRefIdeal.nD Cert.OutProjRefIdeal.τ).loc Cert.OutProjRefIdeal.main_v53) = v2 c
          ∧ r.2.mem ((c.tc : Thread Cert.OutProjRefIdeal.nD Cert.OutProjRefIdeal.τ).loc Cert.OutProjRefIdeal.main_v54) = v3 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4))

def preserves_FfnInFwd_FfnInFwdIdeal : Prop :=
  True

def algebraic_FfnInFwdIdeal_FfnInFwdRefIdeal [hFfnInFwdIdeal : Cert.FfnInFwdIdeal.Facts] [hFfnInFwdRefIdeal : Cert.FfnInFwdRefIdeal.Facts] : Prop :=
  ∀ (m : (ℓ : Loc Cert.FfnInFwdIdeal.nD Cert.FfnInFwdIdeal.τ Cert.FfnInFwdIdeal.sig) → Buf (Elt Ideal) ℓ) (g : Dev Cert.FfnInFwdIdeal.nD → PrngReg)
    (m' : (ℓ : Loc Cert.FfnInFwdRefIdeal.nD Cert.FfnInFwdRefIdeal.τ Cert.FfnInFwdRefIdeal.sig) → Buf (Elt Ideal) ℓ) (g' : Dev Cert.FfnInFwdRefIdeal.nD → PrngReg), Pre_FfnInFwdIdeal m →
    (∀ c : Dev Cert.FfnInFwdIdeal.nD,
      m' ((c.tc : Thread Cert.FfnInFwdRefIdeal.nD Cert.FfnInFwdRefIdeal.τ).loc Cert.FfnInFwdRefIdeal.main_arg0) = m ((c.tc : Thread Cert.FfnInFwdIdeal.nD Cert.FfnInFwdIdeal.τ).loc Cert.FfnInFwdIdeal.main_arg0)
      ∧ m' ((c.tc : Thread Cert.FfnInFwdRefIdeal.nD Cert.FfnInFwdRefIdeal.τ).loc Cert.FfnInFwdRefIdeal.main_arg1) = m ((c.tc : Thread Cert.FfnInFwdIdeal.nD Cert.FfnInFwdIdeal.τ).loc Cert.FfnInFwdIdeal.main_arg1)) →
    ∃ (v0 : (c : Dev Cert.FfnInFwdIdeal.nD) → Buf (Elt Ideal) ((c.tc : Thread Cert.FfnInFwdIdeal.nD Cert.FfnInFwdIdeal.τ).loc Cert.FfnInFwdIdeal.main_v4_0)) (v1 : (c : Dev Cert.FfnInFwdIdeal.nD) → Buf (Elt Ideal) ((c.tc : Thread Cert.FfnInFwdIdeal.nD Cert.FfnInFwdIdeal.τ).loc Cert.FfnInFwdIdeal.main_v4_1)),
      θ_run (Cert.FfnInFwdIdeal.defs (F := Ideal)) (onTc (τ := Cert.FfnInFwdIdeal.τ) (Cert.FfnInFwdIdeal.main (F := Ideal))) ⟨m, fun _ => 0, g⟩ (fun r => ∀ c : Dev Cert.FfnInFwdIdeal.nD,
          r.2.mem ((c.tc : Thread Cert.FfnInFwdIdeal.nD Cert.FfnInFwdIdeal.τ).loc Cert.FfnInFwdIdeal.main_v4_0) = v0 c
          ∧ r.2.mem ((c.tc : Thread Cert.FfnInFwdIdeal.nD Cert.FfnInFwdIdeal.τ).loc Cert.FfnInFwdIdeal.main_v4_1) = v1 c
          ∧ r.2.mem ((c.tc : Thread Cert.FfnInFwdIdeal.nD Cert.FfnInFwdIdeal.τ).loc Cert.FfnInFwdIdeal.main_arg0) = m ((c.tc : Thread Cert.FfnInFwdIdeal.nD Cert.FfnInFwdIdeal.τ).loc Cert.FfnInFwdIdeal.main_arg0)
          ∧ r.2.mem ((c.tc : Thread Cert.FfnInFwdIdeal.nD Cert.FfnInFwdIdeal.τ).loc Cert.FfnInFwdIdeal.main_arg1) = m ((c.tc : Thread Cert.FfnInFwdIdeal.nD Cert.FfnInFwdIdeal.τ).loc Cert.FfnInFwdIdeal.main_arg1))
      ∧ θ_run (Cert.FfnInFwdRefIdeal.defs (F := Ideal)) (onTc (τ := Cert.FfnInFwdRefIdeal.τ) (Cert.FfnInFwdRefIdeal.main (F := Ideal))) ⟨m', fun _ => 0, g'⟩ (fun r => ∀ c : Dev Cert.FfnInFwdRefIdeal.nD,
          r.2.mem ((c.tc : Thread Cert.FfnInFwdRefIdeal.nD Cert.FfnInFwdRefIdeal.τ).loc Cert.FfnInFwdRefIdeal.main_v6) = v0 c
          ∧ r.2.mem ((c.tc : Thread Cert.FfnInFwdRefIdeal.nD Cert.FfnInFwdRefIdeal.τ).loc Cert.FfnInFwdRefIdeal.main_v9) = v1 c
          ∧ r.2.mem ((c.tc : Thread Cert.FfnInFwdRefIdeal.nD Cert.FfnInFwdRefIdeal.τ).loc Cert.FfnInFwdRefIdeal.main_arg0) = m' ((c.tc : Thread Cert.FfnInFwdRefIdeal.nD Cert.FfnInFwdRefIdeal.τ).loc Cert.FfnInFwdRefIdeal.main_arg0)
          ∧ r.2.mem ((c.tc : Thread Cert.FfnInFwdRefIdeal.nD Cert.FfnInFwdRefIdeal.τ).loc Cert.FfnInFwdRefIdeal.main_arg1) = m' ((c.tc : Thread Cert.FfnInFwdRefIdeal.nD Cert.FfnInFwdRefIdeal.τ).loc Cert.FfnInFwdRefIdeal.main_arg1))

def preserves_FfnOutFwd_FfnOutFwdIdeal : Prop :=
  True

def algebraic_FfnOutFwdIdeal_FfnOutFwdRefIdeal [hFfnOutFwdIdeal : Cert.FfnOutFwdIdeal.Facts] [hFfnOutFwdRefIdeal : Cert.FfnOutFwdRefIdeal.Facts] : Prop :=
  ∀ (m : (ℓ : Loc Cert.FfnOutFwdIdeal.nD Cert.FfnOutFwdIdeal.τ Cert.FfnOutFwdIdeal.sig) → Buf (Elt Ideal) ℓ) (g : Dev Cert.FfnOutFwdIdeal.nD → PrngReg)
    (m' : (ℓ : Loc Cert.FfnOutFwdRefIdeal.nD Cert.FfnOutFwdRefIdeal.τ Cert.FfnOutFwdRefIdeal.sig) → Buf (Elt Ideal) ℓ) (g' : Dev Cert.FfnOutFwdRefIdeal.nD → PrngReg), Pre_FfnOutFwdIdeal m →
    (∀ c : Dev Cert.FfnOutFwdIdeal.nD,
      m' ((c.tc : Thread Cert.FfnOutFwdRefIdeal.nD Cert.FfnOutFwdRefIdeal.τ).loc Cert.FfnOutFwdRefIdeal.main_arg0) = m ((c.tc : Thread Cert.FfnOutFwdIdeal.nD Cert.FfnOutFwdIdeal.τ).loc Cert.FfnOutFwdIdeal.main_arg0)
      ∧ m' ((c.tc : Thread Cert.FfnOutFwdRefIdeal.nD Cert.FfnOutFwdRefIdeal.τ).loc Cert.FfnOutFwdRefIdeal.main_arg1) = m ((c.tc : Thread Cert.FfnOutFwdIdeal.nD Cert.FfnOutFwdIdeal.τ).loc Cert.FfnOutFwdIdeal.main_arg1)
      ∧ m' ((c.tc : Thread Cert.FfnOutFwdRefIdeal.nD Cert.FfnOutFwdRefIdeal.τ).loc Cert.FfnOutFwdRefIdeal.main_arg2) = m ((c.tc : Thread Cert.FfnOutFwdIdeal.nD Cert.FfnOutFwdIdeal.τ).loc Cert.FfnOutFwdIdeal.main_arg2)
      ∧ m' ((c.tc : Thread Cert.FfnOutFwdRefIdeal.nD Cert.FfnOutFwdRefIdeal.τ).loc Cert.FfnOutFwdRefIdeal.main_arg3) = m ((c.tc : Thread Cert.FfnOutFwdIdeal.nD Cert.FfnOutFwdIdeal.τ).loc Cert.FfnOutFwdIdeal.main_arg3)
      ∧ m' ((c.tc : Thread Cert.FfnOutFwdRefIdeal.nD Cert.FfnOutFwdRefIdeal.τ).loc Cert.FfnOutFwdRefIdeal.main_arg4) = m ((c.tc : Thread Cert.FfnOutFwdIdeal.nD Cert.FfnOutFwdIdeal.τ).loc Cert.FfnOutFwdIdeal.main_arg4)
      ∧ m' ((c.tc : Thread Cert.FfnOutFwdRefIdeal.nD Cert.FfnOutFwdRefIdeal.τ).loc Cert.FfnOutFwdRefIdeal.main_arg5) = m ((c.tc : Thread Cert.FfnOutFwdIdeal.nD Cert.FfnOutFwdIdeal.τ).loc Cert.FfnOutFwdIdeal.main_arg5)) →
    ∃ (v0 : (c : Dev Cert.FfnOutFwdIdeal.nD) → Buf (Elt Ideal) ((c.tc : Thread Cert.FfnOutFwdIdeal.nD Cert.FfnOutFwdIdeal.τ).loc Cert.FfnOutFwdIdeal.main_v6_0)) (v1 : (c : Dev Cert.FfnOutFwdIdeal.nD) → Buf (Elt Ideal) ((c.tc : Thread Cert.FfnOutFwdIdeal.nD Cert.FfnOutFwdIdeal.τ).loc Cert.FfnOutFwdIdeal.main_v6_1)) (v2 : (c : Dev Cert.FfnOutFwdIdeal.nD) → Buf (Elt Ideal) ((c.tc : Thread Cert.FfnOutFwdIdeal.nD Cert.FfnOutFwdIdeal.τ).loc Cert.FfnOutFwdIdeal.main_v6_2)),
      θ_run (Cert.FfnOutFwdIdeal.defs (F := Ideal)) (onTc (τ := Cert.FfnOutFwdIdeal.τ) (Cert.FfnOutFwdIdeal.main (F := Ideal))) ⟨m, fun _ => 0, g⟩ (fun r => ∀ c : Dev Cert.FfnOutFwdIdeal.nD,
          r.2.mem ((c.tc : Thread Cert.FfnOutFwdIdeal.nD Cert.FfnOutFwdIdeal.τ).loc Cert.FfnOutFwdIdeal.main_v6_0) = v0 c
          ∧ r.2.mem ((c.tc : Thread Cert.FfnOutFwdIdeal.nD Cert.FfnOutFwdIdeal.τ).loc Cert.FfnOutFwdIdeal.main_v6_1) = v1 c
          ∧ r.2.mem ((c.tc : Thread Cert.FfnOutFwdIdeal.nD Cert.FfnOutFwdIdeal.τ).loc Cert.FfnOutFwdIdeal.main_v6_2) = v2 c
          ∧ r.2.mem ((c.tc : Thread Cert.FfnOutFwdIdeal.nD Cert.FfnOutFwdIdeal.τ).loc Cert.FfnOutFwdIdeal.main_arg0) = m ((c.tc : Thread Cert.FfnOutFwdIdeal.nD Cert.FfnOutFwdIdeal.τ).loc Cert.FfnOutFwdIdeal.main_arg0)
          ∧ r.2.mem ((c.tc : Thread Cert.FfnOutFwdIdeal.nD Cert.FfnOutFwdIdeal.τ).loc Cert.FfnOutFwdIdeal.main_arg1) = m ((c.tc : Thread Cert.FfnOutFwdIdeal.nD Cert.FfnOutFwdIdeal.τ).loc Cert.FfnOutFwdIdeal.main_arg1)
          ∧ r.2.mem ((c.tc : Thread Cert.FfnOutFwdIdeal.nD Cert.FfnOutFwdIdeal.τ).loc Cert.FfnOutFwdIdeal.main_arg2) = m ((c.tc : Thread Cert.FfnOutFwdIdeal.nD Cert.FfnOutFwdIdeal.τ).loc Cert.FfnOutFwdIdeal.main_arg2)
          ∧ r.2.mem ((c.tc : Thread Cert.FfnOutFwdIdeal.nD Cert.FfnOutFwdIdeal.τ).loc Cert.FfnOutFwdIdeal.main_arg3) = m ((c.tc : Thread Cert.FfnOutFwdIdeal.nD Cert.FfnOutFwdIdeal.τ).loc Cert.FfnOutFwdIdeal.main_arg3)
          ∧ r.2.mem ((c.tc : Thread Cert.FfnOutFwdIdeal.nD Cert.FfnOutFwdIdeal.τ).loc Cert.FfnOutFwdIdeal.main_arg4) = m ((c.tc : Thread Cert.FfnOutFwdIdeal.nD Cert.FfnOutFwdIdeal.τ).loc Cert.FfnOutFwdIdeal.main_arg4)
          ∧ r.2.mem ((c.tc : Thread Cert.FfnOutFwdIdeal.nD Cert.FfnOutFwdIdeal.τ).loc Cert.FfnOutFwdIdeal.main_arg5) = m ((c.tc : Thread Cert.FfnOutFwdIdeal.nD Cert.FfnOutFwdIdeal.τ).loc Cert.FfnOutFwdIdeal.main_arg5))
      ∧ θ_run (Cert.FfnOutFwdRefIdeal.defs (F := Ideal)) (onTc (τ := Cert.FfnOutFwdRefIdeal.τ) (Cert.FfnOutFwdRefIdeal.main (F := Ideal))) ⟨m', fun _ => 0, g'⟩ (fun r => ∀ c : Dev Cert.FfnOutFwdRefIdeal.nD,
          r.2.mem ((c.tc : Thread Cert.FfnOutFwdRefIdeal.nD Cert.FfnOutFwdRefIdeal.τ).loc Cert.FfnOutFwdRefIdeal.main_v17) = v0 c
          ∧ r.2.mem ((c.tc : Thread Cert.FfnOutFwdRefIdeal.nD Cert.FfnOutFwdRefIdeal.τ).loc Cert.FfnOutFwdRefIdeal.main_v16) = v1 c
          ∧ r.2.mem ((c.tc : Thread Cert.FfnOutFwdRefIdeal.nD Cert.FfnOutFwdRefIdeal.τ).loc Cert.FfnOutFwdRefIdeal.main_v31) = v2 c
          ∧ r.2.mem ((c.tc : Thread Cert.FfnOutFwdRefIdeal.nD Cert.FfnOutFwdRefIdeal.τ).loc Cert.FfnOutFwdRefIdeal.main_arg0) = m' ((c.tc : Thread Cert.FfnOutFwdRefIdeal.nD Cert.FfnOutFwdRefIdeal.τ).loc Cert.FfnOutFwdRefIdeal.main_arg0)
          ∧ r.2.mem ((c.tc : Thread Cert.FfnOutFwdRefIdeal.nD Cert.FfnOutFwdRefIdeal.τ).loc Cert.FfnOutFwdRefIdeal.main_arg1) = m' ((c.tc : Thread Cert.FfnOutFwdRefIdeal.nD Cert.FfnOutFwdRefIdeal.τ).loc Cert.FfnOutFwdRefIdeal.main_arg1)
          ∧ r.2.mem ((c.tc : Thread Cert.FfnOutFwdRefIdeal.nD Cert.FfnOutFwdRefIdeal.τ).loc Cert.FfnOutFwdRefIdeal.main_arg2) = m' ((c.tc : Thread Cert.FfnOutFwdRefIdeal.nD Cert.FfnOutFwdRefIdeal.τ).loc Cert.FfnOutFwdRefIdeal.main_arg2)
          ∧ r.2.mem ((c.tc : Thread Cert.FfnOutFwdRefIdeal.nD Cert.FfnOutFwdRefIdeal.τ).loc Cert.FfnOutFwdRefIdeal.main_arg3) = m' ((c.tc : Thread Cert.FfnOutFwdRefIdeal.nD Cert.FfnOutFwdRefIdeal.τ).loc Cert.FfnOutFwdRefIdeal.main_arg3)
          ∧ r.2.mem ((c.tc : Thread Cert.FfnOutFwdRefIdeal.nD Cert.FfnOutFwdRefIdeal.τ).loc Cert.FfnOutFwdRefIdeal.main_arg4) = m' ((c.tc : Thread Cert.FfnOutFwdRefIdeal.nD Cert.FfnOutFwdRefIdeal.τ).loc Cert.FfnOutFwdRefIdeal.main_arg4)
          ∧ r.2.mem ((c.tc : Thread Cert.FfnOutFwdRefIdeal.nD Cert.FfnOutFwdRefIdeal.τ).loc Cert.FfnOutFwdRefIdeal.main_arg5) = m' ((c.tc : Thread Cert.FfnOutFwdRefIdeal.nD Cert.FfnOutFwdRefIdeal.τ).loc Cert.FfnOutFwdRefIdeal.main_arg5))

def preserves_InProjQkv_InProjQkvIdeal : Prop :=
  True

def algebraic_InProjQkvIdeal_InProjQkvRefIdeal [hInProjQkvIdeal : Cert.InProjQkvIdeal.Facts] [hInProjQkvRefIdeal : Cert.InProjQkvRefIdeal.Facts] : Prop :=
  ∀ (m : (ℓ : Loc Cert.InProjQkvIdeal.nD Cert.InProjQkvIdeal.τ Cert.InProjQkvIdeal.sig) → Buf (Elt Ideal) ℓ) (g : Dev Cert.InProjQkvIdeal.nD → PrngReg)
    (m' : (ℓ : Loc Cert.InProjQkvRefIdeal.nD Cert.InProjQkvRefIdeal.τ Cert.InProjQkvRefIdeal.sig) → Buf (Elt Ideal) ℓ) (g' : Dev Cert.InProjQkvRefIdeal.nD → PrngReg), Pre_InProjQkvIdeal m →
    (∀ c : Dev Cert.InProjQkvIdeal.nD,
      m' ((c.tc : Thread Cert.InProjQkvRefIdeal.nD Cert.InProjQkvRefIdeal.τ).loc Cert.InProjQkvRefIdeal.main_arg0) = m ((c.tc : Thread Cert.InProjQkvIdeal.nD Cert.InProjQkvIdeal.τ).loc Cert.InProjQkvIdeal.main_arg0)
      ∧ m' ((c.tc : Thread Cert.InProjQkvRefIdeal.nD Cert.InProjQkvRefIdeal.τ).loc Cert.InProjQkvRefIdeal.main_arg1) = m ((c.tc : Thread Cert.InProjQkvIdeal.nD Cert.InProjQkvIdeal.τ).loc Cert.InProjQkvIdeal.main_arg1)) →
    ∃ (v0 : (c : Dev Cert.InProjQkvIdeal.nD) → Buf (Elt Ideal) ((c.tc : Thread Cert.InProjQkvIdeal.nD Cert.InProjQkvIdeal.τ).loc Cert.InProjQkvIdeal.main_v8)),
      θ_run (Cert.InProjQkvIdeal.defs (F := Ideal)) (onTc (τ := Cert.InProjQkvIdeal.τ) (Cert.InProjQkvIdeal.main (F := Ideal))) ⟨m, fun _ => 0, g⟩ (fun r => ∀ c : Dev Cert.InProjQkvIdeal.nD,
          r.2.mem ((c.tc : Thread Cert.InProjQkvIdeal.nD Cert.InProjQkvIdeal.τ).loc Cert.InProjQkvIdeal.main_v8) = v0 c
          ∧ r.2.mem ((c.tc : Thread Cert.InProjQkvIdeal.nD Cert.InProjQkvIdeal.τ).loc Cert.InProjQkvIdeal.main_arg0) = m ((c.tc : Thread Cert.InProjQkvIdeal.nD Cert.InProjQkvIdeal.τ).loc Cert.InProjQkvIdeal.main_arg0)
          ∧ r.2.mem ((c.tc : Thread Cert.InProjQkvIdeal.nD Cert.InProjQkvIdeal.τ).loc Cert.InProjQkvIdeal.main_arg1) = m ((c.tc : Thread Cert.InProjQkvIdeal.nD Cert.InProjQkvIdeal.τ).loc Cert.InProjQkvIdeal.main_arg1))
      ∧ θ_run (Cert.InProjQkvRefIdeal.defs (F := Ideal)) (onTc (τ := Cert.InProjQkvRefIdeal.τ) (Cert.InProjQkvRefIdeal.main (F := Ideal))) ⟨m', fun _ => 0, g'⟩ (fun r => ∀ c : Dev Cert.InProjQkvRefIdeal.nD,
          r.2.mem ((c.tc : Thread Cert.InProjQkvRefIdeal.nD Cert.InProjQkvRefIdeal.τ).loc Cert.InProjQkvRefIdeal.main_v4) = v0 c
          ∧ r.2.mem ((c.tc : Thread Cert.InProjQkvRefIdeal.nD Cert.InProjQkvRefIdeal.τ).loc Cert.InProjQkvRefIdeal.main_arg0) = m' ((c.tc : Thread Cert.InProjQkvRefIdeal.nD Cert.InProjQkvRefIdeal.τ).loc Cert.InProjQkvRefIdeal.main_arg0)
          ∧ r.2.mem ((c.tc : Thread Cert.InProjQkvRefIdeal.nD Cert.InProjQkvRefIdeal.τ).loc Cert.InProjQkvRefIdeal.main_arg1) = m' ((c.tc : Thread Cert.InProjQkvRefIdeal.nD Cert.InProjQkvRefIdeal.τ).loc Cert.InProjQkvRefIdeal.main_arg1))

def preserves_OutProjFwd_OutProjFwdIdeal : Prop :=
  True

def algebraic_OutProjFwdIdeal_OutProjFwdRefIdeal [hOutProjFwdIdeal : Cert.OutProjFwdIdeal.Facts] [hOutProjFwdRefIdeal : Cert.OutProjFwdRefIdeal.Facts] : Prop :=
  ∀ (m : (ℓ : Loc Cert.OutProjFwdIdeal.nD Cert.OutProjFwdIdeal.τ Cert.OutProjFwdIdeal.sig) → Buf (Elt Ideal) ℓ) (g : Dev Cert.OutProjFwdIdeal.nD → PrngReg)
    (m' : (ℓ : Loc Cert.OutProjFwdRefIdeal.nD Cert.OutProjFwdRefIdeal.τ Cert.OutProjFwdRefIdeal.sig) → Buf (Elt Ideal) ℓ) (g' : Dev Cert.OutProjFwdRefIdeal.nD → PrngReg), Pre_OutProjFwdIdeal m →
    (∀ c : Dev Cert.OutProjFwdIdeal.nD,
      m' ((c.tc : Thread Cert.OutProjFwdRefIdeal.nD Cert.OutProjFwdRefIdeal.τ).loc Cert.OutProjFwdRefIdeal.main_arg0) = m ((c.tc : Thread Cert.OutProjFwdIdeal.nD Cert.OutProjFwdIdeal.τ).loc Cert.OutProjFwdIdeal.main_arg0)
      ∧ m' ((c.tc : Thread Cert.OutProjFwdRefIdeal.nD Cert.OutProjFwdRefIdeal.τ).loc Cert.OutProjFwdRefIdeal.main_arg1) = m ((c.tc : Thread Cert.OutProjFwdIdeal.nD Cert.OutProjFwdIdeal.τ).loc Cert.OutProjFwdIdeal.main_arg1)
      ∧ m' ((c.tc : Thread Cert.OutProjFwdRefIdeal.nD Cert.OutProjFwdRefIdeal.τ).loc Cert.OutProjFwdRefIdeal.main_arg2) = m ((c.tc : Thread Cert.OutProjFwdIdeal.nD Cert.OutProjFwdIdeal.τ).loc Cert.OutProjFwdIdeal.main_arg2)
      ∧ m' ((c.tc : Thread Cert.OutProjFwdRefIdeal.nD Cert.OutProjFwdRefIdeal.τ).loc Cert.OutProjFwdRefIdeal.main_arg3) = m ((c.tc : Thread Cert.OutProjFwdIdeal.nD Cert.OutProjFwdIdeal.τ).loc Cert.OutProjFwdIdeal.main_arg3)
      ∧ m' ((c.tc : Thread Cert.OutProjFwdRefIdeal.nD Cert.OutProjFwdRefIdeal.τ).loc Cert.OutProjFwdRefIdeal.main_arg4) = m ((c.tc : Thread Cert.OutProjFwdIdeal.nD Cert.OutProjFwdIdeal.τ).loc Cert.OutProjFwdIdeal.main_arg4)
      ∧ m' ((c.tc : Thread Cert.OutProjFwdRefIdeal.nD Cert.OutProjFwdRefIdeal.τ).loc Cert.OutProjFwdRefIdeal.main_arg5) = m ((c.tc : Thread Cert.OutProjFwdIdeal.nD Cert.OutProjFwdIdeal.τ).loc Cert.OutProjFwdIdeal.main_arg5)) →
    ∃ (v0 : (c : Dev Cert.OutProjFwdIdeal.nD) → Buf (Elt Ideal) ((c.tc : Thread Cert.OutProjFwdIdeal.nD Cert.OutProjFwdIdeal.τ).loc Cert.OutProjFwdIdeal.main_v5_0)) (v1 : (c : Dev Cert.OutProjFwdIdeal.nD) → Buf (Elt Ideal) ((c.tc : Thread Cert.OutProjFwdIdeal.nD Cert.OutProjFwdIdeal.τ).loc Cert.OutProjFwdIdeal.main_v5_1)) (v2 : (c : Dev Cert.OutProjFwdIdeal.nD) → Buf (Elt Ideal) ((c.tc : Thread Cert.OutProjFwdIdeal.nD Cert.OutProjFwdIdeal.τ).loc Cert.OutProjFwdIdeal.main_v5_2)),
      θ_run (Cert.OutProjFwdIdeal.defs (F := Ideal)) (onTc (τ := Cert.OutProjFwdIdeal.τ) (Cert.OutProjFwdIdeal.main (F := Ideal))) ⟨m, fun _ => 0, g⟩ (fun r => ∀ c : Dev Cert.OutProjFwdIdeal.nD,
          r.2.mem ((c.tc : Thread Cert.OutProjFwdIdeal.nD Cert.OutProjFwdIdeal.τ).loc Cert.OutProjFwdIdeal.main_v5_0) = v0 c
          ∧ r.2.mem ((c.tc : Thread Cert.OutProjFwdIdeal.nD Cert.OutProjFwdIdeal.τ).loc Cert.OutProjFwdIdeal.main_v5_1) = v1 c
          ∧ r.2.mem ((c.tc : Thread Cert.OutProjFwdIdeal.nD Cert.OutProjFwdIdeal.τ).loc Cert.OutProjFwdIdeal.main_v5_2) = v2 c
          ∧ r.2.mem ((c.tc : Thread Cert.OutProjFwdIdeal.nD Cert.OutProjFwdIdeal.τ).loc Cert.OutProjFwdIdeal.main_arg0) = m ((c.tc : Thread Cert.OutProjFwdIdeal.nD Cert.OutProjFwdIdeal.τ).loc Cert.OutProjFwdIdeal.main_arg0)
          ∧ r.2.mem ((c.tc : Thread Cert.OutProjFwdIdeal.nD Cert.OutProjFwdIdeal.τ).loc Cert.OutProjFwdIdeal.main_arg1) = m ((c.tc : Thread Cert.OutProjFwdIdeal.nD Cert.OutProjFwdIdeal.τ).loc Cert.OutProjFwdIdeal.main_arg1)
          ∧ r.2.mem ((c.tc : Thread Cert.OutProjFwdIdeal.nD Cert.OutProjFwdIdeal.τ).loc Cert.OutProjFwdIdeal.main_arg2) = m ((c.tc : Thread Cert.OutProjFwdIdeal.nD Cert.OutProjFwdIdeal.τ).loc Cert.OutProjFwdIdeal.main_arg2)
          ∧ r.2.mem ((c.tc : Thread Cert.OutProjFwdIdeal.nD Cert.OutProjFwdIdeal.τ).loc Cert.OutProjFwdIdeal.main_arg3) = m ((c.tc : Thread Cert.OutProjFwdIdeal.nD Cert.OutProjFwdIdeal.τ).loc Cert.OutProjFwdIdeal.main_arg3)
          ∧ r.2.mem ((c.tc : Thread Cert.OutProjFwdIdeal.nD Cert.OutProjFwdIdeal.τ).loc Cert.OutProjFwdIdeal.main_arg4) = m ((c.tc : Thread Cert.OutProjFwdIdeal.nD Cert.OutProjFwdIdeal.τ).loc Cert.OutProjFwdIdeal.main_arg4)
          ∧ r.2.mem ((c.tc : Thread Cert.OutProjFwdIdeal.nD Cert.OutProjFwdIdeal.τ).loc Cert.OutProjFwdIdeal.main_arg5) = m ((c.tc : Thread Cert.OutProjFwdIdeal.nD Cert.OutProjFwdIdeal.τ).loc Cert.OutProjFwdIdeal.main_arg5))
      ∧ θ_run (Cert.OutProjFwdRefIdeal.defs (F := Ideal)) (onTc (τ := Cert.OutProjFwdRefIdeal.τ) (Cert.OutProjFwdRefIdeal.main (F := Ideal))) ⟨m', fun _ => 0, g'⟩ (fun r => ∀ c : Dev Cert.OutProjFwdRefIdeal.nD,
          r.2.mem ((c.tc : Thread Cert.OutProjFwdRefIdeal.nD Cert.OutProjFwdRefIdeal.τ).loc Cert.OutProjFwdRefIdeal.main_v16) = v0 c
          ∧ r.2.mem ((c.tc : Thread Cert.OutProjFwdRefIdeal.nD Cert.OutProjFwdRefIdeal.τ).loc Cert.OutProjFwdRefIdeal.main_v15) = v1 c
          ∧ r.2.mem ((c.tc : Thread Cert.OutProjFwdRefIdeal.nD Cert.OutProjFwdRefIdeal.τ).loc Cert.OutProjFwdRefIdeal.main_v30) = v2 c
          ∧ r.2.mem ((c.tc : Thread Cert.OutProjFwdRefIdeal.nD Cert.OutProjFwdRefIdeal.τ).loc Cert.OutProjFwdRefIdeal.main_arg0) = m' ((c.tc : Thread Cert.OutProjFwdRefIdeal.nD Cert.OutProjFwdRefIdeal.τ).loc Cert.OutProjFwdRefIdeal.main_arg0)
          ∧ r.2.mem ((c.tc : Thread Cert.OutProjFwdRefIdeal.nD Cert.OutProjFwdRefIdeal.τ).loc Cert.OutProjFwdRefIdeal.main_arg1) = m' ((c.tc : Thread Cert.OutProjFwdRefIdeal.nD Cert.OutProjFwdRefIdeal.τ).loc Cert.OutProjFwdRefIdeal.main_arg1)
          ∧ r.2.mem ((c.tc : Thread Cert.OutProjFwdRefIdeal.nD Cert.OutProjFwdRefIdeal.τ).loc Cert.OutProjFwdRefIdeal.main_arg2) = m' ((c.tc : Thread Cert.OutProjFwdRefIdeal.nD Cert.OutProjFwdRefIdeal.τ).loc Cert.OutProjFwdRefIdeal.main_arg2)
          ∧ r.2.mem ((c.tc : Thread Cert.OutProjFwdRefIdeal.nD Cert.OutProjFwdRefIdeal.τ).loc Cert.OutProjFwdRefIdeal.main_arg3) = m' ((c.tc : Thread Cert.OutProjFwdRefIdeal.nD Cert.OutProjFwdRefIdeal.τ).loc Cert.OutProjFwdRefIdeal.main_arg3)
          ∧ r.2.mem ((c.tc : Thread Cert.OutProjFwdRefIdeal.nD Cert.OutProjFwdRefIdeal.τ).loc Cert.OutProjFwdRefIdeal.main_arg4) = m' ((c.tc : Thread Cert.OutProjFwdRefIdeal.nD Cert.OutProjFwdRefIdeal.τ).loc Cert.OutProjFwdRefIdeal.main_arg4)
          ∧ r.2.mem ((c.tc : Thread Cert.OutProjFwdRefIdeal.nD Cert.OutProjFwdRefIdeal.τ).loc Cert.OutProjFwdRefIdeal.main_arg5) = m' ((c.tc : Thread Cert.OutProjFwdRefIdeal.nD Cert.OutProjFwdRefIdeal.τ).loc Cert.OutProjFwdRefIdeal.main_arg5))

def preserves_InProjFirst_InProjFirstIdeal : Prop :=
  True

def algebraic_InProjFirstIdeal_InProjFirstRefIdeal_pre_finite12 [hInProjFirstIdeal : Cert.InProjFirstIdeal.Facts] [hInProjFirstRefIdeal : Cert.InProjFirstRefIdeal.Facts] [hPre_finite12 : Cert.Pre_finite12.Facts] : Prop :=
  ∀ (m : (ℓ : Loc Cert.InProjFirstIdeal.nD Cert.InProjFirstIdeal.τ Cert.InProjFirstIdeal.sig) → Buf (Elt Ideal) ℓ) (g : Dev Cert.InProjFirstIdeal.nD → PrngReg)
    (m' : (ℓ : Loc Cert.InProjFirstRefIdeal.nD Cert.InProjFirstRefIdeal.τ Cert.InProjFirstRefIdeal.sig) → Buf (Elt Ideal) ℓ) (g' : Dev Cert.InProjFirstRefIdeal.nD → PrngReg), Pre_InProjFirstIdeal_finite12 m →
    (∀ c : Dev Cert.InProjFirstIdeal.nD,
      m' ((c.tc : Thread Cert.InProjFirstRefIdeal.nD Cert.InProjFirstRefIdeal.τ).loc Cert.InProjFirstRefIdeal.main_arg0) = m ((c.tc : Thread Cert.InProjFirstIdeal.nD Cert.InProjFirstIdeal.τ).loc Cert.InProjFirstIdeal.main_arg0)
      ∧ m' ((c.tc : Thread Cert.InProjFirstRefIdeal.nD Cert.InProjFirstRefIdeal.τ).loc Cert.InProjFirstRefIdeal.main_arg1) = m ((c.tc : Thread Cert.InProjFirstIdeal.nD Cert.InProjFirstIdeal.τ).loc Cert.InProjFirstIdeal.main_arg1)
      ∧ m' ((c.tc : Thread Cert.InProjFirstRefIdeal.nD Cert.InProjFirstRefIdeal.τ).loc Cert.InProjFirstRefIdeal.main_arg2) = m ((c.tc : Thread Cert.InProjFirstIdeal.nD Cert.InProjFirstIdeal.τ).loc Cert.InProjFirstIdeal.main_arg2)
      ∧ m' ((c.tc : Thread Cert.InProjFirstRefIdeal.nD Cert.InProjFirstRefIdeal.τ).loc Cert.InProjFirstRefIdeal.main_arg3) = m ((c.tc : Thread Cert.InProjFirstIdeal.nD Cert.InProjFirstIdeal.τ).loc Cert.InProjFirstIdeal.main_arg3)
      ∧ m' ((c.tc : Thread Cert.InProjFirstRefIdeal.nD Cert.InProjFirstRefIdeal.τ).loc Cert.InProjFirstRefIdeal.main_arg4) = m ((c.tc : Thread Cert.InProjFirstIdeal.nD Cert.InProjFirstIdeal.τ).loc Cert.InProjFirstIdeal.main_arg4)) →
    ∃ (v0 : (c : Dev Cert.InProjFirstIdeal.nD) → Buf (Elt Ideal) ((c.tc : Thread Cert.InProjFirstIdeal.nD Cert.InProjFirstIdeal.τ).loc Cert.InProjFirstIdeal.main_v9_0)) (v1 : (c : Dev Cert.InProjFirstIdeal.nD) → Buf (Elt Ideal) ((c.tc : Thread Cert.InProjFirstIdeal.nD Cert.InProjFirstIdeal.τ).loc Cert.InProjFirstIdeal.main_v9_1)),
      θ_run (Cert.InProjFirstIdeal.defs (F := Ideal)) (onTc (τ := Cert.InProjFirstIdeal.τ) (Cert.InProjFirstIdeal.main (F := Ideal))) ⟨m, fun _ => 0, g⟩ (fun r => ∀ c : Dev Cert.InProjFirstIdeal.nD,
          r.2.mem ((c.tc : Thread Cert.InProjFirstIdeal.nD Cert.InProjFirstIdeal.τ).loc Cert.InProjFirstIdeal.main_v9_0) = v0 c
          ∧ r.2.mem ((c.tc : Thread Cert.InProjFirstIdeal.nD Cert.InProjFirstIdeal.τ).loc Cert.InProjFirstIdeal.main_v9_1) = v1 c
          ∧ r.2.mem ((c.tc : Thread Cert.InProjFirstIdeal.nD Cert.InProjFirstIdeal.τ).loc Cert.InProjFirstIdeal.main_arg0) = m ((c.tc : Thread Cert.InProjFirstIdeal.nD Cert.InProjFirstIdeal.τ).loc Cert.InProjFirstIdeal.main_arg0)
          ∧ r.2.mem ((c.tc : Thread Cert.InProjFirstIdeal.nD Cert.InProjFirstIdeal.τ).loc Cert.InProjFirstIdeal.main_arg1) = m ((c.tc : Thread Cert.InProjFirstIdeal.nD Cert.InProjFirstIdeal.τ).loc Cert.InProjFirstIdeal.main_arg1)
          ∧ r.2.mem ((c.tc : Thread Cert.InProjFirstIdeal.nD Cert.InProjFirstIdeal.τ).loc Cert.InProjFirstIdeal.main_arg2) = m ((c.tc : Thread Cert.InProjFirstIdeal.nD Cert.InProjFirstIdeal.τ).loc Cert.InProjFirstIdeal.main_arg2)
          ∧ r.2.mem ((c.tc : Thread Cert.InProjFirstIdeal.nD Cert.InProjFirstIdeal.τ).loc Cert.InProjFirstIdeal.main_arg3) = m ((c.tc : Thread Cert.InProjFirstIdeal.nD Cert.InProjFirstIdeal.τ).loc Cert.InProjFirstIdeal.main_arg3)
          ∧ r.2.mem ((c.tc : Thread Cert.InProjFirstIdeal.nD Cert.InProjFirstIdeal.τ).loc Cert.InProjFirstIdeal.main_arg4) = m ((c.tc : Thread Cert.InProjFirstIdeal.nD Cert.InProjFirstIdeal.τ).loc Cert.InProjFirstIdeal.main_arg4))
      ∧ θ_run (Cert.InProjFirstRefIdeal.defs (F := Ideal)) (onTc (τ := Cert.InProjFirstRefIdeal.τ) (Cert.InProjFirstRefIdeal.main (F := Ideal))) ⟨m', fun _ => 0, g'⟩ (fun r => ∀ c : Dev Cert.InProjFirstRefIdeal.nD,
          r.2.mem ((c.tc : Thread Cert.InProjFirstRefIdeal.nD Cert.InProjFirstRefIdeal.τ).loc Cert.InProjFirstRefIdeal.main_v38) = v0 c
          ∧ r.2.mem ((c.tc : Thread Cert.InProjFirstRefIdeal.nD Cert.InProjFirstRefIdeal.τ).loc Cert.InProjFirstRefIdeal.main_v41) = v1 c
          ∧ r.2.mem ((c.tc : Thread Cert.InProjFirstRefIdeal.nD Cert.InProjFirstRefIdeal.τ).loc Cert.InProjFirstRefIdeal.main_arg0) = m' ((c.tc : Thread Cert.InProjFirstRefIdeal.nD Cert.InProjFirstRefIdeal.τ).loc Cert.InProjFirstRefIdeal.main_arg0)
          ∧ r.2.mem ((c.tc : Thread Cert.InProjFirstRefIdeal.nD Cert.InProjFirstRefIdeal.τ).loc Cert.InProjFirstRefIdeal.main_arg1) = m' ((c.tc : Thread Cert.InProjFirstRefIdeal.nD Cert.InProjFirstRefIdeal.τ).loc Cert.InProjFirstRefIdeal.main_arg1)
          ∧ r.2.mem ((c.tc : Thread Cert.InProjFirstRefIdeal.nD Cert.InProjFirstRefIdeal.τ).loc Cert.InProjFirstRefIdeal.main_arg2) = m' ((c.tc : Thread Cert.InProjFirstRefIdeal.nD Cert.InProjFirstRefIdeal.τ).loc Cert.InProjFirstRefIdeal.main_arg2)
          ∧ r.2.mem ((c.tc : Thread Cert.InProjFirstRefIdeal.nD Cert.InProjFirstRefIdeal.τ).loc Cert.InProjFirstRefIdeal.main_arg3) = m' ((c.tc : Thread Cert.InProjFirstRefIdeal.nD Cert.InProjFirstRefIdeal.τ).loc Cert.InProjFirstRefIdeal.main_arg3)
          ∧ r.2.mem ((c.tc : Thread Cert.InProjFirstRefIdeal.nD Cert.InProjFirstRefIdeal.τ).loc Cert.InProjFirstRefIdeal.main_arg4) = m' ((c.tc : Thread Cert.InProjFirstRefIdeal.nD Cert.InProjFirstRefIdeal.τ).loc Cert.InProjFirstRefIdeal.main_arg4))

def Claim : Prop :=
  ∃ (hKernel : Cert.Kernel.Facts) (hKernelIdeal : Cert.KernelIdeal.Facts) (hReferenceIdeal : Cert.ReferenceIdeal.Facts) (hFfnOut : Cert.FfnOut.Facts) (hFfnOutIdeal : Cert.FfnOutIdeal.Facts) (hFfnOutRefIdeal : Cert.FfnOutRefIdeal.Facts) (hDwFfnIn : Cert.DwFfnIn.Facts) (hDwFfnInIdeal : Cert.DwFfnInIdeal.Facts) (hDwFfnInRefIdeal : Cert.DwFfnInRefIdeal.Facts) (hFfnIn : Cert.FfnIn.Facts) (hFfnInIdeal : Cert.FfnInIdeal.Facts) (hFfnInRefIdeal : Cert.FfnInRefIdeal.Facts) (hDwIn : Cert.DwIn.Facts) (hDwInIdeal : Cert.DwInIdeal.Facts) (hDwInRefIdeal : Cert.DwInRefIdeal.Facts) (hInProj : Cert.InProj.Facts) (hInProjIdeal : Cert.InProjIdeal.Facts) (hInProjRefIdeal : Cert.InProjRefIdeal.Facts) (hOutProj : Cert.OutProj.Facts) (hOutProjIdeal : Cert.OutProjIdeal.Facts) (hOutProjRefIdeal : Cert.OutProjRefIdeal.Facts) (hFfnInFwd : Cert.FfnInFwd.Facts) (hFfnInFwdIdeal : Cert.FfnInFwdIdeal.Facts) (hFfnInFwdRefIdeal : Cert.FfnInFwdRefIdeal.Facts) (hFfnOutFwd : Cert.FfnOutFwd.Facts) (hFfnOutFwdIdeal : Cert.FfnOutFwdIdeal.Facts) (hFfnOutFwdRefIdeal : Cert.FfnOutFwdRefIdeal.Facts) (hInProjQkv : Cert.InProjQkv.Facts) (hInProjQkvIdeal : Cert.InProjQkvIdeal.Facts) (hInProjQkvRefIdeal : Cert.InProjQkvRefIdeal.Facts) (hOutProjFwd : Cert.OutProjFwd.Facts) (hOutProjFwdIdeal : Cert.OutProjFwdIdeal.Facts) (hOutProjFwdRefIdeal : Cert.OutProjFwdRefIdeal.Facts) (hInProjFirst : Cert.InProjFirst.Facts) (hInProjFirstIdeal : Cert.InProjFirstIdeal.Facts) (hInProjFirstRefIdeal : Cert.InProjFirstRefIdeal.Facts) (hPre_finite : Cert.Pre_finite.Facts) (hPre_finite2 : Cert.Pre_finite2.Facts) (hPre_finite4 : Cert.Pre_finite4.Facts) (hPre_finite6 : Cert.Pre_finite6.Facts) (hPre_finite7 : Cert.Pre_finite7.Facts) (hPre_finite12 : Cert.Pre_finite12.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_FfnOut (hFfnOut := hFfnOut)
    ∧ quiescent_FfnOutIdeal (hFfnOutIdeal := hFfnOutIdeal)
    ∧ quiescent_FfnOutIdeal_pre_finite2 (hFfnOutIdeal := hFfnOutIdeal) (hPre_finite2 := hPre_finite2)
    ∧ quiescent_FfnOutRefIdeal (hFfnOutRefIdeal := hFfnOutRefIdeal)
    ∧ quiescent_FfnOutRefIdeal_pre_finite2 (hFfnOutRefIdeal := hFfnOutRefIdeal) (hPre_finite2 := hPre_finite2)
    ∧ quiescent_DwFfnIn (hDwFfnIn := hDwFfnIn)
    ∧ quiescent_DwFfnInIdeal (hDwFfnInIdeal := hDwFfnInIdeal)
    ∧ quiescent_DwFfnInRefIdeal (hDwFfnInRefIdeal := hDwFfnInRefIdeal)
    ∧ quiescent_FfnIn (hFfnIn := hFfnIn)
    ∧ quiescent_FfnInIdeal (hFfnInIdeal := hFfnInIdeal)
    ∧ quiescent_FfnInIdeal_pre_finite4 (hFfnInIdeal := hFfnInIdeal) (hPre_finite4 := hPre_finite4)
    ∧ quiescent_FfnInRefIdeal (hFfnInRefIdeal := hFfnInRefIdeal)
    ∧ quiescent_FfnInRefIdeal_pre_finite4 (hFfnInRefIdeal := hFfnInRefIdeal) (hPre_finite4 := hPre_finite4)
    ∧ quiescent_DwIn (hDwIn := hDwIn)
    ∧ quiescent_DwInIdeal (hDwInIdeal := hDwInIdeal)
    ∧ quiescent_DwInRefIdeal (hDwInRefIdeal := hDwInRefIdeal)
    ∧ quiescent_InProj (hInProj := hInProj)
    ∧ quiescent_InProjIdeal (hInProjIdeal := hInProjIdeal)
    ∧ quiescent_InProjIdeal_pre_finite6 (hInProjIdeal := hInProjIdeal) (hPre_finite6 := hPre_finite6)
    ∧ quiescent_InProjRefIdeal (hInProjRefIdeal := hInProjRefIdeal)
    ∧ quiescent_InProjRefIdeal_pre_finite6 (hInProjRefIdeal := hInProjRefIdeal) (hPre_finite6 := hPre_finite6)
    ∧ quiescent_OutProj (hOutProj := hOutProj)
    ∧ quiescent_OutProjIdeal (hOutProjIdeal := hOutProjIdeal)
    ∧ quiescent_OutProjIdeal_pre_finite7 (hOutProjIdeal := hOutProjIdeal) (hPre_finite7 := hPre_finite7)
    ∧ quiescent_OutProjRefIdeal (hOutProjRefIdeal := hOutProjRefIdeal)
    ∧ quiescent_OutProjRefIdeal_pre_finite7 (hOutProjRefIdeal := hOutProjRefIdeal) (hPre_finite7 := hPre_finite7)
    ∧ quiescent_FfnInFwd (hFfnInFwd := hFfnInFwd)
    ∧ quiescent_FfnInFwdIdeal (hFfnInFwdIdeal := hFfnInFwdIdeal)
    ∧ quiescent_FfnInFwdRefIdeal (hFfnInFwdRefIdeal := hFfnInFwdRefIdeal)
    ∧ quiescent_FfnOutFwd (hFfnOutFwd := hFfnOutFwd)
    ∧ quiescent_FfnOutFwdIdeal (hFfnOutFwdIdeal := hFfnOutFwdIdeal)
    ∧ quiescent_FfnOutFwdRefIdeal (hFfnOutFwdRefIdeal := hFfnOutFwdRefIdeal)
    ∧ quiescent_InProjQkv (hInProjQkv := hInProjQkv)
    ∧ quiescent_InProjQkvIdeal (hInProjQkvIdeal := hInProjQkvIdeal)
    ∧ quiescent_InProjQkvRefIdeal (hInProjQkvRefIdeal := hInProjQkvRefIdeal)
    ∧ quiescent_OutProjFwd (hOutProjFwd := hOutProjFwd)
    ∧ quiescent_OutProjFwdIdeal (hOutProjFwdIdeal := hOutProjFwdIdeal)
    ∧ quiescent_OutProjFwdRefIdeal (hOutProjFwdRefIdeal := hOutProjFwdRefIdeal)
    ∧ quiescent_InProjFirst (hInProjFirst := hInProjFirst)
    ∧ quiescent_InProjFirstIdeal (hInProjFirstIdeal := hInProjFirstIdeal)
    ∧ quiescent_InProjFirstIdeal_pre_finite12 (hInProjFirstIdeal := hInProjFirstIdeal) (hPre_finite12 := hPre_finite12)
    ∧ quiescent_InProjFirstRefIdeal (hInProjFirstRefIdeal := hInProjFirstRefIdeal)
    ∧ quiescent_InProjFirstRefIdeal_pre_finite12 (hInProjFirstRefIdeal := hInProjFirstRefIdeal) (hPre_finite12 := hPre_finite12)
    ∧ preserves_Kernel_KernelIdeal
    ∧ algebraic_KernelIdeal_ReferenceIdeal_pre_finite (hKernelIdeal := hKernelIdeal) (hReferenceIdeal := hReferenceIdeal) (hPre_finite := hPre_finite)
    ∧ preserves_FfnOut_FfnOutIdeal
    ∧ algebraic_FfnOutIdeal_FfnOutRefIdeal_pre_finite2 (hFfnOutIdeal := hFfnOutIdeal) (hFfnOutRefIdeal := hFfnOutRefIdeal) (hPre_finite2 := hPre_finite2)
    ∧ preserves_DwFfnIn_DwFfnInIdeal
    ∧ algebraic_DwFfnInIdeal_DwFfnInRefIdeal (hDwFfnInIdeal := hDwFfnInIdeal) (hDwFfnInRefIdeal := hDwFfnInRefIdeal)
    ∧ preserves_FfnIn_FfnInIdeal
    ∧ algebraic_FfnInIdeal_FfnInRefIdeal_pre_finite4 (hFfnInIdeal := hFfnInIdeal) (hFfnInRefIdeal := hFfnInRefIdeal) (hPre_finite4 := hPre_finite4)
    ∧ preserves_DwIn_DwInIdeal
    ∧ algebraic_DwInIdeal_DwInRefIdeal (hDwInIdeal := hDwInIdeal) (hDwInRefIdeal := hDwInRefIdeal)
    ∧ preserves_InProj_InProjIdeal
    ∧ algebraic_InProjIdeal_InProjRefIdeal_pre_finite6 (hInProjIdeal := hInProjIdeal) (hInProjRefIdeal := hInProjRefIdeal) (hPre_finite6 := hPre_finite6)
    ∧ preserves_OutProj_OutProjIdeal
    ∧ algebraic_OutProjIdeal_OutProjRefIdeal_pre_finite7 (hOutProjIdeal := hOutProjIdeal) (hOutProjRefIdeal := hOutProjRefIdeal) (hPre_finite7 := hPre_finite7)
    ∧ preserves_FfnInFwd_FfnInFwdIdeal
    ∧ algebraic_FfnInFwdIdeal_FfnInFwdRefIdeal (hFfnInFwdIdeal := hFfnInFwdIdeal) (hFfnInFwdRefIdeal := hFfnInFwdRefIdeal)
    ∧ preserves_FfnOutFwd_FfnOutFwdIdeal
    ∧ algebraic_FfnOutFwdIdeal_FfnOutFwdRefIdeal (hFfnOutFwdIdeal := hFfnOutFwdIdeal) (hFfnOutFwdRefIdeal := hFfnOutFwdRefIdeal)
    ∧ preserves_InProjQkv_InProjQkvIdeal
    ∧ algebraic_InProjQkvIdeal_InProjQkvRefIdeal (hInProjQkvIdeal := hInProjQkvIdeal) (hInProjQkvRefIdeal := hInProjQkvRefIdeal)
    ∧ preserves_OutProjFwd_OutProjFwdIdeal
    ∧ algebraic_OutProjFwdIdeal_OutProjFwdRefIdeal (hOutProjFwdIdeal := hOutProjFwdIdeal) (hOutProjFwdRefIdeal := hOutProjFwdRefIdeal)
    ∧ preserves_InProjFirst_InProjFirstIdeal
    ∧ algebraic_InProjFirstIdeal_InProjFirstRefIdeal_pre_finite12 (hInProjFirstIdeal := hInProjFirstIdeal) (hInProjFirstRefIdeal := hInProjFirstRefIdeal) (hPre_finite12 := hPre_finite12)
-- ==== Pre_finite.lean ====
abbrev S1x4096x3072 : Shape := ⟨3, ![1, 4096, 3072]⟩
abbrev S512x3 : Shape := ⟨2, ![512, 3]⟩
abbrev S512 : Shape := ⟨1, ![512]⟩
abbrev S1x4096x512 : Shape := ⟨3, ![1, 4096, 512]⟩
abbrev S_ : Shape := ⟨0, ![]⟩

class Facts : Prop where
  bcast_S_S1x4096x3072 : S_.BroadcastsInDim S1x4096x3072 (![] : Fin 0 → Fin S1x4096x3072.rank)
  reducesTo_S1x4096x3072_S_d0_1_2 : S1x4096x3072.ReducesTo [0, 1, 2] S_
  h_S_ : 0 < S_.numel
  bcast_S_S512x3 : S_.BroadcastsInDim S512x3 (![] : Fin 0 → Fin S512x3.rank)
  reducesTo_S512x3_S_d0_1 : S512x3.ReducesTo [0, 1] S_
  bcast_S_S512 : S_.BroadcastsInDim S512 (![] : Fin 0 → Fin S512.rank)
  reducesTo_S512_S_d0 : S512.ReducesTo [0] S_
  bcast_S_S1x4096x512 : S_.BroadcastsInDim S1x4096x512 (![] : Fin 0 → Fin S1x4096x512.rank)
  reducesTo_S1x4096x512_S_d0_1_2 : S1x4096x512.ReducesTo [0, 1, 2] S_

variable [Facts]

def fn_part1 {F : FTy → Type} [FloatOps F] (main_v13 : IVec S_ 1) (main_v16 : IVec S1x4096x512 1) : IVec S_ 1 :=
  let main_c_5 : IVec S_ 1 := constantI S_ 1 1#1
  let main_v17 : IVec S_ 1 := (fun x v => Host.reduce IntOp.andi x v reducesTo_S1x4096x512_S_d0_1_2 h_S_) main_v16 main_c_5
  let main_v18 : IVec S_ 1 := andi main_v13 main_v17
  main_v18

def fn {F : FTy → Type} [FloatOps F] (main_arg0 : FVec F S1x4096x3072 .f32) (main_arg1 : FVec F S512x3 .f32) (main_arg2 : FVec F S512 .f32) (main_arg3 : FVec F S1x4096x512 .f32) (main_arg4 : FVec F S1x4096x512 .f32) (main_arg5 : FVec F S1x4096x512 .f32) (main_arg6 : FVec F S1x4096x512 .f32) : IVec S_ 1 :=
  let main_v0 : FVec F S1x4096x3072 .f32 := Host.absf main_arg0
  let main_cst : FVec F S_ .f32 := constant S_ .f32 0x7F800000#32
  let main_v1 : FVec F S1x4096x3072 .f32 := broadcastInDim S1x4096x3072 ![] bcast_S_S1x4096x3072 main_cst
  let main_v2 : IVec S1x4096x3072 1 := cmpf .olt main_v0 main_v1
  let main_c : IVec S_ 1 := constantI S_ 1 1#1
  let main_v3 : IVec S_ 1 := (fun x v => Host.reduce IntOp.andi x v reducesTo_S1x4096x3072_S_d0_1_2 h_S_) main_v2 main_c
  let main_v4 : FVec F S512x3 .f32 := Host.absf main_arg1
  let main_cst_0 : FVec F S_ .f32 := constant S_ .f32 0x7F800000#32
  let main_v5 : FVec F S512x3 .f32 := broadcastInDim S512x3 ![] bcast_S_S512x3 main_cst_0
  let main_v6 : IVec S512x3 1 := cmpf .olt main_v4 main_v5
  let main_c_1 : IVec S_ 1 := constantI S_ 1 1#1
  let main_v7 : IVec S_ 1 := (fun x v => Host.reduce IntOp.andi x v reducesTo_S512x3_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S1x4096x512 .f32 := Host.absf main_arg3
  let main_cst_4 : FVec F S_ .f32 := constant S_ .f32 0x7F800000#32
  let main_v15 : FVec F S1x4096x512 .f32 := broadcastInDim S1x4096x512 ![] bcast_S_S1x4096x512 main_cst_4
  let main_v16 : IVec S1x4096x512 1 := cmpf .olt main_v14 main_v15
  fn_part1 (F := F) main_v13 main_v16
-- ==== Pre_finite12.lean ====
abbrev S4096x1024 : Shape := ⟨2, ![4096, 1024]⟩
abbrev S1024 : Shape := ⟨1, ![1024]⟩
abbrev S1024x3072 : Shape := ⟨2, ![1024, 3072]⟩
abbrev S4096x3072 : Shape := ⟨2, ![4096, 3072]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x3072 : S_.BroadcastsInDim S1024x3072 (![] : Fin 0 → Fin S1024x3072.rank)
  reducesTo_S1024x3072_S_d0_1 : S1024x3072.ReducesTo [0, 1] S_
  bcast_S_S4096x3072 : S_.BroadcastsInDim S4096x3072 (![] : Fin 0 → Fin S4096x3072.rank)
  reducesTo_S4096x3072_S_d0_1 : S4096x3072.ReducesTo [0, 1] S_

variable [Facts]

def fn_part1 {F : FTy → Type} [FloatOps F] (main_arg4 : FVec F S4096x3072 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S4096x3072 .f32 := Host.absf main_arg4
  let main_cst_6 : FVec F S_ .f32 := constant S_ .f32 0x7F800000#32
  let main_v20 : FVec F S4096x3072 .f32 := broadcastInDim S4096x3072 ![] bcast_S_S4096x3072 main_cst_6
  let main_v21 : IVec S4096x3072 1 := cmpf .olt main_v19 main_v20
  let main_c_7 : IVec S_ 1 := constantI S_ 1 1#1
  let main_v22 : IVec S_ 1 := (fun x v => Host.reduce IntOp.andi x v reducesTo_S4096x3072_S_d0_1 h_S_) main_v21 main_c_7
  let main_v23 : IVec S_ 1 := andi main_v18 main_v22
  main_v23

def fn {F : FTy → Type} [FloatOps F] (main_arg0 : FVec F S4096x1024 .f32) (main_arg1 : FVec F S1024 .f32) (main_arg2 : FVec F S1024x3072 .f32) (main_arg3 : FVec F S4096x1024 .f32) (main_arg4 : FVec F S4096x3072 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x3072 .f32 := Host.absf main_arg2
  let main_cst_2 : FVec F S_ .f32 := constant S_ .f32 0x7F800000#32
  let main_v10 : FVec F S1024x3072 .f32 := broadcastInDim S1024x3072 ![] bcast_S_S1024x3072 main_cst_2
  let main_v11 : IVec S1024x3072 1 := cmpf .olt main_v9 main_v10
  let main_c_3 : IVec S_ 1 := constantI S_ 1 1#1
  let main_v12 : IVec S_ 1 := (fun x v => Host.reduce IntOp.andi x v reducesTo_S1024x3072_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_v13 main_v16
-- ==== Pre_finite2.lean ====
abbrev S4096x2816 : Shape := ⟨2, ![4096, 2816]⟩
abbrev S2816x1024 : Shape := ⟨2, ![2816, 1024]⟩
abbrev S4096x1024 : Shape := ⟨2, ![4096, 1024]⟩
abbrev S_ : Shape := ⟨0, ![]⟩

class Facts : Prop where
  bcast_S_S4096x2816 : S_.BroadcastsInDim S4096x2816 (![] : Fin 0 → Fin S4096x2816.rank)
  reducesTo_S4096x2816_S_d0_1 : S4096x2816.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  main_v18

def fn {F : FTy → Type} [FloatOps F] (main_arg0 : FVec F S4096x2816 .f32) (main_arg1 : FVec F S4096x2816 .f32) (main_arg2 : FVec F S2816x1024 .f32) (main_arg3 : FVec F S4096x1024 .f32) : IVec S_ 1 :=
  let main_v0 : FVec F S4096x2816 .f32 := Host.absf main_arg0
  let main_cst : FVec F S_ .f32 := constant S_ .f32 0x7F800000#32
  let main_v1 : FVec F S4096x2816 .f32 := broadcastInDim S4096x2816 ![] bcast_S_S4096x2816 main_cst
  let main_v2 : IVec S4096x2816 1 := cmpf .olt main_v0 main_v1
  let main_c : IVec S_ 1 := constantI S_ 1 1#1
  let main_v3 : IVec S_ 1 := (fun x v => Host.reduce IntOp.andi x v reducesTo_S4096x2816_S_d0_1 h_S_) main_v2 main_c
  let main_v4 : FVec F S4096x2816 .f32 := Host.absf main_arg1
  let main_cst_0 : FVec F S_ .f32 := constant S_ .f32 0x7F800000#32
  let main_v5 : FVec F S4096x2816 .f32 := broadcastInDim S4096x2816 ![] bcast_S_S4096x2816 main_cst_0
  let main_v6 : IVec S4096x2816 1 := cmpf .olt main_v4 main_v5
  let main_c_1 : IVec S_ 1 := constantI S_ 1 1#1
  let main_v7 : IVec S_ 1 := (fun x v => Host.reduce IntOp.andi x v reducesTo_S4096x2816_S_d0_1 h_S_) main_v6 main_c_1
  let main_v8 : IVec S_ 1 := andi main_v3 main_v7
  let main_v9 : FVec F S2816x1024 .f32 := Host.absf main_arg2
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_c_3 : IVec S_ 1 := constantI S_ 1 1#1
  let main_v12 : IVec S_ 1 := (fun x v => Host.reduce IntOp.andi x v reducesTo_S2816x1024_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_v13 main_v16
-- ==== Pre_finite4.lean ====
abbrev S4096x1024 : Shape := ⟨2, ![4096, 1024]⟩
abbrev S1024 : Shape := ⟨1, ![1024]⟩
abbrev S1024x5632 : Shape := ⟨2, ![1024, 5632]⟩
abbrev S4096x2816 : Shape := ⟨2, ![4096, 2816]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x5632 : S_.BroadcastsInDim S1024x5632 (![] : Fin 0 → Fin S1024x5632.rank)
  reducesTo_S1024x5632_S_d0_1 : S1024x5632.ReducesTo [0, 1] S_
  bcast_S_S4096x2816 : S_.BroadcastsInDim S4096x2816 (![] : Fin 0 → Fin S4096x2816.rank)
  reducesTo_S4096x2816_S_d0_1 : S4096x2816.ReducesTo [0, 1] S_

variable [Facts]

def fn_part2 {F : FTy → Type} [FloatOps F] (main_arg7 : FVec F S4096x2816 .f32) (main_v33 : IVec S_ 1) : IVec S_ 1 :=
  let main_v34 : FVec F S4096x2816 .f32 := Host.absf main_arg7
  let main_cst_12 : FVec F S_ .f32 := constant S_ .f32 0x7F800000#32
  let main_v35 : FVec F S4096x2816 .f32 := broadcastInDim S4096x2816 ![] bcast_S_S4096x2816 main_cst_12
  let main_v36 : IVec S4096x2816 1 := cmpf .olt main_v34 main_v35
  let main_c_13 : IVec S_ 1 := constantI S_ 1 1#1
  let main_v37 : IVec S_ 1 := (fun x v => Host.reduce IntOp.andi x v reducesTo_S4096x2816_S_d0_1 h_S_) main_v36 main_c_13
  let main_v38 : IVec S_ 1 := andi main_v33 main_v37
  main_v38

def fn_part1 {F : FTy → Type} [FloatOps F] (main_arg4 : FVec F S1024x5632 .f32) (main_arg5 : FVec F S4096x1024 .f32) (main_arg6 : FVec F S4096x2816 .f32) (main_arg7 : FVec F S4096x2816 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x5632 .f32 := Host.absf main_arg4
  let main_cst_6 : FVec F S_ .f32 := constant S_ .f32 0x7F800000#32
  let main_v20 : FVec F S1024x5632 .f32 := broadcastInDim S1024x5632 ![] bcast_S_S1024x5632 main_cst_6
  let main_v21 : IVec S1024x5632 1 := cmpf .olt main_v19 main_v20
  let main_c_7 : IVec S_ 1 := constantI S_ 1 1#1
  let main_v22 : IVec S_ 1 := (fun x v => Host.reduce IntOp.andi x v reducesTo_S1024x5632_S_d0_1 h_S_) main_v21 main_c_7
  let main_v23 : IVec S_ 1 := andi main_v18 main_v22
  let main_v24 : FVec F S4096x1024 .f32 := Host.absf main_arg5
  let main_cst_8 : FVec F S_ .f32 := constant S_ .f32 0x7F800000#32
  let main_v25 : FVec F S4096x1024 .f32 := broadcastInDim S4096x1024 ![] bcast_S_S4096x1024 main_cst_8
  let main_v26 : IVec S4096x1024 1 := cmpf .olt main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  let main_v29 : FVec F S4096x2816 .f32 := Host.absf main_arg6
  let main_cst_10 : FVec F S_ .f32 := constant S_ .f32 0x7F800000#32
  let main_v30 : FVec F S4096x2816 .f32 := broadcastInDim S4096x2816 ![] bcast_S_S4096x2816 main_cst_10
  let main_v31 : IVec S4096x2816 1 := cmpf .olt main_v29 main_v30
  let main_c_11 : IVec S_ 1 := constantI S_ 1 1#1
  let main_v32 : IVec S_ 1 := (fun x v => Host.reduce IntOp.andi x v reducesTo_S4096x2816_S_d0_1 h_S_) main_v31 main_c_11
  let main_v33 : IVec S_ 1 := andi main_v28 main_v32
  fn_part2 (F := F) main_arg7 main_v33

def fn {F : FTy → Type} [FloatOps F] (main_arg0 : FVec F S4096x1024 .f32) (main_arg1 : FVec F S4096x1024 .f32) (main_arg2 : FVec F S1024 .f32) (main_arg3 : FVec F S1024 .f32) (main_arg4 : FVec F S1024x5632 .f32) (main_arg5 : FVec F S4096x1024 .f32) (main_arg6 : FVec F S4096x2816 .f32) (main_arg7 : FVec F S4096x2816 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_v13 main_v16
-- ==== Pre_finite6.lean ====
abbrev S4096x1024 : Shape := ⟨2, ![4096, 1024]⟩
abbrev S2x1024 : Shape := ⟨2, ![2, 1024]⟩
abbrev S1024x3072 : Shape := ⟨2, ![1024, 3072]⟩
abbrev S4096x3072 : Shape := ⟨2, ![4096, 3072]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S2x1024 : S_.BroadcastsInDim S2x1024 (![] : Fin 0 → Fin S2x1024.rank)
  reducesTo_S2x1024_S_d0_1 : S2x1024.ReducesTo [0, 1] S_
  bcast_S_S1024x3072 : S_.BroadcastsInDim S1024x3072 (![] : Fin 0 → Fin S1024x3072.rank)
  reducesTo_S1024x3072_S_d0_1 : S1024x3072.ReducesTo [0, 1] S_
  bcast_S_S4096x3072 : S_.BroadcastsInDim S4096x3072 (![] : Fin 0 → Fin S4096x3072.rank)
  reducesTo_S4096x3072_S_d0_1 : S4096x3072.ReducesTo [0, 1] S_

variable [Facts]

def fn_part1 {F : FTy → Type} [FloatOps F] (main_arg4 : FVec F S1024x3072 .f32) (main_arg5 : FVec F S4096x1024 .f32) (main_arg6 : FVec F S4096x3072 .f32) (main_v13 : IVec S_ 1) (main_v16 : IVec S2x1024 1) : IVec S_ 1 :=
  let main_c_5 : IVec S_ 1 := constantI S_ 1 1#1
  let main_v17 : IVec S_ 1 := (fun x v => Host.reduce IntOp.andi x v reducesTo_S2x1024_S_d0_1 h_S_) main_v16 main_c_5
  let main_v18 : IVec S_ 1 := andi main_v13 main_v17
  let main_v19 : FVec F S1024x3072 .f32 := Host.absf main_arg4
  let main_cst_6 : FVec F S_ .f32 := constant S_ .f32 0x7F800000#32
  let main_v20 : FVec F S1024x3072 .f32 := broadcastInDim S1024x3072 ![] bcast_S_S1024x3072 main_cst_6
  let main_v21 : IVec S1024x3072 1 := cmpf .olt main_v19 main_v20
  let main_c_7 : IVec S_ 1 := constantI S_ 1 1#1
  let main_v22 : IVec S_ 1 := (fun x v => Host.reduce IntOp.andi x v reducesTo_S1024x3072_S_d0_1 h_S_) main_v21 main_c_7
  let main_v23 : IVec S_ 1 := andi main_v18 main_v22
  let main_v24 : FVec F S4096x1024 .f32 := Host.absf main_arg5
  let main_cst_8 : FVec F S_ .f32 := constant S_ .f32 0x7F800000#32
  let main_v25 : FVec F S4096x1024 .f32 := broadcastInDim S4096x1024 ![] bcast_S_S4096x1024 main_cst_8
  let main_v26 : IVec S4096x1024 1 := cmpf .olt main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  let main_v29 : FVec F S4096x3072 .f32 := Host.absf main_arg6
  let main_cst_10 : FVec F S_ .f32 := constant S_ .f32 0x7F800000#32
  let main_v30 : FVec F S4096x3072 .f32 := broadcastInDim S4096x3072 ![] bcast_S_S4096x3072 main_cst_10
  let main_v31 : IVec S4096x3072 1 := cmpf .olt main_v29 main_v30
  let main_c_11 : IVec S_ 1 := constantI S_ 1 1#1
  let main_v32 : IVec S_ 1 := (fun x v => Host.reduce IntOp.andi x v reducesTo_S4096x3072_S_d0_1 h_S_) main_v31 main_c_11
  let main_v33 : IVec S_ 1 := andi main_v28 main_v32
  main_v33

def fn {F : FTy → Type} [FloatOps F] (main_arg0 : FVec F S4096x1024 .f32) (main_arg1 : FVec F S4096x1024 .f32) (main_arg2 : FVec F S2x1024 .f32) (main_arg3 : FVec F S2x1024 .f32) (main_arg4 : FVec F S1024x3072 .f32) (main_arg5 : FVec F S4096x1024 .f32) (main_arg6 : FVec F S4096x3072 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S2x1024 .f32 := Host.absf main_arg2
  let main_cst_2 : FVec F S_ .f32 := constant S_ .f32 0x7F800000#32
  let main_v10 : FVec F S2x1024 .f32 := broadcastInDim S2x1024 ![] bcast_S_S2x1024 main_cst_2
  let main_v11 : IVec S2x1024 1 := cmpf .olt main_v9 main_v10
  let main_c_3 : IVec S_ 1 := constantI S_ 1 1#1
  let main_v12 : IVec S_ 1 := (fun x v => Host.reduce IntOp.andi x v reducesTo_S2x1024_S_d0_1 h_S_) main_v11 main_c_3
  let main_v13 : IVec S_ 1 := andi main_v8 main_v12
  let main_v14 : FVec F S2x1024 .f32 := Host.absf main_arg3
  let main_cst_4 : FVec F S_ .f32 := constant S_ .f32 0x7F800000#32
  let main_v15 : FVec F S2x1024 .f32 := broadcastInDim S2x1024 ![] bcast_S_S2x1024 main_cst_4
  let main_v16 : IVec S2x1024 1 := cmpf .olt main_v14 main_v15
  fn_part1 (F := F) main_arg4 main_arg5 main_arg6 main_v13 main_v16
-- ==== Pre_finite7.lean ====
abbrev S4096x512 : Shape := ⟨2, ![4096, 512]⟩
abbrev S1x4096x512 : Shape := ⟨3, ![1, 4096, 512]⟩
abbrev S512 : Shape := ⟨1, ![512]⟩
abbrev S1024x1024 : Shape := ⟨2, ![1024, 1024]⟩
abbrev S4096x1024 : Shape := ⟨2, ![4096, 1024]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S1x4096x512 : S_.BroadcastsInDim S1x4096x512 (![] : Fin 0 → Fin S1x4096x512.rank)
  reducesTo_S1x4096x512_S_d0_1_2 : S1x4096x512.ReducesTo [0, 1, 2] S_
  bcast_S_S512 : S_.BroadcastsInDim S512 (![] : Fin 0 → Fin S512.rank)
  reducesTo_S512_S_d0 : S512.ReducesTo [0] S_
  bcast_S_S1024x1024 : S_.BroadcastsInDim S1024x1024 (![] : Fin 0 → Fin S1024x1024.rank)
  reducesTo_S1024x1024_S_d0_1 : S1024x1024.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_arg4 : FVec F S4096x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  main_v23

def fn {F : FTy → Type} [FloatOps F] (main_arg0 : FVec F S4096x512 .f32) (main_arg1 : FVec F S1x4096x512 .f32) (main_arg2 : FVec F S512 .f32) (main_arg3 : FVec F S1024x1024 .f32) (main_arg4 : FVec F S4096x1024 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S1x4096x512 .f32 := Host.absf main_arg1
  let main_cst_0 : FVec F S_ .f32 := constant S_ .f32 0x7F800000#32
  let main_v5 : FVec F S1x4096x512 .f32 := broadcastInDim S1x4096x512 ![] bcast_S_S1x4096x512 main_cst_0
  let main_v6 : IVec S1x4096x512 1 := cmpf .olt main_v4 main_v5
  let main_c_1 : IVec S_ 1 := constantI S_ 1 1#1
  let main_v7 : IVec S_ 1 := (fun x v => Host.reduce IntOp.andi x v reducesTo_S1x4096x512_S_d0_1_2 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S1x4096x3072 : Shape := ⟨3, ![1, 4096, 3072]⟩
abbrev S512x3 : Shape := ⟨2, ![512, 3]⟩
abbrev S512 : Shape := ⟨1, ![512]⟩
abbrev S1x4096x512 : Shape := ⟨3, ![1, 4096, 512]⟩
abbrev S1x4096x1536 : Shape := ⟨3, ![1, 4096, 1536]⟩
abbrev S4096x1536 : Shape := ⟨2, ![4096, 1536]⟩
abbrev S3x512 : Shape := ⟨2, ![3, 512]⟩
abbrev S_ : Shape := ⟨0, ![]⟩
abbrev S8x512 : Shape := ⟨2, ![8, 512]⟩
abbrev S1x8x512 : Shape := ⟨3, ![1, 8, 512]⟩
abbrev S4096x512 : Shape := ⟨2, ![4096, 512]⟩
abbrev S1x1x512 : Shape := ⟨3, ![1, 1, 512]⟩
abbrev S4096x3072 : Shape := ⟨2, ![4096, 3072]⟩
abbrev S1024x1536 : Shape := ⟨2, ![1024, 1536]⟩
abbrev S16x1536 : Shape := ⟨2, ![16, 1536]⟩
abbrev S1024x512 : Shape := ⟨2, ![1024, 512]⟩
abbrev S1024x3072 : Shape := ⟨2, ![1024, 3072]⟩
abbrev S128x128 : Shape := ⟨2, ![128, 128]⟩
abbrev S1040x128 : Shape := ⟨2, ![1040, 128]⟩
abbrev S16x128 : Shape := ⟨2, ![16, 128]⟩
abbrev S8x128 : Shape := ⟨2, ![8, 128]⟩
abbrev S1024x128 : Shape := ⟨2, ![1024, 128]⟩
abbrev S1x1x128 : Shape := ⟨3, ![1, 1, 128]⟩
abbrev S1x128 : Shape := ⟨2, ![1, 128]⟩
abbrev S128 : Shape := ⟨1, ![128]⟩

abbrev nBuf : Space → Nat
  | .hbm => 26
  | .vmem => 22
  | .smem => 0
  | _ => 0

abbrev bufTy : (tb : Table) → Fin (tcTables nBuf tb) → BufTy
  | .hbm, ⟨0, _⟩ => ⟨S1x4096x3072, .f32⟩
  | .hbm, ⟨1, _⟩ => ⟨S512x3, .f32⟩
  | .hbm, ⟨2, _⟩ => ⟨S512, .f32⟩
  | .hbm, ⟨3, _⟩ => ⟨S1x4096x512, .f32⟩
  | .hbm, ⟨4, _⟩ => ⟨S1x4096x512, .f32⟩
  | .hbm, ⟨5, _⟩ => ⟨S1x4096x512, .f32⟩
  | .hbm, ⟨6, _⟩ => ⟨S1x4096x512, .f32⟩
  | .hbm, ⟨7, _⟩ => ⟨S1x4096x1536, .f32⟩
  | .hbm, ⟨8, _⟩ => ⟨S4096x1536, .f32⟩
  | .hbm, ⟨9, _⟩ => ⟨S4096x1536, .bf16⟩
  | .hbm, ⟨10, _⟩ => ⟨S3x512, .f32⟩
  | .hbm, ⟨11, _⟩ => ⟨S_, .i32⟩
  | .hbm, ⟨12, _⟩ => ⟨S_, .f32⟩
  | .hbm, ⟨13, _⟩ => ⟨S8x512, .f32⟩
  | .hbm, ⟨14, _⟩ => ⟨S1x8x512, .f32⟩
  | .hbm, ⟨15, _⟩ => ⟨S4096x512, .f32⟩
  | .hbm, ⟨16, _⟩ => ⟨S1x1x512, .f32⟩
  | .hbm, ⟨17, _⟩ => ⟨S4096x512, .f32⟩
  | .hbm, ⟨18, _⟩ => ⟨S4096x512, .bf16⟩
  | .hbm, ⟨19, _⟩ => ⟨S4096x512, .f32⟩
  | .hbm, ⟨20, _⟩ => ⟨S4096x512, .bf16⟩
  | .hbm, ⟨21, _⟩ => ⟨S4096x512, .f32⟩
  | .hbm, ⟨22, _⟩ => ⟨S4096x512, .bf16⟩
  | .hbm, ⟨23, _⟩ => ⟨S4096x3072, .bf16⟩
  | .hbm, ⟨24, _⟩ => ⟨S8x512, .f32⟩
  | .hbm, ⟨25, _⟩ => ⟨S8x512, .f32⟩
  | .local _ .vmem, ⟨0, _⟩ => ⟨S1024x1536, .bf16⟩
  | .local _ .vmem, ⟨1, _⟩ => ⟨S1024x1536, .bf16⟩
  | .local _ .vmem, ⟨2, _⟩ => ⟨S16x1536, .bf16⟩
  | .local _ .vmem, ⟨3, _⟩ => ⟨S16x1536, .bf16⟩
  | .local _ .vmem, ⟨4, _⟩ => ⟨S16x1536, .bf16⟩
  | .local _ .vmem, ⟨5, _⟩ => ⟨S16x1536, .bf16⟩
  | .local _ .vmem, ⟨6, _⟩ => ⟨S1024x512, .f32⟩
  | .local _ .vmem, ⟨7, _⟩ => ⟨S1024x512, .f32⟩
  | .local _ .vmem, ⟨8, _⟩ => ⟨S8x512, .f32⟩
  | .local _ .vmem, ⟨9, _⟩ => ⟨S8x512, .f32⟩
  | .local _ .vmem, ⟨10, _⟩ => ⟨S1x8x512, .f32⟩
  | .local _ .vmem, ⟨11, _⟩ => ⟨S1x1x512, .f32⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x3072, .bf16⟩
  | .local _ .vmem, ⟨19, _⟩ => ⟨S1024x3072, .bf16⟩
  | .local _ .vmem, ⟨20, _⟩ => ⟨S8x512, .f32⟩
  | .local _ .vmem, ⟨21, _⟩ => ⟨S8x512, .f32⟩
  | _, _ => ⟨S1x4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14_0 : Ref sig .tc := ⟨.hbm, 23, rfl⟩
abbrev main_v14_1 : Ref sig .tc := ⟨.hbm, 24, rfl⟩
abbrev main_v14_2 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c128_i32 : BitVec 32 := 128#32
  let v1 : BitVec 32 := Scalar.muli v0 c128_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x8x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x3072 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S1x4096x3072 : Shape := ⟨3, ![1, 4096, 3072]⟩
abbrev S512x3 : Shape := ⟨2, ![512, 3]⟩
abbrev S512 : Shape := ⟨1, ![512]⟩
abbrev S1x4096x512 : Shape := ⟨3, ![1, 4096, 512]⟩
abbrev S_ : Shape := ⟨0, ![]⟩
abbrev S1x2x512 : Shape := ⟨3, ![1, 2, 512]⟩
abbrev S1x4098x512 : Shape := ⟨3, ![1, 4098, 512]⟩
abbrev S512x1 : Shape := ⟨2, ![512, 1]⟩
abbrev S1x1x512 : Shape := ⟨3, ![1, 1, 512]⟩
abbrev S1x4096x8x64 : Shape := ⟨4, ![1, 4096, 8, 64]⟩
abbrev S1x4096x8 : Shape := ⟨3, ![1, 4096, 8]⟩
abbrev S1x4096x8x1 : Shape := ⟨4, ![1, 4096, 8, 1]⟩
abbrev S1x512 : Shape := ⟨2, ![1, 512]⟩
abbrev S4096x8 : Shape := ⟨2, ![4096, 8]⟩
abbrev S3x512 : Shape := ⟨2, ![3, 512]⟩
abbrev S5x512 : Shape := ⟨2, ![5, 512]⟩
abbrev S8x512 : Shape := ⟨2, ![8, 512]⟩
abbrev S7x512 : Shape := ⟨2, ![7, 512]⟩
abbrev S4096x3072 : Shape := ⟨2, ![4096, 3072]⟩

abbrev nBuf : Space → Nat
  | .hbm => 150
  | .vmem => 0
  | .smem => 0
  | _ => 0

abbrev hbmTy0_0 (i : Nat) : BufTy := match i % 128 with
  | 0 => ⟨S1x4096x3072, .f32⟩
  | 1 => ⟨S512x3, .f32⟩
  | 2 => ⟨S512, .f32⟩
  | 3 => ⟨S1x4096x512, .f32⟩
  | 4 => ⟨S1x4096x512, .f32⟩
  | 5 => ⟨S1x4096x512, .f32⟩
  | 6 => ⟨S1x4096x512, .f32⟩
  | 7 => ⟨S1x4096x512, .f32⟩
  | 8 => ⟨S1x4096x512, .f32⟩
  | 9 => ⟨S1x4096x512, .f32⟩
  | 10 => ⟨S1x4096x512, .f32⟩
  | 11 => ⟨S1x4096x512, .f32⟩
  | 12 => ⟨S1x4096x512, .f32⟩
  | 13 => ⟨S1x4096x512, .f32⟩
  | 14 => ⟨S_, .f32⟩
  | 15 => ⟨S1x2x512, .f32⟩
  | 16 => ⟨S1x4098x512, .f32⟩
  | 17 => ⟨S_, .f32⟩
  | 18 => ⟨S1x2x512, .f32⟩
  | 19 => ⟨S1x4096x512, .f32⟩
  | 20 => ⟨S512x1, .f32⟩
  | 21 => ⟨S512, .f32⟩
  | 22 => ⟨S1x1x512, .f32⟩
  | 23 => ⟨S1x4096x512, .f32⟩
  | 24 => ⟨S1x4096x512, .f32⟩
  | 25 => ⟨S1x4096x512, .f32⟩
  | 26 => ⟨S512x1, .f32⟩
  | 27 => ⟨S512, .f32⟩
  | 28 => ⟨S1x1x512, .f32⟩
  | 29 => ⟨S1x4096x512, .f32⟩
  | 30 => ⟨S1x4096x512, .f32⟩
  | 31 => ⟨S1x4096x512, .f32⟩
  | 32 => ⟨S1x4096x512, .f32⟩
  | 33 => ⟨S512x1, .f32⟩
  | 34 => ⟨S512, .f32⟩
  | 35 => ⟨S1x1x512, .f32⟩
  | 36 => ⟨S1x4096x512, .f32⟩
  | 37 => ⟨S1x4096x512, .f32⟩
  | 38 => ⟨S1x4096x512, .f32⟩
  | 39 => ⟨S1x4096x512, .f32⟩
  | 40 => ⟨S1x4096x8x64, .f32⟩
  | 41 => ⟨S1x4096x8x64, .f32⟩
  | 42 => ⟨S_, .f32⟩
  | 43 => ⟨S1x4096x8, .f32⟩
  | 44 => ⟨S1x4096x8x1, .f32⟩
  | 45 => ⟨S_, .f32⟩
  | 46 => ⟨S1x4096x8x1, .f32⟩
  | 47 => ⟨S1x4096x8x1, .f32⟩
  | 48 => ⟨S_, .f32⟩
  | 49 => ⟨S1x4096x8x1, .f32⟩
  | 50 => ⟨S1x4096x8x1, .f32⟩
  | 51 => ⟨S1x4096x8x1, .f32⟩
  | 52 => ⟨S1x4096x8x1, .f32⟩
  | 53 => ⟨S_, .f32⟩
  | 54 => ⟨S1x4096x8x1, .f32⟩
  | 55 => ⟨S1x4096x8x1, .f32⟩
  | 56 => ⟨S1x4096x8x64, .f32⟩
  | 57 => ⟨S1x4096x8x64, .f32⟩
  | 58 => ⟨S1x4096x512, .f32⟩
  | 59 => ⟨S1x1x512, .f32⟩
  | 60 => ⟨S1x4096x512, .f32⟩
  | 61 => ⟨S1x4096x512, .f32⟩
  | 62 => ⟨S1x4096x512, .f32⟩
  | 63 => ⟨S_, .f32⟩
  | 64 => ⟨S1x512, .f32⟩
  | 65 => ⟨S1x1x512, .f32⟩
  | 66 => ⟨S1x4096x512, .f32⟩
  | 67 => ⟨S1x4096x512, .f32⟩
  | 68 => ⟨S_, .f32⟩
  | 69 => ⟨S512, .f32⟩
  | 70 => ⟨S1x4096x8x64, .f32⟩
  | 71 => ⟨S1x4096x8x64, .f32⟩
  | 72 => ⟨S_, .f32⟩
  | 73 => ⟨S1x4096x8, .f32⟩
  | 74 => ⟨S1x4096x8x1, .f32⟩
  | 75 => ⟨S1x4096x8x64, .f32⟩
  | 76 => ⟨S1x4096x8x64, .f32⟩
  | 77 => ⟨S1x4096x8x1, .f32⟩
  | 78 => ⟨S_, .f32⟩
  | 79 => ⟨S1x4096x8x1, .f32⟩
  | 80 => ⟨S1x4096x8x1, .f32⟩
  | 81 => ⟨S_, .f32⟩
  | 82 => ⟨S4096x8, .f32⟩
  | 83 => ⟨S1x4096x8, .f32⟩
  | 84 => ⟨S1x4096x8x64, .f32⟩
  | 85 => ⟨S1x4096x8x64, .f32⟩
  | 86 => ⟨S1x4096x8x64, .f32⟩
  | 87 => ⟨S1x4096x8x64, .f32⟩
  | 88 => ⟨S1x4096x8x64, .f32⟩
  | 89 => ⟨S1x4096x512, .f32⟩
  | 90 => ⟨S1x4096x512, .f32⟩
  | 91 => ⟨S1x4096x512, .f32⟩
  | 92 => ⟨S1x4096x512, .f32⟩
  | 93 => ⟨S_, .f32⟩
  | 94 => ⟨S1x512, .f32⟩
  | 95 => ⟨S1x1x512, .f32⟩
  | 96 => ⟨S1x4096x512, .f32⟩
  | 97 => ⟨S1x4096x512, .f32⟩
  | 98 => ⟨S_, .f32⟩
  | 99 => ⟨S512, .f32⟩
  | 100 => ⟨S512x1, .f32⟩
  | 101 => ⟨S_, .f32⟩
  | 102 => ⟨S512x3, .f32⟩
  | 103 => ⟨S_, .f32⟩
  | 104 => ⟨S1x4098x512, .f32⟩
  | 105 => ⟨S1x4096x512, .f32⟩
  | 106 => ⟨S_, .f32⟩
  | 107 => ⟨S1x512, .f32⟩
  | 108 => ⟨S1x1x512, .f32⟩
  | 109 => ⟨S1x4096x512, .f32⟩
  | 110 => ⟨S1x4096x512, .f32⟩
  | 111 => ⟨S_, .f32⟩
  | 112 => ⟨S512, .f32⟩
  | 113 => ⟨S512x1, .f32⟩
  | 114 => ⟨S_, .f32⟩
  | 115 => ⟨S512x3, .f32⟩
  | 116 => ⟨S512x3, .f32⟩
  | 117 => ⟨S_, .f32⟩
  | 118 => ⟨S1x4098x512, .f32⟩
  | 119 => ⟨S1x4098x512, .f32⟩
  | 120 => ⟨S1x4096x512, .f32⟩
  | 121 => ⟨S_, .f32⟩
  | 122 => ⟨S1x512, .f32⟩
  | 123 => ⟨S1x1x512, .f32⟩
  | 124 => ⟨S1x4096x512, .f32⟩
  | 125 => ⟨S1x4096x512, .f32⟩
  | 126 => ⟨S_, .f32⟩
  | 127 => ⟨S512, .f32⟩
  | _ => ⟨S1x4096x3072, .f32⟩

abbrev hbmTy0_1 (i : Nat) : BufTy := match i % 128 with
  | 0 => ⟨S512x1, .f32⟩
  | 1 => ⟨S_, .f32⟩
  | 2 => ⟨S512x3, .f32⟩
  | 3 => ⟨S512x3, .f32⟩
  | 4 => ⟨S_, .f32⟩
  | 5 => ⟨S1x4098x512, .f32⟩
  | 6 => ⟨S1x4098x512, .f32⟩
  | 7 => ⟨S1x2x512, .f32⟩
  | 8 => ⟨S1x4096x512, .f32⟩
  | 9 => ⟨S1x4096x512, .f32⟩
  | 10 => ⟨S1x4096x512, .f32⟩
  | 11 => ⟨S1x4096x3072, .f32⟩
  | 12 => ⟨S3x512, .f32⟩
  | 13 => ⟨S_, .f32⟩
  | 14 => ⟨S5x512, .f32⟩
  | 15 => ⟨S8x512, .f32⟩
  | 16 => ⟨S1x512, .f32⟩
  | 17 => ⟨S_, .f32⟩
  | 18 => ⟨S7x512, .f32⟩
  | 19 => ⟨S8x512, .f32⟩
  | 20 => ⟨S4096x3072, .f32⟩
  | 21 => ⟨S4096x3072, .bf16⟩
  | _ => ⟨S1x4096x3072, .f32⟩

abbrev hbmTy (i : Nat) : BufTy := match i / 128 with
  | 0 => hbmTy0_0 i
  | 1 => hbmTy0_1 i
  | _ => ⟨S1x4096x3072, .f32⟩

abbrev bufTy : (tb : Table) → Fin (tcTables nBuf tb) → BufTy
  | .hbm, ⟨i, _⟩ => hbmTy i
  | _, _ => ⟨S1x4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_1 : Ref sig .tc := ⟨.hbm, 42, rfl⟩
abbrev main_v33 : Ref sig .tc := ⟨.hbm, 43, rfl⟩
abbrev main_v34 : Ref sig .tc := ⟨.hbm, 44, rfl⟩
abbrev main_cst_2 : Ref sig .tc := ⟨.hbm, 45, rfl⟩
abbrev main_v35 : Ref sig .tc := ⟨.hbm, 46, rfl⟩
abbrev main_v36 : Ref sig .tc := ⟨.hbm, 47, rfl⟩
abbrev main_cst_3 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_4 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_5 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_6 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_7 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_8 : Ref sig .tc := ⟨.hbm, 78, rfl⟩
abbrev main_v62 : Ref sig .tc := ⟨.hbm, 79, rfl⟩
abbrev main_v63 : Ref sig .tc := ⟨.hbm, 80, rfl⟩
abbrev main_cst_9 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_cst_10 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_cst_11 : Ref sig .tc := ⟨.hbm, 98, rfl⟩
abbrev main_v79 : Ref sig .tc := ⟨.hbm, 99, rfl⟩
abbrev main_v80 : Ref sig .tc := ⟨.hbm, 100, rfl⟩
abbrev main_cst_12 : Ref sig .tc := ⟨.hbm, 101, rfl⟩
abbrev main_v81 : Ref sig .tc := ⟨.hbm, 102, rfl⟩
abbrev main_cst_13 : Ref sig .tc := ⟨.hbm, 103, rfl⟩
abbrev main_v82 : Ref sig .tc := ⟨.hbm, 104, rfl⟩
abbrev main_v83 : Ref sig .tc := ⟨.hbm, 105, rfl⟩
abbrev main_cst_14 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_cst_15 : Ref sig .tc := ⟨.hbm, 111, rfl⟩
abbrev main_v88 : Ref sig .tc := ⟨.hbm, 112, rfl⟩
abbrev main_v89 : Ref sig .tc := ⟨.hbm, 113, rfl⟩
abbrev main_cst_16 : Ref sig .tc := ⟨.hbm, 114, rfl⟩
abbrev main_v90 : Ref sig .tc := ⟨.hbm, 115, rfl⟩
abbrev main_v91 : Ref sig .tc := ⟨.hbm, 116, rfl⟩
abbrev main_cst_17 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_cst_18 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_cst_19 : Ref sig .tc := ⟨.hbm, 126, rfl⟩
abbrev main_v99 : Ref sig .tc := ⟨.hbm, 127, rfl⟩
abbrev main_v100 : Ref sig .tc := ⟨.hbm, 128, rfl⟩
abbrev main_cst_20 : Ref sig .tc := ⟨.hbm, 129, rfl⟩
abbrev main_v101 : Ref sig .tc := ⟨.hbm, 130, rfl⟩
abbrev main_v102 : Ref sig .tc := ⟨.hbm, 131, rfl⟩
abbrev main_cst_21 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_cst_22 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_cst_23 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩

abbrev nD : Nat := 1
abbrev τ : Topo := Topo.v7x

variable {F : FTy → Type} [FloatOps F]
-- ==== FfnOut.lean ====
abbrev S4096x2816 : Shape := ⟨2, ![4096, 2816]⟩
abbrev S2816x1024 : Shape := ⟨2, ![2816, 1024]⟩
abbrev S4096x1024 : Shape := ⟨2, ![4096, 1024]⟩
abbrev S1x4096x2816 : Shape := ⟨3, ![1, 4096, 2816]⟩
abbrev S2x4096x2816 : Shape := ⟨3, ![2, 4096, 2816]⟩
abbrev S_ : Shape := ⟨0, ![]⟩
abbrev S1024x1024 : Shape := ⟨2, ![1024, 1024]⟩
abbrev S1408x1024 : Shape := ⟨2, ![1408, 1024]⟩
abbrev S2x1024x1408 : Shape := ⟨3, ![2, 1024, 1408]⟩
abbrev S1024x1408 : Shape := ⟨2, ![1024, 1408]⟩
abbrev S768x1024 : Shape := ⟨2, ![768, 1024]⟩
abbrev S1024x768 : Shape := ⟨2, ![1024, 768]⟩
abbrev S1x1024x768 : Shape := ⟨3, ![1, 1024, 768]⟩
abbrev S640x1024 : Shape := ⟨2, ![640, 1024]⟩
abbrev S1024x640 : Shape := ⟨2, ![1024, 640]⟩
abbrev S1x1024x640 : Shape := ⟨3, ![1, 1024, 640]⟩

abbrev nBuf : Space → Nat
  | .hbm => 23
  | .vmem => 12
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S2816x1024, .f32⟩
  | .hbm, ⟨3, _⟩ => ⟨S4096x1024, .f32⟩
  | .hbm, ⟨4, _⟩ => ⟨S1x4096x2816, .f32⟩
  | .hbm, ⟨5, _⟩ => ⟨S1x4096x2816, .f32⟩
  | .hbm, ⟨6, _⟩ => ⟨S2x4096x2816, .f32⟩
  | .hbm, ⟨7, _⟩ => ⟨S2x4096x2816, .bf16⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .bf16⟩
  | .hbm, ⟨19, _⟩ => ⟨S4096x1024, .bf16⟩
  | .hbm, ⟨20, _⟩ => ⟨S2816x1024, .bf16⟩
  | .hbm, ⟨21, _⟩ => ⟨S2x4096x2816, .bf16⟩
  | .hbm, ⟨22, _⟩ => ⟨S2816x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S2x1024x1408, .bf16⟩
  | .local _ .vmem, ⟨4, _⟩ => ⟨S2x1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S2x1024x1408, .bf16⟩
  | .local _ .vmem, ⟨8, _⟩ => ⟨S2x1024x1408, .bf16⟩
  | .local _ .vmem, ⟨9, _⟩ => ⟨S1408x1024, .bf16⟩
  | .local _ .vmem, ⟨10, _⟩ => ⟨S1408x1024, .bf16⟩
  | .local _ .vmem, ⟨11, _⟩ => ⟨S1408x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9_0 : Ref sig .tc := ⟨.hbm, 21, rfl⟩
abbrev main_v9_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1408x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S2x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1408x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnOutRefIdeal.lean ====
abbrev S4096x2816 : Shape := ⟨2, ![4096, 2816]⟩
abbrev S2816x1024 : Shape := ⟨2, ![2816, 1024]⟩
abbrev S4096x1024 : Shape := ⟨2, ![4096, 1024]⟩
abbrev S_ : Shape := ⟨0, ![]⟩
abbrev S1024x2816 : Shape := ⟨2, ![1024, 2816]⟩
abbrev S1x4096x2816 : Shape := ⟨3, ![1, 4096, 2816]⟩
abbrev S2x4096x2816 : Shape := ⟨3, ![2, 4096, 2816]⟩

abbrev nBuf : Space → Nat
  | .hbm => 33
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S2816x1024, .f32⟩
  | .hbm, ⟨3, _⟩ => ⟨S4096x1024, .f32⟩
  | .hbm, ⟨4, _⟩ => ⟨S4096x2816, .f32⟩
  | .hbm, ⟨5, _⟩ => ⟨S4096x2816, .f32⟩
  | .hbm, ⟨6, _⟩ => ⟨S_, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x1024, .f32⟩
  | .hbm, ⟨19, _⟩ => ⟨S1024x2816, .f32⟩
  | .hbm, ⟨20, _⟩ => ⟨S2816x1024, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S1x4096x2816, .f32⟩
  | .hbm, ⟨29, _⟩ => ⟨S1x4096x2816, .f32⟩
  | .hbm, ⟨30, _⟩ => ⟨S2x4096x2816, .f32⟩
  | .hbm, ⟨31, _⟩ => ⟨S2x4096x2816, .bf16⟩
  | .hbm, ⟨32, _⟩ => ⟨S2816x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩

abbrev nD : Nat := 1
abbrev τ : Topo := Topo.v7x

variable {F : FTy → Type} [FloatOps F]
-- ==== DwFfnIn.lean ====
abbrev S4096x1024 : Shape := ⟨2, ![4096, 1024]⟩
abbrev S1024x5632 : Shape := ⟨2, ![1024, 5632]⟩
abbrev S4096x2816 : Shape := ⟨2, ![4096, 2816]⟩
abbrev S1x4096x2816 : Shape := ⟨3, ![1, 4096, 2816]⟩
abbrev S2x4096x2816 : Shape := ⟨3, ![2, 4096, 2816]⟩
abbrev S4x1408x1024 : Shape := ⟨3, ![4, 1408, 1024]⟩
abbrev S1x4096x1408 : Shape := ⟨3, ![1, 4096, 1408]⟩
abbrev S1x1408x1024 : Shape := ⟨3, ![1, 1408, 1024]⟩
abbrev S4096x1408 : Shape := ⟨2, ![4096, 1408]⟩
abbrev S1408x1024 : Shape := ⟨2, ![1408, 1024]⟩

abbrev nBuf : Space → Nat
  | .hbm => 10
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x2816, .f32⟩
  | .hbm, ⟨3, _⟩ => ⟨S4096x2816, .f32⟩
  | .hbm, ⟨4, _⟩ => ⟨S4096x1024, .bf16⟩
  | .hbm, ⟨5, _⟩ => ⟨S1x4096x2816, .f32⟩
  | .hbm, ⟨6, _⟩ => ⟨S1x4096x2816, .f32⟩
  | .hbm, ⟨7, _⟩ => ⟨S2x4096x2816, .f32⟩
  | .hbm, ⟨8, _⟩ => ⟨S2x4096x2816, .bf16⟩
  | .hbm, ⟨9, _⟩ => ⟨S4x1408x1024, .bf16⟩
  | .local _ .vmem, ⟨0, _⟩ => ⟨S4096x1024, .bf16⟩
  | .local _ .vmem, ⟨1, _⟩ => ⟨S1x4096x1408, .bf16⟩
  | .local _ .vmem, ⟨2, _⟩ => ⟨S1x4096x1408, .bf16⟩
  | .local _ .vmem, ⟨3, _⟩ => ⟨S1x1408x1024, .bf16⟩
  | .local _ .vmem, ⟨4, _⟩ => ⟨S1x1408x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x4096x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DwFfnInRefIdeal.lean ====
abbrev S4096x1024 : Shape := ⟨2, ![4096, 1024]⟩
abbrev S1024x5632 : Shape := ⟨2, ![1024, 5632]⟩
abbrev S4096x2816 : Shape := ⟨2, ![4096, 2816]⟩
abbrev S4096x5632 : Shape := ⟨2, ![4096, 5632]⟩
abbrev S5632x1024 : Shape := ⟨2, ![5632, 1024]⟩
abbrev S4x1408x1024 : Shape := ⟨3, ![4, 1408, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x2816, .f32⟩
  | .hbm, ⟨3, _⟩ => ⟨S4096x2816, .f32⟩
  | .hbm, ⟨4, _⟩ => ⟨S4096x5632, .f32⟩
  | .hbm, ⟨5, _⟩ => ⟨S4096x2816, .f32⟩
  | .hbm, ⟨6, _⟩ => ⟨S4096x2816, .f32⟩
  | .hbm, ⟨7, _⟩ => ⟨S4096x5632, .f32⟩
  | .hbm, ⟨8, _⟩ => ⟨S5632x1024, .f32⟩
  | .hbm, ⟨9, _⟩ => ⟨S1024x5632, .f32⟩
  | .hbm, ⟨10, _⟩ => ⟨S5632x1024, .f32⟩
  | .hbm, ⟨11, _⟩ => ⟨S4x1408x1024, .f32⟩
  | .hbm, ⟨12, _⟩ => ⟨S4x1408x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== FfnIn.lean ====
abbrev S4096x1024 : Shape := ⟨2, ![4096, 1024]⟩
abbrev S1024 : Shape := ⟨1, ![1024]⟩
abbrev S1024x5632 : Shape := ⟨2, ![1024, 5632]⟩
abbrev S4096x2816 : Shape := ⟨2, ![4096, 2816]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x4096x2816 : Shape := ⟨3, ![1, 4096, 2816]⟩
abbrev S2x4096x2816 : Shape := ⟨3, ![2, 4096, 2816]⟩
abbrev S5632x1024 : Shape := ⟨2, ![5632, 1024]⟩
abbrev S1x1x1024 : Shape := ⟨3, ![1, 1, 1024]⟩
abbrev S8x1024 : Shape := ⟨2, ![8, 1024]⟩
abbrev S2x512x2816 : Shape := ⟨3, ![2, 512, 2816]⟩
abbrev S512x1024 : Shape := ⟨2, ![512, 1024]⟩
abbrev S1x256x2816 : Shape := ⟨3, ![1, 256, 2816]⟩
abbrev S256x2816 : Shape := ⟨2, ![256, 2816]⟩
abbrev S2816x1024 : Shape := ⟨2, ![2816, 1024]⟩
abbrev S256x1024 : Shape := ⟨2, ![256, 1024]⟩
abbrev S256 : Shape := ⟨1, ![256]⟩
abbrev S256x1 : Shape := ⟨2, ![256, 1]⟩

abbrev nBuf : Space → Nat
  | .hbm => 38
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S1024x5632, .f32⟩
  | .hbm, ⟨5, _⟩ => ⟨S4096x1024, .f32⟩
  | .hbm, ⟨6, _⟩ => ⟨S4096x2816, .f32⟩
  | .hbm, ⟨7, _⟩ => ⟨S4096x2816, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S1x4096x2816, .f32⟩
  | .hbm, ⟨26, _⟩ => ⟨S1x4096x2816, .f32⟩
  | .hbm, ⟨27, _⟩ => ⟨S2x4096x2816, .f32⟩
  | .hbm, ⟨28, _⟩ => ⟨S2x4096x2816, .bf16⟩
  | .hbm, ⟨29, _⟩ => ⟨S5632x1024, .f32⟩
  | .hbm, ⟨30, _⟩ => ⟨S5632x1024, .bf16⟩
  | .hbm, ⟨31, _⟩ => ⟨S1x1x1024, .f32⟩
  | .hbm, ⟨32, _⟩ => ⟨S4096x1024, .bf16⟩
  | .hbm, ⟨33, _⟩ => ⟨S1x1x1024, .f32⟩
  | .hbm, ⟨34, _⟩ => ⟨S4096x1024, .f32⟩
  | .hbm, ⟨35, _⟩ => ⟨S4096x1024, .bf16⟩
  | .hbm, ⟨36, _⟩ => ⟨S8x1024, .f32⟩
  | .hbm, ⟨37, _⟩ => ⟨S8x1024, .f32⟩
  | .local _ .vmem, ⟨0, _⟩ => ⟨S2x512x2816, .bf16⟩
  | .local _ .vmem, ⟨1, _⟩ => ⟨S2x512x2816, .bf16⟩
  | .local _ .vmem, ⟨2, _⟩ => ⟨S5632x1024, .bf16⟩
  | .local _ .vmem, ⟨3, _⟩ => ⟨S512x1024, .f32⟩
  | .local _ .vmem, ⟨4, _⟩ => ⟨S512x1024, .f32⟩
  | .local _ .vmem, ⟨5, _⟩ => ⟨S1x1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S1x1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S8x1024, .f32⟩
  | .local _ .vmem, ⟨16, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23_0 : Ref sig .tc := ⟨.hbm, 34, rfl⟩
abbrev main_v23_1 : Ref sig .tc := ⟨.hbm, 35, rfl⟩
abbrev main_v23_2 : Ref sig .tc := ⟨.hbm, 36, rfl⟩
abbrev main_v23_3 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== FfnInRefIdeal.lean ====
abbrev S4096x1024 : Shape := ⟨2, ![4096, 1024]⟩
abbrev S1024 : Shape := ⟨1, ![1024]⟩
abbrev S1024x5632 : Shape := ⟨2, ![1024, 5632]⟩
abbrev S4096x2816 : Shape := ⟨2, ![4096, 2816]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S7x1024 : Shape := ⟨2, ![7, 1024]⟩
abbrev S8x1024 : Shape := ⟨2, ![8, 1024]⟩

abbrev nBuf : Space → Nat
  | .hbm => 115
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S1024x5632, .f32⟩
  | .hbm, ⟨5, _⟩ => ⟨S4096x1024, .f32⟩
  | .hbm, ⟨6, _⟩ => ⟨S4096x2816, .f32⟩
  | .hbm, ⟨7, _⟩ => ⟨S4096x2816, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S4096x1, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S4096x1024, .f32⟩
  | .hbm, ⟨45, _⟩ => ⟨S4096x1024, .f32⟩
  | .hbm, ⟨46, _⟩ => ⟨S1x1024, .f32⟩
  | .hbm, ⟨47, _⟩ => ⟨S4096x1024, .f32⟩
  | .hbm, ⟨48, _⟩ => ⟨S4096x1024, .f32⟩
  | .hbm, ⟨49, _⟩ => ⟨S4096x5632, .f32⟩
  | .hbm, ⟨50, _⟩ => ⟨S4096x2816, .f32⟩
  | .hbm, ⟨51, _⟩ => ⟨S4096x2816, .f32⟩
  | .hbm, ⟨52, _⟩ => ⟨S4096x5632, .f32⟩
  | .hbm, ⟨53, _⟩ => ⟨S4096x1024, .f32⟩
  | .hbm, ⟨54, _⟩ => ⟨S4096x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S4096x1024, .f32⟩
  | .hbm, ⟨59, _⟩ => ⟨S4096x1024, .f32⟩
  | .hbm, ⟨60, _⟩ => ⟨S_, .f32⟩
  | .hbm, ⟨61, _⟩ => ⟨S1024, .f32⟩
  | .hbm, ⟨62, _⟩ => ⟨S4096x1024, .f32⟩
  | .hbm, ⟨63, _⟩ => ⟨S_, .f32⟩
  | .hbm, ⟨64, _⟩ => ⟨S4096, .f32⟩
  | .hbm, ⟨65, _⟩ => ⟨S4096x1, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1, .f32⟩
  | .hbm, ⟨70, _⟩ => ⟨S_, .f32⟩
  | .hbm, ⟨71, _⟩ => ⟨S4096x1, .f32⟩
  | .hbm, ⟨72, _⟩ => ⟨S4096x1, .f32⟩
  | .hbm, ⟨73, _⟩ => ⟨S_, .f32⟩
  | .hbm, ⟨74, _⟩ => ⟨S4096, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S_, .f32⟩
  | .hbm, ⟨83, _⟩ => ⟨S1024, .f32⟩
  | .hbm, ⟨84, _⟩ => ⟨S1x1024, .f32⟩
  | .hbm, ⟨85, _⟩ => ⟨S4096x1024, .f32⟩
  | .hbm, ⟨86, _⟩ => ⟨S4096x1024, .f32⟩
  | .hbm, ⟨87, _⟩ => ⟨S_, .f32⟩
  | .hbm, ⟨88, _⟩ => ⟨S1024, .f32⟩
  | .hbm, ⟨89, _⟩ => ⟨S4096x1024, .f32⟩
  | .hbm, ⟨90, _⟩ => ⟨S_, .f32⟩
  | .hbm, ⟨91, _⟩ => ⟨S4096, .f32⟩
  | .hbm, ⟨92, _⟩ => ⟨S4096x1, .f32⟩
  | .hbm, ⟨93, _⟩ => ⟨S4096x1024, .f32⟩
  | .hbm, ⟨94, _⟩ => ⟨S4096x1024, .f32⟩
  | .hbm, ⟨95, _⟩ => ⟨S4096x1, .f32⟩
  | .hbm, ⟨96, _⟩ => ⟨S_, .f32⟩
  | .hbm, ⟨97, _⟩ => ⟨S4096x1, .f32⟩
  | .hbm, ⟨98, _⟩ => ⟨S4096x1, .f32⟩
  | .hbm, ⟨99, _⟩ => ⟨S_, .f32⟩
  | .hbm, ⟨100, _⟩ => ⟨S4096, .f32⟩
  | .hbm, ⟨101, _⟩ => ⟨S4096x1024, .f32⟩
  | .hbm, ⟨102, _⟩ => ⟨S4096x1024, .f32⟩
  | .hbm, ⟨103, _⟩ => ⟨S4096x1024, .f32⟩
  | .hbm, ⟨104, _⟩ => ⟨S4096x1024, .f32⟩
  | .hbm, ⟨105, _⟩ => ⟨S4096x1024, .f32⟩
  | .hbm, ⟨106, _⟩ => ⟨S4096x1024, .bf16⟩
  | .hbm, ⟨107, _⟩ => ⟨S1x1024, .f32⟩
  | .hbm, ⟨108, _⟩ => ⟨S_, .f32⟩
  | .hbm, ⟨109, _⟩ => ⟨S7x1024, .f32⟩
  | .hbm, ⟨110, _⟩ => ⟨S8x1024, .f32⟩
  | .hbm, ⟨111, _⟩ => ⟨S1x1024, .f32⟩
  | .hbm, ⟨112, _⟩ => ⟨S_, .f32⟩
  | .hbm, ⟨113, _⟩ => ⟨S7x1024, .f32⟩
  | .hbm, ⟨114, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_6 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_8 : Ref sig .tc := ⟨.hbm, 60, rfl⟩
abbrev main_v43 : Ref sig .tc := ⟨.hbm, 61, rfl⟩
abbrev main_v44 : Ref sig .tc := ⟨.hbm, 62, rfl⟩
abbrev main_cst_9 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_10 : Ref sig .tc := ⟨.hbm, 70, rfl⟩
abbrev main_v51 : Ref sig .tc := ⟨.hbm, 71, rfl⟩
abbrev main_v52 : Ref sig .tc := ⟨.hbm, 72, rfl⟩
abbrev main_cst_11 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_12 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_13 : Ref sig .tc := ⟨.hbm, 87, rfl⟩
abbrev main_v65 : Ref sig .tc := ⟨.hbm, 88, rfl⟩
abbrev main_v66 : Ref sig .tc := ⟨.hbm, 89, rfl⟩
abbrev main_cst_14 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_cst_15 : Ref sig .tc := ⟨.hbm, 96, rfl⟩
abbrev main_v72 : Ref sig .tc := ⟨.hbm, 97, rfl⟩
abbrev main_v73 : Ref sig .tc := ⟨.hbm, 98, rfl⟩
abbrev main_cst_16 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_cst_17 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_cst_18 : Ref sig .tc := ⟨.hbm, 112, rfl⟩
abbrev main_v85 : Ref sig .tc := ⟨.hbm, 113, rfl⟩
abbrev main_v86 : Ref sig .tc := ⟨.hbm, 114, rfl⟩

abbrev nD : Nat := 1
abbrev τ : Topo := Topo.v7x

variable {F : FTy → Type} [FloatOps F]
-- ==== DwIn.lean ====
abbrev S4096x1024 : Shape := ⟨2, ![4096, 1024]⟩
abbrev S1024x3072 : Shape := ⟨2, ![1024, 3072]⟩
abbrev S4096x3072 : Shape := ⟨2, ![4096, 3072]⟩
abbrev S8x1024x384 : Shape := ⟨3, ![8, 1024, 384]⟩
abbrev S4096x768 : Shape := ⟨2, ![4096, 768]⟩
abbrev S2x1024x384 : Shape := ⟨3, ![2, 1024, 384]⟩
abbrev S1024x768 : Shape := ⟨2, ![1024, 768]⟩
abbrev S1024x384 : Shape := ⟨2, ![1024, 384]⟩
abbrev S1x1024x384 : Shape := ⟨3, ![1, 1024, 384]⟩

abbrev nBuf : Space → Nat
  | .hbm => 6
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x3072, .f32⟩
  | .hbm, ⟨2, _⟩ => ⟨S4096x3072, .f32⟩
  | .hbm, ⟨3, _⟩ => ⟨S4096x1024, .bf16⟩
  | .hbm, ⟨4, _⟩ => ⟨S4096x3072, .bf16⟩
  | .hbm, ⟨5, _⟩ => ⟨S8x1024x384, .bf16⟩
  | .local _ .vmem, ⟨0, _⟩ => ⟨S4096x1024, .bf16⟩
  | .local _ .vmem, ⟨1, _⟩ => ⟨S4096x768, .bf16⟩
  | .local _ .vmem, ⟨2, _⟩ => ⟨S4096x768, .bf16⟩
  | .local _ .vmem, ⟨3, _⟩ => ⟨S2x1024x384, .bf16⟩
  | .local _ .vmem, ⟨4, _⟩ => ⟨S2x1024x384, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x1024x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DwInRefIdeal.lean ====
abbrev S4096x1024 : Shape := ⟨2, ![4096, 1024]⟩
abbrev S1024x3072 : Shape := ⟨2, ![1024, 3072]⟩
abbrev S4096x3072 : Shape := ⟨2, ![4096, 3072]⟩
abbrev S3072x1024 : Shape := ⟨2, ![3072, 1024]⟩
abbrev S1024x8x384 : Shape := ⟨3, ![1024, 8, 384]⟩
abbrev S8x1024x384 : Shape := ⟨3, ![8, 1024, 384]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x3072, .f32⟩
  | .hbm, ⟨2, _⟩ => ⟨S4096x3072, .f32⟩
  | .hbm, ⟨3, _⟩ => ⟨S4096x3072, .f32⟩
  | .hbm, ⟨4, _⟩ => ⟨S3072x1024, .f32⟩
  | .hbm, ⟨5, _⟩ => ⟨S1024x3072, .f32⟩
  | .hbm, ⟨6, _⟩ => ⟨S1024x8x384, .f32⟩
  | .hbm, ⟨7, _⟩ => ⟨S8x1024x384, .f32⟩
  | .hbm, ⟨8, _⟩ => ⟨S8x1024x384, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InProj.lean ====
abbrev S4096x1024 : Shape := ⟨2, ![4096, 1024]⟩
abbrev S2x1024 : Shape := ⟨2, ![2, 1024]⟩
abbrev S1024x3072 : Shape := ⟨2, ![1024, 3072]⟩
abbrev S4096x3072 : Shape := ⟨2, ![4096, 3072]⟩
abbrev S2x512x8x384 : Shape := ⟨4, ![2, 512, 8, 384]⟩
abbrev S2x8x512x384 : Shape := ⟨4, ![2, 8, 512, 384]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x8x512x384 : Shape := ⟨4, ![1, 8, 512, 384]⟩
abbrev S8x512x384 : Shape := ⟨3, ![8, 512, 384]⟩
abbrev S2x1x1024 : Shape := ⟨3, ![2, 1, 1024]⟩
abbrev S8x1024 : Shape := ⟨2, ![8, 1024]⟩
abbrev S512x3072 : Shape := ⟨2, ![512, 3072]⟩
abbrev S512x1024 : Shape := ⟨2, ![512, 1024]⟩
abbrev S1x1x1024 : Shape := ⟨3, ![1, 1, 1024]⟩
abbrev S1x512x384 : Shape := ⟨3, ![1, 512, 384]⟩
abbrev S512x384 : Shape := ⟨2, ![512, 384]⟩
abbrev S256x3072 : Shape := ⟨2, ![256, 3072]⟩
abbrev S256x1024 : Shape := ⟨2, ![256, 1024]⟩
abbrev S256 : Shape := ⟨1, ![256]⟩
abbrev S256x1 : Shape := ⟨2, ![256, 1]⟩

abbrev nBuf : Space → Nat
  | .hbm => 41
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S2x1024, .f32⟩
  | .hbm, ⟨3, _⟩ => ⟨S2x1024, .f32⟩
  | .hbm, ⟨4, _⟩ => ⟨S1024x3072, .f32⟩
  | .hbm, ⟨5, _⟩ => ⟨S4096x1024, .f32⟩
  | .hbm, ⟨6, _⟩ => ⟨S4096x3072, .f32⟩
  | .hbm, ⟨7, _⟩ => ⟨S1024x3072, .bf16⟩
  | .hbm, ⟨8, _⟩ => ⟨S2x512x8x384, .bf16⟩
  | .hbm, ⟨9, _⟩ => ⟨S2x8x512x384, .bf16⟩
  | .hbm, ⟨10, _⟩ => ⟨S1x1024, .f32⟩
  | .hbm, ⟨11, _⟩ => ⟨S1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x3072, .bf16⟩
  | .hbm, ⟨30, _⟩ => ⟨S1x8x512x384, .bf16⟩
  | .hbm, ⟨31, _⟩ => ⟨S8x512x384, .bf16⟩
  | .hbm, ⟨32, _⟩ => ⟨S1x8x512x384, .bf16⟩
  | .hbm, ⟨33, _⟩ => ⟨S8x512x384, .bf16⟩
  | .hbm, ⟨34, _⟩ => ⟨S2x1x1024, .f32⟩
  | .hbm, ⟨35, _⟩ => ⟨S4096x1024, .bf16⟩
  | .hbm, ⟨36, _⟩ => ⟨S2x1x1024, .f32⟩
  | .hbm, ⟨37, _⟩ => ⟨S4096x1024, .f32⟩
  | .hbm, ⟨38, _⟩ => ⟨S8x1024, .f32⟩
  | .hbm, ⟨39, _⟩ => ⟨S4096x1024, .bf16⟩
  | .hbm, ⟨40, _⟩ => ⟨S8x1024, .f32⟩
  | .local _ .vmem, ⟨0, _⟩ => ⟨S512x3072, .bf16⟩
  | .local _ .vmem, ⟨1, _⟩ => ⟨S512x3072, .bf16⟩
  | .local _ .vmem, ⟨2, _⟩ => ⟨S8x512x384, .bf16⟩
  | .local _ .vmem, ⟨3, _⟩ => ⟨S8x512x384, .bf16⟩
  | .local _ .vmem, ⟨4, _⟩ => ⟨S512x1024, .f32⟩
  | .local _ .vmem, ⟨5, _⟩ => ⟨S512x1024, .f32⟩
  | .local _ .vmem, ⟨6, _⟩ => ⟨S1x1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x1x1024, .f32⟩
  | .local _ .vmem, ⟨12, _⟩ => ⟨S512x1024, .f32⟩
  | .local _ .vmem, ⟨13, _⟩ => ⟨S512x1024, .f32⟩
  | .local _ .vmem, ⟨14, _⟩ => ⟨S8x1024, .f32⟩
  | .local _ .vmem, ⟨15, _⟩ => ⟨S512x1024, .bf16⟩
  | .local _ .vmem, ⟨16, _⟩ => ⟨S512x1024, .bf16⟩
  | .local _ .vmem, ⟨17, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27_0 : Ref sig .tc := ⟨.hbm, 37, rfl⟩
abbrev main_v27_1 : Ref sig .tc := ⟨.hbm, 38, rfl⟩
abbrev main_v27_2 : Ref sig .tc := ⟨.hbm, 39, rfl⟩
abbrev main_v27_3 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16
abbrev cc0_sem11_0 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x512x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x512x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== InProjRefIdeal.lean ====
abbrev S4096x1024 : Shape := ⟨2, ![4096, 1024]⟩
abbrev S2x1024 : Shape := ⟨2, ![2, 1024]⟩
abbrev S1024x3072 : Shape := ⟨2, ![1024, 3072]⟩
abbrev S4096x3072 : Shape := ⟨2, ![4096, 3072]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S7x1024 : Shape := ⟨2, ![7, 1024]⟩
abbrev S8x1024 : Shape := ⟨2, ![8, 1024]⟩

abbrev nBuf : Space → Nat
  | .hbm => 115
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S2x1024, .f32⟩
  | .hbm, ⟨3, _⟩ => ⟨S2x1024, .f32⟩
  | .hbm, ⟨4, _⟩ => ⟨S1024x3072, .f32⟩
  | .hbm, ⟨5, _⟩ => ⟨S4096x1024, .f32⟩
  | .hbm, ⟨6, _⟩ => ⟨S4096x3072, .f32⟩
  | .hbm, ⟨7, _⟩ => ⟨S1x1024, .f32⟩
  | .hbm, ⟨8, _⟩ => ⟨S1024, .f32⟩
  | .hbm, ⟨9, _⟩ => ⟨S1x1024, .f32⟩
  | .hbm, ⟨10, _⟩ => ⟨S1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S4096x1024, .f32⟩
  | .hbm, ⟨48, _⟩ => ⟨S4096x1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S4096x3072, .f32⟩
  | .hbm, ⟨53, _⟩ => ⟨S4096x1024, .f32⟩
  | .hbm, ⟨54, _⟩ => ⟨S4096x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S4096x1024, .f32⟩
  | .hbm, ⟨59, _⟩ => ⟨S4096x1024, .f32⟩
  | .hbm, ⟨60, _⟩ => ⟨S_, .f32⟩
  | .hbm, ⟨61, _⟩ => ⟨S1024, .f32⟩
  | .hbm, ⟨62, _⟩ => ⟨S4096x1024, .f32⟩
  | .hbm, ⟨63, _⟩ => ⟨S_, .f32⟩
  | .hbm, ⟨64, _⟩ => ⟨S4096, .f32⟩
  | .hbm, ⟨65, _⟩ => ⟨S4096x1, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1, .f32⟩
  | .hbm, ⟨70, _⟩ => ⟨S_, .f32⟩
  | .hbm, ⟨71, _⟩ => ⟨S4096x1, .f32⟩
  | .hbm, ⟨72, _⟩ => ⟨S4096x1, .f32⟩
  | .hbm, ⟨73, _⟩ => ⟨S_, .f32⟩
  | .hbm, ⟨74, _⟩ => ⟨S4096, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S_, .f32⟩
  | .hbm, ⟨83, _⟩ => ⟨S1024, .f32⟩
  | .hbm, ⟨84, _⟩ => ⟨S1x1024, .f32⟩
  | .hbm, ⟨85, _⟩ => ⟨S4096x1024, .f32⟩
  | .hbm, ⟨86, _⟩ => ⟨S4096x1024, .f32⟩
  | .hbm, ⟨87, _⟩ => ⟨S_, .f32⟩
  | .hbm, ⟨88, _⟩ => ⟨S1024, .f32⟩
  | .hbm, ⟨89, _⟩ => ⟨S4096x1024, .f32⟩
  | .hbm, ⟨90, _⟩ => ⟨S_, .f32⟩
  | .hbm, ⟨91, _⟩ => ⟨S4096, .f32⟩
  | .hbm, ⟨92, _⟩ => ⟨S4096x1, .f32⟩
  | .hbm, ⟨93, _⟩ => ⟨S4096x1024, .f32⟩
  | .hbm, ⟨94, _⟩ => ⟨S4096x1024, .f32⟩
  | .hbm, ⟨95, _⟩ => ⟨S4096x1, .f32⟩
  | .hbm, ⟨96, _⟩ => ⟨S_, .f32⟩
  | .hbm, ⟨97, _⟩ => ⟨S4096x1, .f32⟩
  | .hbm, ⟨98, _⟩ => ⟨S4096x1, .f32⟩
  | .hbm, ⟨99, _⟩ => ⟨S_, .f32⟩
  | .hbm, ⟨100, _⟩ => ⟨S4096, .f32⟩
  | .hbm, ⟨101, _⟩ => ⟨S4096x1024, .f32⟩
  | .hbm, ⟨102, _⟩ => ⟨S4096x1024, .f32⟩
  | .hbm, ⟨103, _⟩ => ⟨S4096x1024, .f32⟩
  | .hbm, ⟨104, _⟩ => ⟨S4096x1024, .f32⟩
  | .hbm, ⟨105, _⟩ => ⟨S4096x1024, .f32⟩
  | .hbm, ⟨106, _⟩ => ⟨S1x1024, .f32⟩
  | .hbm, ⟨107, _⟩ => ⟨S_, .f32⟩
  | .hbm, ⟨108, _⟩ => ⟨S7x1024, .f32⟩
  | .hbm, ⟨109, _⟩ => ⟨S8x1024, .f32⟩
  | .hbm, ⟨110, _⟩ => ⟨S4096x1024, .bf16⟩
  | .hbm, ⟨111, _⟩ => ⟨S1x1024, .f32⟩
  | .hbm, ⟨112, _⟩ => ⟨S_, .f32⟩
  | .hbm, ⟨113, _⟩ => ⟨S7x1024, .f32⟩
  | .hbm, ⟨114, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_8 : Ref sig .tc := ⟨.hbm, 60, rfl⟩
abbrev main_v44 : Ref sig .tc := ⟨.hbm, 61, rfl⟩
abbrev main_v45 : Ref sig .tc := ⟨.hbm, 62, rfl⟩
abbrev main_cst_9 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_10 : Ref sig .tc := ⟨.hbm, 70, rfl⟩
abbrev main_v52 : Ref sig .tc := ⟨.hbm, 71, rfl⟩
abbrev main_v53 : Ref sig .tc := ⟨.hbm, 72, rfl⟩
abbrev main_cst_11 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_12 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_13 : Ref sig .tc := ⟨.hbm, 87, rfl⟩
abbrev main_v66 : Ref sig .tc := ⟨.hbm, 88, rfl⟩
abbrev main_v67 : Ref sig .tc := ⟨.hbm, 89, rfl⟩
abbrev main_cst_14 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_cst_15 : Ref sig .tc := ⟨.hbm, 96, rfl⟩
abbrev main_v73 : Ref sig .tc := ⟨.hbm, 97, rfl⟩
abbrev main_v74 : Ref sig .tc := ⟨.hbm, 98, rfl⟩
abbrev main_cst_16 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_cst_17 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_cst_18 : Ref sig .tc := ⟨.hbm, 112, rfl⟩
abbrev main_v86 : Ref sig .tc := ⟨.hbm, 113, rfl⟩
abbrev main_v87 : Ref sig .tc := ⟨.hbm, 114, rfl⟩

abbrev nD : Nat := 1
abbrev τ : Topo := Topo.v7x

variable {F : FTy → Type} [FloatOps F]
-- ==== OutProj.lean ====
abbrev S4096x512 : Shape := ⟨2, ![4096, 512]⟩
abbrev S1x4096x512 : Shape := ⟨3, ![1, 4096, 512]⟩
abbrev S512 : Shape := ⟨1, ![512]⟩
abbrev S1024x1024 : Shape := ⟨2, ![1024, 1024]⟩
abbrev S4096x1024 : Shape := ⟨2, ![4096, 1024]⟩
abbrev S1x4096x8x64 : Shape := ⟨4, ![1, 4096, 8, 64]⟩
abbrev S_ : Shape := ⟨0, ![]⟩
abbrev S1x4096x8 : Shape := ⟨3, ![1, 4096, 8]⟩
abbrev S1x4096x8x1 : Shape := ⟨4, ![1, 4096, 8, 1]⟩
abbrev S1x1x512 : Shape := ⟨3, ![1, 1, 512]⟩
abbrev S8x512 : Shape := ⟨2, ![8, 512]⟩
abbrev S1024x512 : Shape := ⟨2, ![1024, 512]⟩
abbrev S128x128 : Shape := ⟨2, ![128, 128]⟩
abbrev S512x1024 : Shape := ⟨2, ![512, 1024]⟩
abbrev S256x1024 : Shape := ⟨2, ![256, 1024]⟩
abbrev S256x512 : Shape := ⟨2, ![256, 512]⟩
abbrev S256x128 : Shape := ⟨2, ![256, 128]⟩
abbrev S1x1x128 : Shape := ⟨3, ![1, 1, 128]⟩
abbrev S1x128 : Shape := ⟨2, ![1, 128]⟩
abbrev S128 : Shape := ⟨1, ![128]⟩

abbrev nBuf : Space → Nat
  | .hbm => 34
  | .vmem => 17
  | .smem => 0
  | _ => 0

abbrev bufTy : (tb : Table) → Fin (tcTables nBuf tb) → BufTy
  | .hbm, ⟨0, _⟩ => ⟨S4096x512, .f32⟩
  | .hbm, ⟨1, _⟩ => ⟨S1x4096x512, .f32⟩
  | .hbm, ⟨2, _⟩ => ⟨S512, .f32⟩
  | .hbm, ⟨3, _⟩ => ⟨S1024x1024, .f32⟩
  | .hbm, ⟨4, _⟩ => ⟨S4096x1024, .f32⟩
  | .hbm, ⟨5, _⟩ => ⟨S1x4096x8x64, .f32⟩
  | .hbm, ⟨6, _⟩ => ⟨S1x4096x8x64, .f32⟩
  | .hbm, ⟨7, _⟩ => ⟨S_, .f32⟩
  | .hbm, ⟨8, _⟩ => ⟨S1x4096x8, .f32⟩
  | .hbm, ⟨9, _⟩ => ⟨S1x4096x8x1, .f32⟩
  | .hbm, ⟨10, _⟩ => ⟨S_, .f32⟩
  | .hbm, ⟨11, _⟩ => ⟨S1x4096x8x1, .f32⟩
  | .hbm, ⟨12, _⟩ => ⟨S1x4096x8x1, .f32⟩
  | .hbm, ⟨13, _⟩ => ⟨S_, .f32⟩
  | .hbm, ⟨14, _⟩ => ⟨S1x4096x8x1, .f32⟩
  | .hbm, ⟨15, _⟩ => ⟨S1x4096x8x1, .f32⟩
  | .hbm, ⟨16, _⟩ => ⟨S1x4096x8x1, .f32⟩
  | .hbm, ⟨17, _⟩ => ⟨S1x4096x8x64, .f32⟩
  | .hbm, ⟨18, _⟩ => ⟨S1x4096x8x64, .f32⟩
  | .hbm, ⟨19, _⟩ => ⟨S1x4096x512, .f32⟩
  | .hbm, ⟨20, _⟩ => ⟨S1x1x512, .f32⟩
  | .hbm, ⟨21, _⟩ => ⟨S1x4096x512, .f32⟩
  | .hbm, ⟨22, _⟩ => ⟨S1x4096x512, .f32⟩
  | .hbm, ⟨23, _⟩ => ⟨S4096x1024, .bf16⟩
  | .hbm, ⟨24, _⟩ => ⟨S1024x1024, .bf16⟩
  | .hbm, ⟨25, _⟩ => ⟨S4096x512, .f32⟩
  | .hbm, ⟨26, _⟩ => ⟨S1x1x512, .f32⟩
  | .hbm, ⟨27, _⟩ => ⟨S4096x512, .bf16⟩
  | .hbm, ⟨28, _⟩ => ⟨S4096x512, .f32⟩
  | .hbm, ⟨29, _⟩ => ⟨S4096x512, .bf16⟩
  | .hbm, ⟨30, _⟩ => ⟨S4096x512, .f32⟩
  | .hbm, ⟨31, _⟩ => ⟨S4096x512, .f32⟩
  | .hbm, ⟨32, _⟩ => ⟨S8x512, .f32⟩
  | .hbm, ⟨33, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x512, .f32⟩
  | .local _ .vmem, ⟨4, _⟩ => ⟨S1024x512, .f32⟩
  | .local _ .vmem, ⟨5, _⟩ => ⟨S1x1x512, .f32⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S8x512, .f32⟩
  | .local _ .vmem, ⟨15, _⟩ => ⟨S1024x1024, .bf16⟩
  | .local _ .vmem, ⟨16, _⟩ => ⟨S1024x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22_0 : Ref sig .tc := ⟨.hbm, 30, rfl⟩
abbrev main_v22_1 : Ref sig .tc := ⟨.hbm, 31, rfl⟩
abbrev main_v22_2 : Ref sig .tc := ⟨.hbm, 32, rfl⟩
abbrev main_v22_3 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v32 : BitVec 1 := Scalar.cmpi .eq arg0 c3_i32
  let v33 : BitVec 32 := Scalar.extui v32
  let c0_i32_17 : BitVec 32 := 0#32
  let v34 : BitVec 1 := Scalar.cmpi .ne v33 c0_i32_17
  v34

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== OutProjRefIdeal.lean ====
abbrev S4096x512 : Shape := ⟨2, ![4096, 512]⟩
abbrev S1x4096x512 : Shape := ⟨3, ![1, 4096, 512]⟩
abbrev S512 : Shape := ⟨1, ![512]⟩
abbrev S1024x1024 : Shape := ⟨2, ![1024, 1024]⟩
abbrev S4096x1024 : Shape := ⟨2, ![4096, 1024]⟩
abbrev S1x4096x8x64 : Shape := ⟨4, ![1, 4096, 8, 64]⟩
abbrev S_ : Shape := ⟨0, ![]⟩
abbrev S1x4096x8 : Shape := ⟨3, ![1, 4096, 8]⟩
abbrev S1x4096x8x1 : Shape := ⟨4, ![1, 4096, 8, 1]⟩
abbrev S1x1x512 : Shape := ⟨3, ![1, 1, 512]⟩
abbrev S1x512 : Shape := ⟨2, ![1, 512]⟩
abbrev S4096x8 : Shape := ⟨2, ![4096, 8]⟩
abbrev S7x512 : Shape := ⟨2, ![7, 512]⟩
abbrev S8x512 : Shape := ⟨2, ![8, 512]⟩

abbrev nBuf : Space → Nat
  | .hbm => 70
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S1x4096x512, .f32⟩
  | .hbm, ⟨2, _⟩ => ⟨S512, .f32⟩
  | .hbm, ⟨3, _⟩ => ⟨S1024x1024, .f32⟩
  | .hbm, ⟨4, _⟩ => ⟨S4096x1024, .f32⟩
  | .hbm, ⟨5, _⟩ => ⟨S1x4096x8x64, .f32⟩
  | .hbm, ⟨6, _⟩ => ⟨S1x4096x8x64, .f32⟩
  | .hbm, ⟨7, _⟩ => ⟨S_, .f32⟩
  | .hbm, ⟨8, _⟩ => ⟨S1x4096x8, .f32⟩
  | .hbm, ⟨9, _⟩ => ⟨S1x4096x8x1, .f32⟩
  | .hbm, ⟨10, _⟩ => ⟨S_, .f32⟩
  | .hbm, ⟨11, _⟩ => ⟨S1x4096x8x1, .f32⟩
  | .hbm, ⟨12, _⟩ => ⟨S1x4096x8x1, .f32⟩
  | .hbm, ⟨13, _⟩ => ⟨S_, .f32⟩
  | .hbm, ⟨14, _⟩ => ⟨S1x4096x8x1, .f32⟩
  | .hbm, ⟨15, _⟩ => ⟨S1x4096x8x1, .f32⟩
  | .hbm, ⟨16, _⟩ => ⟨S1x4096x8x1, .f32⟩
  | .hbm, ⟨17, _⟩ => ⟨S1x4096x8x1, .f32⟩
  | .hbm, ⟨18, _⟩ => ⟨S_, .f32⟩
  | .hbm, ⟨19, _⟩ => ⟨S1x4096x8x1, .f32⟩
  | .hbm, ⟨20, _⟩ => ⟨S1x4096x8x1, .f32⟩
  | .hbm, ⟨21, _⟩ => ⟨S1x4096x8x64, .f32⟩
  | .hbm, ⟨22, _⟩ => ⟨S1x4096x8x64, .f32⟩
  | .hbm, ⟨23, _⟩ => ⟨S1x4096x512, .f32⟩
  | .hbm, ⟨24, _⟩ => ⟨S1x1x512, .f32⟩
  | .hbm, ⟨25, _⟩ => ⟨S1x4096x512, .f32⟩
  | .hbm, ⟨26, _⟩ => ⟨S1x4096x512, .f32⟩
  | .hbm, ⟨27, _⟩ => ⟨S4096x512, .f32⟩
  | .hbm, ⟨28, _⟩ => ⟨S4096x1024, .f32⟩
  | .hbm, ⟨29, _⟩ => ⟨S4096x1024, .f32⟩
  | .hbm, ⟨30, _⟩ => ⟨S1024x1024, .f32⟩
  | .hbm, ⟨31, _⟩ => ⟨S1024x1024, .f32⟩
  | .hbm, ⟨32, _⟩ => ⟨S4096x1024, .f32⟩
  | .hbm, ⟨33, _⟩ => ⟨S4096x512, .f32⟩
  | .hbm, ⟨34, _⟩ => ⟨S4096x512, .f32⟩
  | .hbm, ⟨35, _⟩ => ⟨S1x4096x512, .f32⟩
  | .hbm, ⟨36, _⟩ => ⟨S1x4096x512, .f32⟩
  | .hbm, ⟨37, _⟩ => ⟨S_, .f32⟩
  | .hbm, ⟨38, _⟩ => ⟨S1x512, .f32⟩
  | .hbm, ⟨39, _⟩ => ⟨S1x1x512, .f32⟩
  | .hbm, ⟨40, _⟩ => ⟨S1x4096x512, .f32⟩
  | .hbm, ⟨41, _⟩ => ⟨S1x4096x512, .f32⟩
  | .hbm, ⟨42, _⟩ => ⟨S_, .f32⟩
  | .hbm, ⟨43, _⟩ => ⟨S512, .f32⟩
  | .hbm, ⟨44, _⟩ => ⟨S1x4096x8x64, .f32⟩
  | .hbm, ⟨45, _⟩ => ⟨S1x4096x8x64, .f32⟩
  | .hbm, ⟨46, _⟩ => ⟨S_, .f32⟩
  | .hbm, ⟨47, _⟩ => ⟨S1x4096x8, .f32⟩
  | .hbm, ⟨48, _⟩ => ⟨S1x4096x8x1, .f32⟩
  | .hbm, ⟨49, _⟩ => ⟨S1x4096x8x64, .f32⟩
  | .hbm, ⟨50, _⟩ => ⟨S1x4096x8x64, .f32⟩
  | .hbm, ⟨51, _⟩ => ⟨S1x4096x8x1, .f32⟩
  | .hbm, ⟨52, _⟩ => ⟨S_, .f32⟩
  | .hbm, ⟨53, _⟩ => ⟨S1x4096x8x1, .f32⟩
  | .hbm, ⟨54, _⟩ => ⟨S1x4096x8x1, .f32⟩
  | .hbm, ⟨55, _⟩ => ⟨S_, .f32⟩
  | .hbm, ⟨56, _⟩ => ⟨S4096x8, .f32⟩
  | .hbm, ⟨57, _⟩ => ⟨S1x4096x8, .f32⟩
  | .hbm, ⟨58, _⟩ => ⟨S1x4096x8x64, .f32⟩
  | .hbm, ⟨59, _⟩ => ⟨S1x4096x8x64, .f32⟩
  | .hbm, ⟨60, _⟩ => ⟨S1x4096x8x64, .f32⟩
  | .hbm, ⟨61, _⟩ => ⟨S1x4096x8x64, .f32⟩
  | .hbm, ⟨62, _⟩ => ⟨S1x4096x8x64, .f32⟩
  | .hbm, ⟨63, _⟩ => ⟨S1x4096x512, .f32⟩
  | .hbm, ⟨64, _⟩ => ⟨S4096x512, .f32⟩
  | .hbm, ⟨65, _⟩ => ⟨S1x512, .f32⟩
  | .hbm, ⟨66, _⟩ => ⟨S_, .f32⟩
  | .hbm, ⟨67, _⟩ => ⟨S7x512, .f32⟩
  | .hbm, ⟨68, _⟩ => ⟨S8x512, .f32⟩
  | .hbm, ⟨69, _⟩ => ⟨S1024x1024, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_4 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_6 : Ref sig .tc := ⟨.hbm, 52, rfl⟩
abbrev main_v40 : Ref sig .tc := ⟨.hbm, 53, rfl⟩
abbrev main_v41 : Ref sig .tc := ⟨.hbm, 54, rfl⟩
abbrev main_cst_7 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_8 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩

abbrev nD : Nat := 1
abbrev τ : Topo := Topo.v7x

variable {F : FTy → Type} [FloatOps F]
-- ==== FfnInFwd.lean ====
abbrev S4096x1024 : Shape := ⟨2, ![4096, 1024]⟩
abbrev S1024x5632 : Shape := ⟨2, ![1024, 5632]⟩
abbrev S5632x1024 : Shape := ⟨2, ![5632, 1024]⟩
abbrev S4x1408x1024 : Shape := ⟨3, ![4, 1408, 1024]⟩
abbrev S2x4096x2816 : Shape := ⟨3, ![2, 4096, 2816]⟩
abbrev S4096x2816 : Shape := ⟨2, ![4096, 2816]⟩
abbrev S1024x1024 : Shape := ⟨2, ![1024, 1024]⟩
abbrev S1x1408x1024 : Shape := ⟨3, ![1, 1408, 1024]⟩
abbrev S2x1024x1408 : Shape := ⟨3, ![2, 1024, 1408]⟩
abbrev S1024x1408 : Shape := ⟨2, ![1024, 1408]⟩
abbrev S1x768x1024 : Shape := ⟨3, ![1, 768, 1024]⟩
abbrev S768x1024 : Shape := ⟨2, ![768, 1024]⟩
abbrev S1024x768 : Shape := ⟨2, ![1024, 768]⟩
abbrev S1x1024x768 : Shape := ⟨3, ![1, 1024, 768]⟩
abbrev S1x640x1024 : Shape := ⟨3, ![1, 640, 1024]⟩
abbrev S640x1024 : Shape := ⟨2, ![640, 1024]⟩
abbrev S1024x640 : Shape := ⟨2, ![1024, 640]⟩
abbrev S1x1024x640 : Shape := ⟨3, ![1, 1024, 640]⟩

abbrev nBuf : Space → Nat
  | .hbm => 8
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x1024, .bf16⟩
  | .hbm, ⟨3, _⟩ => ⟨S5632x1024, .f32⟩
  | .hbm, ⟨4, _⟩ => ⟨S4x1408x1024, .f32⟩
  | .hbm, ⟨5, _⟩ => ⟨S4x1408x1024, .bf16⟩
  | .hbm, ⟨6, _⟩ => ⟨S2x4096x2816, .bf16⟩
  | .hbm, ⟨7, _⟩ => ⟨S4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1x1408x1024, .bf16⟩
  | .local _ .vmem, ⟨3, _⟩ => ⟨S1x1408x1024, .bf16⟩
  | .local _ .vmem, ⟨4, _⟩ => ⟨S1x1408x1024, .bf16⟩
  | .local _ .vmem, ⟨5, _⟩ => ⟨S1x1408x1024, .bf16⟩
  | .local _ .vmem, ⟨6, _⟩ => ⟨S2x1024x1408, .bf16⟩
  | .local _ .vmem, ⟨7, _⟩ => ⟨S2x1024x1408, .bf16⟩
  | .local _ .vmem, ⟨8, _⟩ => ⟨S1024x1408, .bf16⟩
  | .local _ .vmem, ⟨9, _⟩ => ⟨S1024x1408, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FfnInFwdRefIdeal.lean ====
abbrev S4096x1024 : Shape := ⟨2, ![4096, 1024]⟩
abbrev S1024x5632 : Shape := ⟨2, ![1024, 5632]⟩
abbrev S4096x5632 : Shape := ⟨2, ![4096, 5632]⟩
abbrev S4096x2816 : Shape := ⟨2, ![4096, 2816]⟩
abbrev S1x4096x2816 : Shape := ⟨3, ![1, 4096, 2816]⟩
abbrev S2x4096x2816 : Shape := ⟨3, ![2, 4096, 2816]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x5632, .f32⟩
  | .hbm, ⟨3, _⟩ => ⟨S4096x2816, .f32⟩
  | .hbm, ⟨4, _⟩ => ⟨S4096x2816, .f32⟩
  | .hbm, ⟨5, _⟩ => ⟨S1x4096x2816, .f32⟩
  | .hbm, ⟨6, _⟩ => ⟨S1x4096x2816, .f32⟩
  | .hbm, ⟨7, _⟩ => ⟨S2x4096x2816, .f32⟩
  | .hbm, ⟨8, _⟩ => ⟨S2x4096x2816, .bf16⟩
  | .hbm, ⟨9, _⟩ => ⟨S4096x2816, .f32⟩
  | .hbm, ⟨10, _⟩ => ⟨S4096x2816, .f32⟩
  | .hbm, ⟨11, _⟩ => ⟨S_, .f32⟩
  | .hbm, ⟨12, _⟩ => ⟨S4096x2816, .f32⟩
  | .hbm, ⟨13, _⟩ => ⟨S4096x2816, .f32⟩
  | .hbm, ⟨14, _⟩ => ⟨S_, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩

abbrev nD : Nat := 1
abbrev τ : Topo := Topo.v7x

variable {F : FTy → Type} [FloatOps F]
-- ==== FfnOutFwd.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S_ : Shape := ⟨0, ![]⟩
abbrev S1x1x1024 : Shape := ⟨3, ![1, 1, 1024]⟩
abbrev S512x2816 : Shape := ⟨2, ![512, 2816]⟩
abbrev S512x1024 : Shape := ⟨2, ![512, 1024]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩
abbrev S1x1024 : Shape := ⟨2, ![1, 1024]⟩

abbrev nBuf : Space → Nat
  | .hbm => 23
  | .vmem => 13
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S2816x1024, .f32⟩
  | .hbm, ⟨3, _⟩ => ⟨S4096x1024, .f32⟩
  | .hbm, ⟨4, _⟩ => ⟨S1024, .f32⟩
  | .hbm, ⟨5, _⟩ => ⟨S1024, .f32⟩
  | .hbm, ⟨6, _⟩ => ⟨S4096x2816, .f32⟩
  | .hbm, ⟨7, _⟩ => ⟨S4096x2816, .f32⟩
  | .hbm, ⟨8, _⟩ => ⟨S_, .f32⟩
  | .hbm, ⟨9, _⟩ => ⟨S4096x2816, .f32⟩
  | .hbm, ⟨10, _⟩ => ⟨S4096x2816, .f32⟩
  | .hbm, ⟨11, _⟩ => ⟨S_, .f32⟩
  | .hbm, ⟨12, _⟩ => ⟨S4096x2816, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .bf16⟩
  | .hbm, ⟨17, _⟩ => ⟨S2816x1024, .bf16⟩
  | .hbm, ⟨18, _⟩ => ⟨S1x1x1024, .f32⟩
  | .hbm, ⟨19, _⟩ => ⟨S1x1x1024, .f32⟩
  | .hbm, ⟨20, _⟩ => ⟨S4096x1024, .bf16⟩
  | .hbm, ⟨21, _⟩ => ⟨S4096x1024, .f32⟩
  | .hbm, ⟨22, _⟩ => ⟨S4096x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1x1024, .f32⟩
  | .local _ .vmem, ⟨6, _⟩ => ⟨S1x1x1024, .f32⟩
  | .local _ .vmem, ⟨7, _⟩ => ⟨S512x1024, .bf16⟩
  | .local _ .vmem, ⟨8, _⟩ => ⟨S512x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6_0 : Ref sig .tc := ⟨.hbm, 20, rfl⟩
abbrev main_v6_1 : Ref sig .tc := ⟨.hbm, 21, rfl⟩
abbrev main_v6_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FfnOutFwdRefIdeal.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 52
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S2816x1024, .f32⟩
  | .hbm, ⟨3, _⟩ => ⟨S4096x1024, .f32⟩
  | .hbm, ⟨4, _⟩ => ⟨S1024, .f32⟩
  | .hbm, ⟨5, _⟩ => ⟨S1024, .f32⟩
  | .hbm, ⟨6, _⟩ => ⟨S4096x2816, .f32⟩
  | .hbm, ⟨7, _⟩ => ⟨S4096x2816, .f32⟩
  | .hbm, ⟨8, _⟩ => ⟨S_, .f32⟩
  | .hbm, ⟨9, _⟩ => ⟨S4096x2816, .f32⟩
  | .hbm, ⟨10, _⟩ => ⟨S4096x2816, .f32⟩
  | .hbm, ⟨11, _⟩ => ⟨S_, .f32⟩
  | .hbm, ⟨12, _⟩ => ⟨S4096x2816, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .bf16⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S4096x1, .f32⟩
  | .hbm, ⟨46, _⟩ => ⟨S4096x1024, .f32⟩
  | .hbm, ⟨47, _⟩ => ⟨S4096x1024, .f32⟩
  | .hbm, ⟨48, _⟩ => ⟨S1x1024, .f32⟩
  | .hbm, ⟨49, _⟩ => ⟨S4096x1024, .f32⟩
  | .hbm, ⟨50, _⟩ => ⟨S4096x1024, .f32⟩
  | .hbm, ⟨51, _⟩ => ⟨S4096x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_v5 : Ref sig .tc := ⟨.hbm, 20, rfl⟩
abbrev main_cst_0 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_cst_4 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩

abbrev nD : Nat := 1
abbrev τ : Topo := Topo.v7x

variable {F : FTy → Type} [FloatOps F]
-- ==== InProjQkv.lean ====
abbrev S4096x1024 : Shape := ⟨2, ![4096, 1024]⟩
abbrev S1024x3072 : Shape := ⟨2, ![1024, 3072]⟩
abbrev S2x512x8x384 : Shape := ⟨4, ![2, 512, 8, 384]⟩
abbrev S2x8x512x384 : Shape := ⟨4, ![2, 8, 512, 384]⟩
abbrev S1x8x512x384 : Shape := ⟨4, ![1, 8, 512, 384]⟩
abbrev S8x512x384 : Shape := ⟨3, ![8, 512, 384]⟩
abbrev S5120x1536 : Shape := ⟨2, ![5120, 1536]⟩
abbrev S1024x1024 : Shape := ⟨2, ![1024, 1024]⟩
abbrev S4x512x384 : Shape := ⟨3, ![4, 512, 384]⟩
abbrev S1024x1536 : Shape := ⟨2, ![1024, 1536]⟩
abbrev S1x512x384 : Shape := ⟨3, ![1, 512, 384]⟩
abbrev S512x384 : Shape := ⟨2, ![512, 384]⟩
abbrev S512x1536 : Shape := ⟨2, ![512, 1536]⟩

abbrev nBuf : Space → Nat
  | .hbm => 11
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x3072, .f32⟩
  | .hbm, ⟨2, _⟩ => ⟨S1024x3072, .bf16⟩
  | .hbm, ⟨3, _⟩ => ⟨S2x512x8x384, .bf16⟩
  | .hbm, ⟨4, _⟩ => ⟨S2x8x512x384, .bf16⟩
  | .hbm, ⟨5, _⟩ => ⟨S4096x1024, .bf16⟩
  | .hbm, ⟨6, _⟩ => ⟨S1x8x512x384, .bf16⟩
  | .hbm, ⟨7, _⟩ => ⟨S8x512x384, .bf16⟩
  | .hbm, ⟨8, _⟩ => ⟨S1x8x512x384, .bf16⟩
  | .hbm, ⟨9, _⟩ => ⟨S8x512x384, .bf16⟩
  | .hbm, ⟨10, _⟩ => ⟨S5120x1536, .bf16⟩
  | .local _ .vmem, ⟨0, _⟩ => ⟨S1024x1024, .bf16⟩
  | .local _ .vmem, ⟨1, _⟩ => ⟨S1024x1024, .bf16⟩
  | .local _ .vmem, ⟨2, _⟩ => ⟨S4x512x384, .bf16⟩
  | .local _ .vmem, ⟨3, _⟩ => ⟨S4x512x384, .bf16⟩
  | .local _ .vmem, ⟨4, _⟩ => ⟨S1024x1536, .bf16⟩
  | .local _ .vmem, ⟨5, _⟩ => ⟨S1024x1536, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![5], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x512x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x512x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== InProjQkvRefIdeal.lean ====
abbrev S4096x1024 : Shape := ⟨2, ![4096, 1024]⟩
abbrev S1024x3072 : Shape := ⟨2, ![1024, 3072]⟩
abbrev S4096x3072 : Shape := ⟨2, ![4096, 3072]⟩
abbrev S_ : Shape := ⟨0, ![]⟩
abbrev S1024x1536 : Shape := ⟨2, ![1024, 1536]⟩
abbrev S4096x1536 : Shape := ⟨2, ![4096, 1536]⟩
abbrev S5120x1536 : Shape := ⟨2, ![5120, 1536]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x3072, .f32⟩
  | .hbm, ⟨2, _⟩ => ⟨S4096x3072, .f32⟩
  | .hbm, ⟨3, _⟩ => ⟨S_, .f32⟩
  | .hbm, ⟨4, _⟩ => ⟨S1024x1536, .f32⟩
  | .hbm, ⟨5, _⟩ => ⟨S4096x1536, .f32⟩
  | .hbm, ⟨6, _⟩ => ⟨S5120x1536, .f32⟩
  | .hbm, ⟨7, _⟩ => ⟨S5120x1536, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutProjFwd.lean ====
abbrev S4096x512 : Shape := ⟨2, ![4096, 512]⟩
abbrev S1024x1024 : Shape := ⟨2, ![1024, 1024]⟩
abbrev S4096x1024 : Shape := ⟨2, ![4096, 1024]⟩
abbrev S1024 : Shape := ⟨1, ![1024]⟩
abbrev S1x1x1024 : Shape := ⟨3, ![1, 1, 1024]⟩
abbrev S1024x512 : Shape := ⟨2, ![1024, 512]⟩
abbrev S256x512 : Shape := ⟨2, ![256, 512]⟩
abbrev S512x1024 : Shape := ⟨2, ![512, 1024]⟩
abbrev S256x1024 : Shape := ⟨2, ![256, 1024]⟩
abbrev S256 : Shape := ⟨1, ![256]⟩
abbrev S256x1 : Shape := ⟨2, ![256, 1]⟩
abbrev S1x1024 : Shape := ⟨2, ![1, 1024]⟩

abbrev nBuf : Space → Nat
  | .hbm => 14
  | .vmem => 15
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S1024x1024, .f32⟩
  | .hbm, ⟨3, _⟩ => ⟨S4096x1024, .f32⟩
  | .hbm, ⟨4, _⟩ => ⟨S1024, .f32⟩
  | .hbm, ⟨5, _⟩ => ⟨S1024, .f32⟩
  | .hbm, ⟨6, _⟩ => ⟨S4096x512, .bf16⟩
  | .hbm, ⟨7, _⟩ => ⟨S4096x512, .bf16⟩
  | .hbm, ⟨8, _⟩ => ⟨S1024x1024, .bf16⟩
  | .hbm, ⟨9, _⟩ => ⟨S1x1x1024, .f32⟩
  | .hbm, ⟨10, _⟩ => ⟨S1x1x1024, .f32⟩
  | .hbm, ⟨11, _⟩ => ⟨S4096x1024, .bf16⟩
  | .hbm, ⟨12, _⟩ => ⟨S4096x1024, .f32⟩
  | .hbm, ⟨13, _⟩ => ⟨S4096x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .bf16⟩
  | .local _ .vmem, ⟨5, _⟩ => ⟨S1024x1024, .f32⟩
  | .local _ .vmem, ⟨6, _⟩ => ⟨S1024x1024, .f32⟩
  | .local _ .vmem, ⟨7, _⟩ => ⟨S1x1x1024, .f32⟩
  | .local _ .vmem, ⟨8, _⟩ => ⟨S1x1x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .f32⟩
  | .local _ .vmem, ⟨12, _⟩ => ⟨S1024x1024, .f32⟩
  | .local _ .vmem, ⟨13, _⟩ => ⟨S1024x1024, .bf16⟩
  | .local _ .vmem, ⟨14, _⟩ => ⟨S1024x1024, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OutProjFwdRefIdeal.lean ====
abbrev S4096x512 : Shape := ⟨2, ![4096, 512]⟩
abbrev S1024x1024 : Shape := ⟨2, ![1024, 1024]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 43
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S1024x1024, .f32⟩
  | .hbm, ⟨3, _⟩ => ⟨S4096x1024, .f32⟩
  | .hbm, ⟨4, _⟩ => ⟨S1024, .f32⟩
  | .hbm, ⟨5, _⟩ => ⟨S1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .bf16⟩
  | .hbm, ⟨26, _⟩ => ⟨S4096x1024, .f32⟩
  | .hbm, ⟨27, _⟩ => ⟨S_, .f32⟩
  | .hbm, ⟨28, _⟩ => ⟨S4096, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S4096x1, .f32⟩
  | .hbm, ⟨37, _⟩ => ⟨S4096x1024, .f32⟩
  | .hbm, ⟨38, _⟩ => ⟨S4096x1024, .f32⟩
  | .hbm, ⟨39, _⟩ => ⟨S1x1024, .f32⟩
  | .hbm, ⟨40, _⟩ => ⟨S4096x1024, .f32⟩
  | .hbm, ⟨41, _⟩ => ⟨S4096x1024, .f32⟩
  | .hbm, ⟨42, _⟩ => ⟨S4096x1024, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]
-- ==== InProjFirst.lean ====
abbrev S4096x1024 : Shape := ⟨2, ![4096, 1024]⟩
abbrev S1024 : Shape := ⟨1, ![1024]⟩
abbrev S1024x3072 : Shape := ⟨2, ![1024, 3072]⟩
abbrev S4096x3072 : Shape := ⟨2, ![4096, 3072]⟩
abbrev S2x512x8x384 : Shape := ⟨4, ![2, 512, 8, 384]⟩
abbrev S2x8x512x384 : Shape := ⟨4, ![2, 8, 512, 384]⟩
abbrev S1x8x512x384 : Shape := ⟨4, ![1, 8, 512, 384]⟩
abbrev S8x512x384 : Shape := ⟨3, ![8, 512, 384]⟩
abbrev S1x1x1024 : Shape := ⟨3, ![1, 1, 1024]⟩
abbrev S8x1024 : Shape := ⟨2, ![8, 1024]⟩
abbrev S512x3072 : Shape := ⟨2, ![512, 3072]⟩
abbrev S512x1024 : Shape := ⟨2, ![512, 1024]⟩
abbrev S1x512x384 : Shape := ⟨3, ![1, 512, 384]⟩
abbrev S512x384 : Shape := ⟨2, ![512, 384]⟩
abbrev S256x3072 : Shape := ⟨2, ![256, 3072]⟩
abbrev S256x1024 : Shape := ⟨2, ![256, 1024]⟩
abbrev S1x1024 : Shape := ⟨2, ![1, 1024]⟩
abbrev S256 : Shape := ⟨1, ![256]⟩
abbrev S256x1 : Shape := ⟨2, ![256, 1]⟩

abbrev nBuf : Space → Nat
  | .hbm => 16
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x3072, .f32⟩
  | .hbm, ⟨3, _⟩ => ⟨S4096x1024, .f32⟩
  | .hbm, ⟨4, _⟩ => ⟨S4096x3072, .f32⟩
  | .hbm, ⟨5, _⟩ => ⟨S1024x3072, .bf16⟩
  | .hbm, ⟨6, _⟩ => ⟨S2x512x8x384, .bf16⟩
  | .hbm, ⟨7, _⟩ => ⟨S2x8x512x384, .bf16⟩
  | .hbm, ⟨8, _⟩ => ⟨S4096x3072, .bf16⟩
  | .hbm, ⟨9, _⟩ => ⟨S1x8x512x384, .bf16⟩
  | .hbm, ⟨10, _⟩ => ⟨S8x512x384, .bf16⟩
  | .hbm, ⟨11, _⟩ => ⟨S1x8x512x384, .bf16⟩
  | .hbm, ⟨12, _⟩ => ⟨S8x512x384, .bf16⟩
  | .hbm, ⟨13, _⟩ => ⟨S1x1x1024, .f32⟩
  | .hbm, ⟨14, _⟩ => ⟨S4096x1024, .f32⟩
  | .hbm, ⟨15, _⟩ => ⟨S8x1024, .f32⟩
  | .local _ .vmem, ⟨0, _⟩ => ⟨S512x3072, .bf16⟩
  | .local _ .vmem, ⟨1, _⟩ => ⟨S512x3072, .bf16⟩
  | .local _ .vmem, ⟨2, _⟩ => ⟨S8x512x384, .bf16⟩
  | .local _ .vmem, ⟨3, _⟩ => ⟨S8x512x384, .bf16⟩
  | .local _ .vmem, ⟨4, _⟩ => ⟨S512x1024, .f32⟩
  | .local _ .vmem, ⟨5, _⟩ => ⟨S512x1024, .f32⟩
  | .local _ .vmem, ⟨6, _⟩ => ⟨S1x1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x512x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x512x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== InProjFirstRefIdeal.lean ====
abbrev S4096x1024 : Shape := ⟨2, ![4096, 1024]⟩
abbrev S1024 : Shape := ⟨1, ![1024]⟩
abbrev S1024x3072 : Shape := ⟨2, ![1024, 3072]⟩
abbrev S4096x3072 : Shape := ⟨2, ![4096, 3072]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S7x1024 : Shape := ⟨2, ![7, 1024]⟩
abbrev S8x1024 : Shape := ⟨2, ![8, 1024]⟩

abbrev nBuf : Space → Nat
  | .hbm => 57
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x3072, .f32⟩
  | .hbm, ⟨3, _⟩ => ⟨S4096x1024, .f32⟩
  | .hbm, ⟨4, _⟩ => ⟨S4096x3072, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x3072, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S1x1024, .f32⟩
  | .hbm, ⟨54, _⟩ => ⟨S_, .f32⟩
  | .hbm, ⟨55, _⟩ => ⟨S7x1024, .f32⟩
  | .hbm, ⟨56, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_8 : Ref sig .tc := ⟨.hbm, 54, rfl⟩
abbrev main_v40 : Ref sig .tc := ⟨.hbm, 55, rfl⟩
abbrev main_v41 : Ref sig .tc := ⟨.hbm, 56, rfl⟩

abbrev nD : Nat := 1
abbrev τ : Topo := Topo.v7x

variable {F : FTy → Type} [FloatOps F]
-- ==== Proof.ConvReal.lean ====
/-
  The gated short convolution and its backward pass over the reals.
  `Conv.*` are the whole arrays' formulas (rows and channels as natural numbers), `Loc.*` the same formulas on one tile
  of 1040 rows (1024 rows with 8 rows before and 8 after) and 128 channels, and the theorems say that a tile agrees
  with the whole arrays on the rows it is used for.
-/
module
public import Idealize.ShloMosaic.Lib.Pointwise

@[expose] public section
noncomputable section

namespace ConvReal

/-- The mean over the group of 64 channels that channel `c` belongs to. -/
def mean (v : ℕ → ℕ → ℝ) (n c : ℕ) : ℝ := (∑ k : Fin 64, v n (64 * (c / 64) + k)) * (1 / 64)

section Whole
variable (ε : ℝ) (H B C D : ℕ → ℕ → ℝ) (w0 w1 w2 g : ℕ → ℝ)

/-- The gated input: the product of the third and the first part of the projection; nothing outside the sequence. -/
def U (n c : ℕ) : ℝ := if n < 4096 then C n c * H n c else 0
/-- The gated input `d` rows earlier. -/
def Ush (d n c : ℕ) : ℝ := if d ≤ n then U H C (n - d) c else 0
/-- The convolution of three taps. -/
def out (n c : ℕ) : ℝ := Ush H C 2 n c * w0 c + Ush H C 1 n c * w1 c + U H C n c * w2 c
/-- The gated convolution, before the group norm. -/
def y (n c : ℕ) : ℝ := B n c * out H C w0 w1 w2 n c
/-- The reciprocal root of the group's mean square. -/
def rs (n c : ℕ) : ℝ := (√(mean (fun n c => y H B C w0 w1 w2 n c * y H B C w0 w1 w2 n c) n c + ε))⁻¹
/-- The normalised row. -/
def yn (n c : ℕ) : ℝ := y H B C w0 w1 w2 n c * rs ε H B C w0 w1 w2 n c
/-- The cotangent times the gain. -/
def gd (n c : ℕ) : ℝ := D n c * g c
/-- The cotangent of the gated convolution, through the group norm. -/
def dy (n c : ℕ) : ℝ := rs ε H B C w0 w1 w2 n c * (gd D g n c - yn ε H B C w0 w1 w2 n c
  * mean (fun n c => yn ε H B C w0 w1 w2 n c * gd D g n c) n c)
/-- The cotangent of the convolution. -/
def dout (n c : ℕ) : ℝ := if n < 4096 then dy ε H B C D w0 w1 w2 g n c * B n c else 0
/-- The cotangent of the gated input. -/
def du (n c : ℕ) : ℝ := dout ε H B C D w0 w1 w2 g n c * w2 c + dout ε H B C D w0 w1 w2 g (n + 1) c * w1 c
  + dout ε H B C D w0 w1 w2 g (n + 2) c * w0 c
end Whole

/-- The mean over a group of 64 lanes of a tile of 128, as a product with the matrix of the groups. -/
def lmean (v : ℕ → Fin 128 → ℝ) (e : ℕ) (l : Fin 128) : ℝ :=
  (∑ k : Fin 128, v e k * (if (k : ℕ) / 64 = (l : ℕ) / 64 then 1 else 0)) * (1 / 64)

section Tile
variable (ε : ℝ) (p : ℕ → Prop) [DecidablePred p] (hc bg cg dn : ℕ → Fin 128 → ℝ) (w0 w1 w2 gn : Fin 128 → ℝ)

/-- `U` on a tile; `p e` says that row `e` of the tile lies inside the sequence. -/
def lU (e : ℕ) (l : Fin 128) : ℝ := if p e then cg e l * hc e l else 0
/-- `out` on a tile (rows taken round the tile). -/
def lout (e : ℕ) (l : Fin 128) : ℝ := lU p hc cg ((e + 1038) % 1040) l * w0 l + lU p hc cg ((e + 1039) % 1040) l * w1 l
  + lU p hc cg e l * w2 l
/-- `y` on a tile. -/
def ly (e : ℕ) (l : Fin 128) : ℝ := bg e l * lout p hc cg w0 w1 w2 e l
/-- `rs` on a tile. -/
def lrs (e : ℕ) (l : Fin 128) : ℝ :=
  (√(lmean (fun e l => ly p hc bg cg w0 w1 w2 e l * ly p hc bg cg w0 w1 w2 e l) e l + ε))⁻¹
/-- `yn` on a tile. -/
def lyn (e : ℕ) (l : Fin 128) : ℝ := ly p hc bg cg w0 w1 w2 e l * lrs ε p hc bg cg w0 w1 w2 e l
/-- `dy` on a tile. -/
def ldy (e : ℕ) (l : Fin 128) : ℝ := lrs ε p hc bg cg w0 w1 w2 e l * (dn e l * gn l - lyn ε p hc bg cg w0 w1 w2 e l
  * lmean (fun e l => lyn ε p hc bg cg w0 w1 w2 e l * (dn e l * gn l)) e l)
/-- `dout` on a tile. -/
def ldout (e : ℕ) (l : Fin 128) : ℝ := if p e then ldy ε p hc bg cg dn w0 w1 w2 gn e l * bg e l else 0
/-- `du` on a tile (rows taken round the tile). -/
def ldu (e : ℕ) (l : Fin 128) : ℝ := ldout ε p hc bg cg dn w0 w1 w2 gn e l * w2 l
  + ldout ε p hc bg cg dn w0 w1 w2 gn ((e + 1) % 1040) l * w1 l
  + ldout ε p hc bg cg dn w0 w1 w2 gn ((e + 2) % 1040) l * w0 l
end Tile

/-- The lanes' sum against the matrix of the groups is the sum over one group. -/
theorem lmean_eq (v : ℕ → Fin 128 → ℝ) (V : ℕ → ℕ → ℝ) (e n j : ℕ) (l : Fin 128)
    (h : ∀ k : Fin 128, v e k = V n (128 * j + k)) : lmean v e l = mean V n (128 * j + l) := by
  unfold lmean mean
  congr 1
  simp only [h]
  rw [show (∑ k : Fin 128, V n (128 * j + k) * (if (k : ℕ) / 64 = (l : ℕ) / 64 then (1 : ℝ) else 0))
      = ∑ k : Fin (64 + 64), V n (128 * j + k) * (if (k : ℕ) / 64 = (l : ℕ) / 64 then (1 : ℝ) else 0) from rfl, Fin.sum_univ_add]
  have hl := l.isLt
  have e1 : ∀ k : Fin 64, ((Fin.castAdd 64 k : Fin (64 + 64)) : ℕ) = k := fun k => rfl
  have e2 : ∀ k : Fin 64, ((Fin.natAdd 64 k : Fin (64 + 64)) : ℕ) = 64 + k := fun k => rfl
  simp only [e1, e2]
  rcases lt_or_ge (l : ℕ) 64 with h1 | h1
  · have a1 : ∀ k : Fin 64, V n (128 * j + k) * (if (k : ℕ) / 64 = (l : ℕ) / 64 then (1 : ℝ) else 0)
        = V n (64 * ((128 * j + l) / 64) + k) := fun k => by
      have := k.isLt; rw [if_pos (by omega), mul_one, show 64 * ((128 * j + (l : ℕ)) / 64) = 128 * j by omega]
    have a2 : ∀ k : Fin 64, V n (128 * j + (64 + k)) * (if (64 + k : ℕ) / 64 = (l : ℕ) / 64 then (1 : ℝ) else 0) = 0 :=
      fun k => by have := k.isLt; rw [if_neg (by omega), mul_zero]
    simp only [a1, a2, Finset.sum_const_zero, add_zero]
  · have a1 : ∀ k : Fin 64, V n (128 * j + (64 + k)) * (if (64 + k : ℕ) / 64 = (l : ℕ) / 64 then (1 : ℝ) else 0)
        = V n (64 * ((128 * j + l) / 64) + k) := fun k => by
      have := k.isLt
      rw [if_pos (by omega), mul_one, show 64 * ((128 * j + (l : ℕ)) / 64) = 128 * j + 64 by omega, add_assoc]
    have a2 : ∀ k : Fin 64, V n (128 * j + k) * (if (k : ℕ) / 64 = (l : ℕ) / 64 then (1 : ℝ) else 0) = 0 :=
      fun k => by have := k.isLt; rw [if_neg (by omega), mul_zero]
    simp only [a1, a2, Finset.sum_const_zero, zero_add]

section Agree
variable {ε : ℝ} {H B C D : ℕ → ℕ → ℝ} {W0 W1 W2 G : ℕ → ℝ}
variable {p : ℕ → Prop} [DecidablePred p] {hc bg cg dn : ℕ → Fin 128 → ℝ} {w0 w1 w2 gn : Fin 128 → ℝ} {t j : ℕ}

/-- A tile holds the rows of the whole arrays from `1024 t - 8` on and the channels from `128 j` on. -/
structure Tiled (H B C D : ℕ → ℕ → ℝ) (W0 W1 W2 G : ℕ → ℝ) (p : ℕ → Prop) (hc bg cg dn : ℕ → Fin 128 → ℝ)
    (w0 w1 w2 gn : Fin 128 → ℝ) (t j : ℕ) : Prop where
  hp : ∀ e, e < 1040 → (p e ↔ 8 ≤ 1024 * t + e ∧ 1024 * t + e < 4104)
  hH : ∀ e n (l : Fin 128), e < 1040 → n + 8 = 1024 * t + e → n < 4096 → hc e l = H n (128 * j + l)
  hB : ∀ e n (l : Fin 128), e < 1040 → n + 8 = 1024 * t + e → n < 4096 → bg e l = B n (128 * j + l)
  hC : ∀ e n (l : Fin 128), e < 1040 → n + 8 = 1024 * t + e → n < 4096 → cg e l = C n (128 * j + l)
  hD : ∀ e n (l : Fin 128), 8 ≤ e → e < 1040 → n + 8 = 1024 * t + e → n < 4096 → dn e l = D n (128 * j + l)
  h0 : ∀ l : Fin 128, w0 l = W0 (128 * j + l)
  h1 : ∀ l : Fin 128, w1 l = W1 (128 * j + l)
  h2 : ∀ l : Fin 128, w2 l = W2 (128 * j + l)
  hG : ∀ l : Fin 128, gn l = G (128 * j + l)

variable (T : Tiled H B C D W0 W1 W2 G p hc bg cg dn w0 w1 w2 gn t j)
include T

theorem Tiled.U_eq (e n : ℕ) (l : Fin 128) (he : e < 1040) (hn : n + 8 = 1024 * t + e) :
    lU p hc cg e l = U H C n (128 * j + l) := by
  unfold lU U
  by_cases h : n < 4096
  · rw [if_pos h, if_pos ((T.hp e he).mpr (by omega)), T.hH e n l he hn h, T.hC e n l he hn h]
  · rw [if_neg h, if_neg (fun h' => h (by have := (T.hp e he).mp h'; omega))]

theorem Tiled.Ush_eq (d e n : ℕ) (l : Fin 128) (hd : d ≤ 2) (hd1 : 1 ≤ d) (he8 : 8 ≤ e) (he : e < 1040)
    (hn : n + 8 = 1024 * t + e) : lU p hc cg ((e + (1040 - d)) % 1040) l = Ush H C d n (128 * j + l) := by
  have h1 : (e + (1040 - d)) % 1040 = e - d := by omega
  rw [h1]
  unfold Ush
  by_cases h : d ≤ n
  · rw [if_pos h, T.U_eq (e - d) (n - d) l (by omega) (by omega)]
  · rw [if_neg h]; unfold lU; rw [if_neg (fun h' => h (by have := (T.hp (e - d) (by omega)).mp h'; omega))]

theorem Tiled.out_eq (e n : ℕ) (l : Fin 128) (he8 : 8 ≤ e) (he : e < 1040) (hn : n + 8 = 1024 * t + e) :
    lout p hc cg w0 w1 w2 e l = out H C W0 W1 W2 n (128 * j + l) := by
  unfold lout out
  rw [T.U_eq e n l he hn, ← T.Ush_eq 2 e n l (by omega) (by omega) he8 he hn,
    ← T.Ush_eq 1 e n l (by omega) (by omega) he8 he hn, T.h0, T.h1, T.h2]

theorem Tiled.y_eq (e n : ℕ) (l : Fin 128) (he8 : 8 ≤ e) (he : e < 1040) (hn : n + 8 = 1024 * t + e) (h : n < 4096) :
    ly p hc bg cg w0 w1 w2 e l = y H B C W0 W1 W2 n (128 * j + l) := by
  unfold ly y; rw [T.out_eq e n l he8 he hn, T.hB e n l he hn h]

theorem Tiled.rs_eq (e n : ℕ) (l : Fin 128) (he8 : 8 ≤ e) (he : e < 1040) (hn : n + 8 = 1024 * t + e) (h : n < 4096) :
    lrs ε p hc bg cg w0 w1 w2 e l = rs ε H B C W0 W1 W2 n (128 * j + l) := by
  unfold lrs rs
  rw [lmean_eq _ (fun n c => y H B C W0 W1 W2 n c * y H B C W0 W1 W2 n c) e n j l
    (fun k => by simp only [T.y_eq e n k he8 he hn h])]

theorem Tiled.yn_eq (e n : ℕ) (l : Fin 128) (he8 : 8 ≤ e) (he : e < 1040) (hn : n + 8 = 1024 * t + e) (h : n < 4096) :
    lyn ε p hc bg cg w0 w1 w2 e l = yn ε H B C W0 W1 W2 n (128 * j + l) := by
  unfold lyn yn; rw [T.y_eq e n l he8 he hn h, T.rs_eq e n l he8 he hn h]

theorem Tiled.dy_eq (e n : ℕ) (l : Fin 128) (he8 : 8 ≤ e) (he : e < 1040) (hn : n + 8 = 1024 * t + e) (h : n < 4096) :
    ldy ε p hc bg cg dn w0 w1 w2 gn e l = dy ε H B C D W0 W1 W2 G n (128 * j + l) := by
  unfold ldy dy gd
  rw [T.rs_eq e n l he8 he hn h, T.yn_eq e n l he8 he hn h, T.hD e n l he8 he hn h, T.hG,
    lmean_eq _ (fun n c => yn ε H B C W0 W1 W2 n c * (D n c * G c)) e n j l
      (fun k => by simp only [T.yn_eq e n k he8 he hn h, T.hD e n k he8 he hn h, T.hG])]

theorem Tiled.dout_eq (e n : ℕ) (l : Fin 128) (he8 : 8 ≤ e) (he : e < 1040) (hn : n + 8 = 1024 * t + e) :
    ldout ε p hc bg cg dn w0 w1 w2 gn e l = dout ε H B C D W0 W1 W2 G n (128 * j + l) := by
  unfold ldout dout
  by_cases h : n < 4096
  · rw [if_pos h, if_pos ((T.hp e he).mpr (by omega)), T.dy_eq e n l he8 he hn h, T.hB e n l he hn h]
  · rw [if_neg h, if_neg (fun h' => h (by have := (T.hp e he).mp h'; omega))]

theorem Tiled.du_eq (e n : ℕ) (l : Fin 128) (he8 : 8 ≤ e) (he : e < 1032) (hn : n + 8 = 1024 * t + e) :
    ldu ε p hc bg cg dn w0 w1 w2 gn e l = du ε H B C D W0 W1 W2 G n (128 * j + l) := by
  unfold ldu du
  rw [Nat.mod_eq_of_lt (show e + 1 < 1040 by omega), Nat.mod_eq_of_lt (show e + 2 < 1040 by omega),
    T.dout_eq e n l he8 (by omega) hn, T.dout_eq (e + 1) (n + 1) l (by omega) (by omega) (by omega),
    T.dout_eq (e + 2) (n + 2) l (by omega) (by omega) (by omega), T.h0, T.h1, T.h2]

end Agree

end ConvReal
-- ==== Proof.ConvTile.lean ====
/-
  One tile of the kernel's body: 1040 rows by 128 channels. The body runs the same formula for four tiles of
  channels; it is written once here over its loads, and read at an index over the reals.
-/
module
public import proofs.«01_k».proof.Proof.Gen.KernelIdeal.Value
public import proofs.«01_k».proof.Proof.ConvReal
public import Idealize.ShloMosaic.Lib.Pointwise

@[expose] public section
set_option maxRecDepth 16384
noncomputable section
open Idealize.ShloMosaic Idealize.ShloMosaic.TcCoe Idealize.SL.Sem
namespace Cert.KernelIdeal.Tile
open Cert.KernelIdeal Cert.KernelIdeal.Gen ConvReal

/-- The value of the word that stands for the norm's epsilon. -/
def eps : ℝ := 8796093 / 2 ^ 43
theorem eps_pos : 0 < eps := by unfold eps; positivity
theorem eps_bits : Ideal.ofBits .f32 0x358637BD#32 = ((eps : ℝ) : EReal) := by
  unfold eps; simp [Ideal.ofBits, Ideal.ieee, -EReal.coe_mul]; norm_num
theorem sixtyfourth_bits : Ideal.ofBits .f32 0x3C800000#32 = ((1 / 64 : ℝ) : EReal) := by
  simp [Ideal.ofBits, Ideal.ieee, -EReal.coe_mul]; norm_num

abbrev Big := FVec Ideal S1040x128 .f32
abbrev Row := FVec Ideal S1x128 .f32

/-- A finite sum of reals is the sum in the extended reals. -/
theorem coe_sum {n : ℕ} (f : Fin n → ℝ) : ((∑ i, f i : ℝ) : EReal) = ∑ i, (f i : EReal) := by
  induction n with
  | zero => simp
  | succ n ih => rw [Fin.sum_univ_succ, Fin.sum_univ_succ, EReal.coe_add, ih]

section Defs
variable (IN : IVec S1040x128 1) (HC BG CG DN : Big) (W0 W1 W2 GN : Row)

def cU : Big := select IN (mulf CG HC) (broadcast S1040x128 (Scalar.ofBits .f32 0x00000000#32))
def cU1 : Big := dynamicRotate 0 1#32 none (cU IN HC CG) rotates_S1040x128_d0
def cU2 : Big := dynamicRotate 0 2#32 none (cU IN HC CG) rotates_S1040x128_d0
def cRow (w : Row) : Big := broadcastTo S1040x128 w broadcasts_S1x128_S1040x128
def cOut : Big := addf (addf (mulf (cU2 IN HC CG) (cRow W0)) (mulf (cU1 IN HC CG) (cRow W1))) (mulf (cU IN HC CG) (cRow W2))
def cY : Big := mulf BG (cOut IN HC CG W0 W1 W2)
def cMean (v : Big) : Big :=
  mulf (addf (matmul dot_S1040x128_S128x128_S1040x128_1_0_0_1_n_n none (truncf .bf16 v bitsLt_bf16_f32)
      (k0_pay4 (F := Ideal)) (constant S1040x128 .f32 0x00000000#32))
    (matmul dot_S1040x128_S128x128_S1040x128_1_0_0_1_n_n none
      (truncf .bf16 (subf v (extf .f32 (truncf .bf16 v bitsLt_bf16_f32 : FVec Ideal S1040x128 .bf16) bitsLt_bf16_f32)) bitsLt_bf16_f32)
      (k0_pay4 (F := Ideal)) (constant S1040x128 .f32 0x00000000#32)))
    (broadcast S1040x128 (Scalar.ofBits .f32 0x3C800000#32))
def cRs : Big := rsqrt (addf (cMean (mulf (cY IN HC BG CG W0 W1 W2) (cY IN HC BG CG W0 W1 W2)))
  (broadcast S1040x128 (Scalar.ofBits .f32 0x358637BD#32)))
def cYn : Big := mulf (cY IN HC BG CG W0 W1 W2) (cRs IN HC BG CG W0 W1 W2)
def cGd : Big := mulf DN (cRow GN)
def cDy : Big := mulf (cRs IN HC BG CG W0 W1 W2) (subf (cGd DN GN)
  (mulf (cYn IN HC BG CG W0 W1 W2) (cMean (mulf (cYn IN HC BG CG W0 W1 W2) (cGd DN GN)))))
def cDout : Big := select IN (mulf (cDy IN HC BG CG DN W0 W1 W2 GN) BG)
  (broadcast S1040x128 (Scalar.ofBits .f32 0x00000000#32))
def cDu : Big := addf (addf (mulf (cDout IN HC BG CG DN W0 W1 W2 GN) (cRow W2))
    (mulf (dynamicRotate 0 1039#32 none (cDout IN HC BG CG DN W0 W1 W2 GN) rotates_S1040x128_d0) (cRow W1)))
  (mulf (dynamicRotate 0 1038#32 none (cDout IN HC BG CG DN W0 W1 W2 GN) rotates_S1040x128_d0) (cRow W0))
def mid (v : Big) : FVec Ideal S1024x128 .f32 := extractStridedSlice S1024x128 ![8, 0] v slices_S1040x128_o8_0_S1024x128
/-- A tile of the projection's cotangent: the product of two arrays on the tile's own rows. -/
def cPiece (a b : Big) : FVec Ideal S1024x128 .bf16 := truncf .bf16 (mulf (mid a) (mid b)) bitsLt_bf16_f32
/-- A row of sums over the tile's own rows, added to what stood there. -/
def cAcc (a b : Big) (acc : Row) : Row :=
  addf (shapeCast S1x128 acc shapeCasts_S1x128_S1x128)
    (shapeCast S1x128 (multiReduction .add [0] S128 (mulf (mid a) (mid b)) 0x00000000#32 reduces_S1024x128_S128 (.inl rfl) rfl)
      shapeCasts_S128_S1x128)
end Defs

section Read
variable {p : ℕ → Prop} [DecidablePred p] {hc bg cg dn : ℕ → Fin 128 → ℝ} {w0 w1 w2 gn : Fin 128 → ℝ}
variable {IN : IVec S1040x128 1} {HC BG CG DN : Big} {W0 W1 W2 GN : Row}

/-- A vector's entries are the given reals. -/
def Is (V : Big) (v : ℕ → Fin 128 → ℝ) : Prop := ∀ (e : Fin 1040) (l : Fin 128), V (ix2 e l) = ((v e l : ℝ) : EReal)
/-- A row's entries are the given reals. -/
def IsRow (V : Row) (v : Fin 128 → ℝ) : Prop := ∀ (z : Fin 1) (l : Fin 128), V (ix2 z l) = ((v l : ℝ) : EReal)
/-- The mask's entries say whether `p` holds of the row. -/
def IsMask (V : IVec S1040x128 1) (p : ℕ → Prop) [DecidablePred p] : Prop :=
  ∀ (e : Fin 1040) (l : Fin 128), V (ix2 e l) = if p e then 1#1 else 0#1

theorem is_mul {A B : Big} {a b : ℕ → Fin 128 → ℝ} (hA : Is A a) (hB : Is B b) : Is (mulf A B) (fun e l => a e l * b e l) := by
  intro e l; pointwise; rw [hA, hB, EReal.coe_mul]
theorem is_add {A B : Big} {a b : ℕ → Fin 128 → ℝ} (hA : Is A a) (hB : Is B b) : Is (addf A B) (fun e l => a e l + b e l) := by
  intro e l; pointwise; rw [hA, hB, EReal.coe_add]
theorem is_sub {A B : Big} {a b : ℕ → Fin 128 → ℝ} (hA : Is A a) (hB : Is B b) : Is (subf A B) (fun e l => a e l - b e l) := by
  intro e l; pointwise; rw [hA, hB, EReal.coe_sub]
theorem is_row {W : Row} {w : Fin 128 → ℝ} (h : IsRow W w) : Is (cRow W) (fun _ l => w l) := by
  intro e l; pointwise [cRow]; rw [h]
theorem is_sel {A : Big} {a : ℕ → Fin 128 → ℝ} (hI : IsMask IN p) (hA : Is A a) :
    Is (select IN A (broadcast S1040x128 (Scalar.ofBits .f32 0x00000000#32))) (fun e l => if p e then a e l else 0) := by
  intro e l; pointwise; rw [hI, hA]
  by_cases h : p e <;> simp [h, Scalar.select]
theorem is_rot {A : Big} {a : ℕ → Fin 128 → ℝ} (hA : Is A a) (d : BitVec 32) (k : ℕ) (hd : d = BitVec.ofNat 32 k) (hk : k < 1040)
   : Is (dynamicRotate 0 d none A rotates_S1040x128_d0) (fun e l => a ((e + (1040 - k)) % 1040) l) := by
  intro e l; subst hd; pointwise; rw [hA]
  have h1 : (BitVec.ofNat 32 k).toNat % 1040 = k := by rw [BitVec.toNat_ofNat]; omega
  simp only [h1]; rw [show (e : ℕ) + 1040 - k = e + (1040 - k) by omega]
theorem groups (k l : Fin 128) : k0_pay4 (F := Ideal) (ix2 k l) = if (k : ℕ) / 64 = (l : ℕ) / 64 then 1 else 0 := by
  pointwise [k0_pay4]
  have h : ∀ k l : Fin 128, IntOp.cmpi CmpIPredicate.eq (IntOp.shrsi ArithUnit.vector (BitVec.ofNat 32 ↑k) 6#32)
      (IntOp.shrsi ArithUnit.vector (BitVec.ofNat 32 ↑l) 6#32) = if (k : ℕ) / 64 = (l : ℕ) / 64 then 1#1 else 0#1 := by
    decide +kernel
  rw [h]; split <;> rfl
theorem is_mean {A : Big} {a : ℕ → Fin 128 → ℝ} (hA : Is A a) : Is (cMean A) (lmean a) := by
  intro e l; pointwise [cMean]; simp only [hA _ _, groups]
  have h0 : ∀ x : Fin 128, (((a e x : ℝ) : EReal) - ((a e x : ℝ) : EReal)) * (if (x : ℕ) / 64 = (l : ℕ) / 64 then (1 : EReal) else 0) = 0 := by
    intro x; rw [← EReal.coe_sub, sub_self, EReal.coe_zero, zero_mul]
  have h1 : ∀ x : Fin 128, ((a e x : ℝ) : EReal) * (if (x : ℕ) / 64 = (l : ℕ) / 64 then (1 : EReal) else 0)
      = ((a e x * (if (x : ℕ) / 64 = (l : ℕ) / 64 then 1 else 0) : ℝ) : EReal) := by
    intro x; split <;> simp
  simp only [h0, h1, Finset.sum_const_zero, add_zero]
  rw [sixtyfourth_bits, ← coe_sum, ← EReal.coe_mul]; rfl
theorem mid_at (V : Big) (r : Fin 1024) (l : Fin 128) : mid V (ix2 r l) = V (ix2 ⟨8 + r, by omega⟩ l) := by
  pointwise! [mid]
theorem acc_at (a b : Big) (acc : Row) (z : Fin 1) (l : Fin 128) : cAcc a b acc (ix2 z l) =
    acc (ix2 z l) + ∑ r : Fin 1024, (a (ix2 ⟨8 + r, by omega⟩ l) * b (ix2 ⟨8 + r, by omega⟩ l) : EReal) := by
  pointwise! [cAcc, mid_at]

variable (hI : IsMask IN p) (hH : Is HC hc) (hB : Is BG bg) (hC : Is CG cg) (hD : Is DN dn)
  (h0 : IsRow W0 w0) (h1 : IsRow W1 w1) (h2 : IsRow W2 w2) (hG : IsRow GN gn)

include hI hH hC in
theorem is_U : Is (cU IN HC CG) (lU p hc cg) := is_sel hI (is_mul hC hH)
include hI hH hC in
theorem is_U1 : Is (cU1 IN HC CG) (fun e l => lU p hc cg ((e + 1039) % 1040) l) :=
  is_rot (is_U hI hH hC) 1#32 1 rfl (by omega)
include hI hH hC in
theorem is_U2 : Is (cU2 IN HC CG) (fun e l => lU p hc cg ((e + 1038) % 1040) l) :=
  is_rot (is_U hI hH hC) 2#32 2 rfl (by omega)
include hI hH hC h0 h1 h2 in
theorem is_out : Is (cOut IN HC CG W0 W1 W2) (lout p hc cg w0 w1 w2) :=
  is_add (is_add (is_mul (is_U2 hI hH hC) (is_row h0)) (is_mul (is_U1 hI hH hC) (is_row h1))) (is_mul (is_U hI hH hC) (is_row h2))
include hI hH hB hC h0 h1 h2 in
theorem is_Y : Is (cY IN HC BG CG W0 W1 W2) (ly p hc bg cg w0 w1 w2) := is_mul hB (is_out hI hH hC h0 h1 h2)
/-- The mean of squares is not negative. -/
theorem lmean_sq (v : ℕ → Fin 128 → ℝ) (e : ℕ) (l : Fin 128) : 0 ≤ lmean (fun e l => v e l * v e l) e l := by
  unfold lmean
  exact mul_nonneg (Finset.sum_nonneg fun k _ => mul_nonneg (mul_self_nonneg _) (by split <;> norm_num)) (by norm_num)
include hI hH hB hC h0 h1 h2 in
theorem is_Rs : Is (cRs IN HC BG CG W0 W1 W2) (lrs eps p hc bg cg w0 w1 w2) := by
  intro e l
  have hm := is_mean (is_mul (is_Y hI hH hB hC h0 h1 h2) (is_Y hI hH hB hC h0 h1 h2)) e l
  pointwise [cRs]; rw [hm, eps_bits, ← EReal.coe_add]
  have := lmean_sq (ly p hc bg cg w0 w1 w2) e l
  have := eps_pos
  rw [Ideal.rsqrt_coe, if_neg (by linarith), if_neg (by linarith)]; rfl
include hI hH hB hC h0 h1 h2 in
theorem is_Yn : Is (cYn IN HC BG CG W0 W1 W2) (lyn eps p hc bg cg w0 w1 w2) :=
  is_mul (is_Y hI hH hB hC h0 h1 h2) (is_Rs hI hH hB hC h0 h1 h2)
include hD hG in
theorem is_Gd : Is (cGd DN GN) (fun e l => dn e l * gn l) := is_mul hD (is_row hG)
include hI hH hB hC hD h0 h1 h2 hG in
theorem is_Dy : Is (cDy IN HC BG CG DN W0 W1 W2 GN) (ldy eps p hc bg cg dn w0 w1 w2 gn) :=
  is_mul (is_Rs hI hH hB hC h0 h1 h2) (is_sub (is_Gd hD hG) (is_mul (is_Yn hI hH hB hC h0 h1 h2)
    (is_mean (is_mul (is_Yn hI hH hB hC h0 h1 h2) (is_Gd hD hG)))))
include hI hH hB hC hD h0 h1 h2 hG in
theorem is_Dout : Is (cDout IN HC BG CG DN W0 W1 W2 GN) (ldout eps p hc bg cg dn w0 w1 w2 gn) :=
  is_sel hI (is_mul (is_Dy hI hH hB hC hD h0 h1 h2 hG) hB)
include hI hH hB hC hD h0 h1 h2 hG in
theorem is_Du : Is (cDu IN HC BG CG DN W0 W1 W2 GN) (ldu eps p hc bg cg dn w0 w1 w2 gn) :=
  is_add (is_add (is_mul (is_Dout hI hH hB hC hD h0 h1 h2 hG) (is_row h2))
    (is_mul (is_rot (is_Dout hI hH hB hC hD h0 h1 h2 hG) 1039#32 1039 rfl (by omega)) (is_row h1)))
    (is_mul (is_rot (is_Dout hI hH hB hC hD h0 h1 h2 hG) 1038#32 1038 rfl (by omega)) (is_row h0))

/-- A stored tile at an index: the product of the two arrays eight rows further down. -/
theorem piece_at {A B : Big} {a b : ℕ → Fin 128 → ℝ} (hA : Is A a) (hB : Is B b) (r : Fin 1024) (l : Fin 128) :
    cPiece A B (ix2 r l) = ((a (8 + r) l * b (8 + r) l : ℝ) : EReal) := by
  pointwise [cPiece]; rw [mid_at, mid_at, hA, hB, EReal.coe_mul]
/-- A stored row of sums at an index. -/
theorem row_at {A B : Big} {a b : ℕ → Fin 128 → ℝ} (hA : Is A a) (hB : Is B b) (acc : Row) (z : Fin 1) (l : Fin 128) :
    cAcc A B acc (ix2 z l) = acc (ix2 z l) + ((∑ r : Fin 1024, a (8 + r) l * b (8 + r) l : ℝ) : EReal) := by
  rw [acc_at, coe_sum]; simp only [hA _ _, hB _ _, EReal.coe_mul]
end Read
end Cert.KernelIdeal.Tile
-- ==== Proof.ConvLoads.lean ====
/-
  The tile of the kernel's body over what it loads: eight rows before, the tile's 1024 rows and eight rows after, for
  each of the three parts of the projection. Under the hypothesis that the loads are rows of the whole arrays, the tile
  holds the whole arrays' formulas.
-/
module
public import proofs.«01_k».proof.Proof.ConvTile

@[expose] public section
set_option maxRecDepth 16384
noncomputable section
open Idealize.ShloMosaic Idealize.ShloMosaic.TcCoe Idealize.SL.Sem
namespace Cert.KernelIdeal.Tile
open Cert.KernelIdeal Cert.KernelIdeal.Gen ConvReal

abbrev V16 := Vec Ideal S16x128 .bf16
abbrev V1024 := Vec Ideal S1024x128 .bf16
abbrev V1 := Vec Ideal S1x1x128 .f32

/-- The rows of a tile: eight of the block before, the tile's own, eight of the block after. -/
def halo (X : ℕ → ℕ → ℝ) (t o e : ℕ) (l : Fin 128) : ℝ :=
  if e < 8 then X (16 * (64 * t - 1) + (8 + e)) (o + l) else if e < 1032 then X (1024 * t + (e - 8)) (o + l)
  else X (16 * min (64 * (t + 1)) 255 + (e - 1032)) (o + l)
/-- The rows of the cotangent's tile: nothing before, the tile's own, eight of the block after. -/
def haloD (D : ℕ → ℕ → ℝ) (t o e : ℕ) (l : Fin 128) : ℝ :=
  if e < 8 then 0 else if e < 1032 then D (1024 * t + (e - 8)) (o + l)
  else D (8 * min (128 * (t + 1)) 511 + (e - 1032)) (o + l)
/-- Row `e` of tile `t` lies inside the sequence. -/
def inside (t e : ℕ) : Prop := 8 ≤ 1024 * t + e ∧ 1024 * t + e < 4104
instance (t : ℕ) : DecidablePred (inside t) := fun _ => by unfold inside; infer_instance

theorem is_halo {X : ℕ → ℕ → ℝ} {t o : ℕ} {P N : V16} {M : V1024}
    (hP : ∀ (r : Fin 16) (l : Fin 128), P (ix2 r l) = ((X (16 * (64 * t - 1) + r) (o + l) : ℝ) : EReal))
    (hN : ∀ (r : Fin 16) (l : Fin 128), N (ix2 r l) = ((X (16 * min (64 * (t + 1)) 255 + r) (o + l) : ℝ) : EReal))
    (hM : ∀ (r : Fin 1024) (l : Fin 128), M (ix2 r l) = ((X (1024 * t + r) (o + l) : ℝ) : EReal)) :
    Is (k0_pay12 P N M) (halo X t o) := by
  intro e l
  pointwise [k0_pay12]
  simp only [hP _ _, hN _ _, hM _ _, halo]
  by_cases h1 : (e : ℕ) < 8
  · simp only [h1, dif_pos, if_pos]
  · by_cases h2 : (e : ℕ) < 1032
    · simp only [h1, h2, if_neg, if_pos, dif_neg, show (e : ℕ) - 8 < 1024 by omega, dif_pos, not_false_eq_true]
    · simp only [h1, h2, if_neg, dif_neg, show ¬ (e : ℕ) - 8 < 1024 by omega, not_false_eq_true]
      rw [show (e : ℕ) - 8 - 1024 = e - 1032 by omega]

theorem is_haloD {D : ℕ → ℕ → ℝ} {t o : ℕ} {N : Vec Ideal S8x128 .f32} {M : Vec Ideal S1024x128 .f32}
    (hN : ∀ (r : Fin 8) (l : Fin 128), N (ix2 r l) = ((D (8 * min (128 * (t + 1)) 511 + r) (o + l) : ℝ) : EReal))
    (hM : ∀ (r : Fin 1024) (l : Fin 128), M (ix2 r l) = ((D (1024 * t + r) (o + l) : ℝ) : EReal)) :
    Is (k0_pay17 N M) (haloD D t o) := by
  intro e l
  pointwise [k0_pay17]
  simp only [hN _ _, hM _ _, haloD]
  by_cases h1 : (e : ℕ) < 8
  · simp only [h1, dif_pos, if_pos, EReal.coe_zero]
  · by_cases h2 : (e : ℕ) < 1032
    · simp only [h1, h2, if_neg, if_pos, dif_neg, show (e : ℕ) - 8 < 1024 by omega, dif_pos, not_false_eq_true]
    · simp only [h1, h2, if_neg, dif_neg, show ¬ (e : ℕ) - 8 < 1024 by omega, not_false_eq_true]
      rw [show (e : ℕ) - 8 - 1024 = e - 1032 by omega]

/-- The body's mask of the rows inside the sequence. -/
abbrev mask (i : grid0.Coords) : IVec S1040x128 1 := k0_pay9 (k0_pay6 i) (k0_pay7 i) k0_pay8

theorem is_inside (i : grid0.Coords) : IsMask (mask i) (inside (i 0).val) := by
  intro e l
  pointwise [mask, k0_pay9, k0_pay6, k0_pay7, k0_pay8, k0_pay5]
  have h : ∀ (t : Fin 4) (e : Fin 1040), IntOp.cmpi CmpIPredicate.eq (Scalar.select
        (IntOp.cmpi CmpIPredicate.sge
          (IntOp.addi (BitVec.ofNat 32 ↑e) (Scalar.subi (Scalar.muli (BitVec.ofNat 32 ↑t) 1024#32) 8#32)) 0#32)
        (Scalar.select
          (IntOp.cmpi CmpIPredicate.slt
            (IntOp.addi (BitVec.ofNat 32 ↑e) (Scalar.subi (Scalar.muli (BitVec.ofNat 32 ↑t) 1024#32) 8#32)) 4096#32)
          1#32 0#32) 0#32) 1#32 = if inside ↑t ↑e then 1#1 else 0#1 := by decide +kernel
  exact h (i 0) e

theorem is_vec {v : ℕ → ℝ} {o : ℕ} {W : V1} (h : ∀ (a b : Fin 1) (l : Fin 128), W (ix3 a b l) = ((v (o + l) : ℝ) : EReal)) :
    IsRow (k0_pay18 W) (fun l => v (o + l)) := by
  intro z l
  pointwise [k0_pay18]
  rw [h]

/-- What one tile loads: tile `t` of the rows, tile `j` of the channels, of the projection `X`, the cotangent `D`, the
    taps `w` and the gain `g`. -/
structure Loads (X D : ℕ → ℕ → ℝ) (w : ℕ → ℕ → ℝ) (g : ℕ → ℝ) (t j : ℕ) (P0 N0 : V16) (M0 : V1024) (P1 N1 : V16) (M1 : V1024)
    (P2 N2 : V16) (M2 : V1024) (DN : Vec Ideal S8x128 .f32) (DM : Vec Ideal S1024x128 .f32) (A0 A1 A2 AG : V1) : Prop where
  hP0 : ∀ (r : Fin 16) (l : Fin 128), P0 (ix2 r l) = ((X (16 * (64 * t - 1) + r) (128 * j + l) : ℝ) : EReal)
  hN0 : ∀ (r : Fin 16) (l : Fin 128), N0 (ix2 r l) = ((X (16 * min (64 * (t + 1)) 255 + r) (128 * j + l) : ℝ) : EReal)
  hM0 : ∀ (r : Fin 1024) (l : Fin 128), M0 (ix2 r l) = ((X (1024 * t + r) (128 * j + l) : ℝ) : EReal)
  hP1 : ∀ (r : Fin 16) (l : Fin 128), P1 (ix2 r l) = ((X (16 * (64 * t - 1) + r) (512 + 128 * j + l) : ℝ) : EReal)
  hN1 : ∀ (r : Fin 16) (l : Fin 128), N1 (ix2 r l) = ((X (16 * min (64 * (t + 1)) 255 + r) (512 + 128 * j + l) : ℝ) : EReal)
  hM1 : ∀ (r : Fin 1024) (l : Fin 128), M1 (ix2 r l) = ((X (1024 * t + r) (512 + 128 * j + l) : ℝ) : EReal)
  hP2 : ∀ (r : Fin 16) (l : Fin 128), P2 (ix2 r l) = ((X (16 * (64 * t - 1) + r) (1024 + 128 * j + l) : ℝ) : EReal)
  hN2 : ∀ (r : Fin 16) (l : Fin 128), N2 (ix2 r l) = ((X (16 * min (64 * (t + 1)) 255 + r) (1024 + 128 * j + l) : ℝ) : EReal)
  hM2 : ∀ (r : Fin 1024) (l : Fin 128), M2 (ix2 r l) = ((X (1024 * t + r) (1024 + 128 * j + l) : ℝ) : EReal)
  hDN : ∀ (r : Fin 8) (l : Fin 128), DN (ix2 r l) = ((D (8 * min (128 * (t + 1)) 511 + r) (128 * j + l) : ℝ) : EReal)
  hDM : ∀ (r : Fin 1024) (l : Fin 128), DM (ix2 r l) = ((D (1024 * t + r) (128 * j + l) : ℝ) : EReal)
  h0 : ∀ (a b : Fin 1) (l : Fin 128), A0 (ix3 a b l) = ((w 0 (128 * j + l) : ℝ) : EReal)
  h1 : ∀ (a b : Fin 1) (l : Fin 128), A1 (ix3 a b l) = ((w 1 (128 * j + l) : ℝ) : EReal)
  h2 : ∀ (a b : Fin 1) (l : Fin 128), A2 (ix3 a b l) = ((w 2 (128 * j + l) : ℝ) : EReal)
  hG : ∀ (a b : Fin 1) (l : Fin 128), AG (ix3 a b l) = ((g (128 * j + l) : ℝ) : EReal)

section Whole
variable (X D : ℕ → ℕ → ℝ) (w : ℕ → ℕ → ℝ) (g : ℕ → ℝ)
/-- The three parts of the projection, 512 channels each. -/
def pH (n c : ℕ) : ℝ := X n c
def pB (n c : ℕ) : ℝ := X n (512 + c)
def pC (n c : ℕ) : ℝ := X n (1024 + c)
/-- The projection's cotangent on the three parts the convolution reads. -/
def gC (n c : ℕ) : ℝ := du eps (pH X) (pB X) (pC X) D (w 0) (w 1) (w 2) g n c * pC X n c
def gB (n c : ℕ) : ℝ := dy eps (pH X) (pB X) (pC X) D (w 0) (w 1) (w 2) g n c * out (pH X) (pC X) (w 0) (w 1) (w 2) n c
def gH (n c : ℕ) : ℝ := du eps (pH X) (pB X) (pC X) D (w 0) (w 1) (w 2) g n c * pH X n c
/-- One row's part of the cotangent of tap `k`, and of the gain. -/
def gW (k n c : ℕ) : ℝ := dout eps (pH X) (pB X) (pC X) D (w 0) (w 1) (w 2) g n c * (if k = 0 then Ush (pH X) (pC X) 2 n c
  else if k = 1 then Ush (pH X) (pC X) 1 n c else U (pH X) (pC X) n c)
def gG (n c : ℕ) : ℝ := D n c * yn eps (pH X) (pB X) (pC X) (w 0) (w 1) (w 2) n c
end Whole

section Tiles
variable {X D w : ℕ → ℕ → ℝ} {g : ℕ → ℝ} {i : grid0.Coords} {j : ℕ} {P0 N0 : V16} {M0 : V1024} {P1 N1 : V16} {M1 : V1024}
  {P2 N2 : V16} {M2 : V1024} {DN : Vec Ideal S8x128 .f32} {DM : Vec Ideal S1024x128 .f32} {A0 A1 A2 AG : V1}

theorem tiled (ht : (i 0).val < 4) : Tiled (pH X) (pB X) (pC X) D (w 0) (w 1) (w 2) g (inside (i 0).val)
    (halo X (i 0).val (128 * j)) (halo X (i 0).val (512 + 128 * j)) (halo X (i 0).val (1024 + 128 * j))
    (haloD D (i 0).val (128 * j)) (fun l => w 0 (128 * j + l)) (fun l => w 1 (128 * j + l)) (fun l => w 2 (128 * j + l))
    (fun l => g (128 * j + l)) (i 0).val j := by
  generalize (i 0).val = t at *
  have key : ∀ o e n (l : Fin 128), e < 1040 → n + 8 = 1024 * t + e → n < 4096 → halo X t o e l = X n (o + l) := by
    intro o e n l he hn h
    unfold halo
    split
    · congr 1; omega
    · split <;> (congr 1; omega)
  refine ⟨fun e _ => Iff.rfl, fun e n l he hn h => key _ e n l he hn h, fun e n l he hn h => ?_, fun e n l he hn h => ?_,
    fun e n l h8 he hn h => ?_, fun _ => rfl, fun _ => rfl, fun _ => rfl, fun _ => rfl⟩
  · rw [key _ e n l he hn h, pB, add_assoc]
  · rw [key _ e n l he hn h, pC, add_assoc]
  · unfold haloD
    rw [if_neg (by omega)]
    split <;> (congr 1; omega)

variable (L : Loads X D w g (i 0).val j P0 N0 M0 P1 N1 M1 P2 N2 M2 DN DM A0 A1 A2 AG) (ht : (i 0).val < 4)

include L ht

/-- The stored tile of the first part. -/
theorem tile_C (r : Fin 1024) (l : Fin 128) :
    cPiece (cDu (mask i) (k0_pay12 P0 N0 M0) (k0_pay12 P1 N1 M1) (k0_pay12 P2 N2 M2) (k0_pay17 DN DM) (k0_pay18 A0)
      (k0_pay18 A1) (k0_pay18 A2) (k0_pay18 AG)) (k0_pay12 P2 N2 M2) (ix2 r l)
    = ((gC X D w g (1024 * (i 0).val + r) (128 * j + l) : ℝ) : EReal) := by
  have hr := r.isLt
  have T := tiled (X := X) (D := D) (w := w) (g := g) (i := i) (j := j) ht
  rw [piece_at (is_Du (is_inside i) (is_halo L.hP0 L.hN0 L.hM0) (is_halo L.hP1 L.hN1 L.hM1)
    (is_halo L.hP2 L.hN2 L.hM2) (is_haloD L.hDN L.hDM) (is_vec L.h0) (is_vec L.h1) (is_vec L.h2) (is_vec L.hG))
    (is_halo L.hP2 L.hN2 L.hM2), T.du_eq _ (1024 * (i 0).val + r) _ (by omega) (by omega) (by omega),
    T.hC _ (1024 * (i 0).val + r) _ (by omega) (by omega) (by omega)]
  rfl

/-- The stored tile of the second part. -/
theorem tile_B (r : Fin 1024) (l : Fin 128) :
    cPiece (cDy (mask i) (k0_pay12 P0 N0 M0) (k0_pay12 P1 N1 M1) (k0_pay12 P2 N2 M2) (k0_pay17 DN DM) (k0_pay18 A0)
      (k0_pay18 A1) (k0_pay18 A2) (k0_pay18 AG))
      (cOut (mask i) (k0_pay12 P0 N0 M0) (k0_pay12 P2 N2 M2) (k0_pay18 A0) (k0_pay18 A1) (k0_pay18 A2)) (ix2 r l)
    = ((gB X D w g (1024 * (i 0).val + r) (128 * j + l) : ℝ) : EReal) := by
  have hr := r.isLt
  have T := tiled (X := X) (D := D) (w := w) (g := g) (i := i) (j := j) ht
  rw [piece_at (is_Dy (is_inside i) (is_halo L.hP0 L.hN0 L.hM0) (is_halo L.hP1 L.hN1 L.hM1)
    (is_halo L.hP2 L.hN2 L.hM2) (is_haloD L.hDN L.hDM) (is_vec L.h0) (is_vec L.h1) (is_vec L.h2) (is_vec L.hG))
    (is_out (is_inside i) (is_halo L.hP0 L.hN0 L.hM0) (is_halo L.hP2 L.hN2 L.hM2) (is_vec L.h0) (is_vec L.h1) (is_vec L.h2)),
    T.dy_eq _ (1024 * (i 0).val + r) _ (by omega) (by omega) (by omega) (by omega),
    T.out_eq _ (1024 * (i 0).val + r) _ (by omega) (by omega) (by omega)]
  rfl

/-- The stored tile of the third part. -/
theorem tile_H (r : Fin 1024) (l : Fin 128) :
    cPiece (cDu (mask i) (k0_pay12 P0 N0 M0) (k0_pay12 P1 N1 M1) (k0_pay12 P2 N2 M2) (k0_pay17 DN DM) (k0_pay18 A0)
      (k0_pay18 A1) (k0_pay18 A2) (k0_pay18 AG)) (k0_pay12 P0 N0 M0) (ix2 r l)
    = ((gH X D w g (1024 * (i 0).val + r) (128 * j + l) : ℝ) : EReal) := by
  have hr := r.isLt
  have T := tiled (X := X) (D := D) (w := w) (g := g) (i := i) (j := j) ht
  rw [piece_at (is_Du (is_inside i) (is_halo L.hP0 L.hN0 L.hM0) (is_halo L.hP1 L.hN1 L.hM1)
    (is_halo L.hP2 L.hN2 L.hM2) (is_haloD L.hDN L.hDM) (is_vec L.h0) (is_vec L.h1) (is_vec L.h2) (is_vec L.hG))
    (is_halo L.hP0 L.hN0 L.hM0), T.du_eq _ (1024 * (i 0).val + r) _ (by omega) (by omega) (by omega),
    T.hH _ (1024 * (i 0).val + r) _ (by omega) (by omega) (by omega)]
  rfl

/-- The rows of sums for the three taps. -/
theorem row_W0 (acc : Row) (z : Fin 1) (l : Fin 128) :
    cAcc (cDout (mask i) (k0_pay12 P0 N0 M0) (k0_pay12 P1 N1 M1) (k0_pay12 P2 N2 M2) (k0_pay17 DN DM) (k0_pay18 A0)
      (k0_pay18 A1) (k0_pay18 A2) (k0_pay18 AG)) (cU2 (mask i) (k0_pay12 P0 N0 M0) (k0_pay12 P2 N2 M2)) acc (ix2 z l)
    = acc (ix2 z l) + ((∑ r : Fin 1024, gW X D w g 0 (1024 * (i 0).val + r) (128 * j + l) : ℝ) : EReal) := by
  have T := tiled (X := X) (D := D) (w := w) (g := g) (i := i) (j := j) ht
  rw [row_at (is_Dout (is_inside i) (is_halo L.hP0 L.hN0 L.hM0) (is_halo L.hP1 L.hN1 L.hM1)
    (is_halo L.hP2 L.hN2 L.hM2) (is_haloD L.hDN L.hDM) (is_vec L.h0) (is_vec L.h1) (is_vec L.h2) (is_vec L.hG))
    (is_U2 (is_inside i) (is_halo L.hP0 L.hN0 L.hM0) (is_halo L.hP2 L.hN2 L.hM2))]
  congr 2
  refine Finset.sum_congr rfl fun r _ => ?_
  have hr := r.isLt
  rw [T.dout_eq _ (1024 * (i 0).val + r) _ (by omega) (by omega) (by omega),
    T.Ush_eq 2 _ (1024 * (i 0).val + r) _ (by omega) (by omega) (by omega) (by omega) (by omega)]
  rfl

theorem row_W1 (acc : Row) (z : Fin 1) (l : Fin 128) :
    cAcc (cDout (mask i) (k0_pay12 P0 N0 M0) (k0_pay12 P1 N1 M1) (k0_pay12 P2 N2 M2) (k0_pay17 DN DM) (k0_pay18 A0)
      (k0_pay18 A1) (k0_pay18 A2) (k0_pay18 AG)) (cU1 (mask i) (k0_pay12 P0 N0 M0) (k0_pay12 P2 N2 M2)) acc (ix2 z l)
    = acc (ix2 z l) + ((∑ r : Fin 1024, gW X D w g 1 (1024 * (i 0).val + r) (128 * j + l) : ℝ) : EReal) := by
  have T := tiled (X := X) (D := D) (w := w) (g := g) (i := i) (j := j) ht
  rw [row_at (is_Dout (is_inside i) (is_halo L.hP0 L.hN0 L.hM0) (is_halo L.hP1 L.hN1 L.hM1)
    (is_halo L.hP2 L.hN2 L.hM2) (is_haloD L.hDN L.hDM) (is_vec L.h0) (is_vec L.h1) (is_vec L.h2) (is_vec L.hG))
    (is_U1 (is_inside i) (is_halo L.hP0 L.hN0 L.hM0) (is_halo L.hP2 L.hN2 L.hM2))]
  congr 2
  refine Finset.sum_congr rfl fun r _ => ?_
  have hr := r.isLt
  rw [T.dout_eq _ (1024 * (i 0).val + r) _ (by omega) (by omega) (by omega),
    T.Ush_eq 1 _ (1024 * (i 0).val + r) _ (by omega) (by omega) (by omega) (by omega) (by omega)]
  rfl

theorem row_W2 (acc : Row) (z : Fin 1) (l : Fin 128) :
    cAcc (cDout (mask i) (k0_pay12 P0 N0 M0) (k0_pay12 P1 N1 M1) (k0_pay12 P2 N2 M2) (k0_pay17 DN DM) (k0_pay18 A0)
      (k0_pay18 A1) (k0_pay18 A2) (k0_pay18 AG)) (cU (mask i) (k0_pay12 P0 N0 M0) (k0_pay12 P2 N2 M2)) acc (ix2 z l)
    = acc (ix2 z l) + ((∑ r : Fin 1024, gW X D w g 2 (1024 * (i 0).val + r) (128 * j + l) : ℝ) : EReal) := by
  have T := tiled (X := X) (D := D) (w := w) (g := g) (i := i) (j := j) ht
  rw [row_at (is_Dout (is_inside i) (is_halo L.hP0 L.hN0 L.hM0) (is_halo L.hP1 L.hN1 L.hM1)
    (is_halo L.hP2 L.hN2 L.hM2) (is_haloD L.hDN L.hDM) (is_vec L.h0) (is_vec L.h1) (is_vec L.h2) (is_vec L.hG))
    (is_U (is_inside i) (is_halo L.hP0 L.hN0 L.hM0) (is_halo L.hP2 L.hN2 L.hM2))]
  congr 2
  refine Finset.sum_congr rfl fun r _ => ?_
  have hr := r.isLt
  rw [T.dout_eq _ (1024 * (i 0).val + r) _ (by omega) (by omega) (by omega),
    T.U_eq _ (1024 * (i 0).val + r) _ (by omega) (by omega)]
  rfl

/-- The row of sums for the gain. -/
theorem row_G (acc : Row) (z : Fin 1) (l : Fin 128) :
    cAcc (k0_pay17 DN DM) (cYn (mask i) (k0_pay12 P0 N0 M0) (k0_pay12 P1 N1 M1) (k0_pay12 P2 N2 M2) (k0_pay18 A0)
      (k0_pay18 A1) (k0_pay18 A2)) acc (ix2 z l)
    = acc (ix2 z l) + ((∑ r : Fin 1024, gG X D w (1024 * (i 0).val + r) (128 * j + l) : ℝ) : EReal) := by
  have T := tiled (X := X) (D := D) (w := w) (g := g) (i := i) (j := j) ht
  rw [row_at (is_haloD L.hDN L.hDM) (is_Yn (is_inside i) (is_halo L.hP0 L.hN0 L.hM0) (is_halo L.hP1 L.hN1 L.hM1)
    (is_halo L.hP2 L.hN2 L.hM2) (is_vec L.h0) (is_vec L.h1) (is_vec L.h2))]
  congr 2
  refine Finset.sum_congr rfl fun r _ => ?_
  have hr := r.isLt
  rw [T.hD _ (1024 * (i 0).val + r) _ (by omega) (by omega) (by omega) (by omega),
    T.yn_eq _ (1024 * (i 0).val + r) _ (by omega) (by omega) (by omega) (by omega)]
  rfl
end Tiles
end Cert.KernelIdeal.Tile
-- ==== Proof.ConvBlocks.lean ====
/-
  What the kernel's blocks hold: every input block read at an index is an entry of an argument, and the loads of the four
  tiles of channels are tiles of the whole arrays.
-/
module
public import proofs.«01_k».proof.Proof.ConvLoads
public import Idealize.ShloMosaic.Lib.Pipeline.ValueKit
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.KernelIdeal.Val
open Cert.KernelIdeal Cert.KernelIdeal.Gen Cert.KernelIdeal.Tile
variable (m : (ℓ : Loc nD τ sig) → Buf (Elt Ideal) ℓ)

theorem coords_val : ∀ t : Fin cfg0.N, (grid0.coords t 0).val = t.val :=
  (by decide +kernel : ∀ t : Fin grid0.N, (grid0.coords t 0).val = t.val)
theorem idx : ∀ t : Fin cfg0.N, win0_0.index t = ![t.val, 0] ∧ win0_1.index t = ![64 * t.val - 1, 0]
    ∧ win0_2.index t = ![min (64 * (t.val + 1)) 255, 0] ∧ win0_3.index t = ![t.val, 0]
    ∧ win0_4.index t = ![min (128 * (t.val + 1)) 511, 0] ∧ win0_5.index t = ![0, 0, 0] ∧ win0_6.index t = ![0, 0, 0]
    ∧ win0_7.index t = ![t.val, 0] ∧ win0_8.index t = ![t.val, 0] ∧ win0_9.index t = ![t.val, 0]
    ∧ win0_10.index t = ![t.val, 0] ∧ win0_11.index t = ![0, 0] ∧ win0_12.index t = ![0, 0] := (by decide +kernel : ∀ t : Fin grid0.N, _)

variable (c : Dev nD) {X D w : ℕ → ℕ → ℝ} {g : ℕ → ℝ}
  (hX : ∀ (a : Fin 1) (n : Fin 4096) (k : Fin 3072), m ((c.tc : Thread nD τ).loc main_arg0) (ix3 a n k) = ((X n k : ℝ) : EReal))
  (hW : ∀ (n : Fin 512) (k : Fin 3), m ((c.tc : Thread nD τ).loc main_arg1) (ix2 n k) = ((w k n : ℝ) : EReal))
  (hg : ∀ (n : Fin 512), m ((c.tc : Thread nD τ).loc main_arg2) (ix1 n) = ((g n : ℝ) : EReal))
  (hD : ∀ (a : Fin 1) (n : Fin 4096) (k : Fin 512), m ((c.tc : Thread nD τ).loc main_arg3) (ix3 a n k) = ((D n k : ℝ) : EReal))

theorem lt4 (t : Fin cfg0.N) : t.val < 4 := t.isLt

theorem ent2 (n : Fin 4096) (q : Fin 1536) : V m c main_v2 (ix2 n q) = m ((c.tc : Thread nD τ).loc main_arg0) (ix3 0 n ⟨q, by omega⟩) := by
  simp only [V, hostOps0, hostOps0_1, hostOps0_2, List.flatten_cons, List.flatten_nil, List.cons_append, List.nil_append, List.append_nil]
  entry_read; pointwise
theorem ent6 (n : Fin 4096) (q : Fin 512) : V m c main_v6 (ix2 n q) = m ((c.tc : Thread nD τ).loc main_arg3) (ix3 0 n q) := by
  simp only [V, hostOps0, hostOps0_1, hostOps0_2, List.flatten_cons, List.flatten_nil, List.cons_append, List.nil_append, List.append_nil]
  entry_read; pointwise
theorem ent5 (z : Fin 1) (r : Fin 8) (hr : r.val < 3) (q : Fin 512) : V m c main_v5 (ix3 z r q) = m ((c.tc : Thread nD τ).loc main_arg1) (ix2 q ⟨r, hr⟩) := by
  simp only [V, hostOps0, hostOps0_1, hostOps0_2, List.flatten_cons, List.flatten_nil, List.cons_append, List.nil_append, List.append_nil]
  entry_read; pointwise
  show pad S8x512 ![0, 0] ![5, 0] ![0, 0] (transpose S3x512 [1, 0] (m ((c.tc : Thread nD τ).loc main_arg1) : FVec Ideal S512x3 .f32) transposes_S512x3_S3x512_1_0)
    (sitofp FTy.f32 (constantI S_ 32 0#32) : FVec Ideal S_ .f32) pads_S3x512_S8x512_050_000 h_S_ (ix2 r q) = _
  pointwise
  rw [dif_pos hr]
theorem ent7 (z y : Fin 1) (q : Fin 512) : V m c main_v7 (ix3 z y q) = m ((c.tc : Thread nD τ).loc main_arg2) (ix1 q) := by
  simp only [V, hostOps0, hostOps0_1, hostOps0_2, List.flatten_cons, List.flatten_nil, List.cons_append, List.nil_append, List.append_nil]
  entry_read; pointwise
theorem ent9 (n : Fin 4096) (q : Fin 512) : V m c main_v9 (ix2 n q) = m ((c.tc : Thread nD τ).loc main_arg4) (ix3 0 n q) := by
  simp only [V, hostOps0, hostOps0_1, hostOps0_2, List.flatten_cons, List.flatten_nil, List.cons_append, List.nil_append, List.append_nil]
  entry_read; pointwise
theorem ent11 (n : Fin 4096) (q : Fin 512) : V m c main_v11 (ix2 n q) = m ((c.tc : Thread nD τ).loc main_arg5) (ix3 0 n q) := by
  simp only [V, hostOps0, hostOps0_1, hostOps0_2, List.flatten_cons, List.flatten_nil, List.cons_append, List.nil_append, List.append_nil]
  entry_read; pointwise
theorem ent13 (n : Fin 4096) (q : Fin 512) : V m c main_v13 (ix2 n q) = m ((c.tc : Thread nD τ).loc main_arg6) (ix3 0 n q) := by
  simp only [V, hostOps0, hostOps0_1, hostOps0_2, List.flatten_cons, List.flatten_nil, List.cons_append, List.nil_append, List.append_nil]
  entry_read; pointwise
theorem blk0 (t : Fin cfg0.N) (r : Fin 1024) (q : Fin 1536) :
    iblk m c 0 t (ix2 r q) = V m c main_v2 (ix2 ⟨1024 * t.val + r, by have := lt4 t; omega⟩ q) := by
  blk_point [iblk, idx t]
theorem blk1 (t : Fin cfg0.N) (r : Fin 16) (q : Fin 1536) :
    iblk m c 1 t (ix2 r q) = V m c main_v2 (ix2 ⟨16 * (64 * t.val - 1) + r, by have := lt4 t; omega⟩ q) := by
  blk_point [iblk, idx t]
theorem blk2 (t : Fin cfg0.N) (r : Fin 16) (q : Fin 1536) :
    iblk m c 2 t (ix2 r q) = V m c main_v2 (ix2 ⟨16 * min (64 * (t.val + 1)) 255 + r, by have := lt4 t; omega⟩ q) := by
  blk_point [iblk, idx t]
theorem blk3 (t : Fin cfg0.N) (r : Fin 1024) (q : Fin 512) :
    iblk m c 3 t (ix2 r q) = V m c main_v6 (ix2 ⟨1024 * t.val + r, by have := lt4 t; omega⟩ q) := by
  blk_point [iblk, idx t]
theorem blk4 (t : Fin cfg0.N) (r : Fin 8) (q : Fin 512) :
    iblk m c 4 t (ix2 r q) = V m c main_v6 (ix2 ⟨8 * min (128 * (t.val + 1)) 511 + r, by have := lt4 t; omega⟩ q) := by
  blk_point [iblk, idx t]
theorem blk7 (t : Fin cfg0.N) (r : Fin 1024) (q : Fin 512) :
    iblk m c 7 t (ix2 r q) = V m c main_v9 (ix2 ⟨1024 * t.val + r, by have := lt4 t; omega⟩ q) := by
  blk_point [iblk, idx t]
theorem blk8 (t : Fin cfg0.N) (r : Fin 1024) (q : Fin 512) :
    iblk m c 8 t (ix2 r q) = V m c main_v11 (ix2 ⟨1024 * t.val + r, by have := lt4 t; omega⟩ q) := by
  blk_point [iblk, idx t]
theorem blk9 (t : Fin cfg0.N) (r : Fin 1024) (q : Fin 512) :
    iblk m c 9 t (ix2 r q) = V m c main_v13 (ix2 ⟨1024 * t.val + r, by have := lt4 t; omega⟩ q) := by
  blk_point [iblk, idx t]
theorem blk5 (t : Fin cfg0.N) (z : Fin 1) (r : Fin 8) (q : Fin 512) : iblk m c 5 t (ix3 z r q) = V m c main_v5 (ix3 z r q) := by
  blk_point [iblk, idx t]
theorem blk6 (t : Fin cfg0.N) (z y : Fin 1) (q : Fin 512) : iblk m c 6 t (ix3 z y q) = V m c main_v7 (ix3 z y q) := by
  blk_point [iblk, idx t]

include hX hD hW hg in
theorem loads0 (t : Fin cfg0.N) : Loads X D w g t.val 0
    (View.ld (iblk m c 1 t) (Rect.unit ![0, 0] ![16, 128] inb_S16x1536_S16x128_0_0))
    (View.ld (iblk m c 2 t) (Rect.unit ![0, 0] ![16, 128] inb_S16x1536_S16x128_0_0))
    (View.ld (iblk m c 0 t) (Rect.unit ![0, 0] ![1024, 128] inb_S1024x1536_S1024x128_0_0))
    (View.ld (iblk m c 1 t) (Rect.unit ![0, 512] ![16, 128] inb_S16x1536_S16x128_0_512))
    (View.ld (iblk m c 2 t) (Rect.unit ![0, 512] ![16, 128] inb_S16x1536_S16x128_0_512))
    (View.ld (iblk m c 0 t) (Rect.unit ![0, 512] ![1024, 128] inb_S1024x1536_S1024x128_0_512))
    (View.ld (iblk m c 1 t) (Rect.unit ![0, 1024] ![16, 128] inb_S16x1536_S16x128_0_1024))
    (View.ld (iblk m c 2 t) (Rect.unit ![0, 1024] ![16, 128] inb_S16x1536_S16x128_0_1024))
    (View.ld (iblk m c 0 t) (Rect.unit ![0, 1024] ![1024, 128] inb_S1024x1536_S1024x128_0_1024))
    (View.ld (iblk m c 4 t) (Rect.unit ![0, 0] ![8, 128] inb_S8x512_S8x128_0_0))
    (View.ld (iblk m c 3 t) (Rect.unit ![0, 0] ![1024, 128] inb_S1024x512_S1024x128_0_0))
    (View.ld (iblk m c 5 t) (Rect.unit ![0, 0, 0] ![1, 1, 128] inb_S1x8x512_S1x1x128_0_0_0))
    (View.ld (iblk m c 5 t) (Rect.unit ![0, 1, 0] ![1, 1, 128] inb_S1x8x512_S1x1x128_0_1_0))
    (View.ld (iblk m c 5 t) (Rect.unit ![0, 2, 0] ![1, 1, 128] inb_S1x8x512_S1x1x128_0_2_0))
    (View.ld (iblk m c 6 t) (Rect.unit ![0, 0, 0] ![1, 1, 128] inb_S1x1x512_S1x1x128_0_0_0)) := by
  refine ⟨fun r l => ?_, fun r l => ?_, fun r l => ?_, fun r l => ?_, fun r l => ?_, fun r l => ?_, fun r l => ?_, fun r l => ?_,
    fun r l => ?_, fun r l => ?_, fun r l => ?_, fun a b l => ?_, fun a b l => ?_, fun a b l => ?_, fun a b l => ?_⟩
  · pointwise; rw [blk1, ent2, hX]
  · pointwise; rw [blk2, ent2, hX]
  · pointwise; rw [blk0, ent2, hX]
  · pointwise; rw [blk1, ent2, hX]
  · pointwise; rw [blk2, ent2, hX]
  · pointwise; rw [blk0, ent2, hX]
  · pointwise; rw [blk1, ent2, hX]
  · pointwise; rw [blk2, ent2, hX]
  · pointwise; rw [blk0, ent2, hX]
  · pointwise; rw [blk4, ent6, hD]
  · pointwise; rw [blk3, ent6, hD]
  · pointwise; rw [blk5, ent5 m c _ _ (by simp), hW]; simp
  · pointwise; rw [blk5, ent5 m c _ _ (by simp), hW]; simp
  · pointwise; rw [blk5, ent5 m c _ _ (by simp), hW]; simp
  · pointwise; rw [blk6, ent7, hg]

include hX hD hW hg in
theorem loads1 (t : Fin cfg0.N) : Loads X D w g t.val 1
    (View.ld (iblk m c 1 t) (Rect.unit ![0, 128] ![16, 128] inb_S16x1536_S16x128_0_128))
    (View.ld (iblk m c 2 t) (Rect.unit ![0, 128] ![16, 128] inb_S16x1536_S16x128_0_128))
    (View.ld (iblk m c 0 t) (Rect.unit ![0, 128] ![1024, 128] inb_S1024x1536_S1024x128_0_128))
    (View.ld (iblk m c 1 t) (Rect.unit ![0, 640] ![16, 128] inb_S16x1536_S16x128_0_640))
    (View.ld (iblk m c 2 t) (Rect.unit ![0, 640] ![16, 128] inb_S16x1536_S16x128_0_640))
    (View.ld (iblk m c 0 t) (Rect.unit ![0, 640] ![1024, 128] inb_S1024x1536_S1024x128_0_640))
    (View.ld (iblk m c 1 t) (Rect.unit ![0, 1152] ![16, 128] inb_S16x1536_S16x128_0_1152))
    (View.ld (iblk m c 2 t) (Rect.unit ![0, 1152] ![16, 128] inb_S16x1536_S16x128_0_1152))
    (View.ld (iblk m c 0 t) (Rect.unit ![0, 1152] ![1024, 128] inb_S1024x1536_S1024x128_0_1152))
    (View.ld (iblk m c 4 t) (Rect.unit ![0, 128] ![8, 128] inb_S8x512_S8x128_0_128))
    (View.ld (iblk m c 3 t) (Rect.unit ![0, 128] ![1024, 128] inb_S1024x512_S1024x128_0_128))
    (View.ld (iblk m c 5 t) (Rect.unit ![0, 0, 128] ![1, 1, 128] inb_S1x8x512_S1x1x128_0_0_128))
    (View.ld (iblk m c 5 t) (Rect.unit ![0, 1, 128] ![1, 1, 128] inb_S1x8x512_S1x1x128_0_1_128))
    (View.ld (iblk m c 5 t) (Rect.unit ![0, 2, 128] ![1, 1, 128] inb_S1x8x512_S1x1x128_0_2_128))
    (View.ld (iblk m c 6 t) (Rect.unit ![0, 0, 128] ![1, 1, 128] inb_S1x1x512_S1x1x128_0_0_128)) := by
  refine ⟨fun r l => ?_, fun r l => ?_, fun r l => ?_, fun r l => ?_, fun r l => ?_, fun r l => ?_, fun r l => ?_, fun r l => ?_,
    fun r l => ?_, fun r l => ?_, fun r l => ?_, fun a b l => ?_, fun a b l => ?_, fun a b l => ?_, fun a b l => ?_⟩
  · pointwise; rw [blk1, ent2, hX]
  · pointwise; rw [blk2, ent2, hX]
  · pointwise; rw [blk0, ent2, hX]
  · pointwise; rw [blk1, ent2, hX]
  · pointwise; rw [blk2, ent2, hX]
  · pointwise; rw [blk0, ent2, hX]
  · pointwise; rw [blk1, ent2, hX]
  · pointwise; rw [blk2, ent2, hX]
  · pointwise; rw [blk0, ent2, hX]
  · pointwise; rw [blk4, ent6, hD]
  · pointwise; rw [blk3, ent6, hD]
  · pointwise; rw [blk5, ent5 m c _ _ (by simp), hW]; rfl
  · pointwise; rw [blk5, ent5 m c _ _ (by simp), hW]; rfl
  · pointwise; rw [blk5, ent5 m c _ _ (by simp), hW]; rfl
  · pointwise; rw [blk6, ent7, hg]

include hX hD hW hg in
theorem loads2 (t : Fin cfg0.N) : Loads X D w g t.val 2
    (View.ld (iblk m c 1 t) (Rect.unit ![0, 256] ![16, 128] inb_S16x1536_S16x128_0_256))
    (View.ld (iblk m c 2 t) (Rect.unit ![0, 256] ![16, 128] inb_S16x1536_S16x128_0_256))
    (View.ld (iblk m c 0 t) (Rect.unit ![0, 256] ![1024, 128] inb_S1024x1536_S1024x128_0_256))
    (View.ld (iblk m c 1 t) (Rect.unit ![0, 768] ![16, 128] inb_S16x1536_S16x128_0_768))
    (View.ld (iblk m c 2 t) (Rect.unit ![0, 768] ![16, 128] inb_S16x1536_S16x128_0_768))
    (View.ld (iblk m c 0 t) (Rect.unit ![0, 768] ![1024, 128] inb_S1024x1536_S1024x128_0_768))
    (View.ld (iblk m c 1 t) (Rect.unit ![0, 1280] ![16, 128] inb_S16x1536_S16x128_0_1280))
    (View.ld (iblk m c 2 t) (Rect.unit ![0, 1280] ![16, 128] inb_S16x1536_S16x128_0_1280))
    (View.ld (iblk m c 0 t) (Rect.unit ![0, 1280] ![1024, 128] inb_S1024x1536_S1024x128_0_1280))
    (View.ld (iblk m c 4 t) (Rect.unit ![0, 256] ![8, 128] inb_S8x512_S8x128_0_256))
    (View.ld (iblk m c 3 t) (Rect.unit ![0, 256] ![1024, 128] inb_S1024x512_S1024x128_0_256))
    (View.ld (iblk m c 5 t) (Rect.unit ![0, 0, 256] ![1, 1, 128] inb_S1x8x512_S1x1x128_0_0_256))
    (View.ld (iblk m c 5 t) (Rect.unit ![0, 1, 256] ![1, 1, 128] inb_S1x8x512_S1x1x128_0_1_256))
    (View.ld (iblk m c 5 t) (Rect.unit ![0, 2, 256] ![1, 1, 128] inb_S1x8x512_S1x1x128_0_2_256))
    (View.ld (iblk m c 6 t) (Rect.unit ![0, 0, 256] ![1, 1, 128] inb_S1x1x512_S1x1x128_0_0_256)) := by
  refine ⟨fun r l => ?_, fun r l => ?_, fun r l => ?_, fun r l => ?_, fun r l => ?_, fun r l => ?_, fun r l => ?_, fun r l => ?_,
    fun r l => ?_, fun r l => ?_, fun r l => ?_, fun a b l => ?_, fun a b l => ?_, fun a b l => ?_, fun a b l => ?_⟩
  · pointwise; rw [blk1, ent2, hX]
  · pointwise; rw [blk2, ent2, hX]
  · pointwise; rw [blk0, ent2, hX]
  · pointwise; rw [blk1, ent2, hX]
  · pointwise; rw [blk2, ent2, hX]
  · pointwise; rw [blk0, ent2, hX]
  · pointwise; rw [blk1, ent2, hX]
  · pointwise; rw [blk2, ent2, hX]
  · pointwise; rw [blk0, ent2, hX]
  · pointwise; rw [blk4, ent6, hD]
  · pointwise; rw [blk3, ent6, hD]
  · pointwise; rw [blk5, ent5 m c _ _ (by simp), hW]; rfl
  · pointwise; rw [blk5, ent5 m c _ _ (by simp), hW]; rfl
  · pointwise; rw [blk5, ent5 m c _ _ (by simp), hW]; rfl
  · pointwise; rw [blk6, ent7, hg]

include hX hD hW hg in
theorem loads3 (t : Fin cfg0.N) : Loads X D w g t.val 3
    (View.ld (iblk m c 1 t) (Rect.unit ![0, 384] ![16, 128] inb_S16x1536_S16x128_0_384))
    (View.ld (iblk m c 2 t) (Rect.unit ![0, 384] ![16, 128] inb_S16x1536_S16x128_0_384))
    (View.ld (iblk m c 0 t) (Rect.unit ![0, 384] ![1024, 128] inb_S1024x1536_S1024x128_0_384))
    (View.ld (iblk m c 1 t) (Rect.unit ![0, 896] ![16, 128] inb_S16x1536_S16x128_0_896))
    (View.ld (iblk m c 2 t) (Rect.unit ![0, 896] ![16, 128] inb_S16x1536_S16x128_0_896))
    (View.ld (iblk m c 0 t) (Rect.unit ![0, 896] ![1024, 128] inb_S1024x1536_S1024x128_0_896))
    (View.ld (iblk m c 1 t) (Rect.unit ![0, 1408] ![16, 128] inb_S16x1536_S16x128_0_1408))
    (View.ld (iblk m c 2 t) (Rect.unit ![0, 1408] ![16, 128] inb_S16x1536_S16x128_0_1408))
    (View.ld (iblk m c 0 t) (Rect.unit ![0, 1408] ![1024, 128] inb_S1024x1536_S1024x128_0_1408))
    (View.ld (iblk m c 4 t) (Rect.unit ![0, 384] ![8, 128] inb_S8x512_S8x128_0_384))
    (View.ld (iblk m c 3 t) (Rect.unit ![0, 384] ![1024, 128] inb_S1024x512_S1024x128_0_384))
    (View.ld (iblk m c 5 t) (Rect.unit ![0, 0, 384] ![1, 1, 128] inb_S1x8x512_S1x1x128_0_0_384))
    (View.ld (iblk m c 5 t) (Rect.unit ![0, 1, 384] ![1, 1, 128] inb_S1x8x512_S1x1x128_0_1_384))
    (View.ld (iblk m c 5 t) (Rect.unit ![0, 2, 384] ![1, 1, 128] inb_S1x8x512_S1x1x128_0_2_384))
    (View.ld (iblk m c 6 t) (Rect.unit ![0, 0, 384] ![1, 1, 128] inb_S1x1x512_S1x1x128_0_0_384)) := by
  refine ⟨fun r l => ?_, fun r l => ?_, fun r l => ?_, fun r l => ?_, fun r l => ?_, fun r l => ?_, fun r l => ?_, fun r l => ?_,
    fun r l => ?_, fun r l => ?_, fun r l => ?_, fun a b l => ?_, fun a b l => ?_, fun a b l => ?_, fun a b l => ?_⟩
  · pointwise; rw [blk1, ent2, hX]
  · pointwise; rw [blk2, ent2, hX]
  · pointwise; rw [blk0, ent2, hX]
  · pointwise; rw [blk1, ent2, hX]
  · pointwise; rw [blk2, ent2, hX]
  · pointwise; rw [blk0, ent2, hX]
  · pointwise; rw [blk1, ent2, hX]
  · pointwise; rw [blk2, ent2, hX]
  · pointwise; rw [blk0, ent2, hX]
  · pointwise; rw [blk4, ent6, hD]
  · pointwise; rw [blk3, ent6, hD]
  · pointwise; rw [blk5, ent5 m c _ _ (by simp), hW]; rfl
  · pointwise; rw [blk5, ent5 m c _ _ (by simp), hW]; rfl
  · pointwise; rw [blk5, ent5 m c _ _ (by simp), hW]; rfl
  · pointwise; rw [blk6, ent7, hg]
end Cert.KernelIdeal.Val
-- ==== Proof.ConvOut.lean ====
/-
  The kernel's first result: every block of the projection's cotangent is a block of the whole arrays' formulas.
-/
module
public import proofs.«01_k».proof.Proof.ConvBlocks
@[expose] public section
set_option maxRecDepth 16384
noncomputable section
open Idealize.ShloMosaic Idealize.ShloMosaic.TcCoe Idealize.SL.Sem
open Idealize.ShloMosaic.Pipeline (Dat)
namespace Cert.KernelIdeal.Val
open Cert.KernelIdeal Cert.KernelIdeal.Gen Cert.KernelIdeal.Tile

section
variable (X D w : ℕ → ℕ → ℝ) (g : ℕ → ℝ) (Q1 Q2 Q3 : ℕ → ℕ → EReal)
/-- The projection's cotangent: the three parts of the convolution, then the three cotangents handed through. -/
def G10 (n q : ℕ) : EReal :=
  if q < 512 then ((gC X D w g n q : ℝ) : EReal) else if q < 1024 then ((gB X D w g n (q - 512) : ℝ) : EReal)
  else if q < 1536 then ((gH X D w g n (q - 1024) : ℝ) : EReal) else if q < 2048 then Q1 n (q - 1536)
  else if q < 2560 then Q2 n (q - 2048) else Q3 n (q - 2560)
variable {n q n' q' : ℕ}
theorem G10_C (hn : n = n') (hq : q = q') (h : q' < 512) : G10 X D w g Q1 Q2 Q3 n q = ((gC X D w g n' q' : ℝ) : EReal) := by
  subst hn hq; unfold G10; rw [if_pos h]
theorem G10_B (hn : n = n') (hq : q = 512 + q') (h : q' < 512) : G10 X D w g Q1 Q2 Q3 n q = ((gB X D w g n' q' : ℝ) : EReal) := by
  subst hn hq; unfold G10; rw [if_neg (by omega), if_pos (by omega), show 512 + q' - 512 = q' by omega]
theorem G10_H (hn : n = n') (hq : q = 1024 + q') (h : q' < 512) : G10 X D w g Q1 Q2 Q3 n q = ((gH X D w g n' q' : ℝ) : EReal) := by
  subst hn hq; unfold G10
  rw [if_neg (by omega), if_neg (by omega), if_pos (by omega), show 1024 + q' - 1024 = q' by omega]
theorem G10_1 (hn : n = n') (hq : q = 1536 + q') (h : q' < 512) : G10 X D w g Q1 Q2 Q3 n q = Q1 n' q' := by
  subst hn hq; unfold G10
  rw [if_neg (by omega), if_neg (by omega), if_neg (by omega), if_pos (by omega), show 1536 + q' - 1536 = q' by omega]
theorem G10_2 (hn : n = n') (hq : q = 2048 + q') (h : q' < 512) : G10 X D w g Q1 Q2 Q3 n q = Q2 n' q' := by
  subst hn hq; unfold G10
  rw [if_neg (by omega), if_neg (by omega), if_neg (by omega), if_neg (by omega), if_pos (by omega), show 2048 + q' - 2048 = q' by omega]
theorem G10_3 (hn : n = n') (hq : q = 2560 + q') : G10 X D w g Q1 Q2 Q3 n q = Q3 n' q' := by
  subst hn hq; unfold G10
  rw [if_neg (by omega), if_neg (by omega), if_neg (by omega), if_neg (by omega), if_neg (by omega), show 2560 + q' - 2560 = q' by omega]
end

variable (m : (ℓ : Loc nD τ sig) → Buf (Elt Ideal) ℓ) (c : Dev nD) {X D w : ℕ → ℕ → ℝ} {g : ℕ → ℝ} {Q1 Q2 Q3 : ℕ → ℕ → EReal}
  (hX : ∀ (a : Fin 1) (n : Fin 4096) (k : Fin 3072), m ((c.tc : Thread nD τ).loc main_arg0) (ix3 a n k) = ((X n k : ℝ) : EReal))
  (hW : ∀ (n : Fin 512) (k : Fin 3), m ((c.tc : Thread nD τ).loc main_arg1) (ix2 n k) = ((w k n : ℝ) : EReal))
  (hg : ∀ (n : Fin 512), m ((c.tc : Thread nD τ).loc main_arg2) (ix1 n) = ((g n : ℝ) : EReal))
  (hD : ∀ (a : Fin 1) (n : Fin 4096) (k : Fin 512), m ((c.tc : Thread nD τ).loc main_arg3) (ix3 a n k) = ((D n k : ℝ) : EReal))
  (h4 : ∀ (a : Fin 1) (n : Fin 4096) (k : Fin 512), m ((c.tc : Thread nD τ).loc main_arg4) (ix3 a n k) = Q1 n k)
  (h5 : ∀ (a : Fin 1) (n : Fin 4096) (k : Fin 512), m ((c.tc : Thread nD τ).loc main_arg5) (ix3 a n k) = Q2 n k)
  (h6 : ∀ (a : Fin 1) (n : Fin 4096) (k : Fin 512), m ((c.tc : Thread nD τ).loc main_arg6) (ix3 a n k) = Q3 n k)
include hX hW hg hD h4 h5 h6

/-- What a point of the first kind leaves in the window of the first result. -/
theorem point10A (t : Fin cfg0.N) (hc : t.val % 4 = 0) (y : S1024x3072.Idx) :
    (outsAt0 m c t.val t.isLt).1 y = G10 X D w g Q1 Q2 Q3 (1024 * t.val + (y 0).val) (y 1).val := by
  rw [outsAt0_A m c t hc]; frame_out
  canon_tiles x h using (View.cover_of_tiledBy _ ![1024, 128] (by sl_kernel_rfl) _)
  all_goals idx_vars x
  case piece0 =>
    refine (tile_H (X := X) (D := D) (w := w) (g := g) (i := grid0.coords t) (j := 3)
      (by rw [coords_val]; exact loads3 m c hX hW hg hD t) (by rw [coords_val]; exact lt4 t) _ _).trans ?_
    rw [coords_val]
    exact (G10_H _ _ _ _ _ _ _ (by omega) (by omega) (by omega)).symm
  case piece1 =>
    refine (tile_B (X := X) (D := D) (w := w) (g := g) (i := grid0.coords t) (j := 3)
      (by rw [coords_val]; exact loads3 m c hX hW hg hD t) (by rw [coords_val]; exact lt4 t) _ _).trans ?_
    rw [coords_val]
    exact (G10_B _ _ _ _ _ _ _ (by omega) (by omega) (by omega)).symm
  case piece2 =>
    refine (tile_C (X := X) (D := D) (w := w) (g := g) (i := grid0.coords t) (j := 3)
      (by rw [coords_val]; exact loads3 m c hX hW hg hD t) (by rw [coords_val]; exact lt4 t) _ _).trans ?_
    rw [coords_val]
    exact (G10_C _ _ _ _ _ _ _ (by omega) (by omega) (by omega)).symm
  case piece3 =>
    refine (tile_H (X := X) (D := D) (w := w) (g := g) (i := grid0.coords t) (j := 2)
      (by rw [coords_val]; exact loads2 m c hX hW hg hD t) (by rw [coords_val]; exact lt4 t) _ _).trans ?_
    rw [coords_val]
    exact (G10_H _ _ _ _ _ _ _ (by omega) (by omega) (by omega)).symm
  case piece4 =>
    refine (tile_B (X := X) (D := D) (w := w) (g := g) (i := grid0.coords t) (j := 2)
      (by rw [coords_val]; exact loads2 m c hX hW hg hD t) (by rw [coords_val]; exact lt4 t) _ _).trans ?_
    rw [coords_val]
    exact (G10_B _ _ _ _ _ _ _ (by omega) (by omega) (by omega)).symm
  case piece5 =>
    refine (tile_C (X := X) (D := D) (w := w) (g := g) (i := grid0.coords t) (j := 2)
      (by rw [coords_val]; exact loads2 m c hX hW hg hD t) (by rw [coords_val]; exact lt4 t) _ _).trans ?_
    rw [coords_val]
    exact (G10_C _ _ _ _ _ _ _ (by omega) (by omega) (by omega)).symm
  case piece6 =>
    refine (tile_H (X := X) (D := D) (w := w) (g := g) (i := grid0.coords t) (j := 1)
      (by rw [coords_val]; exact loads1 m c hX hW hg hD t) (by rw [coords_val]; exact lt4 t) _ _).trans ?_
    rw [coords_val]
    exact (G10_H _ _ _ _ _ _ _ (by omega) (by omega) (by omega)).symm
  case piece7 =>
    refine (tile_B (X := X) (D := D) (w := w) (g := g) (i := grid0.coords t) (j := 1)
      (by rw [coords_val]; exact loads1 m c hX hW hg hD t) (by rw [coords_val]; exact lt4 t) _ _).trans ?_
    rw [coords_val]
    exact (G10_B _ _ _ _ _ _ _ (by omega) (by omega) (by omega)).symm
  case piece8 =>
    refine (tile_C (X := X) (D := D) (w := w) (g := g) (i := grid0.coords t) (j := 1)
      (by rw [coords_val]; exact loads1 m c hX hW hg hD t) (by rw [coords_val]; exact lt4 t) _ _).trans ?_
    rw [coords_val]
    exact (G10_C _ _ _ _ _ _ _ (by omega) (by omega) (by omega)).symm
  case piece9 =>
    refine (tile_H (X := X) (D := D) (w := w) (g := g) (i := grid0.coords t) (j := 0)
      (by rw [coords_val]; exact loads0 m c hX hW hg hD t) (by rw [coords_val]; exact lt4 t) _ _).trans ?_
    rw [coords_val]
    exact (G10_H _ _ _ _ _ _ _ (by omega) (by omega) (by omega)).symm
  case piece10 =>
    refine (tile_B (X := X) (D := D) (w := w) (g := g) (i := grid0.coords t) (j := 0)
      (by rw [coords_val]; exact loads0 m c hX hW hg hD t) (by rw [coords_val]; exact lt4 t) _ _).trans ?_
    rw [coords_val]
    exact (G10_B _ _ _ _ _ _ _ (by omega) (by omega) (by omega)).symm
  case piece11 =>
    refine (tile_C (X := X) (D := D) (w := w) (g := g) (i := grid0.coords t) (j := 0)
      (by rw [coords_val]; exact loads0 m c hX hW hg hD t) (by rw [coords_val]; exact lt4 t) _ _).trans ?_
    rw [coords_val]
    exact (G10_C _ _ _ _ _ _ _ (by omega) (by omega) (by omega)).symm
  case piece12 =>
    pointwise [k0_pay3]; rw [blk9, ent13, h6]; show Q3 (1024 * t.val + x0.val) x1.val = _
    exact (G10_3 _ _ _ _ _ _ _ (by omega) (by omega)).symm
  case piece13 =>
    pointwise [k0_pay2]; rw [blk8, ent11, h5]; show Q2 (1024 * t.val + x0.val) x1.val = _
    exact (G10_2 _ _ _ _ _ _ _ (by omega) (by omega) (by omega)).symm
  case piece14 =>
    pointwise [k0_pay1]; rw [blk7, ent9, h4]; show Q1 (1024 * t.val + x0.val) x1.val = _
    exact (G10_1 _ _ _ _ _ _ _ (by omega) (by omega) (by omega)).symm

/-- What a point after the first leaves in the window of the first result. -/
theorem point10B (t : Fin cfg0.N) (hc : ¬ t.val % 4 = 0) (y : S1024x3072.Idx) :
    (outsAt0 m c t.val t.isLt).1 y = G10 X D w g Q1 Q2 Q3 (1024 * t.val + (y 0).val) (y 1).val := by
  rw [outsAt0_B m c t hc]; frame_out
  canon_tiles x h using (View.cover_of_tiledBy _ ![1024, 128] (by sl_kernel_rfl) _)
  all_goals idx_vars x
  case piece0 =>
    refine (tile_H (X := X) (D := D) (w := w) (g := g) (i := grid0.coords t) (j := 3)
      (by rw [coords_val]; exact loads3 m c hX hW hg hD t) (by rw [coords_val]; exact lt4 t) _ _).trans ?_
    rw [coords_val]
    exact (G10_H _ _ _ _ _ _ _ (by omega) (by omega) (by omega)).symm
  case piece1 =>
    refine (tile_B (X := X) (D := D) (w := w) (g := g) (i := grid0.coords t) (j := 3)
      (by rw [coords_val]; exact loads3 m c hX hW hg hD t) (by rw [coords_val]; exact lt4 t) _ _).trans ?_
    rw [coords_val]
    exact (G10_B _ _ _ _ _ _ _ (by omega) (by omega) (by omega)).symm
  case piece2 =>
    refine (tile_C (X := X) (D := D) (w := w) (g := g) (i := grid0.coords t) (j := 3)
      (by rw [coords_val]; exact loads3 m c hX hW hg hD t) (by rw [coords_val]; exact lt4 t) _ _).trans ?_
    rw [coords_val]
    exact (G10_C _ _ _ _ _ _ _ (by omega) (by omega) (by omega)).symm
  case piece3 =>
    refine (tile_H (X := X) (D := D) (w := w) (g := g) (i := grid0.coords t) (j := 2)
      (by rw [coords_val]; exact loads2 m c hX hW hg hD t) (by rw [coords_val]; exact lt4 t) _ _).trans ?_
    rw [coords_val]
    exact (G10_H _ _ _ _ _ _ _ (by omega) (by omega) (by omega)).symm
  case piece4 =>
    refine (tile_B (X := X) (D := D) (w := w) (g := g) (i := grid0.coords t) (j := 2)
      (by rw [coords_val]; exact loads2 m c hX hW hg hD t) (by rw [coords_val]; exact lt4 t) _ _).trans ?_
    rw [coords_val]
    exact (G10_B _ _ _ _ _ _ _ (by omega) (by omega) (by omega)).symm
  case piece5 =>
    refine (tile_C (X := X) (D := D) (w := w) (g := g) (i := grid0.coords t) (j := 2)
      (by rw [coords_val]; exact loads2 m c hX hW hg hD t) (by rw [coords_val]; exact lt4 t) _ _).trans ?_
    rw [coords_val]
    exact (G10_C _ _ _ _ _ _ _ (by omega) (by omega) (by omega)).symm
  case piece6 =>
    refine (tile_H (X := X) (D := D) (w := w) (g := g) (i := grid0.coords t) (j := 1)
      (by rw [coords_val]; exact loads1 m c hX hW hg hD t) (by rw [coords_val]; exact lt4 t) _ _).trans ?_
    rw [coords_val]
    exact (G10_H _ _ _ _ _ _ _ (by omega) (by omega) (by omega)).symm
  case piece7 =>
    refine (tile_B (X := X) (D := D) (w := w) (g := g) (i := grid0.coords t) (j := 1)
      (by rw [coords_val]; exact loads1 m c hX hW hg hD t) (by rw [coords_val]; exact lt4 t) _ _).trans ?_
    rw [coords_val]
    exact (G10_B _ _ _ _ _ _ _ (by omega) (by omega) (by omega)).symm
  case piece8 =>
    refine (tile_C (X := X) (D := D) (w := w) (g := g) (i := grid0.coords t) (j := 1)
      (by rw [coords_val]; exact loads1 m c hX hW hg hD t) (by rw [coords_val]; exact lt4 t) _ _).trans ?_
    rw [coords_val]
    exact (G10_C _ _ _ _ _ _ _ (by omega) (by omega) (by omega)).symm
  case piece9 =>
    refine (tile_H (X := X) (D := D) (w := w) (g := g) (i := grid0.coords t) (j := 0)
      (by rw [coords_val]; exact loads0 m c hX hW hg hD t) (by rw [coords_val]; exact lt4 t) _ _).trans ?_
    rw [coords_val]
    exact (G10_H _ _ _ _ _ _ _ (by omega) (by omega) (by omega)).symm
  case piece10 =>
    refine (tile_B (X := X) (D := D) (w := w) (g := g) (i := grid0.coords t) (j := 0)
      (by rw [coords_val]; exact loads0 m c hX hW hg hD t) (by rw [coords_val]; exact lt4 t) _ _).trans ?_
    rw [coords_val]
    exact (G10_B _ _ _ _ _ _ _ (by omega) (by omega) (by omega)).symm
  case piece11 =>
    refine (tile_C (X := X) (D := D) (w := w) (g := g) (i := grid0.coords t) (j := 0)
      (by rw [coords_val]; exact loads0 m c hX hW hg hD t) (by rw [coords_val]; exact lt4 t) _ _).trans ?_
    rw [coords_val]
    exact (G10_C _ _ _ _ _ _ _ (by omega) (by omega) (by omega)).symm
  case piece12 =>
    pointwise [k0_pay3]; rw [blk9, ent13, h6]; show Q3 (1024 * t.val + x0.val) x1.val = _
    exact (G10_3 _ _ _ _ _ _ _ (by omega) (by omega)).symm
  case piece13 =>
    pointwise [k0_pay2]; rw [blk8, ent11, h5]; show Q2 (1024 * t.val + x0.val) x1.val = _
    exact (G10_2 _ _ _ _ _ _ _ (by omega) (by omega) (by omega)).symm
  case piece14 =>
    pointwise [k0_pay1]; rw [blk7, ent9, h4]; show Q1 (1024 * t.val + x0.val) x1.val = _
    exact (G10_1 _ _ _ _ _ _ _ (by omega) (by omega) (by omega)).symm

/-- The first result's array. -/
theorem final10 : (dats m 0 c).arrAt 10 (cfgs 0).N = fun i : S4096x3072.Idx => G10 X D w g Q1 Q2 Q3 (i 0).val (i 1).val := by
  refine (dats m 0 c).arrAt_eq_of_covers 10 _ (by decide +kernel) fun t hf y => ?_
  blk_simp [idx t]
  rw [after0_10]
  by_cases hc : t.val % 4 = 0
  · refine (point10A m c hX hW hg hD h4 h5 h6 t hc _).trans ?_
    congr 1; omega
  · refine (point10B m c hX hW hg hD h4 h5 h6 t hc _).trans ?_
    congr 1; omega
end Cert.KernelIdeal.Val
-- ==== Proof.ConvAcc.lean ====
/-
  The kernel's second and third results: rows of sums, gathered over the four grid points.
-/
module
public import proofs.«01_k».proof.Proof.ConvBlocks
public import Idealize.ShloMosaic.Lib.Pipeline.ReadBack
@[expose] public section
set_option maxRecDepth 16384
noncomputable section
open Idealize.ShloMosaic Idealize.ShloMosaic.TcCoe Idealize.SL.Sem
open Idealize.ShloMosaic.Pipeline (Dat)
namespace Cert.KernelIdeal.Val
open Cert.KernelIdeal Cert.KernelIdeal.Gen Cert.KernelIdeal.Tile

section Pieces
variable {s : Shape} {e : EltTy} {Val : EltTy → Type}
/-- What a list of stores leaves, one store at a time: the target under the newest store, the rest of the list off it. -/
theorem canon_step [∀ e, Nonempty (Val e)] (p : View.Piece Val s e) (L : List (View.Piece Val s e)) (y : s.Idx) (G : s.Idx → Val e)
    (h : ∀ x : p.1.shape.Idx, p.2 x = G (p.1.emb x)) (h' : y ∉ p.1.set → View.canon L y = G y) : View.canon (p :: L) y = G y := by
  by_cases hy : y ∈ p.1.set
  · obtain ⟨x, rfl⟩ : ∃ x, p.1.emb x = y := p.1.exists_idx_of_mem hy
    obtain ⟨r, w⟩ := p
    rw [View.canon_cons_emb]; exact h x
  · rw [View.canon_cons_of_not_mem _ _ hy]; exact h' hy
/-- The same for stores over known contents. -/
theorem read_step {sig : RefSig} {κ : Kind} {sp : Space} (v : View sig κ sp s e) (f : v.ty.Contents Val) (p : View.Piece Val s e)
    (L : List (View.Piece Val s e)) (y : s.Idx) (G : s.Idx → Val e)
    (h : ∀ x : p.1.shape.Idx, p.2 x = G (p.1.emb x)) (h' : y ∉ p.1.set → v.read Val (v.writes Val f L) y = G y) :
    v.read Val (v.writes Val f (p :: L)) y = G y := by
  by_cases hy : y ∈ p.1.set
  · obtain ⟨x, rfl⟩ : ∃ x, p.1.emb x = y := p.1.exists_idx_of_mem hy
    obtain ⟨r, w⟩ := p
    rw [View.read_writes_cons_emb]; exact h x
  · rw [View.read_writes_cons_miss v f p L y hy]; exact h' hy
end Pieces

/-- What grid point `t` adds to the taps' rows of sums. -/
def term11 (X D w : ℕ → ℕ → ℝ) (g : ℕ → ℝ) (t k c : ℕ) : EReal :=
  if k < 3 then ((∑ r : Fin 1024, gW X D w g k (1024 * t + r) c : ℝ) : EReal) else 0
/-- What grid point `t` adds to the gain's row of sums. -/
def term12 (X D w : ℕ → ℕ → ℝ) (t k c : ℕ) : EReal :=
  if k < 1 then ((∑ r : Fin 1024, gG X D w (1024 * t + r) c : ℝ) : EReal) else 0

theorem add_congr' {a a' b b' : EReal} (h : a = a') (h' : b = b') : a + b = a' + b' := by rw [h, h']
theorem add_right {a a' b : EReal} (h : a = a') : a + b = a' + b := by rw [h]
theorem term11_eq (X D w : ℕ → ℕ → ℝ) (g : ℕ → ℝ) (t : ℕ) {k c k' c' : ℕ} (h : k < 3) (hk : k' = k) (hc : c' = c) :
    term11 X D w g t k' c' = ((∑ r : Fin 1024, gW X D w g k (1024 * t + r) c : ℝ) : EReal) := by
  subst hk hc; exact if_pos h
theorem term12_eq (X D w : ℕ → ℕ → ℝ) (t : ℕ) {c k' c' : ℕ} (hk : k' = 0) (hc : c' = c) :
    term12 X D w t k' c' = ((∑ r : Fin 1024, gG X D w (1024 * t + r) c : ℝ) : EReal) := by
  subst hk hc; exact if_pos (by omega)

variable (m : (ℓ : Loc nD τ sig) → Buf (Elt Ideal) ℓ) (c : Dev nD) {X D w : ℕ → ℕ → ℝ} {g : ℕ → ℝ}
  (hX : ∀ (a : Fin 1) (n : Fin 4096) (k : Fin 3072), m ((c.tc : Thread nD τ).loc main_arg0) (ix3 a n k) = ((X n k : ℝ) : EReal))
  (hW : ∀ (n : Fin 512) (k : Fin 3), m ((c.tc : Thread nD τ).loc main_arg1) (ix2 n k) = ((w k n : ℝ) : EReal))
  (hg : ∀ (n : Fin 512), m ((c.tc : Thread nD τ).loc main_arg2) (ix1 n) = ((g n : ℝ) : EReal))
  (hD : ∀ (a : Fin 1) (n : Fin 4096) (k : Fin 512), m ((c.tc : Thread nD τ).loc main_arg3) (ix3 a n k) = ((D n k : ℝ) : EReal))
include hX hW hg hD

/-- What the first point leaves in the window of the second result. -/
theorem point11A (t : Fin cfg0.N) (hc : t.val % 4 = 0) (y : S8x512.Idx) :
    ((outsAt0 m c t.val t.isLt).2.1 y : EReal) = term11 X D w g t.val (y 0).val (y 1).val := by
  rw [outsAt0_A m c t hc]; frame_out
  simp (disch := decide) only [↓ View.readCov_skip, ↓ View.readCov_cons_toLoadRect, ↓ View.readCov_fill]
  refine canon_step (Val := Elt Ideal) (s := S8x512) (e := .f32) _ _ _ (fun y : S8x512.Idx => term11 X D w g t.val (y 0).val (y 1).val) (fun x => ?_) fun n1 => ?_
  · idx_vars x
    refine (row_W2 (X := X) (D := D) (w := w) (g := g) (i := grid0.coords t) (j := 3)
      (by rw [coords_val]; exact loads3 m c hX hW hg hD t) (by rw [coords_val]; exact lt4 t) _ _ _).trans ?_
    rw [coords_val]
    refine (add_right (a' := 0) (by pointwise [k0_pay10])).trans ?_
    rw [zero_add]
    exact (term11_eq X D w g _ (k := 2) (by omega) (by blk_simp <;> omega) (by blk_simp <;> omega)).symm
  refine canon_step (Val := Elt Ideal) (s := S8x512) (e := .f32) _ _ _ (fun y : S8x512.Idx => term11 X D w g t.val (y 0).val (y 1).val) (fun x => ?_) fun n2 => ?_
  · idx_vars x
    refine (row_W1 (X := X) (D := D) (w := w) (g := g) (i := grid0.coords t) (j := 3)
      (by rw [coords_val]; exact loads3 m c hX hW hg hD t) (by rw [coords_val]; exact lt4 t) _ _ _).trans ?_
    rw [coords_val]
    refine (add_right (a' := 0) (by pointwise [k0_pay10])).trans ?_
    rw [zero_add]
    exact (term11_eq X D w g _ (k := 1) (by omega) (by blk_simp <;> omega) (by blk_simp <;> omega)).symm
  refine canon_step (Val := Elt Ideal) (s := S8x512) (e := .f32) _ _ _ (fun y : S8x512.Idx => term11 X D w g t.val (y 0).val (y 1).val) (fun x => ?_) fun n3 => ?_
  · idx_vars x
    refine (row_W0 (X := X) (D := D) (w := w) (g := g) (i := grid0.coords t) (j := 3)
      (by rw [coords_val]; exact loads3 m c hX hW hg hD t) (by rw [coords_val]; exact lt4 t) _ _ _).trans ?_
    rw [coords_val]
    refine (add_right (a' := 0) (by pointwise [k0_pay10])).trans ?_
    rw [zero_add]
    exact (term11_eq X D w g _ (k := 0) (by omega) (by blk_simp <;> omega) (by blk_simp <;> omega)).symm
  refine canon_step (Val := Elt Ideal) (s := S8x512) (e := .f32) _ _ _ (fun y : S8x512.Idx => term11 X D w g t.val (y 0).val (y 1).val) (fun x => ?_) fun n4 => ?_
  · idx_vars x
    refine (row_W2 (X := X) (D := D) (w := w) (g := g) (i := grid0.coords t) (j := 2)
      (by rw [coords_val]; exact loads2 m c hX hW hg hD t) (by rw [coords_val]; exact lt4 t) _ _ _).trans ?_
    rw [coords_val]
    refine (add_right (a' := 0) (by pointwise [k0_pay10])).trans ?_
    rw [zero_add]
    exact (term11_eq X D w g _ (k := 2) (by omega) (by blk_simp <;> omega) (by blk_simp <;> omega)).symm
  refine canon_step (Val := Elt Ideal) (s := S8x512) (e := .f32) _ _ _ (fun y : S8x512.Idx => term11 X D w g t.val (y 0).val (y 1).val) (fun x => ?_) fun n5 => ?_
  · idx_vars x
    refine (row_W1 (X := X) (D := D) (w := w) (g := g) (i := grid0.coords t) (j := 2)
      (by rw [coords_val]; exact loads2 m c hX hW hg hD t) (by rw [coords_val]; exact lt4 t) _ _ _).trans ?_
    rw [coords_val]
    refine (add_right (a' := 0) (by pointwise [k0_pay10])).trans ?_
    rw [zero_add]
    exact (term11_eq X D w g _ (k := 1) (by omega) (by blk_simp <;> omega) (by blk_simp <;> omega)).symm
  refine canon_step (Val := Elt Ideal) (s := S8x512) (e := .f32) _ _ _ (fun y : S8x512.Idx => term11 X D w g t.val (y 0).val (y 1).val) (fun x => ?_) fun n6 => ?_
  · idx_vars x
    refine (row_W0 (X := X) (D := D) (w := w) (g := g) (i := grid0.coords t) (j := 2)
      (by rw [coords_val]; exact loads2 m c hX hW hg hD t) (by rw [coords_val]; exact lt4 t) _ _ _).trans ?_
    rw [coords_val]
    refine (add_right (a' := 0) (by pointwise [k0_pay10])).trans ?_
    rw [zero_add]
    exact (term11_eq X D w g _ (k := 0) (by omega) (by blk_simp <;> omega) (by blk_simp <;> omega)).symm
  refine canon_step (Val := Elt Ideal) (s := S8x512) (e := .f32) _ _ _ (fun y : S8x512.Idx => term11 X D w g t.val (y 0).val (y 1).val) (fun x => ?_) fun n7 => ?_
  · idx_vars x
    refine (row_W2 (X := X) (D := D) (w := w) (g := g) (i := grid0.coords t) (j := 1)
      (by rw [coords_val]; exact loads1 m c hX hW hg hD t) (by rw [coords_val]; exact lt4 t) _ _ _).trans ?_
    rw [coords_val]
    refine (add_right (a' := 0) (by pointwise [k0_pay10])).trans ?_
    rw [zero_add]
    exact (term11_eq X D w g _ (k := 2) (by omega) (by blk_simp <;> omega) (by blk_simp <;> omega)).symm
  refine canon_step (Val := Elt Ideal) (s := S8x512) (e := .f32) _ _ _ (fun y : S8x512.Idx => term11 X D w g t.val (y 0).val (y 1).val) (fun x => ?_) fun n8 => ?_
  · idx_vars x
    refine (row_W1 (X := X) (D := D) (w := w) (g := g) (i := grid0.coords t) (j := 1)
      (by rw [coords_val]; exact loads1 m c hX hW hg hD t) (by rw [coords_val]; exact lt4 t) _ _ _).trans ?_
    rw [coords_val]
    refine (add_right (a' := 0) (by pointwise [k0_pay10])).trans ?_
    rw [zero_add]
    exact (term11_eq X D w g _ (k := 1) (by omega) (by blk_simp <;> omega) (by blk_simp <;> omega)).symm
  refine canon_step (Val := Elt Ideal) (s := S8x512) (e := .f32) _ _ _ (fun y : S8x512.Idx => term11 X D w g t.val (y 0).val (y 1).val) (fun x => ?_) fun n9 => ?_
  · idx_vars x
    refine (row_W0 (X := X) (D := D) (w := w) (g := g) (i := grid0.coords t) (j := 1)
      (by rw [coords_val]; exact loads1 m c hX hW hg hD t) (by rw [coords_val]; exact lt4 t) _ _ _).trans ?_
    rw [coords_val]
    refine (add_right (a' := 0) (by pointwise [k0_pay10])).trans ?_
    rw [zero_add]
    exact (term11_eq X D w g _ (k := 0) (by omega) (by blk_simp <;> omega) (by blk_simp <;> omega)).symm
  refine canon_step (Val := Elt Ideal) (s := S8x512) (e := .f32) _ _ _ (fun y : S8x512.Idx => term11 X D w g t.val (y 0).val (y 1).val) (fun x => ?_) fun n10 => ?_
  · idx_vars x
    refine (row_W2 (X := X) (D := D) (w := w) (g := g) (i := grid0.coords t) (j := 0)
      (by rw [coords_val]; exact loads0 m c hX hW hg hD t) (by rw [coords_val]; exact lt4 t) _ _ _).trans ?_
    rw [coords_val]
    refine (add_right (a' := 0) (by pointwise [k0_pay10])).trans ?_
    rw [zero_add]
    exact (term11_eq X D w g _ (k := 2) (by omega) (by blk_simp <;> omega) (by blk_simp <;> omega)).symm
  refine canon_step (Val := Elt Ideal) (s := S8x512) (e := .f32) _ _ _ (fun y : S8x512.Idx => term11 X D w g t.val (y 0).val (y 1).val) (fun x => ?_) fun n11 => ?_
  · idx_vars x
    refine (row_W1 (X := X) (D := D) (w := w) (g := g) (i := grid0.coords t) (j := 0)
      (by rw [coords_val]; exact loads0 m c hX hW hg hD t) (by rw [coords_val]; exact lt4 t) _ _ _).trans ?_
    rw [coords_val]
    refine (add_right (a' := 0) (by pointwise [k0_pay10])).trans ?_
    rw [zero_add]
    exact (term11_eq X D w g _ (k := 1) (by omega) (by blk_simp <;> omega) (by blk_simp <;> omega)).symm
  refine canon_step (Val := Elt Ideal) (s := S8x512) (e := .f32) _ _ _ (fun y : S8x512.Idx => term11 X D w g t.val (y 0).val (y 1).val) (fun x => ?_) fun n12 => ?_
  · idx_vars x
    refine (row_W0 (X := X) (D := D) (w := w) (g := g) (i := grid0.coords t) (j := 0)
      (by rw [coords_val]; exact loads0 m c hX hW hg hD t) (by rw [coords_val]; exact lt4 t) _ _ _).trans ?_
    rw [coords_val]
    refine (add_right (a' := 0) (by pointwise [k0_pay10])).trans ?_
    rw [zero_add]
    exact (term11_eq X D w g _ (k := 0) (by omega) (by blk_simp <;> omega) (by blk_simp <;> omega)).symm
  have hy : 3 ≤ (y 0).val := by
    rw [Rect.mem_set_unit] at n1 n2 n3 n4 n5 n6 n7 n8 n9 n10 n11 n12
    have b1 : (y 1).val < 512 := (y 1).isLt
    simp [Fin.forall_fin_two] at n1 n2 n3 n4 n5 n6 n7 n8 n9 n10 n11 n12
    omega
  refine Eq.trans (b := (0 : EReal)) ?_ (if_neg (by omega)).symm
  clear n1 n2 n3 n4 n5 n6 n7 n8 n9 n10 n11 n12
  rw [View.canon_cons_unit_lit _ _ _ (by decide)]
  pointwise [k0_pay10]

/-- What a later point leaves in the window of the second result: what stood there, and its own rows' sums. -/
theorem point11B (t : Fin cfg0.N) (hc : ¬ t.val % 4 = 0) (y : S8x512.Idx) :
    ((outsAt0 m c t.val t.isLt).2.1 y : EReal) = ((outsAt0 m c (t.val - 1) (by have := t.isLt; omega)).2.1 y : EReal) + term11 X D w g t.val (y 0).val (y 1).val := by
  rw [outsAt0_B m c t hc]; frame_out
  refine read_step (Val := Elt Ideal) (s := S8x512) (e := .f32) _ _ _ _ _ (fun y : S8x512.Idx => ((outsAt0 m c (t.val - 1) (by have := t.isLt; omega)).2.1 y : EReal) + term11 X D w g t.val (y 0).val (y 1).val) (fun x => ?_) fun n1 => ?_
  · idx_vars x
    refine (row_W2 (X := X) (D := D) (w := w) (g := g) (i := grid0.coords t) (j := 3)
      (by rw [coords_val]; exact loads3 m c hX hW hg hD t) (by rw [coords_val]; exact lt4 t) _ _ _).trans ?_
    rw [coords_val]
    refine add_congr' rfl ?_
    exact (term11_eq X D w g _ (k := 2) (by omega) (by blk_simp <;> omega) (by blk_simp <;> omega)).symm
  refine read_step (Val := Elt Ideal) (s := S8x512) (e := .f32) _ _ _ _ _ (fun y : S8x512.Idx => ((outsAt0 m c (t.val - 1) (by have := t.isLt; omega)).2.1 y : EReal) + term11 X D w g t.val (y 0).val (y 1).val) (fun x => ?_) fun n2 => ?_
  · idx_vars x
    refine (row_W1 (X := X) (D := D) (w := w) (g := g) (i := grid0.coords t) (j := 3)
      (by rw [coords_val]; exact loads3 m c hX hW hg hD t) (by rw [coords_val]; exact lt4 t) _ _ _).trans ?_
    rw [coords_val]
    refine add_congr' rfl ?_
    exact (term11_eq X D w g _ (k := 1) (by omega) (by blk_simp <;> omega) (by blk_simp <;> omega)).symm
  refine read_step (Val := Elt Ideal) (s := S8x512) (e := .f32) _ _ _ _ _ (fun y : S8x512.Idx => ((outsAt0 m c (t.val - 1) (by have := t.isLt; omega)).2.1 y : EReal) + term11 X D w g t.val (y 0).val (y 1).val) (fun x => ?_) fun n3 => ?_
  · idx_vars x
    refine (row_W0 (X := X) (D := D) (w := w) (g := g) (i := grid0.coords t) (j := 3)
      (by rw [coords_val]; exact loads3 m c hX hW hg hD t) (by rw [coords_val]; exact lt4 t) _ _ _).trans ?_
    rw [coords_val]
    refine add_congr' rfl ?_
    exact (term11_eq X D w g _ (k := 0) (by omega) (by blk_simp <;> omega) (by blk_simp <;> omega)).symm
  refine read_step (Val := Elt Ideal) (s := S8x512) (e := .f32) _ _ _ _ _ (fun y : S8x512.Idx => ((outsAt0 m c (t.val - 1) (by have := t.isLt; omega)).2.1 y : EReal) + term11 X D w g t.val (y 0).val (y 1).val) (fun x => ?_) fun n4 => ?_
  · idx_vars x
    refine (row_W2 (X := X) (D := D) (w := w) (g := g) (i := grid0.coords t) (j := 2)
      (by rw [coords_val]; exact loads2 m c hX hW hg hD t) (by rw [coords_val]; exact lt4 t) _ _ _).trans ?_
    rw [coords_val]
    refine add_congr' rfl ?_
    exact (term11_eq X D w g _ (k := 2) (by omega) (by blk_simp <;> omega) (by blk_simp <;> omega)).symm
  refine read_step (Val := Elt Ideal) (s := S8x512) (e := .f32) _ _ _ _ _ (fun y : S8x512.Idx => ((outsAt0 m c (t.val - 1) (by have := t.isLt; omega)).2.1 y : EReal) + term11 X D w g t.val (y 0).val (y 1).val) (fun x => ?_) fun n5 => ?_
  · idx_vars x
    refine (row_W1 (X := X) (D := D) (w := w) (g := g) (i := grid0.coords t) (j := 2)
      (by rw [coords_val]; exact loads2 m c hX hW hg hD t) (by rw [coords_val]; exact lt4 t) _ _ _).trans ?_
    rw [coords_val]
    refine add_congr' rfl ?_
    exact (term11_eq X D w g _ (k := 1) (by omega) (by blk_simp <;> omega) (by blk_simp <;> omega)).symm
  refine read_step (Val := Elt Ideal) (s := S8x512) (e := .f32) _ _ _ _ _ (fun y : S8x512.Idx => ((outsAt0 m c (t.val - 1) (by have := t.isLt; omega)).2.1 y : EReal) + term11 X D w g t.val (y 0).val (y 1).val) (fun x => ?_) fun n6 => ?_
  · idx_vars x
    refine (row_W0 (X := X) (D := D) (w := w) (g := g) (i := grid0.coords t) (j := 2)
      (by rw [coords_val]; exact loads2 m c hX hW hg hD t) (by rw [coords_val]; exact lt4 t) _ _ _).trans ?_
    rw [coords_val]
    refine add_congr' rfl ?_
    exact (term11_eq X D w g _ (k := 0) (by omega) (by blk_simp <;> omega) (by blk_simp <;> omega)).symm
  refine read_step (Val := Elt Ideal) (s := S8x512) (e := .f32) _ _ _ _ _ (fun y : S8x512.Idx => ((outsAt0 m c (t.val - 1) (by have := t.isLt; omega)).2.1 y : EReal) + term11 X D w g t.val (y 0).val (y 1).val) (fun x => ?_) fun n7 => ?_
  · idx_vars x
    refine (row_W2 (X := X) (D := D) (w := w) (g := g) (i := grid0.coords t) (j := 1)
      (by rw [coords_val]; exact loads1 m c hX hW hg hD t) (by rw [coords_val]; exact lt4 t) _ _ _).trans ?_
    rw [coords_val]
    refine add_congr' rfl ?_
    exact (term11_eq X D w g _ (k := 2) (by omega) (by blk_simp <;> omega) (by blk_simp <;> omega)).symm
  refine read_step (Val := Elt Ideal) (s := S8x512) (e := .f32) _ _ _ _ _ (fun y : S8x512.Idx => ((outsAt0 m c (t.val - 1) (by have := t.isLt; omega)).2.1 y : EReal) + term11 X D w g t.val (y 0).val (y 1).val) (fun x => ?_) fun n8 => ?_
  · idx_vars x
    refine (row_W1 (X := X) (D := D) (w := w) (g := g) (i := grid0.coords t) (j := 1)
      (by rw [coords_val]; exact loads1 m c hX hW hg hD t) (by rw [coords_val]; exact lt4 t) _ _ _).trans ?_
    rw [coords_val]
    refine add_congr' rfl ?_
    exact (term11_eq X D w g _ (k := 1) (by omega) (by blk_simp <;> omega) (by blk_simp <;> omega)).symm
  refine read_step (Val := Elt Ideal) (s := S8x512) (e := .f32) _ _ _ _ _ (fun y : S8x512.Idx => ((outsAt0 m c (t.val - 1) (by have := t.isLt; omega)).2.1 y : EReal) + term11 X D w g t.val (y 0).val (y 1).val) (fun x => ?_) fun n9 => ?_
  · idx_vars x
    refine (row_W0 (X := X) (D := D) (w := w) (g := g) (i := grid0.coords t) (j := 1)
      (by rw [coords_val]; exact loads1 m c hX hW hg hD t) (by rw [coords_val]; exact lt4 t) _ _ _).trans ?_
    rw [coords_val]
    refine add_congr' rfl ?_
    exact (term11_eq X D w g _ (k := 0) (by omega) (by blk_simp <;> omega) (by blk_simp <;> omega)).symm
  refine read_step (Val := Elt Ideal) (s := S8x512) (e := .f32) _ _ _ _ _ (fun y : S8x512.Idx => ((outsAt0 m c (t.val - 1) (by have := t.isLt; omega)).2.1 y : EReal) + term11 X D w g t.val (y 0).val (y 1).val) (fun x => ?_) fun n10 => ?_
  · idx_vars x
    refine (row_W2 (X := X) (D := D) (w := w) (g := g) (i := grid0.coords t) (j := 0)
      (by rw [coords_val]; exact loads0 m c hX hW hg hD t) (by rw [coords_val]; exact lt4 t) _ _ _).trans ?_
    rw [coords_val]
    refine add_congr' rfl ?_
    exact (term11_eq X D w g _ (k := 2) (by omega) (by blk_simp <;> omega) (by blk_simp <;> omega)).symm
  refine read_step (Val := Elt Ideal) (s := S8x512) (e := .f32) _ _ _ _ _ (fun y : S8x512.Idx => ((outsAt0 m c (t.val - 1) (by have := t.isLt; omega)).2.1 y : EReal) + term11 X D w g t.val (y 0).val (y 1).val) (fun x => ?_) fun n11 => ?_
  · idx_vars x
    refine (row_W1 (X := X) (D := D) (w := w) (g := g) (i := grid0.coords t) (j := 0)
      (by rw [coords_val]; exact loads0 m c hX hW hg hD t) (by rw [coords_val]; exact lt4 t) _ _ _).trans ?_
    rw [coords_val]
    refine add_congr' rfl ?_
    exact (term11_eq X D w g _ (k := 1) (by omega) (by blk_simp <;> omega) (by blk_simp <;> omega)).symm
  refine read_step (Val := Elt Ideal) (s := S8x512) (e := .f32) _ _ _ _ _ (fun y : S8x512.Idx => ((outsAt0 m c (t.val - 1) (by have := t.isLt; omega)).2.1 y : EReal) + term11 X D w g t.val (y 0).val (y 1).val) (fun x => ?_) fun n12 => ?_
  · idx_vars x
    refine (row_W0 (X := X) (D := D) (w := w) (g := g) (i := grid0.coords t) (j := 0)
      (by rw [coords_val]; exact loads0 m c hX hW hg hD t) (by rw [coords_val]; exact lt4 t) _ _ _).trans ?_
    rw [coords_val]
    refine add_congr' rfl ?_
    exact (term11_eq X D w g _ (k := 0) (by omega) (by blk_simp <;> omega) (by blk_simp <;> omega)).symm
  have hy : 3 ≤ (y 0).val := by
    rw [Rect.mem_set_unit] at n1 n2 n3 n4 n5 n6 n7 n8 n9 n10 n11 n12
    have b1 : (y 1).val < 512 := (y 1).isLt
    simp [Fin.forall_fin_two] at n1 n2 n3 n4 n5 n6 n7 n8 n9 n10 n11 n12
    omega
  refine Eq.trans (b := ((outsAt0 m c (t.val - 1) (by have := t.isLt; omega)).2.1 y : EReal)) ?_ ((add_zero _).symm.trans (add_congr' rfl (if_neg (by omega)).symm))
  clear n1 n2 n3 n4 n5 n6 n7 n8 n9 n10 n11 n12
  exact congrFun (Memref.IsWhole.read_unread _ _) y

/-- What the first point leaves in the window of the third result. -/
theorem point12A (t : Fin cfg0.N) (hc : t.val % 4 = 0) (y : S8x512.Idx) :
    ((outsAt0 m c t.val t.isLt).2.2 y : EReal) = term12 X D w t.val (y 0).val (y 1).val := by
  rw [outsAt0_A m c t hc]; frame_out
  simp (disch := decide) only [↓ View.readCov_skip, ↓ View.readCov_cons_toLoadRect, ↓ View.readCov_fill]
  refine canon_step (Val := Elt Ideal) (s := S8x512) (e := .f32) _ _ _ (fun y : S8x512.Idx => term12 X D w t.val (y 0).val (y 1).val) (fun x => ?_) fun n1 => ?_
  · idx_vars x
    refine (row_G (X := X) (D := D) (w := w) (g := g) (i := grid0.coords t) (j := 3)
      (by rw [coords_val]; exact loads3 m c hX hW hg hD t) (by rw [coords_val]; exact lt4 t) _ _ _).trans ?_
    rw [coords_val]
    refine (add_right (a' := 0) (by pointwise [k0_pay11])).trans ?_
    rw [zero_add]
    exact (term12_eq X D w _ (by blk_simp <;> omega) (by blk_simp <;> omega)).symm
  refine canon_step (Val := Elt Ideal) (s := S8x512) (e := .f32) _ _ _ (fun y : S8x512.Idx => term12 X D w t.val (y 0).val (y 1).val) (fun x => ?_) fun n2 => ?_
  · idx_vars x
    refine (row_G (X := X) (D := D) (w := w) (g := g) (i := grid0.coords t) (j := 2)
      (by rw [coords_val]; exact loads2 m c hX hW hg hD t) (by rw [coords_val]; exact lt4 t) _ _ _).trans ?_
    rw [coords_val]
    refine (add_right (a' := 0) (by pointwise [k0_pay11])).trans ?_
    rw [zero_add]
    exact (term12_eq X D w _ (by blk_simp <;> omega) (by blk_simp <;> omega)).symm
  refine canon_step (Val := Elt Ideal) (s := S8x512) (e := .f32) _ _ _ (fun y : S8x512.Idx => term12 X D w t.val (y 0).val (y 1).val) (fun x => ?_) fun n3 => ?_
  · idx_vars x
    refine (row_G (X := X) (D := D) (w := w) (g := g) (i := grid0.coords t) (j := 1)
      (by rw [coords_val]; exact loads1 m c hX hW hg hD t) (by rw [coords_val]; exact lt4 t) _ _ _).trans ?_
    rw [coords_val]
    refine (add_right (a' := 0) (by pointwise [k0_pay11])).trans ?_
    rw [zero_add]
    exact (term12_eq X D w _ (by blk_simp <;> omega) (by blk_simp <;> omega)).symm
  refine canon_step (Val := Elt Ideal) (s := S8x512) (e := .f32) _ _ _ (fun y : S8x512.Idx => term12 X D w t.val (y 0).val (y 1).val) (fun x => ?_) fun n4 => ?_
  · idx_vars x
    refine (row_G (X := X) (D := D) (w := w) (g := g) (i := grid0.coords t) (j := 0)
      (by rw [coords_val]; exact loads0 m c hX hW hg hD t) (by rw [coords_val]; exact lt4 t) _ _ _).trans ?_
    rw [coords_val]
    refine (add_right (a' := 0) (by pointwise [k0_pay11])).trans ?_
    rw [zero_add]
    exact (term12_eq X D w _ (by blk_simp <;> omega) (by blk_simp <;> omega)).symm
  have hy : 1 ≤ (y 0).val := by
    rw [Rect.mem_set_unit] at n1 n2 n3 n4
    have b1 : (y 1).val < 512 := (y 1).isLt
    simp [Fin.forall_fin_two] at n1 n2 n3 n4
    omega
  refine Eq.trans (b := (0 : EReal)) ?_ (if_neg (by omega)).symm
  clear n1 n2 n3 n4
  rw [View.canon_cons_unit_lit _ _ _ (by decide)]
  pointwise [k0_pay11]

/-- What a later point leaves in the window of the third result: what stood there, and its own rows' sums. -/
theorem point12B (t : Fin cfg0.N) (hc : ¬ t.val % 4 = 0) (y : S8x512.Idx) :
    ((outsAt0 m c t.val t.isLt).2.2 y : EReal) = ((outsAt0 m c (t.val - 1) (by have := t.isLt; omega)).2.2 y : EReal) + term12 X D w t.val (y 0).val (y 1).val := by
  rw [outsAt0_B m c t hc]; frame_out
  refine read_step (Val := Elt Ideal) (s := S8x512) (e := .f32) _ _ _ _ _ (fun y : S8x512.Idx => ((outsAt0 m c (t.val - 1) (by have := t.isLt; omega)).2.2 y : EReal) + term12 X D w t.val (y 0).val (y 1).val) (fun x => ?_) fun n1 => ?_
  · idx_vars x
    refine (row_G (X := X) (D := D) (w := w) (g := g) (i := grid0.coords t) (j := 3)
      (by rw [coords_val]; exact loads3 m c hX hW hg hD t) (by rw [coords_val]; exact lt4 t) _ _ _).trans ?_
    rw [coords_val]
    refine add_congr' rfl ?_
    exact (term12_eq X D w _ (by blk_simp <;> omega) (by blk_simp <;> omega)).symm
  refine read_step (Val := Elt Ideal) (s := S8x512) (e := .f32) _ _ _ _ _ (fun y : S8x512.Idx => ((outsAt0 m c (t.val - 1) (by have := t.isLt; omega)).2.2 y : EReal) + term12 X D w t.val (y 0).val (y 1).val) (fun x => ?_) fun n2 => ?_
  · idx_vars x
    refine (row_G (X := X) (D := D) (w := w) (g := g) (i := grid0.coords t) (j := 2)
      (by rw [coords_val]; exact loads2 m c hX hW hg hD t) (by rw [coords_val]; exact lt4 t) _ _ _).trans ?_
    rw [coords_val]
    refine add_congr' rfl ?_
    exact (term12_eq X D w _ (by blk_simp <;> omega) (by blk_simp <;> omega)).symm
  refine read_step (Val := Elt Ideal) (s := S8x512) (e := .f32) _ _ _ _ _ (fun y : S8x512.Idx => ((outsAt0 m c (t.val - 1) (by have := t.isLt; omega)).2.2 y : EReal) + term12 X D w t.val (y 0).val (y 1).val) (fun x => ?_) fun n3 => ?_
  · idx_vars x
    refine (row_G (X := X) (D := D) (w := w) (g := g) (i := grid0.coords t) (j := 1)
      (by rw [coords_val]; exact loads1 m c hX hW hg hD t) (by rw [coords_val]; exact lt4 t) _ _ _).trans ?_
    rw [coords_val]
    refine add_congr' rfl ?_
    exact (term12_eq X D w _ (by blk_simp <;> omega) (by blk_simp <;> omega)).symm
  refine read_step (Val := Elt Ideal) (s := S8x512) (e := .f32) _ _ _ _ _ (fun y : S8x512.Idx => ((outsAt0 m c (t.val - 1) (by have := t.isLt; omega)).2.2 y : EReal) + term12 X D w t.val (y 0).val (y 1).val) (fun x => ?_) fun n4 => ?_
  · idx_vars x
    refine (row_G (X := X) (D := D) (w := w) (g := g) (i := grid0.coords t) (j := 0)
      (by rw [coords_val]; exact loads0 m c hX hW hg hD t) (by rw [coords_val]; exact lt4 t) _ _ _).trans ?_
    rw [coords_val]
    refine add_congr' rfl ?_
    exact (term12_eq X D w _ (by blk_simp <;> omega) (by blk_simp <;> omega)).symm
  have hy : 1 ≤ (y 0).val := by
    rw [Rect.mem_set_unit] at n1 n2 n3 n4
    have b1 : (y 1).val < 512 := (y 1).isLt
    simp [Fin.forall_fin_two] at n1 n2 n3 n4
    omega
  refine Eq.trans (b := ((outsAt0 m c (t.val - 1) (by have := t.isLt; omega)).2.2 y : EReal)) ?_ ((add_zero _).symm.trans (add_congr' rfl (if_neg (by omega)).symm))
  clear n1 n2 n3 n4
  exact congrFun (Memref.IsWhole.read_unread _ _) y
end Cert.KernelIdeal.Val
-- ==== Proof.ConvSums.lean ====
/-
  The kernel's second and third results, whole: the sums over all rows.
-/
module
public import proofs.«01_k».proof.Proof.ConvAcc
@[expose] public section
set_option maxRecDepth 16384
noncomputable section
open Idealize.ShloMosaic Idealize.ShloMosaic.TcCoe Idealize.SL.Sem
open Idealize.ShloMosaic.Pipeline (Dat)
namespace Cert.KernelIdeal.Val
open Cert.KernelIdeal Cert.KernelIdeal.Gen Cert.KernelIdeal.Tile

/-- The sums over the rows of the four grid points are the sum over all rows. -/
theorem rows_sum (f : ℕ → ℝ) : (∑ t : Fin 4, ((∑ r : Fin 1024, f (1024 * t + r) : ℝ) : EReal)) = ((∑ n : Fin 4096, f n : ℝ) : EReal) := by
  rw [← coe_sum]
  congr 1
  refine Eq.trans ?_ (Fin.sum_univ_tiles 4 1024 rfl (fun n : Fin 4096 => f n)).symm
  refine Finset.sum_congr rfl fun t _ => Finset.sum_congr rfl fun r _ => ?_
  show f _ = f _
  congr 1
  show 1024 * (t : ℕ) + r = t * 1024 + r
  omega

variable (m : (ℓ : Loc nD τ sig) → Buf (Elt Ideal) ℓ) (c : Dev nD) {X D w : ℕ → ℕ → ℝ} {g : ℕ → ℝ}
  (hX : ∀ (a : Fin 1) (n : Fin 4096) (k : Fin 3072), m ((c.tc : Thread nD τ).loc main_arg0) (ix3 a n k) = ((X n k : ℝ) : EReal))
  (hW : ∀ (n : Fin 512) (k : Fin 3), m ((c.tc : Thread nD τ).loc main_arg1) (ix2 n k) = ((w k n : ℝ) : EReal))
  (hg : ∀ (n : Fin 512), m ((c.tc : Thread nD τ).loc main_arg2) (ix1 n) = ((g n : ℝ) : EReal))
  (hD : ∀ (a : Fin 1) (n : Fin 4096) (k : Fin 512), m ((c.tc : Thread nD τ).loc main_arg3) (ix3 a n k) = ((D n k : ℝ) : EReal))
include hX hW hg hD

/-- The second result: the gradients of the taps, in the first three rows. -/
theorem final11 : (dats m 0 c).arrAt 11 (cfgs 0).N = fun i : S8x512.Idx =>
    (if (i 0).val < 3 then ((∑ n : Fin 4096, gW X D w g (i 0).val n (i 1).val : ℝ) : EReal) else 0 : EReal) := by
  refine (dats m 0 c).arrAt_eq_of_after_last 11 t0_3 (by decide +kernel) _ fun j => ?_
  blk_simp
  rw [after0_11]
  refine (Pipeline.eq_sum_fin_of_reset_step_apply_last (M := EReal) (fun n h => (outsAt0 m c n h).2.1) 4 (fun _ => 0)
    (fun t (y : S8x512.Idx) => term11 X D w g t.val (y 0).val (y 1).val)
    (fun t h y => (point11A m c hX hW hg hD t h y).trans (zero_add _).symm)
    (fun t h y => point11B m c hX hW hg hD t h y) (le_of_eq N_0) t0_3 rfl j).trans ?_
  rw [zero_add]
  simp only [term11]
  by_cases h : (j 0).val < 3
  · simp only [if_pos h]
    exact rows_sum (fun n => gW X D w g (j 0).val n (j 1).val)
  · simp only [if_neg h, Finset.sum_const_zero]

/-- The third result: the gradient of the gain, in the first row. -/
theorem final12 : (dats m 0 c).arrAt 12 (cfgs 0).N = fun i : S8x512.Idx =>
    (if (i 0).val < 1 then ((∑ n : Fin 4096, gG X D w n (i 1).val : ℝ) : EReal) else 0 : EReal) := by
  refine (dats m 0 c).arrAt_eq_of_after_last 12 t0_3 (by decide +kernel) _ fun j => ?_
  blk_simp
  rw [after0_12]
  refine (Pipeline.eq_sum_fin_of_reset_step_apply_last (M := EReal) (fun n h => (outsAt0 m c n h).2.2) 4 (fun _ => 0)
    (fun t (y : S8x512.Idx) => term12 X D w t.val (y 0).val (y 1).val)
    (fun t h y => (point12A m c hX hW hg hD t h y).trans (zero_add _).symm)
    (fun t h y => point12B m c hX hW hg hD t h y) (le_of_eq N_0) t0_3 rfl j).trans ?_
  rw [zero_add]
  simp only [term12]
  by_cases h : (j 0).val < 1
  · simp only [if_pos h]
    exact rows_sum (fun n => gG X D w n (j 1).val)
  · simp only [if_neg h, Finset.sum_const_zero]
end Cert.KernelIdeal.Val
-- ==== Proof.ConvRef.lean ====
/-
  The reference's run read at an index: its intermediate arrays are the formulas of the convolution over the reals.
-/
module
public import proofs.«01_k».proof.Proof.Gen.ReferenceIdeal.Run
public import proofs.«01_k».proof.Proof.ConvOut
@[expose] public section
set_option maxRecDepth 16384
noncomputable section
open Idealize.ShloMosaic Idealize.ShloMosaic.TcCoe Idealize.SL.Sem Idealize.ShloMosaic.StableHlo
namespace ConvReal

/-- The mean depends on the group only. -/
theorem mean_group (v : ℕ → ℕ → ℝ) (n c : ℕ) : mean v n (64 * (c / 64)) = mean v n c := by
  unfold mean; rw [show 64 * (c / 64) / 64 = c / 64 by omega]
theorem rs_group (ε : ℝ) (H B C : ℕ → ℕ → ℝ) (w0 w1 w2 : ℕ → ℝ) (n c : ℕ) :
    rs ε H B C w0 w1 w2 n (64 * (c / 64)) = rs ε H B C w0 w1 w2 n c := by
  unfold rs; rw [mean_group]
/-- The sum over one group, the group named by its number. -/
theorem mean_sum (v : ℕ → ℕ → ℝ) (n s : ℕ) : mean v n (64 * s) = (∑ k : Fin 64, v n (s * 64 + k)) / 64 := by
  unfold mean
  rw [show 64 * s / 64 = s by omega]
  simp only [show ∀ k : Fin 64, 64 * s + (k : ℕ) = s * 64 + k from fun k => by omega]
  ring
theorem mean_sq_nonneg (v : ℕ → ℕ → ℝ) (n c : ℕ) : 0 ≤ mean (fun n c => v n c * v n c) n c := by
  unfold mean
  exact mul_nonneg (Finset.sum_nonneg fun k _ => mul_self_nonneg _) (by norm_num)

/-- The cotangent through the group norm: the two forms of the derivative of `v / √(mean v² + ε)`. -/
theorem norm_bwd (v d r q S : ℝ) (hq : 0 < q) (hr : r = (√q)⁻¹) :
    d * r + v * (S * (-(1 / 2) * (r / q)) / 64) + S * (-(1 / 2) * (r / q)) / 64 * v = r * (d - v * r * (r * (S / 64))) := by
  have h : r * r = q⁻¹ := by rw [hr, ← mul_inv, Real.mul_self_sqrt hq.le]
  rw [div_eq_mul_inv r q, ← h]
  ring

end ConvReal

namespace Cert.ReferenceIdeal.Value
open Cert.ReferenceIdeal Cert.ReferenceIdeal.Gen ConvReal Cert.KernelIdeal.Tile
open Cert.KernelIdeal.Val (G10 G10_C G10_B G10_H G10_1 G10_2 G10_3)

theorem sixtyfour_bits : Ideal.ofBits .f32 0x42800000#32 = ((64 : ℝ) : EReal) := by
  simp [Ideal.ofBits, Ideal.ieee, -EReal.coe_mul]; norm_num
theorem neghalf_bits : Ideal.ofBits .f32 0xBF000000#32 = ((-(1 / 2) : ℝ) : EReal) := by
  simp [Ideal.ofBits, Ideal.ieee, -EReal.coe_mul]; norm_num

theorem div_real {y : ℝ} (h : y ≠ 0) (x : ℝ) : Ideal.div ((x : ℝ) : EReal) ((y : ℝ) : EReal) = ((x / y : ℝ) : EReal) := by
  rw [Ideal.div_coe h, ← EReal.coe_mul, mul_one_div]

/-- A host sum over two axes of length one has one term. -/
theorem red_03 (h : (⟨4, ![1, 4096, 8, 1]⟩ : Shape).ReducesTo [0, 3] ⟨2, ![4096, 8]⟩) (x : (⟨4, ![1, 4096, 8, 1]⟩ : Shape).Idx → EReal)
    (z : EReal) (n : Fin 4096) (s : Fin 8) : Ideal.hostReduceAdd h x z (ix2 n s) = z + x (ix4 0 n s 0) := by
  show z + ∑ i ∈ Finset.univ.filter (fun i => h.drop i = ix2 n s), x i = _
  congr 1
  have e : Finset.univ.filter (fun i => h.drop i = ix2 n s) = {ix4 0 n s 0} := by
    ext i
    simp only [Finset.mem_filter, Finset.mem_univ, true_and, Finset.mem_singleton]
    have h0 : (h.drop i 0).val = (i 1).val := Shape.ReducesTo.drop_apply_val h i 0
    have h1 : (h.drop i 1).val = (i 2).val := Shape.ReducesTo.drop_apply_val h i 1
    constructor
    · intro e
      rw [e] at h0 h1
      funext b
      have b0 : (i 0).val < 1 := (i 0).isLt
      have b3 : (i 3).val < 1 := (i 3).isLt
      fin_cases b
      · exact Fin.ext (by show (i 0).val = 0; omega)
      · exact Fin.ext h0.symm
      · exact Fin.ext h1.symm
      · exact Fin.ext (by show (i 3).val = 0; omega)
    · rintro rfl
      funext b
      fin_cases b
      · exact Fin.ext h0
      · exact Fin.ext h1
  rw [e, Finset.sum_singleton]

/-- The same for a row. -/
theorem red_01 (h : (⟨3, ![1, 1, 512]⟩ : Shape).ReducesTo [0, 1] ⟨1, ![512]⟩) (x : (⟨3, ![1, 1, 512]⟩ : Shape).Idx → EReal)
    (z : EReal) (n : Fin 512) : Ideal.hostReduceAdd h x z (ix1 n) = z + x (ix3 0 0 n) := by
  show z + ∑ i ∈ Finset.univ.filter (fun i => h.drop i = ix1 n), x i = _
  congr 1
  have e : Finset.univ.filter (fun i => h.drop i = ix1 n) = {ix3 0 0 n} := by
    ext i
    simp only [Finset.mem_filter, Finset.mem_univ, true_and, Finset.mem_singleton]
    have h0 : (h.drop i 0).val = (i 2).val := Shape.ReducesTo.drop_apply_val h i 0
    constructor
    · intro e
      rw [e] at h0
      funext b
      have b0 : (i 0).val < 1 := (i 0).isLt
      have b1 : (i 1).val < 1 := (i 1).isLt
      fin_cases b
      · exact Fin.ext (by show (i 0).val = 0; omega)
      · exact Fin.ext (by show (i 1).val = 0; omega)
      · exact Fin.ext h0.symm
    · rintro rfl
      funext b
      fin_cases b
      exact Fin.ext h0
  rw [e, Finset.sum_singleton]

/-- The sum over the rows, in the two steps in which it is taken. -/
theorem col_sum (f : FVec Ideal S1x4096x512 .f32) (c : Fin 512) : Ideal.hostReduceAdd reducesTo_S1x1x512_S512_d0_1
    (shapeCast S1x1x512 (Host.reduceAdd f (constant S_ FTy.f32 0#32) reducesTo_S1x4096x512_S1x512_d1 h_S_)
      shapeCasts_S1x512_S1x1x512) 0 (ix1 c) = ∑ n : Fin 4096, f (ix3 0 n c) := by
  rw [red_01]
  pointwise

variable (V0 : Valuation τ sig (Elt Ideal)) {X D w : ℕ → ℕ → ℝ} {g : ℕ → ℝ}
  (hX : ∀ (a : Fin 1) (n : Fin 4096) (k : Fin 3072), V0 (Proc.devRef .tc main_arg0) (ix3 a n k) = ((X n k : ℝ) : EReal))
  (hW : ∀ (n : Fin 512) (k : Fin 3), V0 (Proc.devRef .tc main_arg1) (ix2 n k) = ((w k n : ℝ) : EReal))
  (hg : ∀ (n : Fin 512), V0 (Proc.devRef .tc main_arg2) (ix1 n) = ((g n : ℝ) : EReal))
  (hD : ∀ (a : Fin 1) (n : Fin 4096) (k : Fin 512), V0 (Proc.devRef .tc main_arg3) (ix3 a n k) = ((D n k : ℝ) : EReal))

section
include hX
theorem v0 (a : Fin 1) (n : Fin 4096) (k : Fin 512) : res_main_v0 V0 (ix3 a n k) = ((pH X n k : ℝ) : EReal) := by
  pointwise [res_main_v0]; rw [hX]; simp only [pH]
theorem v1 (a : Fin 1) (n : Fin 4096) (k : Fin 512) : res_main_v1 V0 (ix3 a n k) = ((pB X n k : ℝ) : EReal) := by
  pointwise [res_main_v1]; rw [hX]; simp only [pB]
theorem v2 (a : Fin 1) (n : Fin 4096) (k : Fin 512) : res_main_v2 V0 (ix3 a n k) = ((pC X n k : ℝ) : EReal) := by
  pointwise [res_main_v2]; rw [hX]; simp only [pC]
/-- The gated input with two rows of zeros before it. -/
theorem v8 (a : Fin 1) (n : Fin 4098) (k : Fin 512) : res_main_v8 V0 (ix3 a n k) = ((Ush (pH X) (pC X) 2 n k : ℝ) : EReal) := by
  have hn := n.isLt
  pointwise [res_main_v8]
  by_cases h : (n : ℕ) < 2
  · rw [dif_pos h, Ush, if_neg (by omega)]; rfl
  · have e : Ush (pH X) (pC X) 2 n k = pC X (n - 2) k * pH X (n - 2) k := by rw [Ush, if_pos (by omega), U, if_pos (by omega)]
    rw [dif_neg h, v0 V0 hX, v2 V0 hX, e, EReal.coe_mul]
theorem v10 (a : Fin 1) (n : Fin 4096) (k : Fin 512) : res_main_v10 V0 (ix3 a n k) = ((Ush (pH X) (pC X) 2 n k : ℝ) : EReal) := by
  pointwise [res_main_v10]; rw [v8 V0 hX]
theorem v16 (a : Fin 1) (n : Fin 4096) (k : Fin 512) : res_main_v16 V0 (ix3 a n k) = ((Ush (pH X) (pC X) 1 n k : ℝ) : EReal) := by
  pointwise [res_main_v16]; rw [v8 V0 hX]; congr 1
  simp only [Ush]
  by_cases h : 1 ≤ (n : ℕ)
  · rw [if_pos h, if_pos (by omega), show 1 + (n : ℕ) - 2 = n - 1 by omega]
  · rw [if_neg h, if_neg (by omega)]
theorem v23 (a : Fin 1) (n : Fin 4096) (k : Fin 512) : res_main_v23 V0 (ix3 a n k) = ((U (pH X) (pC X) n k : ℝ) : EReal) := by
  pointwise [res_main_v23]; rw [v8 V0 hX]; congr 1
  simp only [Ush]
  rw [if_pos (by omega), show 2 + (n : ℕ) - 2 = n by omega]
end

section
include hW
theorem v13 (a b : Fin 1) (k : Fin 512) : res_main_v13 V0 (ix3 a b k) = ((w 0 k : ℝ) : EReal) := by
  pointwise [res_main_v13]; rw [hW]; rfl
theorem v19 (a b : Fin 1) (k : Fin 512) : res_main_v19 V0 (ix3 a b k) = ((w 1 k : ℝ) : EReal) := by
  pointwise [res_main_v19]; rw [hW]; rfl
theorem v26 (a b : Fin 1) (k : Fin 512) : res_main_v26 V0 (ix3 a b k) = ((w 2 k : ℝ) : EReal) := by
  pointwise [res_main_v26]; rw [hW]; rfl
end

section
include hX hW
/-- The convolution. -/
theorem v29 (a : Fin 1) (n : Fin 4096) (k : Fin 512) :
    res_main_v29 V0 (ix3 a n k) = ((out (pH X) (pC X) (w 0) (w 1) (w 2) n k : ℝ) : EReal) := by
  pointwise [res_main_v29]
  rw [v10 V0 hX, v16 V0 hX, v23 V0 hX, v13 V0 hW, v19 V0 hW, v26 V0 hW]
  simp only [out, EReal.coe_add, EReal.coe_mul]
theorem v31 (a : Fin 1) (n : Fin 4096) (s : Fin 8) (k : Fin 64) :
    res_main_v31 V0 (ix4 a n s k) = ((y (pH X) (pB X) (pC X) (w 0) (w 1) (w 2) n (s * 64 + k) : ℝ) : EReal) := by
  pointwise [res_main_v31]
  rw [v1 V0 hX, v29 V0 hX hW]
  simp only [y, EReal.coe_mul]
/-- The mean square of a group, and epsilon. -/
theorem v38 (a : Fin 1) (n : Fin 4096) (s : Fin 8) (k : Fin 1) : res_main_v38 V0 (ix4 a n s k)
    = ((mean (fun n c => y (pH X) (pB X) (pC X) (w 0) (w 1) (w 2) n c * y (pH X) (pB X) (pC X) (w 0) (w 1) (w 2) n c) n (64 * s) + eps : ℝ) : EReal) := by
  pointwise [res_main_v38]
  simp only [v31 V0 hX hW, ← EReal.coe_mul]
  rw [← coe_sum, sixtyfour_bits, eps_bits, div_real (by norm_num), ← EReal.coe_add, mean_sum]
theorem v39 (a : Fin 1) (n : Fin 4096) (s : Fin 8) (k : Fin 1) :
    res_main_v39 V0 (ix4 a n s k) = ((rs eps (pH X) (pB X) (pC X) (w 0) (w 1) (w 2) n (64 * s) : ℝ) : EReal) := by
  pointwise [res_main_v39]
  rw [v38 V0 hX hW]
  have h := mean_sq_nonneg (y (pH X) (pB X) (pC X) (w 0) (w 1) (w 2)) n (64 * s)
  have h' := eps_pos
  rw [Ideal.rsqrt_coe, if_neg (by linarith), if_neg (by linarith)]; rfl
/-- The normalised rows. -/
theorem v45 (a : Fin 1) (n : Fin 4096) (k : Fin 512) :
    res_main_v45 V0 (ix3 a n k) = ((yn eps (pH X) (pB X) (pC X) (w 0) (w 1) (w 2) n k : ℝ) : EReal) := by
  pointwise [res_main_v45]
  rw [v31 V0 hX hW, v39 V0 hX hW, ← EReal.coe_mul]
  congr 1
  simp only [yn]
  rw [rs_group, show (k : ℕ) / 64 * 64 + k % 64 = k by omega]
end

section
include hg hD
theorem v55 (a : Fin 1) (n : Fin 4096) (s : Fin 8) (k : Fin 64) :
    res_main_v55 V0 (ix4 a n s k) = ((gd D g n (s * 64 + k) : ℝ) : EReal) := by
  pointwise [res_main_v55, res_main_v46]
  rw [hD, hg, ← EReal.coe_mul]
  rfl
end

include hX hW hg hD
/-- The group's part of the cotangent through the reciprocal root. -/
theorem v66 (a : Fin 1) (n : Fin 4096) (s : Fin 8) (k : Fin 64) : res_main_v66 V0 (ix4 a n s k)
    = (((∑ k : Fin 64, y (pH X) (pB X) (pC X) (w 0) (w 1) (w 2) n (s * 64 + k) * gd D g n (s * 64 + k))
      * (-(1 / 2) * (rs eps (pH X) (pB X) (pC X) (w 0) (w 1) (w 2) n (64 * s)
        / (mean (fun n c => y (pH X) (pB X) (pC X) (w 0) (w 1) (w 2) n c * y (pH X) (pB X) (pC X) (w 0) (w 1) (w 2) n c) n (64 * s) + eps))) / 64 : ℝ) : EReal) := by
  pointwise [res_main_v66]
  rw [red_03]
  pointwise
  simp only [v31 V0 hX hW, v55 V0 hg hD, v39 V0 hX hW, v38 V0 hX hW, ← EReal.coe_mul]
  have h := mean_sq_nonneg (y (pH X) (pB X) (pC X) (w 0) (w 1) (w 2)) n (64 * s)
  have h' := eps_pos
  rw [← coe_sum, sixtyfour_bits, neghalf_bits, div_real (by linarith), ← EReal.coe_mul, ← EReal.coe_mul, div_real (by norm_num)]

theorem v71 (a : Fin 1) (n : Fin 4096) (k : Fin 512) :
    res_main_v71 V0 (ix3 a n k) = ((dy eps (pH X) (pB X) (pC X) D (w 0) (w 1) (w 2) g n k : ℝ) : EReal) := by
  pointwise [res_main_v71]
  rw [v31 V0 hX hW, v39 V0 hX hW, v55 V0 hg hD, v66 V0 hX hW hg hD]
  simp only [← EReal.coe_mul, ← EReal.coe_add]
  congr 1
  have h := mean_sq_nonneg (y (pH X) (pB X) (pC X) (w 0) (w 1) (w 2)) n (64 * (k / 64))
  have h' := eps_pos
  have e : (k : ℕ) / 64 * 64 + k % 64 = k := by omega
  rw [e]
  refine (norm_bwd _ _ (rs eps (pH X) (pB X) (pC X) (w 0) (w 1) (w 2) n (64 * (k / 64))) _ _ (by linarith) rfl).trans ?_
  simp only [dy, yn]
  rw [rs_group]
  conv_rhs => rw [← mean_group _ n k, mean_sum]
  congr 2
  have e' : ∀ x : Fin 64, rs eps (pH X) (pB X) (pC X) (w 0) (w 1) (w 2) n ((k : ℕ) / 64 * 64 + x) = rs eps (pH X) (pB X) (pC X) (w 0) (w 1) (w 2) n k := fun x => by
    have := x.isLt
    rw [← rs_group _ _ _ _ _ _ _ n k, ← rs_group, show ((k : ℕ) / 64 * 64 + x) / 64 = k / 64 by omega]
  simp only [e']
  congr 1
  rw [mul_div_assoc', Finset.mul_sum]
  congr 1
  exact Finset.sum_congr rfl fun x _ => by ring

theorem v72 (a : Fin 1) (n : Fin 4096) (k : Fin 512) :
    res_main_v72 V0 (ix3 a n k) = ((dout eps (pH X) (pB X) (pC X) D (w 0) (w 1) (w 2) g n k : ℝ) : EReal) := by
  pointwise [res_main_v72]
  rw [v1 V0 hX, v71 V0 hX hW hg hD, ← EReal.coe_mul, dout, if_pos (by omega), mul_comm]

omit hX hW hg hD in
/-- The three shifted copies, each with zeros where it has no rows, at a row of the sequence. -/
theorem shifts (A B C : FVec Ideal S1x4096x512 .f32) (n : Fin 4096) (k : Fin 512) :
    addf (addf (pad S1x4098x512 ![0, 2, 0] ![0, 0, 0] ![0, 0, 0] A (constant S_ .f32 0x00000000#32) pads_S1x4096x512_S1x4098x512_000_200_000 h_S_)
      (pad S1x4098x512 ![0, 1, 0] ![0, 1, 0] ![0, 0, 0] B (constant S_ .f32 0x00000000#32) pads_S1x4096x512_S1x4098x512_000_110_000 h_S_))
      (pad S1x4098x512 ![0, 0, 0] ![0, 2, 0] ![0, 0, 0] C (constant S_ .f32 0x00000000#32) pads_S1x4096x512_S1x4098x512_000_020_000 h_S_)
      (ix3 0 ⟨2 + n.val, by omega⟩ k)
    = A (ix3 0 n k) + (if h : n.val + 1 < 4096 then B (ix3 0 ⟨n.val + 1, h⟩ k) else 0)
      + (if h : n.val + 2 < 4096 then C (ix3 0 ⟨n.val + 2, h⟩ k) else 0) := by
  have hn := n.isLt
  pointwise
  congr 1
  · congr 1
    by_cases h : n.val + 1 < 4096
    · rw [dif_pos h, dif_pos (by omega)]
      exact congrArg B (by congr 1; exact Fin.ext (by show 2 + n.val - 1 = n.val + 1; omega))
    · rw [dif_neg h, dif_neg (by omega)]
  · by_cases h : n.val + 2 < 4096
    · rw [dif_pos h, dif_pos (by omega)]
      exact congrArg C (by congr 1; exact Fin.ext (by show 2 + n.val = n.val + 2; omega))
    · rw [dif_neg h, dif_neg (by omega)]

/-- The cotangent of the gated input. -/
theorem v106 (a : Fin 1) (n : Fin 4096) (k : Fin 512) :
    res_main_v106 V0 (ix3 a n k) = ((du eps (pH X) (pB X) (pC X) D (w 0) (w 1) (w 2) g n k : ℝ) : EReal) := by
  have hn := n.isLt
  obtain rfl : a = 0 := Subsingleton.elim _ _
  refine Eq.trans (b := res_main_v104 V0 (ix3 0 ⟨2 + n.val, by omega⟩ k)) (by pointwise [res_main_v106]) ?_
  refine (shifts _ _ _ n k).trans ?_
  pointwise
  have hd : ∀ j : ℕ, 4096 ≤ j → dout eps (pH X) (pB X) (pC X) D (w 0) (w 1) (w 2) g j k = 0 := fun j h => by
    rw [dout, if_neg (by omega)]
  simp only [v72 V0 hX hW hg hD, v26 V0 hW, v19 V0 hW, v13 V0 hW, du, EReal.coe_add, EReal.coe_mul]
  congr 1
  · congr 1
    by_cases h : n.val + 1 < 4096
    · rw [dif_pos h]
    · rw [dif_neg h, hd _ (by omega), EReal.coe_zero, zero_mul]
  · by_cases h : n.val + 2 < 4096
    · rw [dif_pos h]
    · rw [dif_neg h, hd _ (by omega), EReal.coe_zero, zero_mul]

theorem res0 (Q1 Q2 Q3 : ℕ → ℕ → EReal)
    (h4 : ∀ (a : Fin 1) (n : Fin 4096) (k : Fin 512), V0 (Proc.devRef .tc main_arg4) (ix3 a n k) = Q1 n k)
    (h5 : ∀ (a : Fin 1) (n : Fin 4096) (k : Fin 512), V0 (Proc.devRef .tc main_arg5) (ix3 a n k) = Q2 n k)
    (h6 : ∀ (a : Fin 1) (n : Fin 4096) (k : Fin 512), V0 (Proc.devRef .tc main_arg6) (ix3 a n k) = Q3 n k) :
    (truncf (F := Ideal) .bf16 (shapeCast _ ((concatenate S1x4096x3072 2 [⟨S1x4096x512, ((mulf (res_main_v2 V0) (res_main_v106 V0)) : (⟨S1x4096x512, .f32⟩ : BufTy).Contents (Elt Ideal))⟩, ⟨S1x4096x512, ((mulf (res_main_v71 V0) (res_main_v29 V0)) : (⟨S1x4096x512, .f32⟩ : BufTy).Contents (Elt Ideal))⟩, ⟨S1x4096x512, ((mulf (res_main_v106 V0) (res_main_v0 V0)) : (⟨S1x4096x512, .f32⟩ : BufTy).Contents (Elt Ideal))⟩, ⟨S1x4096x512, ((V0 (Proc.devRef .tc main_arg4)) : (⟨S1x4096x512, .f32⟩ : BufTy).Contents (Elt Ideal))⟩, ⟨S1x4096x512, ((V0 (Proc.devRef .tc main_arg5)) : (⟨S1x4096x512, .f32⟩ : BufTy).Contents (Elt Ideal))⟩, ⟨S1x4096x512, ((V0 (Proc.devRef .tc main_arg6)) : (⟨S1x4096x512, .f32⟩ : BufTy).Contents (Elt Ideal))⟩] concatenates_S1x4096x512_S1x4096x512_S1x4096x512_S1x4096x512_S1x4096x512_S1x4096x512_S1x4096x3072_d2 : (⟨S1x4096x3072, .f32⟩ : BufTy).Contents (Elt Ideal))) shapeCasts_S1x4096x3072_S4096x3072) bitsLt_bf16_f32 : FVec Ideal S4096x3072 .bf16) = fun i : S4096x3072.Idx => G10 X D w g Q1 Q2 Q3 (i 0).val (i 1).val := by
  funext i
  idx_vars i
  pointwise
  have hq := i1.isLt
  by_cases c1 : i1.val < 512
  · rw [dif_pos c1, v2 V0 hX, v106 V0 hX hW hg hD, G10_C _ _ _ _ _ _ _ rfl rfl c1, gC, EReal.coe_mul, mul_comm]
  rw [dif_neg c1]
  by_cases c2 : i1.val - 512 < 512
  · rw [dif_pos c2, v71 V0 hX hW hg hD, v29 V0 hX hW, G10_B _ _ _ _ _ _ _ rfl (show i1.val = 512 + (i1.val - 512) by omega) c2, gB, EReal.coe_mul]
  rw [dif_neg c2]
  by_cases c3 : i1.val - 512 - 512 < 512
  · rw [dif_pos c3, v0 V0 hX, v106 V0 hX hW hg hD, G10_H _ _ _ _ _ _ _ rfl (show i1.val = 1024 + (i1.val - 512 - 512) by omega) c3, gH, EReal.coe_mul]
  rw [dif_neg c3]
  by_cases c4 : i1.val - 512 - 512 - 512 < 512
  · rw [dif_pos c4, h4, G10_1 _ _ _ _ _ _ _ rfl (show i1.val = 1536 + (i1.val - 512 - 512 - 512) by omega) c4]
  rw [dif_neg c4]
  by_cases c5 : i1.val - 512 - 512 - 512 - 512 < 512
  · rw [dif_pos c5, h5, G10_2 _ _ _ _ _ _ _ rfl (show i1.val = 2048 + (i1.val - 512 - 512 - 512 - 512) by omega) c5]
  rw [dif_neg c5, h6, G10_3 _ _ _ _ _ _ _ rfl (show i1.val = 2560 + (i1.val - 512 - 512 - 512 - 512 - 512) by omega)]

theorem res1 : (concatenate S8x512 0 [⟨S3x512, (transpose S3x512 [1, 0] (addf (addf (pad S512x3 ![0, 2] ![0, 0] ![0, 0] (broadcastInDim S512x1 ![0] bcast_S512_S512x1_0 (Host.reduceAdd (shapeCast _ (Host.reduceAdd (mulf (res_main_v23 V0) (res_main_v72 V0)) (constant S_ .f32 0x00000000#32) reducesTo_S1x4096x512_S1x512_d1 h_S_) shapeCasts_S1x512_S1x1x512) (constant S_ .f32 0x00000000#32) reducesTo_S1x1x512_S512_d0_1 h_S_)) (constant S_ .f32 0x00000000#32) pads_S512x1_S512x3_000_200 h_S_) (pad S512x3 ![0, 1] ![0, 1] ![0, 0] (broadcastInDim S512x1 ![0] bcast_S512_S512x1_0 (Host.reduceAdd (shapeCast _ (Host.reduceAdd (mulf (res_main_v16 V0) (res_main_v72 V0)) (constant S_ .f32 0x00000000#32) reducesTo_S1x4096x512_S1x512_d1 h_S_) shapeCasts_S1x512_S1x1x512) (constant S_ .f32 0x00000000#32) reducesTo_S1x1x512_S512_d0_1 h_S_)) (constant S_ .f32 0x00000000#32) pads_S512x1_S512x3_000_110 h_S_)) (pad S512x3 ![0, 0] ![0, 2] ![0, 0] (broadcastInDim S512x1 ![0] bcast_S512_S512x1_0 (Host.reduceAdd (shapeCast _ (Host.reduceAdd (mulf (res_main_v10 V0) (res_main_v72 V0)) (constant S_ .f32 0x00000000#32) reducesTo_S1x4096x512_S1x512_d1 h_S_) shapeCasts_S1x512_S1x1x512) (constant S_ .f32 0x00000000#32) reducesTo_S1x1x512_S512_d0_1 h_S_)) (constant S_ .f32 0x00000000#32) pads_S512x1_S512x3_000_020 h_S_)) transposes_S512x3_S3x512_1_0)⟩, ⟨S5x512, (broadcastInDim S5x512 ![] bcast_S_S5x512 (constant S_ .f32 0x00000000#32))⟩] concatenates_S3x512_S5x512_S8x512_d0) = fun i : S8x512.Idx =>
    (if (i 0).val < 3 then ((∑ n : Fin 4096, gW X D w g (i 0).val n (i 1).val : ℝ) : EReal) else 0 : EReal) := by
  funext i
  idx_vars i
  pointwise
  simp only [col_sum]
  have e2 : (∑ n : Fin 4096, mulf (res_main_v23 V0) (res_main_v72 V0) (ix3 0 n i1)) = ((∑ n : Fin 4096, gW X D w g 2 n i1 : ℝ) : EReal) := by
    rw [coe_sum]
    refine Finset.sum_congr rfl fun n _ => ?_
    pointwise
    rw [v23 V0 hX, v72 V0 hX hW hg hD, gW, if_neg (by omega), if_neg (by omega), mul_comm, EReal.coe_mul]
  have e1 : (∑ n : Fin 4096, mulf (res_main_v16 V0) (res_main_v72 V0) (ix3 0 n i1)) = ((∑ n : Fin 4096, gW X D w g 1 n i1 : ℝ) : EReal) := by
    rw [coe_sum]
    refine Finset.sum_congr rfl fun n _ => ?_
    pointwise
    rw [v16 V0 hX, v72 V0 hX hW hg hD, gW, if_neg (by omega), if_pos rfl, mul_comm, EReal.coe_mul]
  have e0 : (∑ n : Fin 4096, mulf (res_main_v10 V0) (res_main_v72 V0) (ix3 0 n i1)) = ((∑ n : Fin 4096, gW X D w g 0 n i1 : ℝ) : EReal) := by
    rw [coe_sum]
    refine Finset.sum_congr rfl fun n _ => ?_
    pointwise
    rw [v10 V0 hX, v72 V0 hX hW hg hD, gW, if_pos rfl, mul_comm, EReal.coe_mul]
  rw [e2, e1, e0]
  by_cases c3 : i0.val < 3
  · rw [dif_pos c3, if_pos c3]
    obtain h | h | h : i0.val = 0 ∨ i0.val = 1 ∨ i0.val = 2 := by omega
    · rw [dif_neg (by omega), dif_neg (by omega), dif_pos (by omega), h, zero_add, zero_add]
    · rw [dif_neg (by omega), dif_pos (by omega), dif_neg (by omega), h, zero_add, add_zero]
    · rw [dif_pos (by omega), dif_neg (by omega), dif_neg (by omega), h, add_zero, add_zero]
  · rw [dif_neg c3, if_neg c3]

theorem res2 : (concatenate S8x512 0 [⟨S1x512, (broadcastInDim S1x512 ![1] bcast_S512_S1x512_1 (Host.reduceAdd (shapeCast _ (Host.reduceAdd (mulf (res_main_v45 V0) (V0 (Proc.devRef .tc main_arg3))) (constant S_ .f32 0x00000000#32) reducesTo_S1x4096x512_S1x512_d1 h_S_) shapeCasts_S1x512_S1x1x512) (constant S_ .f32 0x00000000#32) reducesTo_S1x1x512_S512_d0_1 h_S_))⟩, ⟨S7x512, (broadcastInDim S7x512 ![] bcast_S_S7x512 (constant S_ .f32 0x00000000#32))⟩] concatenates_S1x512_S7x512_S8x512_d0) = fun i : S8x512.Idx =>
    (if (i 0).val < 1 then ((∑ n : Fin 4096, gG X D w n (i 1).val : ℝ) : EReal) else 0 : EReal) := by
  funext i
  idx_vars i
  pointwise
  simp only [col_sum]
  have e : (∑ n : Fin 4096, mulf (res_main_v45 V0) (V0 (Proc.devRef .tc main_arg3)) (ix3 0 n i1)) = ((∑ n : Fin 4096, gG X D w n i1 : ℝ) : EReal) := by
    rw [coe_sum]
    refine Finset.sum_congr rfl fun n _ => ?_
    pointwise
    rw [v45 V0 hX hW, hD, gG, mul_comm, EReal.coe_mul]
  rw [e]
  by_cases c : i0.val < 1
  · rw [dif_pos c, if_pos c]
  · rw [dif_neg c, if_neg c]
end Cert.ReferenceIdeal.Value
-- ==== Proof.Finite.lean ====
/-
  What the precondition says: the entries of an array are real numbers.
-/
module
public import proofs.«01_k».proof.Proof.Gen.Pre_finite
public import Idealize.ShloMosaic.Lib.ReduceAll
public import Idealize.ShloMosaic.Lib.Pointwise
@[expose] public section
set_option maxRecDepth 16384
noncomputable section
open Idealize.ShloMosaic Idealize.ShloMosaic.TcCoe Idealize.SL.Sem
namespace Finite

/-- The word of infinity stands for the top element. -/
theorem inf_bits : Ideal.ofBits .f32 0x7F800000#32 = ⊤ := by
  simp [Ideal.ofBits, Ideal.ieee]

/-- An array whose entries' magnitudes are all below infinity has real entries. -/
theorem real_of_all {s t u : Shape} [Subsingleton t.Idx] {axes : List (Fin s.rank)} (x : FVec Ideal s .f32) (b : s.Idx → Ideal .f32)
    (hb : ∀ i, b i = Ideal.ofBits .f32 0x7F800000#32) (init : u.Idx → BitVec 1) (h : s.ReducesTo axes t) (hu : 0 < u.numel) (j : t.Idx)
    (e : Host.reduce IntOp.andi (cmpf .olt (Host.absf x) b) init h hu j = 1#1) (i : s.Idx) : (x i : EReal) = (((x i : EReal).toReal : ℝ) : EReal) := by
  have h1 := Host.reduce_andi_all _ _ h hu j e i
  simp only [pointwise] at h1
  rw [hb, inf_bits] at h1
  have h2 : max (x i : EReal) (-(x i : EReal)) < ⊤ := by
    by_contra hc
    have h3 : decide ((FloatOps.absf (x i) : EReal) < ⊤) = false := decide_eq_false hc
    rw [h3] at h1
    exact absurd h1 (by decide)
  refine (EReal.coe_toReal (ne_of_lt (lt_of_le_of_lt (le_max_left _ _) h2)) fun hb => ?_).symm
  rw [hb] at h2
  simp at h2
end Finite
-- ==== Proof.ConvClaim.lean ====
/-
  The value claim: the kernel's three results are the reference's.
-/
module
public import proofs.«01_k».proof.Defs
public import proofs.«01_k».proof.Proof.ConvOut
public import proofs.«01_k».proof.Proof.ConvSums
public import proofs.«01_k».proof.Proof.ConvRef
public import proofs.«01_k».proof.Proof.Finite
public import Idealize.ShloMosaic.Lib.Claim
@[expose] public section
set_option maxRecDepth 16384
noncomputable section
open Idealize.ShloMosaic Idealize.ShloMosaic.TcCoe Idealize.SL.Sem
namespace Cert.Proof

/-- An array of extended reals with real entries, as a function on the naturals. -/
theorem real3 {a b : ℕ} (x : (⟨3, ![1, a, b]⟩ : Shape).Idx → EReal) (h : ∀ i, x i = ((x i).toReal : EReal)) :
    ∃ X : ℕ → ℕ → ℝ, ∀ (z : Fin 1) (n : Fin a) (k : Fin b), x (ix3 z n k) = ((X n k : ℝ) : EReal) := by
  refine ⟨fun n k => if h : n < a ∧ k < b then (x (ix3 0 ⟨n, h.1⟩ ⟨k, h.2⟩)).toReal else 0, fun z n k => ?_⟩
  obtain rfl : z = 0 := Subsingleton.elim _ _
  dsimp only
  rw [dif_pos ⟨n.isLt, k.isLt⟩]; exact h _
theorem real2 {a b : ℕ} (x : (⟨2, ![a, b]⟩ : Shape).Idx → EReal) (h : ∀ i, x i = ((x i).toReal : EReal)) :
    ∃ X : ℕ → ℕ → ℝ, ∀ (n : Fin a) (k : Fin b), x (ix2 n k) = ((X k n : ℝ) : EReal) := by
  refine ⟨fun k n => if h : n < a ∧ k < b then (x (ix2 ⟨n, h.1⟩ ⟨k, h.2⟩)).toReal else 0, fun n k => ?_⟩
  dsimp only
  rw [dif_pos ⟨n.isLt, k.isLt⟩]; exact h _
theorem real1 {a : ℕ} (x : (⟨1, ![a]⟩ : Shape).Idx → EReal) (h : ∀ i, x i = ((x i).toReal : EReal)) :
    ∃ X : ℕ → ℝ, ∀ (n : Fin a), x (ix1 n) = ((X n : ℝ) : EReal) := by
  refine ⟨fun n => if h : n < a then (x (ix1 ⟨n, h⟩)).toReal else 0, fun n => ?_⟩
  dsimp only
  rw [dif_pos n.isLt]; exact h _
theorem ext3 {a b : ℕ} (x : (⟨3, ![1, a, b]⟩ : Shape).Idx → EReal) :
    ∃ X : ℕ → ℕ → EReal, ∀ (z : Fin 1) (n : Fin a) (k : Fin b), x (ix3 z n k) = X n k := by
  refine ⟨fun n k => if h : n < a ∧ k < b then x (ix3 0 ⟨n, h.1⟩ ⟨k, h.2⟩) else 0, fun z n k => ?_⟩
  obtain rfl : z = 0 := Subsingleton.elim _ _
  dsimp only
  rw [dif_pos ⟨n.isLt, k.isLt⟩]

/-- Under the precondition the four arrays the gradients read hold real numbers. -/
theorem reals (A : FVec Ideal Cert.Pre_finite.S1x4096x3072 .f32) (B : FVec Ideal Cert.Pre_finite.S512x3 .f32)
    (C : FVec Ideal Cert.Pre_finite.S512 .f32) (E F G H : FVec Ideal Cert.Pre_finite.S1x4096x512 .f32)
    (h : Cert.Pre_finite.fn A B C E F G H = fun _ => 1#1) :
    (∀ i, (A i : EReal) = (((A i : EReal).toReal : ℝ) : EReal)) ∧ (∀ i, (B i : EReal) = (((B i : EReal).toReal : ℝ) : EReal))
    ∧ (∀ i, (C i : EReal) = (((C i : EReal).toReal : ℝ) : EReal)) ∧ ∀ i, (E i : EReal) = (((E i : EReal).toReal : ℝ) : EReal) := by
  have h0 := congrFun h (fun a => a.elim0)
  dsimp only [Cert.Pre_finite.fn, Cert.Pre_finite.fn_part1] at h0
  obtain ⟨h1, hE⟩ := IntOp.andi_eq_one.mp h0
  obtain ⟨h2, hC⟩ := IntOp.andi_eq_one.mp h1
  obtain ⟨hA, hB⟩ := IntOp.andi_eq_one.mp h2
  haveI : Subsingleton Cert.Pre_finite.S_.Idx := ⟨fun a b => funext fun x => x.elim0⟩
  exact ⟨Finite.real_of_all A _ (fun _ => rfl) _ _ _ _ hA, Finite.real_of_all B _ (fun _ => rfl) _ _ _ _ hB,
    Finite.real_of_all C _ (fun _ => rfl) _ _ _ _ hC, Finite.real_of_all E _ (fun _ => rfl) _ _ _ _ hE⟩

set_option maxHeartbeats 2000000 in
/-- Over the reals the kernel computes the gradients of the gated short convolution. -/
theorem conv_algebraic : Cert.algebraic_KernelIdeal_ReferenceIdeal_pre_finite := by
  pair_intro
  · run_from Cert.KernelIdeal.Value.run_blocks m g
  · have H : ∀ c : Dev Cert.KernelIdeal.nD, ∃ (X D w : ℕ → ℕ → ℝ) (gn : ℕ → ℝ) (Q1 Q2 Q3 : ℕ → ℕ → EReal),
        (∀ (a : Fin 1) (n : Fin 4096) (k : Fin 3072), m ((c.tc : Thread Cert.KernelIdeal.nD Cert.KernelIdeal.τ).loc Cert.KernelIdeal.main_arg0) (ix3 a n k) = ((X n k : ℝ) : EReal))
        ∧ (∀ (n : Fin 512) (k : Fin 3), m ((c.tc : Thread Cert.KernelIdeal.nD Cert.KernelIdeal.τ).loc Cert.KernelIdeal.main_arg1) (ix2 n k) = ((w k n : ℝ) : EReal))
        ∧ (∀ (n : Fin 512), m ((c.tc : Thread Cert.KernelIdeal.nD Cert.KernelIdeal.τ).loc Cert.KernelIdeal.main_arg2) (ix1 n) = ((gn n : ℝ) : EReal))
        ∧ (∀ (a : Fin 1) (n : Fin 4096) (k : Fin 512), m ((c.tc : Thread Cert.KernelIdeal.nD Cert.KernelIdeal.τ).loc Cert.KernelIdeal.main_arg3) (ix3 a n k) = ((D n k : ℝ) : EReal))
        ∧ (∀ (a : Fin 1) (n : Fin 4096) (k : Fin 512), m ((c.tc : Thread Cert.KernelIdeal.nD Cert.KernelIdeal.τ).loc Cert.KernelIdeal.main_arg4) (ix3 a n k) = Q1 n k)
        ∧ (∀ (a : Fin 1) (n : Fin 4096) (k : Fin 512), m ((c.tc : Thread Cert.KernelIdeal.nD Cert.KernelIdeal.τ).loc Cert.KernelIdeal.main_arg5) (ix3 a n k) = Q2 n k)
        ∧ (∀ (a : Fin 1) (n : Fin 4096) (k : Fin 512), m ((c.tc : Thread Cert.KernelIdeal.nD Cert.KernelIdeal.τ).loc Cert.KernelIdeal.main_arg6) (ix3 a n k) = Q3 n k) := fun c => by
      obtain ⟨hA, hB, hC, hE⟩ := reals _ _ _ _ _ _ _ (hpre c)
      obtain ⟨X, hX⟩ := real3 _ hA
      obtain ⟨w, hw⟩ := real2 _ hB
      obtain ⟨gn, hg⟩ := real1 _ hC
      obtain ⟨D, hD⟩ := real3 _ hE
      obtain ⟨Q1, h1⟩ := ext3 (m ((c.tc : Thread Cert.KernelIdeal.nD Cert.KernelIdeal.τ).loc Cert.KernelIdeal.main_arg4))
      obtain ⟨Q2, h2⟩ := ext3 (m ((c.tc : Thread Cert.KernelIdeal.nD Cert.KernelIdeal.τ).loc Cert.KernelIdeal.main_arg5))
      obtain ⟨Q3, h3⟩ := ext3 (m ((c.tc : Thread Cert.KernelIdeal.nD Cert.KernelIdeal.τ).loc Cert.KernelIdeal.main_arg6))
      exact ⟨X, D, w, gn, Q1, Q2, Q3, hX, hw, hg, hD, h1, h2, h3⟩
    run_from Cert.ReferenceIdeal.Value.run m' g'
    all_goals
      obtain ⟨X, D, w, gn, Q1, Q2, Q3, hX, hw, hg, hD, h1, h2, h3⟩ := H c
      obtain ⟨a0, a1, a2, a3, a4, a5, a6⟩ := hagree c
    · exact (Cert.ReferenceIdeal.Value.res0 (StableHlo.launchContents m' c) (fun a n k => (congrFun a0 _).trans (hX a n k))
        (fun n k => (congrFun a1 _).trans (hw n k)) (fun n => (congrFun a2 _).trans (hg n)) (fun a n k => (congrFun a3 _).trans (hD a n k))
        Q1 Q2 Q3 (fun a n k => (congrFun a4 _).trans (h1 a n k)) (fun a n k => (congrFun a5 _).trans (h2 a n k))
        (fun a n k => (congrFun a6 _).trans (h3 a n k))).trans (Cert.KernelIdeal.Val.final10 m c hX hw hg hD h1 h2 h3).symm
    · exact (Cert.ReferenceIdeal.Value.res1 (StableHlo.launchContents m' c) (fun a n k => (congrFun a0 _).trans (hX a n k))
        (fun n k => (congrFun a1 _).trans (hw n k)) (fun n => (congrFun a2 _).trans (hg n)) (fun a n k => (congrFun a3 _).trans (hD a n k))).trans
        (Cert.KernelIdeal.Val.final11 m c hX hw hg hD).symm
    · exact (Cert.ReferenceIdeal.Value.res2 (StableHlo.launchContents m' c) (fun a n k => (congrFun a0 _).trans (hX a n k))
        (fun n k => (congrFun a1 _).trans (hw n k)) (fun n => (congrFun a2 _).trans (hg n)) (fun a n k => (congrFun a3 _).trans (hD a n k))).trans
        (Cert.KernelIdeal.Val.final12 m c hX hw hg hD).symm
end Cert.Proof
-- ==== Proof.Arrays.lean ====
/-
  Arrays read as functions on the naturals, and sums of real numbers.
-/
module
public import Idealize.ShloMosaic.Lib.Pointwise
public import Idealize.ShloMosaic.Lib.Pipeline.ValueKit
public import Idealize.ShloMosaic.Lib.Pipeline.ReadBack
@[expose] public section
noncomputable section
open Idealize.ShloMosaic Idealize.ShloMosaic.TcCoe
namespace Cert.Proof

/-- A matrix of extended reals, as a function on the naturals. -/
theorem ext2 {a b : ℕ} (x : (⟨2, ![a, b]⟩ : Shape).Idx → EReal) :
    ∃ X : ℕ → ℕ → EReal, ∀ (n : Fin a) (k : Fin b), x (ix2 n k) = X n k := by
  refine ⟨fun n k => if h : n < a ∧ k < b then x (ix2 ⟨n, h.1⟩ ⟨k, h.2⟩) else 0, fun n k => ?_⟩
  dsimp only
  rw [dif_pos ⟨n.isLt, k.isLt⟩]
/-- A matrix with real entries, as a function on the naturals. -/
theorem mat2 {a b : ℕ} (x : (⟨2, ![a, b]⟩ : Shape).Idx → EReal) (h : ∀ i, x i = ((x i).toReal : EReal)) :
    ∃ X : ℕ → ℕ → ℝ, ∀ (n : Fin a) (k : Fin b), x (ix2 n k) = ((X n k : ℝ) : EReal) := by
  refine ⟨fun n k => if h : n < a ∧ k < b then (x (ix2 ⟨n, h.1⟩ ⟨k, h.2⟩)).toReal else 0, fun n k => ?_⟩
  dsimp only
  rw [dif_pos ⟨n.isLt, k.isLt⟩]; exact h _
/-- A sum of real numbers, taken in the extended reals. -/
theorem sum_coe {ι : Type} [Fintype ι] (f : ι → ℝ) : (∑ i, ((f i : ℝ) : EReal)) = ((∑ i, f i : ℝ) : EReal) := by
  classical
  refine Finset.induction_on (motive := fun s : Finset ι => (∑ i ∈ s, ((f i : ℝ) : EReal)) = ((∑ i ∈ s, f i : ℝ) : EReal)) _ (by simp) ?_
  intro a s ha h
  rw [Finset.sum_insert ha, Finset.sum_insert ha, h, EReal.coe_add]
/-- An inner product of real vectors, taken in the extended reals. -/
theorem dot_coe {ι : Type} [Fintype ι] {x y : ι → EReal} {f g : ι → ℝ} (hx : ∀ i, x i = ((f i : ℝ) : EReal))
    (hy : ∀ i, y i = ((g i : ℝ) : EReal)) : (∑ i, x i * y i) = ((∑ i, f i * g i : ℝ) : EReal) := by
  rw [← sum_coe]
  exact Finset.sum_congr rfl fun i _ => by rw [hx, hy, EReal.coe_mul]
/-- A quotient of real numbers. -/
theorem quot_coe {y : ℝ} (h : y ≠ 0) (x : ℝ) : Ideal.div ((x : ℝ) : EReal) ((y : ℝ) : EReal) = ((x / y : ℝ) : EReal) := by
  rw [Ideal.div_coe h, ← EReal.coe_mul, mul_one_div]
/-- The word of one. -/
theorem one_bits : Ideal.ofBits .f32 0x3F800000#32 = ((1 : ℝ) : EReal) := by
  simp [Ideal.ofBits, Ideal.ieee, -EReal.coe_mul]; norm_num
/-- The word of zero. -/
theorem zero_bits : Ideal.ofBits .f32 0x00000000#32 = ((0 : ℝ) : EReal) := by
  simp [Ideal.ofBits, Ideal.ieee, -EReal.coe_mul]

/-- The logistic function. -/
def sg (x : ℝ) : ℝ := 1 / (1 + Real.exp (-x))
theorem sg_ne (x : ℝ) : 1 + Real.exp (-x) ≠ 0 := by positivity
/-- The logistic function as it is computed. -/
theorem sg_coe (x : ℝ) : Ideal.div (1 : EReal) ((1 : EReal) + Ideal.exp (-((x : ℝ) : EReal))) = ((sg x : ℝ) : EReal) := by
  rw [← EReal.coe_neg, Ideal.exp_coe, ← EReal.coe_one, ← EReal.coe_add, quot_coe (sg_ne x)]; rfl

/-- The sums over equal runs of rows are the sum over all rows. -/
theorem sum_tiles (J T N : ℕ) (h : N = J * T) (f : ℕ → ℝ) :
    (∑ t : Fin J, ((∑ r : Fin T, f (T * t + r) : ℝ) : EReal)) = ((∑ n : Fin N, f n : ℝ) : EReal) := by
  subst h
  rw [sum_coe]
  congr 1
  refine Eq.trans ?_ (Fin.sum_univ_tiles J T rfl (fun n : Fin (J * T) => f n)).symm
  refine Finset.sum_congr rfl fun t _ => Finset.sum_congr rfl fun r _ => ?_
  show f _ = f _
  congr 1
  show T * (t : ℕ) + r = t * T + r
  rw [mul_comm]

/-- A matrix read through a rectangle. -/
theorem ld2 {m n a b o p : ℕ} {Val : EltTy → Type} {e : EltTy} (X : (⟨2, ![m, n]⟩ : Shape).Idx → Val e) (h) (r : Fin a) (c : Fin b)
    (j : Fin m) (k : Fin n) (hr : j.val = o + r.val) (hc : k.val = p + c.val) :
    View.ld (Val := Val) X (Rect.unit (s := ⟨2, ![m, n]⟩) ![o, p] ![a, b] h) (ix2 r c) = X (ix2 j k) := by
  refine congrArg X (funext fun v => ?_)
  match v with
  | ⟨0, _⟩ => exact Fin.ext (by show o + 1 * r.val = j.val; omega)
  | ⟨1, _⟩ => exact Fin.ext (by show p + 1 * c.val = k.val; omega)
/-- The same for an array of matrices. -/
theorem ld3 {l m n d a b u o p : ℕ} {Val : EltTy → Type} {e : EltTy} (X : (⟨3, ![l, m, n]⟩ : Shape).Idx → Val e) (h) (z : Fin d) (r : Fin a) (c : Fin b)
    (i : Fin l) (j : Fin m) (k : Fin n) (hz : i.val = u + z.val) (hr : j.val = o + r.val) (hc : k.val = p + c.val) :
    View.ld (Val := Val) X (Rect.unit (s := ⟨3, ![l, m, n]⟩) ![u, o, p] ![d, a, b] h) (ix3 z r c) = X (ix3 i j k) := by
  refine congrArg X (funext fun v => ?_)
  match v with
  | ⟨0, _⟩ => exact Fin.ext (by show u + 1 * z.val = i.val; omega)
  | ⟨1, _⟩ => exact Fin.ext (by show o + 1 * r.val = j.val; omega)
  | ⟨2, _⟩ => exact Fin.ext (by show p + 1 * c.val = k.val; omega)

section Stores
variable {s : Shape} {e : EltTy} {Val : EltTy → Type}
/-- A block after a list of stores, by its newest store: an index under that store reads its value, and any other index
reads the rest of the list. -/
theorem block_step [∀ e, Nonempty (Val e)] (p : View.Piece Val s e) (L : List (View.Piece Val s e)) (y : s.Idx) (G : s.Idx → Val e)
    (h : ∀ x : p.1.shape.Idx, p.2 x = G (p.1.emb x)) (h' : y ∉ p.1.set → View.canon L y = G y) : View.canon (p :: L) y = G y := by
  by_cases hy : y ∈ p.1.set
  · obtain ⟨x, rfl⟩ : ∃ x, p.1.emb x = y := p.1.exists_idx_of_mem hy
    obtain ⟨r, w⟩ := p
    exact (View.canon_cons_emb ..).trans (h x)
  · exact (View.canon_cons_of_not_mem _ _ hy).trans (h' hy)
/-- The same when the stores go over contents that are known. -/
theorem over_step {sig : RefSig} {κ : Kind} {sp : Space} (v : View sig κ sp s e) (f : v.ty.Contents Val) (p : View.Piece Val s e)
    (L : List (View.Piece Val s e)) (y : s.Idx) (G : s.Idx → Val e)
    (h : ∀ x : p.1.shape.Idx, p.2 x = G (p.1.emb x)) (h' : y ∉ p.1.set → v.read Val (v.writes Val f L) y = G y) :
    v.read Val (v.writes Val f (p :: L)) y = G y := by
  by_cases hy : y ∈ p.1.set
  · obtain ⟨x, rfl⟩ : ∃ x, p.1.emb x = y := p.1.exists_idx_of_mem hy
    obtain ⟨r, w⟩ := p
    exact (View.read_writes_cons_emb ..).trans (h x)
  · exact (View.read_writes_cons_miss v f p L y hy).trans (h' hy)
end Stores
end Cert.Proof
-- ==== Proof.DwIn.lean ====
/-
  The gradient of the mixer's input weight: four tiles of a product against the saved rows, each stored as two shards,
  and the plain product of the reference.
-/
module
public import proofs.«01_k».proof.Defs
public import proofs.«01_k».proof.Proof.Gen.DwInIdeal.Value
public import proofs.«01_k».proof.Proof.Gen.DwInRefIdeal.Run
public import proofs.«01_k».proof.Proof.Arrays
public import Idealize.ShloMosaic.Lib.Pointwise
public import Idealize.ShloMosaic.Lib.Pipeline.ValueKit
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.DwInIdeal.Val
open Cert.DwInIdeal Cert.DwInIdeal.Gen

/-- The weight's gradient: shard `n`, row `d`, column `q`. -/
def grad (H P : ℕ → ℕ → EReal) (n d q : ℕ) : EReal := ∑ r : Fin 4096, H r.val d * P r.val (384 * n + q)

variable (m : (ℓ : Loc nD τ sig) → Buf (Elt Ideal) ℓ) (c : Dev nD) {H P : ℕ → ℕ → EReal}
  (hH : ∀ (n : Fin 4096) (k : Fin 1024), m ((c.tc : Thread nD τ).loc main_arg0) (ix2 n k) = H n k)
  (hP : ∀ (n : Fin 4096) (k : Fin 3072), m ((c.tc : Thread nD τ).loc main_arg2) (ix2 n k) = P n k)

theorem idx : ∀ t : Fin cfg0.N, win0_0.index t = ![0, 0] ∧ win0_1.index t = ![0, t.val]
    ∧ win0_2.index t = ![t.val, 0, 0] := (by decide +kernel : ∀ t : Fin grid0.N, _)
theorem lt4 (t : Fin cfg0.N) : t.val < 4 := t.isLt

theorem ent0 (n : Fin 4096) (q : Fin 1024) : V m c main_v0 (ix2 n q) = m ((c.tc : Thread nD τ).loc main_arg0) (ix2 n q) := by
  entry_read; pointwise
theorem ent1 (n : Fin 4096) (q : Fin 3072) : V m c main_v1 (ix2 n q) = m ((c.tc : Thread nD τ).loc main_arg2) (ix2 n q) := by
  entry_read; pointwise
theorem blk0 (t : Fin cfg0.N) (r : Fin 4096) (q : Fin 1024) : iblk m c 0 t (ix2 r q) = V m c main_v0 (ix2 r q) := by
  blk_point [iblk, idx t]
theorem blk1 (t : Fin cfg0.N) (r : Fin 4096) (q : Fin 768) :
    iblk m c 1 t (ix2 r q) = V m c main_v1 (ix2 r ⟨768 * t.val + q, by have := lt4 t; omega⟩) := by
  blk_point [iblk, idx t]

include hH hP in
/-- The kernel's result. -/
theorem final : (dats m 0 c).arrAt 2 (cfgs 0).N = fun i : S8x1024x384.Idx => grad H P (i 0).val (i 1).val (i 2).val := by
  refine (dats m 0 c).arrAt_eq_of_covers 2 _ (by decide +kernel) fun t hf y => ?_
  blk_simp [idx t]
  rw [after0_2]
  frame_out
  change S2x1024x384.Idx at y
  refine (Cert.DwInIdeal.Value.canon2_eq _ _ y).trans ?_
  idx_vars y
  pointwise [k0_pay1]
  unfold grad
  refine Finset.sum_congr (M := EReal) rfl fun r _ => ?_
  have := lt4 t
  refine congrArg₂ (fun a b : EReal => a * b) ((blk0 m c t r y1).trans ((ent0 m c r y1).trans (hH r y1)))
    ((blk1 m c t r ⟨y0.val * 384 + y2.val, by omega⟩).trans ((ent1 m c r _).trans ((hP _ _).trans ?_)))
  congr 1; simp only []; omega
end Cert.DwInIdeal.Val

namespace Cert.DwInRefIdeal.Value
open Cert.DwInRefIdeal Cert.DwInRefIdeal.Gen
variable (A0 : FVec Ideal S4096x1024 .f32) (A2 : FVec Ideal S4096x3072 .f32) {H P : ℕ → ℕ → EReal}
  (hH : ∀ (n : Fin 4096) (k : Fin 1024), A0 (ix2 n k) = H n k)
  (hP : ∀ (n : Fin 4096) (k : Fin 3072), A2 (ix2 n k) = P n k)
include hH hP
/-- The reference's result. -/
theorem res : (truncf (F := Ideal) .bf16 (transpose S8x1024x384 [1, 0, 2] (shapeCast _ (transpose S1024x3072 [1, 0] (Host.dotGeneral dot_S4096x3072_S4096x1024_S3072x1024_0_0_1_1_n_n none A2 A0) transposes_S3072x1024_S1024x3072_1_0) shapeCasts_S1024x3072_S1024x8x384) transposes_S1024x8x384_S8x1024x384_1_0_2) bitsLt_bf16_f32 : FVec Ideal S8x1024x384 .bf16) = fun i => Cert.DwInIdeal.Val.grad H P (i 0).val (i 1).val (i 2).val := by
  funext i; idx_vars i
  pointwise
  unfold Cert.DwInIdeal.Val.grad
  refine Finset.sum_congr (M := EReal) rfl fun r _ => ?_
  refine (mul_comm _ _).trans ?_
  refine congrArg₂ (· * ·) (hH _ _) ((hP _ _).trans ?_)
  congr 1; simp only []; omega
end Cert.DwInRefIdeal.Value

namespace Cert.Proof
set_option maxHeartbeats 2000000 in
/-- Over the reals the kernel computes the gradient of the mixer's input weight. -/
theorem dw_in_algebraic : Cert.algebraic_DwInIdeal_DwInRefIdeal := by
  pair_intro
  · run_from Cert.DwInIdeal.Value.run_blocks m g
  · have H : ∀ c : Dev Cert.DwInIdeal.nD, ∃ (H P : ℕ → ℕ → EReal),
        (∀ (n : Fin 4096) (k : Fin 1024), m ((c.tc : Thread Cert.DwInIdeal.nD Cert.DwInIdeal.τ).loc Cert.DwInIdeal.main_arg0) (ix2 n k) = H n k)
        ∧ (∀ (n : Fin 4096) (k : Fin 3072), m ((c.tc : Thread Cert.DwInIdeal.nD Cert.DwInIdeal.τ).loc Cert.DwInIdeal.main_arg2) (ix2 n k) = P n k) := fun c => by
      obtain ⟨H, hH⟩ := ext2 (m ((c.tc : Thread Cert.DwInIdeal.nD Cert.DwInIdeal.τ).loc Cert.DwInIdeal.main_arg0))
      obtain ⟨P, hP⟩ := ext2 (m ((c.tc : Thread Cert.DwInIdeal.nD Cert.DwInIdeal.τ).loc Cert.DwInIdeal.main_arg2))
      exact ⟨H, P, hH, hP⟩
    run_from Cert.DwInRefIdeal.Value.run m' g'
    all_goals
      obtain ⟨H, P, hH, hP⟩ := H c
      obtain ⟨a0, a1, a2⟩ := hagree c
    exact (Cert.DwInRefIdeal.Value.res _ _ hH hP).trans (Cert.DwInIdeal.Val.final m c hH hP).symm
end Cert.Proof
-- ==== Proof.DwFfnIn.lean ====
/-
  The gradient of the feed-forward layer's input weight: four tiles of a product against the saved rows, and the plain
  product of the reference.
-/
module
public import proofs.«01_k».proof.Defs
public import proofs.«01_k».proof.Proof.Gen.DwFfnInIdeal.Value
public import proofs.«01_k».proof.Proof.Gen.DwFfnInRefIdeal.Run
public import proofs.«01_k».proof.Proof.Arrays
public import Idealize.ShloMosaic.Lib.Pointwise
public import Idealize.ShloMosaic.Lib.Pipeline.ValueKit
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.DwFfnInIdeal.Val
open Cert.DwFfnInIdeal Cert.DwFfnInIdeal.Gen

/-- The gate's and the up product's cotangents side by side. -/
def both (G U : ℕ → ℕ → EReal) (r q : ℕ) : EReal := if q < 2816 then G r q else U r (q - 2816)

theorem both_comm (G U : ℕ → ℕ → EReal) (r a b : ℕ) : both G U r (1408 * a + b)
    = if a * 1408 + b < 2816 then G r (a * 1408 + b) else U r (a * 1408 + b - 2816) := by
  rw [mul_comm 1408 a]; rfl

/-- The weight's gradient, transposed, in four tiles of 1408 rows. -/
def grad (H G U : ℕ → ℕ → EReal) (a b d : ℕ) : EReal := ∑ r : Fin 4096, both G U r.val (1408 * a + b) * H r.val d

variable (m : (ℓ : Loc nD τ sig) → Buf (Elt Ideal) ℓ) (c : Dev nD) {H G U : ℕ → ℕ → EReal}
  (hH : ∀ (n : Fin 4096) (k : Fin 1024), m ((c.tc : Thread nD τ).loc main_arg0) (ix2 n k) = H n k)
  (hG : ∀ (n : Fin 4096) (k : Fin 2816), m ((c.tc : Thread nD τ).loc main_arg2) (ix2 n k) = G n k)
  (hU : ∀ (n : Fin 4096) (k : Fin 2816), m ((c.tc : Thread nD τ).loc main_arg3) (ix2 n k) = U n k)

theorem idx : ∀ t : Fin cfg0.N, win0_0.index t = ![0, 0] ∧ win0_1.index t = ![t.val / 2, 0, t.val % 2]
    ∧ win0_2.index t = ![t.val, 0, 0] := (by decide +kernel : ∀ t : Fin grid0.N, _)
theorem lt4 (t : Fin cfg0.N) : t.val < 4 := t.isLt

theorem ent0 (n : Fin 4096) (q : Fin 1024) : V m c main_v0 (ix2 n q) = m ((c.tc : Thread nD τ).loc main_arg0) (ix2 n q) := by
  entry_read; pointwise
theorem ent4 (z : Fin 2) (n : Fin 4096) (q : Fin 2816) : V m c main_v4 (ix3 z n q)
    = if h : z.val < 1 then m ((c.tc : Thread nD τ).loc main_arg2) (ix2 n q) else m ((c.tc : Thread nD τ).loc main_arg3) (ix2 n q) := by
  entry_read; pointwise
theorem blk0 (t : Fin cfg0.N) (r : Fin 4096) (q : Fin 1024) : iblk m c 0 t (ix2 r q) = V m c main_v0 (ix2 r q) := by
  blk_point [iblk, idx t]
theorem blk1 (t : Fin cfg0.N) (z : Fin 1) (r : Fin 4096) (q : Fin 1408) :
    iblk m c 1 t (ix3 z r q) = V m c main_v4 (ix3 ⟨t.val / 2, by have := lt4 t; omega⟩ r ⟨1408 * (t.val % 2) + q, by omega⟩) := by
  blk_point [iblk, idx t]

include hH hG hU in
/-- The kernel's result. -/
theorem final : (dats m 0 c).arrAt 2 (cfgs 0).N = fun i : S4x1408x1024.Idx => grad H G U (i 0).val (i 1).val (i 2).val := by
  refine (dats m 0 c).arrAt_eq_of_covers 2 _ (by decide +kernel) fun t hf y => ?_
  blk_simp [idx t]
  rw [after0_2]
  frame_out
  change S1x1408x1024.Idx at y
  idx_vars y
  pointwise [k0_pay1]
  unfold grad
  refine Finset.sum_congr (M := EReal) rfl fun r _ => ?_
  rw [blk0, ent0, hH, blk1, ent4]
  have := lt4 t
  congr 1
  · unfold both
    by_cases h : t.val / 2 < 1
    · rw [dif_pos h, if_pos (by omega), hG]; congr 1; simp only []; omega
    · rw [dif_neg h, if_neg (by omega), hU]; congr 1; simp only []; omega
end Cert.DwFfnInIdeal.Val

namespace Cert.DwFfnInRefIdeal.Value
open Cert.DwFfnInRefIdeal Cert.DwFfnInRefIdeal.Gen
variable (A0 : FVec Ideal S4096x1024 .f32) (A2 A3 : FVec Ideal S4096x2816 .f32) {H G U : ℕ → ℕ → EReal}
  (hH : ∀ (n : Fin 4096) (k : Fin 1024), A0 (ix2 n k) = H n k)
  (hG : ∀ (n : Fin 4096) (k : Fin 2816), A2 (ix2 n k) = G n k)
  (hU : ∀ (n : Fin 4096) (k : Fin 2816), A3 (ix2 n k) = U n k)
include hH hG hU
/-- The reference's result. -/
theorem res : (truncf (F := Ideal) .bf16 (shapeCast _ (transpose S5632x1024 [1, 0] (transpose S1024x5632 [1, 0] (Host.dotGeneral dot_S4096x5632_S4096x1024_S5632x1024_0_0_1_1_n_n none (concatenate S4096x5632 1 [⟨S4096x2816, A2⟩, ⟨S4096x2816, A3⟩] concatenates_S4096x2816_S4096x2816_S4096x5632_d1) A0) transposes_S5632x1024_S1024x5632_1_0) transposes_S1024x5632_S5632x1024_1_0) shapeCasts_S5632x1024_S4x1408x1024) bitsLt_bf16_f32 : FVec Ideal S4x1408x1024 .bf16) = fun i => Cert.DwFfnInIdeal.Val.grad H G U (i 0).val (i 1).val (i 2).val := by
  funext i; idx_vars i
  pointwise
  unfold Cert.DwFfnInIdeal.Val.grad
  refine Finset.sum_congr (M := EReal) rfl fun r _ => ?_
  refine congrArg₂ (fun a b : EReal => a * b) ?_ (hH _ _)
  refine Eq.trans ?_ (Cert.DwFfnInIdeal.Val.both_comm G U r i0 i1).symm
  by_cases h : i0.val * 1408 + i1.val < 2816
  · exact (dif_pos h).trans ((hG _ _).trans (if_pos h).symm)
  · exact (dif_neg h).trans ((hU _ _).trans (if_neg h).symm)
end Cert.DwFfnInRefIdeal.Value

namespace Cert.Proof
set_option maxHeartbeats 2000000 in
/-- Over the reals the kernel computes the gradient of the feed-forward layer's input weight. -/
theorem dw_ffn_in_algebraic : Cert.algebraic_DwFfnInIdeal_DwFfnInRefIdeal := by
  pair_intro
  · run_from Cert.DwFfnInIdeal.Value.run_blocks m g
  · have H : ∀ c : Dev Cert.DwFfnInIdeal.nD, ∃ (H G U : ℕ → ℕ → EReal),
        (∀ (n : Fin 4096) (k : Fin 1024), m ((c.tc : Thread Cert.DwFfnInIdeal.nD Cert.DwFfnInIdeal.τ).loc Cert.DwFfnInIdeal.main_arg0) (ix2 n k) = H n k)
        ∧ (∀ (n : Fin 4096) (k : Fin 2816), m ((c.tc : Thread Cert.DwFfnInIdeal.nD Cert.DwFfnInIdeal.τ).loc Cert.DwFfnInIdeal.main_arg2) (ix2 n k) = G n k)
        ∧ (∀ (n : Fin 4096) (k : Fin 2816), m ((c.tc : Thread Cert.DwFfnInIdeal.nD Cert.DwFfnInIdeal.τ).loc Cert.DwFfnInIdeal.main_arg3) (ix2 n k) = U n k) := fun c => by
      obtain ⟨H, hH⟩ := ext2 (m ((c.tc : Thread Cert.DwFfnInIdeal.nD Cert.DwFfnInIdeal.τ).loc Cert.DwFfnInIdeal.main_arg0))
      obtain ⟨G, hG⟩ := ext2 (m ((c.tc : Thread Cert.DwFfnInIdeal.nD Cert.DwFfnInIdeal.τ).loc Cert.DwFfnInIdeal.main_arg2))
      obtain ⟨U, hU⟩ := ext2 (m ((c.tc : Thread Cert.DwFfnInIdeal.nD Cert.DwFfnInIdeal.τ).loc Cert.DwFfnInIdeal.main_arg3))
      exact ⟨H, G, U, hH, hG, hU⟩
    run_from Cert.DwFfnInRefIdeal.Value.run m' g'
    all_goals
      obtain ⟨H, G, U, hH, hG, hU⟩ := H c
      obtain ⟨a0, a1, a2, a3⟩ := hagree c
    refine Eq.trans (Cert.DwFfnInRefIdeal.Value.res _ _ _ ?_ ?_ ?_) (Cert.DwFfnInIdeal.Val.final m c hH hG hU).symm
    · exact fun n k => hH n k
    · exact fun n k => (congrFun a2 _).trans (hG n k)
    · exact fun n k => (congrFun a3 _).trans (hU n k)
end Cert.Proof
-- ==== Proof.FfnOut.lean ====
/-
  The feed-forward layer's output product and its gate: what the kernel's blocks hold.
-/
module
public import proofs.«01_k».proof.Defs
public import proofs.«01_k».proof.Proof.Gen.FfnOutIdeal.Value
public import proofs.«01_k».proof.Proof.Arrays
public import Idealize.ShloMosaic.Lib.Pointwise
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem
open Idealize.ShloMosaic.Pipeline (Dat)
namespace Cert.FfnOutIdeal.Val
open Cert.FfnOutIdeal Cert.FfnOutIdeal.Gen Cert.Proof

/-- The cotangent of the gated activation. -/
def da (W D : ℕ → ℕ → ℝ) (r q : ℕ) : ℝ := ∑ d : Fin 1024, D r d * W q d
/-- The gate's cotangent. -/
def dG (G U W D : ℕ → ℕ → ℝ) (r q : ℕ) : ℝ := da W D r q * U r q * (sg (G r q) * (1 + G r q * (1 - sg (G r q))))
/-- The up product's cotangent. -/
def dU (G W D : ℕ → ℕ → ℝ) (r q : ℕ) : ℝ := da W D r q * (G r q * sg (G r q))
/-- The gated activation. -/
def act (G U : ℕ → ℕ → ℝ) (r q : ℕ) : ℝ := G r q * sg (G r q) * U r q

variable (m : (ℓ : Loc nD τ sig) → Buf (Elt Ideal) ℓ) (c : Dev nD) {G U W D : ℕ → ℕ → ℝ}
  (hG : ∀ (n : Fin 4096) (k : Fin 2816), m ((c.tc : Thread nD τ).loc main_arg0) (ix2 n k) = ((G n k : ℝ) : EReal))
  (hU : ∀ (n : Fin 4096) (k : Fin 2816), m ((c.tc : Thread nD τ).loc main_arg1) (ix2 n k) = ((U n k : ℝ) : EReal))
  (hW : ∀ (n : Fin 2816) (k : Fin 1024), m ((c.tc : Thread nD τ).loc main_arg2) (ix2 n k) = ((W n k : ℝ) : EReal))
  (hD : ∀ (n : Fin 4096) (k : Fin 1024), m ((c.tc : Thread nD τ).loc main_arg3) (ix2 n k) = ((D n k : ℝ) : EReal))

theorem idx : ∀ t : Fin cfg0.N, win0_0.index t = ![t.val % 4, 0] ∧ win0_1.index t = ![t.val / 4, 0]
    ∧ win0_2.index t = ![0, t.val % 4, t.val / 4] ∧ win0_3.index t = ![t.val % 4, t.val / 4]
    ∧ win0_4.index t = ![0, t.val % 4, t.val / 4] ∧ win0_5.index t = ![t.val / 4, 0] := (by decide +kernel : ∀ t : Fin grid0.N, _)
theorem lt8 (t : Fin cfg0.N) : t.val < 8 := t.isLt

theorem ent4 (z : Fin 2) (n : Fin 4096) (q : Fin 2816) : V m c (Pipeline.arrRef spec0 2) (ix3 z n q)
    = if h : z.val < 1 then m ((c.tc : Thread nD τ).loc main_arg0) (ix2 n q) else m ((c.tc : Thread nD τ).loc main_arg1) (ix2 n q) := by
  simp only [V, hostOps0, hostOps0_1, hostOps0_2, List.flatten_cons, List.flatten_nil, List.cons_append, List.nil_append, List.append_nil]
  entry_read; pointwise
include hG hU in
theorem ent5 (n : Fin 4096) (q : Fin 2816) : (V m c (Pipeline.arrRef spec0 3) (ix2 n q) : EReal) = ((act G U n q : ℝ) : EReal) := by
  simp only [V, hostOps0, hostOps0_1, hostOps0_2, List.flatten_cons, List.flatten_nil, List.cons_append, List.nil_append, List.append_nil]
  entry_read
  simp only [StableHlo.TRef.toBuf, StableHlo.TRef.ofBuf, cast_eq]
  pointwise
  refine Eq.trans (congrArg₂ (fun a b : EReal => a * Ideal.div (1 : EReal) ((1 : EReal) + Ideal.exp (-a)) * b) (hG n q) (hU n q)) ?_
  rw [sg_coe, ← EReal.coe_mul, ← EReal.coe_mul]; rfl
theorem ent0 (n : Fin 4096) (q : Fin 1024) : V m c (Pipeline.arrRef spec0 0) (ix2 n q) = m ((c.tc : Thread nD τ).loc main_arg3) (ix2 n q) := by
  simp only [V, hostOps0, hostOps0_1, hostOps0_2, List.flatten_cons, List.flatten_nil, List.cons_append, List.nil_append, List.append_nil]
  entry_read; pointwise
theorem ent1 (n : Fin 2816) (q : Fin 1024) : V m c (Pipeline.arrRef spec0 1) (ix2 n q) = m ((c.tc : Thread nD τ).loc main_arg2) (ix2 n q) := by
  simp only [V, hostOps0, hostOps0_1, hostOps0_2, List.flatten_cons, List.flatten_nil, List.cons_append, List.nil_append, List.append_nil]
  entry_read; pointwise
theorem blk0 (t : Fin cfg0.N) (r : Fin 1024) (q : Fin 1024) :
    iblk m c 0 t (ix2 r q) = V m c (Pipeline.arrRef spec0 0) (ix2 ⟨1024 * (t.val % 4) + r, by omega⟩ q) := by
  blk_point [iblk, idx t]
theorem blk1 (t : Fin cfg0.N) (r : Fin 1408) (q : Fin 1024) :
    iblk m c 1 t (ix2 r q) = V m c (Pipeline.arrRef spec0 1) (ix2 ⟨1408 * (t.val / 4) + r, by have := lt8 t; omega⟩ q) := by
  blk_point [iblk, idx t]
theorem blk2 (t : Fin cfg0.N) (z : Fin 2) (r : Fin 1024) (q : Fin 1408) :
    iblk m c 2 t (ix3 z r q) = V m c (Pipeline.arrRef spec0 2) (ix3 z ⟨1024 * (t.val % 4) + r, by omega⟩ ⟨1408 * (t.val / 4) + q, by have := lt8 t; omega⟩) := by
  blk_point [iblk, idx t]
theorem blk3 (t : Fin cfg0.N) (r : Fin 1024) (q : Fin 1408) :
    iblk m c 3 t (ix2 r q) = V m c (Pipeline.arrRef spec0 3) (ix2 ⟨1024 * (t.val % 4) + r, by omega⟩ ⟨1408 * (t.val / 4) + q, by have := lt8 t; omega⟩) := by
  blk_point [iblk, idx t]

section Pay
variable (x : Vec Ideal S1024x1024 .bf16) {Xr Wr : Fin 1024 → ℝ} {g0 u0 : ℝ} (r : Fin 1024) (z : Fin 1)
  (hx : ∀ d, x (ix2 r d) = ((Xr d : ℝ) : EReal))
include hx
theorem pay1 (w : Vec Ideal S640x1024 .bf16) (g u : Vec Ideal S1x1024x640 .bf16) (q : Fin 640)
    (hw : ∀ d, w (ix2 q d) = ((Wr d : ℝ) : EReal))
    (hg : g (ix3 0 r q) = ((g0 : ℝ) : EReal)) (hu : u (ix3 0 r q) = ((u0 : ℝ) : EReal)) :
    (k0_pay1 (k0_pay15 g) (k0_pay16 g) (k0_pay17 (k0_pay3 x) w u) (FloatOps.ofBits .f32 1065353216#32) (ix3 z r q) : EReal)
      = (((∑ d, Xr d * Wr d) * u0 * (sg g0 * (1 + g0 * (1 - sg g0))) : ℝ) : EReal) := by
  pointwise [k0_pay1, k0_pay15, k0_pay16, k0_pay17, k0_pay14, k0_pay3]
  rw [dot_coe hx hw, hg, hu, zero_sub, sg_coe]
  simp only [← EReal.coe_one, ← EReal.coe_mul, ← EReal.coe_add, ← EReal.coe_sub]
theorem pay2 (w : Vec Ideal S640x1024 .bf16) (g : Vec Ideal S1x1024x640 .bf16) (q : Fin 640)
    (hw : ∀ d, w (ix2 q d) = ((Wr d : ℝ) : EReal)) (hg : g (ix3 0 r q) = ((g0 : ℝ) : EReal)) :
    (k0_pay2 (k0_pay14 (k0_pay3 x) w) (k0_pay15 g) (k0_pay16 g) (ix3 z r q) : EReal)
      = (((∑ d, Xr d * Wr d) * (g0 * sg g0) : ℝ) : EReal) := by
  pointwise [k0_pay2, k0_pay15, k0_pay16, k0_pay14, k0_pay3]
  rw [dot_coe hx hw, hg, zero_sub, sg_coe]
  simp only [← EReal.coe_mul]
theorem pay3 (w : Vec Ideal S768x1024 .bf16) (g u : Vec Ideal S1x1024x768 .bf16) (q : Fin 768)
    (hw : ∀ d, w (ix2 q d) = ((Wr d : ℝ) : EReal))
    (hg : g (ix3 0 r q) = ((g0 : ℝ) : EReal)) (hu : u (ix3 0 r q) = ((u0 : ℝ) : EReal)) :
    (k0_pay12 (k0_pay7 x w) (k0_pay8 g) (k0_pay9 u) (k0_pay10 g) (FloatOps.ofBits .f32 1065353216#32) (ix3 z r q) : EReal)
      = (((∑ d, Xr d * Wr d) * u0 * (sg g0 * (1 + g0 * (1 - sg g0))) : ℝ) : EReal) := by
  pointwise [k0_pay12, k0_pay7, k0_pay8, k0_pay9, k0_pay10, k0_pay11, k0_pay3]
  rw [dot_coe hx hw, hg, hu, zero_sub, sg_coe]
  simp only [← EReal.coe_one, ← EReal.coe_mul, ← EReal.coe_add, ← EReal.coe_sub]
theorem pay4 (w : Vec Ideal S768x1024 .bf16) (g : Vec Ideal S1x1024x768 .bf16) (q : Fin 768)
    (hw : ∀ d, w (ix2 q d) = ((Wr d : ℝ) : EReal)) (hg : g (ix3 0 r q) = ((g0 : ℝ) : EReal)) :
    (k0_pay13 (k0_pay7 x w) (k0_pay8 g) (k0_pay10 g) (FloatOps.ofBits .f32 1065353216#32) (ix3 z r q) : EReal)
      = (((∑ d, Xr d * Wr d) * (g0 * sg g0) : ℝ) : EReal) := by
  pointwise [k0_pay13, k0_pay7, k0_pay8, k0_pay10, k0_pay11, k0_pay3]
  rw [dot_coe hx hw, hg, zero_sub, sg_coe]
  simp only [← EReal.coe_mul]
end Pay

/-- The two cotangents, one above the other. -/
def T4 (G U W D : ℕ → ℕ → ℝ) (z r q : ℕ) : EReal := if z < 1 then ((dG G U W D r q : ℝ) : EReal) else ((dU G W D r q : ℝ) : EReal)

include hD in
theorem in0 (t : Fin cfg0.N) (r : Fin 1024) (d : Fin 1024) : (iblk m c 0 t (ix2 r d) : EReal) = ((D (1024 * (t.val % 4) + r) d : ℝ) : EReal) := by
  rw [blk0, ent0, hD]
include hW in
theorem in1 (t : Fin cfg0.N) (q : Fin 1408) (d : Fin 1024) : (iblk m c 1 t (ix2 q d) : EReal) = ((W (1408 * (t.val / 4) + q) d : ℝ) : EReal) := by
  rw [blk1, ent1, hW]
include hG in
theorem in2a (t : Fin cfg0.N) (r : Fin 1024) (q : Fin 1408) : (iblk m c 2 t (ix3 0 r q) : EReal)
    = ((G (1024 * (t.val % 4) + r) (1408 * (t.val / 4) + q) : ℝ) : EReal) := by
  rw [blk2, ent4, dif_pos (by decide), hG]
include hU in
theorem in2b (t : Fin cfg0.N) (r : Fin 1024) (q : Fin 1408) : (iblk m c 2 t (ix3 1 r q) : EReal)
    = ((U (1024 * (t.val % 4) + r) (1408 * (t.val / 4) + q) : ℝ) : EReal) := by
  rw [blk2, ent4, dif_neg (by decide), hU]
include hG hU in
theorem in3 (t : Fin cfg0.N) (r : Fin 1024) (q : Fin 1408) : (iblk m c 3 t (ix2 r q) : EReal)
    = ((act G U (1024 * (t.val % 4) + r) (1408 * (t.val / 4) + q) : ℝ) : EReal) := by
  rw [blk3, ent5 m c hG hU]

theorem T4_gate {G U W D : ℕ → ℕ → ℝ} {z r q r' q' : ℕ} (hz : z = 0) (hr : r' = r) (hq : q' = q) : T4 G U W D z r' q'
    = (((∑ d : Fin 1024, D r d * W q d) * U r q * (sg (G r q) * (1 + G r q * (1 - sg (G r q)))) : ℝ) : EReal) := by
  subst hz hr hq; exact if_pos (by omega)
theorem T4_up {G U W D : ℕ → ℕ → ℝ} {z r q r' q' : ℕ} (hz : z = 1) (hr : r' = r) (hq : q' = q) : T4 G U W D z r' q'
    = (((∑ d : Fin 1024, D r d * W q d) * (G r q * sg (G r q)) : ℝ) : EReal) := by
  subst hz hr hq; exact if_neg (by omega)

/-- What one grid point leaves in the block of the cotangents. -/
theorem canon4 (A0 : Vec Ideal S1024x1024 .bf16) (A1 : Vec Ideal S1408x1024 .bf16) (A2 : Vec Ideal S2x1024x1408 .bf16) (i b : ℕ)
    (h0 : ∀ r d : Fin 1024, A0 (ix2 r d) = ((D (1024 * i + r) d : ℝ) : EReal))
    (h1 : ∀ (q : Fin 1408) (d : Fin 1024), A1 (ix2 q d) = ((W (1408 * b + q) d : ℝ) : EReal))
    (h2 : ∀ (r : Fin 1024) (q : Fin 1408), A2 (ix3 0 r q) = ((G (1024 * i + r) (1408 * b + q) : ℝ) : EReal))
    (h3 : ∀ (r : Fin 1024) (q : Fin 1408), A2 (ix3 1 r q) = ((U (1024 * i + r) (1408 * b + q) : ℝ) : EReal)) (y : S2x1024x1408.Idx) :
    View.canon (Val := Elt Ideal) (s := S2x1024x1408) (e := .bf16)
      [⟨Rect.unit ![1, 0, 768] ![1, 1024, 640] inb_S2x1024x1408_S1x1024x640_1_0_768,
          k0_pay2 (k0_pay14 (k0_pay3 A0) (View.ld A1 (Rect.unit ![768, 0] ![640, 1024] inb_S1408x1024_S640x1024_768_0)))
            (k0_pay15 (View.ld A2 (Rect.unit ![0, 0, 768] ![1, 1024, 640] inb_S2x1024x1408_S1x1024x640_0_0_768)))
            (k0_pay16 (View.ld A2 (Rect.unit ![0, 0, 768] ![1, 1024, 640] inb_S2x1024x1408_S1x1024x640_0_0_768)))⟩,
        ⟨Rect.unit ![0, 0, 768] ![1, 1024, 640] inb_S2x1024x1408_S1x1024x640_0_0_768,
          k0_pay1 (k0_pay15 (View.ld A2 (Rect.unit ![0, 0, 768] ![1, 1024, 640] inb_S2x1024x1408_S1x1024x640_0_0_768)))
            (k0_pay16 (View.ld A2 (Rect.unit ![0, 0, 768] ![1, 1024, 640] inb_S2x1024x1408_S1x1024x640_0_0_768)))
            (k0_pay17 (k0_pay3 A0) (View.ld A1 (Rect.unit ![768, 0] ![640, 1024] inb_S1408x1024_S640x1024_768_0))
              (View.ld A2 (Rect.unit ![1, 0, 768] ![1, 1024, 640] inb_S2x1024x1408_S1x1024x640_1_0_768)))
            (FloatOps.ofBits FTy.f32 1065353216#32)⟩,
        ⟨Rect.unit ![1, 0, 0] ![1, 1024, 768] inb_S2x1024x1408_S1x1024x768_1_0_0,
          k0_pay13 (k0_pay7 A0 (View.ld A1 (Rect.unit ![0, 0] ![768, 1024] inb_S1408x1024_S768x1024_0_0)))
            (k0_pay8 (View.ld A2 (Rect.unit ![0, 0, 0] ![1, 1024, 768] inb_S2x1024x1408_S1x1024x768_0_0_0)))
            (k0_pay10 (View.ld A2 (Rect.unit ![0, 0, 0] ![1, 1024, 768] inb_S2x1024x1408_S1x1024x768_0_0_0)))
            (FloatOps.ofBits FTy.f32 1065353216#32)⟩,
        ⟨Rect.unit ![0, 0, 0] ![1, 1024, 768] inb_S2x1024x1408_S1x1024x768_0_0_0,
          k0_pay12 (k0_pay7 A0 (View.ld A1 (Rect.unit ![0, 0] ![768, 1024] inb_S1408x1024_S768x1024_0_0)))
            (k0_pay8 (View.ld A2 (Rect.unit ![0, 0, 0] ![1, 1024, 768] inb_S2x1024x1408_S1x1024x768_0_0_0)))
            (k0_pay9 (View.ld A2 (Rect.unit ![1, 0, 0] ![1, 1024, 768] inb_S2x1024x1408_S1x1024x768_1_0_0)))
            (k0_pay10 (View.ld A2 (Rect.unit ![0, 0, 0] ![1, 1024, 768] inb_S2x1024x1408_S1x1024x768_0_0_0)))
            (FloatOps.ofBits FTy.f32 1065353216#32)⟩]
      y = T4 G U W D (y 0).val (1024 * i + (y 1).val) (1408 * b + (y 2).val) := by
  refine block_step (Val := Elt Ideal) (s := S2x1024x1408) (e := .bf16) _ _ _ (fun y : S2x1024x1408.Idx => T4 G U W D (y 0).val (1024 * i + (y 1).val) (1408 * b + (y 2).val)) (fun x => ?_) fun n1 => ?_
  · idx_vars x
    refine (pay2 A0 x1 x0 (h0 x1) _ _ x2
      (fun d => (ld2 (Val := Elt Ideal) A1 _ x2 d ⟨768 + x2, by omega⟩ d rfl (by omega)).trans (h1 _ _))
      ((ld3 (Val := Elt Ideal) A2 _ 0 x1 x2 0 x1 ⟨768 + x2, by omega⟩ rfl (by omega) rfl).trans (h2 _ _))).trans ?_
    exact (T4_up (r := 1024 * i + x1) (q := 1408 * b + (768 + x2)) (by blk_simp <;> omega) (by blk_simp <;> omega) (by blk_simp <;> omega)).symm
  refine block_step (Val := Elt Ideal) (s := S2x1024x1408) (e := .bf16) _ _ _ (fun y : S2x1024x1408.Idx => T4 G U W D (y 0).val (1024 * i + (y 1).val) (1408 * b + (y 2).val)) (fun x => ?_) fun n2 => ?_
  · idx_vars x
    refine (pay1 A0 x1 x0 (h0 x1) _ _ _ x2
      (fun d => (ld2 (Val := Elt Ideal) A1 _ x2 d ⟨768 + x2, by omega⟩ d rfl (by omega)).trans (h1 _ _))
      ((ld3 (Val := Elt Ideal) A2 _ 0 x1 x2 0 x1 ⟨768 + x2, by omega⟩ rfl (by omega) rfl).trans (h2 _ _))
      ((ld3 (Val := Elt Ideal) A2 _ 0 x1 x2 1 x1 ⟨768 + x2, by omega⟩ rfl (by omega) rfl).trans (h3 _ _))).trans ?_
    exact (T4_gate (r := 1024 * i + x1) (q := 1408 * b + (768 + x2)) (by blk_simp <;> omega) (by blk_simp <;> omega) (by blk_simp <;> omega)).symm
  refine block_step (Val := Elt Ideal) (s := S2x1024x1408) (e := .bf16) _ _ _ (fun y : S2x1024x1408.Idx => T4 G U W D (y 0).val (1024 * i + (y 1).val) (1408 * b + (y 2).val)) (fun x => ?_) fun n3 => ?_
  · idx_vars x
    refine (pay4 A0 x1 x0 (h0 x1) _ _ x2
      (fun d => (ld2 (Val := Elt Ideal) A1 _ x2 d ⟨0 + x2, by omega⟩ d rfl (by omega)).trans (h1 _ _))
      ((ld3 (Val := Elt Ideal) A2 _ 0 x1 x2 0 x1 ⟨0 + x2, by omega⟩ rfl (by omega) rfl).trans (h2 _ _))).trans ?_
    exact (T4_up (r := 1024 * i + x1) (q := 1408 * b + (0 + x2)) (by blk_simp <;> omega) (by blk_simp <;> omega) (by blk_simp <;> omega)).symm
  refine block_step (Val := Elt Ideal) (s := S2x1024x1408) (e := .bf16) _ _ _ (fun y : S2x1024x1408.Idx => T4 G U W D (y 0).val (1024 * i + (y 1).val) (1408 * b + (y 2).val)) (fun x => ?_) fun n4 => ?_
  · idx_vars x
    refine (pay3 A0 x1 x0 (h0 x1) _ _ _ x2
      (fun d => (ld2 (Val := Elt Ideal) A1 _ x2 d ⟨0 + x2, by omega⟩ d rfl (by omega)).trans (h1 _ _))
      ((ld3 (Val := Elt Ideal) A2 _ 0 x1 x2 0 x1 ⟨0 + x2, by omega⟩ rfl (by omega) rfl).trans (h2 _ _))
      ((ld3 (Val := Elt Ideal) A2 _ 0 x1 x2 1 x1 ⟨0 + x2, by omega⟩ rfl (by omega) rfl).trans (h3 _ _))).trans ?_
    exact (T4_gate (r := 1024 * i + x1) (q := 1408 * b + (0 + x2)) (by blk_simp <;> omega) (by blk_simp <;> omega) (by blk_simp <;> omega)).symm
  exfalso
  rw [Rect.mem_set_unit] at n1 n2 n3 n4
  have b0 : (y 0).val < 2 := (y 0).isLt
  have b1 : (y 1).val < 1024 := (y 1).isLt
  have b2 : (y 2).val < 1408 := (y 2).isLt
  simp [Fin.forall_fin_succ] at n1 n2 n3 n4
  omega

/-- What a grid point adds to the weight's gradient. -/
def term5 (G U D : ℕ → ℕ → ℝ) (t : ℕ) (q d : ℕ) : EReal :=
  ((∑ r : Fin 1024, act G U (1024 * (t % 4) + r) (1408 * (t / 4) + q) * D (1024 * (t % 4) + r) d : ℝ) : EReal)
/-- The weight's gradient. -/
def dW (G U D : ℕ → ℕ → ℝ) (q d : ℕ) : EReal := ((∑ n : Fin 4096, act G U n q * D n d : ℝ) : EReal)

include hG hU hW hD in
/-- The block of the cotangents after a grid point. -/
theorem point4 (t : Fin cfg0.N) (y : S2x1024x1408.Idx) :
    ((outsAt0 m c t.val t.isLt).1 y : EReal) = T4 G U W D (y 0).val (1024 * (t.val % 4) + (y 1).val) (1408 * (t.val / 4) + (y 2).val) := by
  by_cases h0 : t.val % 4 = 0
  · have h1 : ¬t.val % 4 = 3 := by omega
    rw [outsAt0_A m c t h0 h1]; frame_out
    exact canon4 _ _ _ _ _ (in0 m c hD t) (in1 m c hW t) (in2a m c hG t) (in2b m c hU t) y
  · by_cases h1 : t.val % 4 = 3
    · rw [outsAt0_C m c t h0 h1]; frame_out
      exact canon4 _ _ _ _ _ (in0 m c hD t) (in1 m c hW t) (in2a m c hG t) (in2b m c hU t) y
    · rw [outsAt0_B m c t h0 h1]; frame_out
      exact canon4 _ _ _ _ _ (in0 m c hD t) (in1 m c hW t) (in2a m c hG t) (in2b m c hU t) y

include hG hU hW hD in
/-- The kernel's first result. -/
theorem final4 : (dats m 0 c).arrAt 4 (cfgs 0).N = fun i : S2x4096x2816.Idx => T4 G U W D (i 0).val (i 1).val (i 2).val := by
  refine (dats m 0 c).arrAt_eq_of_covers 4 _ (by decide +kernel) fun t hf y => ?_
  blk_simp [idx t]
  rw [after0_4]
  change S2x1024x1408.Idx at y
  rw [point4 m c hG hU hW hD]
  congr 1 <;> omega

include hG hU hD in
/-- The step of the sum in the carried block. -/
theorem step5 (t : Fin cfg0.N) (a : Vec Ideal S1408x1024 .f32) (y : S1408x1024.Idx) :
    (k0_pay5 (iblk m c 0 t) a (iblk m c 3 t) y : EReal) = a y + term5 G U D t.val (y 0).val (y 1).val := by
  idx_vars y
  pointwise [k0_pay5, k0_pay3]
  refine congrArg (fun b : EReal => a (ix2 y0 y1) + b) ?_
  exact dot_coe (fun r => in3 m c hG hU t r y0) (fun r => in0 m c hD t r y1)

include hG hU hD in
theorem acc5A (t : Fin cfg0.N) (h0 : t.val % 4 = 0) (y : S1408x1024.Idx) :
    ((outsAt0 m c t.val t.isLt).2.2 y : EReal) = 0 + term5 G U D t.val (y 0).val (y 1).val := by
  have h1 : ¬t.val % 4 = 3 := by omega
  rw [outsAt0_A m c t h0 h1]; frame_out
  refine (step5 m c hG hU hD t _ y).trans ?_
  refine congrArg (fun b : EReal => b + _) ?_
  idx_vars y
  pointwise [k0_pay4]
include hG hU hD in
theorem acc5B (t : Fin cfg0.N) (h0 : ¬t.val % 4 = 0) (y : S1408x1024.Idx) :
    ((outsAt0 m c t.val t.isLt).2.2 y : EReal) = (outsAt0 m c (t.val - 1) (Nat.lt_of_le_of_lt (Nat.sub_le _ _) t.isLt)).2.2 y
      + term5 G U D t.val (y 0).val (y 1).val := by
  by_cases h1 : t.val % 4 = 3
  · rw [outsAt0_C m c t h0 h1]; frame_out
    refine (step5 m c hG hU hD t _ y).trans ?_
    exact congrArg (fun b : EReal => b + _) (congrFun (Memref.IsWhole.read_unread _ _) y)
  · rw [outsAt0_B m c t h0 h1]; frame_out
    refine (step5 m c hG hU hD t _ y).trans ?_
    exact congrArg (fun b : EReal => b + _) (congrFun (Memref.IsWhole.read_unread _ _) y)
theorem out5 (t : Fin cfg0.N) (h1 : t.val % 4 = 3) (y : S1408x1024.Idx) :
    ((outsAt0 m c t.val t.isLt).2.1 y : EReal) = (outsAt0 m c t.val t.isLt).2.2 y := by
  rw [outsAt0_C m c t (by omega) h1]; frame_out
  idx_vars y
  pointwise [k0_pay6]

include hG hU hD in
/-- The kernel's second result. -/
theorem final5 : (dats m 0 c).arrAt 5 (cfgs 0).N = fun i : S2816x1024.Idx => dW G U D (i 0).val (i 1).val := by
  refine (dats m 0 c).arrAt_eq_of_covers 5 _ (by decide +kernel) fun t hf y => ?_
  have h3 : t.val % 4 = 3 := (flush0_5 t).mp hf
  blk_simp [idx t]
  rw [after0_5]
  change S1408x1024.Idx at y
  rw [out5 m c t h3]
  refine (Pipeline.eq_sum_fin_of_reset_step_apply_of_flush (M := EReal) (fun n h => (outsAt0 m c n h).2.2) 4 (fun _ => 0)
    (fun t (y : S1408x1024.Idx) => term5 G U D t.val (y 0).val (y 1).val)
    (fun t h y => acc5A m c hG hU hD t h y) (fun t h y => acc5B m c hG hU hD t h y) t h3 y).trans ?_
  rw [zero_add]
  have h8 := lt8 t
  refine Eq.trans (Finset.sum_congr (M := EReal) rfl fun s _ => ?_)
    (sum_tiles 4 1024 4096 rfl fun n => act G U n (t.val / 4 * 1408 + (y 0).val) * D n (y 1).val)
  show term5 G U D (4 * (t.val / 4) + s.val) (y 0).val (y 1).val = _
  unfold term5
  rw [show (4 * (t.val / 4) + s.val) % 4 = s.val by omega, show 1408 * ((4 * (t.val / 4) + s.val) / 4) = t.val / 4 * 1408 by omega]
end Cert.FfnOutIdeal.Val
-- ==== Proof.FfnOutClaim.lean ====
/-
  The feed-forward layer's output product and its gate: the plain reference, and the two together.
-/
module
public import proofs.«01_k».proof.Proof.FfnOut
public import proofs.«01_k».proof.Proof.Finite
public import proofs.«01_k».proof.Proof.Gen.FfnOutRefIdeal.Run
public import proofs.«01_k».proof.Proof.Gen.Pre_finite2
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.FfnOutRefIdeal.Value
open Cert.FfnOutRefIdeal Cert.FfnOutRefIdeal.Gen Cert.FfnOutIdeal.Val Cert.Proof
variable (A0 A1 : FVec Ideal S4096x2816 .f32) (A2 : FVec Ideal S2816x1024 .f32) (A3 : FVec Ideal S4096x1024 .f32) {G U W D : ℕ → ℕ → ℝ}
  (hG : ∀ (n : Fin 4096) (k : Fin 2816), A0 (ix2 n k) = ((G n k : ℝ) : EReal))
  (hU : ∀ (n : Fin 4096) (k : Fin 2816), A1 (ix2 n k) = ((U n k : ℝ) : EReal))
  (hW : ∀ (n : Fin 2816) (k : Fin 1024), A2 (ix2 n k) = ((W n k : ℝ) : EReal))
  (hD : ∀ (n : Fin 4096) (k : Fin 1024), A3 (ix2 n k) = ((D n k : ℝ) : EReal))
include hG hU hW hD
/-- The reference's first result. -/
theorem res0 : (truncf (F := Ideal) .bf16 (concatenate S2x4096x2816 0 [⟨S1x4096x2816, (broadcastInDim S1x4096x2816 ![1, 2] bcast_S4096x2816_S1x4096x2816_1_2 (addf (mulf (mulf (Host.dotGeneral dot_S4096x1024_S2816x1024_S4096x2816_1_1_0_0_n_n none A3 A2) A1) (Host.divf (broadcastInDim S4096x2816 ![] bcast_S_S4096x2816 (constant (F := Ideal) S_ .f32 0x3F800000#32)) (addf (broadcastInDim S4096x2816 ![] bcast_S_S4096x2816 (constant (F := Ideal) S_ .f32 0x3F800000#32)) (Host.exp (Host.negf A0))))) (mulf (mulf A0 (mulf (Host.dotGeneral dot_S4096x1024_S2816x1024_S4096x2816_1_1_0_0_n_n none A3 A2) A1)) (mulf (Host.divf (broadcastInDim S4096x2816 ![] bcast_S_S4096x2816 (constant (F := Ideal) S_ .f32 0x3F800000#32)) (addf (broadcastInDim S4096x2816 ![] bcast_S_S4096x2816 (constant (F := Ideal) S_ .f32 0x3F800000#32)) (Host.exp (Host.negf A0)))) (subf (broadcastInDim S4096x2816 ![] bcast_S_S4096x2816 (constant (F := Ideal) S_ .f32 0x3F800000#32)) (Host.divf (broadcastInDim S4096x2816 ![] bcast_S_S4096x2816 (constant (F := Ideal) S_ .f32 0x3F800000#32)) (addf (broadcastInDim S4096x2816 ![] bcast_S_S4096x2816 (constant (F := Ideal) S_ .f32 0x3F800000#32)) (Host.exp (Host.negf A0)))))))))⟩, ⟨S1x4096x2816, (broadcastInDim S1x4096x2816 ![1, 2] bcast_S4096x2816_S1x4096x2816_1_2 (mulf (mulf A0 (Host.divf (broadcastInDim S4096x2816 ![] bcast_S_S4096x2816 (constant (F := Ideal) S_ .f32 0x3F800000#32)) (addf (broadcastInDim S4096x2816 ![] bcast_S_S4096x2816 (constant (F := Ideal) S_ .f32 0x3F800000#32)) (Host.exp (Host.negf A0))))) (Host.dotGeneral dot_S4096x1024_S2816x1024_S4096x2816_1_1_0_0_n_n none A3 A2)))⟩] concatenates_S1x4096x2816_S1x4096x2816_S2x4096x2816_d0) bitsLt_bf16_f32 : FVec Ideal S2x4096x2816 .bf16) = fun i => T4 G U W D (i 0).val (i 1).val (i 2).val := by
  funext i; idx_vars i
  pointwise
  unfold T4
  show _ = if i0.val < 1 then _ else _
  by_cases h : i0.val < 1
  · refine (dif_pos h).trans (Eq.trans ?_ (if_pos h).symm)
    pointwise
    rw [dot_coe (fun d => hD i1 d) (fun d => hW i2 d), hG, hU, sg_coe]
    simp only [← EReal.coe_one, ← EReal.coe_mul, ← EReal.coe_add, ← EReal.coe_sub]
    congr 1
    unfold dG da
    ring
  · refine (dif_neg h).trans (Eq.trans ?_ (if_neg h).symm)
    pointwise
    rw [dot_coe (fun d => hD i1 d) (fun d => hW i2 d), hG, sg_coe]
    simp only [← EReal.coe_one, ← EReal.coe_mul, ← EReal.coe_add, ← EReal.coe_sub]
    congr 1
    unfold dU da
    ring
omit hW in
/-- The reference's second result. -/
theorem res1 : (truncf (F := Ideal) .bf16 (transpose S2816x1024 [1, 0] (Host.dotGeneral dot_S4096x1024_S4096x2816_S1024x2816_0_0_1_1_n_n none A3 (mulf (mulf A0 (Host.divf (broadcastInDim S4096x2816 ![] bcast_S_S4096x2816 (constant (F := Ideal) S_ .f32 0x3F800000#32)) (addf (broadcastInDim S4096x2816 ![] bcast_S_S4096x2816 (constant (F := Ideal) S_ .f32 0x3F800000#32)) (Host.exp (Host.negf A0))))) A1)) transposes_S1024x2816_S2816x1024_1_0) bitsLt_bf16_f32 : FVec Ideal S2816x1024 .bf16) = fun i => dW G U D (i 0).val (i 1).val := by
  funext i; idx_vars i
  pointwise
  refine (dot_coe (x := fun n => A3 (ix2 n i1)) (y := fun n => A0 (ix2 n i0) * Ideal.div (1 : EReal) ((1 : EReal) + Ideal.exp (-(A0 (ix2 n i0)))) * A1 (ix2 n i0))
    (g := fun n : Fin 4096 => act G U n i0) (fun n => hD n i1) fun n => ?_).trans ?_
  · refine Eq.trans (congrArg₂ (fun a b : EReal => a * Ideal.div (1 : EReal) ((1 : EReal) + Ideal.exp (-a)) * b) (hG _ _) (hU _ _)) ?_
    rw [sg_coe, ← EReal.coe_mul, ← EReal.coe_mul]; rfl
  · unfold dW
    congr 1
    exact Finset.sum_congr rfl fun n _ => mul_comm _ _
end Cert.FfnOutRefIdeal.Value

namespace Cert.Proof
/-- Under the precondition the four arrays hold real numbers. -/
theorem reals_ffn_out (A B : FVec Ideal Cert.Pre_finite2.S4096x2816 .f32) (C : FVec Ideal Cert.Pre_finite2.S2816x1024 .f32)
    (E : FVec Ideal Cert.Pre_finite2.S4096x1024 .f32) (h : Cert.Pre_finite2.fn A B C E = fun _ => 1#1) :
    (∀ i, (A i : EReal) = (((A i : EReal).toReal : ℝ) : EReal)) ∧ (∀ i, (B i : EReal) = (((B i : EReal).toReal : ℝ) : EReal))
    ∧ (∀ i, (C i : EReal) = (((C i : EReal).toReal : ℝ) : EReal)) ∧ ∀ i, (E i : EReal) = (((E i : EReal).toReal : ℝ) : EReal) := by
  have h0 := congrFun h (fun a => a.elim0)
  dsimp only [Cert.Pre_finite2.fn, Cert.Pre_finite2.fn_part1] at h0
  obtain ⟨h1, hE⟩ := IntOp.andi_eq_one.mp h0
  obtain ⟨h2, hC⟩ := IntOp.andi_eq_one.mp h1
  obtain ⟨hA, hB⟩ := IntOp.andi_eq_one.mp h2
  haveI : Subsingleton Cert.Pre_finite2.S_.Idx := ⟨fun a b => funext fun x => x.elim0⟩
  exact ⟨Finite.real_of_all A _ (fun _ => rfl) _ _ _ _ hA, Finite.real_of_all B _ (fun _ => rfl) _ _ _ _ hB,
    Finite.real_of_all C _ (fun _ => rfl) _ _ _ _ hC, Finite.real_of_all E _ (fun _ => rfl) _ _ _ _ hE⟩

set_option maxHeartbeats 2000000 in
/-- Over the reals the kernel computes the gradients of the feed-forward layer's output product and gate. -/
theorem ffn_out_algebraic : Cert.algebraic_FfnOutIdeal_FfnOutRefIdeal_pre_finite2 := by
  pair_intro
  · run_from Cert.FfnOutIdeal.Value.run_blocks m g
  · have H : ∀ c : Dev Cert.FfnOutIdeal.nD, ∃ (G U W D : ℕ → ℕ → ℝ),
        (∀ (n : Fin 4096) (k : Fin 2816), m ((c.tc : Thread Cert.FfnOutIdeal.nD Cert.FfnOutIdeal.τ).loc Cert.FfnOutIdeal.main_arg0) (ix2 n k) = ((G n k : ℝ) : EReal))
        ∧ (∀ (n : Fin 4096) (k : Fin 2816), m ((c.tc : Thread Cert.FfnOutIdeal.nD Cert.FfnOutIdeal.τ).loc Cert.FfnOutIdeal.main_arg1) (ix2 n k) = ((U n k : ℝ) : EReal))
        ∧ (∀ (n : Fin 2816) (k : Fin 1024), m ((c.tc : Thread Cert.FfnOutIdeal.nD Cert.FfnOutIdeal.τ).loc Cert.FfnOutIdeal.main_arg2) (ix2 n k) = ((W n k : ℝ) : EReal))
        ∧ (∀ (n : Fin 4096) (k : Fin 1024), m ((c.tc : Thread Cert.FfnOutIdeal.nD Cert.FfnOutIdeal.τ).loc Cert.FfnOutIdeal.main_arg3) (ix2 n k) = ((D n k : ℝ) : EReal)) := fun c => by
      obtain ⟨hA, hB, hC, hE⟩ := reals_ffn_out _ _ _ _ (hpre c)
      obtain ⟨G, hG⟩ := mat2 _ hA
      obtain ⟨U, hU⟩ := mat2 _ hB
      obtain ⟨W, hW⟩ := mat2 _ hC
      obtain ⟨D, hD⟩ := mat2 _ hE
      exact ⟨G, U, W, D, hG, hU, hW, hD⟩
    run_from Cert.FfnOutRefIdeal.Value.run m' g'
    all_goals
      obtain ⟨G, U, W, D, hG, hU, hW, hD⟩ := H c
      obtain ⟨a0, a1, a2, a3⟩ := hagree c
    · refine Eq.trans (Cert.FfnOutRefIdeal.Value.res0 _ _ _ _ ?_ ?_ ?_ ?_) (Cert.FfnOutIdeal.Val.final4 m c hG hU hW hD).symm
      · exact fun n k => hG n k
      · exact fun n k => hU n k
      · exact fun n k => hW n k
      · exact fun n k => (congrFun a3 _).trans (hD n k)
    · refine Eq.trans (Cert.FfnOutRefIdeal.Value.res1 _ _ _ ?_ ?_ ?_) (Cert.FfnOutIdeal.Val.final5 m c hG hU hD).symm
      · exact fun n k => hG n k
      · exact fun n k => hU n k
      · exact fun n k => hD n k
end Cert.Proof
-- ==== Proof.Norm.lean ====
/-
  The root-mean-square norm over rows of 1024 numbers, and its cotangent, over the reals.
-/
module
public import proofs.«01_k».proof.Proof.ConvTile
public import proofs.«01_k».proof.Proof.Arrays
@[expose] public section
noncomputable section
open Idealize.ShloMosaic Idealize.ShloMosaic.TcCoe
namespace Cert.Proof
open Cert.KernelIdeal.Tile (eps eps_pos eps_bits)

/-- The mean square of a row. -/
def msq (v : ℕ → ℝ) : ℝ := (∑ k : Fin 1024, v k * v k) / 1024
/-- The reciprocal root mean square of a row. -/
def rr (v : ℕ → ℝ) : ℝ := (√(msq v + eps))⁻¹
/-- The row's cotangent from the normalised row's. -/
def nb (v d : ℕ → ℝ) (k : ℕ) : ℝ := rr v * (d k - v k * rr v * ((∑ j : Fin 1024, v j * rr v * d j) / 1024))

theorem msq_pos (v : ℕ → ℝ) : 0 < msq v + eps := by
  have h : 0 ≤ msq v := div_nonneg (Finset.sum_nonneg fun k _ => mul_self_nonneg _) (by norm_num)
  have := eps_pos
  linarith
theorem k_bits : Ideal.ofBits .f32 0x44800000#32 = ((1024 : ℝ) : EReal) := by
  simp [Ideal.ofBits, Ideal.ieee, -EReal.coe_mul]; norm_num
theorem half_bits : Ideal.ofBits .f32 0xBF000000#32 = ((-(1 / 2) : ℝ) : EReal) := by
  simp [Ideal.ofBits, Ideal.ieee, -EReal.coe_mul]; norm_num
/-- A mean over 1024 numbers. -/
theorem mean_coe (f : ℕ → ℝ) : Ideal.div (∑ k : Fin 1024, ((f k : ℝ) : EReal)) (Ideal.ofBits .f32 0x44800000#32)
    = (((∑ k : Fin 1024, f k) / 1024 : ℝ) : EReal) := by
  rw [sum_coe (fun k : Fin 1024 => f k), k_bits, quot_coe (by norm_num)]
theorem msq_coe (v : ℕ → ℝ) : Ideal.div (∑ k : Fin 1024, ((v k : ℝ) : EReal) * ((v k : ℝ) : EReal)) (Ideal.ofBits .f32 0x44800000#32)
    + Ideal.ofBits .f32 0x358637BD#32 = ((msq v + eps : ℝ) : EReal) := by
  simp only [← EReal.coe_mul]
  rw [mean_coe fun k => v k * v k, eps_bits, ← EReal.coe_add]; rfl
theorem rsqrt_coe (v : ℕ → ℝ) : Ideal.rsqrt ((msq v + eps : ℝ) : EReal) = ((rr v : ℝ) : EReal) := by
  have h := msq_pos v
  rw [Ideal.rsqrt_coe, if_neg (by linarith), if_neg (by linarith)]; rfl
theorem rr_coe (v : ℕ → ℝ) : Ideal.rsqrt (Ideal.div (∑ k : Fin 1024, ((v k : ℝ) : EReal) * ((v k : ℝ) : EReal)) (Ideal.ofBits .f32 0x44800000#32)
    + Ideal.ofBits .f32 0x358637BD#32) = ((rr v : ℝ) : EReal) := by
  rw [msq_coe, rsqrt_coe]
/-- The cotangent as a kernel computes it. -/
theorem nb_coe (v d : ℕ → ℝ) (k : ℕ) : ((rr v : ℝ) : EReal) * (((d k : ℝ) : EReal) - ((v k : ℝ) : EReal) * ((rr v : ℝ) : EReal)
    * Ideal.div (∑ j : Fin 1024, ((v j : ℝ) : EReal) * ((rr v : ℝ) : EReal) * ((d j : ℝ) : EReal)) (Ideal.ofBits .f32 0x44800000#32))
    = ((nb v d k : ℝ) : EReal) := by
  simp only [← EReal.coe_mul]
  rw [mean_coe fun j => v j * rr v * d j]
  simp only [← EReal.coe_mul, ← EReal.coe_sub]; rfl
/-- The same with the cotangent a product with the gain. -/
theorem nb_coe2 (v d q : ℕ → ℝ) (k : ℕ) : ((rr v : ℝ) : EReal) * (((d k : ℝ) : EReal) * ((q k : ℝ) : EReal) - ((v k : ℝ) : EReal) * ((rr v : ℝ) : EReal)
    * Ideal.div (∑ j : Fin 1024, ((v j : ℝ) : EReal) * ((rr v : ℝ) : EReal) * (((d j : ℝ) : EReal) * ((q j : ℝ) : EReal))) (Ideal.ofBits .f32 0x44800000#32))
    = ((nb v (fun k => d k * q k) k : ℝ) : EReal) := by
  rw [← nb_coe]
  simp only [EReal.coe_mul]
/-- The part of the cotangent that comes through the reciprocal root. -/
def nt (v d : ℕ → ℝ) : ℝ := (∑ j : Fin 1024, v j * d j) * (-(1 / 2) * (rr v / (msq v + eps))) / 1024
theorem nt_coe (v d : ℕ → ℝ) : Ideal.div ((∑ j : Fin 1024, ((v j : ℝ) : EReal) * ((d j : ℝ) : EReal))
    * (Ideal.ofBits .f32 0xBF000000#32 * Ideal.div ((rr v : ℝ) : EReal) ((msq v + eps : ℝ) : EReal))) (Ideal.ofBits .f32 0x44800000#32)
    = ((nt v d : ℝ) : EReal) := by
  have h := msq_pos v
  simp only [← EReal.coe_mul]
  rw [sum_coe (fun j : Fin 1024 => v j * d j), half_bits, k_bits, quot_coe (by linarith), ← EReal.coe_mul, ← EReal.coe_mul, quot_coe (by norm_num)]
  rfl
/-- The cotangent as differentiation gives it. -/
theorem nb_eq (v d : ℕ → ℝ) (k : ℕ) : d k * rr v + v k * nt v d + nt v d * v k = nb v d k := by
  have e : rr v * rr v = (msq v + eps)⁻¹ := by
    unfold rr; rw [← mul_inv, Real.mul_self_sqrt (msq_pos v).le]
  have s : (∑ j : Fin 1024, v j * rr v * d j) = rr v * ∑ j : Fin 1024, v j * d j := by
    rw [Finset.mul_sum]; exact Finset.sum_congr rfl fun j _ => by ring
  unfold nb nt
  rw [s, div_eq_mul_inv (rr v), ← e]
  ring

/-! Two norms with a residual sum between them: the second norm's rows are the residual rows and the first norm's output. -/
section Two
variable (X Y E H : ℕ → ℕ → ℝ) (P Q : ℕ → ℝ) (n k : ℕ)
/-- The rows between the two norms: the residual rows and the first norm's output. -/
def xm : ℝ := X n k + Y n k * rr (Y n) * P k
/-- Their cotangent, from that of the second norm's output and the residual rows' own. -/
def dx : ℝ := E n k + nb (fun k => xm X Y P n k) (fun k => H n k * Q k) k
/-- The cotangent of the first norm's input. -/
def dz : ℝ := nb (Y n) (fun k => dx X Y E H P Q n k * P k) k
/-- A row's part of the second norm's gain. -/
def gQ : ℝ := H n k * (xm X Y P n k * rr (fun k => xm X Y P n k))
/-- A row's part of the first norm's gain. -/
def gP : ℝ := dx X Y E H P Q n k * (Y n k * rr (Y n))
end Two

/-- An array with real entries, as a function on the naturals. -/
theorem vec1 {a : ℕ} (x : (⟨1, ![a]⟩ : Shape).Idx → EReal) (h : ∀ i, x i = ((x i).toReal : EReal)) :
    ∃ X : ℕ → ℝ, ∀ k : Fin a, x (ix1 k) = ((X k : ℝ) : EReal) := by
  refine ⟨fun k => if h : k < a then (x (ix1 ⟨k, h⟩)).toReal else 0, fun k => ?_⟩
  dsimp only
  rw [dif_pos k.isLt]; exact h _
/-- A sum over 512 rows, in two halves. -/
theorem sum_halves (f : ℕ → ℝ) (o : ℕ) : (∑ r : Fin 256, f (o + (0 + r))) + (∑ r : Fin 256, f (o + (256 + r))) = ∑ r : Fin 512, f (o + r) := by
  refine Eq.trans ?_ (Fin.sum_univ_add (a := 256) (b := 256) (fun q => f (o + q))).symm
  simp only [Nat.zero_add]; rfl

section Blocks
variable {e : EltTy} {Val : EltTy → Type}
/-- A block of 512 rows stored in two halves. -/
theorem two_halves [∀ e, Nonempty (Val e)] (p1 p0 : (⟨2, ![256, 1024]⟩ : Shape).Idx → Val e) (j1 j0) (T : ℕ → ℕ → Val e)
    (h1 : ∀ (r : Fin 256) (k : Fin 1024), p1 (ix2 r k) = T (256 + r) k) (h0 : ∀ (r : Fin 256) (k : Fin 1024), p0 (ix2 r k) = T (0 + r) k)
    (y : (⟨2, ![512, 1024]⟩ : Shape).Idx) : View.canon (Val := Val) (s := ⟨2, ![512, 1024]⟩) (e := e)
      [⟨Rect.unit (s := ⟨2, ![512, 1024]⟩) ![256, 0] ![256, 1024] j1, p1⟩, ⟨Rect.unit (s := ⟨2, ![512, 1024]⟩) ![0, 0] ![256, 1024] j0, p0⟩] y = T (y 0).val (y 1).val := by
  refine block_step _ _ _ (fun y => T (y 0).val (y 1).val) (fun x => ?_) fun n1 => ?_
  · idx_vars x
    exact (h1 x0 x1).trans (congrArg₂ T (by blk_simp <;> omega) (by blk_simp <;> omega))
  refine block_step _ _ _ (fun y => T (y 0).val (y 1).val) (fun x => ?_) fun n2 => ?_
  · idx_vars x
    exact (h0 x0 x1).trans (congrArg₂ T (by blk_simp <;> omega) (by blk_simp <;> omega))
  exfalso
  rw [Rect.mem_set_unit] at n1 n2
  have b0 : (y 0).val < 512 := (y 0).isLt
  have b1 : (y 1).val < 1024 := (y 1).isLt
  simp [Fin.forall_fin_succ] at n1 n2
  omega
/-- A point outside the latest store is read from the earlier ones. -/
theorem skip_step {s : Shape} [∀ e, Nonempty (Val e)] (r : Rect s) (w : r.shape.Idx → Val e) (L : List (View.Piece Val s e)) (y : s.Idx) (h : y ∉ r.set) :
    View.canon (⟨r, w⟩ :: L) y = View.canon L y := View.canon_cons_of_not_mem _ _ h
/-- The same over known contents. -/
theorem skip_over {sig : RefSig} {κ : Kind} {sp : Space} {s : Shape} (v : View sig κ sp s e) (f : v.ty.Contents Val) (r : Rect s) (w : r.shape.Idx → Val e)
    (L : List (View.Piece Val s e)) (y : s.Idx) (h : y ∉ r.set) : v.read Val (v.writes Val f (⟨r, w⟩ :: L)) y = v.read Val (v.writes Val f L) y :=
  View.read_writes_cons_miss v f _ L y h
/-- A block of eight rows cleared, and its first row stored twice. -/
theorem row_fill [∀ e, Nonempty (Val e)] (p1 p0 : (⟨2, ![1, 1024]⟩ : Shape).Idx → Val e) (q : (⟨2, ![8, 1024]⟩ : Shape).Idx → Val e) (j1 j0 j) (z : Val e)
    (hq : ∀ x, q x = z) (y : (⟨2, ![8, 1024]⟩ : Shape).Idx) :
    View.canon (Val := Val) (s := ⟨2, ![8, 1024]⟩) (e := e) [⟨Rect.unit (s := ⟨2, ![8, 1024]⟩) ![0, 0] ![1, 1024] j1, p1⟩,
      ⟨Rect.unit (s := ⟨2, ![8, 1024]⟩) ![0, 0] ![1, 1024] j0, p0⟩, ⟨Rect.unit (s := ⟨2, ![8, 1024]⟩) ![0, 0] ![8, 1024] j, q⟩] y
      = if (y 0).val < 1 then p1 (ix2 0 (y 1)) else z := by
  refine block_step _ _ _ (fun y : (⟨2, ![8, 1024]⟩ : Shape).Idx => if (y 0).val < 1 then p1 (ix2 0 (y 1)) else z) (fun x => ?_) fun n1 => ?_
  · idx_vars x
    refine Eq.trans ?_ (if_pos (by blk_simp <;> omega)).symm
    refine congrArg p1 ?_
    congr 1
    · exact Subsingleton.elim _ _
    · exact Fin.ext (by blk_simp <;> omega)
  have hy : ¬(y 0).val < 1 := by
    rw [Rect.mem_set_unit] at n1
    have b1 : (y 1).val < 1024 := (y 1).isLt
    simp [Fin.forall_fin_succ] at n1
    omega
  refine Eq.trans ?_ (if_neg hy).symm
  have n0 : y ∉ (Rect.unit (s := ⟨2, ![8, 1024]⟩) ![0, 0] ![1, 1024] j0).set := by rw [Rect.mem_set_unit] at n1 ⊢; exact n1
  refine (skip_step (Rect.unit (s := ⟨2, ![8, 1024]⟩) ![0, 0] ![1, 1024] j0) p0 _ y n0).trans ?_
  refine block_step _ _ _ (fun _ => z) (fun x => hq x) fun n2 => ?_
  exfalso
  rw [Rect.mem_set_unit] at n2
  have b0 : (y 0).val < 8 := (y 0).isLt
  have b1 : (y 1).val < 1024 := (y 1).isLt
  simp [Fin.forall_fin_succ] at n2
  omega
/-- The first row of a block of eight stored twice over known contents. -/
theorem row_over {sig : RefSig} {κ : Kind} {sp : Space} (v : View sig κ sp ⟨2, ![8, 1024]⟩ e) (f : v.ty.Contents Val)
    (p1 p0 : (⟨2, ![1, 1024]⟩ : Shape).Idx → Val e) (j1 j0) (y : (⟨2, ![8, 1024]⟩ : Shape).Idx) :
    v.read Val (v.writes Val f [⟨Rect.unit (s := ⟨2, ![8, 1024]⟩) ![0, 0] ![1, 1024] j1, p1⟩,
      ⟨Rect.unit (s := ⟨2, ![8, 1024]⟩) ![0, 0] ![1, 1024] j0, p0⟩]) y
      = if (y 0).val < 1 then p1 (ix2 0 (y 1)) else v.read Val f y := by
  refine over_step _ _ _ _ _ (fun y : (⟨2, ![8, 1024]⟩ : Shape).Idx => if (y 0).val < 1 then p1 (ix2 0 (y 1)) else v.read Val f y) (fun x => ?_) fun n1 => ?_
  · idx_vars x
    refine Eq.trans ?_ (if_pos (by blk_simp <;> omega)).symm
    refine congrArg p1 ?_
    congr 1
    · exact Subsingleton.elim _ _
    · exact Fin.ext (by blk_simp <;> omega)
  have hy : ¬(y 0).val < 1 := by
    rw [Rect.mem_set_unit] at n1
    have b1 : (y 1).val < 1024 := (y 1).isLt
    simp [Fin.forall_fin_succ] at n1
    omega
  refine Eq.trans ?_ (if_neg hy).symm
  have n0 : y ∉ (Rect.unit (s := ⟨2, ![8, 1024]⟩) ![0, 0] ![1, 1024] j0).set := by rw [Rect.mem_set_unit] at n1 ⊢; exact n1
  exact skip_over v f (Rect.unit (s := ⟨2, ![8, 1024]⟩) ![0, 0] ![1, 1024] j0) p0 [] y n0
end Blocks
end Cert.Proof
-- ==== Proof.FfnIn.lean ====
/-
  The feed-forward layer's input product with the two norms before it: what the kernel's blocks hold.
-/
module
public import proofs.«01_k».proof.Defs
public import proofs.«01_k».proof.Proof.Gen.FfnInIdeal.Value
public import proofs.«01_k».proof.Proof.Norm
public import Idealize.ShloMosaic.Lib.Pointwise
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem
open Idealize.ShloMosaic.Pipeline (Dat)
namespace Cert.FfnInIdeal.Val
open Cert.FfnInIdeal Cert.FfnInIdeal.Gen Cert.Proof

/-- The cotangent of the second norm's output. -/
def dh (W G U : ℕ → ℕ → ℝ) (n k : ℕ) : ℝ := (∑ q : Fin 2816, G n q * W k q) + ∑ q : Fin 2816, U n q * W k (2816 + q)

section Pay
variable (a b : Vec Ideal S1x256x2816 .bf16) (w u : Vec Ideal S2816x1024 .bf16) (v e : Vec Ideal S256x1024 .f32) (z : Vec Ideal S256x1024 .bf16)
  (g p : Vec Ideal S1x1x1024 .f32) (acc : Vec Ideal S1x1024 .f32)
/-- The stored rows of the first result. -/
abbrev dxT : Vec Ideal S256x1024 .f32 := k0_pay14 (k0_pay9 v) (k0_pay10 v) (k0_pay11 a w b u g) (k0_pay12 a w b u v g) k0_pay13 e
/-- The stored rows of the second result. -/
abbrev dzT : Vec Ideal S256x1024 .bf16 := k0_pay21 (k0_pay17 z) (k0_pay18 z)
  (k0_pay19 (k0_pay9 v) (k0_pay10 v) (k0_pay11 a w b u g) (k0_pay12 a w b u v g) k0_pay13 e p)
  (k0_pay20 (k0_pay9 v) (k0_pay10 v) (k0_pay11 a w b u g) (k0_pay12 a w b u v g) k0_pay13 e z p)

theorem pdh {A B F H : ℕ → ℝ} (r : Fin 256) (k : Fin 1024) (ha : ∀ q, a (ix3 0 r q) = ((A q : ℝ) : EReal)) (hb : ∀ q, b (ix3 0 r q) = ((B q : ℝ) : EReal))
    (hw : ∀ q, w (ix2 q k) = ((F q : ℝ) : EReal)) (hu : ∀ q, u (ix2 q k) = ((H q : ℝ) : EReal)) :
    (k0_pay7 a w b u (ix2 r k) : EReal) = (((∑ q : Fin 2816, A q * F q) + ∑ q : Fin 2816, B q * H q : ℝ) : EReal) := by
  pointwise [k0_pay7]
  rw [dot_coe ha hw, dot_coe hb hu, ← EReal.coe_add]
theorem pdx {A d Q : ℕ → ℝ} {E : ℝ} (r : Fin 256) (k : Fin 1024) (hv : ∀ k, v (ix2 r k) = ((A k : ℝ) : EReal))
    (hd : ∀ k, (k0_pay7 a w b u (ix2 r k) : EReal) = ((d k : ℝ) : EReal)) (hg : ∀ k, g (ix3 0 0 k) = ((Q k : ℝ) : EReal))
    (he : e (ix2 r k) = ((E : ℝ) : EReal)) :
    (dxT a b w u v e g (ix2 r k) : EReal) = ((E + nb A (fun k => d k * Q k) k : ℝ) : EReal) := by
  pointwise [k0_pay14, k0_pay13, k0_pay12, k0_pay11, k0_pay10, k0_pay9, k0_pay8]
  simp only [hv, hd, hg, he, rr_coe]
  rw [nb_coe2 A d Q k, ← EReal.coe_add]
theorem pdz {A d P : ℕ → ℝ} (r : Fin 256) (k : Fin 1024) (hz : ∀ k, z (ix2 r k) = ((A k : ℝ) : EReal))
    (hd : ∀ k, (dxT a b w u v e g (ix2 r k) : EReal) = ((d k : ℝ) : EReal)) (hp : ∀ k, p (ix3 0 0 k) = ((P k : ℝ) : EReal)) :
    (dzT a b w u v e z g p (ix2 r k) : EReal) = ((nb A (fun k => d k * P k) k : ℝ) : EReal) := by
  pointwise [k0_pay21, k0_pay20, k0_pay19, k0_pay18, k0_pay17, k0_pay16]
  simp only [hz, hd, hp, rr_coe]
  rw [nb_coe2 A d P k]
theorem pgq {A d : ℕ → ℕ → ℝ} (i : Fin 1) (k : Fin 1024) (hv : ∀ r k, v (ix2 r k) = ((A r k : ℝ) : EReal))
    (hd : ∀ r k, (k0_pay7 a w b u (ix2 r k) : EReal) = ((d r k : ℝ) : EReal)) :
    (k0_pay15 (k0_pay7 a w b u) (k0_pay10 v) acc (ix2 i k) : EReal)
      = acc (ix2 i k) + ((∑ r : Fin 256, d r k * (A r k * rr (A r)) : ℝ) : EReal) := by
  pointwise [k0_pay15, k0_pay10, k0_pay9, k0_pay8]
  simp only [hv, hd, rr_coe]
  simp only [← EReal.coe_mul]
  rw [sum_coe]
theorem pgp {A d : ℕ → ℕ → ℝ} (i : Fin 1) (k : Fin 1024) (hz : ∀ r k, z (ix2 r k) = ((A r k : ℝ) : EReal))
    (hd : ∀ r k, (e (ix2 r k) : EReal) = ((d r k : ℝ) : EReal)) :
    (k0_pay22 e (k0_pay18 z) acc (ix2 i k) : EReal)
      = acc (ix2 i k) + ((∑ r : Fin 256, d r k * (A r k * rr (A r)) : ℝ) : EReal) := by
  pointwise [k0_pay22, k0_pay18, k0_pay17, k0_pay16]
  simp only [hz, hd, rr_coe]
  simp only [← EReal.coe_mul]
  rw [sum_coe]
/-- The second half of the rows is computed as the first. -/
theorem dxT_eq : k0_pay30 (k0_pay23 a w b u) (k0_pay24 v) (k0_pay25 g) (k0_pay26 v) k0_pay27 e = dxT a b w u v e g := rfl
theorem dzT_eq : k0_pay3 (dxT a b w u v e g) (k0_pay32 z) (k0_pay33 p) (k0_pay34 z) (FloatOps.ofBits .f32 0x358637BD#32) = dzT a b w u v e z g p := rfl
theorem gq_eq : k0_pay31 (k0_pay23 a w b u) (k0_pay24 v) (k0_pay26 v) k0_pay27 acc = k0_pay15 (k0_pay7 a w b u) (k0_pay10 v) acc := rfl
theorem gp_eq : k0_pay4 e (k0_pay32 z) (k0_pay34 z) (FloatOps.ofBits .f32 0x358637BD#32) acc = k0_pay22 e (k0_pay18 z) acc := rfl
end Pay

variable (m : (ℓ : Loc nD τ sig) → Buf (Elt Ideal) ℓ) (c : Dev nD) {X Y E W G U : ℕ → ℕ → ℝ} {P Q : ℕ → ℝ}
  (hX : ∀ (n : Fin 4096) (k : Fin 1024), m ((c.tc : Thread nD τ).loc main_arg0) (ix2 n k) = ((X n k : ℝ) : EReal))
  (hY : ∀ (n : Fin 4096) (k : Fin 1024), m ((c.tc : Thread nD τ).loc main_arg1) (ix2 n k) = ((Y n k : ℝ) : EReal))
  (hP : ∀ k : Fin 1024, m ((c.tc : Thread nD τ).loc main_arg2) (ix1 k) = ((P k : ℝ) : EReal))
  (hQ : ∀ k : Fin 1024, m ((c.tc : Thread nD τ).loc main_arg3) (ix1 k) = ((Q k : ℝ) : EReal))
  (hW : ∀ (n : Fin 1024) (k : Fin 5632), m ((c.tc : Thread nD τ).loc main_arg4) (ix2 n k) = ((W n k : ℝ) : EReal))
  (hE : ∀ (n : Fin 4096) (k : Fin 1024), m ((c.tc : Thread nD τ).loc main_arg5) (ix2 n k) = ((E n k : ℝ) : EReal))
  (hG : ∀ (n : Fin 4096) (k : Fin 2816), m ((c.tc : Thread nD τ).loc main_arg6) (ix2 n k) = ((G n k : ℝ) : EReal))
  (hU : ∀ (n : Fin 4096) (k : Fin 2816), m ((c.tc : Thread nD τ).loc main_arg7) (ix2 n k) = ((U n k : ℝ) : EReal))

theorem idx : ∀ t : Fin cfg0.N, win0_0.index t = ![0, t.val, 0] ∧ win0_1.index t = ![0, 0] ∧ win0_2.index t = ![t.val, 0]
    ∧ win0_3.index t = ![0, 0, 0] ∧ win0_4.index t = ![t.val, 0] ∧ win0_5.index t = ![t.val, 0] ∧ win0_6.index t = ![0, 0, 0]
    ∧ win0_7.index t = ![t.val, 0] ∧ win0_8.index t = ![t.val, 0] ∧ win0_9.index t = ![0, 0] ∧ win0_10.index t = ![0, 0] :=
  (by decide +kernel : ∀ t : Fin grid0.N, _)
theorem lt8 (t : Fin cfg0.N) : t.val < 8 := t.isLt

theorem ent0 (z : Fin 2) (n : Fin 4096) (q : Fin 2816) : V m c (Pipeline.arrRef spec0 0) (ix3 z n q)
    = if h : z.val < 1 then m ((c.tc : Thread nD τ).loc main_arg6) (ix2 n q) else m ((c.tc : Thread nD τ).loc main_arg7) (ix2 n q) := by
  entry_read; pointwise
theorem ent1 (n : Fin 5632) (q : Fin 1024) : V m c (Pipeline.arrRef spec0 1) (ix2 n q) = m ((c.tc : Thread nD τ).loc main_arg4) (ix2 q n) := by
  entry_read; pointwise
include hX hY hP in
theorem ent2 (n : Fin 4096) (k : Fin 1024) : (V m c (Pipeline.arrRef spec0 2) (ix2 n k) : EReal) = ((xm X Y P n k : ℝ) : EReal) := by
  entry_read; pointwise
  simp only [hX, hY, hP, rr_coe]
  simp only [← EReal.coe_mul, ← EReal.coe_add]; rfl
theorem ent3 (a b : Fin 1) (k : Fin 1024) : V m c (Pipeline.arrRef spec0 3) (ix3 a b k) = m ((c.tc : Thread nD τ).loc main_arg3) (ix1 k) := by
  entry_read; pointwise
theorem ent4 (n : Fin 4096) (k : Fin 1024) : V m c (Pipeline.arrRef spec0 4) (ix2 n k) = m ((c.tc : Thread nD τ).loc main_arg5) (ix2 n k) := by
  entry_read; pointwise
theorem ent5 (n : Fin 4096) (k : Fin 1024) : V m c (Pipeline.arrRef spec0 5) (ix2 n k) = m ((c.tc : Thread nD τ).loc main_arg1) (ix2 n k) := by
  entry_read; pointwise
theorem ent6 (a b : Fin 1) (k : Fin 1024) : V m c (Pipeline.arrRef spec0 6) (ix3 a b k) = m ((c.tc : Thread nD τ).loc main_arg2) (ix1 k) := by
  entry_read; pointwise

theorem blk0 (t : Fin cfg0.N) (z : Fin 2) (r : Fin 512) (q : Fin 2816) :
    iblk m c 0 t (ix3 z r q) = V m c (Pipeline.arrRef spec0 0) (ix3 z ⟨512 * t.val + r, by have := lt8 t; omega⟩ q) := by
  blk_point [iblk, idx t]
theorem blk1 (t : Fin cfg0.N) (r : Fin 5632) (q : Fin 1024) : iblk m c 1 t (ix2 r q) = V m c (Pipeline.arrRef spec0 1) (ix2 r q) := by
  blk_point [iblk, idx t]
theorem blk2 (t : Fin cfg0.N) (r : Fin 512) (q : Fin 1024) :
    iblk m c 2 t (ix2 r q) = V m c (Pipeline.arrRef spec0 2) (ix2 ⟨512 * t.val + r, by have := lt8 t; omega⟩ q) := by
  blk_point [iblk, idx t]
theorem blk3 (t : Fin cfg0.N) (a b : Fin 1) (q : Fin 1024) : iblk m c 3 t (ix3 a b q) = V m c (Pipeline.arrRef spec0 3) (ix3 a b q) := by
  blk_point [iblk, idx t]
theorem blk4 (t : Fin cfg0.N) (r : Fin 512) (q : Fin 1024) :
    iblk m c 4 t (ix2 r q) = V m c (Pipeline.arrRef spec0 4) (ix2 ⟨512 * t.val + r, by have := lt8 t; omega⟩ q) := by
  blk_point [iblk, idx t]
theorem blk5 (t : Fin cfg0.N) (r : Fin 512) (q : Fin 1024) :
    iblk m c 5 t (ix2 r q) = V m c (Pipeline.arrRef spec0 5) (ix2 ⟨512 * t.val + r, by have := lt8 t; omega⟩ q) := by
  blk_point [iblk, idx t]
theorem blk6 (t : Fin cfg0.N) (a b : Fin 1) (q : Fin 1024) : iblk m c 6 t (ix3 a b q) = V m c (Pipeline.arrRef spec0 6) (ix3 a b q) := by
  blk_point [iblk, idx t]

include hG in
theorem in0a (t : Fin cfg0.N) (r : Fin 512) (q : Fin 2816) : (iblk m c 0 t (ix3 0 r q) : EReal) = ((G (512 * t.val + r) q : ℝ) : EReal) := by
  rw [blk0, ent0, dif_pos (by decide), hG]
include hU in
theorem in0b (t : Fin cfg0.N) (r : Fin 512) (q : Fin 2816) : (iblk m c 0 t (ix3 1 r q) : EReal) = ((U (512 * t.val + r) q : ℝ) : EReal) := by
  rw [blk0, ent0, dif_neg (by decide), hU]
include hW in
theorem in1 (t : Fin cfg0.N) (r : Fin 5632) (k : Fin 1024) : (iblk m c 1 t (ix2 r k) : EReal) = ((W k r : ℝ) : EReal) := by
  rw [blk1, ent1, hW]
include hX hY hP in
theorem in2 (t : Fin cfg0.N) (r : Fin 512) (k : Fin 1024) : (iblk m c 2 t (ix2 r k) : EReal) = ((xm X Y P (512 * t.val + r) k : ℝ) : EReal) := by
  rw [blk2, ent2 m c hX hY hP]
include hQ in
theorem in3 (t : Fin cfg0.N) (a b : Fin 1) (k : Fin 1024) : (iblk m c 3 t (ix3 a b k) : EReal) = ((Q k : ℝ) : EReal) := by
  rw [blk3, ent3, hQ]
include hE in
theorem in4 (t : Fin cfg0.N) (r : Fin 512) (k : Fin 1024) : (iblk m c 4 t (ix2 r k) : EReal) = ((E (512 * t.val + r) k : ℝ) : EReal) := by
  rw [blk4, ent4, hE]
include hY in
theorem in5 (t : Fin cfg0.N) (r : Fin 512) (k : Fin 1024) : (iblk m c 5 t (ix2 r k) : EReal) = ((Y (512 * t.val + r) k : ℝ) : EReal) := by
  rw [blk5, ent5, hY]
include hP in
theorem in6 (t : Fin cfg0.N) (a b : Fin 1) (k : Fin 1024) : (iblk m c 6 t (ix3 a b k) : EReal) = ((P k : ℝ) : EReal) := by
  rw [blk6, ent6, hP]

section Half
variable (t : Fin cfg0.N) (o : ℕ) (ho : o + 256 ≤ 512) (ja jb jw ju jv)
/-- Half of a tile's rows of the two cotangents, of the weight, and of the narrow arrays. -/
abbrev lda : Vec Ideal S1x256x2816 .bf16 := View.ld (iblk m c 0 t) (Rect.unit (s := S2x512x2816) ![0, o, 0] ![1, 256, 2816] ja)
abbrev ldb : Vec Ideal S1x256x2816 .bf16 := View.ld (iblk m c 0 t) (Rect.unit (s := S2x512x2816) ![1, o, 0] ![1, 256, 2816] jb)
abbrev ldw : Vec Ideal S2816x1024 .bf16 := View.ld (iblk m c 1 t) (Rect.unit (s := S5632x1024) ![0, 0] ![2816, 1024] jw)
abbrev ldu : Vec Ideal S2816x1024 .bf16 := View.ld (iblk m c 1 t) (Rect.unit (s := S5632x1024) ![2816, 0] ![2816, 1024] ju)
abbrev ldx : Vec Ideal S256x1024 .f32 := View.ld (iblk m c 2 t) (Rect.unit (s := S512x1024) ![o, 0] ![256, 1024] jv)
abbrev lde : Vec Ideal S256x1024 .f32 := View.ld (iblk m c 4 t) (Rect.unit (s := S512x1024) ![o, 0] ![256, 1024] jv)
abbrev ldz : Vec Ideal S256x1024 .bf16 := View.ld (iblk m c 5 t) (Rect.unit (s := S512x1024) ![o, 0] ![256, 1024] jv)

include ho hW hG hU in
theorem dh_half (r : Fin 256) (k : Fin 1024) : (k0_pay7 (lda m c t o ja) (ldw m c t jw) (ldb m c t o jb) (ldu m c t ju) (ix2 r k) : EReal)
    = ((dh W G U (512 * t.val + (o + r)) k : ℝ) : EReal) := by
  refine pdh _ _ _ _ (A := fun q => G (512 * t.val + (o + r)) q) (B := fun q => U (512 * t.val + (o + r)) q) (F := fun q => W k q)
    (H := fun q => W k (2816 + q)) r k (fun q => ?_) (fun q => ?_) (fun q => ?_) (fun q => ?_)
  · exact (ld3 (Val := Elt Ideal) _ _ 0 r q 0 ⟨o + r, by omega⟩ q rfl rfl (by omega)).trans (in0a m c hG t _ _)
  · exact (ld3 (Val := Elt Ideal) _ _ 0 r q 1 ⟨o + r, by omega⟩ q rfl rfl (by omega)).trans (in0b m c hU t _ _)
  · exact (ld2 (Val := Elt Ideal) _ _ q k ⟨q, by omega⟩ k (by dsimp only; omega) (by omega)).trans (in1 m c hW t _ _)
  · exact (ld2 (Val := Elt Ideal) _ _ q k ⟨2816 + q, by omega⟩ k (by dsimp only) (by omega)).trans (in1 m c hW t _ _)
include ho hX hY hP in
theorem x_half (r : Fin 256) (k : Fin 1024) : (ldx m c t o jv (ix2 r k) : EReal) = ((xm X Y P (512 * t.val + (o + r)) k : ℝ) : EReal) :=
  (ld2 (Val := Elt Ideal) _ _ r k ⟨o + r, by omega⟩ k (by dsimp only) (by omega)).trans (in2 m c hX hY hP t _ _)
include ho hE in
theorem e_half (r : Fin 256) (k : Fin 1024) : (lde m c t o jv (ix2 r k) : EReal) = ((E (512 * t.val + (o + r)) k : ℝ) : EReal) :=
  (ld2 (Val := Elt Ideal) _ _ r k ⟨o + r, by omega⟩ k (by dsimp only) (by omega)).trans (in4 m c hE t _ _)
include ho hY in
theorem z_half (r : Fin 256) (k : Fin 1024) : (ldz m c t o jv (ix2 r k) : EReal) = ((Y (512 * t.val + (o + r)) k : ℝ) : EReal) :=
  (ld2 (Val := Elt Ideal) _ _ r k ⟨o + r, by omega⟩ k (by dsimp only) (by omega)).trans (in5 m c hY t _ _)
include ho hX hY hP hQ hW hE hG hU in
theorem dx_half (r : Fin 256) (k : Fin 1024) :
    (dxT (lda m c t o ja) (ldb m c t o jb) (ldw m c t jw) (ldu m c t ju) (ldx m c t o jv) (lde m c t o jv) (iblk m c 3 t) (ix2 r k) : EReal)
      = ((dx X Y E (dh W G U) P Q (512 * t.val + (o + r)) k : ℝ) : EReal) :=
  pdx _ _ _ _ _ _ _ r k (fun k => x_half m c hX hY hP t o ho jv r k) (fun k => dh_half m c hW hG hU t o ho ja jb jw ju r k)
    (fun k => in3 m c hQ t 0 0 k) (e_half m c hE t o ho jv r k)
include ho hX hY hP hQ hW hE hG hU in
theorem dz_half (r : Fin 256) (k : Fin 1024) :
    (dzT (lda m c t o ja) (ldb m c t o jb) (ldw m c t jw) (ldu m c t ju) (ldx m c t o jv) (lde m c t o jv) (ldz m c t o jv) (iblk m c 3 t) (iblk m c 6 t)
      (ix2 r k) : EReal) = ((dz X Y E (dh W G U) P Q (512 * t.val + (o + r)) k : ℝ) : EReal) :=
  pdz _ _ _ _ _ _ _ _ _ r k (fun k => z_half m c hY t o ho jv r k)
    (fun k => dx_half m c hX hY hP hQ hW hE hG hU t o ho ja jb jw ju jv r k) (fun k => in6 m c hP t 0 0 k)
include ho hX hY hP hW hG hU in
theorem gq_half (acc : Vec Ideal S1x1024 .f32) (i : Fin 1) (k : Fin 1024) :
    (k0_pay15 (k0_pay7 (lda m c t o ja) (ldw m c t jw) (ldb m c t o jb) (ldu m c t ju)) (k0_pay10 (ldx m c t o jv)) acc (ix2 i k) : EReal)
      = acc (ix2 i k) + ((∑ r : Fin 256, gQ X Y (dh W G U) P (512 * t.val + (o + r)) k : ℝ) : EReal) :=
  pgq _ _ _ _ _ _ (A := fun r k => xm X Y P (512 * t.val + (o + r)) k) (d := fun r k => dh W G U (512 * t.val + (o + r)) k) i k
    (fun r k => x_half m c hX hY hP t o ho jv r k) (fun r k => dh_half m c hW hG hU t o ho ja jb jw ju r k)
include ho hX hY hP hQ hW hE hG hU in
theorem gp_half (acc : Vec Ideal S1x1024 .f32) (i : Fin 1) (k : Fin 1024) :
    (k0_pay22 (dxT (lda m c t o ja) (ldb m c t o jb) (ldw m c t jw) (ldu m c t ju) (ldx m c t o jv) (lde m c t o jv) (iblk m c 3 t))
      (k0_pay18 (ldz m c t o jv)) acc (ix2 i k) : EReal)
      = acc (ix2 i k) + ((∑ r : Fin 256, gP X Y E (dh W G U) P Q (512 * t.val + (o + r)) k : ℝ) : EReal) :=
  pgp _ _ _ (A := fun r k => Y (512 * t.val + (o + r)) k) (d := fun r k => dx X Y E (dh W G U) P Q (512 * t.val + (o + r)) k) i k
    (fun r k => z_half m c hY t o ho jv r k) (fun r k => dx_half m c hX hY hP hQ hW hE hG hU t o ho ja jb jw ju jv r k)
end Half

/-- What a grid point adds to the first gain's gradient, and to the second's. -/
def termQ (X Y W G U : ℕ → ℕ → ℝ) (P : ℕ → ℝ) (t i k : ℕ) : EReal :=
  if i < 1 then ((∑ r : Fin 512, gQ X Y (dh W G U) P (512 * t + r) k : ℝ) : EReal) else 0
def termP (X Y E W G U : ℕ → ℕ → ℝ) (P Q : ℕ → ℝ) (t i k : ℕ) : EReal :=
  if i < 1 then ((∑ r : Fin 512, gP X Y E (dh W G U) P Q (512 * t + r) k : ℝ) : EReal) else 0

include hX hY hP hQ hW hE hG hU in
theorem point7 (t : Fin cfg0.N) (y : S512x1024.Idx) : ((outsAt0 m c t.val t.isLt).1 y : EReal)
    = ((dx X Y E (dh W G U) P Q (512 * t.val + (y 0).val) (y 1).val : ℝ) : EReal) := by
  by_cases h0 : t.val % 8 = 0
  · rw [outsAt0_A m c t h0]; frame_out
    simp only [dxT_eq]
    exact two_halves (Val := Elt Ideal) (e := .f32) _ _ _ _ (fun n k => ((dx X Y E (dh W G U) P Q (512 * t.val + n) k : ℝ) : EReal))
      (fun r k => dx_half m c hX hY hP hQ hW hE hG hU t 256 (by omega) _ _ _ _ _ r k)
      (fun r k => dx_half m c hX hY hP hQ hW hE hG hU t 0 (by omega) _ _ _ _ _ r k) y
  · rw [outsAt0_B m c t h0]; frame_out
    simp only [dxT_eq]
    exact two_halves (Val := Elt Ideal) (e := .f32) _ _ _ _ (fun n k => ((dx X Y E (dh W G U) P Q (512 * t.val + n) k : ℝ) : EReal))
      (fun r k => dx_half m c hX hY hP hQ hW hE hG hU t 256 (by omega) _ _ _ _ _ r k)
      (fun r k => dx_half m c hX hY hP hQ hW hE hG hU t 0 (by omega) _ _ _ _ _ r k) y
include hX hY hP hQ hW hE hG hU in
theorem point8 (t : Fin cfg0.N) (y : S512x1024.Idx) : ((outsAt0 m c t.val t.isLt).2.1 y : EReal)
    = ((dz X Y E (dh W G U) P Q (512 * t.val + (y 0).val) (y 1).val : ℝ) : EReal) := by
  by_cases h0 : t.val % 8 = 0
  · rw [outsAt0_A m c t h0]; frame_out
    simp only [dxT_eq, dzT_eq]
    exact two_halves (Val := Elt Ideal) (e := .bf16) _ _ _ _ (fun n k => ((dz X Y E (dh W G U) P Q (512 * t.val + n) k : ℝ) : EReal))
      (fun r k => dz_half m c hX hY hP hQ hW hE hG hU t 256 (by omega) _ _ _ _ _ r k)
      (fun r k => dz_half m c hX hY hP hQ hW hE hG hU t 0 (by omega) _ _ _ _ _ r k) y
  · rw [outsAt0_B m c t h0]; frame_out
    simp only [dxT_eq, dzT_eq]
    exact two_halves (Val := Elt Ideal) (e := .bf16) _ _ _ _ (fun n k => ((dz X Y E (dh W G U) P Q (512 * t.val + n) k : ℝ) : EReal))
      (fun r k => dz_half m c hX hY hP hQ hW hE hG hU t 256 (by omega) _ _ _ _ _ r k)
      (fun r k => dz_half m c hX hY hP hQ hW hE hG hU t 0 (by omega) _ _ _ _ _ r k) y

end Cert.FfnInIdeal.Val
-- ==== Proof.FfnInAcc.lean ====
/-
  The feed-forward layer's input product with the two norms before it: the kernel's results.
-/
module
public import proofs.«01_k».proof.Proof.FfnIn
@[expose] public section
set_option maxRecDepth 16384
noncomputable section
open Idealize.ShloMosaic Idealize.ShloMosaic.TcCoe Idealize.SL.Sem
open Idealize.ShloMosaic.Pipeline (Dat)
namespace Cert.FfnInIdeal.Val
open Cert.FfnInIdeal Cert.FfnInIdeal.Gen Cert.Proof

variable (m : (ℓ : Loc nD τ sig) → Buf (Elt Ideal) ℓ) (c : Dev nD) {X Y E W G U : ℕ → ℕ → ℝ} {P Q : ℕ → ℝ}
  (hX : ∀ (n : Fin 4096) (k : Fin 1024), m ((c.tc : Thread nD τ).loc main_arg0) (ix2 n k) = ((X n k : ℝ) : EReal))
  (hY : ∀ (n : Fin 4096) (k : Fin 1024), m ((c.tc : Thread nD τ).loc main_arg1) (ix2 n k) = ((Y n k : ℝ) : EReal))
  (hP : ∀ k : Fin 1024, m ((c.tc : Thread nD τ).loc main_arg2) (ix1 k) = ((P k : ℝ) : EReal))
  (hQ : ∀ k : Fin 1024, m ((c.tc : Thread nD τ).loc main_arg3) (ix1 k) = ((Q k : ℝ) : EReal))
  (hW : ∀ (n : Fin 1024) (k : Fin 5632), m ((c.tc : Thread nD τ).loc main_arg4) (ix2 n k) = ((W n k : ℝ) : EReal))
  (hE : ∀ (n : Fin 4096) (k : Fin 1024), m ((c.tc : Thread nD τ).loc main_arg5) (ix2 n k) = ((E n k : ℝ) : EReal))
  (hG : ∀ (n : Fin 4096) (k : Fin 2816), m ((c.tc : Thread nD τ).loc main_arg6) (ix2 n k) = ((G n k : ℝ) : EReal))
  (hU : ∀ (n : Fin 4096) (k : Fin 2816), m ((c.tc : Thread nD τ).loc main_arg7) (ix2 n k) = ((U n k : ℝ) : EReal))

/-- Two halves of a tile added to a row. -/
theorem add_halves (f : ℕ → ℝ) (o : ℕ) (a b : EReal) (h : a = b + ((∑ r : Fin 256, f (o + (0 + r)) : ℝ) : EReal)) :
    a + ((∑ r : Fin 256, f (o + (256 + r)) : ℝ) : EReal) = b + ((∑ r : Fin 512, f (o + r) : ℝ) : EReal) := by
  rw [h, add_assoc, ← EReal.coe_add, sum_halves]
theorem first_row (i : ℕ) (a b s : EReal) (h : i < 1 → a = b + s) : (if i < 1 then a else b) = b + (if i < 1 then s else 0) := by
  by_cases hi : i < 1
  · rw [if_pos hi, if_pos hi, h hi]
  · rw [if_neg hi, if_neg hi, add_zero]
theorem row_zero (v : Vec Ideal S8x1024 .f32) (j) (y : S8x1024.Idx) (h : (y 0).val < 1) :
    View.ld v (Rect.unit (s := S8x1024) ![0, 0] ![1, 1024] j) (ix2 0 (y 1)) = v y := by
  refine (ld2 (Val := Elt Ideal) v j 0 (y 1) (y 0) (y 1) ?_ ?_).trans (congrArg v (eq_ix2 y).symm)
  · show (y 0).val = 0 + 0
    omega
  · omega

include hX hY hP hW hG hU in
theorem acc9A (t : Fin cfg0.N) (h0 : t.val % 8 = 0) (y : S8x1024.Idx) :
    ((outsAt0 m c t.val t.isLt).2.2.1 y : EReal) = 0 + termQ X Y W G U P t.val (y 0).val (y 1).val := by
  rw [outsAt0_A m c t h0]; frame_out
  simp only [gq_eq]
  simp (disch := decide) only [↓ View.readCov_skip, ↓ View.readCov_cons_toLoadRect, ↓ View.readCov_fill]
  refine (row_fill (Val := Elt Ideal) (e := .f32) _ _ _ _ _ _ (0 : EReal) (fun x => by idx_vars x; pointwise [k0_pay5]) y).trans ?_
  refine first_row _ _ _ _ fun hi => ?_
  refine (gq_half m c hX hY hP hW hG hU t 256 (by omega) _ _ _ _ _ _ 0 (y 1)).trans ?_
  refine add_halves (fun n => gQ X Y (dh W G U) P n (y 1).val) (512 * t.val) _ _ ?_
  refine (gq_half m c hX hY hP hW hG hU t 0 (by omega) _ _ _ _ _ _ 0 (y 1)).trans ?_
  refine congrArg (fun b : EReal => b + _) ?_
  refine (row_zero _ _ y hi).trans ?_
  idx_vars y
  pointwise [k0_pay5]
include hX hY hP hW hG hU in
theorem acc9B (t : Fin cfg0.N) (h0 : ¬t.val % 8 = 0) (y : S8x1024.Idx) :
    ((outsAt0 m c t.val t.isLt).2.2.1 y : EReal) = (outsAt0 m c (t.val - 1) (Nat.lt_of_le_of_lt (Nat.sub_le _ _) t.isLt)).2.2.1 y
      + termQ X Y W G U P t.val (y 0).val (y 1).val := by
  rw [outsAt0_B m c t h0]; frame_out
  simp only [gq_eq]
  simp (disch := decide) only [↓ View.readCov_skip, ↓ View.readCov_cons_toLoadRect, ↓ View.readCov_fill]
  refine (row_over (Val := Elt Ideal) (e := .f32) _ _ _ _ _ _ y).trans ?_
  refine Eq.trans (congrArg (fun b : EReal => if (y 0).val < 1 then _ else b) (congrFun (Memref.IsWhole.read_unread _ _) y)) ?_
  refine first_row _ _ _ _ fun hi => ?_
  refine (gq_half m c hX hY hP hW hG hU t 256 (by omega) _ _ _ _ _ _ 0 (y 1)).trans ?_
  refine add_halves (fun n => gQ X Y (dh W G U) P n (y 1).val) (512 * t.val) _ _ ?_
  refine (gq_half m c hX hY hP hW hG hU t 0 (by omega) _ _ _ _ _ _ 0 (y 1)).trans ?_
  exact congrArg (fun b : EReal => b + _) (row_zero _ _ y hi)
include hX hY hP hQ hW hE hG hU in
theorem acc10A (t : Fin cfg0.N) (h0 : t.val % 8 = 0) (y : S8x1024.Idx) :
    ((outsAt0 m c t.val t.isLt).2.2.2 y : EReal) = 0 + termP X Y E W G U P Q t.val (y 0).val (y 1).val := by
  rw [outsAt0_A m c t h0]; frame_out
  simp only [dxT_eq, gp_eq]
  simp (disch := decide) only [↓ View.readCov_skip, ↓ View.readCov_cons_toLoadRect, ↓ View.readCov_fill]
  refine (row_fill (Val := Elt Ideal) (e := .f32) _ _ _ _ _ _ (0 : EReal) (fun x => by idx_vars x; pointwise [k0_pay6]) y).trans ?_
  refine first_row _ _ _ _ fun hi => ?_
  refine (gp_half m c hX hY hP hQ hW hE hG hU t 256 (by omega) _ _ _ _ _ _ 0 (y 1)).trans ?_
  refine add_halves (fun n => gP X Y E (dh W G U) P Q n (y 1).val) (512 * t.val) _ _ ?_
  refine (gp_half m c hX hY hP hQ hW hE hG hU t 0 (by omega) _ _ _ _ _ _ 0 (y 1)).trans ?_
  refine congrArg (fun b : EReal => b + _) ?_
  refine (row_zero _ _ y hi).trans ?_
  idx_vars y
  pointwise [k0_pay6]
include hX hY hP hQ hW hE hG hU in
theorem acc10B (t : Fin cfg0.N) (h0 : ¬t.val % 8 = 0) (y : S8x1024.Idx) :
    ((outsAt0 m c t.val t.isLt).2.2.2 y : EReal) = (outsAt0 m c (t.val - 1) (Nat.lt_of_le_of_lt (Nat.sub_le _ _) t.isLt)).2.2.2 y
      + termP X Y E W G U P Q t.val (y 0).val (y 1).val := by
  rw [outsAt0_B m c t h0]; frame_out
  simp only [dxT_eq, gp_eq]
  simp (disch := decide) only [↓ View.readCov_skip, ↓ View.readCov_cons_toLoadRect, ↓ View.readCov_fill]
  refine (row_over (Val := Elt Ideal) (e := .f32) _ _ _ _ _ _ y).trans ?_
  refine Eq.trans (congrArg (fun b : EReal => if (y 0).val < 1 then _ else b) (congrFun (Memref.IsWhole.read_unread _ _) y)) ?_
  refine first_row _ _ _ _ fun hi => ?_
  refine (gp_half m c hX hY hP hQ hW hE hG hU t 256 (by omega) _ _ _ _ _ _ 0 (y 1)).trans ?_
  refine add_halves (fun n => gP X Y E (dh W G U) P Q n (y 1).val) (512 * t.val) _ _ ?_
  refine (gp_half m c hX hY hP hQ hW hE hG hU t 0 (by omega) _ _ _ _ _ _ 0 (y 1)).trans ?_
  exact congrArg (fun b : EReal => b + _) (row_zero _ _ y hi)
include hX hY hP hQ hW hE hG hU in
/-- The kernel's first result. -/
theorem final7 : (dats m 0 c).arrAt 7 (cfgs 0).N = fun i : S4096x1024.Idx => ((dx X Y E (dh W G U) P Q (i 0).val (i 1).val : ℝ) : EReal) := by
  refine (dats m 0 c).arrAt_eq_of_covers 7 _ (by decide +kernel) fun t hf y => ?_
  blk_simp [idx t]
  rw [after0_7]
  change S512x1024.Idx at y
  rw [point7 m c hX hY hP hQ hW hE hG hU]
  congr 2; omega
include hX hY hP hQ hW hE hG hU in
/-- The kernel's second result. -/
theorem final8 : (dats m 0 c).arrAt 8 (cfgs 0).N = fun i : S4096x1024.Idx => ((dz X Y E (dh W G U) P Q (i 0).val (i 1).val : ℝ) : EReal) := by
  refine (dats m 0 c).arrAt_eq_of_covers 8 _ (by decide +kernel) fun t hf y => ?_
  blk_simp [idx t]
  rw [after0_8]
  change S512x1024.Idx at y
  rw [point8 m c hX hY hP hQ hW hE hG hU]
  congr 2; omega
include hX hY hP hW hG hU in
/-- The kernel's third result: the gradient in the first of eight rows. -/
theorem final9 : (dats m 0 c).arrAt 9 (cfgs 0).N = fun i : S8x1024.Idx =>
    if (i 0).val < 1 then ((∑ n : Fin 4096, gQ X Y (dh W G U) P n (i 1).val : ℝ) : EReal) else (0 : EReal) := by
  refine (dats m 0 c).arrAt_eq_of_covers 9 _ (by decide +kernel) fun t hf y => ?_
  have h7 : t.val % 8 = 7 := (flush0_9 t).mp hf
  blk_simp [idx t]
  rw [after0_9]
  change S8x1024.Idx at y
  refine (Pipeline.eq_sum_fin_of_reset_step_apply_of_flush (M := EReal) (fun n h => (outsAt0 m c n h).2.2.1) 8 (fun _ => 0)
    (fun t (y : S8x1024.Idx) => termQ X Y W G U P t.val (y 0).val (y 1).val)
    (fun t h y => acc9A m c hX hY hP hW hG hU t h y) (fun t h y => acc9B m c hX hY hP hW hG hU t h y) t h7 y).trans ?_
  rw [zero_add]
  have h8 := lt8 t
  unfold termQ
  by_cases hi : (y 0).val < 1
  · refine Eq.trans ?_ (if_pos (by omega)).symm
    refine Eq.trans (Finset.sum_congr (M := EReal) rfl fun s _ => ?_) (sum_tiles 8 512 4096 rfl fun n => gQ X Y (dh W G U) P n (y 1).val)
    refine (if_pos hi).trans ?_
    show ((∑ r : Fin 512, gQ X Y (dh W G U) P (512 * (8 * (t.val / 8) + s.val) + r) (y 1).val : ℝ) : EReal) = _
    rw [show 8 * (t.val / 8) = 0 by omega, zero_add]
  · refine Eq.trans ?_ (if_neg (by omega)).symm
    exact Finset.sum_eq_zero (M := EReal) fun s _ => if_neg hi
include hX hY hP hQ hW hE hG hU in
/-- The kernel's fourth result: the gradient in the first of eight rows. -/
theorem final10 : (dats m 0 c).arrAt 10 (cfgs 0).N = fun i : S8x1024.Idx =>
    if (i 0).val < 1 then ((∑ n : Fin 4096, gP X Y E (dh W G U) P Q n (i 1).val : ℝ) : EReal) else (0 : EReal) := by
  refine (dats m 0 c).arrAt_eq_of_covers 10 _ (by decide +kernel) fun t hf y => ?_
  have h7 : t.val % 8 = 7 := (flush0_10 t).mp hf
  blk_simp [idx t]
  rw [after0_10]
  change S8x1024.Idx at y
  refine (Pipeline.eq_sum_fin_of_reset_step_apply_of_flush (M := EReal) (fun n h => (outsAt0 m c n h).2.2.2) 8 (fun _ => 0)
    (fun t (y : S8x1024.Idx) => termP X Y E W G U P Q t.val (y 0).val (y 1).val)
    (fun t h y => acc10A m c hX hY hP hQ hW hE hG hU t h y) (fun t h y => acc10B m c hX hY hP hQ hW hE hG hU t h y) t h7 y).trans ?_
  rw [zero_add]
  have h8 := lt8 t
  unfold termP
  by_cases hi : (y 0).val < 1
  · refine Eq.trans ?_ (if_pos (by omega)).symm
    refine Eq.trans (Finset.sum_congr (M := EReal) rfl fun s _ => ?_) (sum_tiles 8 512 4096 rfl fun n => gP X Y E (dh W G U) P Q n (y 1).val)
    refine (if_pos hi).trans ?_
    show ((∑ r : Fin 512, gP X Y E (dh W G U) P Q (512 * (8 * (t.val / 8) + s.val) + r) (y 1).val : ℝ) : EReal) = _
    rw [show 8 * (t.val / 8) = 0 by omega, zero_add]
  · refine Eq.trans ?_ (if_neg (by omega)).symm
    exact Finset.sum_eq_zero (M := EReal) fun s _ => if_neg hi
end Cert.FfnInIdeal.Val
-- ==== Proof.FfnInRef.lean ====
/-
  The feed-forward layer's input product with the two norms before it: the plain reference.
-/
module
public import proofs.«01_k».proof.Proof.FfnIn
public import proofs.«01_k».proof.Proof.Gen.FfnInRefIdeal.Run
@[expose] public section
set_option maxRecDepth 16384
noncomputable section
open Idealize.ShloMosaic Idealize.ShloMosaic.TcCoe Idealize.SL.Sem
namespace Cert.FfnInRefIdeal.Value
open Cert.FfnInRefIdeal Cert.FfnInRefIdeal.Gen Cert.FfnInIdeal.Val Cert.Proof

section Parts
variable (x d : FVec Ideal S4096x1024 .f32) (g : FVec Ideal S1024 .f32) (s : FVec Ideal S4096x1 .f32)
/-- The rows' mean squares and epsilon. -/
def rQ : FVec Ideal S4096x1 .f32 := addf (Host.divf (broadcastInDim S4096x1 ![0] bcast_S4096_S4096x1_0 (Host.reduceAdd (mulf x x) (constant (F := Ideal) S_ .f32 0x00000000#32) reducesTo_S4096x1024_S4096_d1 h_S_))
  (broadcastInDim S4096x1 ![] bcast_S_S4096x1 (constant (F := Ideal) S_ .f32 0x44800000#32))) (broadcastInDim S4096x1 ![] bcast_S_S4096x1 (constant (F := Ideal) S_ .f32 0x358637BD#32))
/-- Their reciprocal roots. -/
def rR : FVec Ideal S4096x1 .f32 := Host.rsqrt (rQ x)
/-- One number per row, along the row. -/
def rB : FVec Ideal S4096x1024 .f32 := broadcastInDim S4096x1024 ![0, 1] bcast_S4096x1_S4096x1024_0_1 s
/-- A gain, for every row. -/
def rG : FVec Ideal S4096x1024 .f32 := broadcastInDim S4096x1024 ![0, 1] bcast_S1x1024_S4096x1024_0_1 (broadcastInDim S1x1024 ![1] bcast_S1024_S1x1024_1 g)
/-- The cotangent's part through the reciprocal root. -/
def rT : FVec Ideal S4096x1024 .f32 := broadcastInDim S4096x1024 ![0] bcast_S4096_S4096x1024_0 (Host.reduceAdd (Host.divf
  (mulf (shapeCast _ (Host.reduceAdd (mulf x d) (constant (F := Ideal) S_ .f32 0x00000000#32) reducesTo_S4096x1024_S4096_d1 h_S_) shapeCasts_S4096_S4096x1)
    (mulf (broadcastInDim S4096x1 ![] bcast_S_S4096x1 (constant (F := Ideal) S_ .f32 0xBF000000#32)) (Host.divf (rR x) (rQ x))))
  (broadcastInDim S4096x1 ![] bcast_S_S4096x1 (constant (F := Ideal) S_ .f32 0x44800000#32))) (constant (F := Ideal) S_ .f32 0x00000000#32) reducesTo_S4096x1_S4096_d1 h_S_)
/-- The sum of the rows, and seven rows of zeros under it. -/
def rC : FVec Ideal S8x1024 .f32 := concatenate S8x1024 0 [⟨S1x1024, (broadcastInDim S1x1024 ![1] bcast_S1024_S1x1024_1 (Host.reduceAdd
    (shapeCast S1x1024 (Host.reduceAdd x (constant (F := Ideal) S_ .f32 0x00000000#32) reducesTo_S4096x1024_S1024_d0 h_S_) shapeCasts_S1024_S1x1024)
    (constant (F := Ideal) S_ .f32 0x00000000#32) reducesTo_S1x1024_S1024_d0 h_S_) : FVec Ideal S1x1024 .f32)⟩,
  ⟨S7x1024, (broadcastInDim S7x1024 ![] bcast_S_S7x1024 (constant (F := Ideal) S_ .f32 0x00000000#32) : FVec Ideal S7x1024 .f32)⟩] concatenates_S1x1024_S7x1024_S8x1024_d0

variable {v e : ℕ → ℝ} {w : ℕ → ℕ → ℝ} (n : Fin 4096) (k : Fin 1024)
theorem rQ_at (z : Fin 1) (hx : ∀ k, x (ix2 n k) = ((v k : ℝ) : EReal)) : (rQ x (ix2 n z) : EReal) = ((msq v + Cert.KernelIdeal.Tile.eps : ℝ) : EReal) := by
  pointwise [rQ]
  simp only [hx]
  exact msq_coe v
theorem rR_at (z : Fin 1) (hx : ∀ k, x (ix2 n k) = ((v k : ℝ) : EReal)) : (rR x (ix2 n z) : EReal) = ((rr v : ℝ) : EReal) := by
  pointwise [rR]
  rw [rQ_at x n z hx, rsqrt_coe]
theorem rT_at (hx : ∀ k, x (ix2 n k) = ((v k : ℝ) : EReal)) (hd : ∀ k, d (ix2 n k) = ((e k : ℝ) : EReal)) :
    (rT x d (ix2 n k) : EReal) = ((nt v e : ℝ) : EReal) := by
  pointwise [rT]
  simp only [rR_at x n _ hx, rQ_at x n _ hx, hx, hd]
  exact (Fin.sum_univ_one (M := EReal) _).trans (nt_coe v e)
theorem rC_eq (hx : ∀ (n : Fin 4096) (k : Fin 1024), x (ix2 n k) = ((w n k : ℝ) : EReal)) :
    rC x = fun i => if (i 0).val < 1 then ((∑ n : Fin 4096, w n (i 1).val : ℝ) : EReal) else 0 := by
  funext i; idx_vars i
  pointwise [rC]
  refine dite_congr rfl (fun h => ?_) fun h => rfl
  refine (Fin.sum_univ_one (M := EReal) _).trans ?_
  simp only [hx]
  exact sum_coe (fun n : Fin 4096 => w n i1)
end Parts

/-- The cotangent of a norm's input, from that of its output. -/
def rN (x d : FVec Ideal S4096x1024 .f32) (g : FVec Ideal S1024 .f32) : FVec Ideal S4096x1024 .bf16 := truncf (F := Ideal) .bf16
  (addf (addf (mulf (mulf d (rG g)) (rB (rR x))) (mulf x (rT x (mulf d (rG g))))) (mulf (rT x (mulf d (rG g))) x)) bitsLt_bf16_f32
/-- The same, added to another cotangent of the same rows. -/
def rE (x d e : FVec Ideal S4096x1024 .f32) (g : FVec Ideal S1024 .f32) : FVec Ideal S4096x1024 .f32 :=
  addf (addf (addf e (mulf (mulf d (rG g)) (rB (rR x)))) (mulf x (rT x (mulf d (rG g))))) (mulf (rT x (mulf d (rG g))) x)
/-- The residual rows and a norm's output. -/
def rX (x y : FVec Ideal S4096x1024 .f32) (g : FVec Ideal S1024 .f32) : FVec Ideal S4096x1024 .f32 := addf x (mulf (mulf y (rB (rR y))) (rG g))

theorem rG_at (g : FVec Ideal S1024 .f32) (n : Fin 4096) (k : Fin 1024) : rG g (ix2 n k) = g (ix1 k) := by pointwise [rG]
theorem rB_at (s : FVec Ideal S4096x1 .f32) (n : Fin 4096) (k : Fin 1024) : rB s (ix2 n k) = s (ix2 n 0) := by pointwise [rB]

theorem rN_at (x d : FVec Ideal S4096x1024 .f32) (g : FVec Ideal S1024 .f32) {v e p : ℕ → ℝ} (n : Fin 4096) (k : Fin 1024)
    (hx : ∀ k, x (ix2 n k) = ((v k : ℝ) : EReal)) (hd : ∀ k, d (ix2 n k) = ((e k : ℝ) : EReal)) (hg : ∀ k, g (ix1 k) = ((p k : ℝ) : EReal)) :
    (rN x d g (ix2 n k) : EReal) = ((nb v (fun k => e k * p k) k : ℝ) : EReal) := by
  have hm : ∀ k, mulf d (rG g) (ix2 n k) = ((e k * p k : ℝ) : EReal) := fun k => by
    pointwise; rw [hd, rG_at, hg, ← EReal.coe_mul]
  pointwise [rN]
  rw [rT_at x _ n k (e := fun k => e k * p k) hx hm, rB_at, rR_at x n 0 hx, rG_at, hd, hg, hx, ← nb_eq]
  simp only [← EReal.coe_mul, ← EReal.coe_add]

theorem rE_at (x d e : FVec Ideal S4096x1024 .f32) (g : FVec Ideal S1024 .f32) {v f p : ℕ → ℝ} {b : ℝ} (n : Fin 4096) (k : Fin 1024)
    (hx : ∀ k, x (ix2 n k) = ((v k : ℝ) : EReal)) (hd : ∀ k, d (ix2 n k) = ((f k : ℝ) : EReal)) (hg : ∀ k, g (ix1 k) = ((p k : ℝ) : EReal))
    (he : e (ix2 n k) = ((b : ℝ) : EReal)) : (rE x d e g (ix2 n k) : EReal) = ((b + nb v (fun k => f k * p k) k : ℝ) : EReal) := by
  have hm : ∀ k, mulf d (rG g) (ix2 n k) = ((f k * p k : ℝ) : EReal) := fun k => by
    pointwise; rw [hd, rG_at, hg, ← EReal.coe_mul]
  pointwise [rE]
  rw [rT_at x _ n k (e := fun k => f k * p k) hx hm, rB_at, rR_at x n 0 hx, rG_at, hd, hg, hx, he, ← nb_eq]
  simp only [← EReal.coe_mul, ← EReal.coe_add]
  congr 1
  ring

section Two
variable (A0 A1 A5 : FVec Ideal S4096x1024 .f32) (A2 A3 : FVec Ideal S1024 .f32) (D : FVec Ideal S4096x1024 .f32) {X Y E H : ℕ → ℕ → ℝ} {P Q : ℕ → ℝ}
  (hX : ∀ (n : Fin 4096) (k : Fin 1024), A0 (ix2 n k) = ((X n k : ℝ) : EReal))
  (hY : ∀ (n : Fin 4096) (k : Fin 1024), A1 (ix2 n k) = ((Y n k : ℝ) : EReal))
  (hP : ∀ k : Fin 1024, A2 (ix1 k) = ((P k : ℝ) : EReal))
  (hQ : ∀ k : Fin 1024, A3 (ix1 k) = ((Q k : ℝ) : EReal))
  (hE : ∀ (n : Fin 4096) (k : Fin 1024), A5 (ix2 n k) = ((E n k : ℝ) : EReal))
  (hH : ∀ (n : Fin 4096) (k : Fin 1024), D (ix2 n k) = ((H n k : ℝ) : EReal))
include hX hY hP
theorem rX_at (n : Fin 4096) (k : Fin 1024) : (rX A0 A1 A2 (ix2 n k) : EReal) = ((xm X Y P n k : ℝ) : EReal) := by
  pointwise [rX]
  rw [rB_at, rR_at A1 n 0 (hY n), rG_at, hX, hY, hP, ← EReal.coe_mul, ← EReal.coe_mul, ← EReal.coe_add]; rfl
include hQ hE hH
theorem rD_at (n : Fin 4096) (k : Fin 1024) : (rE (rX A0 A1 A2) D A5 A3 (ix2 n k) : EReal) = ((dx X Y E H P Q n k : ℝ) : EReal) :=
  rE_at _ _ _ _ n k (rX_at A0 A1 A2 hX hY hP n) (hH n) hQ (hE n k)
/-- The reference's first result. -/
theorem res0 : rE (rX A0 A1 A2) D A5 A3 = fun i => ((dx X Y E H P Q (i 0).val (i 1).val : ℝ) : EReal) := by
  funext i; idx_vars i
  exact rD_at A0 A1 A5 A2 A3 D hX hY hP hQ hE hH i0 i1
/-- The cotangent of the first norm's input. -/
theorem res1 : rN A1 (shapeCast S4096x1024 (rE (rX A0 A1 A2) D A5 A3) shapeCasts_S4096x1024_S4096x1024) A2
    = fun i => ((dz X Y E H P Q (i 0).val (i 1).val : ℝ) : EReal) := by
  funext i; idx_vars i
  refine rN_at A1 _ A2 i0 i1 (hY i0) (e := dx X Y E H P Q i0) (fun k => ?_) hP
  pointwise
  exact rD_at A0 A1 A5 A2 A3 D hX hY hP hQ hE hH i0 k
/-- The gradient of the first norm's gain. -/
theorem res3 : rC (mulf (mulf A1 (rB (rR A1))) (shapeCast S4096x1024 (rE (rX A0 A1 A2) D A5 A3) shapeCasts_S4096x1024_S4096x1024))
    = fun i => if (i 0).val < 1 then ((∑ n : Fin 4096, gP X Y E H P Q n (i 1).val : ℝ) : EReal) else 0 := by
  refine rC_eq _ fun n k => ?_
  pointwise
  rw [rD_at A0 A1 A5 A2 A3 D hX hY hP hQ hE hH n k, rB_at, rR_at A1 n 0 (hY n), hY, ← EReal.coe_mul, ← EReal.coe_mul, mul_comm]
  rfl
omit hQ hE
/-- The gradient of the second norm's gain. -/
theorem res2 : rC (mulf (mulf (rX A0 A1 A2) (rB (rR (rX A0 A1 A2)))) D)
    = fun i => if (i 0).val < 1 then ((∑ n : Fin 4096, gQ X Y H P n (i 1).val : ℝ) : EReal) else 0 := by
  have hx := fun n => rX_at A0 A1 A2 hX hY hP n
  refine rC_eq _ fun n k => ?_
  pointwise
  rw [hH, rB_at, rR_at _ n 0 (hx n), hx, ← EReal.coe_mul, ← EReal.coe_mul, mul_comm]
  rfl
end Two

/-- The cotangent of the second norm's output. -/
def rH (A4 : FVec Ideal S1024x5632 .f32) (A6 A7 : FVec Ideal S4096x2816 .f32) : FVec Ideal S4096x1024 .f32 :=
  Host.dotGeneral dot_S4096x5632_S1024x5632_S4096x1024_1_1_0_0_n_n none
    (concatenate S4096x5632 1 [⟨S4096x2816, A6⟩, ⟨S4096x2816, A7⟩] concatenates_S4096x2816_S4096x2816_S4096x5632_d1) A4
theorem rH_at (A4 : FVec Ideal S1024x5632 .f32) (A6 A7 : FVec Ideal S4096x2816 .f32) {W G U : ℕ → ℕ → ℝ}
    (hW : ∀ (n : Fin 1024) (k : Fin 5632), A4 (ix2 n k) = ((W n k : ℝ) : EReal))
    (hG : ∀ (n : Fin 4096) (k : Fin 2816), A6 (ix2 n k) = ((G n k : ℝ) : EReal))
    (hU : ∀ (n : Fin 4096) (k : Fin 2816), A7 (ix2 n k) = ((U n k : ℝ) : EReal))
    (n : Fin 4096) (k : Fin 1024) : (rH A4 A6 A7 (ix2 n k) : EReal) = ((dh W G U n k : ℝ) : EReal) := by
  pointwise [rH]
  rw [dot_coe (fun q => hG n q) (fun q : Fin 2816 => hW k ⟨q, by omega⟩), dot_coe (fun q => hU n q) (fun q : Fin 2816 => hW k ⟨2816 + q, by omega⟩),
    ← EReal.coe_add]
  rfl
end Cert.FfnInRefIdeal.Value
-- ==== Proof.FfnInClaim.lean ====
/-
  The feed-forward layer's input product with the two norms before it: the kernel and the plain reference together.
-/
module
public import proofs.«01_k».proof.Proof.FfnInAcc
public import proofs.«01_k».proof.Proof.FfnInRef
public import proofs.«01_k».proof.Proof.Finite
public import proofs.«01_k».proof.Proof.Gen.Pre_finite4
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.Proof
/-- Under the precondition the eight arrays hold real numbers. -/
theorem reals_ffn_in (A B : FVec Ideal Cert.Pre_finite4.S4096x1024 .f32) (C D : FVec Ideal Cert.Pre_finite4.S1024 .f32)
    (E : FVec Ideal Cert.Pre_finite4.S1024x5632 .f32) (F : FVec Ideal Cert.Pre_finite4.S4096x1024 .f32) (G H : FVec Ideal Cert.Pre_finite4.S4096x2816 .f32)
    (h : Cert.Pre_finite4.fn A B C D E F G H = fun _ => 1#1) :
    (∀ i, (A i : EReal) = (((A i : EReal).toReal : ℝ) : EReal)) ∧ (∀ i, (B i : EReal) = (((B i : EReal).toReal : ℝ) : EReal))
    ∧ (∀ i, (C i : EReal) = (((C i : EReal).toReal : ℝ) : EReal)) ∧ (∀ i, (D i : EReal) = (((D i : EReal).toReal : ℝ) : EReal))
    ∧ (∀ i, (E i : EReal) = (((E i : EReal).toReal : ℝ) : EReal)) ∧ (∀ i, (F i : EReal) = (((F i : EReal).toReal : ℝ) : EReal))
    ∧ (∀ i, (G i : EReal) = (((G i : EReal).toReal : ℝ) : EReal)) ∧ ∀ i, (H i : EReal) = (((H i : EReal).toReal : ℝ) : EReal) := by
  have h0 := congrFun h (fun a => a.elim0)
  dsimp only [Cert.Pre_finite4.fn, Cert.Pre_finite4.fn_part1, Cert.Pre_finite4.fn_part2] at h0
  obtain ⟨h1, hH⟩ := IntOp.andi_eq_one.mp h0
  obtain ⟨h2, hG⟩ := IntOp.andi_eq_one.mp h1
  obtain ⟨h3, hF⟩ := IntOp.andi_eq_one.mp h2
  obtain ⟨h4, hE⟩ := IntOp.andi_eq_one.mp h3
  obtain ⟨h5, hD⟩ := IntOp.andi_eq_one.mp h4
  obtain ⟨h6, hC⟩ := IntOp.andi_eq_one.mp h5
  obtain ⟨hA, hB⟩ := IntOp.andi_eq_one.mp h6
  haveI : Subsingleton Cert.Pre_finite4.S_.Idx := ⟨fun a b => funext fun x => x.elim0⟩
  exact ⟨Finite.real_of_all A _ (fun _ => rfl) _ _ _ _ hA, Finite.real_of_all B _ (fun _ => rfl) _ _ _ _ hB,
    Finite.real_of_all C _ (fun _ => rfl) _ _ _ _ hC, Finite.real_of_all D _ (fun _ => rfl) _ _ _ _ hD,
    Finite.real_of_all E _ (fun _ => rfl) _ _ _ _ hE, Finite.real_of_all F _ (fun _ => rfl) _ _ _ _ hF,
    Finite.real_of_all G _ (fun _ => rfl) _ _ _ _ hG, Finite.real_of_all H _ (fun _ => rfl) _ _ _ _ hH⟩

set_option maxHeartbeats 2000000 in
/-- Over the reals the kernel computes the gradients of the feed-forward layer's input product and the two norms before it. -/
theorem ffn_in_algebraic : Cert.algebraic_FfnInIdeal_FfnInRefIdeal_pre_finite4 := by
  pair_intro
  · run_from Cert.FfnInIdeal.Value.run_blocks m g
  · have H : ∀ c : Dev Cert.FfnInIdeal.nD, ∃ (X Y E W G U : ℕ → ℕ → ℝ) (P Q : ℕ → ℝ),
        (∀ (n : Fin 4096) (k : Fin 1024), m ((c.tc : Thread Cert.FfnInIdeal.nD Cert.FfnInIdeal.τ).loc Cert.FfnInIdeal.main_arg0) (ix2 n k) = ((X n k : ℝ) : EReal))
        ∧ (∀ (n : Fin 4096) (k : Fin 1024), m ((c.tc : Thread Cert.FfnInIdeal.nD Cert.FfnInIdeal.τ).loc Cert.FfnInIdeal.main_arg1) (ix2 n k) = ((Y n k : ℝ) : EReal))
        ∧ (∀ k : Fin 1024, m ((c.tc : Thread Cert.FfnInIdeal.nD Cert.FfnInIdeal.τ).loc Cert.FfnInIdeal.main_arg2) (ix1 k) = ((P k : ℝ) : EReal))
        ∧ (∀ k : Fin 1024, m ((c.tc : Thread Cert.FfnInIdeal.nD Cert.FfnInIdeal.τ).loc Cert.FfnInIdeal.main_arg3) (ix1 k) = ((Q k : ℝ) : EReal))
        ∧ (∀ (n : Fin 1024) (k : Fin 5632), m ((c.tc : Thread Cert.FfnInIdeal.nD Cert.FfnInIdeal.τ).loc Cert.FfnInIdeal.main_arg4) (ix2 n k) = ((W n k : ℝ) : EReal))
        ∧ (∀ (n : Fin 4096) (k : Fin 1024), m ((c.tc : Thread Cert.FfnInIdeal.nD Cert.FfnInIdeal.τ).loc Cert.FfnInIdeal.main_arg5) (ix2 n k) = ((E n k : ℝ) : EReal))
        ∧ (∀ (n : Fin 4096) (k : Fin 2816), m ((c.tc : Thread Cert.FfnInIdeal.nD Cert.FfnInIdeal.τ).loc Cert.FfnInIdeal.main_arg6) (ix2 n k) = ((G n k : ℝ) : EReal))
        ∧ (∀ (n : Fin 4096) (k : Fin 2816), m ((c.tc : Thread Cert.FfnInIdeal.nD Cert.FfnInIdeal.τ).loc Cert.FfnInIdeal.main_arg7) (ix2 n k) = ((U n k : ℝ) : EReal)) := fun c => by
      obtain ⟨hA, hB, hC, hD, hE, hF, hG, hH⟩ := reals_ffn_in _ _ _ _ _ _ _ _ (hpre c)
      obtain ⟨X, hX⟩ := mat2 _ hA
      obtain ⟨Y, hY⟩ := mat2 _ hB
      obtain ⟨P, hP⟩ := vec1 _ hC
      obtain ⟨Q, hQ⟩ := vec1 _ hD
      obtain ⟨W, hW⟩ := mat2 _ hE
      obtain ⟨E, hE'⟩ := mat2 _ hF
      obtain ⟨G, hG'⟩ := mat2 _ hG
      obtain ⟨U, hU⟩ := mat2 _ hH
      exact ⟨X, Y, E, W, G, U, P, Q, hX, hY, hP, hQ, hW, hE', hG', hU⟩
    run_from Cert.FfnInRefIdeal.Value.run m' g'
    all_goals
      obtain ⟨X, Y, E, W, G, U, P, Q, hX, hY, hP, hQ, hW, hE, hG, hU⟩ := H c
      obtain ⟨a0, a1, a2, a3, a4, a5, a6, a7⟩ := hagree c
      have rX := fun (n : Fin 4096) (k : Fin 1024) => (congrFun a0 (ix2 n k)).trans (hX n k)
      have rY := fun (n : Fin 4096) (k : Fin 1024) => (congrFun a1 (ix2 n k)).trans (hY n k)
      have rP := fun (k : Fin 1024) => (congrFun a2 (ix1 k)).trans (hP k)
      have rQ := fun (k : Fin 1024) => (congrFun a3 (ix1 k)).trans (hQ k)
      have rW := fun (n : Fin 1024) (k : Fin 5632) => (congrFun a4 (ix2 n k)).trans (hW n k)
      have rE := fun (n : Fin 4096) (k : Fin 1024) => (congrFun a5 (ix2 n k)).trans (hE n k)
      have rG := fun (n : Fin 4096) (k : Fin 2816) => (congrFun a6 (ix2 n k)).trans (hG n k)
      have rU := fun (n : Fin 4096) (k : Fin 2816) => (congrFun a7 (ix2 n k)).trans (hU n k)
      have rH := fun (n : Fin 4096) (k : Fin 1024) => Cert.FfnInRefIdeal.Value.rH_at _ _ _ rW rG rU n k
    · refine Eq.trans (b := Cert.FfnInRefIdeal.Value.rE _ _ _ _) (by unfold Cert.FfnInRefIdeal.Value.res_main_v58; rfl) ?_
      exact Eq.trans (Cert.FfnInRefIdeal.Value.res0 _ _ _ _ _ _ rX rY rP rQ rE rH) (Cert.FfnInIdeal.Val.final7 m c hX hY hP hQ hW hE hG hU).symm
    · refine Eq.trans (b := Cert.FfnInRefIdeal.Value.rN _ _ _) (by unfold Cert.FfnInRefIdeal.Value.res_main_v80; rfl) ?_
      exact Eq.trans (Cert.FfnInRefIdeal.Value.res1 _ _ _ _ _ _ rX rY rP rQ rE rH) (Cert.FfnInIdeal.Val.final8 m c hX hY hP hQ hW hE hG hU).symm
    · exact Eq.trans (Cert.FfnInRefIdeal.Value.res2 _ _ _ _ hX hY hP rH) (Cert.FfnInIdeal.Val.final9 m c hX hY hP hW hG hU).symm
    · refine Eq.trans (b := Cert.FfnInRefIdeal.Value.rC _) (by unfold Cert.FfnInRefIdeal.Value.res_main_v86; rfl) ?_
      exact Eq.trans (Cert.FfnInRefIdeal.Value.res3 _ _ _ _ _ _ rX rY rP rQ rE rH) (Cert.FfnInIdeal.Val.final10 m c hX hY hP hQ hW hE hG hU).symm
end Cert.Proof
-- ==== Proof.InProj.lean ====
/-
  The mixer's input product with the two norms before it: what the kernel's blocks hold.
-/
module
public import proofs.«01_k».proof.Defs
public import proofs.«01_k».proof.Proof.Gen.InProjIdeal.Value
public import proofs.«01_k».proof.Proof.Norm
public import Idealize.ShloMosaic.Lib.Pointwise
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem
open Idealize.ShloMosaic.Pipeline (Dat)
namespace Cert.InProjIdeal.Val
open Cert.InProjIdeal Cert.InProjIdeal.Gen Cert.Proof

/-- The cotangent of the second norm's output. -/
def dh (W D : ℕ → ℕ → ℝ) (n k : ℕ) : ℝ := ∑ q : Fin 3072, D n q * W k q

section Join
variable (A B : Vec Ideal S8x512x384 .bf16) {W : ℕ → ℕ → ℝ}
/-- The weight joined from its pieces. -/
abbrev wJ : Vec Ideal S1024x3072 .bf16 := k0_pay8 (k0_pay5 (View.ld A (Rect.unit (s := S8x512x384) ![0, 0, 0] ![1, 512, 384] inb_S8x512x384_S1x512x384_0_0_0)) (View.ld A (Rect.unit (s := S8x512x384) ![1, 0, 0] ![1, 512, 384] inb_S8x512x384_S1x512x384_1_0_0)) (View.ld A (Rect.unit (s := S8x512x384) ![2, 0, 0] ![1, 512, 384] inb_S8x512x384_S1x512x384_2_0_0)) (View.ld A (Rect.unit (s := S8x512x384) ![3, 0, 0] ![1, 512, 384] inb_S8x512x384_S1x512x384_3_0_0)) (View.ld A (Rect.unit (s := S8x512x384) ![4, 0, 0] ![1, 512, 384] inb_S8x512x384_S1x512x384_4_0_0)) (View.ld A (Rect.unit (s := S8x512x384) ![5, 0, 0] ![1, 512, 384] inb_S8x512x384_S1x512x384_5_0_0)) (View.ld A (Rect.unit (s := S8x512x384) ![6, 0, 0] ![1, 512, 384] inb_S8x512x384_S1x512x384_6_0_0)) (View.ld A (Rect.unit (s := S8x512x384) ![7, 0, 0] ![1, 512, 384] inb_S8x512x384_S1x512x384_7_0_0)))
  (k0_pay6 (View.ld B (Rect.unit (s := S8x512x384) ![0, 0, 0] ![1, 512, 384] inb_S8x512x384_S1x512x384_0_0_0))) (k0_pay7 (View.ld B (Rect.unit (s := S8x512x384) ![1, 0, 0] ![1, 512, 384] inb_S8x512x384_S1x512x384_1_0_0)))
  (View.ld B (Rect.unit (s := S8x512x384) ![2, 0, 0] ![1, 512, 384] inb_S8x512x384_S1x512x384_2_0_0))
  (View.ld B (Rect.unit (s := S8x512x384) ![3, 0, 0] ![1, 512, 384] inb_S8x512x384_S1x512x384_3_0_0))
  (View.ld B (Rect.unit (s := S8x512x384) ![4, 0, 0] ![1, 512, 384] inb_S8x512x384_S1x512x384_4_0_0))
  (View.ld B (Rect.unit (s := S8x512x384) ![5, 0, 0] ![1, 512, 384] inb_S8x512x384_S1x512x384_5_0_0))
  (View.ld B (Rect.unit (s := S8x512x384) ![6, 0, 0] ![1, 512, 384] inb_S8x512x384_S1x512x384_6_0_0))
  (View.ld B (Rect.unit (s := S8x512x384) ![7, 0, 0] ![1, 512, 384] inb_S8x512x384_S1x512x384_7_0_0))
theorem pick {p : Prop} [Decidable p] {f : p → EReal} {g : ¬p → EReal} {x : EReal} (hf : ∀ h, f h = x) (hg : ∀ h, g h = x) : dite p f g = x := by
  by_cases h : p
  · exact (dif_pos h).trans (hf h)
  · exact (dif_neg h).trans (hg h)
theorem piece (C : Vec Ideal S8x512x384 .bf16) (o j : ℕ) (hj : j < 8) (hC : ∀ (j : Fin 8) (r : Fin 512) (q : Fin 384), (C (ix3 j r q) : EReal) = ((W (o + r) (384 * j + q) : ℝ) : EReal))
    (r : Fin 512) (q : Fin 384) (k c : ℕ) (hk : o + r.val = k) (hc : 384 * j + q.val = c) :
    (C (ix3 ⟨j, hj⟩ r q) : EReal) = ((W k c : ℝ) : EReal) := by
  subst hk hc
  exact hC _ _ _
theorem wJ_at (hA : ∀ (j : Fin 8) (r : Fin 512) (q : Fin 384), (A (ix3 j r q) : EReal) = ((W (0 + r) (384 * j + q) : ℝ) : EReal))
    (hB : ∀ (j : Fin 8) (r : Fin 512) (q : Fin 384), (B (ix3 j r q) : EReal) = ((W (512 + r) (384 * j + q) : ℝ) : EReal)) (k : Fin 1024) (c : Fin 3072) :
    (wJ A B (ix2 k c) : EReal) = ((W k c : ℝ) : EReal) := by
  pointwise [k0_pay8, k0_pay5, k0_pay6, k0_pay7]
  refine pick (fun h => ?_) fun h => ?_
  · refine pick (fun h0 => piece A 0 0 (by omega) hA _ _ _ _ (by dsimp only; omega) (by dsimp only; omega)) fun h0 => ?_
    refine pick (fun h1 => piece A 0 1 (by omega) hA _ _ _ _ (by dsimp only; omega) (by dsimp only; omega)) fun h1 => ?_
    refine pick (fun h2 => piece A 0 2 (by omega) hA _ _ _ _ (by dsimp only; omega) (by dsimp only; omega)) fun h2 => ?_
    refine pick (fun h3 => piece A 0 3 (by omega) hA _ _ _ _ (by dsimp only; omega) (by dsimp only; omega)) fun h3 => ?_
    refine pick (fun h4 => piece A 0 4 (by omega) hA _ _ _ _ (by dsimp only; omega) (by dsimp only; omega)) fun h4 => ?_
    refine pick (fun h5 => piece A 0 5 (by omega) hA _ _ _ _ (by dsimp only; omega) (by dsimp only; omega)) fun h5 => ?_
    refine pick (fun h6 => piece A 0 6 (by omega) hA _ _ _ _ (by dsimp only; omega) (by dsimp only; omega)) fun h6 => ?_
    exact piece A 0 7 (by omega) hA _ _ _ _ (by dsimp only; omega) (by dsimp only; omega)
  · refine pick (fun h0 => piece B 512 0 (by omega) hB _ _ _ _ (by dsimp only; omega) (by dsimp only; omega)) fun h0 => ?_
    refine pick (fun h1 => piece B 512 1 (by omega) hB _ _ _ _ (by dsimp only; omega) (by dsimp only; omega)) fun h1 => ?_
    refine pick (fun h2 => piece B 512 2 (by omega) hB _ _ _ _ (by dsimp only; omega) (by dsimp only; omega)) fun h2 => ?_
    refine pick (fun h3 => piece B 512 3 (by omega) hB _ _ _ _ (by dsimp only; omega) (by dsimp only; omega)) fun h3 => ?_
    refine pick (fun h4 => piece B 512 4 (by omega) hB _ _ _ _ (by dsimp only; omega) (by dsimp only; omega)) fun h4 => ?_
    refine pick (fun h5 => piece B 512 5 (by omega) hB _ _ _ _ (by dsimp only; omega) (by dsimp only; omega)) fun h5 => ?_
    refine pick (fun h6 => piece B 512 6 (by omega) hB _ _ _ _ (by dsimp only; omega) (by dsimp only; omega)) fun h6 => ?_
    exact piece B 512 7 (by omega) hB _ _ _ _ (by dsimp only; omega) (by dsimp only; omega)
end Join

section Pay
variable (a : Vec Ideal S256x3072 .bf16) (w : Vec Ideal S1024x3072 .bf16) (v e : Vec Ideal S256x1024 .f32) (z : Vec Ideal S256x1024 .bf16)
  (g p : Vec Ideal S1x1x1024 .f32) (acc : Vec Ideal S1x1024 .f32)
/-- The stored rows of the first result. -/
abbrev dxT : Vec Ideal S256x1024 .f32 := k0_pay14 (k0_pay11 v) (k0_pay12 v) (k0_pay27 w a g) e
/-- The stored rows of the second result. -/
abbrev dzT : Vec Ideal S256x1024 .bf16 := k0_pay21 (k0_pay17 z) (k0_pay18 z)
  (k0_pay19 (k0_pay11 v) (k0_pay12 v) (k0_pay27 w a g) e p) (k0_pay20 (k0_pay11 v) (k0_pay12 v) (k0_pay27 w a g) e z p)

theorem pdh {A F : ℕ → ℝ} (r : Fin 256) (k : Fin 1024) (ha : ∀ q, a (ix2 r q) = ((A q : ℝ) : EReal)) (hw : ∀ q, w (ix2 k q) = ((F q : ℝ) : EReal)) :
    (k0_pay23 w a (ix2 r k) : EReal) = ((∑ q : Fin 3072, A q * F q : ℝ) : EReal) := by
  pointwise [k0_pay23]
  exact dot_coe ha hw
theorem pdx {A d Q : ℕ → ℝ} {E : ℝ} (r : Fin 256) (k : Fin 1024) (hv : ∀ k, v (ix2 r k) = ((A k : ℝ) : EReal))
    (hd : ∀ k, (k0_pay23 w a (ix2 r k) : EReal) = ((d k : ℝ) : EReal)) (hg : ∀ k, g (ix3 0 0 k) = ((Q k : ℝ) : EReal))
    (he : e (ix2 r k) = ((E : ℝ) : EReal)) : (dxT a w v e g (ix2 r k) : EReal) = ((E + nb A (fun k => d k * Q k) k : ℝ) : EReal) := by
  pointwise [k0_pay14, k0_pay27, k0_pay12, k0_pay11, k0_pay10]
  simp only [hv, hd, hg, he, rr_coe]
  rw [nb_coe2 A d Q k, ← EReal.coe_add]
theorem pdz {A d P : ℕ → ℝ} (r : Fin 256) (k : Fin 1024) (hz : ∀ k, z (ix2 r k) = ((A k : ℝ) : EReal))
    (hd : ∀ k, (dxT a w v e g (ix2 r k) : EReal) = ((d k : ℝ) : EReal)) (hp : ∀ k, p (ix3 0 0 k) = ((P k : ℝ) : EReal)) :
    (dzT a w v e z g p (ix2 r k) : EReal) = ((nb A (fun k => d k * P k) k : ℝ) : EReal) := by
  pointwise [k0_pay21, k0_pay20, k0_pay19, k0_pay18, k0_pay17, k0_pay16]
  simp only [hz, hd, hp, rr_coe]
  rw [nb_coe2 A d P k]
theorem pgq {A d : ℕ → ℕ → ℝ} (i : Fin 1) (k : Fin 1024) (hv : ∀ r k, v (ix2 r k) = ((A r k : ℝ) : EReal))
    (hd : ∀ r k, (k0_pay23 w a (ix2 r k) : EReal) = ((d r k : ℝ) : EReal)) :
    (k0_pay15 (k0_pay23 w a) (k0_pay12 v) acc (ix2 i k) : EReal) = acc (ix2 i k) + ((∑ r : Fin 256, d r k * (A r k * rr (A r)) : ℝ) : EReal) := by
  pointwise [k0_pay15, k0_pay12, k0_pay11, k0_pay10]
  simp only [hv, hd, rr_coe]
  simp only [← EReal.coe_mul]
  rw [sum_coe]
theorem pgp {A d : ℕ → ℕ → ℝ} (i : Fin 1) (k : Fin 1024) (hz : ∀ r k, z (ix2 r k) = ((A r k : ℝ) : EReal))
    (hd : ∀ r k, (e (ix2 r k) : EReal) = ((d r k : ℝ) : EReal)) :
    (k0_pay22 e (k0_pay18 z) acc (ix2 i k) : EReal) = acc (ix2 i k) + ((∑ r : Fin 256, d r k * (A r k * rr (A r)) : ℝ) : EReal) := by
  pointwise [k0_pay22, k0_pay18, k0_pay17, k0_pay16]
  simp only [hz, hd, rr_coe]
  simp only [← EReal.coe_mul]
  rw [sum_coe]
/-- The product and its gain, as the first half of the rows takes them. -/
theorem dh_eq (w19 w21 w23 w24 w26 w28 w30 w32 w34) : k0_pay9 w19 w21 w23 w24 w26 w28 w30 w32 w34 a = k0_pay23 (k0_pay8 (F := Ideal) w19 w21 w23 w24 w26 w28 w30 w32 w34) a := rfl
theorem dg_eq (w19 w21 w23 w24 w26 w28 w30 w32 w34) : k0_pay13 w19 w21 w23 w24 w26 w28 w30 w32 w34 a g = k0_pay27 (k0_pay8 (F := Ideal) w19 w21 w23 w24 w26 w28 w30 w32 w34) a g := rfl
/-- The second half of the rows is computed as the first. -/
theorem dxT_eq : k0_pay29 (k0_pay25 v) (k0_pay26 v) (k0_pay27 w a g) (k0_pay28 w a v g) e = dxT a w v e g := rfl
theorem dzT_eq : k0_pay1 (k0_pay32 z) (k0_pay33 z) (k0_pay34 (k0_pay25 v) (k0_pay26 v) (k0_pay27 w a g) (k0_pay28 w a v g) e p)
  (k0_pay35 (k0_pay25 v) (k0_pay26 v) (k0_pay27 w a g) (k0_pay28 w a v g) e z p) = dzT a w v e z g p := rfl
theorem gq_eq (d) : k0_pay30 d (k0_pay26 v) acc = k0_pay15 d (k0_pay12 v) acc := rfl
theorem gp_eq : k0_pay2 e (k0_pay33 z) acc = k0_pay22 e (k0_pay18 z) acc := rfl
end Pay

variable (m : (ℓ : Loc nD τ sig) → Buf (Elt Ideal) ℓ) (c : Dev nD) {X Y E W D : ℕ → ℕ → ℝ} {P Q : ℕ → ℝ}
  (hX : ∀ (n : Fin 4096) (k : Fin 1024), m ((c.tc : Thread nD τ).loc main_arg0) (ix2 n k) = ((X n k : ℝ) : EReal))
  (hY : ∀ (n : Fin 4096) (k : Fin 1024), m ((c.tc : Thread nD τ).loc main_arg1) (ix2 n k) = ((Y n k : ℝ) : EReal))
  (hP : ∀ k : Fin 1024, m ((c.tc : Thread nD τ).loc main_arg2) (ix2 0 k) = ((P k : ℝ) : EReal))
  (hQ : ∀ k : Fin 1024, m ((c.tc : Thread nD τ).loc main_arg3) (ix2 1 k) = ((Q k : ℝ) : EReal))
  (hW : ∀ (n : Fin 1024) (k : Fin 3072), m ((c.tc : Thread nD τ).loc main_arg4) (ix2 n k) = ((W n k : ℝ) : EReal))
  (hE : ∀ (n : Fin 4096) (k : Fin 1024), m ((c.tc : Thread nD τ).loc main_arg5) (ix2 n k) = ((E n k : ℝ) : EReal))
  (hD : ∀ (n : Fin 4096) (k : Fin 3072), m ((c.tc : Thread nD τ).loc main_arg6) (ix2 n k) = ((D n k : ℝ) : EReal))

theorem idx : ∀ t : Fin cfg0.N, win0_0.index t = ![t.val, 0] ∧ win0_1.index t = ![0, 0, 0] ∧ win0_2.index t = ![0, 0, 0]
    ∧ win0_3.index t = ![t.val, 0] ∧ win0_4.index t = ![1, 0, 0] ∧ win0_5.index t = ![t.val, 0] ∧ win0_6.index t = ![t.val, 0]
    ∧ win0_7.index t = ![0, 0, 0] ∧ win0_8.index t = ![t.val, 0] ∧ win0_9.index t = ![0, 0] ∧ win0_10.index t = ![t.val, 0] ∧ win0_11.index t = ![0, 0] :=
  (by decide +kernel : ∀ t : Fin grid0.N, _)
theorem lt8 (t : Fin cfg0.N) : t.val < 8 := t.isLt

theorem ent0 (n : Fin 4096) (q : Fin 3072) : V m c (Pipeline.arrRef spec0 0) (ix2 n q) = m ((c.tc : Thread nD τ).loc main_arg6) (ix2 n q) := by
  entry_read; pointwise
include hW in
theorem ent1 (j : Fin 8) (r : Fin 512) (q : Fin 384) : (V m c (Pipeline.arrRef spec0 1) (ix3 j r q) : EReal) = ((W (0 + r) (384 * j + q) : ℝ) : EReal) := by
  entry_read; pointwise
  refine (hW _ _).trans ?_
  congr 2 <;> (simp only []; omega)
include hW in
theorem ent2 (j : Fin 8) (r : Fin 512) (q : Fin 384) : (V m c (Pipeline.arrRef spec0 2) (ix3 j r q) : EReal) = ((W (512 + r) (384 * j + q) : ℝ) : EReal) := by
  entry_read; pointwise
  refine (hW _ _).trans ?_
  congr 2 <;> (simp only []; omega)
include hX hY hP in
theorem ent3 (n : Fin 4096) (k : Fin 1024) : (V m c (Pipeline.arrRef spec0 3) (ix2 n k) : EReal) = ((xm X Y P n k : ℝ) : EReal) := by
  entry_read; pointwise
  simp only [hX, hY, hP, rr_coe]
  simp only [← EReal.coe_mul, ← EReal.coe_add]; rfl
theorem ent4 (a : Fin 2) (b : Fin 1) (k : Fin 1024) : V m c (Pipeline.arrRef spec0 4) (ix3 a b k) = m ((c.tc : Thread nD τ).loc main_arg3) (ix2 a k) := by
  entry_read; pointwise
theorem ent5 (n : Fin 4096) (k : Fin 1024) : V m c (Pipeline.arrRef spec0 5) (ix2 n k) = m ((c.tc : Thread nD τ).loc main_arg5) (ix2 n k) := by
  entry_read; pointwise
theorem ent6 (n : Fin 4096) (k : Fin 1024) : V m c (Pipeline.arrRef spec0 6) (ix2 n k) = m ((c.tc : Thread nD τ).loc main_arg1) (ix2 n k) := by
  entry_read; pointwise
theorem ent7 (a : Fin 2) (b : Fin 1) (k : Fin 1024) : V m c (Pipeline.arrRef spec0 7) (ix3 a b k) = m ((c.tc : Thread nD τ).loc main_arg2) (ix2 a k) := by
  entry_read; pointwise

theorem blk0 (t : Fin cfg0.N) (r : Fin 512) (q : Fin 3072) :
    iblk m c 0 t (ix2 r q) = V m c (Pipeline.arrRef spec0 0) (ix2 ⟨512 * t.val + r, by have := lt8 t; omega⟩ q) := by
  blk_point [iblk, idx t]
theorem blk1 (t : Fin cfg0.N) (j : Fin 8) (r : Fin 512) (q : Fin 384) : iblk m c 1 t (ix3 j r q) = V m c (Pipeline.arrRef spec0 1) (ix3 j r q) := by
  blk_point [iblk, idx t]
theorem blk2 (t : Fin cfg0.N) (j : Fin 8) (r : Fin 512) (q : Fin 384) : iblk m c 2 t (ix3 j r q) = V m c (Pipeline.arrRef spec0 2) (ix3 j r q) := by
  blk_point [iblk, idx t]
theorem blk3 (t : Fin cfg0.N) (r : Fin 512) (q : Fin 1024) :
    iblk m c 3 t (ix2 r q) = V m c (Pipeline.arrRef spec0 3) (ix2 ⟨512 * t.val + r, by have := lt8 t; omega⟩ q) := by
  blk_point [iblk, idx t]
theorem blk4 (t : Fin cfg0.N) (a b : Fin 1) (q : Fin 1024) : iblk m c 4 t (ix3 a b q) = V m c (Pipeline.arrRef spec0 4) (ix3 1 b q) := by
  blk_point [iblk, idx t]
theorem blk5 (t : Fin cfg0.N) (r : Fin 512) (q : Fin 1024) :
    iblk m c 5 t (ix2 r q) = V m c (Pipeline.arrRef spec0 5) (ix2 ⟨512 * t.val + r, by have := lt8 t; omega⟩ q) := by
  blk_point [iblk, idx t]
theorem blk6 (t : Fin cfg0.N) (r : Fin 512) (q : Fin 1024) :
    iblk m c 6 t (ix2 r q) = V m c (Pipeline.arrRef spec0 6) (ix2 ⟨512 * t.val + r, by have := lt8 t; omega⟩ q) := by
  blk_point [iblk, idx t]
theorem blk7 (t : Fin cfg0.N) (a b : Fin 1) (q : Fin 1024) : iblk m c 7 t (ix3 a b q) = V m c (Pipeline.arrRef spec0 7) (ix3 0 b q) := by
  blk_point [iblk, idx t]

include hD in
theorem in0 (t : Fin cfg0.N) (r : Fin 512) (q : Fin 3072) : (iblk m c 0 t (ix2 r q) : EReal) = ((D (512 * t.val + r) q : ℝ) : EReal) := by
  rw [blk0, ent0, hD]
include hW in
theorem inW (t : Fin cfg0.N) (k : Fin 1024) (q : Fin 3072) : (wJ (iblk m c 1 t) (iblk m c 2 t) (ix2 k q) : EReal) = ((W k q : ℝ) : EReal) :=
  wJ_at _ _ (fun j r q => by rw [blk1, ent1 m c hW]) (fun j r q => by rw [blk2, ent2 m c hW]) k q
include hX hY hP in
theorem in3 (t : Fin cfg0.N) (r : Fin 512) (k : Fin 1024) : (iblk m c 3 t (ix2 r k) : EReal) = ((xm X Y P (512 * t.val + r) k : ℝ) : EReal) := by
  rw [blk3, ent3 m c hX hY hP]
include hQ in
theorem in4 (t : Fin cfg0.N) (a b : Fin 1) (k : Fin 1024) : (iblk m c 4 t (ix3 a b k) : EReal) = ((Q k : ℝ) : EReal) := by
  rw [blk4, ent4, hQ]
include hE in
theorem in5 (t : Fin cfg0.N) (r : Fin 512) (k : Fin 1024) : (iblk m c 5 t (ix2 r k) : EReal) = ((E (512 * t.val + r) k : ℝ) : EReal) := by
  rw [blk5, ent5, hE]
include hY in
theorem in6 (t : Fin cfg0.N) (r : Fin 512) (k : Fin 1024) : (iblk m c 6 t (ix2 r k) : EReal) = ((Y (512 * t.val + r) k : ℝ) : EReal) := by
  rw [blk6, ent6, hY]
include hP in
theorem in7 (t : Fin cfg0.N) (a b : Fin 1) (k : Fin 1024) : (iblk m c 7 t (ix3 a b k) : EReal) = ((P k : ℝ) : EReal) := by
  rw [blk7, ent7, hP]

section Half
variable (t : Fin cfg0.N) (o : ℕ) (ho : o + 256 ≤ 512) (ja jv)
/-- Half of a tile's rows of the projection's cotangent and of the narrow arrays. -/
abbrev lda : Vec Ideal S256x3072 .bf16 := View.ld (iblk m c 0 t) (Rect.unit (s := S512x3072) ![o, 0] ![256, 3072] ja)
abbrev ldx : Vec Ideal S256x1024 .f32 := View.ld (iblk m c 3 t) (Rect.unit (s := S512x1024) ![o, 0] ![256, 1024] jv)
abbrev lde : Vec Ideal S256x1024 .f32 := View.ld (iblk m c 5 t) (Rect.unit (s := S512x1024) ![o, 0] ![256, 1024] jv)
abbrev ldz : Vec Ideal S256x1024 .bf16 := View.ld (iblk m c 6 t) (Rect.unit (s := S512x1024) ![o, 0] ![256, 1024] jv)
/-- The joined weight of a grid point. -/
abbrev ldW : Vec Ideal S1024x3072 .bf16 := wJ (iblk m c 1 t) (iblk m c 2 t)

include ho hW hD in
theorem dh_half (r : Fin 256) (k : Fin 1024) : (k0_pay23 (ldW m c t) (lda m c t o ja) (ix2 r k) : EReal) = ((dh W D (512 * t.val + (o + r)) k : ℝ) : EReal) :=
  pdh _ _ (A := fun q => D (512 * t.val + (o + r)) q) (F := fun q => W k q) r k
    (fun q => (ld2 (Val := Elt Ideal) _ _ r q ⟨o + r, by omega⟩ q (by dsimp only) (by omega)).trans (in0 m c hD t _ _)) (fun q => inW m c hW t k q)
include ho hX hY hP in
theorem x_half (r : Fin 256) (k : Fin 1024) : (ldx m c t o jv (ix2 r k) : EReal) = ((xm X Y P (512 * t.val + (o + r)) k : ℝ) : EReal) :=
  (ld2 (Val := Elt Ideal) _ _ r k ⟨o + r, by omega⟩ k (by dsimp only) (by omega)).trans (in3 m c hX hY hP t _ _)
include ho hE in
theorem e_half (r : Fin 256) (k : Fin 1024) : (lde m c t o jv (ix2 r k) : EReal) = ((E (512 * t.val + (o + r)) k : ℝ) : EReal) :=
  (ld2 (Val := Elt Ideal) _ _ r k ⟨o + r, by omega⟩ k (by dsimp only) (by omega)).trans (in5 m c hE t _ _)
include ho hY in
theorem z_half (r : Fin 256) (k : Fin 1024) : (ldz m c t o jv (ix2 r k) : EReal) = ((Y (512 * t.val + (o + r)) k : ℝ) : EReal) :=
  (ld2 (Val := Elt Ideal) _ _ r k ⟨o + r, by omega⟩ k (by dsimp only) (by omega)).trans (in6 m c hY t _ _)
include ho hX hY hP hQ hW hE hD in
theorem dx_half (r : Fin 256) (k : Fin 1024) :
    (dxT (lda m c t o ja) (ldW m c t) (ldx m c t o jv) (lde m c t o jv) (iblk m c 4 t) (ix2 r k) : EReal)
      = ((dx X Y E (dh W D) P Q (512 * t.val + (o + r)) k : ℝ) : EReal) :=
  pdx _ _ _ _ _ r k (fun k => x_half m c hX hY hP t o ho jv r k) (fun k => dh_half m c hW hD t o ho ja r k)
    (fun k => in4 m c hQ t 0 0 k) (e_half m c hE t o ho jv r k)
include ho hX hY hP hQ hW hE hD in
theorem dz_half (r : Fin 256) (k : Fin 1024) :
    (dzT (lda m c t o ja) (ldW m c t) (ldx m c t o jv) (lde m c t o jv) (ldz m c t o jv) (iblk m c 4 t) (iblk m c 7 t) (ix2 r k) : EReal)
      = ((dz X Y E (dh W D) P Q (512 * t.val + (o + r)) k : ℝ) : EReal) :=
  pdz _ _ _ _ _ _ _ r k (fun k => z_half m c hY t o ho jv r k) (fun k => dx_half m c hX hY hP hQ hW hE hD t o ho ja jv r k)
    (fun k => in7 m c hP t 0 0 k)
include ho hX hY hP hW hD in
theorem gq_half (acc : Vec Ideal S1x1024 .f32) (i : Fin 1) (k : Fin 1024) :
    (k0_pay15 (k0_pay23 (ldW m c t) (lda m c t o ja)) (k0_pay12 (ldx m c t o jv)) acc (ix2 i k) : EReal)
      = acc (ix2 i k) + ((∑ r : Fin 256, gQ X Y (dh W D) P (512 * t.val + (o + r)) k : ℝ) : EReal) :=
  pgq _ _ _ _ (A := fun r k => xm X Y P (512 * t.val + (o + r)) k) (d := fun r k => dh W D (512 * t.val + (o + r)) k) i k
    (fun r k => x_half m c hX hY hP t o ho jv r k) (fun r k => dh_half m c hW hD t o ho ja r k)
include ho hX hY hP hQ hW hE hD in
theorem gp_half (acc : Vec Ideal S1x1024 .f32) (i : Fin 1) (k : Fin 1024) :
    (k0_pay22 (dxT (lda m c t o ja) (ldW m c t) (ldx m c t o jv) (lde m c t o jv) (iblk m c 4 t)) (k0_pay18 (ldz m c t o jv)) acc (ix2 i k) : EReal)
      = acc (ix2 i k) + ((∑ r : Fin 256, gP X Y E (dh W D) P Q (512 * t.val + (o + r)) k : ℝ) : EReal) :=
  pgp _ _ _ (A := fun r k => Y (512 * t.val + (o + r)) k) (d := fun r k => dx X Y E (dh W D) P Q (512 * t.val + (o + r)) k) i k
    (fun r k => z_half m c hY t o ho jv r k) (fun r k => dx_half m c hX hY hP hQ hW hE hD t o ho ja jv r k)
end Half
end Cert.InProjIdeal.Val
-- ==== Proof.InProjAcc.lean ====
/-
  The mixer's input product with the two norms before it: the kernel's results.
-/
module
public import proofs.«01_k».proof.Proof.InProj
public import proofs.«01_k».proof.Proof.FfnInAcc
@[expose] public section
set_option maxRecDepth 16384
noncomputable section
open Idealize.ShloMosaic Idealize.ShloMosaic.TcCoe Idealize.SL.Sem
open Idealize.ShloMosaic.Pipeline (Dat)
namespace Cert.InProjIdeal.Val
open Cert.InProjIdeal Cert.InProjIdeal.Gen Cert.Proof
open Cert.FfnInIdeal.Val (add_halves first_row row_zero)

variable (m : (ℓ : Loc nD τ sig) → Buf (Elt Ideal) ℓ) (c : Dev nD) {X Y E W D : ℕ → ℕ → ℝ} {P Q : ℕ → ℝ}
  (hX : ∀ (n : Fin 4096) (k : Fin 1024), m ((c.tc : Thread nD τ).loc main_arg0) (ix2 n k) = ((X n k : ℝ) : EReal))
  (hY : ∀ (n : Fin 4096) (k : Fin 1024), m ((c.tc : Thread nD τ).loc main_arg1) (ix2 n k) = ((Y n k : ℝ) : EReal))
  (hP : ∀ k : Fin 1024, m ((c.tc : Thread nD τ).loc main_arg2) (ix2 0 k) = ((P k : ℝ) : EReal))
  (hQ : ∀ k : Fin 1024, m ((c.tc : Thread nD τ).loc main_arg3) (ix2 1 k) = ((Q k : ℝ) : EReal))
  (hW : ∀ (n : Fin 1024) (k : Fin 3072), m ((c.tc : Thread nD τ).loc main_arg4) (ix2 n k) = ((W n k : ℝ) : EReal))
  (hE : ∀ (n : Fin 4096) (k : Fin 1024), m ((c.tc : Thread nD τ).loc main_arg5) (ix2 n k) = ((E n k : ℝ) : EReal))
  (hD : ∀ (n : Fin 4096) (k : Fin 3072), m ((c.tc : Thread nD τ).loc main_arg6) (ix2 n k) = ((D n k : ℝ) : EReal))

/-- What a grid point adds to the first gain's gradient, and to the second's. -/
def termQ (X Y W D : ℕ → ℕ → ℝ) (P : ℕ → ℝ) (t i k : ℕ) : EReal :=
  if i < 1 then ((∑ r : Fin 512, gQ X Y (dh W D) P (512 * t + r) k : ℝ) : EReal) else 0
def termP (X Y E W D : ℕ → ℕ → ℝ) (P Q : ℕ → ℝ) (t i k : ℕ) : EReal :=
  if i < 1 then ((∑ r : Fin 512, gP X Y E (dh W D) P Q (512 * t + r) k : ℝ) : EReal) else 0

include hX hY hP hQ hW hE hD in
theorem point8 (t : Fin cfg0.N) (y : S512x1024.Idx) : ((outsAt0 m c t.val t.isLt).1 y : EReal)
    = ((dx X Y E (dh W D) P Q (512 * t.val + (y 0).val) (y 1).val : ℝ) : EReal) := by
  by_cases h0 : t.val % 8 = 0
  · rw [outsAt0_A m c t h0]; frame_out
    simp only [dh_eq, dg_eq, dxT_eq]
    exact two_halves (Val := Elt Ideal) (e := .f32) _ _ _ _ (fun n k => ((dx X Y E (dh W D) P Q (512 * t.val + n) k : ℝ) : EReal))
      (fun r k => dx_half m c hX hY hP hQ hW hE hD t 256 (by omega) _ _ r k)
      (fun r k => dx_half m c hX hY hP hQ hW hE hD t 0 (by omega) _ _ r k) y
  · rw [outsAt0_B m c t h0]; frame_out
    simp only [dh_eq, dg_eq, dxT_eq]
    exact two_halves (Val := Elt Ideal) (e := .f32) _ _ _ _ (fun n k => ((dx X Y E (dh W D) P Q (512 * t.val + n) k : ℝ) : EReal))
      (fun r k => dx_half m c hX hY hP hQ hW hE hD t 256 (by omega) _ _ r k)
      (fun r k => dx_half m c hX hY hP hQ hW hE hD t 0 (by omega) _ _ r k) y
include hX hY hP hQ hW hE hD in
theorem point10 (t : Fin cfg0.N) (y : S512x1024.Idx) : ((outsAt0 m c t.val t.isLt).2.2.1 y : EReal)
    = ((dz X Y E (dh W D) P Q (512 * t.val + (y 0).val) (y 1).val : ℝ) : EReal) := by
  by_cases h0 : t.val % 8 = 0
  · rw [outsAt0_A m c t h0]; frame_out
    simp only [dh_eq, dg_eq, dxT_eq, dzT_eq]
    exact two_halves (Val := Elt Ideal) (e := .bf16) _ _ _ _ (fun n k => ((dz X Y E (dh W D) P Q (512 * t.val + n) k : ℝ) : EReal))
      (fun r k => dz_half m c hX hY hP hQ hW hE hD t 256 (by omega) _ _ r k)
      (fun r k => dz_half m c hX hY hP hQ hW hE hD t 0 (by omega) _ _ r k) y
  · rw [outsAt0_B m c t h0]; frame_out
    simp only [dh_eq, dg_eq, dxT_eq, dzT_eq]
    exact two_halves (Val := Elt Ideal) (e := .bf16) _ _ _ _ (fun n k => ((dz X Y E (dh W D) P Q (512 * t.val + n) k : ℝ) : EReal))
      (fun r k => dz_half m c hX hY hP hQ hW hE hD t 256 (by omega) _ _ r k)
      (fun r k => dz_half m c hX hY hP hQ hW hE hD t 0 (by omega) _ _ r k) y

include hX hY hP hW hD in
theorem acc9A (t : Fin cfg0.N) (h0 : t.val % 8 = 0) (y : S8x1024.Idx) :
    ((outsAt0 m c t.val t.isLt).2.1 y : EReal) = 0 + termQ X Y W D P t.val (y 0).val (y 1).val := by
  rw [outsAt0_A m c t h0]; frame_out
  simp only [dh_eq, dg_eq, gq_eq]
  simp (disch := decide) only [↓ View.readCov_skip, ↓ View.readCov_cons_toLoadRect, ↓ View.readCov_fill]
  refine (row_fill (Val := Elt Ideal) (e := .f32) _ _ _ _ _ _ (0 : EReal) (fun x => by idx_vars x; pointwise [k0_pay3]) y).trans ?_
  refine first_row _ _ _ _ fun hi => ?_
  refine (gq_half m c hX hY hP hW hD t 256 (by omega) _ _ _ 0 (y 1)).trans ?_
  refine add_halves (fun n => gQ X Y (dh W D) P n (y 1).val) (512 * t.val) _ _ ?_
  refine (gq_half m c hX hY hP hW hD t 0 (by omega) _ _ _ 0 (y 1)).trans ?_
  refine congrArg (fun b : EReal => b + _) ?_
  refine (row_zero _ _ y hi).trans ?_
  idx_vars y
  pointwise [k0_pay3]
include hX hY hP hW hD in
theorem acc9B (t : Fin cfg0.N) (h0 : ¬t.val % 8 = 0) (y : S8x1024.Idx) :
    ((outsAt0 m c t.val t.isLt).2.1 y : EReal) = (outsAt0 m c (t.val - 1) (Nat.lt_of_le_of_lt (Nat.sub_le _ _) t.isLt)).2.1 y
      + termQ X Y W D P t.val (y 0).val (y 1).val := by
  rw [outsAt0_B m c t h0]; frame_out
  simp only [dh_eq, dg_eq, gq_eq]
  simp (disch := decide) only [↓ View.readCov_skip, ↓ View.readCov_cons_toLoadRect, ↓ View.readCov_fill]
  refine (row_over (Val := Elt Ideal) (e := .f32) _ _ _ _ _ _ y).trans ?_
  refine Eq.trans (congrArg (fun b : EReal => if (y 0).val < 1 then _ else b) (congrFun (Memref.IsWhole.read_unread _ _) y)) ?_
  refine first_row _ _ _ _ fun hi => ?_
  refine (gq_half m c hX hY hP hW hD t 256 (by omega) _ _ _ 0 (y 1)).trans ?_
  refine add_halves (fun n => gQ X Y (dh W D) P n (y 1).val) (512 * t.val) _ _ ?_
  refine (gq_half m c hX hY hP hW hD t 0 (by omega) _ _ _ 0 (y 1)).trans ?_
  exact congrArg (fun b : EReal => b + _) (row_zero _ _ y hi)
include hX hY hP hQ hW hE hD in
theorem acc11A (t : Fin cfg0.N) (h0 : t.val % 8 = 0) (y : S8x1024.Idx) :
    ((outsAt0 m c t.val t.isLt).2.2.2 y : EReal) = 0 + termP X Y E W D P Q t.val (y 0).val (y 1).val := by
  rw [outsAt0_A m c t h0]; frame_out
  simp only [dh_eq, dg_eq, dxT_eq, gp_eq]
  simp (disch := decide) only [↓ View.readCov_skip, ↓ View.readCov_cons_toLoadRect, ↓ View.readCov_fill]
  refine (row_fill (Val := Elt Ideal) (e := .f32) _ _ _ _ _ _ (0 : EReal) (fun x => by idx_vars x; pointwise [k0_pay4]) y).trans ?_
  refine first_row _ _ _ _ fun hi => ?_
  refine (gp_half m c hX hY hP hQ hW hE hD t 256 (by omega) _ _ _ 0 (y 1)).trans ?_
  refine add_halves (fun n => gP X Y E (dh W D) P Q n (y 1).val) (512 * t.val) _ _ ?_
  refine (gp_half m c hX hY hP hQ hW hE hD t 0 (by omega) _ _ _ 0 (y 1)).trans ?_
  refine congrArg (fun b : EReal => b + _) ?_
  refine (row_zero _ _ y hi).trans ?_
  idx_vars y
  pointwise [k0_pay4]
include hX hY hP hQ hW hE hD in
theorem acc11B (t : Fin cfg0.N) (h0 : ¬t.val % 8 = 0) (y : S8x1024.Idx) :
    ((outsAt0 m c t.val t.isLt).2.2.2 y : EReal) = (outsAt0 m c (t.val - 1) (Nat.lt_of_le_of_lt (Nat.sub_le _ _) t.isLt)).2.2.2 y
      + termP X Y E W D P Q t.val (y 0).val (y 1).val := by
  rw [outsAt0_B m c t h0]; frame_out
  simp only [dh_eq, dg_eq, dxT_eq, gp_eq]
  simp (disch := decide) only [↓ View.readCov_skip, ↓ View.readCov_cons_toLoadRect, ↓ View.readCov_fill]
  refine (row_over (Val := Elt Ideal) (e := .f32) _ _ _ _ _ _ y).trans ?_
  refine Eq.trans (congrArg (fun b : EReal => if (y 0).val < 1 then _ else b) (congrFun (Memref.IsWhole.read_unread _ _) y)) ?_
  refine first_row _ _ _ _ fun hi => ?_
  refine (gp_half m c hX hY hP hQ hW hE hD t 256 (by omega) _ _ _ 0 (y 1)).trans ?_
  refine add_halves (fun n => gP X Y E (dh W D) P Q n (y 1).val) (512 * t.val) _ _ ?_
  refine (gp_half m c hX hY hP hQ hW hE hD t 0 (by omega) _ _ _ 0 (y 1)).trans ?_
  exact congrArg (fun b : EReal => b + _) (row_zero _ _ y hi)
include hX hY hP hQ hW hE hD in
/-- The kernel's first result. -/
theorem final8 : (dats m 0 c).arrAt 8 (cfgs 0).N = fun i : S4096x1024.Idx => ((dx X Y E (dh W D) P Q (i 0).val (i 1).val : ℝ) : EReal) := by
  refine (dats m 0 c).arrAt_eq_of_covers 8 _ (by decide +kernel) fun t hf y => ?_
  blk_simp [idx t]
  rw [after0_8]
  change S512x1024.Idx at y
  rw [point8 m c hX hY hP hQ hW hE hD]
  congr 2; omega
include hX hY hP hQ hW hE hD in
/-- The kernel's second result. -/
theorem final10 : (dats m 0 c).arrAt 10 (cfgs 0).N = fun i : S4096x1024.Idx => ((dz X Y E (dh W D) P Q (i 0).val (i 1).val : ℝ) : EReal) := by
  refine (dats m 0 c).arrAt_eq_of_covers 10 _ (by decide +kernel) fun t hf y => ?_
  blk_simp [idx t]
  rw [after0_10]
  change S512x1024.Idx at y
  rw [point10 m c hX hY hP hQ hW hE hD]
  congr 2; omega
include hX hY hP hW hD in
/-- The kernel's third result: the gradient in the first of eight rows. -/
theorem final9 : (dats m 0 c).arrAt 9 (cfgs 0).N = fun i : S8x1024.Idx =>
    if (i 0).val < 1 then ((∑ n : Fin 4096, gQ X Y (dh W D) P n (i 1).val : ℝ) : EReal) else (0 : EReal) := by
  refine (dats m 0 c).arrAt_eq_of_covers 9 _ (by decide +kernel) fun t hf y => ?_
  have h7 : t.val % 8 = 7 := (flush0_9 t).mp hf
  blk_simp [idx t]
  rw [after0_9]
  change S8x1024.Idx at y
  refine (Pipeline.eq_sum_fin_of_reset_step_apply_of_flush (M := EReal) (fun n h => (outsAt0 m c n h).2.1) 8 (fun _ => 0)
    (fun t (y : S8x1024.Idx) => termQ X Y W D P t.val (y 0).val (y 1).val)
    (fun t h y => acc9A m c hX hY hP hW hD t h y) (fun t h y => acc9B m c hX hY hP hW hD t h y) t h7 y).trans ?_
  rw [zero_add]
  have h8 := lt8 t
  unfold termQ
  by_cases hi : (y 0).val < 1
  · refine Eq.trans ?_ (if_pos (by omega)).symm
    refine Eq.trans (Finset.sum_congr (M := EReal) rfl fun s _ => ?_) (sum_tiles 8 512 4096 rfl fun n => gQ X Y (dh W D) P n (y 1).val)
    refine (if_pos hi).trans ?_
    show ((∑ r : Fin 512, gQ X Y (dh W D) P (512 * (8 * (t.val / 8) + s.val) + r) (y 1).val : ℝ) : EReal) = _
    rw [show 8 * (t.val / 8) = 0 by omega, zero_add]
  · refine Eq.trans ?_ (if_neg (by omega)).symm
    exact Finset.sum_eq_zero (M := EReal) fun s _ => if_neg hi
include hX hY hP hQ hW hE hD in
/-- The kernel's fourth result: the gradient in the first of eight rows. -/
theorem final11 : (dats m 0 c).arrAt 11 (cfgs 0).N = fun i : S8x1024.Idx =>
    if (i 0).val < 1 then ((∑ n : Fin 4096, gP X Y E (dh W D) P Q n (i 1).val : ℝ) : EReal) else (0 : EReal) := by
  refine (dats m 0 c).arrAt_eq_of_covers 11 _ (by decide +kernel) fun t hf y => ?_
  have h7 : t.val % 8 = 7 := (flush0_11 t).mp hf
  blk_simp [idx t]
  rw [after0_11]
  change S8x1024.Idx at y
  refine (Pipeline.eq_sum_fin_of_reset_step_apply_of_flush (M := EReal) (fun n h => (outsAt0 m c n h).2.2.2) 8 (fun _ => 0)
    (fun t (y : S8x1024.Idx) => termP X Y E W D P Q t.val (y 0).val (y 1).val)
    (fun t h y => acc11A m c hX hY hP hQ hW hE hD t h y) (fun t h y => acc11B m c hX hY hP hQ hW hE hD t h y) t h7 y).trans ?_
  rw [zero_add]
  have h8 := lt8 t
  unfold termP
  by_cases hi : (y 0).val < 1
  · refine Eq.trans ?_ (if_pos (by omega)).symm
    refine Eq.trans (Finset.sum_congr (M := EReal) rfl fun s _ => ?_) (sum_tiles 8 512 4096 rfl fun n => gP X Y E (dh W D) P Q n (y 1).val)
    refine (if_pos hi).trans ?_
    show ((∑ r : Fin 512, gP X Y E (dh W D) P Q (512 * (8 * (t.val / 8) + s.val) + r) (y 1).val : ℝ) : EReal) = _
    rw [show 8 * (t.val / 8) = 0 by omega, zero_add]
  · refine Eq.trans ?_ (if_neg (by omega)).symm
    exact Finset.sum_eq_zero (M := EReal) fun s _ => if_neg hi
end Cert.InProjIdeal.Val
-- ==== Proof.InProjClaim.lean ====
/-
  The mixer's input product with the two norms before it: the kernel and the plain reference together.
-/
module
public import proofs.«01_k».proof.Proof.InProjAcc
public import proofs.«01_k».proof.Proof.FfnInRef
public import proofs.«01_k».proof.Proof.Finite
public import proofs.«01_k».proof.Proof.Gen.InProjRefIdeal.Run
public import proofs.«01_k».proof.Proof.Gen.Pre_finite6
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.InProjRefIdeal.Value
open Cert.InProjRefIdeal Cert.InProjRefIdeal.Gen Cert.InProjIdeal.Val Cert.Proof
/-- The gain of the norm after the feed-forward layer, and that of the norm before the mixer. -/
def gA (g : FVec Ideal S2x1024 .f32) : FVec Ideal S1024 .f32 := shapeCast S1024 (extractStridedSlice S1x1024 ![0, 0] g slices_S2x1024_S1x1024_0_0) shapeCasts_S1x1024_S1024
def gB (g : FVec Ideal S2x1024 .f32) : FVec Ideal S1024 .f32 := shapeCast S1024 (extractStridedSlice S1x1024 ![1, 0] g slices_S2x1024_S1x1024_1_0) shapeCasts_S1x1024_S1024
theorem gA_at (g : FVec Ideal S2x1024 .f32) (k : Fin 1024) : gA g (ix1 k) = g (ix2 0 k) := by pointwise [gA]
theorem gB_at (g : FVec Ideal S2x1024 .f32) (k : Fin 1024) : gB g (ix1 k) = g (ix2 1 k) := by pointwise [gB]
/-- The cotangent of the second norm's output. -/
def pH (A4 : FVec Ideal S1024x3072 .f32) (A6 : FVec Ideal S4096x3072 .f32) : FVec Ideal S4096x1024 .f32 :=
  Host.dotGeneral dot_S4096x3072_S1024x3072_S4096x1024_1_1_0_0_n_n none A6 A4
theorem pH_at (A4 : FVec Ideal S1024x3072 .f32) (A6 : FVec Ideal S4096x3072 .f32) {W D : ℕ → ℕ → ℝ}
    (hW : ∀ (n : Fin 1024) (k : Fin 3072), A4 (ix2 n k) = ((W n k : ℝ) : EReal))
    (hD : ∀ (n : Fin 4096) (k : Fin 3072), A6 (ix2 n k) = ((D n k : ℝ) : EReal))
    (n : Fin 4096) (k : Fin 1024) : (pH A4 A6 (ix2 n k) : EReal) = ((dh W D n k : ℝ) : EReal) := by
  pointwise [pH]
  exact dot_coe (fun q => hD n q) (fun q => hW k q)
end Cert.InProjRefIdeal.Value

namespace Cert.Proof
/-- Under the precondition the seven arrays hold real numbers. -/
theorem reals_in_proj (A B : FVec Ideal Cert.Pre_finite6.S4096x1024 .f32) (C D : FVec Ideal Cert.Pre_finite6.S2x1024 .f32)
    (E : FVec Ideal Cert.Pre_finite6.S1024x3072 .f32) (F : FVec Ideal Cert.Pre_finite6.S4096x1024 .f32) (G : FVec Ideal Cert.Pre_finite6.S4096x3072 .f32)
    (h : Cert.Pre_finite6.fn A B C D E F G = fun _ => 1#1) :
    (∀ i, (A i : EReal) = (((A i : EReal).toReal : ℝ) : EReal)) ∧ (∀ i, (B i : EReal) = (((B i : EReal).toReal : ℝ) : EReal))
    ∧ (∀ i, (C i : EReal) = (((C i : EReal).toReal : ℝ) : EReal)) ∧ (∀ i, (D i : EReal) = (((D i : EReal).toReal : ℝ) : EReal))
    ∧ (∀ i, (E i : EReal) = (((E i : EReal).toReal : ℝ) : EReal)) ∧ (∀ i, (F i : EReal) = (((F i : EReal).toReal : ℝ) : EReal))
    ∧ ∀ i, (G i : EReal) = (((G i : EReal).toReal : ℝ) : EReal) := by
  have h0 := congrFun h (fun a => a.elim0)
  dsimp only [Cert.Pre_finite6.fn, Cert.Pre_finite6.fn_part1] at h0
  obtain ⟨h2, hG⟩ := IntOp.andi_eq_one.mp h0
  obtain ⟨h3, hF⟩ := IntOp.andi_eq_one.mp h2
  obtain ⟨h4, hE⟩ := IntOp.andi_eq_one.mp h3
  obtain ⟨h5, hD⟩ := IntOp.andi_eq_one.mp h4
  obtain ⟨h6, hC⟩ := IntOp.andi_eq_one.mp h5
  obtain ⟨hA, hB⟩ := IntOp.andi_eq_one.mp h6
  haveI : Subsingleton Cert.Pre_finite6.S_.Idx := ⟨fun a b => funext fun x => x.elim0⟩
  exact ⟨Finite.real_of_all A _ (fun _ => rfl) _ _ _ _ hA, Finite.real_of_all B _ (fun _ => rfl) _ _ _ _ hB,
    Finite.real_of_all C _ (fun _ => rfl) _ _ _ _ hC, Finite.real_of_all D _ (fun _ => rfl) _ _ _ _ hD,
    Finite.real_of_all E _ (fun _ => rfl) _ _ _ _ hE, Finite.real_of_all F _ (fun _ => rfl) _ _ _ _ hF,
    Finite.real_of_all G _ (fun _ => rfl) _ _ _ _ hG⟩

set_option maxHeartbeats 2000000 in
/-- Over the reals the kernel computes the gradients of the mixer's input product and the two norms before it. -/
theorem in_proj_algebraic : Cert.algebraic_InProjIdeal_InProjRefIdeal_pre_finite6 := by
  pair_intro
  · run_from Cert.InProjIdeal.Value.run_blocks m g
  · have H : ∀ c : Dev Cert.InProjIdeal.nD, ∃ (X Y E W D : ℕ → ℕ → ℝ) (P Q : ℕ → ℝ),
        (∀ (n : Fin 4096) (k : Fin 1024), m ((c.tc : Thread Cert.InProjIdeal.nD Cert.InProjIdeal.τ).loc Cert.InProjIdeal.main_arg0) (ix2 n k) = ((X n k : ℝ) : EReal))
        ∧ (∀ (n : Fin 4096) (k : Fin 1024), m ((c.tc : Thread Cert.InProjIdeal.nD Cert.InProjIdeal.τ).loc Cert.InProjIdeal.main_arg1) (ix2 n k) = ((Y n k : ℝ) : EReal))
        ∧ (∀ k : Fin 1024, m ((c.tc : Thread Cert.InProjIdeal.nD Cert.InProjIdeal.τ).loc Cert.InProjIdeal.main_arg2) (ix2 0 k) = ((P k : ℝ) : EReal))
        ∧ (∀ k : Fin 1024, m ((c.tc : Thread Cert.InProjIdeal.nD Cert.InProjIdeal.τ).loc Cert.InProjIdeal.main_arg3) (ix2 1 k) = ((Q k : ℝ) : EReal))
        ∧ (∀ (n : Fin 1024) (k : Fin 3072), m ((c.tc : Thread Cert.InProjIdeal.nD Cert.InProjIdeal.τ).loc Cert.InProjIdeal.main_arg4) (ix2 n k) = ((W n k : ℝ) : EReal))
        ∧ (∀ (n : Fin 4096) (k : Fin 1024), m ((c.tc : Thread Cert.InProjIdeal.nD Cert.InProjIdeal.τ).loc Cert.InProjIdeal.main_arg5) (ix2 n k) = ((E n k : ℝ) : EReal))
        ∧ (∀ (n : Fin 4096) (k : Fin 3072), m ((c.tc : Thread Cert.InProjIdeal.nD Cert.InProjIdeal.τ).loc Cert.InProjIdeal.main_arg6) (ix2 n k) = ((D n k : ℝ) : EReal)) := fun c => by
      obtain ⟨hA, hB, hC, hD, hE, hF, hG⟩ := reals_in_proj _ _ _ _ _ _ _ (hpre c)
      obtain ⟨X, hX⟩ := mat2 _ hA
      obtain ⟨Y, hY⟩ := mat2 _ hB
      obtain ⟨P, hP⟩ := mat2 _ hC
      obtain ⟨Q, hQ⟩ := mat2 _ hD
      obtain ⟨W, hW⟩ := mat2 _ hE
      obtain ⟨E, hE'⟩ := mat2 _ hF
      obtain ⟨D, hD'⟩ := mat2 _ hG
      exact ⟨X, Y, E, W, D, P 0, Q 1, hX, hY, fun k => hP 0 k, fun k => hQ 1 k, hW, hE', hD'⟩
    run_from Cert.InProjRefIdeal.Value.run m' g'
    all_goals
      obtain ⟨X, Y, E, W, D, P, Q, hX, hY, hP, hQ, hW, hE, hD⟩ := H c
      obtain ⟨a0, a1, a2, a3, a4, a5, a6⟩ := hagree c
      have rX := fun (n : Fin 4096) (k : Fin 1024) => (congrFun a0 (ix2 n k)).trans (hX n k)
      have rY := fun (n : Fin 4096) (k : Fin 1024) => (congrFun a1 (ix2 n k)).trans (hY n k)
      have rP := fun (k : Fin 1024) => (Cert.InProjRefIdeal.Value.gA_at _ k).trans ((congrFun a2 (ix2 0 k)).trans (hP k))
      have sP := fun (k : Fin 1024) => (Cert.InProjRefIdeal.Value.gA_at _ k).trans (hP k)
      have rQ := fun (k : Fin 1024) => (Cert.InProjRefIdeal.Value.gB_at _ k).trans ((congrFun a3 (ix2 1 k)).trans (hQ k))
      have rW := fun (n : Fin 1024) (k : Fin 3072) => (congrFun a4 (ix2 n k)).trans (hW n k)
      have rE := fun (n : Fin 4096) (k : Fin 1024) => (congrFun a5 (ix2 n k)).trans (hE n k)
      have rD := fun (n : Fin 4096) (k : Fin 3072) => (congrFun a6 (ix2 n k)).trans (hD n k)
      have rH := fun (n : Fin 4096) (k : Fin 1024) => Cert.InProjRefIdeal.Value.pH_at _ _ rW rD n k
    · refine Eq.trans (b := Cert.FfnInRefIdeal.Value.rE _ _ _ _) (by unfold Cert.InProjRefIdeal.Value.res_main_v59; rfl) ?_
      exact Eq.trans (Cert.FfnInRefIdeal.Value.res0 _ _ _ _ _ _ rX rY rP rQ rE rH) (Cert.InProjIdeal.Val.final8 m c hX hY hP hQ hW hE hD).symm
    · exact Eq.trans (Cert.FfnInRefIdeal.Value.res2 _ _ _ _ hX hY sP rH) (Cert.InProjIdeal.Val.final9 m c hX hY hP hW hD).symm
    · refine Eq.trans (b := Cert.FfnInRefIdeal.Value.rN _ _ _) (by unfold Cert.InProjRefIdeal.Value.res_main_v84; rfl) ?_
      exact Eq.trans (Cert.FfnInRefIdeal.Value.res1 _ _ _ _ _ _ rX rY rP rQ rE rH) (Cert.InProjIdeal.Val.final10 m c hX hY hP hQ hW hE hD).symm
    · refine Eq.trans (b := Cert.FfnInRefIdeal.Value.rC _) (by unfold Cert.InProjRefIdeal.Value.res_main_v87; rfl) ?_
      exact Eq.trans (Cert.FfnInRefIdeal.Value.res3 _ _ _ _ _ _ rX rY rP rQ rE rH) (Cert.InProjIdeal.Val.final11 m c hX hY hP hQ hW hE hD).symm
end Cert.Proof
-- ==== Proof.Group.lean ====
/-
  The norm of groups of 64 channels and its backward pass, over the reals.
-/
module
public import proofs.«01_k».proof.Proof.ConvRef
public import proofs.«01_k».proof.Proof.Arrays
@[expose] public section
noncomputable section
open Idealize.ShloMosaic ConvReal Cert.KernelIdeal.Tile
namespace Cert.Proof

/-- The reciprocal root of a group's mean square. -/
def gr (v : ℕ → ℕ → ℝ) (n c : ℕ) : ℝ := (√(mean (fun n c => v n c * v n c) n c + eps))⁻¹
/-- The normalised rows. -/
def gn (v : ℕ → ℕ → ℝ) (n c : ℕ) : ℝ := v n c * gr v n c
/-- The cotangent of the norm's input. -/
def gb (v d : ℕ → ℕ → ℝ) (n c : ℕ) : ℝ := gr v n c * (d n c - gn v n c * mean (fun n c => gn v n c * d n c) n c)

theorem gr_group (v : ℕ → ℕ → ℝ) (n c : ℕ) : gr v n (64 * (c / 64)) = gr v n c := by unfold gr; rw [mean_group]
theorem gr_pos (v : ℕ → ℕ → ℝ) (n c : ℕ) : 0 < mean (fun n c => v n c * v n c) n c + eps :=
  add_pos_of_nonneg_of_pos (mean_sq_nonneg v n c) eps_pos
theorem rsqrt_pos {x : ℝ} (h : 0 < x) : Ideal.rsqrt ((x : ℝ) : EReal) = (((√x)⁻¹ : ℝ) : EReal) := by
  rw [Ideal.rsqrt_coe, if_neg (by linarith), if_neg (by linarith)]
/-- The cotangent as the reference writes it. -/
theorem gb_eq (v d : ℕ → ℕ → ℝ) (n k : ℕ) :
    d n k * gr v n (64 * (k / 64)) + v n k * ((∑ x : Fin 64, v n (k / 64 * 64 + x) * d n (k / 64 * 64 + x))
        * (-(1 / 2) * (gr v n (64 * (k / 64)) / (mean (fun n c => v n c * v n c) n (64 * (k / 64)) + eps))) / 64)
      + (∑ x : Fin 64, v n (k / 64 * 64 + x) * d n (k / 64 * 64 + x))
        * (-(1 / 2) * (gr v n (64 * (k / 64)) / (mean (fun n c => v n c * v n c) n (64 * (k / 64)) + eps))) / 64 * v n k = gb v d n k := by
  refine (norm_bwd _ _ (gr v n (64 * (k / 64))) _ _ (gr_pos v n _) rfl).trans ?_
  unfold gb gn
  rw [gr_group]
  conv_rhs => rw [← mean_group _ n k, mean_sum]
  congr 2
  have e' : ∀ x : Fin 64, gr v n (k / 64 * 64 + x) = gr v n k := fun x => by
    have := x.isLt
    rw [← gr_group _ n k, ← gr_group, show (k / 64 * 64 + (x : ℕ)) / 64 = k / 64 by omega]
  simp only [e']
  congr 1
  rw [mul_div_assoc', Finset.mul_sum]
  congr 1
  exact Finset.sum_congr rfl fun x _ => by ring
end Cert.Proof
-- ==== Proof.OutProjRef.lean ====
/-
  The mixer's output product with the attention heads' norm: the plain reference.
-/
module
public import proofs.«01_k».proof.Defs
public import proofs.«01_k».proof.Proof.Group
public import proofs.«01_k».proof.Proof.Gen.OutProjRefIdeal.Run
@[expose] public section
set_option maxRecDepth 16384
noncomputable section
open Idealize.ShloMosaic Idealize.ShloMosaic.TcCoe Idealize.SL.Sem ConvReal Cert.KernelIdeal.Tile
open Cert.ReferenceIdeal.Value (sixtyfour_bits neghalf_bits div_real red_03 red_01)
namespace Cert.Proof
/-- The cotangent of the product's input. -/
def oY (W D : ℕ → ℕ → ℝ) (n k : ℕ) : ℝ := ∑ q : Fin 1024, D n q * W k q
/-- The cotangent of the normalised heads, times the gain. -/
def oG (W D : ℕ → ℕ → ℝ) (G : ℕ → ℝ) (n c : ℕ) : ℝ := oY W D n (512 + c) * G c
/-- The product's input: the convolution's rows beside the heads' normalised rows. -/
def oC (C O : ℕ → ℕ → ℝ) (G : ℕ → ℝ) (n k : ℕ) : ℝ := if k < 512 then C n k else gn O n (k - 512) * G (k - 512)
end Cert.Proof

namespace Cert.OutProjRefIdeal.Value
open Cert.OutProjRefIdeal Cert.OutProjRefIdeal.Gen Cert.Proof

section Parts
variable (x : FVec Ideal S1x4096x512 .f32) (d : FVec Ideal S1x4096x8x64 .f32)
/-- The rows by groups. -/
def r7 : FVec Ideal S1x4096x8x64 .f32 := shapeCast _ x shapeCasts_S1x4096x512_S1x4096x8x64
/-- The groups' mean squares and epsilon. -/
def r17 : FVec Ideal S1x4096x8x1 .f32 := addf (Host.divf (broadcastInDim S1x4096x8x1 ![0, 1, 2] bcast_S1x4096x8_S1x4096x8x1_0_1_2
    (Host.reduceAdd (mulf (r7 x) (r7 x)) (constant (F := Ideal) S_ .f32 0x00000000#32) reducesTo_S1x4096x8x64_S1x4096x8_d3 h_S_))
    (broadcastInDim S1x4096x8x1 ![] bcast_S_S1x4096x8x1 (constant (F := Ideal) S_ .f32 0x42800000#32)))
  (broadcastInDim S1x4096x8x1 ![] bcast_S_S1x4096x8x1 (constant (F := Ideal) S_ .f32 0x358637BD#32))
/-- Their reciprocal roots. -/
def r18 : FVec Ideal S1x4096x8x1 .f32 := Host.rsqrt (r17 x)
def r19 : FVec Ideal S1x4096x8x64 .f32 := broadcastInDim S1x4096x8x64 ![0, 1, 2, 3] bcast_S1x4096x8x1_S1x4096x8x64_0_1_2_3 (r18 x)
/-- The normalised rows. -/
def r41 : FVec Ideal S1x4096x512 .f32 := shapeCast _ (mulf (r7 x) (r19 x)) shapeCasts_S1x4096x8x64_S1x4096x512
/-- The cotangent's part through the reciprocal root. -/
def r32 : FVec Ideal S1x4096x8x64 .f32 := broadcastInDim S1x4096x8x64 ![0, 1, 2] bcast_S1x4096x8_S1x4096x8x64_0_1_2
  (broadcastInDim S1x4096x8 ![1, 2] bcast_S4096x8_S1x4096x8_1_2 (Host.reduceAdd (Host.divf
    (mulf (shapeCast _ (Host.reduceAdd (mulf (r7 x) d) (constant (F := Ideal) S_ .f32 0x00000000#32) reducesTo_S1x4096x8x64_S1x4096x8_d3 h_S_) shapeCasts_S1x4096x8_S1x4096x8x1)
      (mulf (broadcastInDim S1x4096x8x1 ![] bcast_S_S1x4096x8x1 (constant (F := Ideal) S_ .f32 0xBF000000#32)) (Host.divf (r18 x) (r17 x))))
    (broadcastInDim S1x4096x8x1 ![] bcast_S_S1x4096x8x1 (constant (F := Ideal) S_ .f32 0x42800000#32)))
    (constant (F := Ideal) S_ .f32 0x00000000#32) reducesTo_S1x4096x8x1_S4096x8_d0_3 h_S_))
/-- The cotangent of the norm's input. -/
def r38 : FVec Ideal S4096x512 .f32 := shapeCast _ (shapeCast _ (addf (addf (mulf d (r19 x)) (mulf (r7 x) (r32 x d))) (mulf (r32 x d) (r7 x)))
  shapeCasts_S1x4096x8x64_S1x4096x512 : FVec Ideal S1x4096x512 .f32) shapeCasts_S1x4096x512_S4096x512

variable {V E : ℕ → ℕ → ℝ} (hx : ∀ (a : Fin 1) (n : Fin 4096) (k : Fin 512), x (ix3 a n k) = ((V n k : ℝ) : EReal))
  (hd : ∀ (a : Fin 1) (n : Fin 4096) (s : Fin 8) (k : Fin 64), d (ix4 a n s k) = ((E n (s * 64 + k) : ℝ) : EReal))
include hx
theorem r7_at (a : Fin 1) (n : Fin 4096) (s : Fin 8) (k : Fin 64) : (r7 x (ix4 a n s k) : EReal) = ((V n (s * 64 + k) : ℝ) : EReal) := by
  pointwise [r7]; rw [hx]
theorem r17_at (a : Fin 1) (n : Fin 4096) (s : Fin 8) (k : Fin 1) :
    (r17 x (ix4 a n s k) : EReal) = ((mean (fun n c => V n c * V n c) n (64 * s) + eps : ℝ) : EReal) := by
  pointwise [r17]
  simp only [r7_at x hx, ← EReal.coe_mul]
  rw [← coe_sum, sixtyfour_bits, eps_bits, div_real (by norm_num), ← EReal.coe_add, mean_sum]
theorem r18_at (a : Fin 1) (n : Fin 4096) (s : Fin 8) (k : Fin 1) : (r18 x (ix4 a n s k) : EReal) = ((gr V n (64 * s) : ℝ) : EReal) := by
  pointwise [r18]
  rw [r17_at x hx, rsqrt_pos (gr_pos _ _ _)]; rfl
theorem r41_at (a : Fin 1) (n : Fin 4096) (k : Fin 512) : (r41 x (ix3 a n k) : EReal) = ((gn V n k : ℝ) : EReal) := by
  pointwise [r41, r19]
  rw [r7_at x hx, r18_at x hx, ← EReal.coe_mul]
  congr 1
  unfold gn
  rw [gr_group, show (k : ℕ) / 64 * 64 + k % 64 = k by omega]
include hd
theorem r32_at (a : Fin 1) (n : Fin 4096) (s : Fin 8) (k : Fin 64) : (r32 x d (ix4 a n s k) : EReal)
    = (((∑ k : Fin 64, V n (s * 64 + k) * E n (s * 64 + k))
      * (-(1 / 2) * (gr V n (64 * s) / (mean (fun n c => V n c * V n c) n (64 * s) + eps))) / 64 : ℝ) : EReal) := by
  pointwise [r32]
  rw [red_03]
  pointwise
  simp only [r7_at x hx, hd, r18_at x hx, r17_at x hx, ← EReal.coe_mul]
  rw [← coe_sum, sixtyfour_bits, neghalf_bits, div_real (gr_pos _ _ _).ne', ← EReal.coe_mul, ← EReal.coe_mul, div_real (by norm_num)]
theorem r38_at (n : Fin 4096) (k : Fin 512) : (r38 x d (ix2 n k) : EReal) = ((gb V E n k : ℝ) : EReal) := by
  pointwise [r38, r19]
  rw [r7_at x hx, r18_at x hx, hd, r32_at x d hx hd]
  simp only [← EReal.coe_mul, ← EReal.coe_add]
  congr 1
  have e : (k : ℕ) / 64 * 64 + k % 64 = k := by omega
  rw [e]
  exact gb_eq V E n k
end Parts

variable (A0 : FVec Ideal S4096x512 .f32) (A1 : FVec Ideal S1x4096x512 .f32) (A2 : FVec Ideal S512 .f32) (A3 : FVec Ideal S1024x1024 .f32) (A4 : FVec Ideal S4096x1024 .f32)
/-- The cotangent of the product's input. -/
def t0 : FVec Ideal S4096x1024 .f32 := Host.dotGeneral dot_S4096x1024_S1024x1024_S4096x1024_1_1_0_0_n_n none A4 A3
/-- Its columns for the heads. -/
def t2 : FVec Ideal S1x4096x512 .f32 := broadcastInDim S1x4096x512 ![1, 2] bcast_S4096x512_S1x4096x512_1_2
  (extractStridedSlice S4096x512 ![0, 512] (t0 A3 A4) slices_S4096x1024_S4096x512_0_512)
/-- The gain, for every row. -/
def t4 : FVec Ideal S1x4096x512 .f32 := broadcastInDim S1x4096x512 ![0, 1, 2] bcast_S1x1x512_S1x4096x512_0_1_2 (broadcastInDim S1x1x512 ![2] bcast_S512_S1x1x512_2 A2)
def t6 : FVec Ideal S1x4096x8x64 .f32 := shapeCast _ (mulf (t2 A3 A4) (t4 A2)) shapeCasts_S1x4096x512_S1x4096x8x64
/-- The product's input. -/
def t51 : FVec Ideal S4096x1024 .f32 := concatenate S4096x1024 1 [⟨S4096x512, A0⟩,
  ⟨S4096x512, (shapeCast _ (mulf (r41 A1) (t4 A2)) shapeCasts_S1x4096x512_S4096x512 : FVec Ideal S4096x512 .f32)⟩] concatenates_S4096x512_S4096x512_S4096x1024_d1

variable {C O W D : ℕ → ℕ → ℝ} {G : ℕ → ℝ}
  (hC : ∀ (n : Fin 4096) (k : Fin 512), A0 (ix2 n k) = ((C n k : ℝ) : EReal))
  (hO : ∀ (a : Fin 1) (n : Fin 4096) (k : Fin 512), A1 (ix3 a n k) = ((O n k : ℝ) : EReal))
  (hG : ∀ k : Fin 512, A2 (ix1 k) = ((G k : ℝ) : EReal))
  (hW : ∀ (n k : Fin 1024), A3 (ix2 n k) = ((W n k : ℝ) : EReal))
  (hD : ∀ (n : Fin 4096) (k : Fin 1024), A4 (ix2 n k) = ((D n k : ℝ) : EReal))
section
include hW hD
theorem t0_at (n : Fin 4096) (k : Fin 1024) : (t0 A3 A4 (ix2 n k) : EReal) = ((oY W D n k : ℝ) : EReal) := by
  pointwise [t0]
  exact dot_coe (fun q => hD n q) (fun q => hW k q)
theorem t2_at (a : Fin 1) (n : Fin 4096) (k : Fin 512) : (t2 A3 A4 (ix3 a n k) : EReal) = ((oY W D n (512 + k) : ℝ) : EReal) := by
  pointwise [t2]
  rw [t0_at A3 A4 hW hD]
/-- The reference's first result. -/
theorem res0 : (extractStridedSlice S4096x512 ![0, 0] (t0 A3 A4) slices_S4096x1024_S4096x512_0_0 : FVec Ideal S4096x512 .f32)
    = fun i => ((oY W D (i 0).val (i 1).val : ℝ) : EReal) := by
  funext i; idx_vars i
  pointwise
  rw [t0_at A3 A4 hW hD]
include hG in
theorem t6_at (a : Fin 1) (n : Fin 4096) (s : Fin 8) (k : Fin 64) : (t6 A2 A3 A4 (ix4 a n s k) : EReal) = ((oG W D G n (s * 64 + k) : ℝ) : EReal) := by
  pointwise [t6, t4]
  rw [t2_at A3 A4 hW hD, hG, ← EReal.coe_mul]; rfl
include hO hG in
/-- The reference's second result. -/
theorem res1 : r38 A1 (t6 A2 A3 A4) = fun i => ((gb O (oG W D G) (i 0).val (i 1).val : ℝ) : EReal) := by
  funext i; idx_vars i
  exact r38_at A1 _ hO (t6_at A2 A3 A4 hG hW hD) i0 i1
include hO in
/-- The reference's third result. -/
theorem res2 : (concatenate S8x512 0 [⟨S1x512, (broadcastInDim S1x512 ![1] bcast_S512_S1x512_1 (Host.reduceAdd (shapeCast S1x1x512 (Host.reduceAdd (mulf (r41 A1) (t2 A3 A4))
      (constant (F := Ideal) S_ .f32 0x00000000#32) reducesTo_S1x4096x512_S1x512_d1 h_S_) shapeCasts_S1x512_S1x1x512)
      (constant (F := Ideal) S_ .f32 0x00000000#32) reducesTo_S1x1x512_S512_d0_1 h_S_) : FVec Ideal S1x512 .f32)⟩,
    ⟨S7x512, (broadcastInDim S7x512 ![] bcast_S_S7x512 (constant (F := Ideal) S_ .f32 0x00000000#32) : FVec Ideal S7x512 .f32)⟩] concatenates_S1x512_S7x512_S8x512_d0 : FVec Ideal S8x512 .f32)
    = fun i => (if (i 0).val < 1 then ((∑ n : Fin 4096, oY W D n (512 + (i 1).val) * gn O n (i 1).val : ℝ) : EReal) else 0 : EReal) := by
  funext i; idx_vars i
  pointwise
  refine dite_congr rfl (fun h => ?_) fun h => rfl
  rw [red_01]
  pointwise
  simp only [r41_at A1 hO, t2_at A3 A4 hW hD, ← EReal.coe_mul]
  rw [sum_coe]
  congr 1
  exact Finset.sum_congr rfl fun n _ => mul_comm _ _
end
include hC hO hG in
theorem t51_at (n : Fin 4096) (k : Fin 1024) : (t51 A0 A1 A2 (ix2 n k) : EReal) = ((oC C O G n k : ℝ) : EReal) := by
  pointwise [t51]
  unfold oC
  by_cases h : k.val < 512
  · rw [if_pos h]
    refine (dif_pos h).trans ?_
    exact hC _ _
  · rw [if_neg h]
    refine (dif_neg h).trans ?_
    pointwise [t4]
    rw [r41_at A1 hO, hG, ← EReal.coe_mul]
include hC hO hG hD in
/-- The reference's fourth result. -/
theorem res3 : (truncf (F := Ideal) .bf16 (transpose S1024x1024 [1, 0] (Host.dotGeneral dot_S4096x1024_S4096x1024_S1024x1024_0_0_1_1_n_n none A4 (t51 A0 A1 A2)) transposes_S1024x1024_S1024x1024_1_0) bitsLt_bf16_f32 : FVec Ideal S1024x1024 .bf16)
    = fun i => ((∑ n : Fin 4096, oC C O G n (i 0).val * D n (i 1).val : ℝ) : EReal) := by
  funext i; idx_vars i
  pointwise
  refine (dot_coe (fun n => hD n i1) (fun n => t51_at A0 A1 A2 hC hO hG n i0)).trans ?_
  congr 1
  exact Finset.sum_congr rfl fun n _ => mul_comm _ _
end Cert.OutProjRefIdeal.Value
-- ==== Proof.Tiles.lean ====
/-
  A block filled by tiles: rows of four tiles of 128 columns, stored one after another.
-/
module
public import proofs.«01_k».proof.Proof.Arrays
@[expose] public section
noncomputable section
open Idealize.ShloMosaic Idealize.ShloMosaic.TcCoe
namespace Cert.Proof
section
variable {m n a b o q : ℕ} {e : EltTy} {Val : EltTy → Type}
theorem emb_at (j) (G : (⟨2, ![m, n]⟩ : Shape).Idx → Val e) (p : (⟨2, ![a, b]⟩ : Shape).Idx → Val e) (T : ℕ → ℕ → Val e)
    (hG : ∀ y : (⟨2, ![m, n]⟩ : Shape).Idx, G y = T (y 0).val (y 1).val)
    (h : ∀ (r : Fin a) (l : Fin b), p (ix2 r l) = T (o + r) (q + l)) (x : (Rect.unit (s := ⟨2, ![m, n]⟩) ![o, q] ![a, b] j).shape.Idx) :
    p x = G ((Rect.unit (s := ⟨2, ![m, n]⟩) ![o, q] ![a, b] j).emb x) := by
  change (⟨2, ![a, b]⟩ : Shape).Idx at x
  rw [hG]
  rw [eq_ix2 x]
  refine (h _ _).trans (congrArg₂ T ?_ ?_)
  · show o + (x 0).val = o + 1 * (x 0).val
    omega
  · show q + (x 1).val = q + 1 * (x 1).val
    omega
theorem in_rect (j) (y : (⟨2, ![m, n]⟩ : Shape).Idx) (h : (o ≤ (y 0).val ∧ (y 0).val < o + a) ∧ (q ≤ (y 1).val ∧ (y 1).val < q + b)) :
    y ∈ (Rect.unit (s := ⟨2, ![m, n]⟩) ![o, q] ![a, b] j).set := by
  rw [Rect.mem_set_unit]
  simp only [Fin.forall_fin_two]
  exact h
theorem not_in_rect (j) (y : (⟨2, ![m, n]⟩ : Shape).Idx) (h : ¬(o ≤ (y 0).val ∧ (y 0).val < o + a)) :
    y ∉ (Rect.unit (s := ⟨2, ![m, n]⟩) ![o, q] ![a, b] j).set := by
  rw [Rect.mem_set_unit]
  intro h'
  exact h (h' 0)
/-- One tile over the rest of the stores. -/
theorem tile_step [∀ e, Nonempty (Val e)] (p : (⟨2, ![a, b]⟩ : Shape).Idx → Val e) (j) (L : List (View.Piece Val ⟨2, ![m, n]⟩ e))
    (T : ℕ → ℕ → Val e) (y : (⟨2, ![m, n]⟩ : Shape).Idx) (h : ∀ (r : Fin a) (l : Fin b), p (ix2 r l) = T (o + r) (q + l))
    (h' : ¬((o ≤ (y 0).val ∧ (y 0).val < o + a) ∧ (q ≤ (y 1).val ∧ (y 1).val < q + b)) → View.canon L y = T (y 0).val (y 1).val) :
    View.canon (Val := Val) (s := ⟨2, ![m, n]⟩) (e := e) (⟨Rect.unit (s := ⟨2, ![m, n]⟩) ![o, q] ![a, b] j, p⟩ :: L) y = T (y 0).val (y 1).val :=
  block_step _ _ _ (fun y => T (y 0).val (y 1).val) (fun x => emb_at j (fun y => T (y 0).val (y 1).val) p T (fun _ => rfl) h x)
    fun n1 => h' fun hn => n1 (in_rect j y hn)
theorem tile_over {sig : RefSig} {κ : Kind} {sp : Space} (v : View sig κ sp ⟨2, ![m, n]⟩ e) (f : v.ty.Contents Val)
    (p : (⟨2, ![a, b]⟩ : Shape).Idx → Val e) (j) (L : List (View.Piece Val ⟨2, ![m, n]⟩ e))
    (T : ℕ → ℕ → Val e) (y : (⟨2, ![m, n]⟩ : Shape).Idx) (h : ∀ (r : Fin a) (l : Fin b), p (ix2 r l) = T (o + r) (q + l))
    (h' : ¬((o ≤ (y 0).val ∧ (y 0).val < o + a) ∧ (q ≤ (y 1).val ∧ (y 1).val < q + b)) → v.read Val (v.writes Val f L) y = T (y 0).val (y 1).val) :
    v.read Val (v.writes Val f (⟨Rect.unit (s := ⟨2, ![m, n]⟩) ![o, q] ![a, b] j, p⟩ :: L)) y = T (y 0).val (y 1).val :=
  over_step v f _ _ _ (fun y => T (y 0).val (y 1).val) (fun x => emb_at j (fun y => T (y 0).val (y 1).val) p T (fun _ => rfl) h x)
    fun n1 => h' fun hn => n1 (in_rect j y hn)
end
section
variable {m a : ℕ} {e : EltTy} {Val : EltTy → Type} (o : ℕ) (p3 p2 p1 p0 : (⟨2, ![a, 128]⟩ : Shape).Idx → Val e) (j3 j2 j1 j0)
  (L : List (View.Piece Val ⟨2, ![m, 512]⟩ e)) (T : ℕ → ℕ → Val e)
  (h3 : ∀ (r : Fin a) (l : Fin 128), p3 (ix2 r l) = T (o + r) (384 + l)) (h2 : ∀ (r : Fin a) (l : Fin 128), p2 (ix2 r l) = T (o + r) (256 + l))
  (h1 : ∀ (r : Fin a) (l : Fin 128), p1 (ix2 r l) = T (o + r) (128 + l)) (h0 : ∀ (r : Fin a) (l : Fin 128), p0 (ix2 r l) = T (o + r) (0 + l))
  (y : (⟨2, ![m, 512]⟩ : Shape).Idx)
include h3 h2 h1 h0
/-- A row of four tiles over the rest of the stores. -/
theorem tiles_step [∀ e, Nonempty (Val e)] (h' : ¬(o ≤ (y 0).val ∧ (y 0).val < o + a) → View.canon L y = T (y 0).val (y 1).val) :
    View.canon (Val := Val) (s := ⟨2, ![m, 512]⟩) (e := e) (⟨Rect.unit (s := ⟨2, ![m, 512]⟩) ![o, 384] ![a, 128] j3, p3⟩
      :: ⟨Rect.unit (s := ⟨2, ![m, 512]⟩) ![o, 256] ![a, 128] j2, p2⟩ :: ⟨Rect.unit (s := ⟨2, ![m, 512]⟩) ![o, 128] ![a, 128] j1, p1⟩
      :: ⟨Rect.unit (s := ⟨2, ![m, 512]⟩) ![o, 0] ![a, 128] j0, p0⟩ :: L) y = T (y 0).val (y 1).val := by
  refine tile_step p3 j3 _ T y h3 fun n3 => tile_step p2 j2 _ T y h2 fun n2 => tile_step p1 j1 _ T y h1 fun n1 => tile_step p0 j0 _ T y h0 fun n0 => h' fun hr => ?_
  have b1 : (y 1).val < 512 := (y 1).isLt
  simp only [hr, true_and] at n3 n2 n1 n0
  omega
theorem tiles_over {sig : RefSig} {κ : Kind} {sp : Space} (v : View sig κ sp ⟨2, ![m, 512]⟩ e) (f : v.ty.Contents Val)
    (h' : ¬(o ≤ (y 0).val ∧ (y 0).val < o + a) → v.read Val (v.writes Val f L) y = T (y 0).val (y 1).val) :
    v.read Val (v.writes Val f (⟨Rect.unit (s := ⟨2, ![m, 512]⟩) ![o, 384] ![a, 128] j3, p3⟩
      :: ⟨Rect.unit (s := ⟨2, ![m, 512]⟩) ![o, 256] ![a, 128] j2, p2⟩ :: ⟨Rect.unit (s := ⟨2, ![m, 512]⟩) ![o, 128] ![a, 128] j1, p1⟩
      :: ⟨Rect.unit (s := ⟨2, ![m, 512]⟩) ![o, 0] ![a, 128] j0, p0⟩ :: L)) y = T (y 0).val (y 1).val := by
  refine tile_over v f p3 j3 _ T y h3 fun n3 => tile_over v f p2 j2 _ T y h2 fun n2 => tile_over v f p1 j1 _ T y h1 fun n1 =>
    tile_over v f p0 j0 _ T y h0 fun n0 => h' fun hr => ?_
  have b1 : (y 1).val < 512 := (y 1).isLt
  simp only [hr, true_and] at n3 n2 n1 n0
  omega
end
section
variable {m n a b o q : ℕ} {e : EltTy} {Val : EltTy → Type}
theorem skip_one {s : Shape} [∀ e, Nonempty (Val e)] (r : Rect s) (w : r.shape.Idx → Val e) (L : List (View.Piece Val s e)) (y : s.Idx) (h : y ∉ r.set) :
    View.canon (⟨r, w⟩ :: L) y = View.canon L y := View.canon_cons_of_not_mem _ _ h
theorem skip_one_over {sig : RefSig} {κ : Kind} {sp : Space} {s : Shape} (v : View sig κ sp s e) (f : v.ty.Contents Val) (r : Rect s) (w : r.shape.Idx → Val e)
    (L : List (View.Piece Val s e)) (y : s.Idx) (h : y ∉ r.set) : v.read Val (v.writes Val f (⟨r, w⟩ :: L)) y = v.read Val (v.writes Val f L) y :=
  View.read_writes_cons_miss v f _ L y h
/-- Below the rows of the newest store, the rest of the stores is read. -/
theorem skip_rows [∀ e, Nonempty (Val e)] (p : (⟨2, ![a, b]⟩ : Shape).Idx → Val e) (j) (L : List (View.Piece Val ⟨2, ![m, n]⟩ e))
    (y : (⟨2, ![m, n]⟩ : Shape).Idx) (z : Val e) (h : ¬(o ≤ (y 0).val ∧ (y 0).val < o + a)) (h' : View.canon L y = z) :
    View.canon (Val := Val) (s := ⟨2, ![m, n]⟩) (e := e) (⟨Rect.unit (s := ⟨2, ![m, n]⟩) ![o, q] ![a, b] j, p⟩ :: L) y = z :=
  (skip_one (Rect.unit (s := ⟨2, ![m, n]⟩) ![o, q] ![a, b] j) p L y (not_in_rect j y h)).trans h'
theorem skip_rows_over {sig : RefSig} {κ : Kind} {sp : Space} (v : View sig κ sp ⟨2, ![m, n]⟩ e) (f : v.ty.Contents Val)
    (p : (⟨2, ![a, b]⟩ : Shape).Idx → Val e) (j) (L : List (View.Piece Val ⟨2, ![m, n]⟩ e))
    (y : (⟨2, ![m, n]⟩ : Shape).Idx) (z : Val e) (h : ¬(o ≤ (y 0).val ∧ (y 0).val < o + a)) (h' : v.read Val (v.writes Val f L) y = z) :
    v.read Val (v.writes Val f (⟨Rect.unit (s := ⟨2, ![m, n]⟩) ![o, q] ![a, b] j, p⟩ :: L)) y = z :=
  (skip_one_over v f (Rect.unit (s := ⟨2, ![m, n]⟩) ![o, q] ![a, b] j) p L y (not_in_rect j y h)).trans h'
end
end Cert.Proof
-- ==== Proof.OutProj.lean ====
/-
  The mixer's output product with the attention heads' norm: what the kernel's blocks hold.
-/
module
public import proofs.«01_k».proof.Defs
public import proofs.«01_k».proof.Proof.Gen.OutProjIdeal.Value
public import proofs.«01_k».proof.Proof.OutProjRef
public import proofs.«01_k».proof.Proof.Tiles
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem
open Idealize.ShloMosaic.Pipeline (Dat)
namespace Cert.OutProjIdeal.Val
open Cert.OutProjIdeal Cert.OutProjIdeal.Gen Cert.Proof ConvReal
open Cert.KernelIdeal.Tile (eps eps_pos eps_bits sixtyfourth_bits coe_sum lmean_sq)
open Cert.ReferenceIdeal.Value (sixtyfour_bits div_real)

section Tile
abbrev Big := FVec Ideal S256x128 .f32
/-- The mean over groups of 64 channels. -/
def tMean (v : Big) : Big :=
  mulf (addf (matmul dot_S256x128_S128x128_S256x128_1_0_0_1_n_n none (truncf .bf16 v bitsLt_bf16_f32) (k0_pay2 (F := Ideal)) (constant S256x128 .f32 0x00000000#32))
    (matmul dot_S256x128_S128x128_S256x128_1_0_0_1_n_n none
      (truncf .bf16 (subf v (extf .f32 (truncf .bf16 v bitsLt_bf16_f32 : FVec Ideal S256x128 .bf16) bitsLt_bf16_f32)) bitsLt_bf16_f32)
      (k0_pay2 (F := Ideal)) (constant S256x128 .f32 0x00000000#32)))
    (broadcast S256x128 (Scalar.ofBits .f32 0x3C800000#32))
variable (x y : Big) (g : Vec Ideal S1x1x128 .f32) (acc : Vec Ideal S1x128 .f32)
def tRs : Big := rsqrt (addf (tMean (mulf x x)) (broadcast S256x128 (Scalar.ofBits .f32 0x358637BD#32)))
def tXn : Big := mulf x (tRs x)
def tGd : Big := mulf y (broadcastTo S256x128 (shapeCast S1x128 g shapeCasts_S1x1x128_S1x128) broadcasts_S1x128_S256x128)
def tDo : Big := mulf (tRs x) (subf (tGd y g) (mulf (tXn x) (tMean (mulf (tXn x) (tGd y g)))))
def tDg : FVec Ideal S1x128 .f32 := addf (shapeCast S1x128 acc shapeCasts_S1x128_S1x128)
  (shapeCast S1x128 (multiReduction .add [0] S128 (mulf y (tXn x)) 0x00000000#32 reduces_S256x128_S128 (.inl rfl) rfl) shapeCasts_S128_S1x128)

/-- A tile's entries are the given reals. -/
def Is (V : Big) (v : ℕ → Fin 128 → ℝ) : Prop := ∀ (e : Fin 256) (l : Fin 128), V (ix2 e l) = ((v e l : ℝ) : EReal)
theorem is_mul {A B : Big} {a b : ℕ → Fin 128 → ℝ} (hA : Is A a) (hB : Is B b) : Is (mulf A B) (fun e l => a e l * b e l) := by
  intro e l; pointwise; rw [hA, hB, EReal.coe_mul]
theorem is_sub {A B : Big} {a b : ℕ → Fin 128 → ℝ} (hA : Is A a) (hB : Is B b) : Is (subf A B) (fun e l => a e l - b e l) := by
  intro e l; pointwise; rw [hA, hB, EReal.coe_sub]
theorem groups (k l : Fin 128) : k0_pay2 (F := Ideal) (ix2 k l) = if (k : ℕ) / 64 = (l : ℕ) / 64 then 1 else 0 := by
  pointwise [k0_pay2]
  have h : ∀ k l : Fin 128, IntOp.cmpi CmpIPredicate.eq (IntOp.shrsi ArithUnit.vector (BitVec.ofNat 32 ↑k) 6#32)
      (IntOp.shrsi ArithUnit.vector (BitVec.ofNat 32 ↑l) 6#32) = if (k : ℕ) / 64 = (l : ℕ) / 64 then 1#1 else 0#1 := by
    decide +kernel
  rw [h]; split <;> rfl
theorem is_mean {A : Big} {a : ℕ → Fin 128 → ℝ} (hA : Is A a) : Is (tMean A) (lmean a) := by
  intro e l; pointwise [tMean]; simp only [hA _ _, groups]
  have h0 : ∀ x : Fin 128, (((a e x : ℝ) : EReal) - ((a e x : ℝ) : EReal)) * (if (x : ℕ) / 64 = (l : ℕ) / 64 then (1 : EReal) else 0) = 0 := by
    intro x; rw [← EReal.coe_sub, sub_self, EReal.coe_zero, zero_mul]
  have h1 : ∀ x : Fin 128, ((a e x : ℝ) : EReal) * (if (x : ℕ) / 64 = (l : ℕ) / 64 then (1 : EReal) else 0)
      = ((a e x * (if (x : ℕ) / 64 = (l : ℕ) / 64 then 1 else 0) : ℝ) : EReal) := by
    intro x; split <;> simp
  simp only [h0, h1, Finset.sum_const_zero, add_zero]
  rw [sixtyfourth_bits, ← coe_sum, ← EReal.coe_mul]; rfl

variable {x y g} {X Y : ℕ → Fin 128 → ℝ} {G : Fin 128 → ℝ} (hx : Is x X) (hy : Is y Y) (hg : ∀ l : Fin 128, g (ix3 0 0 l) = ((G l : ℝ) : EReal))
include hx in
theorem is_Rs : Is (tRs x) (fun e l => (√(lmean (fun e l => X e l * X e l) e l + eps))⁻¹) := by
  intro e l
  have hm := is_mean (is_mul hx hx) e l
  pointwise [tRs]; rw [hm, eps_bits, ← EReal.coe_add]
  exact rsqrt_pos (add_pos_of_nonneg_of_pos (lmean_sq X e l) eps_pos)
include hx in
theorem is_Xn : Is (tXn x) (fun e l => X e l * (√(lmean (fun e l => X e l * X e l) e l + eps))⁻¹) := is_mul hx (is_Rs hx)
include hy hg in
theorem is_Gd : Is (tGd y g) (fun e l => Y e l * G l) := by
  intro e l; pointwise [tGd]; rw [hy]
  refine (congrArg (fun b : EReal => _ * b) (hg l)).trans (EReal.coe_mul _ _).symm
include hx hy hg in
theorem is_Do : Is (tDo x y g) (fun e l => (√(lmean (fun e l => X e l * X e l) e l + eps))⁻¹ * (Y e l * G l
    - X e l * (√(lmean (fun e l => X e l * X e l) e l + eps))⁻¹
      * lmean (fun e l => X e l * (√(lmean (fun e l => X e l * X e l) e l + eps))⁻¹ * (Y e l * G l)) e l)) :=
  is_mul (is_Rs hx) (is_sub (is_Gd hy hg) (is_mul (is_Xn hx) (is_mean (is_mul (is_Xn hx) (is_Gd hy hg)))))
include hx hy in
theorem is_Dg (z : Fin 1) (l : Fin 128) : (tDg x y acc (ix2 z l) : EReal)
    = acc (ix2 z l) + ((∑ e : Fin 256, Y e l * (X e l * (√(lmean (fun e l => X e l * X e l) e l + eps))⁻¹) : ℝ) : EReal) := by
  pointwise [tDg]
  have h := is_mul hy (is_Xn hx)
  refine congrArg (fun b : EReal => _ + b) ?_
  rw [coe_sum]
  refine Finset.sum_congr (M := EReal) rfl fun e _ => (congrArg₂ (fun a b : EReal => a * b) (hy e l) (is_Xn hx e l)).trans (EReal.coe_mul _ _).symm

/-- The same in the rows and channels of the whole arrays. -/
theorem do_rows {O U : ℕ → ℕ → ℝ} (n j : ℕ) (e : Fin 256) (l : Fin 128) (hX : ∀ k, X e k = O n (128 * j + k))
    (hY : ∀ k, Y e k * G k = U n (128 * j + k)) :
    (√(lmean (fun e l => X e l * X e l) e l + eps))⁻¹ * (Y e l * G l - X e l * (√(lmean (fun e l => X e l * X e l) e l + eps))⁻¹
      * lmean (fun e l => X e l * (√(lmean (fun e l => X e l * X e l) e l + eps))⁻¹ * (Y e l * G l)) e l) = gb O U n (128 * j + l) := by
  have h1 : ∀ l : Fin 128, (√(lmean (fun e l => X e l * X e l) e l + eps))⁻¹ = gr O n (128 * j + l) := fun l => by
    unfold gr
    rw [lmean_eq (fun e l => X e l * X e l) (fun n c => O n c * O n c) e n j l fun k => by rw [hX]]
  have h2 : lmean (fun e l => X e l * (√(lmean (fun e l => X e l * X e l) e l + eps))⁻¹ * (Y e l * G l)) e l
      = mean (fun n c => gn O n c * U n c) n (128 * j + l) := by
    refine lmean_eq _ _ e n j l fun k => ?_
    rw [h1 k, hX, hY]; rfl
  rw [h2, h1 l, hX, hY]; rfl
theorem dg_rows {O : ℕ → ℕ → ℝ} (n j : ℕ) (e : Fin 256) (l : Fin 128) (hX : ∀ k, X e k = O n (128 * j + k)) :
    X e l * (√(lmean (fun e l => X e l * X e l) e l + eps))⁻¹ = gn O n (128 * j + l) := by
  have h1 : (√(lmean (fun e l => X e l * X e l) e l + eps))⁻¹ = gr O n (128 * j + l) := by
    unfold gr
    rw [lmean_eq (fun e l => X e l * X e l) (fun n c => O n c * O n c) e n j l fun k => by rw [hX]]
  rw [h1, hX]; rfl
end Tile

variable (m : (ℓ : Loc nD τ sig) → Buf (Elt Ideal) ℓ) (c : Dev nD) {C O W D : ℕ → ℕ → ℝ} {G : ℕ → ℝ}
  (hC : ∀ (n : Fin 4096) (k : Fin 512), m ((c.tc : Thread nD τ).loc main_arg0) (ix2 n k) = ((C n k : ℝ) : EReal))
  (hO : ∀ (a : Fin 1) (n : Fin 4096) (k : Fin 512), m ((c.tc : Thread nD τ).loc main_arg1) (ix3 a n k) = ((O n k : ℝ) : EReal))
  (hG : ∀ k : Fin 512, m ((c.tc : Thread nD τ).loc main_arg2) (ix1 k) = ((G k : ℝ) : EReal))
  (hW : ∀ (n k : Fin 1024), m ((c.tc : Thread nD τ).loc main_arg3) (ix2 n k) = ((W n k : ℝ) : EReal))
  (hD : ∀ (n : Fin 4096) (k : Fin 1024), m ((c.tc : Thread nD τ).loc main_arg4) (ix2 n k) = ((D n k : ℝ) : EReal))

theorem idx : ∀ t : Fin cfg0.N, win0_0.index t = ![t.val, 0] ∧ win0_1.index t = ![0, 0] ∧ win0_2.index t = ![t.val, 0]
    ∧ win0_3.index t = ![0, 0, 0] ∧ win0_4.index t = ![t.val, 0] ∧ win0_5.index t = ![t.val, 0] ∧ win0_6.index t = ![t.val, 0]
    ∧ win0_7.index t = ![t.val, 0] ∧ win0_8.index t = ![0, 0] ∧ win0_9.index t = ![0, 0] :=
  (by decide +kernel : ∀ t : Fin grid0.N, _)
theorem lt4 (t : Fin cfg0.N) : t.val < 4 := t.isLt

theorem ent0 (n : Fin 4096) (q : Fin 1024) : V m c (Pipeline.arrRef spec0 0) (ix2 n q) = m ((c.tc : Thread nD τ).loc main_arg4) (ix2 n q) := by
  entry_read; pointwise
theorem ent1 (n q : Fin 1024) : V m c (Pipeline.arrRef spec0 1) (ix2 n q) = m ((c.tc : Thread nD τ).loc main_arg3) (ix2 n q) := by
  entry_read; pointwise
include hO in
theorem ent2 (n : Fin 4096) (k : Fin 512) : (V m c (Pipeline.arrRef spec0 2) (ix2 n k) : EReal) = ((O n k : ℝ) : EReal) := by
  entry_read; pointwise
  exact hO _ _ _
include hG in
theorem ent3 (a b : Fin 1) (k : Fin 512) : (V m c (Pipeline.arrRef spec0 3) (ix3 a b k) : EReal) = ((G k : ℝ) : EReal) := by
  entry_read; pointwise
  exact hG _
theorem ent4 (n : Fin 4096) (q : Fin 512) : V m c (Pipeline.arrRef spec0 4) (ix2 n q) = m ((c.tc : Thread nD τ).loc main_arg0) (ix2 n q) := by
  entry_read; pointwise
include hO hG in
theorem ent5 (n : Fin 4096) (k : Fin 512) : (V m c (Pipeline.arrRef spec0 5) (ix2 n k) : EReal) = ((gn O n k * G k : ℝ) : EReal) := by
  entry_read; pointwise
  simp only [hO, hG, ← EReal.coe_mul]
  rw [← coe_sum, sixtyfour_bits, eps_bits, div_real (by norm_num), ← EReal.coe_add]
  rw [show (∑ i : Fin 64, O n ((k : ℕ) / 64 * 64 + i) * O n ((k : ℕ) / 64 * 64 + i)) / 64 = mean (fun n c => O n c * O n c) n (64 * ((k : ℕ) / 64))
    from (mean_sum (fun n c => O n c * O n c) n ((k : ℕ) / 64)).symm, rsqrt_pos (gr_pos _ _ _), ← EReal.coe_mul, ← EReal.coe_mul]
  congr 2
  unfold gn gr
  rw [mean_group, show (k : ℕ) / 64 * 64 + k % 64 = k by omega]

theorem blk0 (t : Fin cfg0.N) (r q : Fin 1024) :
    iblk m c 0 t (ix2 r q) = V m c (Pipeline.arrRef spec0 0) (ix2 ⟨1024 * t.val + r, by have := lt4 t; omega⟩ q) := by
  blk_point [iblk, idx t]
theorem blk1 (t : Fin cfg0.N) (r q : Fin 1024) : iblk m c 1 t (ix2 r q) = V m c (Pipeline.arrRef spec0 1) (ix2 r q) := by
  blk_point [iblk, idx t]
theorem blk2 (t : Fin cfg0.N) (r : Fin 1024) (q : Fin 512) :
    iblk m c 2 t (ix2 r q) = V m c (Pipeline.arrRef spec0 2) (ix2 ⟨1024 * t.val + r, by have := lt4 t; omega⟩ q) := by
  blk_point [iblk, idx t]
theorem blk3 (t : Fin cfg0.N) (a b : Fin 1) (q : Fin 512) : iblk m c 3 t (ix3 a b q) = V m c (Pipeline.arrRef spec0 3) (ix3 a b q) := by
  blk_point [iblk, idx t]
theorem blk4 (t : Fin cfg0.N) (r : Fin 1024) (q : Fin 512) :
    iblk m c 4 t (ix2 r q) = V m c (Pipeline.arrRef spec0 4) (ix2 ⟨1024 * t.val + r, by have := lt4 t; omega⟩ q) := by
  blk_point [iblk, idx t]
theorem blk5 (t : Fin cfg0.N) (r : Fin 1024) (q : Fin 512) :
    iblk m c 5 t (ix2 r q) = V m c (Pipeline.arrRef spec0 5) (ix2 ⟨1024 * t.val + r, by have := lt4 t; omega⟩ q) := by
  blk_point [iblk, idx t]

include hD in
theorem in0 (t : Fin cfg0.N) (r q : Fin 1024) : (iblk m c 0 t (ix2 r q) : EReal) = ((D (1024 * t.val + r) q : ℝ) : EReal) := by
  rw [blk0, ent0, hD]
include hW in
theorem in1 (t : Fin cfg0.N) (k q : Fin 1024) : (iblk m c 1 t (ix2 k q) : EReal) = ((W k q : ℝ) : EReal) := by
  rw [blk1, ent1, hW]
include hO in
theorem in2 (t : Fin cfg0.N) (r : Fin 1024) (k : Fin 512) : (iblk m c 2 t (ix2 r k) : EReal) = ((O (1024 * t.val + r) k : ℝ) : EReal) := by
  rw [blk2, ent2 m c hO]
include hG in
theorem in3 (t : Fin cfg0.N) (a b : Fin 1) (k : Fin 512) : (iblk m c 3 t (ix3 a b k) : EReal) = ((G k : ℝ) : EReal) := by
  rw [blk3, ent3 m c hG]
include hC in
theorem in4 (t : Fin cfg0.N) (r : Fin 1024) (k : Fin 512) : (iblk m c 4 t (ix2 r k) : EReal) = ((C (1024 * t.val + r) k : ℝ) : EReal) := by
  rw [blk4, ent4, hC]
include hO hG in
theorem in5 (t : Fin cfg0.N) (r : Fin 1024) (k : Fin 512) : (iblk m c 5 t (ix2 r k) : EReal)
    = ((gn O (1024 * t.val + r) k * G k : ℝ) : EReal) := by
  rw [blk5, ent5 m c hO hG]

section Part
variable (t : Fin cfg0.N) (o : ℕ) (ho : o + 256 ≤ 1024) (j : ℕ) (hj : j < 4) (ja)
/-- The product on 256 of a block's rows. -/
abbrev yT : FVec Ideal S256x1024 .f32 := k0_pay9 (View.ld (iblk m c 0 t) (Rect.unit (s := S1024x1024) ![o, 0] ![256, 1024] ja)) (iblk m c 1 t)
include ho hW hD in
theorem y_part (r : Fin 256) (k : Fin 1024) : (yT m c t o ja (ix2 r k) : EReal) = ((oY W D (1024 * t.val + (o + r)) k : ℝ) : EReal) := by
  pointwise [yT, k0_pay9]
  exact dot_coe (fun q => in0 m c hD t ⟨o + r, by omega⟩ q) (fun q => in1 m c hW t k q)
theorem slice_at (p : ℕ) (v : FVec Ideal S256x1024 .f32) (hs) (r : Fin 256) (l : Fin 128) (k : Fin 1024) (hk : k.val = p + l) :
    extractStridedSlice S256x128 ![0, p] v hs (ix2 r l) = v (ix2 r k) := by
  refine congrArg v (funext fun a => ?_)
  match a with
  | ⟨0, _⟩ => exact Fin.ext (by show 0 + r.val = r.val; omega)
  | ⟨1, _⟩ => exact Fin.ext (by show p + l.val = k.val; omega)
variable (p u : ℕ) (hp : p = 128 * j) (hu : u = 512 + p) (jx js jg)
/-- A tile of the heads' rows, of the product and of the gain. -/
abbrev xT : Big := shapeCast S256x128 (View.ld (iblk m c 2 t) (Rect.unit (s := S1024x512) ![o, p] ![256, 128] jx)) shapeCasts_S256x128_S256x128
abbrev uT : Big := extractStridedSlice S256x128 ![0, u] (yT m c t o ja) js
abbrev gT : Vec Ideal S1x1x128 .f32 := View.ld (iblk m c 3 t) (Rect.unit (s := S1x1x512) ![0, 0, p] ![1, 1, 128] jg)
include ho hj hp hO in
theorem x_part : Is (xT m c t o p jx) (fun e l => O (1024 * t.val + (o + e)) (128 * j + l)) := by
  intro e l
  pointwise [xT]
  refine (in2 m c hO t _ _).trans ?_
  refine congrArg (fun k : ℕ => ((O (1024 * t.val + (o + e)) k : ℝ) : EReal)) ?_
  show p + l.val = 128 * j + l.val
  omega
include ho hj hp hu hW hD in
theorem u_part : Is (uT m c t o ja u js) (fun e l => oY W D (1024 * t.val + (o + e)) (512 + (128 * j + l))) := by
  intro e l
  have hl : u + l.val < 1024 := by omega
  have h1 := slice_at u (yT m c t o ja) js e l ⟨u + l.val, hl⟩ rfl
  have h2 := y_part m c hW hD t o ho ja e ⟨u + l.val, hl⟩
  refine h1.trans (h2.trans ?_)
  refine congrArg (fun k : ℕ => ((oY W D (1024 * t.val + (o + e)) k : ℝ) : EReal)) ?_
  show u + l.val = 512 + (128 * j + l.val)
  omega
include hj hp hG in
theorem g_part (l : Fin 128) : (gT m c t p jg (ix3 0 0 l) : EReal) = ((G (128 * j + l) : ℝ) : EReal) := by
  refine (ld3 (Val := Elt Ideal) _ _ 0 0 l 0 0 ⟨p + l, by omega⟩ rfl rfl (by dsimp only)).trans ((in3 m c hG t _ _ _).trans ?_)
  refine congrArg (fun k : ℕ => ((G k : ℝ) : EReal)) ?_
  show p + l.val = 128 * j + l.val
  omega
include ho hj hp hu hO hG hW hD in
/-- A stored tile of the heads' cotangent. -/
theorem do_part (e : Fin 256) (l : Fin 128) : (tDo (xT m c t o p jx) (uT m c t o ja u js) (gT m c t p jg) (ix2 e l) : EReal)
    = ((gb O (oG W D G) (1024 * t.val + (o + e)) (p + l) : ℝ) : EReal) := by
  refine (is_Do (x_part m c hO t o ho j hj p hp jx) (u_part m c hW hD t o ho j hj ja p u hp hu js) (g_part m c hG t j hj p hp jg) e l).trans ?_
  rw [hp]
  exact congrArg (fun b : ℝ => (b : EReal)) (do_rows (X := fun e l => O (1024 * t.val + (o + e)) (128 * j + l))
    (Y := fun e l => oY W D (1024 * t.val + (o + e)) (512 + (128 * j + l))) (G := fun l => G (128 * j + l)) (1024 * t.val + (o + e)) j e l (fun _ => rfl) fun _ => rfl)
include ho hj hp hu hO hW hD in
/-- A stored row of the gain's gradient. -/
theorem dg_part (acc : Vec Ideal S1x128 .f32) (z : Fin 1) (l : Fin 128) : (tDg (xT m c t o p jx) (uT m c t o ja u js) acc (ix2 z l) : EReal)
    = acc (ix2 z l) + ((∑ e : Fin 256, oY W D (1024 * t.val + (o + e)) (512 + (p + l)) * gn O (1024 * t.val + (o + e)) (p + l) : ℝ) : EReal) := by
  refine (is_Dg acc (x_part m c hO t o ho j hj p hp jx) (u_part m c hW hD t o ho j hj ja p u hp hu js) z l).trans ?_
  rw [hp]
  refine congrArg (fun b : ℝ => _ + (b : EReal)) (Finset.sum_congr rfl fun e _ => ?_)
  exact congrArg (fun b : ℝ => _ * b) (dg_rows (X := fun e l => O (1024 * t.val + (o + e)) (128 * j + l)) (1024 * t.val + (o + e)) j e l fun _ => rfl)
end Part
end Cert.OutProjIdeal.Val
-- ==== Proof.OutProjAcc.lean ====
/-
  The mixer's output product with the attention heads' norm: the kernel's results.
-/
module
public import proofs.«01_k».proof.Proof.OutProj
@[expose] public section
set_option maxRecDepth 16384
noncomputable section
open Idealize.ShloMosaic Idealize.ShloMosaic.TcCoe Idealize.SL.Sem
open Idealize.ShloMosaic.Pipeline (Dat)
namespace Cert.OutProjIdeal.Val
open Cert.OutProjIdeal Cert.OutProjIdeal.Gen Cert.Proof

variable (m : (ℓ : Loc nD τ sig) → Buf (Elt Ideal) ℓ) (c : Dev nD) {C O W D : ℕ → ℕ → ℝ} {G : ℕ → ℝ}
  (hC : ∀ (n : Fin 4096) (k : Fin 512), m ((c.tc : Thread nD τ).loc main_arg0) (ix2 n k) = ((C n k : ℝ) : EReal))
  (hO : ∀ (a : Fin 1) (n : Fin 4096) (k : Fin 512), m ((c.tc : Thread nD τ).loc main_arg1) (ix3 a n k) = ((O n k : ℝ) : EReal))
  (hG : ∀ k : Fin 512, m ((c.tc : Thread nD τ).loc main_arg2) (ix1 k) = ((G k : ℝ) : EReal))
  (hW : ∀ (n k : Fin 1024), m ((c.tc : Thread nD τ).loc main_arg3) (ix2 n k) = ((W n k : ℝ) : EReal))
  (hD : ∀ (n : Fin 4096) (k : Fin 1024), m ((c.tc : Thread nD τ).loc main_arg4) (ix2 n k) = ((D n k : ℝ) : EReal))

include hW hD in
theorem dyc_part (t : Fin cfg0.N) (o : ℕ) (ho : o + 256 ≤ 1024) (ja js) (r : Fin 256) (l : Fin 512) :
    (extractStridedSlice S256x512 ![0, 0] (yT m c t o ja) js (ix2 r l) : EReal) = ((oY W D (1024 * t.val + (o + r)) (0 + l) : ℝ) : EReal) := by
  have h1 : extractStridedSlice S256x512 ![0, 0] (yT m c t o ja) js (ix2 r l) = yT m c t o ja (ix2 r ⟨0 + l.val, by omega⟩) := by
    refine congrArg (yT m c t o ja) (funext fun a => ?_)
    match a with
    | ⟨0, _⟩ => exact Fin.ext (by show 0 + r.val = r.val; omega)
    | ⟨1, _⟩ => exact Fin.ext (by show 0 + l.val = 0 + l.val; omega)
  exact h1.trans (y_part m c hW hD t o ho ja r ⟨0 + l.val, by omega⟩)
include hW hD in
theorem point6 (t : Fin cfg0.N) (y : S1024x512.Idx) : ((outsAt0 m c t.val t.isLt).1 y : EReal)
    = ((oY W D (1024 * t.val + (y 0).val) (y 1).val : ℝ) : EReal) := by
  have b0 : (y 0).val < 1024 := (y 0).isLt
  have b1 : (y 1).val < 512 := (y 1).isLt
  let T : ℕ → ℕ → Elt Ideal .f32 := fun n k => ((oY W D (1024 * t.val + n) k : ℝ) : EReal)
  by_cases h0 : t.val % 4 = 0
  · rw [outsAt0_A m c t h0 (by omega)]; frame_out
    change _ = T (y 0).val (y 1).val
    refine tile_step _ _ _ T y (fun r l => dyc_part m c hW hD t 768 (by omega) _ slices_S256x1024_o0_0_S256x512 r l) fun n3 => ?_
    refine tile_step _ _ _ T y (fun r l => dyc_part m c hW hD t 512 (by omega) _ slices_S256x1024_o0_0_S256x512 r l) fun n2 => ?_
    refine tile_step _ _ _ T y (fun r l => dyc_part m c hW hD t 256 (by omega) _ slices_S256x1024_o0_0_S256x512 r l) fun n1 => ?_
    refine tile_step _ _ _ T y (fun r l => dyc_part m c hW hD t 0 (by omega) _ slices_S256x1024_o0_0_S256x512 r l) fun n0 => ?_
    omega
  by_cases h1 : t.val % 4 = 3
  · rw [outsAt0_C m c t h0 h1]; frame_out
    change _ = T (y 0).val (y 1).val
    refine tile_step _ _ _ T y (fun r l => dyc_part m c hW hD t 768 (by omega) _ slices_S256x1024_o0_0_S256x512 r l) fun n3 => ?_
    refine tile_step _ _ _ T y (fun r l => dyc_part m c hW hD t 512 (by omega) _ slices_S256x1024_o0_0_S256x512 r l) fun n2 => ?_
    refine tile_step _ _ _ T y (fun r l => dyc_part m c hW hD t 256 (by omega) _ slices_S256x1024_o0_0_S256x512 r l) fun n1 => ?_
    refine tile_step _ _ _ T y (fun r l => dyc_part m c hW hD t 0 (by omega) _ slices_S256x1024_o0_0_S256x512 r l) fun n0 => ?_
    omega
  · rw [outsAt0_B m c t h0 h1]; frame_out
    change _ = T (y 0).val (y 1).val
    refine tile_step _ _ _ T y (fun r l => dyc_part m c hW hD t 768 (by omega) _ slices_S256x1024_o0_0_S256x512 r l) fun n3 => ?_
    refine tile_step _ _ _ T y (fun r l => dyc_part m c hW hD t 512 (by omega) _ slices_S256x1024_o0_0_S256x512 r l) fun n2 => ?_
    refine tile_step _ _ _ T y (fun r l => dyc_part m c hW hD t 256 (by omega) _ slices_S256x1024_o0_0_S256x512 r l) fun n1 => ?_
    refine tile_step _ _ _ T y (fun r l => dyc_part m c hW hD t 0 (by omega) _ slices_S256x1024_o0_0_S256x512 r l) fun n0 => ?_
    omega
include hO hG hW hD in
theorem point7 (t : Fin cfg0.N) (y : S1024x512.Idx) : ((outsAt0 m c t.val t.isLt).2.1 y : EReal)
    = ((gb O (oG W D G) (1024 * t.val + (y 0).val) (y 1).val : ℝ) : EReal) := by
  have b0 : (y 0).val < 1024 := (y 0).isLt
  let T : ℕ → ℕ → Elt Ideal .f32 := fun n k => ((gb O (oG W D G) (1024 * t.val + n) k : ℝ) : EReal)
  by_cases h0 : t.val % 4 = 0
  · rw [outsAt0_A m c t h0 (by omega)]; frame_out
    change _ = T (y 0).val (y 1).val
    refine tiles_step 768 _ _ _ _ _ _ _ _ _ T
      (fun r l => do_part m c hO hG hW hD t 768 (by omega) 3 (by omega) _ 384 896 (by omega) (by omega) _ slices_S256x1024_o0_896_S256x128 _ r l)
      (fun r l => do_part m c hO hG hW hD t 768 (by omega) 2 (by omega) _ 256 768 (by omega) (by omega) _ slices_S256x1024_o0_768_S256x128 _ r l)
      (fun r l => do_part m c hO hG hW hD t 768 (by omega) 1 (by omega) _ 128 640 (by omega) (by omega) _ slices_S256x1024_o0_640_S256x128 _ r l)
      (fun r l => do_part m c hO hG hW hD t 768 (by omega) 0 (by omega) _ 0 512 (by omega) (by omega) _ slices_S256x1024_o0_512_S256x128 _ r l)
      y fun n3 => ?_
    refine tiles_step 512 _ _ _ _ _ _ _ _ _ T
      (fun r l => do_part m c hO hG hW hD t 512 (by omega) 3 (by omega) _ 384 896 (by omega) (by omega) _ slices_S256x1024_o0_896_S256x128 _ r l)
      (fun r l => do_part m c hO hG hW hD t 512 (by omega) 2 (by omega) _ 256 768 (by omega) (by omega) _ slices_S256x1024_o0_768_S256x128 _ r l)
      (fun r l => do_part m c hO hG hW hD t 512 (by omega) 1 (by omega) _ 128 640 (by omega) (by omega) _ slices_S256x1024_o0_640_S256x128 _ r l)
      (fun r l => do_part m c hO hG hW hD t 512 (by omega) 0 (by omega) _ 0 512 (by omega) (by omega) _ slices_S256x1024_o0_512_S256x128 _ r l)
      y fun n2 => ?_
    refine tiles_step 256 _ _ _ _ _ _ _ _ _ T
      (fun r l => do_part m c hO hG hW hD t 256 (by omega) 3 (by omega) _ 384 896 (by omega) (by omega) _ slices_S256x1024_o0_896_S256x128 _ r l)
      (fun r l => do_part m c hO hG hW hD t 256 (by omega) 2 (by omega) _ 256 768 (by omega) (by omega) _ slices_S256x1024_o0_768_S256x128 _ r l)
      (fun r l => do_part m c hO hG hW hD t 256 (by omega) 1 (by omega) _ 128 640 (by omega) (by omega) _ slices_S256x1024_o0_640_S256x128 _ r l)
      (fun r l => do_part m c hO hG hW hD t 256 (by omega) 0 (by omega) _ 0 512 (by omega) (by omega) _ slices_S256x1024_o0_512_S256x128 _ r l)
      y fun n1 => ?_
    refine tiles_step 0 _ _ _ _ _ _ _ _ _ T
      (fun r l => do_part m c hO hG hW hD t 0 (by omega) 3 (by omega) _ 384 896 (by omega) (by omega) _ slices_S256x1024_o0_896_S256x128 _ r l)
      (fun r l => do_part m c hO hG hW hD t 0 (by omega) 2 (by omega) _ 256 768 (by omega) (by omega) _ slices_S256x1024_o0_768_S256x128 _ r l)
      (fun r l => do_part m c hO hG hW hD t 0 (by omega) 1 (by omega) _ 128 640 (by omega) (by omega) _ slices_S256x1024_o0_640_S256x128 _ r l)
      (fun r l => do_part m c hO hG hW hD t 0 (by omega) 0 (by omega) _ 0 512 (by omega) (by omega) _ slices_S256x1024_o0_512_S256x128 _ r l)
      y fun n0 => ?_
    omega
  by_cases h1 : t.val % 4 = 3
  · rw [outsAt0_C m c t h0 h1]; frame_out
    change _ = T (y 0).val (y 1).val
    refine tiles_step 768 _ _ _ _ _ _ _ _ _ T
      (fun r l => do_part m c hO hG hW hD t 768 (by omega) 3 (by omega) _ 384 896 (by omega) (by omega) _ slices_S256x1024_o0_896_S256x128 _ r l)
      (fun r l => do_part m c hO hG hW hD t 768 (by omega) 2 (by omega) _ 256 768 (by omega) (by omega) _ slices_S256x1024_o0_768_S256x128 _ r l)
      (fun r l => do_part m c hO hG hW hD t 768 (by omega) 1 (by omega) _ 128 640 (by omega) (by omega) _ slices_S256x1024_o0_640_S256x128 _ r l)
      (fun r l => do_part m c hO hG hW hD t 768 (by omega) 0 (by omega) _ 0 512 (by omega) (by omega) _ slices_S256x1024_o0_512_S256x128 _ r l)
      y fun n3 => ?_
    refine tiles_step 512 _ _ _ _ _ _ _ _ _ T
      (fun r l => do_part m c hO hG hW hD t 512 (by omega) 3 (by omega) _ 384 896 (by omega) (by omega) _ slices_S256x1024_o0_896_S256x128 _ r l)
      (fun r l => do_part m c hO hG hW hD t 512 (by omega) 2 (by omega) _ 256 768 (by omega) (by omega) _ slices_S256x1024_o0_768_S256x128 _ r l)
      (fun r l => do_part m c hO hG hW hD t 512 (by omega) 1 (by omega) _ 128 640 (by omega) (by omega) _ slices_S256x1024_o0_640_S256x128 _ r l)
      (fun r l => do_part m c hO hG hW hD t 512 (by omega) 0 (by omega) _ 0 512 (by omega) (by omega) _ slices_S256x1024_o0_512_S256x128 _ r l)
      y fun n2 => ?_
    refine tiles_step 256 _ _ _ _ _ _ _ _ _ T
      (fun r l => do_part m c hO hG hW hD t 256 (by omega) 3 (by omega) _ 384 896 (by omega) (by omega) _ slices_S256x1024_o0_896_S256x128 _ r l)
      (fun r l => do_part m c hO hG hW hD t 256 (by omega) 2 (by omega) _ 256 768 (by omega) (by omega) _ slices_S256x1024_o0_768_S256x128 _ r l)
      (fun r l => do_part m c hO hG hW hD t 256 (by omega) 1 (by omega) _ 128 640 (by omega) (by omega) _ slices_S256x1024_o0_640_S256x128 _ r l)
      (fun r l => do_part m c hO hG hW hD t 256 (by omega) 0 (by omega) _ 0 512 (by omega) (by omega) _ slices_S256x1024_o0_512_S256x128 _ r l)
      y fun n1 => ?_
    refine tiles_step 0 _ _ _ _ _ _ _ _ _ T
      (fun r l => do_part m c hO hG hW hD t 0 (by omega) 3 (by omega) _ 384 896 (by omega) (by omega) _ slices_S256x1024_o0_896_S256x128 _ r l)
      (fun r l => do_part m c hO hG hW hD t 0 (by omega) 2 (by omega) _ 256 768 (by omega) (by omega) _ slices_S256x1024_o0_768_S256x128 _ r l)
      (fun r l => do_part m c hO hG hW hD t 0 (by omega) 1 (by omega) _ 128 640 (by omega) (by omega) _ slices_S256x1024_o0_640_S256x128 _ r l)
      (fun r l => do_part m c hO hG hW hD t 0 (by omega) 0 (by omega) _ 0 512 (by omega) (by omega) _ slices_S256x1024_o0_512_S256x128 _ r l)
      y fun n0 => ?_
    omega
  · rw [outsAt0_B m c t h0 h1]; frame_out
    change _ = T (y 0).val (y 1).val
    refine tiles_step 768 _ _ _ _ _ _ _ _ _ T
      (fun r l => do_part m c hO hG hW hD t 768 (by omega) 3 (by omega) _ 384 896 (by omega) (by omega) _ slices_S256x1024_o0_896_S256x128 _ r l)
      (fun r l => do_part m c hO hG hW hD t 768 (by omega) 2 (by omega) _ 256 768 (by omega) (by omega) _ slices_S256x1024_o0_768_S256x128 _ r l)
      (fun r l => do_part m c hO hG hW hD t 768 (by omega) 1 (by omega) _ 128 640 (by omega) (by omega) _ slices_S256x1024_o0_640_S256x128 _ r l)
      (fun r l => do_part m c hO hG hW hD t 768 (by omega) 0 (by omega) _ 0 512 (by omega) (by omega) _ slices_S256x1024_o0_512_S256x128 _ r l)
      y fun n3 => ?_
    refine tiles_step 512 _ _ _ _ _ _ _ _ _ T
      (fun r l => do_part m c hO hG hW hD t 512 (by omega) 3 (by omega) _ 384 896 (by omega) (by omega) _ slices_S256x1024_o0_896_S256x128 _ r l)
      (fun r l => do_part m c hO hG hW hD t 512 (by omega) 2 (by omega) _ 256 768 (by omega) (by omega) _ slices_S256x1024_o0_768_S256x128 _ r l)
      (fun r l => do_part m c hO hG hW hD t 512 (by omega) 1 (by omega) _ 128 640 (by omega) (by omega) _ slices_S256x1024_o0_640_S256x128 _ r l)
      (fun r l => do_part m c hO hG hW hD t 512 (by omega) 0 (by omega) _ 0 512 (by omega) (by omega) _ slices_S256x1024_o0_512_S256x128 _ r l)
      y fun n2 => ?_
    refine tiles_step 256 _ _ _ _ _ _ _ _ _ T
      (fun r l => do_part m c hO hG hW hD t 256 (by omega) 3 (by omega) _ 384 896 (by omega) (by omega) _ slices_S256x1024_o0_896_S256x128 _ r l)
      (fun r l => do_part m c hO hG hW hD t 256 (by omega) 2 (by omega) _ 256 768 (by omega) (by omega) _ slices_S256x1024_o0_768_S256x128 _ r l)
      (fun r l => do_part m c hO hG hW hD t 256 (by omega) 1 (by omega) _ 128 640 (by omega) (by omega) _ slices_S256x1024_o0_640_S256x128 _ r l)
      (fun r l => do_part m c hO hG hW hD t 256 (by omega) 0 (by omega) _ 0 512 (by omega) (by omega) _ slices_S256x1024_o0_512_S256x128 _ r l)
      y fun n1 => ?_
    refine tiles_step 0 _ _ _ _ _ _ _ _ _ T
      (fun r l => do_part m c hO hG hW hD t 0 (by omega) 3 (by omega) _ 384 896 (by omega) (by omega) _ slices_S256x1024_o0_896_S256x128 _ r l)
      (fun r l => do_part m c hO hG hW hD t 0 (by omega) 2 (by omega) _ 256 768 (by omega) (by omega) _ slices_S256x1024_o0_768_S256x128 _ r l)
      (fun r l => do_part m c hO hG hW hD t 0 (by omega) 1 (by omega) _ 128 640 (by omega) (by omega) _ slices_S256x1024_o0_640_S256x128 _ r l)
      (fun r l => do_part m c hO hG hW hD t 0 (by omega) 0 (by omega) _ 0 512 (by omega) (by omega) _ slices_S256x1024_o0_512_S256x128 _ r l)
      y fun n0 => ?_
    omega
/-- A sum over 1024 rows, by quarters. -/
theorem sum_quarters (f : ℕ → ℝ) (o : ℕ) : (∑ r : Fin 256, f (o + (0 + r))) + ((∑ r : Fin 256, f (o + (256 + r)))
    + ((∑ r : Fin 256, f (o + (512 + r))) + ∑ r : Fin 256, f (o + (768 + r)))) = ∑ r : Fin 1024, f (o + r) := by
  refine Eq.trans ?_ (Fin.sum_univ_add (a := 256) (b := 768) (fun q => f (o + q))).symm
  refine congrArg₂ (fun a b : ℝ => a + b) (by simp only [Nat.zero_add]; rfl) ?_
  refine Eq.trans ?_ (Fin.sum_univ_add (a := 256) (b := 512) (fun q => f (o + (256 + q)))).symm
  refine congrArg₂ (fun a b : ℝ => a + b) rfl ?_
  refine Eq.trans ?_ (Fin.sum_univ_add (a := 256) (b := 256) (fun q => f (o + (256 + (256 + q))))).symm
  refine congrArg₂ (fun a b : ℝ => a + b) ?_ ?_ <;> refine Finset.sum_congr rfl fun r _ => congrArg f ?_ <;> simp <;> omega
/-- What a row adds to the gain's gradient. -/
def dgf (O W D : ℕ → ℕ → ℝ) (n k : ℕ) : ℝ := oY W D n (512 + k) * gn O n k
/-- What a grid point adds to the gain's gradient, and to the weight's. -/
def term8 (O W D : ℕ → ℕ → ℝ) (t i k : ℕ) : EReal := if i < 1 then ((∑ r : Fin 1024, dgf O W D (1024 * t + r) k : ℝ) : EReal) else 0
def termW (C O D : ℕ → ℕ → ℝ) (G : ℕ → ℝ) (t i k : ℕ) : EReal := ((∑ r : Fin 1024, oC C O G (1024 * t + r) i * D (1024 * t + r) k : ℝ) : EReal)
include hO hW hD in
/-- The four stores of a row of the gain's gradient. -/
theorem dg_four (t : Fin cfg0.N) (j : ℕ) (hj : j < 4) (p u : ℕ) (hp : p = 128 * j) (hu : u = 512 + p) (jx3 jx2 jx1 jx0 ja3 ja2 ja1 ja0 js)
    (acc : Vec Ideal S1x128 .f32) (z : Fin 1) (l : Fin 128) :
    (tDg (xT m c t 768 p jx3) (uT m c t 768 ja3 u js) (tDg (xT m c t 512 p jx2) (uT m c t 512 ja2 u js)
      (tDg (xT m c t 256 p jx1) (uT m c t 256 ja1 u js) (tDg (xT m c t 0 p jx0) (uT m c t 0 ja0 u js) acc))) (ix2 z l) : EReal)
      = acc (ix2 z l) + term8 O W D t.val (0 + z) (p + l) := by
  refine (dg_part m c hO hW hD t 768 (by omega) j hj ja3 p u hp hu jx3 js _ z l).trans ?_
  refine (congrArg (fun b : EReal => b + _) (dg_part m c hO hW hD t 512 (by omega) j hj ja2 p u hp hu jx2 js _ z l)).trans ?_
  refine (congrArg (fun b : EReal => b + _ + _) (dg_part m c hO hW hD t 256 (by omega) j hj ja1 p u hp hu jx1 js _ z l)).trans ?_
  refine (congrArg (fun b : EReal => b + _ + _ + _) (dg_part m c hO hW hD t 0 (by omega) j hj ja0 p u hp hu jx0 js _ z l)).trans ?_
  simp only [add_assoc, ← EReal.coe_add]
  refine congrArg (fun b : EReal => _ + b) (Eq.trans (congrArg (fun b : ℝ => (b : EReal)) ?_) (if_pos (by omega)).symm)
  exact sum_quarters (fun n => dgf O W D n (p + l)) (1024 * t.val)
/-- A block filled with one value. -/
theorem fill_step {Val : EltTy → Type} [∀ e, Nonempty (Val e)] {e : EltTy} (q : S8x512.Idx → Val e) (L : List (View.Piece Val S8x512 e)) (j) (z : Val e)
    (hq : ∀ x, q x = z) (y : S8x512.Idx) : View.canon (⟨Rect.unit (s := S8x512) ![0, 0] ![8, 512] j, q⟩ :: L) y = z := by
  have b0 : (y 0).val < 8 := (y 0).isLt
  have b1 : (y 1).val < 512 := (y 1).isLt
  exact block_step _ _ _ (fun _ => z) (fun x => hq x) fun n => absurd (in_rect (m := 8) (n := 512) (o := 0) (q := 0) (a := 8) (b := 512) j y (by omega)) n
set_option maxHeartbeats 2000000 in
include hO hW hD in
theorem acc8A (t : Fin cfg0.N) (h0 : t.val % 4 = 0) (y : S8x512.Idx) :
    ((outsAt0 m c t.val t.isLt).2.2.1 y : EReal) = 0 + term8 O W D t.val (y 0).val (y 1).val := by
  have b0 : (y 0).val < 8 := (y 0).isLt
  have b1 : (y 1).val < 512 := (y 1).isLt
  have z3 : ∀ i, k0_pay3 (F := Ideal) i = (0 : EReal) := fun i => by idx_vars i; pointwise [k0_pay3]
  let T : ℕ → ℕ → Elt Ideal .f32 := fun n k => 0 + term8 O W D t.val n k
  rw [outsAt0_A m c t h0 (by omega)]; frame_out
  simp (disch := decide) only [↓ View.readCov_skip, ↓ View.readCov_cons_toLoadRect, ↓ View.readCov_fill]
  change _ = T (y 0).val (y 1).val
  refine tiles_step 0 _ _ _ _ _ _ _ _ _ T
    (fun r l => (dg_four m c hO hW hD t 3 (by omega) 384 896 (by omega) (by omega) inb_S1024x512_S256x128_768_384 inb_S1024x512_S256x128_512_384 inb_S1024x512_S256x128_256_384 inb_S1024x512_S256x128_0_384
      inb_S1024x1024_S256x1024_768_0 inb_S1024x1024_S256x1024_512_0 inb_S1024x1024_S256x1024_256_0 inb_S1024x1024_S256x1024_0_0 slices_S256x1024_o0_896_S256x128 _ r l).trans
      (congrArg (fun b : EReal => b + _) (z3 _)))
    (fun r l => (dg_four m c hO hW hD t 2 (by omega) 256 768 (by omega) (by omega) inb_S1024x512_S256x128_768_256 inb_S1024x512_S256x128_512_256 inb_S1024x512_S256x128_256_256 inb_S1024x512_S256x128_0_256
      inb_S1024x1024_S256x1024_768_0 inb_S1024x1024_S256x1024_512_0 inb_S1024x1024_S256x1024_256_0 inb_S1024x1024_S256x1024_0_0 slices_S256x1024_o0_768_S256x128 _ r l).trans
      (congrArg (fun b : EReal => b + _) (z3 _)))
    (fun r l => (dg_four m c hO hW hD t 1 (by omega) 128 640 (by omega) (by omega) inb_S1024x512_S256x128_768_128 inb_S1024x512_S256x128_512_128 inb_S1024x512_S256x128_256_128 inb_S1024x512_S256x128_0_128
      inb_S1024x1024_S256x1024_768_0 inb_S1024x1024_S256x1024_512_0 inb_S1024x1024_S256x1024_256_0 inb_S1024x1024_S256x1024_0_0 slices_S256x1024_o0_640_S256x128 _ r l).trans
      (congrArg (fun b : EReal => b + _) (z3 _)))
    (fun r l => (dg_four m c hO hW hD t 0 (by omega) 0 512 (by omega) (by omega) inb_S1024x512_S256x128_768_0 inb_S1024x512_S256x128_512_0 inb_S1024x512_S256x128_256_0 inb_S1024x512_S256x128_0_0
      inb_S1024x1024_S256x1024_768_0 inb_S1024x1024_S256x1024_512_0 inb_S1024x1024_S256x1024_256_0 inb_S1024x1024_S256x1024_0_0 slices_S256x1024_o0_512_S256x128 _ r l).trans
      (congrArg (fun b : EReal => b + _) (z3 _)))
    y fun hn => ?_
  have hz : T (y 0).val (y 1).val = (0 : EReal) := (zero_add _).trans (if_neg (by omega))
  rw [hz]
  refine skip_rows _ _ _ y _ hn ?_
  refine skip_rows _ _ _ y _ hn ?_
  refine skip_rows _ _ _ y _ hn ?_
  refine skip_rows _ _ _ y _ hn ?_
  refine skip_rows _ _ _ y _ hn ?_
  refine skip_rows _ _ _ y _ hn ?_
  refine skip_rows _ _ _ y _ hn ?_
  refine skip_rows _ _ _ y _ hn ?_
  refine skip_rows _ _ _ y _ hn ?_
  refine skip_rows _ _ _ y _ hn ?_
  refine skip_rows _ _ _ y _ hn ?_
  refine skip_rows _ _ _ y _ hn ?_
  exact fill_step _ _ _ _ z3 y
include hO hW hD in
theorem acc8B (t : Fin cfg0.N) (h0 : ¬t.val % 4 = 0) (y : S8x512.Idx) :
    ((outsAt0 m c t.val t.isLt).2.2.1 y : EReal) = (outsAt0 m c (t.val - 1) (Nat.lt_of_le_of_lt (Nat.sub_le _ _) t.isLt)).2.2.1 y
      + term8 O W D t.val (y 0).val (y 1).val := by
  obtain ⟨X, hX⟩ := ext2 (outsAt0 m c (t.val - 1) (Nat.lt_of_le_of_lt (Nat.sub_le _ _) t.isLt)).2.2.1
  have hP : ∀ (r : Fin 1) (l : Fin 128) (p : ℕ) (hp : p ≤ 384) (j), View.ld (outsAt0 m c (t.val - 1) (Nat.lt_of_le_of_lt (Nat.sub_le _ _) t.isLt)).2.2.1
      (Rect.unit (s := S8x512) ![0, p] ![1, 128] j) (ix2 r l) = X (0 + r) (p + l) := fun r l p hp j =>
    (ld2 (Val := Elt Ideal) _ j r l ⟨0 + r, by omega⟩ ⟨p + l, by omega⟩ rfl rfl).trans (hX _ _)
  have hy : (outsAt0 m c (t.val - 1) (Nat.lt_of_le_of_lt (Nat.sub_le _ _) t.isLt)).2.2.1 y = X (y 0).val (y 1).val :=
    (congrArg _ (eq_ix2 y)).trans (hX _ _)
  let T : ℕ → ℕ → Elt Ideal .f32 := fun n k => X n k + term8 O W D t.val n k
  have hz : ¬(0 ≤ (y 0).val ∧ (y 0).val < 0 + 1) → (outsAt0 m c (t.val - 1) (Nat.lt_of_le_of_lt (Nat.sub_le _ _) t.isLt)).2.2.1 y = T (y 0).val (y 1).val := fun hn =>
    hy.trans ((add_zero _).symm.trans (congrArg (fun b : EReal => _ + b) (if_neg (by omega)).symm))
  rw [hy]
  by_cases h1 : t.val % 4 = 3
  · rw [outsAt0_C m c t h0 h1]; frame_out
    simp (disch := decide) only [↓ View.readCov_skip, ↓ View.readCov_cons_toLoadRect, ↓ View.readCov_fill]
    change _ = T (y 0).val (y 1).val
    refine tiles_over 0 _ _ _ _ _ _ _ _ _ T
      (fun r l => (dg_four m c hO hW hD t 3 (by omega) 384 896 (by omega) (by omega) inb_S1024x512_S256x128_768_384 inb_S1024x512_S256x128_512_384 inb_S1024x512_S256x128_256_384 inb_S1024x512_S256x128_0_384
      inb_S1024x1024_S256x1024_768_0 inb_S1024x1024_S256x1024_512_0 inb_S1024x1024_S256x1024_256_0 inb_S1024x1024_S256x1024_0_0 slices_S256x1024_o0_896_S256x128 _ r l).trans
      (congrArg (fun b : EReal => b + _) (hP r l 384 (by omega) _)))
      (fun r l => (dg_four m c hO hW hD t 2 (by omega) 256 768 (by omega) (by omega) inb_S1024x512_S256x128_768_256 inb_S1024x512_S256x128_512_256 inb_S1024x512_S256x128_256_256 inb_S1024x512_S256x128_0_256
      inb_S1024x1024_S256x1024_768_0 inb_S1024x1024_S256x1024_512_0 inb_S1024x1024_S256x1024_256_0 inb_S1024x1024_S256x1024_0_0 slices_S256x1024_o0_768_S256x128 _ r l).trans
      (congrArg (fun b : EReal => b + _) (hP r l 256 (by omega) _)))
      (fun r l => (dg_four m c hO hW hD t 1 (by omega) 128 640 (by omega) (by omega) inb_S1024x512_S256x128_768_128 inb_S1024x512_S256x128_512_128 inb_S1024x512_S256x128_256_128 inb_S1024x512_S256x128_0_128
      inb_S1024x1024_S256x1024_768_0 inb_S1024x1024_S256x1024_512_0 inb_S1024x1024_S256x1024_256_0 inb_S1024x1024_S256x1024_0_0 slices_S256x1024_o0_640_S256x128 _ r l).trans
      (congrArg (fun b : EReal => b + _) (hP r l 128 (by omega) _)))
      (fun r l => (dg_four m c hO hW hD t 0 (by omega) 0 512 (by omega) (by omega) inb_S1024x512_S256x128_768_0 inb_S1024x512_S256x128_512_0 inb_S1024x512_S256x128_256_0 inb_S1024x512_S256x128_0_0
      inb_S1024x1024_S256x1024_768_0 inb_S1024x1024_S256x1024_512_0 inb_S1024x1024_S256x1024_256_0 inb_S1024x1024_S256x1024_0_0 slices_S256x1024_o0_512_S256x128 _ r l).trans
      (congrArg (fun b : EReal => b + _) (hP r l 0 (by omega) _)))
      y _ _ fun hn => ?_
    refine skip_rows_over _ _ _ _ _ y _ hn ?_
    refine skip_rows_over _ _ _ _ _ y _ hn ?_
    refine skip_rows_over _ _ _ _ _ y _ hn ?_
    refine skip_rows_over _ _ _ _ _ y _ hn ?_
    refine skip_rows_over _ _ _ _ _ y _ hn ?_
    refine skip_rows_over _ _ _ _ _ y _ hn ?_
    refine skip_rows_over _ _ _ _ _ y _ hn ?_
    refine skip_rows_over _ _ _ _ _ y _ hn ?_
    refine skip_rows_over _ _ _ _ _ y _ hn ?_
    refine skip_rows_over _ _ _ _ _ y _ hn ?_
    refine skip_rows_over _ _ _ _ _ y _ hn ?_
    refine skip_rows_over _ _ _ _ _ y _ hn ?_
    exact (congrFun (Memref.IsWhole.read_unread _ _) y).trans (hz hn)
  · rw [outsAt0_B m c t h0 h1]; frame_out
    simp (disch := decide) only [↓ View.readCov_skip, ↓ View.readCov_cons_toLoadRect, ↓ View.readCov_fill]
    change _ = T (y 0).val (y 1).val
    refine tiles_over 0 _ _ _ _ _ _ _ _ _ T
      (fun r l => (dg_four m c hO hW hD t 3 (by omega) 384 896 (by omega) (by omega) inb_S1024x512_S256x128_768_384 inb_S1024x512_S256x128_512_384 inb_S1024x512_S256x128_256_384 inb_S1024x512_S256x128_0_384
      inb_S1024x1024_S256x1024_768_0 inb_S1024x1024_S256x1024_512_0 inb_S1024x1024_S256x1024_256_0 inb_S1024x1024_S256x1024_0_0 slices_S256x1024_o0_896_S256x128 _ r l).trans
      (congrArg (fun b : EReal => b + _) (hP r l 384 (by omega) _)))
      (fun r l => (dg_four m c hO hW hD t 2 (by omega) 256 768 (by omega) (by omega) inb_S1024x512_S256x128_768_256 inb_S1024x512_S256x128_512_256 inb_S1024x512_S256x128_256_256 inb_S1024x512_S256x128_0_256
      inb_S1024x1024_S256x1024_768_0 inb_S1024x1024_S256x1024_512_0 inb_S1024x1024_S256x1024_256_0 inb_S1024x1024_S256x1024_0_0 slices_S256x1024_o0_768_S256x128 _ r l).trans
      (congrArg (fun b : EReal => b + _) (hP r l 256 (by omega) _)))
      (fun r l => (dg_four m c hO hW hD t 1 (by omega) 128 640 (by omega) (by omega) inb_S1024x512_S256x128_768_128 inb_S1024x512_S256x128_512_128 inb_S1024x512_S256x128_256_128 inb_S1024x512_S256x128_0_128
      inb_S1024x1024_S256x1024_768_0 inb_S1024x1024_S256x1024_512_0 inb_S1024x1024_S256x1024_256_0 inb_S1024x1024_S256x1024_0_0 slices_S256x1024_o0_640_S256x128 _ r l).trans
      (congrArg (fun b : EReal => b + _) (hP r l 128 (by omega) _)))
      (fun r l => (dg_four m c hO hW hD t 0 (by omega) 0 512 (by omega) (by omega) inb_S1024x512_S256x128_768_0 inb_S1024x512_S256x128_512_0 inb_S1024x512_S256x128_256_0 inb_S1024x512_S256x128_0_0
      inb_S1024x1024_S256x1024_768_0 inb_S1024x1024_S256x1024_512_0 inb_S1024x1024_S256x1024_256_0 inb_S1024x1024_S256x1024_0_0 slices_S256x1024_o0_512_S256x128 _ r l).trans
      (congrArg (fun b : EReal => b + _) (hP r l 0 (by omega) _)))
      y _ _ fun hn => ?_
    refine skip_rows_over _ _ _ _ _ y _ hn ?_
    refine skip_rows_over _ _ _ _ _ y _ hn ?_
    refine skip_rows_over _ _ _ _ _ y _ hn ?_
    refine skip_rows_over _ _ _ _ _ y _ hn ?_
    refine skip_rows_over _ _ _ _ _ y _ hn ?_
    refine skip_rows_over _ _ _ _ _ y _ hn ?_
    refine skip_rows_over _ _ _ _ _ y _ hn ?_
    refine skip_rows_over _ _ _ _ _ y _ hn ?_
    refine skip_rows_over _ _ _ _ _ y _ hn ?_
    refine skip_rows_over _ _ _ _ _ y _ hn ?_
    refine skip_rows_over _ _ _ _ _ y _ hn ?_
    refine skip_rows_over _ _ _ _ _ y _ hn ?_
    exact (congrFun (Memref.IsWhole.read_unread _ _) y).trans (hz hn)
include hO hG hD in
theorem w_norm (t : Fin cfg0.N) (acc : Vec Ideal S512x1024 .f32) (r : Fin 512) (k : Fin 1024) :
    (k0_pay7 (iblk m c 0 t) acc (iblk m c 5 t) (ix2 r k) : EReal) = acc (ix2 r k) + termW C O D G t.val (512 + r) k := by
  pointwise [k0_pay7, k0_pay5]
  refine congrArg (fun b : EReal => _ + b) ((dot_coe (fun q => in5 m c hO hG t q r) (fun q => in0 m c hD t q k)).trans ?_)
  refine congrArg (fun b : ℝ => (b : EReal)) (Finset.sum_congr rfl fun q _ => ?_)
  unfold oC
  rw [if_neg (by omega), show 512 + (r : ℕ) - 512 = r by omega]
include hC hD in
theorem w_conv (t : Fin cfg0.N) (acc : Vec Ideal S512x1024 .f32) (r : Fin 512) (k : Fin 1024) :
    (k0_pay6 (iblk m c 0 t) acc (iblk m c 4 t) (ix2 r k) : EReal) = acc (ix2 r k) + termW C O D G t.val (0 + r) k := by
  pointwise [k0_pay6, k0_pay5]
  refine congrArg (fun b : EReal => _ + b) ((dot_coe (fun q => in4 m c hC t q r) (fun q => in0 m c hD t q k)).trans ?_)
  refine congrArg (fun b : ℝ => (b : EReal)) (Finset.sum_congr rfl fun q _ => ?_)
  unfold oC
  rw [if_pos (by omega)]
include hC hO hG hD in
theorem accWA (t : Fin cfg0.N) (h0 : t.val % 4 = 0) (y : S1024x1024.Idx) :
    ((outsAt0 m c t.val t.isLt).2.2.2.2 y : EReal) = 0 + termW C O D G t.val (y 0).val (y 1).val := by
  have b0 : (y 0).val < 1024 := (y 0).isLt
  have b1 : (y 1).val < 1024 := (y 1).isLt
  have z4 : ∀ i, k0_pay4 (F := Ideal) i = (0 : EReal) := fun i => by idx_vars i; pointwise [k0_pay4]
  let T : ℕ → ℕ → Elt Ideal .f32 := fun n k => 0 + termW C O D G t.val n k
  rw [outsAt0_A m c t h0 (by omega)]; frame_out
  simp (disch := decide) only [↓ View.readCov_skip, ↓ View.readCov_cons_toLoadRect, ↓ View.readCov_fill]
  change _ = T (y 0).val (y 1).val
  refine tile_step _ _ _ T y (fun r l => (w_norm m c (C := C) hO hG hD t _ r l).trans ?_) fun n1 => ?_
  · exact (congrArg (fun b : EReal => b + _) (z4 _)).trans (by simp only [Nat.zero_add]; rfl)
  refine tile_step _ _ _ T y (fun r l => (w_conv m c (O := O) (G := G) hC hD t _ r l).trans ?_) fun n0 => ?_
  · exact (congrArg (fun b : EReal => b + _) (z4 _)).trans (by simp only [Nat.zero_add]; rfl)
  omega
include hC hO hG hD in
theorem accWB (t : Fin cfg0.N) (h0 : ¬t.val % 4 = 0) (y : S1024x1024.Idx) :
    ((outsAt0 m c t.val t.isLt).2.2.2.2 y : EReal) = (outsAt0 m c (t.val - 1) (Nat.lt_of_le_of_lt (Nat.sub_le _ _) t.isLt)).2.2.2.2 y
      + termW C O D G t.val (y 0).val (y 1).val := by
  have b0 : (y 0).val < 1024 := (y 0).isLt
  have b1 : (y 1).val < 1024 := (y 1).isLt
  obtain ⟨X, hX⟩ := ext2 (outsAt0 m c (t.val - 1) (Nat.lt_of_le_of_lt (Nat.sub_le _ _) t.isLt)).2.2.2.2
  have hP : ∀ (r : Fin 512) (l : Fin 1024) (p : ℕ) (hp : p ≤ 512) (j), View.ld (outsAt0 m c (t.val - 1) (Nat.lt_of_le_of_lt (Nat.sub_le _ _) t.isLt)).2.2.2.2
      (Rect.unit (s := S1024x1024) ![p, 0] ![512, 1024] j) (ix2 r l) = X (p + r) (0 + l) := fun r l p hp j =>
    (ld2 (Val := Elt Ideal) _ j r l ⟨p + r, by omega⟩ ⟨0 + l, by omega⟩ rfl rfl).trans (hX _ _)
  have hy : (outsAt0 m c (t.val - 1) (Nat.lt_of_le_of_lt (Nat.sub_le _ _) t.isLt)).2.2.2.2 y = X (y 0).val (y 1).val :=
    (congrArg _ (eq_ix2 y)).trans (hX _ _)
  let T : ℕ → ℕ → Elt Ideal .f32 := fun n k => X n k + termW C O D G t.val n k
  rw [hy]
  by_cases h1 : t.val % 4 = 3
  · rw [outsAt0_C m c t h0 h1]; frame_out
    change _ = T (y 0).val (y 1).val
    refine tile_step _ _ _ T y (fun r l => (w_norm m c (C := C) hO hG hD t _ r l).trans ?_) fun n1 => ?_
    · exact (congrArg (fun b : EReal => b + _) ((congrFun (congrArg (fun q => View.ld q _) (funext fun x => congrFun (Memref.IsWhole.read_unread _ _) x)) _).trans (hP r l 512 (by omega) _))).trans (by simp only [Nat.zero_add]; rfl)
    refine tile_step _ _ _ T y (fun r l => (w_conv m c (O := O) (G := G) hC hD t _ r l).trans ?_) fun n0 => ?_
    · exact (congrArg (fun b : EReal => b + _) ((congrFun (congrArg (fun q => View.ld q _) (funext fun x => congrFun (Memref.IsWhole.read_unread _ _) x)) _).trans (hP r l 0 (by omega) _))).trans (by simp only [Nat.zero_add]; rfl)
    omega
  · rw [outsAt0_B m c t h0 h1]; frame_out
    change _ = T (y 0).val (y 1).val
    refine tile_step _ _ _ T y (fun r l => (w_norm m c (C := C) hO hG hD t _ r l).trans ?_) fun n1 => ?_
    · exact (congrArg (fun b : EReal => b + _) ((congrFun (congrArg (fun q => View.ld q _) (funext fun x => congrFun (Memref.IsWhole.read_unread _ _) x)) _).trans (hP r l 512 (by omega) _))).trans (by simp only [Nat.zero_add]; rfl)
    refine tile_step _ _ _ T y (fun r l => (w_conv m c (O := O) (G := G) hC hD t _ r l).trans ?_) fun n0 => ?_
    · exact (congrArg (fun b : EReal => b + _) ((congrFun (congrArg (fun q => View.ld q _) (funext fun x => congrFun (Memref.IsWhole.read_unread _ _) x)) _).trans (hP r l 0 (by omega) _))).trans (by simp only [Nat.zero_add]; rfl)
    omega
/-- A load of the whole array reads what the stores left. -/
theorem read_whole {sig : RefSig} {κ : Kind} {sp : Space} {Val : EltTy → Type} [∀ e, Nonempty (Val e)] {e : EltTy} (v : View sig κ sp S1024x1024 e)
    (L : List (View.Piece Val S1024x1024 e)) (j) (x : S1024x1024.Idx) :
    v.readCov L (Rect.unit (s := S1024x1024) ![0, 0] ![1024, 1024] j).toLoadRect x = View.canon L x := by
  refine (congrFun (View.readCov_eq_canon' v L (Rect.unit (s := S1024x1024) ![0, 0] ![1024, 1024] j).toLoadRect) x).trans (congrArg (View.canon L) (funext fun a => Fin.ext ?_))
  fin_cases a
  · show 0 + 1 * (x 0).val = (x 0).val
    omega
  · show 0 + 1 * (x 1).val = (x 1).val
    omega
theorem out9 (t : Fin cfg0.N) (h1 : t.val % 4 = 3) (y : S1024x1024.Idx) :
    ((outsAt0 m c t.val t.isLt).2.2.2.1 y : EReal) = (outsAt0 m c t.val t.isLt).2.2.2.2 y := by
  rw [outsAt0_C m c t (by omega) h1]; frame_out
  idx_vars y
  pointwise [k0_pay8]
  exact read_whole _ _ _ _
include hW hD in
/-- The kernel's first result. -/
theorem final6 : (dats m 0 c).arrAt 6 (cfgs 0).N = fun i : S4096x512.Idx => ((oY W D (i 0).val (i 1).val : ℝ) : EReal) := by
  refine (dats m 0 c).arrAt_eq_of_covers 6 _ (by decide +kernel) fun t hf y => ?_
  blk_simp [idx t]
  rw [after0_6]
  change S1024x512.Idx at y
  rw [point6 m c hW hD]
  congr 2; omega
include hO hG hW hD in
/-- The kernel's second result. -/
theorem final7 : (dats m 0 c).arrAt 7 (cfgs 0).N = fun i : S4096x512.Idx => ((gb O (oG W D G) (i 0).val (i 1).val : ℝ) : EReal) := by
  refine (dats m 0 c).arrAt_eq_of_covers 7 _ (by decide +kernel) fun t hf y => ?_
  blk_simp [idx t]
  rw [after0_7]
  change S1024x512.Idx at y
  rw [point7 m c hO hG hW hD]
  congr 2; omega
include hO hW hD in
/-- The kernel's third result: the gradient in the first of eight rows. -/
theorem final8 : (dats m 0 c).arrAt 8 (cfgs 0).N = fun i : S8x512.Idx =>
    if (i 0).val < 1 then ((∑ n : Fin 4096, dgf O W D n (i 1).val : ℝ) : EReal) else (0 : EReal) := by
  refine (dats m 0 c).arrAt_eq_of_covers 8 _ (by decide +kernel) fun t hf y => ?_
  have h3 : t.val % 4 = 3 := (flush0_8 t).mp hf
  blk_simp [idx t]
  rw [after0_8]
  change S8x512.Idx at y
  refine (Pipeline.eq_sum_fin_of_reset_step_apply_of_flush (M := EReal) (fun n h => (outsAt0 m c n h).2.2.1) 4 (fun _ => 0)
    (fun t (y : S8x512.Idx) => term8 O W D t.val (y 0).val (y 1).val)
    (fun t h y => acc8A m c hO hW hD t h y) (fun t h y => acc8B m c hO hW hD t h y) t h3 y).trans ?_
  rw [zero_add]
  have h4 := lt4 t
  unfold term8
  by_cases hi : (y 0).val < 1
  · refine Eq.trans ?_ (if_pos (by omega)).symm
    refine Eq.trans (Finset.sum_congr (M := EReal) rfl fun s _ => ?_) (sum_tiles 4 1024 4096 rfl fun n => dgf O W D n (y 1).val)
    refine (if_pos hi).trans ?_
    have hs := s.isLt
    show ((∑ r : Fin 1024, dgf O W D (1024 * (4 * (t.val / 4) + s.val) + r) (y 1).val : ℝ) : EReal) = _
    rw [show 4 * (t.val / 4) = 0 by omega, zero_add]
  · refine Eq.trans ?_ (if_neg (by omega)).symm
    exact Finset.sum_eq_zero (M := EReal) fun s _ => if_neg hi
include hC hO hG hD in
/-- The kernel's fourth result. -/
theorem final9 : (dats m 0 c).arrAt 9 (cfgs 0).N = fun i : S1024x1024.Idx =>
    ((∑ n : Fin 4096, oC C O G n (i 0).val * D n (i 1).val : ℝ) : EReal) := by
  refine (dats m 0 c).arrAt_eq_of_covers 9 _ (by decide +kernel) fun t hf y => ?_
  have h3 : t.val % 4 = 3 := (flush0_9 t).mp hf
  blk_simp [idx t]
  rw [after0_9]
  change S1024x1024.Idx at y
  rw [out9 m c t h3]
  refine (Pipeline.eq_sum_fin_of_reset_step_apply_of_flush (M := EReal) (fun n h => (outsAt0 m c n h).2.2.2.2) 4 (fun _ => 0)
    (fun t (y : S1024x1024.Idx) => termW C O D G t.val (y 0).val (y 1).val)
    (fun t h y => accWA m c hC hO hG hD t h y) (fun t h y => accWB m c hC hO hG hD t h y) t h3 y).trans ?_
  rw [zero_add]
  have h4 := lt4 t
  refine Eq.trans (Finset.sum_congr (M := EReal) rfl fun s _ => ?_)
    (sum_tiles 4 1024 4096 rfl fun n => oC C O G n (y 0).val * D n (y 1).val)
  have hs := s.isLt
  show termW C O D G (4 * (t.val / 4) + s.val) (y 0).val (y 1).val = _
  rw [show 4 * (t.val / 4) + s.val = s.val by omega]
  rfl
end Cert.OutProjIdeal.Val
-- ==== Proof.OutProjClaim.lean ====
/-
  The mixer's output product with the group norm before it: the kernel and the plain reference together.
-/
module
public import proofs.«01_k».proof.Proof.OutProjAcc
public import proofs.«01_k».proof.Proof.OutProjRef
public import proofs.«01_k».proof.Proof.Finite
public import proofs.«01_k».proof.Proof.Norm
public import proofs.«01_k».proof.Proof.Gen.OutProjRefIdeal.Run
public import proofs.«01_k».proof.Proof.Gen.Pre_finite7
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.Proof
/-- An array of one layer with real entries, as a function on the naturals. -/
theorem layer3 {a b : ℕ} (x : (⟨3, ![1, a, b]⟩ : Shape).Idx → EReal) (h : ∀ i, x i = ((x i).toReal : EReal)) :
    ∃ X : ℕ → ℕ → ℝ, ∀ (u : Fin 1) (n : Fin a) (k : Fin b), x (ix3 u n k) = ((X n k : ℝ) : EReal) := by
  refine ⟨fun n k => if h : n < a ∧ k < b then (x (ix3 0 ⟨n, h.1⟩ ⟨k, h.2⟩)).toReal else 0, fun u n k => ?_⟩
  dsimp only
  rw [dif_pos ⟨n.isLt, k.isLt⟩, Subsingleton.elim u 0]; exact h _
/-- Under the precondition the five arrays hold real numbers. -/
theorem reals_out_proj (A : FVec Ideal Cert.Pre_finite7.S4096x512 .f32) (B : FVec Ideal Cert.Pre_finite7.S1x4096x512 .f32)
    (C : FVec Ideal Cert.Pre_finite7.S512 .f32) (D : FVec Ideal Cert.Pre_finite7.S1024x1024 .f32) (E : FVec Ideal Cert.Pre_finite7.S4096x1024 .f32)
    (h : Cert.Pre_finite7.fn A B C D E = fun _ => 1#1) :
    (∀ i, (A i : EReal) = (((A i : EReal).toReal : ℝ) : EReal)) ∧ (∀ i, (B i : EReal) = (((B i : EReal).toReal : ℝ) : EReal))
    ∧ (∀ i, (C i : EReal) = (((C i : EReal).toReal : ℝ) : EReal)) ∧ (∀ i, (D i : EReal) = (((D i : EReal).toReal : ℝ) : EReal))
    ∧ ∀ i, (E i : EReal) = (((E i : EReal).toReal : ℝ) : EReal) := by
  have h0 := congrFun h (fun a => a.elim0)
  dsimp only [Cert.Pre_finite7.fn, Cert.Pre_finite7.fn_part1] at h0
  obtain ⟨h2, hE⟩ := IntOp.andi_eq_one.mp h0
  obtain ⟨h3, hD⟩ := IntOp.andi_eq_one.mp h2
  obtain ⟨h4, hC⟩ := IntOp.andi_eq_one.mp h3
  obtain ⟨hA, hB⟩ := IntOp.andi_eq_one.mp h4
  haveI : Subsingleton Cert.Pre_finite7.S_.Idx := ⟨fun a b => funext fun x => x.elim0⟩
  exact ⟨Finite.real_of_all A _ (fun _ => rfl) _ _ _ _ hA, Finite.real_of_all B _ (fun _ => rfl) _ _ _ _ hB,
    Finite.real_of_all C _ (fun _ => rfl) _ _ _ _ hC, Finite.real_of_all D _ (fun _ => rfl) _ _ _ _ hD,
    Finite.real_of_all E _ (fun _ => rfl) _ _ _ _ hE⟩

set_option maxHeartbeats 2000000 in
/-- Over the reals the kernel computes the gradients of the mixer's output product and the group norm before it. -/
theorem out_proj_algebraic : Cert.algebraic_OutProjIdeal_OutProjRefIdeal_pre_finite7 := by
  pair_intro
  · run_from Cert.OutProjIdeal.Value.run_blocks m g
  · have H : ∀ c : Dev Cert.OutProjIdeal.nD, ∃ (C O W D : ℕ → ℕ → ℝ) (G : ℕ → ℝ),
        (∀ (n : Fin 4096) (k : Fin 512), m ((c.tc : Thread Cert.OutProjIdeal.nD Cert.OutProjIdeal.τ).loc Cert.OutProjIdeal.main_arg0) (ix2 n k) = ((C n k : ℝ) : EReal))
        ∧ (∀ (a : Fin 1) (n : Fin 4096) (k : Fin 512), m ((c.tc : Thread Cert.OutProjIdeal.nD Cert.OutProjIdeal.τ).loc Cert.OutProjIdeal.main_arg1) (ix3 a n k) = ((O n k : ℝ) : EReal))
        ∧ (∀ k : Fin 512, m ((c.tc : Thread Cert.OutProjIdeal.nD Cert.OutProjIdeal.τ).loc Cert.OutProjIdeal.main_arg2) (ix1 k) = ((G k : ℝ) : EReal))
        ∧ (∀ (n : Fin 1024) (k : Fin 1024), m ((c.tc : Thread Cert.OutProjIdeal.nD Cert.OutProjIdeal.τ).loc Cert.OutProjIdeal.main_arg3) (ix2 n k) = ((W n k : ℝ) : EReal))
        ∧ (∀ (n : Fin 4096) (k : Fin 1024), m ((c.tc : Thread Cert.OutProjIdeal.nD Cert.OutProjIdeal.τ).loc Cert.OutProjIdeal.main_arg4) (ix2 n k) = ((D n k : ℝ) : EReal)) := fun c => by
      obtain ⟨hA, hB, hC, hD, hE⟩ := reals_out_proj _ _ _ _ _ (hpre c)
      obtain ⟨C, hC'⟩ := mat2 _ hA
      obtain ⟨O, hO⟩ := layer3 _ hB
      obtain ⟨G, hG⟩ := vec1 _ hC
      obtain ⟨W, hW⟩ := mat2 _ hD
      obtain ⟨D, hD'⟩ := mat2 _ hE
      exact ⟨C, O, W, D, G, hC', hO, hG, hW, hD'⟩
    run_from Cert.OutProjRefIdeal.Value.run m' g'
    all_goals
      obtain ⟨C, O, W, D, G, hC, hO, hG, hW, hD⟩ := H c
      obtain ⟨a0, a1, a2, a3, a4⟩ := hagree c
      have rO := fun (a : Fin 1) (n : Fin 4096) (k : Fin 512) => (congrFun a1 (ix3 a n k)).trans (hO a n k)
      have rG := fun (k : Fin 512) => (congrFun a2 (ix1 k)).trans (hG k)
      have rW := fun (n : Fin 1024) (k : Fin 1024) => (congrFun a3 (ix2 n k)).trans (hW n k)
      have rD := fun (n : Fin 4096) (k : Fin 1024) => (congrFun a4 (ix2 n k)).trans (hD n k)
    · exact Eq.trans (Cert.OutProjRefIdeal.Value.res0 _ _ hW hD) (Cert.OutProjIdeal.Val.final6 m c hW hD).symm
    · refine Eq.trans (b := Cert.OutProjRefIdeal.Value.r38 _ (Cert.OutProjRefIdeal.Value.t6 _ _ _)) (by unfold Cert.OutProjRefIdeal.Value.res_main_v50; rfl) ?_
      exact Eq.trans (Cert.OutProjRefIdeal.Value.res1 _ _ _ _ rO rG rW rD) (Cert.OutProjIdeal.Val.final7 m c hO hG hW hD).symm
    · exact Eq.trans (Cert.OutProjRefIdeal.Value.res2 _ _ _ rO rW rD) (Cert.OutProjIdeal.Val.final8 m c hO hW hD).symm
    · exact Eq.trans (Cert.OutProjRefIdeal.Value.res3 _ _ _ _ hC hO hG hD) (Cert.OutProjIdeal.Val.final9 m c hC hO hG hD).symm
end Cert.Proof
-- ==== Proof.FfnInFwd.lean ====
/-
  The feed-forward layer's input product and its gate, in the forward pass: the kernel's tiles and the reference.
-/
module
public import proofs.«01_k».proof.Defs
public import proofs.«01_k».proof.Proof.Gen.FfnInFwdIdeal.Value
public import proofs.«01_k».proof.Proof.Gen.FfnInFwdRefIdeal.Run
public import proofs.«01_k».proof.Proof.Arrays
public import proofs.«01_k».proof.Proof.Tiles
public import Idealize.ShloMosaic.Lib.Pointwise
public import Idealize.ShloMosaic.Lib.Pipeline.ValueKit
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.Proof
/-- A block of matrices after a list of stores, by its newest store into one matrix. -/
theorem tile3_step {l m n a b u o q : ℕ} {e : EltTy} {Val : EltTy → Type} [∀ e, Nonempty (Val e)] (p : (⟨3, ![1, a, b]⟩ : Shape).Idx → Val e) (j)
    (L : List (View.Piece Val ⟨3, ![l, m, n]⟩ e)) (T : ℕ → ℕ → ℕ → Val e) (y : (⟨3, ![l, m, n]⟩ : Shape).Idx)
    (h : ∀ (z : Fin 1) (r : Fin a) (k : Fin b), p (ix3 z r k) = T (u + z) (o + r) (q + k))
    (h' : ¬((u ≤ (y 0).val ∧ (y 0).val < u + 1) ∧ (o ≤ (y 1).val ∧ (y 1).val < o + a) ∧ (q ≤ (y 2).val ∧ (y 2).val < q + b)) →
      View.canon L y = T (y 0).val (y 1).val (y 2).val) :
    View.canon (Val := Val) (s := ⟨3, ![l, m, n]⟩) (e := e) (⟨Rect.unit (s := ⟨3, ![l, m, n]⟩) ![u, o, q] ![1, a, b] j, p⟩ :: L) y
      = T (y 0).val (y 1).val (y 2).val := by
  refine block_step _ _ _ (fun y => T (y 0).val (y 1).val (y 2).val) (fun x => ?_) fun n1 => h' fun hn => n1 ?_
  · change (⟨3, ![1, a, b]⟩ : Shape).Idx at x
    refine (congrArg p (eq_ix3 x)).trans ((h (x 0) (x 1) (x 2)).trans ?_)
    show T (u + (x 0).val) (o + (x 1).val) (q + (x 2).val) = T (u + 1 * (x 0).val) (o + 1 * (x 1).val) (q + 1 * (x 2).val)
    rw [one_mul, one_mul, one_mul]
  · rw [Rect.mem_set_unit]
    simp only [Fin.forall_fin_succ]
    exact ⟨hn.1, hn.2.1, hn.2.2, fun i => i.elim0⟩
end Cert.Proof
namespace Cert.FfnInFwdIdeal.Val
open Cert.FfnInFwdIdeal Cert.FfnInFwdIdeal.Gen Cert.Proof

/-- A row of the product with the input weight. -/
def gt (H W : ℕ → ℕ → EReal) (n k : ℕ) : EReal := ∑ d : Fin 1024, H n d * W d k
/-- The gate and the up product, one after the other. -/
def both (H W : ℕ → ℕ → EReal) (z n k : ℕ) : EReal := gt H W n (2816 * z + k)
/-- The gated activation. -/
def act (H W : ℕ → ℕ → EReal) (n k : ℕ) : EReal :=
  gt H W n k * Ideal.div (1 : EReal) ((1 : EReal) + Ideal.exp (-gt H W n k)) * gt H W n (2816 + k)

variable (m : (ℓ : Loc nD τ sig) → Buf (Elt Ideal) ℓ) (c : Dev nD) {H W : ℕ → ℕ → EReal}
  (hH : ∀ (n : Fin 4096) (k : Fin 1024), m ((c.tc : Thread nD τ).loc main_arg0) (ix2 n k) = H n k)
  (hW : ∀ (n : Fin 1024) (k : Fin 5632), m ((c.tc : Thread nD τ).loc main_arg1) (ix2 n k) = W n k)

theorem idx : ∀ t : Fin cfg0.N, win0_0.index t = ![t.val % 4, 0] ∧ win0_1.index t = ![t.val / 4, 0, 0]
    ∧ win0_2.index t = ![2 + t.val / 4, 0, 0] ∧ win0_3.index t = ![0, t.val % 4, t.val / 4]
    ∧ win0_4.index t = ![t.val % 4, t.val / 4] := (by decide +kernel : ∀ t : Fin grid0.N, _)
theorem lt8 (t : Fin cfg0.N) : t.val < 8 := t.isLt
theorem ent0 (n : Fin 4096) (q : Fin 1024) : V m c (Pipeline.arrRef spec0 0) (ix2 n q) = m ((c.tc : Thread nD τ).loc main_arg0) (ix2 n q) := by
  entry_read; pointwise
theorem ent1 (a : Fin 4) (b : Fin 1408) (d : Fin 1024) : V m c (Pipeline.arrRef spec0 1) (ix3 a b d)
    = m ((c.tc : Thread nD τ).loc main_arg1) (ix2 d ⟨a * 1408 + b, by omega⟩) := by
  entry_read; pointwise
theorem blk0 (t : Fin cfg0.N) (r : Fin 1024) (q : Fin 1024) :
    iblk m c 0 t (ix2 r q) = V m c (Pipeline.arrRef spec0 0) (ix2 ⟨1024 * (t.val % 4) + r, by omega⟩ q) := by
  blk_point [iblk, idx t]
theorem blk1 (t : Fin cfg0.N) (z : Fin 1) (r : Fin 1408) (q : Fin 1024) :
    iblk m c 1 t (ix3 z r q) = V m c (Pipeline.arrRef spec0 1) (ix3 ⟨t.val / 4, by have := lt8 t; omega⟩ r q) := by
  blk_point [iblk, idx t]
theorem blk2 (t : Fin cfg0.N) (z : Fin 1) (r : Fin 1408) (q : Fin 1024) :
    iblk m c 2 t (ix3 z r q) = V m c (Pipeline.arrRef spec0 2) (ix3 ⟨2 + t.val / 4, by have := lt8 t; omega⟩ r q) := by
  blk_point [iblk, idx t]
include hH in
theorem in0 (t : Fin cfg0.N) (r : Fin 1024) (d : Fin 1024) : iblk m c 0 t (ix2 r d) = H (1024 * (t.val % 4) + r) d := by
  rw [blk0, ent0, hH]
include hW in
theorem in1 (t : Fin cfg0.N) (z : Fin 1) (q : Fin 1408) (d : Fin 1024) : iblk m c 1 t (ix3 z q d) = W d (1408 * (t.val / 4) + q) := by
  rw [blk1, ent1, hW]
  refine congrArg (fun k : ℕ => W d k) ?_
  show t.val / 4 * 1408 + q.val = 1408 * (t.val / 4) + q.val
  omega
include hW in
theorem in2 (t : Fin cfg0.N) (z : Fin 1) (q : Fin 1408) (d : Fin 1024) : iblk m c 2 t (ix3 z q d) = W d (2816 + (1408 * (t.val / 4) + q)) := by
  refine (blk2 m c t z q d).trans ((ent1 m c _ q d).trans ((hW _ _).trans (congrArg (fun k : ℕ => W d k) ?_)))
  show (2 + t.val / 4) * 1408 + q.val = 2816 + (1408 * (t.val / 4) + q.val)
  omega

section Pay
variable (x : Vec Ideal S1024x1024 .bf16) (r : Fin 1024) (z : Fin 1)
theorem pay2 (w : Vec Ideal S1x640x1024 .bf16) (q : Fin 640) :
    k0_pay2 (k0_pay11 x w) (ix3 z r q) = (∑ d : Fin 1024, x (ix2 r d) * w (ix3 0 q d) : EReal) := by
  pointwise [k0_pay2, k0_pay11, k0_pay5]
theorem pay3 (w : Vec Ideal S1x640x1024 .bf16) (q : Fin 640) :
    k0_pay3 (k0_pay5 x) w (ix3 z r q) = (∑ d : Fin 1024, x (ix2 r d) * w (ix3 0 q d) : EReal) := by
  pointwise [k0_pay3, k0_pay1, k0_pay5]
theorem pay8 (w : Vec Ideal S1x768x1024 .bf16) (q : Fin 768) :
    k0_pay8 x w (ix3 z r q) = (∑ d : Fin 1024, x (ix2 r d) * w (ix3 0 q d) : EReal) := by
  pointwise [k0_pay8, k0_pay6, k0_pay5]
theorem pay9 (w : Vec Ideal S1x768x1024 .bf16) (q : Fin 768) :
    k0_pay9 x w (ix3 z r q) = (∑ d : Fin 1024, x (ix2 r d) * w (ix3 0 q d) : EReal) := by
  pointwise [k0_pay9, k0_pay7, k0_pay5]
theorem pay4 (w u : Vec Ideal S1x640x1024 .bf16) (q : Fin 640) {a b : EReal} (ha : (∑ d : Fin 1024, x (ix2 r d) * w (ix3 0 q d) : EReal) = a)
    (hb : (∑ d : Fin 1024, x (ix2 r d) * u (ix3 0 q d) : EReal) = b) :
    k0_pay4 (k0_pay5 x) (k0_pay11 x w) u (ix2 r q) = a * Ideal.div (1 : EReal) ((1 : EReal) + Ideal.exp (-a)) * b := by
  pointwise [k0_pay4, k0_pay11, k0_pay1, k0_pay5]
  rw [zero_sub, ha, hb]
theorem pay10 (w u : Vec Ideal S1x768x1024 .bf16) (q : Fin 768) {a b : EReal} (ha : (∑ d : Fin 1024, x (ix2 r d) * w (ix3 0 q d) : EReal) = a)
    (hb : (∑ d : Fin 1024, x (ix2 r d) * u (ix3 0 q d) : EReal) = b) :
    k0_pay10 x w u (ix2 r q) = a * Ideal.div (1 : EReal) ((1 : EReal) + Ideal.exp (-a)) * b := by
  pointwise [k0_pay10, k0_pay6, k0_pay7, k0_pay5]
  rw [zero_sub, ha, hb]
end Pay
section Tile
variable {x : Vec Ideal S1024x1024 .bf16} {w u : Vec Ideal S1x1408x1024 .bf16} {R Q : ℕ}
/-- A row of the product in a tile of columns. -/
theorem part {b : ℕ} (o : ℕ) (j) (r : Fin 1024) (q : Fin b) (hq : o + b ≤ 1408) (hx : ∀ r d : Fin 1024, x (ix2 r d) = H (R + r) d)
    (hw : ∀ (q : Fin 1408) (d : Fin 1024), w (ix3 0 q d) = W d (Q + q)) :
    (∑ d : Fin 1024, x (ix2 r d) * View.ld (Val := Elt Ideal) (e' := .bf16) w (Rect.unit (s := S1x1408x1024) ![0, o, 0] ![1, b, 1024] j) (ix3 0 q d) : EReal)
      = gt H W (R + r) (Q + (o + q)) :=
  Finset.sum_congr (M := EReal) rfl fun d _ => congrArg₂ (fun a b : EReal => a * b) (hx r d)
    ((ld3 (Val := Elt Ideal) _ j 0 q d 0 ⟨o + q, by omega⟩ d rfl rfl (by omega)).trans (hw _ _))
variable (hx : ∀ r d : Fin 1024, x (ix2 r d) = H (R + r) d) (hw : ∀ (q : Fin 1408) (d : Fin 1024), w (ix3 0 q d) = W d (1408 * Q + q))
  (hu : ∀ (q : Fin 1408) (d : Fin 1024), u (ix3 0 q d) = W d ((2816 + 1408 * Q) + q))
include hx hw hu
theorem canon3 (y : S2x1024x1408.Idx) : View.canon (Val := Elt Ideal) (s := S2x1024x1408) (e := .bf16)
      [⟨Rect.unit ![1, 0, 768] ![1, 1024, 640] inb_S2x1024x1408_S1x1024x640_1_0_768, k0_pay3 (k0_pay5 x) (View.ld u (Rect.unit ![0, 768, 0] ![1, 640, 1024] inb_S1x1408x1024_S1x640x1024_0_768_0))⟩,
        ⟨Rect.unit ![0, 0, 768] ![1, 1024, 640] inb_S2x1024x1408_S1x1024x640_0_0_768, k0_pay2 (k0_pay11 x (View.ld w (Rect.unit ![0, 768, 0] ![1, 640, 1024] inb_S1x1408x1024_S1x640x1024_0_768_0)))⟩,
        ⟨Rect.unit ![1, 0, 0] ![1, 1024, 768] inb_S2x1024x1408_S1x1024x768_1_0_0, k0_pay9 x (View.ld u (Rect.unit ![0, 0, 0] ![1, 768, 1024] inb_S1x1408x1024_S1x768x1024_0_0_0))⟩,
        ⟨Rect.unit ![0, 0, 0] ![1, 1024, 768] inb_S2x1024x1408_S1x1024x768_0_0_0, k0_pay8 x (View.ld w (Rect.unit ![0, 0, 0] ![1, 768, 1024] inb_S1x1408x1024_S1x768x1024_0_0_0))⟩] y
      = both H W (y 0).val (R + (y 1).val) (1408 * Q + (y 2).val) := by
  have b0 : (y 0).val < 2 := (y 0).isLt
  have b1 : (y 1).val < 1024 := (y 1).isLt
  have b2 : (y 2).val < 1408 := (y 2).isLt
  refine tile3_step (Val := Elt Ideal) (e := .bf16) (l := 2) (m := 1024) (n := 1408) _ _ _ (fun z n k => both H W z (R + n) (1408 * Q + k)) y (fun z r k => ?_) fun n1 => ?_
  · refine (pay3 x r z _ k).trans ((part 768 _ r k (by omega) hx hu).trans ?_)
    show gt H W _ _ = gt H W _ _
    congr 1 <;> omega
  refine tile3_step (Val := Elt Ideal) (e := .bf16) (l := 2) (m := 1024) (n := 1408) _ _ _ (fun z n k => both H W z (R + n) (1408 * Q + k)) y (fun z r k => ?_) fun n2 => ?_
  · refine (pay2 x r z _ k).trans ((part 768 _ r k (by omega) hx hw).trans ?_)
    show gt H W _ _ = gt H W _ _
    congr 1 <;> omega
  refine tile3_step (Val := Elt Ideal) (e := .bf16) (l := 2) (m := 1024) (n := 1408) _ _ _ (fun z n k => both H W z (R + n) (1408 * Q + k)) y (fun z r k => ?_) fun n3 => ?_
  · refine (pay9 x r z _ k).trans ((part 0 _ r k (by omega) hx hu).trans ?_)
    show gt H W _ _ = gt H W _ _
    congr 1 <;> omega
  refine tile3_step (Val := Elt Ideal) (e := .bf16) (l := 2) (m := 1024) (n := 1408) _ _ _ (fun z n k => both H W z (R + n) (1408 * Q + k)) y (fun z r k => ?_) fun n4 => ?_
  · refine (pay8 x r z _ k).trans ((part 0 _ r k (by omega) hx hw).trans ?_)
    show gt H W _ _ = gt H W _ _
    congr 1 <;> omega
  omega
theorem canon4 (y : S1024x1408.Idx) : View.canon (Val := Elt Ideal) (s := S1024x1408) (e := .bf16)
      [⟨Rect.unit ![0, 768] ![1024, 640] inb_S1024x1408_S1024x640_0_768, k0_pay4 (k0_pay5 x) (k0_pay11 x (View.ld w (Rect.unit ![0, 768, 0] ![1, 640, 1024] inb_S1x1408x1024_S1x640x1024_0_768_0))) (View.ld u (Rect.unit ![0, 768, 0] ![1, 640, 1024] inb_S1x1408x1024_S1x640x1024_0_768_0))⟩,
        ⟨Rect.unit ![0, 0] ![1024, 768] inb_S1024x1408_S1024x768_0_0, k0_pay10 x (View.ld w (Rect.unit ![0, 0, 0] ![1, 768, 1024] inb_S1x1408x1024_S1x768x1024_0_0_0)) (View.ld u (Rect.unit ![0, 0, 0] ![1, 768, 1024] inb_S1x1408x1024_S1x768x1024_0_0_0))⟩] y
      = act H W (R + (y 0).val) (1408 * Q + (y 1).val) := by
  have b0 : (y 0).val < 1024 := (y 0).isLt
  have b1 : (y 1).val < 1408 := (y 1).isLt
  refine tile_step (Val := Elt Ideal) (e := .bf16) (m := 1024) (n := 1408) _ _ _ (fun n k => act H W (R + n) (1408 * Q + k)) y (fun r k => ?_) fun n1 => ?_
  · refine (pay4 x r _ _ k (part 768 _ r k (by omega) hx hw) ((part 768 _ r k (by omega) hx hu).trans (by rw [Nat.add_assoc]))).trans ?_
    show act H W (R + r) (1408 * Q + (768 + k)) = act H W (R + (0 + r)) (1408 * Q + (768 + k))
    rw [Nat.zero_add r.val]
  refine tile_step (Val := Elt Ideal) (e := .bf16) (m := 1024) (n := 1408) _ _ _ (fun n k => act H W (R + n) (1408 * Q + k)) y (fun r k => ?_) fun n2 => ?_
  · refine (pay10 x r _ _ k (part 0 _ r k (by omega) hx hw) ((part 0 _ r k (by omega) hx hu).trans (by rw [Nat.add_assoc]))).trans ?_
    show act H W (R + r) (1408 * Q + (0 + k)) = act H W (R + (0 + r)) (1408 * Q + (0 + k))
    rw [Nat.zero_add r.val]
  omega
end Tile

set_option maxHeartbeats 400000 in
include hH hW in
/-- The kernel's first result. -/
theorem final3 : (dats m 0 c).arrAt 3 (cfgs 0).N = fun i : S2x4096x2816.Idx => both H W (i 0).val (i 1).val (i 2).val := by
  refine (dats m 0 c).arrAt_eq_of_covers 3 _ (by decide +kernel) fun t hf y => ?_
  blk_simp [idx t]
  rw [after0_3]
  unfold outsAt0
  frame_out
  change S2x1024x1408.Idx at y
  refine (canon3 (in0 m c hH t) (fun q d => in1 m c hW t 0 q d) (fun q d => (in2 m c hW t 0 q d).trans (by rw [← Nat.add_assoc])) y).trans ?_
  congr 1 <;> omega
set_option maxHeartbeats 400000 in
include hH hW in
/-- The kernel's second result. -/
theorem final4 : (dats m 0 c).arrAt 4 (cfgs 0).N = fun i : S4096x2816.Idx => act H W (i 0).val (i 1).val := by
  refine (dats m 0 c).arrAt_eq_of_covers 4 _ (by decide +kernel) fun t hf y => ?_
  blk_simp [idx t]
  rw [after0_4]
  unfold outsAt0
  frame_out
  change S1024x1408.Idx at y
  refine (canon4 (in0 m c hH t) (fun q d => in1 m c hW t 0 q d) (fun q d => (in2 m c hW t 0 q d).trans (by rw [← Nat.add_assoc])) y).trans ?_
  congr 1 <;> omega
end Cert.FfnInFwdIdeal.Val

namespace Cert.FfnInFwdRefIdeal.Value
open Cert.FfnInFwdRefIdeal Cert.FfnInFwdRefIdeal.Gen
variable (A0 : FVec Ideal S4096x1024 .f32) (A1 : FVec Ideal S1024x5632 .f32) {H W : ℕ → ℕ → EReal}
  (hH : ∀ (n : Fin 4096) (k : Fin 1024), A0 (ix2 n k) = H n k)
  (hW : ∀ (n : Fin 1024) (k : Fin 5632), A1 (ix2 n k) = W n k)
def rP : FVec Ideal S4096x5632 .f32 := Host.dotGeneral dot_S4096x1024_S1024x5632_S4096x5632_1_0_0_1_n_n none A0 A1
def rG : FVec Ideal S4096x2816 .f32 := extractStridedSlice S4096x2816 ![0, 0] (rP A0 A1) slices_S4096x5632_S4096x2816_0_0
def rU : FVec Ideal S4096x2816 .f32 := extractStridedSlice S4096x2816 ![0, 2816] (rP A0 A1) slices_S4096x5632_S4096x2816_0_2816
include hH hW
theorem rP_at (n : Fin 4096) (k : Fin 5632) : rP A0 A1 (ix2 n k) = Cert.FfnInFwdIdeal.Val.gt H W n k := by
  pointwise [rP]
  exact Finset.sum_congr (M := EReal) rfl fun d _ => congrArg₂ (fun a b : EReal => a * b) (hH _ _) (hW _ _)
theorem rG_at (n : Fin 4096) (k : Fin 2816) : rG A0 A1 (ix2 n k) = Cert.FfnInFwdIdeal.Val.gt H W n k := by
  pointwise [rG]
  exact rP_at A0 A1 hH hW _ _
theorem rU_at (n : Fin 4096) (k : Fin 2816) : rU A0 A1 (ix2 n k) = Cert.FfnInFwdIdeal.Val.gt H W n (2816 + k) := by
  pointwise [rU]
  exact rP_at A0 A1 hH hW _ _
/-- The reference's first result. -/
theorem res0 : (truncf (F := Ideal) .bf16 (concatenate S2x4096x2816 0 [⟨S1x4096x2816, (broadcastInDim S1x4096x2816 ![1, 2] bcast_S4096x2816_S1x4096x2816_1_2 (rG A0 A1))⟩, ⟨S1x4096x2816, (broadcastInDim S1x4096x2816 ![1, 2] bcast_S4096x2816_S1x4096x2816_1_2 (rU A0 A1))⟩] concatenates_S1x4096x2816_S1x4096x2816_S2x4096x2816_d0) bitsLt_bf16_f32 : FVec Ideal S2x4096x2816 .bf16)
    = fun i => Cert.FfnInFwdIdeal.Val.both H W (i 0).val (i 1).val (i 2).val := by
  funext i; idx_vars i
  pointwise
  unfold Cert.FfnInFwdIdeal.Val.both
  by_cases h : i0.val < 1
  · refine (dif_pos h).trans ((rG_at A0 A1 hH hW _ _).trans (congrArg (fun k : ℕ => Cert.FfnInFwdIdeal.Val.gt H W i1 k) ?_))
    show i2.val = 2816 * i0.val + i2.val
    omega
  · refine (dif_neg h).trans ((rU_at A0 A1 hH hW _ _).trans (congrArg (fun k : ℕ => Cert.FfnInFwdIdeal.Val.gt H W i1 k) ?_))
    show 2816 + i2.val = 2816 * i0.val + i2.val
    omega
/-- The reference's second result. -/
theorem res1 : (truncf (F := Ideal) .bf16 (mulf (mulf (rG A0 A1) (Host.divf (broadcastInDim S4096x2816 ![] bcast_S_S4096x2816 (constant S_ .f32 0x3F800000#32)) (addf (broadcastInDim S4096x2816 ![] bcast_S_S4096x2816 (constant S_ .f32 0x3F800000#32)) (Host.exp (Host.negf (rG A0 A1)))))) (rU A0 A1)) bitsLt_bf16_f32 : FVec Ideal S4096x2816 .bf16)
    = fun i => Cert.FfnInFwdIdeal.Val.act H W (i 0).val (i 1).val := by
  funext i; idx_vars i
  pointwise
  exact congrArg₂ (fun a b : EReal => a * Ideal.div (1 : EReal) ((1 : EReal) + Ideal.exp (-a)) * b) (rG_at A0 A1 hH hW _ _) (rU_at A0 A1 hH hW _ _)
end Cert.FfnInFwdRefIdeal.Value

namespace Cert.Proof
set_option maxHeartbeats 2000000 in
/-- Over the reals the kernel computes the feed-forward layer's gate, up product and gated activation. -/
theorem ffn_in_fwd_algebraic : Cert.algebraic_FfnInFwdIdeal_FfnInFwdRefIdeal := by
  pair_intro
  · run_from Cert.FfnInFwdIdeal.Value.run_blocks m g
  · have H : ∀ c : Dev Cert.FfnInFwdIdeal.nD, ∃ (H W : ℕ → ℕ → EReal),
        (∀ (n : Fin 4096) (k : Fin 1024), m ((c.tc : Thread Cert.FfnInFwdIdeal.nD Cert.FfnInFwdIdeal.τ).loc Cert.FfnInFwdIdeal.main_arg0) (ix2 n k) = H n k)
        ∧ (∀ (n : Fin 1024) (k : Fin 5632), m ((c.tc : Thread Cert.FfnInFwdIdeal.nD Cert.FfnInFwdIdeal.τ).loc Cert.FfnInFwdIdeal.main_arg1) (ix2 n k) = W n k) := fun c => by
      obtain ⟨H, hH⟩ := ext2 (m ((c.tc : Thread Cert.FfnInFwdIdeal.nD Cert.FfnInFwdIdeal.τ).loc Cert.FfnInFwdIdeal.main_arg0))
      obtain ⟨W, hW⟩ := ext2 (m ((c.tc : Thread Cert.FfnInFwdIdeal.nD Cert.FfnInFwdIdeal.τ).loc Cert.FfnInFwdIdeal.main_arg1))
      exact ⟨H, W, hH, hW⟩
    run_from Cert.FfnInFwdRefIdeal.Value.run m' g'
    all_goals
      obtain ⟨H, W, hH, hW⟩ := H c
      obtain ⟨a0, a1⟩ := hagree c
    · exact Eq.trans (Cert.FfnInFwdRefIdeal.Value.res0 _ _ hH hW) (Cert.FfnInFwdIdeal.Val.final3 m c hH hW).symm
    · exact Eq.trans (Cert.FfnInFwdRefIdeal.Value.res1 _ _ hH hW) (Cert.FfnInFwdIdeal.Val.final4 m c hH hW).symm
end Cert.Proof
-- ==== Proof.FfnOutFwd.lean ====
/-
  The feed-forward layer's output product in the forward pass, with the norm after it, the residual and the next norm.
-/
module
public import proofs.«01_k».proof.Defs
public import proofs.«01_k».proof.Proof.Gen.FfnOutFwdIdeal.Value
public import proofs.«01_k».proof.Proof.Gen.FfnOutFwdRefIdeal.Run
public import proofs.«01_k».proof.Proof.Arrays
public import proofs.«01_k».proof.Proof.Norm
public import Idealize.ShloMosaic.Lib.Pointwise
public import Idealize.ShloMosaic.Lib.Pipeline.ValueKit
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.Proof
/-- The root-mean-square factor of a row. -/
def rsn (f : ℕ → EReal) : EReal :=
  Ideal.rsqrt (Ideal.div (∑ d : Fin 1024, f d * f d) (Ideal.ofBits .f32 0x44800000#32) + Ideal.ofBits .f32 0x358637BD#32)
/-- The residual with a normed row added. -/
def resid (Y X : ℕ → ℕ → EReal) (g : ℕ → EReal) (n k : ℕ) : EReal := X n k + Y n k * rsn (Y n) * g k
/-- The normed row. -/
def normed (V : ℕ → ℕ → EReal) (g : ℕ → EReal) (n k : ℕ) : EReal := V n k * rsn (V n) * g k
/-- A vector as a function of the natural numbers. -/
theorem ext1 {a : ℕ} (x : (⟨1, ![a]⟩ : Shape).Idx → EReal) : ∃ X : ℕ → EReal, ∀ k : Fin a, x (ix1 k) = X k := by
  refine ⟨fun k => if h : k < a then x (ix1 ⟨k, h⟩) else 0, fun k => ?_⟩
  dsimp only
  rw [dif_pos k.isLt]
end Cert.Proof
namespace Cert.FfnOutFwdIdeal.Val
open Cert.FfnOutFwdIdeal Cert.FfnOutFwdIdeal.Gen Cert.Proof

/-- The gated activation. -/
def av (G U : ℕ → ℕ → EReal) (n q : ℕ) : EReal := G n q * Ideal.div (1 : EReal) ((1 : EReal) + Ideal.exp (-G n q)) * U n q
/-- A row of the product with the output weight. -/
def yv (A W : ℕ → ℕ → EReal) (n k : ℕ) : EReal := ∑ q : Fin 2816, A n q * W q k

section Pay
variable {v0 : Vec Ideal S256x2816 .bf16} {v2 : Vec Ideal S2816x1024 .bf16} {v7 : Vec Ideal S256x1024 .f32} {g0 g1 : Vec Ideal S1x1x1024 .f32}
  {A W X : ℕ → ℕ → EReal} {ga gb : ℕ → EReal} {R : ℕ}
  (h0 : ∀ (r : Fin 256) (q : Fin 2816), v0 (ix2 r q) = A (R + r) q)
  (h2 : ∀ (q : Fin 2816) (k : Fin 1024), v2 (ix2 q k) = W q k)
  (h7 : ∀ (r : Fin 256) (k : Fin 1024), v7 (ix2 r k) = X (R + r) k)
  (ha : ∀ k : Fin 1024, g0 (ix3 0 0 k) = ga k) (hb : ∀ k : Fin 1024, g1 (ix3 0 0 k) = gb k)
include h0 h2
theorem p2 (r : Fin 256) (k : Fin 1024) : k0_pay2 v0 v2 (ix2 r k) = yv A W (R + r) k := by
  pointwise [k0_pay2]
  exact Finset.sum_congr (M := EReal) rfl fun q _ => congrArg₂ (fun a b : EReal => a * b) (h0 _ _) (h2 _ _)
theorem p3 (r : Fin 256) (k : Fin 1024) : k0_pay3 v0 v2 (ix2 r k) = yv A W (R + r) k := by
  pointwise [k0_pay3]
  exact p2 h0 h2 r k
include h7 ha
theorem p4 (r : Fin 256) (k : Fin 1024) : k0_pay4 v0 v2 v7 g0 (ix2 r k) = resid (yv A W) X ga (R + r) k := by
  pointwise [k0_pay4]
  simp only [p2 h0 h2, h7, ha]
  rfl
include hb
theorem p6 (r : Fin 256) (k : Fin 1024) : k0_pay6 (k0_pay5 v0 v2 v7 g0) g1 (ix2 r k) = normed (resid (yv A W) X ga) gb (R + r) k := by
  pointwise [k0_pay6, k0_pay5]
  simp only [p4 h0 h2 h7 ha, hb]
  rfl
end Pay

variable (m : (ℓ : Loc nD τ sig) → Buf (Elt Ideal) ℓ) (c : Dev nD) {G U W X : ℕ → ℕ → EReal} {ga gb : ℕ → EReal}
  (hG : ∀ (n : Fin 4096) (k : Fin 2816), m ((c.tc : Thread nD τ).loc main_arg0) (ix2 n k) = G n k)
  (hU : ∀ (n : Fin 4096) (k : Fin 2816), m ((c.tc : Thread nD τ).loc main_arg1) (ix2 n k) = U n k)
  (hW : ∀ (n : Fin 2816) (k : Fin 1024), m ((c.tc : Thread nD τ).loc main_arg2) (ix2 n k) = W n k)
  (hX : ∀ (n : Fin 4096) (k : Fin 1024), m ((c.tc : Thread nD τ).loc main_arg3) (ix2 n k) = X n k)
  (ha : ∀ k : Fin 1024, m ((c.tc : Thread nD τ).loc main_arg4) (ix1 k) = ga k)
  (hb : ∀ k : Fin 1024, m ((c.tc : Thread nD τ).loc main_arg5) (ix1 k) = gb k)

theorem idx : ∀ t : Fin cfg0.N, win0_0.index t = ![t.val, 0] ∧ win0_1.index t = ![0, 0] ∧ win0_2.index t = ![t.val, 0]
    ∧ win0_3.index t = ![0, 0, 0] ∧ win0_4.index t = ![0, 0, 0] ∧ win0_5.index t = ![t.val, 0]
    ∧ win0_6.index t = ![t.val, 0] ∧ win0_7.index t = ![t.val, 0] := (by decide +kernel : ∀ t : Fin grid0.N, _)
theorem lt8 (t : Fin cfg0.N) : t.val < 8 := t.isLt
include hG hU in
theorem ent0 (n : Fin 4096) (q : Fin 2816) : V m c (Pipeline.arrRef spec0 0) (ix2 n q) = av G U n q := by
  simp only [V, hostOps0, hostOps0_1, List.flatten_cons, List.flatten_nil, List.cons_append, List.nil_append, List.append_nil]
  entry_read
  simp only [StableHlo.TRef.toBuf, StableHlo.TRef.ofBuf, cast_eq]
  pointwise
  unfold av
  rw [hG, hU]
include hW in
theorem ent1 (n : Fin 2816) (q : Fin 1024) : V m c (Pipeline.arrRef spec0 1) (ix2 n q) = W n q := by
  simp only [V, hostOps0, hostOps0_1, List.flatten_cons, List.flatten_nil, List.cons_append, List.nil_append, List.append_nil]
  entry_read; pointwise; exact hW n q
include hX in
theorem ent2 (n : Fin 4096) (q : Fin 1024) : V m c (Pipeline.arrRef spec0 2) (ix2 n q) = X n q := by
  simp only [V, hostOps0, hostOps0_1, List.flatten_cons, List.flatten_nil, List.cons_append, List.nil_append, List.append_nil]
  entry_read; exact hX n q
include ha in
theorem ent3 (a b : Fin 1) (q : Fin 1024) : V m c (Pipeline.arrRef spec0 3) (ix3 a b q) = ga q := by
  simp only [V, hostOps0, hostOps0_1, List.flatten_cons, List.flatten_nil, List.cons_append, List.nil_append, List.append_nil]
  entry_read; pointwise; exact ha q
include hb in
theorem ent4 (a b : Fin 1) (q : Fin 1024) : V m c (Pipeline.arrRef spec0 4) (ix3 a b q) = gb q := by
  simp only [V, hostOps0, hostOps0_1, List.flatten_cons, List.flatten_nil, List.cons_append, List.nil_append, List.append_nil]
  entry_read; pointwise; exact hb q
theorem blk0 (t : Fin cfg0.N) (r : Fin 512) (q : Fin 2816) :
    iblk m c 0 t (ix2 r q) = V m c (Pipeline.arrRef spec0 0) (ix2 ⟨512 * t.val + r, by have := lt8 t; omega⟩ q) := by
  blk_point [iblk, idx t]
theorem blk1 (t : Fin cfg0.N) (r : Fin 2816) (q : Fin 1024) : iblk m c 1 t (ix2 r q) = V m c (Pipeline.arrRef spec0 1) (ix2 r q) := by
  blk_point [iblk, idx t]
theorem blk2 (t : Fin cfg0.N) (r : Fin 512) (q : Fin 1024) :
    iblk m c 2 t (ix2 r q) = V m c (Pipeline.arrRef spec0 2) (ix2 ⟨512 * t.val + r, by have := lt8 t; omega⟩ q) := by
  blk_point [iblk, idx t]
theorem blk3 (t : Fin cfg0.N) (q : Fin 1024) : iblk m c 3 t (ix3 0 0 q) = V m c (Pipeline.arrRef spec0 3) (ix3 0 0 q) := by
  blk_point [iblk, idx t]
theorem blk4 (t : Fin cfg0.N) (q : Fin 1024) : iblk m c 4 t (ix3 0 0 q) = V m c (Pipeline.arrRef spec0 4) (ix3 0 0 q) := by
  blk_point [iblk, idx t]
section Canon
variable {A : ℕ → ℕ → EReal} {R : ℕ} {x0 : Vec Ideal S512x2816 .bf16} {x1 : Vec Ideal S2816x1024 .bf16} {x2 : Vec Ideal S512x1024 .f32}
  {x3 x4 : Vec Ideal S1x1x1024 .f32}
  (h0 : ∀ (r : Fin 512) (q : Fin 2816), x0 (ix2 r q) = A (R + r) q) (h1 : ∀ (q : Fin 2816) (k : Fin 1024), x1 (ix2 q k) = W q k)
  (h2 : ∀ (r : Fin 512) (k : Fin 1024), x2 (ix2 r k) = X (R + r) k)
  (h3 : ∀ k : Fin 1024, x3 (ix3 0 0 k) = ga k) (h4 : ∀ k : Fin 1024, x4 (ix3 0 0 k) = gb k)
include h0 in
theorem half0 (o : ℕ) (ho : o + 256 ≤ 512) (j) (r : Fin 256) (q : Fin 2816) :
    View.ld (Val := Elt Ideal) (e' := .bf16) x0 (Rect.unit (s := S512x2816) ![o, 0] ![256, 2816] j) (ix2 r q) = A (R + o + r) q :=
  (ld2 (Val := Elt Ideal) _ j r q ⟨o + r, by omega⟩ q rfl (by omega)).trans ((h0 _ _).trans (congrArg (fun n : ℕ => A n q) (Nat.add_assoc _ _ _).symm))
include h2 in
theorem half2 (o : ℕ) (ho : o + 256 ≤ 512) (j) (r : Fin 256) (q : Fin 1024) :
    View.ld (Val := Elt Ideal) (e' := .f32) x2 (Rect.unit (s := S512x1024) ![o, 0] ![256, 1024] j) (ix2 r q) = X (R + o + r) q :=
  (ld2 (Val := Elt Ideal) _ j r q ⟨o + r, by omega⟩ q rfl (by omega)).trans ((h2 _ _).trans (congrArg (fun n : ℕ => X n q) (Nat.add_assoc _ _ _).symm))
include h1 in
theorem all1 (j) (q : Fin 2816) (k : Fin 1024) :
    View.ld (Val := Elt Ideal) (e' := .bf16) x1 (Rect.unit (s := S2816x1024) ![0, 0] ![2816, 1024] j) (ix2 q k) = W q k :=
  (ld2 (Val := Elt Ideal) _ j q k q k (by omega) (by omega)).trans (h1 _ _)
include h3 in
theorem all3 (j) (k : Fin 1024) :
    View.ld (Val := Elt Ideal) (e' := .f32) x3 (Rect.unit (s := S1x1x1024) ![0, 0, 0] ![1, 1, 1024] j) (ix3 0 0 k) = ga k :=
  (ld3 (Val := Elt Ideal) _ j 0 0 k 0 0 k (by omega) (by omega) (by omega)).trans (h3 _)
include h0 h1
theorem canon5 (y : S512x1024.Idx) : out0_5 x0 x1 x2 x3 x4 y = yv A W (R + (y 0).val) (y 1).val := by
  refine two_halves (Val := Elt Ideal) (e := .bf16) _ _ _ _ (fun n k => yv A W (R + n) k) (fun r k => ?_) (fun r k => ?_) y
  · exact (p3 (half0 h0 256 (by omega) _) (all1 h1 _) r k).trans (congrArg (fun n : ℕ => yv A W n k) (Nat.add_assoc _ _ _))
  · exact (p3 (half0 h0 0 (by omega) _) (all1 h1 _) r k).trans (congrArg (fun n : ℕ => yv A W n k) (Nat.add_assoc _ _ _))
include h2 h3
theorem canon6 (y : S512x1024.Idx) : out0_6 x0 x1 x2 x3 x4 y = resid (yv A W) X ga (R + (y 0).val) (y 1).val := by
  refine two_halves (Val := Elt Ideal) (e := .f32) _ _ _ _ (fun n k => resid (yv A W) X ga (R + n) k) (fun r k => ?_) (fun r k => ?_) y
  · exact (p4 (half0 h0 256 (by omega) _) (all1 h1 _) (half2 h2 256 (by omega) _) (all3 h3 _) r k).trans
      (congrArg (fun n : ℕ => resid (yv A W) X ga n k) (Nat.add_assoc _ _ _))
  · exact (p4 (half0 h0 0 (by omega) _) (all1 h1 _) (half2 h2 0 (by omega) _) (all3 h3 _) r k).trans
      (congrArg (fun n : ℕ => resid (yv A W) X ga n k) (Nat.add_assoc _ _ _))
include h4
theorem canon7 (y : S512x1024.Idx) : out0_7 x0 x1 x2 x3 x4 y = normed (resid (yv A W) X ga) gb (R + (y 0).val) (y 1).val := by
  refine two_halves (Val := Elt Ideal) (e := .bf16) _ _ _ _ (fun n k => normed (resid (yv A W) X ga) gb (R + n) k) (fun r k => ?_) (fun r k => ?_) y
  · exact (p6 (half0 h0 256 (by omega) _) (all1 h1 _) (half2 h2 256 (by omega) _) (all3 h3 _) (all3 h4 _) r k).trans
      (congrArg (fun n : ℕ => normed (resid (yv A W) X ga) gb n k) (Nat.add_assoc _ _ _))
  · exact (p6 (half0 h0 0 (by omega) _) (all1 h1 _) (half2 h2 0 (by omega) _) (all3 h3 _) (all3 h4 _) r k).trans
      (congrArg (fun n : ℕ => normed (resid (yv A W) X ga) gb n k) (Nat.add_assoc _ _ _))
end Canon
include hG hU in
theorem in0 (t : Fin cfg0.N) (r : Fin 512) (q : Fin 2816) : iblk m c 0 t (ix2 r q) = av G U (512 * t.val + r) q :=
  (blk0 m c t r q).trans (ent0 m c hG hU _ _)
include hW in
theorem in1 (t : Fin cfg0.N) (q : Fin 2816) (k : Fin 1024) : iblk m c 1 t (ix2 q k) = W q k := (blk1 m c t q k).trans (ent1 m c hW _ _)
include hX in
theorem in2 (t : Fin cfg0.N) (r : Fin 512) (k : Fin 1024) : iblk m c 2 t (ix2 r k) = X (512 * t.val + r) k :=
  (blk2 m c t r k).trans (ent2 m c hX _ _)
include ha in
theorem in3 (t : Fin cfg0.N) (k : Fin 1024) : iblk m c 3 t (ix3 0 0 k) = ga k := (blk3 m c t k).trans (ent3 m c ha _ _ _)
include hb in
theorem in4 (t : Fin cfg0.N) (k : Fin 1024) : iblk m c 4 t (ix3 0 0 k) = gb k := (blk4 m c t k).trans (ent4 m c hb _ _ _)
include hG hU hW in
/-- The kernel's product. -/
theorem final5 : (dats m 0 c).arrAt 5 (cfgs 0).N = fun i : S4096x1024.Idx => yv (av G U) W (i 0).val (i 1).val := by
  refine (dats m 0 c).arrAt_eq_of_covers 5 _ (by decide +kernel) fun t hf y => ?_
  blk_simp [idx t]
  rw [after0_5]
  change S512x1024.Idx at y
  refine (canon5 (in0 m c hG hU t) (in1 m c hW t) y).trans ?_
  congr 1 <;> omega
include hG hU hW hX ha in
/-- The kernel's residual. -/
theorem final6 : (dats m 0 c).arrAt 6 (cfgs 0).N = fun i : S4096x1024.Idx => resid (yv (av G U) W) X ga (i 0).val (i 1).val := by
  refine (dats m 0 c).arrAt_eq_of_covers 6 _ (by decide +kernel) fun t hf y => ?_
  blk_simp [idx t]
  rw [after0_6]
  change S512x1024.Idx at y
  refine (canon6 (in0 m c hG hU t) (in1 m c hW t) (in2 m c hX t) (in3 m c ha t) y).trans ?_
  congr 1 <;> omega
include hG hU hW hX ha hb in
/-- The kernel's next norm. -/
theorem final7 : (dats m 0 c).arrAt 7 (cfgs 0).N = fun i : S4096x1024.Idx => normed (resid (yv (av G U) W) X ga) gb (i 0).val (i 1).val := by
  refine (dats m 0 c).arrAt_eq_of_covers 7 _ (by decide +kernel) fun t hf y => ?_
  blk_simp [idx t]
  rw [after0_7]
  change S512x1024.Idx at y
  refine (canon7 (in0 m c hG hU t) (in1 m c hW t) (in2 m c hX t) (in3 m c ha t) (in4 m c hb t) y).trans ?_
  congr 1 <;> omega
end Cert.FfnOutFwdIdeal.Val

namespace Cert.FfnOutFwdRefIdeal.Value
open Cert.FfnOutFwdRefIdeal Cert.FfnOutFwdRefIdeal.Gen Cert.Proof Cert.FfnOutFwdIdeal.Val
/-- The reference's norm of every row. -/
def rN (x : FVec Ideal S4096x1024 .f32) (g : FVec Ideal S1024 .f32) : FVec Ideal S4096x1024 .f32 :=
  mulf (mulf x (broadcastInDim S4096x1024 ![0, 1] bcast_S4096x1_S4096x1024_0_1 (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 (broadcastInDim S1x1024 ![1] bcast_S1024_S1x1024_1 g))
theorem rN_at {x : FVec Ideal S4096x1024 .f32} {g : FVec Ideal S1024 .f32} {Z : ℕ → ℕ → EReal} {ga : ℕ → EReal}
    (hx : ∀ (n : Fin 4096) (k : Fin 1024), x (ix2 n k) = Z n k) (hg : ∀ k : Fin 1024, g (ix1 k) = ga k)
    (n : Fin 4096) (k : Fin 1024) : rN x g (ix2 n k) = normed Z ga n k := by
  pointwise [rN]
  simp only [hx, hg]
  rfl
variable (A0 A1 : FVec Ideal S4096x2816 .f32) (A2 : FVec Ideal S2816x1024 .f32) (A3 : FVec Ideal S4096x1024 .f32) (A4 A5 : FVec Ideal S1024 .f32)
  {G U W X : ℕ → ℕ → EReal} {ga gb : ℕ → EReal}
  (hG : ∀ (n : Fin 4096) (k : Fin 2816), A0 (ix2 n k) = G n k) (hU : ∀ (n : Fin 4096) (k : Fin 2816), A1 (ix2 n k) = U n k)
  (hW : ∀ (n : Fin 2816) (k : Fin 1024), A2 (ix2 n k) = W n k) (hX : ∀ (n : Fin 4096) (k : Fin 1024), A3 (ix2 n k) = X n k)
  (ha : ∀ k : Fin 1024, A4 (ix1 k) = ga k) (hb : ∀ k : Fin 1024, A5 (ix1 k) = gb k)
def rA : FVec Ideal S4096x2816 .f32 := mulf (mulf A0 (Host.divf (broadcastInDim S4096x2816 ![] bcast_S_S4096x2816 (constant S_ .f32 0x3F800000#32)) (addf (broadcastInDim S4096x2816 ![] bcast_S_S4096x2816 (constant S_ .f32 0x3F800000#32)) (Host.exp (Host.negf A0))))) A1
def rY : FVec Ideal S4096x1024 .f32 := Host.dotGeneral dot_S4096x2816_S2816x1024_S4096x1024_1_0_0_1_n_n none (rA A0 A1) A2
def rV : FVec Ideal S4096x1024 .f32 := addf A3 (rN (rY A0 A1 A2) A4)
include hG hU in
theorem rA_at (n : Fin 4096) (q : Fin 2816) : rA A0 A1 (ix2 n q) = av G U n q := by
  pointwise [rA]
  unfold av
  rw [hG, hU]
include hG hU hW in
theorem rY_at (n : Fin 4096) (k : Fin 1024) : rY A0 A1 A2 (ix2 n k) = yv (av G U) W n k := by
  pointwise [rY]
  exact Finset.sum_congr (M := EReal) rfl fun q _ => congrArg₂ (fun a b : EReal => a * b) (rA_at A0 A1 hG hU _ _) (hW _ _)
include hG hU hW hX ha in
theorem rV_at (n : Fin 4096) (k : Fin 1024) : rV A0 A1 A2 A3 A4 (ix2 n k) = resid (yv (av G U) W) X ga n k := by
  pointwise [rV]
  exact congrArg₂ (fun a b : EReal => a + b) (hX _ _) (rN_at (rY_at A0 A1 A2 hG hU hW) ha n k)
include hG hU hW in
theorem res0 : (truncf (F := Ideal) .bf16 (rY A0 A1 A2) bitsLt_bf16_f32 : FVec Ideal S4096x1024 .bf16)
    = fun i => yv (av G U) W (i 0).val (i 1).val := by
  funext i; idx_vars i
  pointwise
  exact rY_at A0 A1 A2 hG hU hW _ _
include hG hU hW hX ha in
theorem res1 : rV A0 A1 A2 A3 A4 = fun i => resid (yv (av G U) W) X ga (i 0).val (i 1).val := by
  funext i; idx_vars i
  exact rV_at A0 A1 A2 A3 A4 hG hU hW hX ha _ _
include hG hU hW hX ha hb in
theorem res2 : (truncf (F := Ideal) .bf16 (rN (rV A0 A1 A2 A3 A4) A5) bitsLt_bf16_f32 : FVec Ideal S4096x1024 .bf16)
    = fun i => normed (resid (yv (av G U) W) X ga) gb (i 0).val (i 1).val := by
  funext i; idx_vars i
  pointwise
  exact rN_at (rV_at A0 A1 A2 A3 A4 hG hU hW hX ha) hb _ _
end Cert.FfnOutFwdRefIdeal.Value

namespace Cert.Proof
set_option maxHeartbeats 2000000 in
/-- Over the reals the kernel computes the feed-forward layer's output, the residual and the next norm. -/
theorem ffn_out_fwd_algebraic : Cert.algebraic_FfnOutFwdIdeal_FfnOutFwdRefIdeal := by
  pair_intro
  · run_from Cert.FfnOutFwdIdeal.Value.run_blocks m g
  · have H : ∀ c : Dev Cert.FfnOutFwdIdeal.nD, ∃ (G U W X : ℕ → ℕ → EReal) (ga gb : ℕ → EReal),
        (∀ (n : Fin 4096) (k : Fin 2816), m ((c.tc : Thread Cert.FfnOutFwdIdeal.nD Cert.FfnOutFwdIdeal.τ).loc Cert.FfnOutFwdIdeal.main_arg0) (ix2 n k) = G n k)
        ∧ (∀ (n : Fin 4096) (k : Fin 2816), m ((c.tc : Thread Cert.FfnOutFwdIdeal.nD Cert.FfnOutFwdIdeal.τ).loc Cert.FfnOutFwdIdeal.main_arg1) (ix2 n k) = U n k)
        ∧ (∀ (n : Fin 2816) (k : Fin 1024), m ((c.tc : Thread Cert.FfnOutFwdIdeal.nD Cert.FfnOutFwdIdeal.τ).loc Cert.FfnOutFwdIdeal.main_arg2) (ix2 n k) = W n k)
        ∧ (∀ (n : Fin 4096) (k : Fin 1024), m ((c.tc : Thread Cert.FfnOutFwdIdeal.nD Cert.FfnOutFwdIdeal.τ).loc Cert.FfnOutFwdIdeal.main_arg3) (ix2 n k) = X n k)
        ∧ (∀ k : Fin 1024, m ((c.tc : Thread Cert.FfnOutFwdIdeal.nD Cert.FfnOutFwdIdeal.τ).loc Cert.FfnOutFwdIdeal.main_arg4) (ix1 k) = ga k)
        ∧ (∀ k : Fin 1024, m ((c.tc : Thread Cert.FfnOutFwdIdeal.nD Cert.FfnOutFwdIdeal.τ).loc Cert.FfnOutFwdIdeal.main_arg5) (ix1 k) = gb k) := fun c => by
      obtain ⟨G, hG⟩ := ext2 (m ((c.tc : Thread Cert.FfnOutFwdIdeal.nD Cert.FfnOutFwdIdeal.τ).loc Cert.FfnOutFwdIdeal.main_arg0))
      obtain ⟨U, hU⟩ := ext2 (m ((c.tc : Thread Cert.FfnOutFwdIdeal.nD Cert.FfnOutFwdIdeal.τ).loc Cert.FfnOutFwdIdeal.main_arg1))
      obtain ⟨W, hW⟩ := ext2 (m ((c.tc : Thread Cert.FfnOutFwdIdeal.nD Cert.FfnOutFwdIdeal.τ).loc Cert.FfnOutFwdIdeal.main_arg2))
      obtain ⟨X, hX⟩ := ext2 (m ((c.tc : Thread Cert.FfnOutFwdIdeal.nD Cert.FfnOutFwdIdeal.τ).loc Cert.FfnOutFwdIdeal.main_arg3))
      obtain ⟨ga, ha⟩ := ext1 (m ((c.tc : Thread Cert.FfnOutFwdIdeal.nD Cert.FfnOutFwdIdeal.τ).loc Cert.FfnOutFwdIdeal.main_arg4))
      obtain ⟨gb, hb⟩ := ext1 (m ((c.tc : Thread Cert.FfnOutFwdIdeal.nD Cert.FfnOutFwdIdeal.τ).loc Cert.FfnOutFwdIdeal.main_arg5))
      exact ⟨G, U, W, X, ga, gb, hG, hU, hW, hX, ha, hb⟩
    run_from Cert.FfnOutFwdRefIdeal.Value.run m' g'
    all_goals
      obtain ⟨G, U, W, X, ga, gb, hG, hU, hW, hX, ha, hb⟩ := H c
      obtain ⟨a0, a1, a2, a3, a4, a5⟩ := hagree c
    · exact Eq.trans (Cert.FfnOutFwdRefIdeal.Value.res0 _ _ _ hG hU hW) (Cert.FfnOutFwdIdeal.Val.final5 m c hG hU hW).symm
    · exact Eq.trans (Cert.FfnOutFwdRefIdeal.Value.res1 _ _ _ _ _ hG hU hW hX ha) (Cert.FfnOutFwdIdeal.Val.final6 m c hG hU hW hX ha).symm
    · refine Eq.trans ?_ (Cert.FfnOutFwdIdeal.Val.final7 m c hG hU hW hX ha hb).symm
      refine Eq.trans (b := truncf (F := Ideal) .bf16 (Cert.FfnOutFwdRefIdeal.Value.rN (Cert.FfnOutFwdRefIdeal.Value.rV _ _ _ _ _) _) Cert.FfnOutFwdRefIdeal.Facts₀.bitsLt_bf16_f32)
        (by unfold Cert.FfnOutFwdRefIdeal.Value.res_main_v31; rfl) ?_
      exact Cert.FfnOutFwdRefIdeal.Value.res2 _ _ _ _ _ _ (fun n k => (congrFun a0 (ix2 n k)).trans (hG n k)) (fun n k => (congrFun a1 (ix2 n k)).trans (hU n k))
        (fun n k => (congrFun a2 (ix2 n k)).trans (hW n k)) (fun n k => (congrFun a3 (ix2 n k)).trans (hX n k))
        (fun k => (congrFun a4 (ix1 k)).trans (ha k)) (fun k => (congrFun a5 (ix1 k)).trans (hb k))
end Cert.Proof
-- ==== Proof.InProjQkv.lean ====
/-
  The query, key and value columns of the input projection in the forward pass, after a block of zeros.
-/
module
public import proofs.«01_k».proof.Defs
public import proofs.«01_k».proof.Proof.Gen.InProjQkvIdeal.Value
public import proofs.«01_k».proof.Proof.Gen.InProjQkvRefIdeal.Run
public import proofs.«01_k».proof.Proof.Arrays
public import Idealize.ShloMosaic.Lib.Pointwise
public import Idealize.ShloMosaic.Lib.Pipeline.ValueKit
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.InProjQkvIdeal.Val
open Cert.InProjQkvIdeal Cert.InProjQkvIdeal.Gen Cert.Proof

/-- The product's columns after the first half, below 1024 rows of zeros. -/
def qkv (H W : ℕ → ℕ → EReal) (n k : ℕ) : EReal := if n < 1024 then 0 else ∑ d : Fin 1024, H (n - 1024) d * W d (1536 + k)

variable (m : (ℓ : Loc nD τ sig) → Buf (Elt Ideal) ℓ) (c : Dev nD) {H W : ℕ → ℕ → EReal}
  (hH : ∀ (n : Fin 4096) (k : Fin 1024), m ((c.tc : Thread nD τ).loc main_arg0) (ix2 n k) = H n k)
  (hW : ∀ (n : Fin 1024) (k : Fin 3072), m ((c.tc : Thread nD τ).loc main_arg1) (ix2 n k) = W n k)

theorem pick {p : Prop} [Decidable p] {f : p → EReal} {g : ¬p → EReal} {x : EReal} (hf : ∀ h, f h = x) (hg : ∀ h, g h = x) : dite p f g = x := by
  by_cases h : p
  · exact (dif_pos h).trans (hf h)
  · exact (dif_neg h).trans (hg h)
theorem piece (C : Vec Ideal S4x512x384 .bf16) (o j : ℕ) (hj : j < 4) (hC : ∀ (j : Fin 4) (r : Fin 512) (q : Fin 384), C (ix3 j r q) = W (o + r) (1536 + (384 * j + q)))
    (r : Fin 512) (q : Fin 384) (k c : ℕ) (hk : o + r.val = k) (hc : 384 * j + q.val = c) : C (ix3 ⟨j, hj⟩ r q) = W k (1536 + c) := by
  subst hk hc
  exact hC _ _ _
/-- The kernel's product of a block, from the pieces of the weight. -/
theorem pay {x : Vec Ideal S1024x1024 .bf16} (A B : Vec Ideal S4x512x384 .bf16) {R : ℕ} (hx : ∀ r d : Fin 1024, x (ix2 r d) = H (R + r) d)
    (hA : ∀ (j : Fin 4) (r : Fin 512) (q : Fin 384), A (ix3 j r q) = W (0 + r) (1536 + (384 * j + q)))
    (hB : ∀ (j : Fin 4) (r : Fin 512) (q : Fin 384), B (ix3 j r q) = W (512 + r) (1536 + (384 * j + q))) (r : Fin 1024) (k : Fin 1536) :
    k0_pay2 x (View.ld A (Rect.unit (s := S4x512x384) ![0, 0, 0] ![1, 512, 384] inb_S4x512x384_S1x512x384_0_0_0))
      (View.ld A (Rect.unit (s := S4x512x384) ![1, 0, 0] ![1, 512, 384] inb_S4x512x384_S1x512x384_1_0_0))
      (View.ld A (Rect.unit (s := S4x512x384) ![2, 0, 0] ![1, 512, 384] inb_S4x512x384_S1x512x384_2_0_0))
      (View.ld A (Rect.unit (s := S4x512x384) ![3, 0, 0] ![1, 512, 384] inb_S4x512x384_S1x512x384_3_0_0))
      (View.ld B (Rect.unit (s := S4x512x384) ![0, 0, 0] ![1, 512, 384] inb_S4x512x384_S1x512x384_0_0_0))
      (View.ld B (Rect.unit (s := S4x512x384) ![1, 0, 0] ![1, 512, 384] inb_S4x512x384_S1x512x384_1_0_0))
      (View.ld B (Rect.unit (s := S4x512x384) ![2, 0, 0] ![1, 512, 384] inb_S4x512x384_S1x512x384_2_0_0))
      (View.ld B (Rect.unit (s := S4x512x384) ![3, 0, 0] ![1, 512, 384] inb_S4x512x384_S1x512x384_3_0_0)) (ix2 r k)
      = (∑ d : Fin 1024, H (R + r) d * W d (1536 + k) : EReal) := by
  pointwise [k0_pay2]
  refine Eq.trans ?_ (Fin.sum_univ_add (M := EReal) (a := 512) (b := 512) (fun d : Fin (512 + 512) => H (R + r) d * W d (1536 + k))).symm
  refine congrArg₂ (fun a b : EReal => a + b) (Finset.sum_congr (M := EReal) rfl fun d _ => ?_) (Finset.sum_congr (M := EReal) rfl fun d _ => ?_)
  · refine congrArg₂ (fun a b : EReal => a * b) (hx _ _) ?_
    refine pick (fun h0 => piece A 0 0 (by omega) hA _ _ _ _ (Nat.zero_add _) (by dsimp only; omega)) fun h0 => ?_
    refine pick (fun h1 => piece A 0 1 (by omega) hA _ _ _ _ (Nat.zero_add _) (by dsimp only; omega)) fun h1 => ?_
    refine pick (fun h2 => piece A 0 2 (by omega) hA _ _ _ _ (Nat.zero_add _) (by dsimp only; omega)) fun h2 => ?_
    exact piece A 0 3 (by omega) hA _ _ _ _ (Nat.zero_add _) (by dsimp only; omega)
  · refine congrArg₂ (fun a b : EReal => a * b) (hx _ _) ?_
    refine pick (fun h0 => piece B 512 0 (by omega) hB _ _ _ _ rfl (by dsimp only; omega)) fun h0 => ?_
    refine pick (fun h1 => piece B 512 1 (by omega) hB _ _ _ _ rfl (by dsimp only; omega)) fun h1 => ?_
    refine pick (fun h2 => piece B 512 2 (by omega) hB _ _ _ _ rfl (by dsimp only; omega)) fun h2 => ?_
    exact piece B 512 3 (by omega) hB _ _ _ _ rfl (by dsimp only; omega)

theorem idx : ∀ t : Fin cfg0.N, win0_0.index t = ![t.val - 1, 0] ∧ win0_1.index t = ![1, 0, 0] ∧ win0_2.index t = ![1, 0, 0]
    ∧ win0_3.index t = ![t.val, 0] := (by decide +kernel : ∀ t : Fin grid0.N, _)
theorem lt5 (t : Fin cfg0.N) : t.val < 5 := t.isLt
theorem ent0 (n : Fin 4096) (q : Fin 1024) : V m c (Pipeline.arrRef spec0 0) (ix2 n q) = m ((c.tc : Thread nD τ).loc main_arg0) (ix2 n q) := by
  entry_read; pointwise
include hW in
theorem ent1 (j : Fin 8) (r : Fin 512) (q : Fin 384) : V m c (Pipeline.arrRef spec0 1) (ix3 j r q) = W (0 + r) (384 * j + q) := by
  entry_read; pointwise
  refine (hW _ _).trans ?_
  congr 1 <;> (simp only []; omega)
include hW in
theorem ent2 (j : Fin 8) (r : Fin 512) (q : Fin 384) : V m c (Pipeline.arrRef spec0 2) (ix3 j r q) = W (512 + r) (384 * j + q) := by
  entry_read; pointwise
  refine (hW _ _).trans ?_
  congr 1 <;> (simp only []; omega)
theorem blk0 (t : Fin cfg0.N) (r : Fin 1024) (q : Fin 1024) :
    iblk m c 0 t (ix2 r q) = V m c (Pipeline.arrRef spec0 0) (ix2 ⟨1024 * (t.val - 1) + r, by have := lt5 t; omega⟩ q) := by
  blk_point [iblk, idx t]
theorem blk1 (t : Fin cfg0.N) (j : Fin 4) (r : Fin 512) (q : Fin 384) :
    iblk m c 1 t (ix3 j r q) = V m c (Pipeline.arrRef spec0 1) (ix3 ⟨4 + j, by omega⟩ r q) := by
  blk_point [iblk, idx t]
theorem blk2 (t : Fin cfg0.N) (j : Fin 4) (r : Fin 512) (q : Fin 384) :
    iblk m c 2 t (ix3 j r q) = V m c (Pipeline.arrRef spec0 2) (ix3 ⟨4 + j, by omega⟩ r q) := by
  blk_point [iblk, idx t]
include hH in
theorem in0 (t : Fin cfg0.N) (r d : Fin 1024) : iblk m c 0 t (ix2 r d) = H (1024 * (t.val - 1) + r) d :=
  (blk0 m c t r d).trans ((ent0 m c _ _).trans (hH _ _))
include hW in
theorem in1 (t : Fin cfg0.N) (j : Fin 4) (r : Fin 512) (q : Fin 384) : iblk m c 1 t (ix3 j r q) = W (0 + r) (1536 + (384 * j + q)) :=
  (blk1 m c t j r q).trans ((ent1 m c hW _ _ _).trans (congrArg (fun k : ℕ => W (0 + r) k) (by show 384 * (4 + j.val) + q.val = 1536 + (384 * j.val + q.val); omega)))
include hW in
theorem in2 (t : Fin cfg0.N) (j : Fin 4) (r : Fin 512) (q : Fin 384) : iblk m c 2 t (ix3 j r q) = W (512 + r) (1536 + (384 * j + q)) :=
  (blk2 m c t j r q).trans ((ent2 m c hW _ _ _).trans (congrArg (fun k : ℕ => W (512 + r) k) (by show 384 * (4 + j.val) + q.val = 1536 + (384 * j.val + q.val); omega)))
include hH hW in
/-- A block of the kernel's result. -/
theorem point (t : Fin cfg0.N) (y : S1024x1536.Idx) : outsAt0 m c t.val t.isLt y = qkv H W (1024 * t.val + (y 0).val) (y 1).val := by
  unfold qkv
  have b0 : (y 0).val < 1024 := (y 0).isLt
  have b := lt5 t
  by_cases h0 : t.val % 5 = 0
  · have h1 : ¬1 ≤ t.val := by omega
    rw [outsAt0_A m c t h0 h1]; frame_out
    refine Eq.trans ?_ (if_pos (by omega)).symm
    idx_vars y
    pointwise [k0_pay1]
  · have h1 : 1 ≤ t.val := by omega
    rw [outsAt0_B m c t h0 h1]; frame_out
    refine Eq.trans ?_ (if_neg (by omega)).symm
    refine (congrArg _ (eq_ix2 y)).trans ((pay _ _ (in0 m c hH t) (in1 m c hW t) (in2 m c hW t) (y 0) (y 1)).trans ?_)
    have e : 1024 * (t.val - 1) + (y 0).val = 1024 * t.val + (y 0).val - 1024 := by omega
    rw [e]
include hH hW in
/-- The kernel's result. -/
theorem final : (dats m 0 c).arrAt 3 (cfgs 0).N = fun i : S5120x1536.Idx => qkv H W (i 0).val (i 1).val := by
  refine (dats m 0 c).arrAt_eq_of_covers 3 _ (by decide +kernel) fun t hf y => ?_
  blk_simp [idx t]
  rw [after0_3]
  change S1024x1536.Idx at y
  rw [point m c hH hW]
  congr 1 <;> omega
end Cert.InProjQkvIdeal.Val

namespace Cert.InProjQkvRefIdeal.Value
open Cert.InProjQkvRefIdeal Cert.InProjQkvRefIdeal.Gen
/-- The reference's result. -/
theorem res (A0 : FVec Ideal S4096x1024 .f32) (A1 : FVec Ideal S1024x3072 .f32) {H W : ℕ → ℕ → EReal}
    (hH : ∀ (n : Fin 4096) (k : Fin 1024), A0 (ix2 n k) = H n k) (hW : ∀ (n : Fin 1024) (k : Fin 3072), A1 (ix2 n k) = W n k) :
    (truncf (F := Ideal) .bf16 (concatenate S5120x1536 0 [⟨S1024x1536, (broadcastInDim S1024x1536 ![] bcast_S_S1024x1536 (constant S_ .f32 0x00000000#32))⟩, ⟨S4096x1536, (extractStridedSlice S4096x1536 ![0, 1536] (Host.dotGeneral dot_S4096x1024_S1024x3072_S4096x3072_1_0_0_1_n_n none A0 A1) slices_S4096x3072_S4096x1536_0_1536)⟩] concatenates_S1024x1536_S4096x1536_S5120x1536_d0) bitsLt_bf16_f32 : FVec Ideal S5120x1536 .bf16)
    = fun i => Cert.InProjQkvIdeal.Val.qkv H W (i 0).val (i 1).val := by
  funext i; idx_vars i
  pointwise
  unfold Cert.InProjQkvIdeal.Val.qkv
  by_cases h : i0.val < 1024
  · exact (dif_pos h).trans (if_pos h).symm
  · refine (dif_neg h).trans (Eq.trans ?_ (if_neg h).symm)
    exact Finset.sum_congr (M := EReal) rfl fun d _ => congrArg₂ (fun a b : EReal => a * b) (hH _ _) (hW _ _)
end Cert.InProjQkvRefIdeal.Value

namespace Cert.Proof
set_option maxHeartbeats 2000000 in
/-- Over the reals the kernel computes the query, key and value columns of the input projection. -/
theorem in_proj_qkv_algebraic : Cert.algebraic_InProjQkvIdeal_InProjQkvRefIdeal := by
  pair_intro
  · run_from Cert.InProjQkvIdeal.Value.run_blocks m g
  · have H : ∀ c : Dev Cert.InProjQkvIdeal.nD, ∃ (H W : ℕ → ℕ → EReal),
        (∀ (n : Fin 4096) (k : Fin 1024), m ((c.tc : Thread Cert.InProjQkvIdeal.nD Cert.InProjQkvIdeal.τ).loc Cert.InProjQkvIdeal.main_arg0) (ix2 n k) = H n k)
        ∧ (∀ (n : Fin 1024) (k : Fin 3072), m ((c.tc : Thread Cert.InProjQkvIdeal.nD Cert.InProjQkvIdeal.τ).loc Cert.InProjQkvIdeal.main_arg1) (ix2 n k) = W n k) := fun c => by
      obtain ⟨H, hH⟩ := ext2 (m ((c.tc : Thread Cert.InProjQkvIdeal.nD Cert.InProjQkvIdeal.τ).loc Cert.InProjQkvIdeal.main_arg0))
      obtain ⟨W, hW⟩ := ext2 (m ((c.tc : Thread Cert.InProjQkvIdeal.nD Cert.InProjQkvIdeal.τ).loc Cert.InProjQkvIdeal.main_arg1))
      exact ⟨H, W, hH, hW⟩
    run_from Cert.InProjQkvRefIdeal.Value.run m' g'
    all_goals
      obtain ⟨H, W, hH, hW⟩ := H c
      obtain ⟨a0, a1⟩ := hagree c
    exact Eq.trans (Cert.InProjQkvRefIdeal.Value.res _ _ hH hW)
      (Cert.InProjQkvIdeal.Val.final m c hH hW).symm
end Cert.Proof
-- ==== Proof.OutProjFwd.lean ====
/-
  The output projection in the forward pass, with the norm after it, the residual and the next norm.
-/
module
public import proofs.«01_k».proof.Defs
public import proofs.«01_k».proof.Proof.Gen.OutProjFwdIdeal.Value
public import proofs.«01_k».proof.Proof.Gen.OutProjFwdRefIdeal.Run
public import proofs.«01_k».proof.Proof.FfnOutFwd
public import proofs.«01_k».proof.Proof.Tiles
public import Idealize.ShloMosaic.Lib.Pointwise
public import Idealize.ShloMosaic.Lib.Pipeline.ValueKit
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.Proof
/-- A block of 1024 rows stored in four parts. -/
theorem four_parts {e : EltTy} {Val : EltTy → Type} [∀ e, Nonempty (Val e)] (p3 p2 p1 p0 : (⟨2, ![256, 1024]⟩ : Shape).Idx → Val e) (j3 j2 j1 j0) (T : ℕ → ℕ → Val e)
    (h3 : ∀ (r : Fin 256) (k : Fin 1024), p3 (ix2 r k) = T (768 + r) k) (h2 : ∀ (r : Fin 256) (k : Fin 1024), p2 (ix2 r k) = T (512 + r) k)
    (h1 : ∀ (r : Fin 256) (k : Fin 1024), p1 (ix2 r k) = T (256 + r) k) (h0 : ∀ (r : Fin 256) (k : Fin 1024), p0 (ix2 r k) = T (0 + r) k)
    (y : (⟨2, ![1024, 1024]⟩ : Shape).Idx) : View.canon (Val := Val) (s := ⟨2, ![1024, 1024]⟩) (e := e)
      [⟨Rect.unit (s := ⟨2, ![1024, 1024]⟩) ![768, 0] ![256, 1024] j3, p3⟩, ⟨Rect.unit (s := ⟨2, ![1024, 1024]⟩) ![512, 0] ![256, 1024] j2, p2⟩,
        ⟨Rect.unit (s := ⟨2, ![1024, 1024]⟩) ![256, 0] ![256, 1024] j1, p1⟩, ⟨Rect.unit (s := ⟨2, ![1024, 1024]⟩) ![0, 0] ![256, 1024] j0, p0⟩] y
      = T (y 0).val (y 1).val := by
  have b0 : (y 0).val < 1024 := (y 0).isLt
  have b1 : (y 1).val < 1024 := (y 1).isLt
  have z : ∀ k : ℕ, T k = fun l => T k (0 + l) := fun k => funext fun l => by rw [Nat.zero_add]
  refine tile_step _ _ _ T y (fun r l => (h3 r l).trans (congrFun (z _) _)) fun n3 => ?_
  refine tile_step _ _ _ T y (fun r l => (h2 r l).trans (congrFun (z _) _)) fun n2 => ?_
  refine tile_step _ _ _ T y (fun r l => (h1 r l).trans (congrFun (z _) _)) fun n1 => ?_
  refine tile_step _ _ _ T y (fun r l => (h0 r l).trans (congrFun (z _) _)) fun n0 => ?_
  omega
end Cert.Proof
namespace Cert.OutProjFwdIdeal.Val
open Cert.OutProjFwdIdeal Cert.OutProjFwdIdeal.Gen Cert.Proof

/-- A row of the product with the output weight: the first half of its columns and the second. -/
def yv (C O W : ℕ → ℕ → EReal) (n k : ℕ) : EReal := (∑ q : Fin 512, C n q * W q k) + ∑ q : Fin 512, O n q * W (512 + q) k

section Pay
variable {v0 v5 : Vec Ideal S256x512 .bf16} {v2 v4 : Vec Ideal S512x1024 .bf16} {v7 : Vec Ideal S256x1024 .f32} {g0 g1 : Vec Ideal S1x1x1024 .f32}
  {C O W X : ℕ → ℕ → EReal} {ga gb : ℕ → EReal} {R : ℕ}
  (h0 : ∀ (r : Fin 256) (q : Fin 512), v0 (ix2 r q) = C (R + r) q) (h5 : ∀ (r : Fin 256) (q : Fin 512), v5 (ix2 r q) = O (R + r) q)
  (h2 : ∀ (q : Fin 512) (k : Fin 1024), v2 (ix2 q k) = W q k) (h4 : ∀ (q : Fin 512) (k : Fin 1024), v4 (ix2 q k) = W (512 + q) k)
  (h7 : ∀ (r : Fin 256) (k : Fin 1024), v7 (ix2 r k) = X (R + r) k)
  (ha : ∀ k : Fin 1024, g0 (ix3 0 0 k) = ga k) (hb : ∀ k : Fin 1024, g1 (ix3 0 0 k) = gb k)
include h0 h2 h4 h5
theorem p2 (r : Fin 256) (k : Fin 1024) : k0_pay2 v0 v2 v5 v4 (ix2 r k) = yv C O W (R + r) k := by
  pointwise [k0_pay2]
  exact congrArg₂ (fun a b : EReal => a + b) (Finset.sum_congr (M := EReal) rfl fun q _ => congrArg₂ (fun a b : EReal => a * b) (h0 _ _) (h2 _ _))
    (Finset.sum_congr (M := EReal) rfl fun q _ => congrArg₂ (fun a b : EReal => a * b) (h5 _ _) (h4 _ _))
theorem p3 (r : Fin 256) (k : Fin 1024) : k0_pay3 v0 v2 v5 v4 (ix2 r k) = yv C O W (R + r) k := by
  pointwise [k0_pay3]
  exact p2 h0 h5 h2 h4 r k
include h7 ha
theorem p4 (r : Fin 256) (k : Fin 1024) : k0_pay4 v0 v2 v5 v4 v7 g0 (ix2 r k) = resid (yv C O W) X ga (R + r) k := by
  pointwise [k0_pay4]
  simp only [p2 h0 h5 h2 h4, h7, ha]
  rfl
include hb
theorem p6 (r : Fin 256) (k : Fin 1024) : k0_pay6 (k0_pay4 v0 v2 v5 v4 v7 g0) (k0_pay5 v0 v2 v5 v4 v7 g0) (Scalar.ofBits .f32 0x44800000#32) g1 (ix2 r k)
    = normed (resid (yv C O W) X ga) gb (R + r) k := by
  pointwise [k0_pay6, k0_pay5]
  simp only [p4 h0 h5 h2 h4 h7 ha, hb]
  rfl
end Pay

variable (m : (ℓ : Loc nD τ sig) → Buf (Elt Ideal) ℓ) (c : Dev nD) {C O W X : ℕ → ℕ → EReal} {ga gb : ℕ → EReal}
  (hC : ∀ (n : Fin 4096) (k : Fin 512), m ((c.tc : Thread nD τ).loc main_arg0) (ix2 n k) = C n k)
  (hO : ∀ (n : Fin 4096) (k : Fin 512), m ((c.tc : Thread nD τ).loc main_arg1) (ix2 n k) = O n k)
  (hW : ∀ (n : Fin 1024) (k : Fin 1024), m ((c.tc : Thread nD τ).loc main_arg2) (ix2 n k) = W n k)
  (hX : ∀ (n : Fin 4096) (k : Fin 1024), m ((c.tc : Thread nD τ).loc main_arg3) (ix2 n k) = X n k)
  (ha : ∀ k : Fin 1024, m ((c.tc : Thread nD τ).loc main_arg4) (ix1 k) = ga k)
  (hb : ∀ k : Fin 1024, m ((c.tc : Thread nD τ).loc main_arg5) (ix1 k) = gb k)

theorem idx : ∀ t : Fin cfg0.N, win0_0.index t = ![t.val, 0] ∧ win0_1.index t = ![t.val, 0] ∧ win0_2.index t = ![0, 0] ∧ win0_3.index t = ![t.val, 0]
    ∧ win0_4.index t = ![0, 0, 0] ∧ win0_5.index t = ![0, 0, 0] ∧ win0_6.index t = ![t.val, 0]
    ∧ win0_7.index t = ![t.val, 0] ∧ win0_8.index t = ![t.val, 0] := (by decide +kernel : ∀ t : Fin grid0.N, _)
theorem lt4 (t : Fin cfg0.N) : t.val < 4 := t.isLt
include hC in
theorem ent0 (n : Fin 4096) (q : Fin 512) : V m c (Pipeline.arrRef spec0 0) (ix2 n q) = C n q := by
  entry_read; pointwise; exact hC n q
include hO in
theorem ent1 (n : Fin 4096) (q : Fin 512) : V m c (Pipeline.arrRef spec0 1) (ix2 n q) = O n q := by
  entry_read; pointwise; exact hO n q
include hW in
theorem ent2 (n : Fin 1024) (q : Fin 1024) : V m c (Pipeline.arrRef spec0 2) (ix2 n q) = W n q := by
  entry_read; pointwise; exact hW n q
include hX in
theorem ent3 (n : Fin 4096) (q : Fin 1024) : V m c (Pipeline.arrRef spec0 3) (ix2 n q) = X n q := by
  entry_read; exact hX n q
include ha in
theorem ent4 (a b : Fin 1) (q : Fin 1024) : V m c (Pipeline.arrRef spec0 4) (ix3 a b q) = ga q := by
  entry_read; pointwise; exact ha q
include hb in
theorem ent5 (a b : Fin 1) (q : Fin 1024) : V m c (Pipeline.arrRef spec0 5) (ix3 a b q) = gb q := by
  entry_read; pointwise; exact hb q
theorem blk0 (t : Fin cfg0.N) (r : Fin 1024) (q : Fin 512) :
    iblk m c 0 t (ix2 r q) = V m c (Pipeline.arrRef spec0 0) (ix2 ⟨1024 * t.val + r, by have := lt4 t; omega⟩ q) := by
  blk_point [iblk, idx t]
theorem blk1 (t : Fin cfg0.N) (r : Fin 1024) (q : Fin 512) :
    iblk m c 1 t (ix2 r q) = V m c (Pipeline.arrRef spec0 1) (ix2 ⟨1024 * t.val + r, by have := lt4 t; omega⟩ q) := by
  blk_point [iblk, idx t]
theorem blk2 (t : Fin cfg0.N) (r : Fin 1024) (q : Fin 1024) : iblk m c 2 t (ix2 r q) = V m c (Pipeline.arrRef spec0 2) (ix2 r q) := by
  blk_point [iblk, idx t]
theorem blk3 (t : Fin cfg0.N) (r : Fin 1024) (q : Fin 1024) :
    iblk m c 3 t (ix2 r q) = V m c (Pipeline.arrRef spec0 3) (ix2 ⟨1024 * t.val + r, by have := lt4 t; omega⟩ q) := by
  blk_point [iblk, idx t]
theorem blk4 (t : Fin cfg0.N) (q : Fin 1024) : iblk m c 4 t (ix3 0 0 q) = V m c (Pipeline.arrRef spec0 4) (ix3 0 0 q) := by
  blk_point [iblk, idx t]
theorem blk5 (t : Fin cfg0.N) (q : Fin 1024) : iblk m c 5 t (ix3 0 0 q) = V m c (Pipeline.arrRef spec0 5) (ix3 0 0 q) := by
  blk_point [iblk, idx t]
section Canon
variable {R : ℕ} {x0 x1 : Vec Ideal S1024x512 .bf16} {x2 : Vec Ideal S1024x1024 .bf16} {x3 : Vec Ideal S1024x1024 .f32}
  {x4 x5 : Vec Ideal S1x1x1024 .f32}
  (h0 : ∀ (r : Fin 1024) (q : Fin 512), x0 (ix2 r q) = C (R + r) q) (h1 : ∀ (r : Fin 1024) (q : Fin 512), x1 (ix2 r q) = O (R + r) q)
  (h2 : ∀ (q : Fin 1024) (k : Fin 1024), x2 (ix2 q k) = W q k) (h3 : ∀ (r : Fin 1024) (k : Fin 1024), x3 (ix2 r k) = X (R + r) k)
  (h4 : ∀ k : Fin 1024, x4 (ix3 0 0 k) = ga k) (h5 : ∀ k : Fin 1024, x5 (ix3 0 0 k) = gb k)
include h0 in
theorem part0 (o : ℕ) (ho : o + 256 ≤ 1024) (j) (r : Fin 256) (q : Fin 512) :
    View.ld (Val := Elt Ideal) (e' := .bf16) x0 (Rect.unit (s := S1024x512) ![o, 0] ![256, 512] j) (ix2 r q) = C (R + o + r) q :=
  (ld2 (Val := Elt Ideal) _ j r q ⟨o + r, by omega⟩ q rfl (by omega)).trans ((h0 _ _).trans (congrArg (fun n : ℕ => C n q) (Nat.add_assoc _ _ _).symm))
include h3 in
theorem part3 (o : ℕ) (ho : o + 256 ≤ 1024) (j) (r : Fin 256) (q : Fin 1024) :
    View.ld (Val := Elt Ideal) (e' := .f32) x3 (Rect.unit (s := S1024x1024) ![o, 0] ![256, 1024] j) (ix2 r q) = X (R + o + r) q :=
  (ld2 (Val := Elt Ideal) _ j r q ⟨o + r, by omega⟩ q rfl (by omega)).trans ((h3 _ _).trans (congrArg (fun n : ℕ => X n q) (Nat.add_assoc _ _ _).symm))
include h2 in
theorem top2 (j) (q : Fin 512) (k : Fin 1024) :
    View.ld (Val := Elt Ideal) (e' := .bf16) x2 (Rect.unit (s := S1024x1024) ![0, 0] ![512, 1024] j) (ix2 q k) = W q k :=
  (ld2 (Val := Elt Ideal) _ j q k ⟨q, by omega⟩ k (by dsimp only; omega) (by omega)).trans (h2 _ _)
include h2 in
theorem low2 (j) (q : Fin 512) (k : Fin 1024) :
    View.ld (Val := Elt Ideal) (e' := .bf16) x2 (Rect.unit (s := S1024x1024) ![512, 0] ![512, 1024] j) (ix2 q k) = W (512 + q) k :=
  (ld2 (Val := Elt Ideal) _ j q k ⟨512 + q, by omega⟩ k rfl (by omega)).trans (h2 _ _)
include h4 in
theorem all4 (j) (k : Fin 1024) :
    View.ld (Val := Elt Ideal) (e' := .f32) x4 (Rect.unit (s := S1x1x1024) ![0, 0, 0] ![1, 1, 1024] j) (ix3 0 0 k) = ga k :=
  (ld3 (Val := Elt Ideal) _ j 0 0 k 0 0 k (by omega) (by omega) (by omega)).trans (h4 _)
include h0 h1 h2
theorem canon6 (y : S1024x1024.Idx) : out0_6 x0 x1 x2 x3 x4 x5 y = yv C O W (R + (y 0).val) (y 1).val := by
  refine four_parts (Val := Elt Ideal) (e := .bf16) _ _ _ _ _ _ _ _ (fun n k => yv C O W (R + n) k) (fun r k => ?_) (fun r k => ?_) (fun r k => ?_) (fun r k => ?_) y
  · exact (p3 (part0 h0 768 (by omega) _) (part0 h1 768 (by omega) _) (top2 h2 _) (low2 h2 _) r k).trans (congrArg (fun n : ℕ => yv C O W n k) (Nat.add_assoc _ _ _))
  · exact (p3 (part0 h0 512 (by omega) _) (part0 h1 512 (by omega) _) (top2 h2 _) (low2 h2 _) r k).trans (congrArg (fun n : ℕ => yv C O W n k) (Nat.add_assoc _ _ _))
  · exact (p3 (part0 h0 256 (by omega) _) (part0 h1 256 (by omega) _) (top2 h2 _) (low2 h2 _) r k).trans (congrArg (fun n : ℕ => yv C O W n k) (Nat.add_assoc _ _ _))
  · exact (p3 (part0 h0 0 (by omega) _) (part0 h1 0 (by omega) _) (top2 h2 _) (low2 h2 _) r k).trans (congrArg (fun n : ℕ => yv C O W n k) (Nat.add_assoc _ _ _))
include h3 h4
theorem canon7 (y : S1024x1024.Idx) : out0_7 x0 x1 x2 x3 x4 x5 y = resid (yv C O W) X ga (R + (y 0).val) (y 1).val := by
  refine four_parts (Val := Elt Ideal) (e := .f32) _ _ _ _ _ _ _ _ (fun n k => resid (yv C O W) X ga (R + n) k) (fun r k => ?_) (fun r k => ?_) (fun r k => ?_) (fun r k => ?_) y
  · exact (p4 (part0 h0 768 (by omega) _) (part0 h1 768 (by omega) _) (top2 h2 _) (low2 h2 _) (part3 h3 768 (by omega) _) (all4 h4 _) r k).trans (congrArg (fun n : ℕ => resid (yv C O W) X ga n k) (Nat.add_assoc _ _ _))
  · exact (p4 (part0 h0 512 (by omega) _) (part0 h1 512 (by omega) _) (top2 h2 _) (low2 h2 _) (part3 h3 512 (by omega) _) (all4 h4 _) r k).trans (congrArg (fun n : ℕ => resid (yv C O W) X ga n k) (Nat.add_assoc _ _ _))
  · exact (p4 (part0 h0 256 (by omega) _) (part0 h1 256 (by omega) _) (top2 h2 _) (low2 h2 _) (part3 h3 256 (by omega) _) (all4 h4 _) r k).trans (congrArg (fun n : ℕ => resid (yv C O W) X ga n k) (Nat.add_assoc _ _ _))
  · exact (p4 (part0 h0 0 (by omega) _) (part0 h1 0 (by omega) _) (top2 h2 _) (low2 h2 _) (part3 h3 0 (by omega) _) (all4 h4 _) r k).trans (congrArg (fun n : ℕ => resid (yv C O W) X ga n k) (Nat.add_assoc _ _ _))
include h5
theorem canon8 (y : S1024x1024.Idx) : out0_8 x0 x1 x2 x3 x4 x5 y = normed (resid (yv C O W) X ga) gb (R + (y 0).val) (y 1).val := by
  refine four_parts (Val := Elt Ideal) (e := .bf16) _ _ _ _ _ _ _ _ (fun n k => normed (resid (yv C O W) X ga) gb (R + n) k) (fun r k => ?_) (fun r k => ?_) (fun r k => ?_) (fun r k => ?_) y
  · exact (p6 (part0 h0 768 (by omega) _) (part0 h1 768 (by omega) _) (top2 h2 _) (low2 h2 _) (part3 h3 768 (by omega) _) (all4 h4 _) (all4 h5 _) r k).trans (congrArg (fun n : ℕ => normed (resid (yv C O W) X ga) gb n k) (Nat.add_assoc _ _ _))
  · exact (p6 (part0 h0 512 (by omega) _) (part0 h1 512 (by omega) _) (top2 h2 _) (low2 h2 _) (part3 h3 512 (by omega) _) (all4 h4 _) (all4 h5 _) r k).trans (congrArg (fun n : ℕ => normed (resid (yv C O W) X ga) gb n k) (Nat.add_assoc _ _ _))
  · exact (p6 (part0 h0 256 (by omega) _) (part0 h1 256 (by omega) _) (top2 h2 _) (low2 h2 _) (part3 h3 256 (by omega) _) (all4 h4 _) (all4 h5 _) r k).trans (congrArg (fun n : ℕ => normed (resid (yv C O W) X ga) gb n k) (Nat.add_assoc _ _ _))
  · exact (p6 (part0 h0 0 (by omega) _) (part0 h1 0 (by omega) _) (top2 h2 _) (low2 h2 _) (part3 h3 0 (by omega) _) (all4 h4 _) (all4 h5 _) r k).trans (congrArg (fun n : ℕ => normed (resid (yv C O W) X ga) gb n k) (Nat.add_assoc _ _ _))
end Canon
include hC in
theorem in0 (t : Fin cfg0.N) (r : Fin 1024) (q : Fin 512) : iblk m c 0 t (ix2 r q) = C (1024 * t.val + r) q :=
  (blk0 m c t r q).trans (ent0 m c hC _ _)
include hO in
theorem in1 (t : Fin cfg0.N) (r : Fin 1024) (q : Fin 512) : iblk m c 1 t (ix2 r q) = O (1024 * t.val + r) q :=
  (blk1 m c t r q).trans (ent1 m c hO _ _)
include hW in
theorem in2 (t : Fin cfg0.N) (q k : Fin 1024) : iblk m c 2 t (ix2 q k) = W q k := (blk2 m c t q k).trans (ent2 m c hW _ _)
include hX in
theorem in3 (t : Fin cfg0.N) (r k : Fin 1024) : iblk m c 3 t (ix2 r k) = X (1024 * t.val + r) k := (blk3 m c t r k).trans (ent3 m c hX _ _)
include ha in
theorem in4 (t : Fin cfg0.N) (k : Fin 1024) : iblk m c 4 t (ix3 0 0 k) = ga k := (blk4 m c t k).trans (ent4 m c ha _ _ _)
include hb in
theorem in5 (t : Fin cfg0.N) (k : Fin 1024) : iblk m c 5 t (ix3 0 0 k) = gb k := (blk5 m c t k).trans (ent5 m c hb _ _ _)
include hC hO hW in
/-- The kernel's product. -/
theorem final6 : (dats m 0 c).arrAt 6 (cfgs 0).N = fun i : S4096x1024.Idx => yv C O W (i 0).val (i 1).val := by
  refine (dats m 0 c).arrAt_eq_of_covers 6 _ (by decide +kernel) fun t hf y => ?_
  blk_simp [idx t]
  rw [after0_6]
  change S1024x1024.Idx at y
  refine (canon6 (in0 m c hC t) (in1 m c hO t) (in2 m c hW t) y).trans ?_
  congr 1 <;> omega
include hC hO hW hX ha in
/-- The kernel's residual. -/
theorem final7 : (dats m 0 c).arrAt 7 (cfgs 0).N = fun i : S4096x1024.Idx => resid (yv C O W) X ga (i 0).val (i 1).val := by
  refine (dats m 0 c).arrAt_eq_of_covers 7 _ (by decide +kernel) fun t hf y => ?_
  blk_simp [idx t]
  rw [after0_7]
  change S1024x1024.Idx at y
  refine (canon7 (in0 m c hC t) (in1 m c hO t) (in2 m c hW t) (in3 m c hX t) (in4 m c ha t) y).trans ?_
  congr 1 <;> omega
include hC hO hW hX ha hb in
/-- The kernel's next norm. -/
theorem final8 : (dats m 0 c).arrAt 8 (cfgs 0).N = fun i : S4096x1024.Idx => normed (resid (yv C O W) X ga) gb (i 0).val (i 1).val := by
  refine (dats m 0 c).arrAt_eq_of_covers 8 _ (by decide +kernel) fun t hf y => ?_
  blk_simp [idx t]
  rw [after0_8]
  change S1024x1024.Idx at y
  refine (canon8 (in0 m c hC t) (in1 m c hO t) (in2 m c hW t) (in3 m c hX t) (in4 m c ha t) (in5 m c hb t) y).trans ?_
  congr 1 <;> omega
end Cert.OutProjFwdIdeal.Val

namespace Cert.OutProjFwdRefIdeal.Value
open Cert.OutProjFwdRefIdeal Cert.OutProjFwdRefIdeal.Gen Cert.Proof Cert.OutProjFwdIdeal.Val
open Cert.FfnOutFwdRefIdeal.Value (rN rN_at)
variable (A0 A1 : FVec Ideal S4096x512 .f32) (A2 : FVec Ideal S1024x1024 .f32) (A3 : FVec Ideal S4096x1024 .f32) (A4 A5 : FVec Ideal S1024 .f32)
  {C O W X : ℕ → ℕ → EReal} {ga gb : ℕ → EReal}
  (hC : ∀ (n : Fin 4096) (k : Fin 512), A0 (ix2 n k) = C n k) (hO : ∀ (n : Fin 4096) (k : Fin 512), A1 (ix2 n k) = O n k)
  (hW : ∀ (n : Fin 1024) (k : Fin 1024), A2 (ix2 n k) = W n k) (hX : ∀ (n : Fin 4096) (k : Fin 1024), A3 (ix2 n k) = X n k)
  (ha : ∀ k : Fin 1024, A4 (ix1 k) = ga k) (hb : ∀ k : Fin 1024, A5 (ix1 k) = gb k)
def rA : FVec Ideal S4096x1024 .f32 := concatenate S4096x1024 1 [⟨S4096x512, A0⟩, ⟨S4096x512, A1⟩] concatenates_S4096x512_S4096x512_S4096x1024_d1
def rY : FVec Ideal S4096x1024 .f32 := Host.dotGeneral dot_S4096x1024_S1024x1024_S4096x1024_1_0_0_1_n_n none (rA A0 A1) A2
def rV : FVec Ideal S4096x1024 .f32 := addf A3 (rN (rY A0 A1 A2) A4)
include hC hO hW in
theorem rY_at (n : Fin 4096) (k : Fin 1024) : rY A0 A1 A2 (ix2 n k) = yv C O W n k := by
  pointwise [rY, rA]
  exact congrArg₂ (fun a b : EReal => a + b) (Finset.sum_congr (M := EReal) rfl fun q _ => congrArg₂ (fun a b : EReal => a * b) (hC _ _) (hW _ _))
    (Finset.sum_congr (M := EReal) rfl fun q _ => congrArg₂ (fun a b : EReal => a * b) (hO _ _) (hW _ _))
include hC hO hW hX ha in
theorem rV_at (n : Fin 4096) (k : Fin 1024) : rV A0 A1 A2 A3 A4 (ix2 n k) = resid (yv C O W) X ga n k := by
  pointwise [rV]
  exact congrArg₂ (fun a b : EReal => a + b) (hX _ _) (rN_at (rY_at A0 A1 A2 hC hO hW) ha n k)
include hC hO hW in
theorem res0 : (truncf (F := Ideal) .bf16 (rY A0 A1 A2) bitsLt_bf16_f32 : FVec Ideal S4096x1024 .bf16)
    = fun i => yv C O W (i 0).val (i 1).val := by
  funext i; idx_vars i
  pointwise
  exact rY_at A0 A1 A2 hC hO hW _ _
include hC hO hW hX ha in
theorem res1 : rV A0 A1 A2 A3 A4 = fun i => resid (yv C O W) X ga (i 0).val (i 1).val := by
  funext i; idx_vars i
  exact rV_at A0 A1 A2 A3 A4 hC hO hW hX ha _ _
include hC hO hW hX ha hb in
theorem res2 : (truncf (F := Ideal) .bf16 (rN (rV A0 A1 A2 A3 A4) A5) bitsLt_bf16_f32 : FVec Ideal S4096x1024 .bf16)
    = fun i => normed (resid (yv C O W) X ga) gb (i 0).val (i 1).val := by
  funext i; idx_vars i
  pointwise
  exact rN_at (rV_at A0 A1 A2 A3 A4 hC hO hW hX ha) hb _ _
end Cert.OutProjFwdRefIdeal.Value

namespace Cert.Proof
set_option maxHeartbeats 2000000 in
/-- Over the reals the kernel computes the output projection, the residual and the next norm. -/
theorem out_proj_fwd_algebraic : Cert.algebraic_OutProjFwdIdeal_OutProjFwdRefIdeal := by
  pair_intro
  · run_from Cert.OutProjFwdIdeal.Value.run_blocks m g
  · have H : ∀ c : Dev Cert.OutProjFwdIdeal.nD, ∃ (C O W X : ℕ → ℕ → EReal) (ga gb : ℕ → EReal),
        (∀ (n : Fin 4096) (k : Fin 512), m ((c.tc : Thread Cert.OutProjFwdIdeal.nD Cert.OutProjFwdIdeal.τ).loc Cert.OutProjFwdIdeal.main_arg0) (ix2 n k) = C n k)
        ∧ (∀ (n : Fin 4096) (k : Fin 512), m ((c.tc : Thread Cert.OutProjFwdIdeal.nD Cert.OutProjFwdIdeal.τ).loc Cert.OutProjFwdIdeal.main_arg1) (ix2 n k) = O n k)
        ∧ (∀ (n : Fin 1024) (k : Fin 1024), m ((c.tc : Thread Cert.OutProjFwdIdeal.nD Cert.OutProjFwdIdeal.τ).loc Cert.OutProjFwdIdeal.main_arg2) (ix2 n k) = W n k)
        ∧ (∀ (n : Fin 4096) (k : Fin 1024), m ((c.tc : Thread Cert.OutProjFwdIdeal.nD Cert.OutProjFwdIdeal.τ).loc Cert.OutProjFwdIdeal.main_arg3) (ix2 n k) = X n k)
        ∧ (∀ k : Fin 1024, m ((c.tc : Thread Cert.OutProjFwdIdeal.nD Cert.OutProjFwdIdeal.τ).loc Cert.OutProjFwdIdeal.main_arg4) (ix1 k) = ga k)
        ∧ (∀ k : Fin 1024, m ((c.tc : Thread Cert.OutProjFwdIdeal.nD Cert.OutProjFwdIdeal.τ).loc Cert.OutProjFwdIdeal.main_arg5) (ix1 k) = gb k) := fun c => by
      obtain ⟨C, hC⟩ := ext2 (m ((c.tc : Thread Cert.OutProjFwdIdeal.nD Cert.OutProjFwdIdeal.τ).loc Cert.OutProjFwdIdeal.main_arg0))
      obtain ⟨O, hO⟩ := ext2 (m ((c.tc : Thread Cert.OutProjFwdIdeal.nD Cert.OutProjFwdIdeal.τ).loc Cert.OutProjFwdIdeal.main_arg1))
      obtain ⟨W, hW⟩ := ext2 (m ((c.tc : Thread Cert.OutProjFwdIdeal.nD Cert.OutProjFwdIdeal.τ).loc Cert.OutProjFwdIdeal.main_arg2))
      obtain ⟨X, hX⟩ := ext2 (m ((c.tc : Thread Cert.OutProjFwdIdeal.nD Cert.OutProjFwdIdeal.τ).loc Cert.OutProjFwdIdeal.main_arg3))
      obtain ⟨ga, ha⟩ := ext1 (m ((c.tc : Thread Cert.OutProjFwdIdeal.nD Cert.OutProjFwdIdeal.τ).loc Cert.OutProjFwdIdeal.main_arg4))
      obtain ⟨gb, hb⟩ := ext1 (m ((c.tc : Thread Cert.OutProjFwdIdeal.nD Cert.OutProjFwdIdeal.τ).loc Cert.OutProjFwdIdeal.main_arg5))
      exact ⟨C, O, W, X, ga, gb, hC, hO, hW, hX, ha, hb⟩
    run_from Cert.OutProjFwdRefIdeal.Value.run m' g'
    all_goals
      obtain ⟨C, O, W, X, ga, gb, hC, hO, hW, hX, ha, hb⟩ := H c
      obtain ⟨a0, a1, a2, a3, a4, a5⟩ := hagree c
    · exact Eq.trans (Cert.OutProjFwdRefIdeal.Value.res0 _ _ _ hC hO hW) (Cert.OutProjFwdIdeal.Val.final6 m c hC hO hW).symm
    · exact Eq.trans (Cert.OutProjFwdRefIdeal.Value.res1 _ _ _ _ _ hC hO hW hX ha) (Cert.OutProjFwdIdeal.Val.final7 m c hC hO hW hX ha).symm
    · refine Eq.trans ?_ (Cert.OutProjFwdIdeal.Val.final8 m c hC hO hW hX ha hb).symm
      refine Eq.trans (b := truncf (F := Ideal) .bf16 (Cert.FfnOutFwdRefIdeal.Value.rN (Cert.OutProjFwdRefIdeal.Value.rV _ _ _ _ _) _) Cert.OutProjFwdRefIdeal.Facts₀.bitsLt_bf16_f32)
        (by unfold Cert.OutProjFwdRefIdeal.Value.res_main_v30; rfl) ?_
      exact Cert.OutProjFwdRefIdeal.Value.res2 _ _ _ _ _ _ (fun n k => (congrFun a0 (ix2 n k)).trans (hC n k)) (fun n k => (congrFun a1 (ix2 n k)).trans (hO n k))
        (fun n k => (congrFun a2 (ix2 n k)).trans (hW n k)) (fun n k => (congrFun a3 (ix2 n k)).trans (hX n k))
        (fun k => (congrFun a4 (ix1 k)).trans (ha k)) (fun k => (congrFun a5 (ix1 k)).trans (hb k))
end Cert.Proof
-- ==== Proof.InProjFirst.lean ====
/-
  The mixer's input product in the first layer, with the one norm before it: the kernel.
-/
module
public import proofs.«01_k».proof.Defs
public import proofs.«01_k».proof.Proof.Gen.InProjFirstIdeal.Value
public import proofs.«01_k».proof.Proof.InProj
public import proofs.«01_k».proof.Proof.FfnInAcc
public import Idealize.ShloMosaic.Lib.Pointwise
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem
open Idealize.ShloMosaic.Pipeline (Dat)
namespace Cert.InProjFirstIdeal.Val
open Cert.InProjFirstIdeal Cert.InProjFirstIdeal.Gen Cert.Proof
open Cert.InProjIdeal.Val (dh pick)
open Cert.FfnInIdeal.Val (add_halves first_row row_zero)

/-- The cotangent of the rows, and what a row adds to the gain's gradient. -/
def dX (X E H : ℕ → ℕ → ℝ) (Q : ℕ → ℝ) (n k : ℕ) : ℝ := E n k + nb (X n) (fun k => H n k * Q k) k
def gX (X H : ℕ → ℕ → ℝ) (n k : ℕ) : ℝ := H n k * (X n k * rr (X n))

section Join
variable (A B : Vec Ideal S8x512x384 .bf16) {W : ℕ → ℕ → ℝ}
/-- The weight joined from its pieces. -/
abbrev wJ : Vec Ideal S1024x3072 .bf16 := k0_pay7 (k0_pay4 (View.ld A (Rect.unit (s := S8x512x384) ![0, 0, 0] ![1, 512, 384] inb_S8x512x384_S1x512x384_0_0_0)) (View.ld A (Rect.unit (s := S8x512x384) ![1, 0, 0] ![1, 512, 384] inb_S8x512x384_S1x512x384_1_0_0)) (View.ld A (Rect.unit (s := S8x512x384) ![2, 0, 0] ![1, 512, 384] inb_S8x512x384_S1x512x384_2_0_0)) (View.ld A (Rect.unit (s := S8x512x384) ![3, 0, 0] ![1, 512, 384] inb_S8x512x384_S1x512x384_3_0_0)) (View.ld A (Rect.unit (s := S8x512x384) ![4, 0, 0] ![1, 512, 384] inb_S8x512x384_S1x512x384_4_0_0)) (View.ld A (Rect.unit (s := S8x512x384) ![5, 0, 0] ![1, 512, 384] inb_S8x512x384_S1x512x384_5_0_0)) (View.ld A (Rect.unit (s := S8x512x384) ![6, 0, 0] ![1, 512, 384] inb_S8x512x384_S1x512x384_6_0_0)) (View.ld A (Rect.unit (s := S8x512x384) ![7, 0, 0] ![1, 512, 384] inb_S8x512x384_S1x512x384_7_0_0)))
  (k0_pay5 (View.ld B (Rect.unit (s := S8x512x384) ![0, 0, 0] ![1, 512, 384] inb_S8x512x384_S1x512x384_0_0_0))) (k0_pay6 (View.ld B (Rect.unit (s := S8x512x384) ![1, 0, 0] ![1, 512, 384] inb_S8x512x384_S1x512x384_1_0_0)))
  (View.ld B (Rect.unit (s := S8x512x384) ![2, 0, 0] ![1, 512, 384] inb_S8x512x384_S1x512x384_2_0_0))
  (View.ld B (Rect.unit (s := S8x512x384) ![3, 0, 0] ![1, 512, 384] inb_S8x512x384_S1x512x384_3_0_0))
  (View.ld B (Rect.unit (s := S8x512x384) ![4, 0, 0] ![1, 512, 384] inb_S8x512x384_S1x512x384_4_0_0))
  (View.ld B (Rect.unit (s := S8x512x384) ![5, 0, 0] ![1, 512, 384] inb_S8x512x384_S1x512x384_5_0_0))
  (View.ld B (Rect.unit (s := S8x512x384) ![6, 0, 0] ![1, 512, 384] inb_S8x512x384_S1x512x384_6_0_0))
  (View.ld B (Rect.unit (s := S8x512x384) ![7, 0, 0] ![1, 512, 384] inb_S8x512x384_S1x512x384_7_0_0))
theorem piece (C : Vec Ideal S8x512x384 .bf16) (o j : ℕ) (hj : j < 8) (hC : ∀ (j : Fin 8) (r : Fin 512) (q : Fin 384), (C (ix3 j r q) : EReal) = ((W (o + r) (384 * j + q) : ℝ) : EReal))
    (r : Fin 512) (q : Fin 384) (k c : ℕ) (hk : o + r.val = k) (hc : 384 * j + q.val = c) :
    (C (ix3 ⟨j, hj⟩ r q) : EReal) = ((W k c : ℝ) : EReal) := by
  subst hk hc
  exact hC _ _ _
theorem wJ_at (hA : ∀ (j : Fin 8) (r : Fin 512) (q : Fin 384), (A (ix3 j r q) : EReal) = ((W (0 + r) (384 * j + q) : ℝ) : EReal))
    (hB : ∀ (j : Fin 8) (r : Fin 512) (q : Fin 384), (B (ix3 j r q) : EReal) = ((W (512 + r) (384 * j + q) : ℝ) : EReal)) (k : Fin 1024) (c : Fin 3072) :
    (wJ A B (ix2 k c) : EReal) = ((W k c : ℝ) : EReal) := by
  pointwise [k0_pay7, k0_pay4, k0_pay5, k0_pay6]
  refine pick (fun h => ?_) fun h => ?_
  · refine pick (fun h0 => piece A 0 0 (by omega) hA _ _ _ _ (by dsimp only; omega) (by dsimp only; omega)) fun h0 => ?_
    refine pick (fun h1 => piece A 0 1 (by omega) hA _ _ _ _ (by dsimp only; omega) (by dsimp only; omega)) fun h1 => ?_
    refine pick (fun h2 => piece A 0 2 (by omega) hA _ _ _ _ (by dsimp only; omega) (by dsimp only; omega)) fun h2 => ?_
    refine pick (fun h3 => piece A 0 3 (by omega) hA _ _ _ _ (by dsimp only; omega) (by dsimp only; omega)) fun h3 => ?_
    refine pick (fun h4 => piece A 0 4 (by omega) hA _ _ _ _ (by dsimp only; omega) (by dsimp only; omega)) fun h4 => ?_
    refine pick (fun h5 => piece A 0 5 (by omega) hA _ _ _ _ (by dsimp only; omega) (by dsimp only; omega)) fun h5 => ?_
    refine pick (fun h6 => piece A 0 6 (by omega) hA _ _ _ _ (by dsimp only; omega) (by dsimp only; omega)) fun h6 => ?_
    exact piece A 0 7 (by omega) hA _ _ _ _ (by dsimp only; omega) (by dsimp only; omega)
  · refine pick (fun h0 => piece B 512 0 (by omega) hB _ _ _ _ (by dsimp only; omega) (by dsimp only; omega)) fun h0 => ?_
    refine pick (fun h1 => piece B 512 1 (by omega) hB _ _ _ _ (by dsimp only; omega) (by dsimp only; omega)) fun h1 => ?_
    refine pick (fun h2 => piece B 512 2 (by omega) hB _ _ _ _ (by dsimp only; omega) (by dsimp only; omega)) fun h2 => ?_
    refine pick (fun h3 => piece B 512 3 (by omega) hB _ _ _ _ (by dsimp only; omega) (by dsimp only; omega)) fun h3 => ?_
    refine pick (fun h4 => piece B 512 4 (by omega) hB _ _ _ _ (by dsimp only; omega) (by dsimp only; omega)) fun h4 => ?_
    refine pick (fun h5 => piece B 512 5 (by omega) hB _ _ _ _ (by dsimp only; omega) (by dsimp only; omega)) fun h5 => ?_
    refine pick (fun h6 => piece B 512 6 (by omega) hB _ _ _ _ (by dsimp only; omega) (by dsimp only; omega)) fun h6 => ?_
    exact piece B 512 7 (by omega) hB _ _ _ _ (by dsimp only; omega) (by dsimp only; omega)
end Join

section Pay
variable (a : Vec Ideal S256x3072 .bf16) (w : Vec Ideal S1024x3072 .bf16) (v e : Vec Ideal S256x1024 .f32)
  (g : Vec Ideal S1x1x1024 .f32) (acc : Vec Ideal S1x1024 .f32)
/-- The stored rows of the first result. -/
abbrev dxT : Vec Ideal S256x1024 .f32 := k0_pay1 (k0_pay15 w a) (k0_pay16 v) (k0_pay17 v) (k0_pay18 g) e

theorem pdh {A F : ℕ → ℝ} (r : Fin 256) (k : Fin 1024) (ha : ∀ q, a (ix2 r q) = ((A q : ℝ) : EReal)) (hw : ∀ q, w (ix2 k q) = ((F q : ℝ) : EReal)) :
    (k0_pay15 w a (ix2 r k) : EReal) = ((∑ q : Fin 3072, A q * F q : ℝ) : EReal) := by
  pointwise [k0_pay15]
  exact dot_coe ha hw
theorem pdx {A d Q : ℕ → ℝ} {E : ℝ} (r : Fin 256) (k : Fin 1024) (hv : ∀ k, v (ix2 r k) = ((A k : ℝ) : EReal))
    (hd : ∀ k, (k0_pay15 w a (ix2 r k) : EReal) = ((d k : ℝ) : EReal)) (hg : ∀ k, g (ix3 0 0 k) = ((Q k : ℝ) : EReal))
    (he : e (ix2 r k) = ((E : ℝ) : EReal)) : (dxT a w v e g (ix2 r k) : EReal) = ((E + nb A (fun k => d k * Q k) k : ℝ) : EReal) := by
  pointwise [k0_pay1, k0_pay18, k0_pay17, k0_pay16]
  simp only [hv, hd, hg, he, rr_coe]
  rw [nb_coe2 A d Q k, ← EReal.coe_add]
theorem pgq {A d : ℕ → ℕ → ℝ} (i : Fin 1) (k : Fin 1024) (hv : ∀ r k, v (ix2 r k) = ((A r k : ℝ) : EReal))
    (hd : ∀ r k, (k0_pay15 w a (ix2 r k) : EReal) = ((d r k : ℝ) : EReal)) :
    (k0_pay2 (k0_pay15 w a) (k0_pay17 v) acc (ix2 i k) : EReal) = acc (ix2 i k) + ((∑ r : Fin 256, d r k * (A r k * rr (A r)) : ℝ) : EReal) := by
  pointwise [k0_pay2, k0_pay17, k0_pay16]
  simp only [hv, hd, rr_coe]
  simp only [← EReal.coe_mul]
  rw [sum_coe]
/-- The first half of the rows is computed as the second. -/
theorem dxT_eq (w19 w21 w23 w24 w26 w28 w30 w32 w34) : k0_pay13 (k0_pay9 v) (k0_pay10 v) (k0_pay11 w19 w21 w23 w24 w26 w28 w30 w32 w34 a g)
    (k0_pay12 w19 w21 w23 w24 w26 w28 w30 w32 w34 a v g) e = dxT a (k0_pay7 (F := Ideal) w19 w21 w23 w24 w26 w28 w30 w32 w34) v e g := rfl
theorem gq_eq (w19 w21 w23 w24 w26 w28 w30 w32 w34) : k0_pay14 (k0_pay8 w19 w21 w23 w24 w26 w28 w30 w32 w34 a) (k0_pay10 v) acc
    = k0_pay2 (k0_pay15 (k0_pay7 (F := Ideal) w19 w21 w23 w24 w26 w28 w30 w32 w34) a) (k0_pay17 v) acc := rfl
end Pay

variable (m : (ℓ : Loc nD τ sig) → Buf (Elt Ideal) ℓ) (c : Dev nD) {X E W D : ℕ → ℕ → ℝ} {Q : ℕ → ℝ}
  (hX : ∀ (n : Fin 4096) (k : Fin 1024), m ((c.tc : Thread nD τ).loc main_arg0) (ix2 n k) = ((X n k : ℝ) : EReal))
  (hQ : ∀ k : Fin 1024, m ((c.tc : Thread nD τ).loc main_arg1) (ix1 k) = ((Q k : ℝ) : EReal))
  (hW : ∀ (n : Fin 1024) (k : Fin 3072), m ((c.tc : Thread nD τ).loc main_arg2) (ix2 n k) = ((W n k : ℝ) : EReal))
  (hE : ∀ (n : Fin 4096) (k : Fin 1024), m ((c.tc : Thread nD τ).loc main_arg3) (ix2 n k) = ((E n k : ℝ) : EReal))
  (hD : ∀ (n : Fin 4096) (k : Fin 3072), m ((c.tc : Thread nD τ).loc main_arg4) (ix2 n k) = ((D n k : ℝ) : EReal))

theorem idx : ∀ t : Fin cfg0.N, win0_0.index t = ![t.val, 0] ∧ win0_1.index t = ![0, 0, 0] ∧ win0_2.index t = ![0, 0, 0]
    ∧ win0_3.index t = ![t.val, 0] ∧ win0_4.index t = ![0, 0, 0] ∧ win0_5.index t = ![t.val, 0] ∧ win0_6.index t = ![t.val, 0]
    ∧ win0_7.index t = ![0, 0] :=
  (by decide +kernel : ∀ t : Fin grid0.N, _)
theorem lt8 (t : Fin cfg0.N) : t.val < 8 := t.isLt

theorem ent0 (n : Fin 4096) (q : Fin 3072) : V m c (Pipeline.arrRef spec0 0) (ix2 n q) = m ((c.tc : Thread nD τ).loc main_arg4) (ix2 n q) := by
  entry_read; pointwise
include hW in
theorem ent1 (j : Fin 8) (r : Fin 512) (q : Fin 384) : (V m c (Pipeline.arrRef spec0 1) (ix3 j r q) : EReal) = ((W (0 + r) (384 * j + q) : ℝ) : EReal) := by
  entry_read; pointwise
  refine (hW _ _).trans ?_
  congr 2 <;> (simp only []; omega)
include hW in
theorem ent2 (j : Fin 8) (r : Fin 512) (q : Fin 384) : (V m c (Pipeline.arrRef spec0 2) (ix3 j r q) : EReal) = ((W (512 + r) (384 * j + q) : ℝ) : EReal) := by
  entry_read; pointwise
  refine (hW _ _).trans ?_
  congr 2 <;> (simp only []; omega)
theorem ent3 (n : Fin 4096) (k : Fin 1024) : V m c (Pipeline.arrRef spec0 3) (ix2 n k) = m ((c.tc : Thread nD τ).loc main_arg0) (ix2 n k) := by
  entry_read
  rfl
theorem ent4 (a b : Fin 1) (k : Fin 1024) : V m c (Pipeline.arrRef spec0 4) (ix3 a b k) = m ((c.tc : Thread nD τ).loc main_arg1) (ix1 k) := by
  entry_read; pointwise
theorem ent5 (n : Fin 4096) (k : Fin 1024) : V m c (Pipeline.arrRef spec0 5) (ix2 n k) = m ((c.tc : Thread nD τ).loc main_arg3) (ix2 n k) := by
  entry_read
  rfl

theorem blk0 (t : Fin cfg0.N) (r : Fin 512) (q : Fin 3072) :
    iblk m c 0 t (ix2 r q) = V m c (Pipeline.arrRef spec0 0) (ix2 ⟨512 * t.val + r, by have := lt8 t; omega⟩ q) := by
  blk_point [iblk, idx t]
theorem blk1 (t : Fin cfg0.N) (j : Fin 8) (r : Fin 512) (q : Fin 384) : iblk m c 1 t (ix3 j r q) = V m c (Pipeline.arrRef spec0 1) (ix3 j r q) := by
  blk_point [iblk, idx t]
theorem blk2 (t : Fin cfg0.N) (j : Fin 8) (r : Fin 512) (q : Fin 384) : iblk m c 2 t (ix3 j r q) = V m c (Pipeline.arrRef spec0 2) (ix3 j r q) := by
  blk_point [iblk, idx t]
theorem blk3 (t : Fin cfg0.N) (r : Fin 512) (q : Fin 1024) :
    iblk m c 3 t (ix2 r q) = V m c (Pipeline.arrRef spec0 3) (ix2 ⟨512 * t.val + r, by have := lt8 t; omega⟩ q) := by
  blk_point [iblk, idx t]
theorem blk4 (t : Fin cfg0.N) (a b : Fin 1) (q : Fin 1024) : iblk m c 4 t (ix3 a b q) = V m c (Pipeline.arrRef spec0 4) (ix3 0 b q) := by
  blk_point [iblk, idx t]
theorem blk5 (t : Fin cfg0.N) (r : Fin 512) (q : Fin 1024) :
    iblk m c 5 t (ix2 r q) = V m c (Pipeline.arrRef spec0 5) (ix2 ⟨512 * t.val + r, by have := lt8 t; omega⟩ q) := by
  blk_point [iblk, idx t]

include hD in
theorem in0 (t : Fin cfg0.N) (r : Fin 512) (q : Fin 3072) : (iblk m c 0 t (ix2 r q) : EReal) = ((D (512 * t.val + r) q : ℝ) : EReal) := by
  rw [blk0, ent0, hD]
include hW in
theorem inW (t : Fin cfg0.N) (k : Fin 1024) (q : Fin 3072) : (wJ (iblk m c 1 t) (iblk m c 2 t) (ix2 k q) : EReal) = ((W k q : ℝ) : EReal) :=
  wJ_at _ _ (fun j r q => by rw [blk1, ent1 m c hW]) (fun j r q => by rw [blk2, ent2 m c hW]) k q
include hX in
theorem in3 (t : Fin cfg0.N) (r : Fin 512) (k : Fin 1024) : (iblk m c 3 t (ix2 r k) : EReal) = ((X (512 * t.val + r) k : ℝ) : EReal) := by
  rw [blk3, ent3, hX]
include hQ in
theorem in4 (t : Fin cfg0.N) (a b : Fin 1) (k : Fin 1024) : (iblk m c 4 t (ix3 a b k) : EReal) = ((Q k : ℝ) : EReal) := by
  rw [blk4, ent4, hQ]
include hE in
theorem in5 (t : Fin cfg0.N) (r : Fin 512) (k : Fin 1024) : (iblk m c 5 t (ix2 r k) : EReal) = ((E (512 * t.val + r) k : ℝ) : EReal) := by
  rw [blk5, ent5, hE]

section Half
variable (t : Fin cfg0.N) (o : ℕ) (ho : o + 256 ≤ 512) (ja jv)
/-- Half of a tile's rows of the projection's cotangent and of the narrow arrays. -/
abbrev lda : Vec Ideal S256x3072 .bf16 := View.ld (iblk m c 0 t) (Rect.unit (s := S512x3072) ![o, 0] ![256, 3072] ja)
abbrev ldx : Vec Ideal S256x1024 .f32 := View.ld (iblk m c 3 t) (Rect.unit (s := S512x1024) ![o, 0] ![256, 1024] jv)
abbrev lde : Vec Ideal S256x1024 .f32 := View.ld (iblk m c 5 t) (Rect.unit (s := S512x1024) ![o, 0] ![256, 1024] jv)
/-- The joined weight of a grid point. -/
abbrev ldW : Vec Ideal S1024x3072 .bf16 := wJ (iblk m c 1 t) (iblk m c 2 t)

include ho hW hD in
theorem dh_half (r : Fin 256) (k : Fin 1024) : (k0_pay15 (ldW m c t) (lda m c t o ja) (ix2 r k) : EReal) = ((dh W D (512 * t.val + (o + r)) k : ℝ) : EReal) :=
  pdh _ _ (A := fun q => D (512 * t.val + (o + r)) q) (F := fun q => W k q) r k
    (fun q => (ld2 (Val := Elt Ideal) _ _ r q ⟨o + r, by omega⟩ q (by dsimp only) (by omega)).trans (in0 m c hD t _ _)) (fun q => inW m c hW t k q)
include ho hX in
theorem x_half (r : Fin 256) (k : Fin 1024) : (ldx m c t o jv (ix2 r k) : EReal) = ((X (512 * t.val + (o + r)) k : ℝ) : EReal) :=
  (ld2 (Val := Elt Ideal) _ _ r k ⟨o + r, by omega⟩ k (by dsimp only) (by omega)).trans (in3 m c hX t _ _)
include ho hE in
theorem e_half (r : Fin 256) (k : Fin 1024) : (lde m c t o jv (ix2 r k) : EReal) = ((E (512 * t.val + (o + r)) k : ℝ) : EReal) :=
  (ld2 (Val := Elt Ideal) _ _ r k ⟨o + r, by omega⟩ k (by dsimp only) (by omega)).trans (in5 m c hE t _ _)
include ho hX hQ hW hE hD in
theorem dx_half (r : Fin 256) (k : Fin 1024) :
    (dxT (lda m c t o ja) (ldW m c t) (ldx m c t o jv) (lde m c t o jv) (iblk m c 4 t) (ix2 r k) : EReal)
      = ((dX X E (dh W D) Q (512 * t.val + (o + r)) k : ℝ) : EReal) :=
  pdx _ _ _ _ _ r k (fun k => x_half m c hX t o ho jv r k) (fun k => dh_half m c hW hD t o ho ja r k)
    (fun k => in4 m c hQ t 0 0 k) (e_half m c hE t o ho jv r k)
include ho hX hW hD in
theorem gq_half (acc : Vec Ideal S1x1024 .f32) (i : Fin 1) (k : Fin 1024) :
    (k0_pay2 (k0_pay15 (ldW m c t) (lda m c t o ja)) (k0_pay17 (ldx m c t o jv)) acc (ix2 i k) : EReal)
      = acc (ix2 i k) + ((∑ r : Fin 256, gX X (dh W D) (512 * t.val + (o + r)) k : ℝ) : EReal) :=
  pgq _ _ _ _ (A := fun r k => X (512 * t.val + (o + r)) k) (d := fun r k => dh W D (512 * t.val + (o + r)) k) i k
    (fun r k => x_half m c hX t o ho jv r k) (fun r k => dh_half m c hW hD t o ho ja r k)
end Half

/-- What a grid point adds to the gain's gradient. -/
def termQ (X W D : ℕ → ℕ → ℝ) (t i k : ℕ) : EReal :=
  if i < 1 then ((∑ r : Fin 512, gX X (dh W D) (512 * t + r) k : ℝ) : EReal) else 0

include hX hQ hW hE hD in
theorem point6 (t : Fin cfg0.N) (y : S512x1024.Idx) : ((outsAt0 m c t.val t.isLt).1 y : EReal)
    = ((dX X E (dh W D) Q (512 * t.val + (y 0).val) (y 1).val : ℝ) : EReal) := by
  by_cases h0 : t.val % 8 = 0
  · rw [outsAt0_A m c t h0]; frame_out
    simp only [dxT_eq]
    exact two_halves (Val := Elt Ideal) (e := .f32) _ _ _ _ (fun n k => ((dX X E (dh W D) Q (512 * t.val + n) k : ℝ) : EReal))
      (fun r k => dx_half m c hX hQ hW hE hD t 256 (by omega) _ _ r k)
      (fun r k => dx_half m c hX hQ hW hE hD t 0 (by omega) _ _ r k) y
  · rw [outsAt0_B m c t h0]; frame_out
    simp only [dxT_eq]
    exact two_halves (Val := Elt Ideal) (e := .f32) _ _ _ _ (fun n k => ((dX X E (dh W D) Q (512 * t.val + n) k : ℝ) : EReal))
      (fun r k => dx_half m c hX hQ hW hE hD t 256 (by omega) _ _ r k)
      (fun r k => dx_half m c hX hQ hW hE hD t 0 (by omega) _ _ r k) y
include hX hW hD in
theorem acc7A (t : Fin cfg0.N) (h0 : t.val % 8 = 0) (y : S8x1024.Idx) :
    ((outsAt0 m c t.val t.isLt).2 y : EReal) = 0 + termQ X W D t.val (y 0).val (y 1).val := by
  rw [outsAt0_A m c t h0]; frame_out
  simp only [gq_eq]
  simp (disch := decide) only [↓ View.readCov_skip, ↓ View.readCov_cons_toLoadRect, ↓ View.readCov_fill]
  refine (row_fill (Val := Elt Ideal) (e := .f32) _ _ _ _ _ _ (0 : EReal) (fun x => by idx_vars x; pointwise [k0_pay3]) y).trans ?_
  refine first_row _ _ _ _ fun hi => ?_
  refine (gq_half m c hX hW hD t 256 (by omega) _ _ _ 0 (y 1)).trans ?_
  refine add_halves (fun n => gX X (dh W D) n (y 1).val) (512 * t.val) _ _ ?_
  refine (gq_half m c hX hW hD t 0 (by omega) _ _ _ 0 (y 1)).trans ?_
  refine congrArg (fun b : EReal => b + _) ?_
  refine (row_zero _ _ y hi).trans ?_
  idx_vars y
  pointwise [k0_pay3]
include hX hW hD in
theorem acc7B (t : Fin cfg0.N) (h0 : ¬t.val % 8 = 0) (y : S8x1024.Idx) :
    ((outsAt0 m c t.val t.isLt).2 y : EReal) = (outsAt0 m c (t.val - 1) (Nat.lt_of_le_of_lt (Nat.sub_le _ _) t.isLt)).2 y
      + termQ X W D t.val (y 0).val (y 1).val := by
  rw [outsAt0_B m c t h0]; frame_out
  simp only [gq_eq]
  simp (disch := decide) only [↓ View.readCov_skip, ↓ View.readCov_cons_toLoadRect, ↓ View.readCov_fill]
  refine (row_over (Val := Elt Ideal) (e := .f32) _ _ _ _ _ _ y).trans ?_
  refine Eq.trans (congrArg (fun b : EReal => if (y 0).val < 1 then _ else b) (congrFun (Memref.IsWhole.read_unread _ _) y)) ?_
  refine first_row _ _ _ _ fun hi => ?_
  refine (gq_half m c hX hW hD t 256 (by omega) _ _ _ 0 (y 1)).trans ?_
  refine add_halves (fun n => gX X (dh W D) n (y 1).val) (512 * t.val) _ _ ?_
  refine (gq_half m c hX hW hD t 0 (by omega) _ _ _ 0 (y 1)).trans ?_
  exact congrArg (fun b : EReal => b + _) (row_zero _ _ y hi)
include hX hQ hW hE hD in
/-- The kernel's first result. -/
theorem final6 : (dats m 0 c).arrAt 6 (cfgs 0).N = fun i : S4096x1024.Idx => ((dX X E (dh W D) Q (i 0).val (i 1).val : ℝ) : EReal) := by
  refine (dats m 0 c).arrAt_eq_of_covers 6 _ (by decide +kernel) fun t hf y => ?_
  blk_simp [idx t]
  rw [after0_6]
  change S512x1024.Idx at y
  rw [point6 m c hX hQ hW hE hD]
  congr 2; omega
include hX hW hD in
/-- The kernel's second result: the gradient in the first of eight rows. -/
theorem final7 : (dats m 0 c).arrAt 7 (cfgs 0).N = fun i : S8x1024.Idx =>
    if (i 0).val < 1 then ((∑ n : Fin 4096, gX X (dh W D) n (i 1).val : ℝ) : EReal) else (0 : EReal) := by
  refine (dats m 0 c).arrAt_eq_of_covers 7 _ (by decide +kernel) fun t hf y => ?_
  have h7 : t.val % 8 = 7 := (flush0_7 t).mp hf
  blk_simp [idx t]
  rw [after0_7]
  change S8x1024.Idx at y
  refine (Pipeline.eq_sum_fin_of_reset_step_apply_of_flush (M := EReal) (fun n h => (outsAt0 m c n h).2) 8 (fun _ => 0)
    (fun t (y : S8x1024.Idx) => termQ X W D t.val (y 0).val (y 1).val)
    (fun t h y => acc7A m c hX hW hD t h y) (fun t h y => acc7B m c hX hW hD t h y) t h7 y).trans ?_
  rw [zero_add]
  have h8 := lt8 t
  unfold termQ
  by_cases hi : (y 0).val < 1
  · refine Eq.trans ?_ (if_pos (by omega)).symm
    refine Eq.trans (Finset.sum_congr (M := EReal) rfl fun s _ => ?_) (sum_tiles 8 512 4096 rfl fun n => gX X (dh W D) n (y 1).val)
    refine (if_pos hi).trans ?_
    show ((∑ r : Fin 512, gX X (dh W D) (512 * (8 * (t.val / 8) + s.val) + r) (y 1).val : ℝ) : EReal) = _
    rw [show 8 * (t.val / 8) = 0 by omega, zero_add]
  · refine Eq.trans ?_ (if_neg (by omega)).symm
    exact Finset.sum_eq_zero (M := EReal) fun s _ => if_neg hi
end Cert.InProjFirstIdeal.Val
-- ==== Proof.InProjFirstClaim.lean ====
/-
  The mixer's input product in the first layer, with the one norm before it: the kernel and the plain reference together.
-/
module
public import proofs.«01_k».proof.Proof.InProjFirst
public import proofs.«01_k».proof.Proof.FfnInRef
public import proofs.«01_k».proof.Proof.Finite
public import proofs.«01_k».proof.Proof.Gen.InProjFirstRefIdeal.Run
public import proofs.«01_k».proof.Proof.Gen.Pre_finite12
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.Proof
open Cert.InProjFirstIdeal.Val Cert.InProjIdeal.Val
open Cert.FfnInRefIdeal.Value (rE rC rB rR rE_at rC_eq rB_at rR_at)
/-- The cotangent of the norm's output in the reference. -/
def pF (A4 : FVec Ideal Cert.InProjFirstRefIdeal.S1024x3072 .f32) (A6 : FVec Ideal Cert.InProjFirstRefIdeal.S4096x3072 .f32) : FVec Ideal Cert.InProjFirstRefIdeal.S4096x1024 .f32 :=
  Host.dotGeneral Cert.InProjFirstRefIdeal.dot_S4096x3072_S1024x3072_S4096x1024_1_1_0_0_n_n none A6 A4
theorem pF_at (A4 : FVec Ideal Cert.InProjFirstRefIdeal.S1024x3072 .f32) (A6 : FVec Ideal Cert.InProjFirstRefIdeal.S4096x3072 .f32) {W D : ℕ → ℕ → ℝ}
    (hW : ∀ (n : Fin 1024) (k : Fin 3072), A4 (ix2 n k) = ((W n k : ℝ) : EReal))
    (hD : ∀ (n : Fin 4096) (k : Fin 3072), A6 (ix2 n k) = ((D n k : ℝ) : EReal))
    (n : Fin 4096) (k : Fin 1024) : (pF A4 A6 (ix2 n k) : EReal) = ((dh W D n k : ℝ) : EReal) := by
  pointwise [pF]
  exact dot_coe (fun q => hD n q) (fun q => hW k q)
section Ref
variable (A B D : FVec Ideal Cert.FfnInRefIdeal.S4096x1024 .f32) (G : FVec Ideal Cert.FfnInRefIdeal.S1024 .f32) {X E H : ℕ → ℕ → ℝ} {Q : ℕ → ℝ}
  (hX : ∀ (n : Fin 4096) (k : Fin 1024), A (ix2 n k) = ((X n k : ℝ) : EReal))
  (hQ : ∀ k : Fin 1024, G (ix1 k) = ((Q k : ℝ) : EReal))
  (hE : ∀ (n : Fin 4096) (k : Fin 1024), B (ix2 n k) = ((E n k : ℝ) : EReal))
  (hH : ∀ (n : Fin 4096) (k : Fin 1024), D (ix2 n k) = ((H n k : ℝ) : EReal))
include hX hQ hE hH in
/-- The reference's first result. -/
theorem first_res0 : rE A D B G = fun i => ((dX X E H Q (i 0).val (i 1).val : ℝ) : EReal) := by
  funext i; idx_vars i
  exact rE_at _ _ _ _ i0 i1 (hX i0) (hH i0) hQ (hE i0 i1)
include hX hH in
/-- The gradient of the norm's gain. -/
theorem first_res1 : rC (mulf (mulf A (rB (rR A))) D)
    = fun i => if (i 0).val < 1 then ((∑ n : Fin 4096, gX X H n (i 1).val : ℝ) : EReal) else 0 := by
  refine rC_eq _ fun n k => ?_
  pointwise
  rw [hH, rB_at, rR_at _ n 0 (hX n), hX, ← EReal.coe_mul, ← EReal.coe_mul, mul_comm]
  rfl
end Ref

/-- Under the precondition the five arrays hold real numbers. -/
theorem reals_in_proj_first (A : FVec Ideal Cert.Pre_finite12.S4096x1024 .f32) (B : FVec Ideal Cert.Pre_finite12.S1024 .f32)
    (C : FVec Ideal Cert.Pre_finite12.S1024x3072 .f32) (D : FVec Ideal Cert.Pre_finite12.S4096x1024 .f32) (E : FVec Ideal Cert.Pre_finite12.S4096x3072 .f32)
    (h : Cert.Pre_finite12.fn A B C D E = fun _ => 1#1) :
    (∀ i, (A i : EReal) = (((A i : EReal).toReal : ℝ) : EReal)) ∧ (∀ i, (B i : EReal) = (((B i : EReal).toReal : ℝ) : EReal))
    ∧ (∀ i, (C i : EReal) = (((C i : EReal).toReal : ℝ) : EReal)) ∧ (∀ i, (D i : EReal) = (((D i : EReal).toReal : ℝ) : EReal))
    ∧ ∀ i, (E i : EReal) = (((E i : EReal).toReal : ℝ) : EReal) := by
  have h0 := congrFun h (fun a => a.elim0)
  dsimp only [Cert.Pre_finite12.fn, Cert.Pre_finite12.fn_part1] at h0
  obtain ⟨h4, hE⟩ := IntOp.andi_eq_one.mp h0
  obtain ⟨h5, hD⟩ := IntOp.andi_eq_one.mp h4
  obtain ⟨h6, hC⟩ := IntOp.andi_eq_one.mp h5
  obtain ⟨hA, hB⟩ := IntOp.andi_eq_one.mp h6
  haveI : Subsingleton Cert.Pre_finite12.S_.Idx := ⟨fun a b => funext fun x => x.elim0⟩
  exact ⟨Finite.real_of_all A _ (fun _ => rfl) _ _ _ _ hA, Finite.real_of_all B _ (fun _ => rfl) _ _ _ _ hB,
    Finite.real_of_all C _ (fun _ => rfl) _ _ _ _ hC, Finite.real_of_all D _ (fun _ => rfl) _ _ _ _ hD,
    Finite.real_of_all E _ (fun _ => rfl) _ _ _ _ hE⟩

set_option maxHeartbeats 2000000 in
/-- Over the reals the kernel computes the gradients of the first layer's input product and the norm before it. -/
theorem in_proj_first_algebraic : Cert.algebraic_InProjFirstIdeal_InProjFirstRefIdeal_pre_finite12 := by
  pair_intro
  · run_from Cert.InProjFirstIdeal.Value.run_blocks m g
  · have H : ∀ c : Dev Cert.InProjFirstIdeal.nD, ∃ (X E W D : ℕ → ℕ → ℝ) (Q : ℕ → ℝ),
        (∀ (n : Fin 4096) (k : Fin 1024), m ((c.tc : Thread Cert.InProjFirstIdeal.nD Cert.InProjFirstIdeal.τ).loc Cert.InProjFirstIdeal.main_arg0) (ix2 n k) = ((X n k : ℝ) : EReal))
        ∧ (∀ k : Fin 1024, m ((c.tc : Thread Cert.InProjFirstIdeal.nD Cert.InProjFirstIdeal.τ).loc Cert.InProjFirstIdeal.main_arg1) (ix1 k) = ((Q k : ℝ) : EReal))
        ∧ (∀ (n : Fin 1024) (k : Fin 3072), m ((c.tc : Thread Cert.InProjFirstIdeal.nD Cert.InProjFirstIdeal.τ).loc Cert.InProjFirstIdeal.main_arg2) (ix2 n k) = ((W n k : ℝ) : EReal))
        ∧ (∀ (n : Fin 4096) (k : Fin 1024), m ((c.tc : Thread Cert.InProjFirstIdeal.nD Cert.InProjFirstIdeal.τ).loc Cert.InProjFirstIdeal.main_arg3) (ix2 n k) = ((E n k : ℝ) : EReal))
        ∧ (∀ (n : Fin 4096) (k : Fin 3072), m ((c.tc : Thread Cert.InProjFirstIdeal.nD Cert.InProjFirstIdeal.τ).loc Cert.InProjFirstIdeal.main_arg4) (ix2 n k) = ((D n k : ℝ) : EReal)) := fun c => by
      obtain ⟨hA, hB, hC, hD, hE⟩ := reals_in_proj_first _ _ _ _ _ (hpre c)
      obtain ⟨X, hX⟩ := mat2 _ hA
      obtain ⟨Q, hQ⟩ := vec1 _ hB
      obtain ⟨W, hW⟩ := mat2 _ hC
      obtain ⟨E, hE'⟩ := mat2 _ hD
      obtain ⟨D, hD'⟩ := mat2 _ hE
      exact ⟨X, E, W, D, Q, hX, hQ, hW, hE', hD'⟩
    run_from Cert.InProjFirstRefIdeal.Value.run m' g'
    all_goals
      obtain ⟨X, E, W, D, Q, hX, hQ, hW, hE, hD⟩ := H c
      obtain ⟨a0, a1, a2, a3, a4⟩ := hagree c
      have rX := fun (n : Fin 4096) (k : Fin 1024) => (congrFun a0 (ix2 n k)).trans (hX n k)
      have rQ := fun (k : Fin 1024) => (congrFun a1 (ix1 k)).trans (hQ k)
      have rW := fun (n : Fin 1024) (k : Fin 3072) => (congrFun a2 (ix2 n k)).trans (hW n k)
      have rE' := fun (n : Fin 4096) (k : Fin 1024) => (congrFun a3 (ix2 n k)).trans (hE n k)
      have rD := fun (n : Fin 4096) (k : Fin 3072) => (congrFun a4 (ix2 n k)).trans (hD n k)
      have rH := fun (n : Fin 4096) (k : Fin 1024) => pF_at _ _ rW rD n k
    · refine Eq.trans (b := rE _ _ _ _) (by unfold Cert.InProjFirstRefIdeal.Value.res_main_v38; rfl) ?_
      exact Eq.trans (first_res0 _ _ _ _ rX rQ rE' rH) (Cert.InProjFirstIdeal.Val.final6 m c hX hQ hW hE hD).symm
    · exact Eq.trans (first_res1 _ _ hX rH) (Cert.InProjFirstIdeal.Val.final7 m c hX hW hD).symm
end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Pre_finite
public import proofs.«01_k».proof.Proof.Gen.FfnOutIdeal.Value
public import proofs.«01_k».proof.Proof.Gen.FfnOutRefIdeal.Run
public import proofs.«01_k».proof.Proof.Gen.FfnOut
public import proofs.«01_k».proof.Proof.Gen.DwFfnInIdeal.Value
public import proofs.«01_k».proof.Proof.Gen.DwFfnInRefIdeal.Run
public import proofs.«01_k».proof.Proof.Gen.DwFfnIn
public import proofs.«01_k».proof.Proof.Gen.FfnInIdeal.Value
public import proofs.«01_k».proof.Proof.Gen.FfnInRefIdeal.Run
public import proofs.«01_k».proof.Proof.Gen.FfnIn
public import proofs.«01_k».proof.Proof.Gen.DwInIdeal.Value
public import proofs.«01_k».proof.Proof.Gen.DwInRefIdeal.Run
public import proofs.«01_k».proof.Proof.Gen.DwIn
public import proofs.«01_k».proof.Proof.Gen.InProjIdeal.Value
public import proofs.«01_k».proof.Proof.Gen.InProjRefIdeal.Run
public import proofs.«01_k».proof.Proof.Gen.InProj
public import proofs.«01_k».proof.Proof.Gen.OutProjIdeal.Value
public import proofs.«01_k».proof.Proof.Gen.OutProjRefIdeal.Run
public import proofs.«01_k».proof.Proof.Gen.OutProj
public import proofs.«01_k».proof.Proof.Gen.FfnOut.Frame
public import proofs.«01_k».proof.Proof.Gen.DwFfnIn.Frame
public import proofs.«01_k».proof.Proof.Gen.FfnIn.Frame
public import proofs.«01_k».proof.Proof.Gen.DwIn.Frame
public import proofs.«01_k».proof.Proof.Gen.InProj.Frame
public import proofs.«01_k».proof.Proof.Gen.OutProj.Frame
public import proofs.«01_k».proof.Proof.Gen.FfnInFwdIdeal.Value
public import proofs.«01_k».proof.Proof.Gen.FfnInFwdRefIdeal.Run
public import proofs.«01_k».proof.Proof.Gen.FfnInFwd
public import proofs.«01_k».proof.Proof.Gen.FfnInFwd.Frame
public import proofs.«01_k».proof.Proof.Gen.FfnOutFwdIdeal.Value
public import proofs.«01_k».proof.Proof.Gen.FfnOutFwdRefIdeal.Run
public import proofs.«01_k».proof.Proof.Gen.FfnOutFwd
public import proofs.«01_k».proof.Proof.Gen.FfnOutFwd.Frame
public import proofs.«01_k».proof.Proof.Gen.InProjQkvIdeal.Value
public import proofs.«01_k».proof.Proof.Gen.InProjQkvRefIdeal.Run
public import proofs.«01_k».proof.Proof.Gen.InProjQkv
public import proofs.«01_k».proof.Proof.Gen.InProjQkv.Frame
public import proofs.«01_k».proof.Proof.Gen.OutProjFwdIdeal.Value
public import proofs.«01_k».proof.Proof.Gen.OutProjFwdRefIdeal.Run
public import proofs.«01_k».proof.Proof.Gen.OutProjFwd
public import proofs.«01_k».proof.Proof.Gen.OutProjFwd.Frame
public import proofs.«01_k».proof.Proof.Gen.Pre_finite2
public import proofs.«01_k».proof.Proof.Gen.Pre_finite4
public import proofs.«01_k».proof.Proof.Gen.Pre_finite6
public import proofs.«01_k».proof.Proof.Gen.Pre_finite7
public import proofs.«01_k».proof.Proof.Gen.InProjFirstIdeal.Value
public import proofs.«01_k».proof.Proof.Gen.InProjFirstRefIdeal.Run
public import proofs.«01_k».proof.Proof.Gen.InProjFirst
public import proofs.«01_k».proof.Proof.Gen.InProjFirst.Frame
public import proofs.«01_k».proof.Proof.Gen.Pre_finite12
public import proofs.«01_k».proof.Proof.ConvClaim
public import proofs.«01_k».proof.Proof.DwIn
public import proofs.«01_k».proof.Proof.DwFfnIn
public import proofs.«01_k».proof.Proof.FfnOutClaim
public import proofs.«01_k».proof.Proof.FfnInClaim
public import proofs.«01_k».proof.Proof.InProjClaim
public import proofs.«01_k».proof.Proof.OutProjClaim
public import proofs.«01_k».proof.Proof.FfnInFwd
public import proofs.«01_k».proof.Proof.FfnOutFwd
public import proofs.«01_k».proof.Proof.InProjQkv
public import proofs.«01_k».proof.Proof.OutProjFwd
public import proofs.«01_k».proof.Proof.InProjFirstClaim
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.FfnOut.Gen.facts, Cert.FfnOutIdeal.Gen.facts, Cert.FfnOutRefIdeal.Gen.facts, Cert.DwFfnIn.Gen.facts, Cert.DwFfnInIdeal.Gen.facts, Cert.DwFfnInRefIdeal.Gen.facts, Cert.FfnIn.Gen.facts, Cert.FfnInIdeal.Gen.facts, Cert.FfnInRefIdeal.Gen.facts, Cert.DwIn.Gen.facts, Cert.DwInIdeal.Gen.facts, Cert.DwInRefIdeal.Gen.facts, Cert.InProj.Gen.facts, Cert.InProjIdeal.Gen.facts, Cert.InProjRefIdeal.Gen.facts, Cert.OutProj.Gen.facts, Cert.OutProjIdeal.Gen.facts, Cert.OutProjRefIdeal.Gen.facts, Cert.FfnInFwd.Gen.facts, Cert.FfnInFwdIdeal.Gen.facts, Cert.FfnInFwdRefIdeal.Gen.facts, Cert.FfnOutFwd.Gen.facts, Cert.FfnOutFwdIdeal.Gen.facts, Cert.FfnOutFwdRefIdeal.Gen.facts, Cert.InProjQkv.Gen.facts, Cert.InProjQkvIdeal.Gen.facts, Cert.InProjQkvRefIdeal.Gen.facts, Cert.OutProjFwd.Gen.facts, Cert.OutProjFwdIdeal.Gen.facts, Cert.OutProjFwdRefIdeal.Gen.facts, Cert.InProjFirst.Gen.facts, Cert.InProjFirstIdeal.Gen.facts, Cert.InProjFirstRefIdeal.Gen.facts, Cert.Pre_finite.Gen.facts, Cert.Pre_finite2.Gen.facts, Cert.Pre_finite4.Gen.facts, Cert.Pre_finite6.Gen.facts, Cert.Pre_finite7.Gen.facts, Cert.Pre_finite12.Gen.facts, by
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  · intro m ρ _; exact Cert.Kernel.Gen.frame m ρ
  · intro m ρ _; exact Cert.KernelIdeal.Gen.frame m ρ
  · intro m ρ _; exact Cert.KernelIdeal.Gen.frame m ρ
  · intro m g _
    exact (θ_run _ _ _).mono (fun r h => ⟨fun c => (h c).2.2.2, sem_eq_zero_of_no_sems (by decide) r.2⟩) (Cert.ReferenceIdeal.Value.run m g)
  · intro m g _
    exact (θ_run _ _ _).mono (fun r h => ⟨fun c => (h c).2.2.2, sem_eq_zero_of_no_sems (by decide) r.2⟩) (Cert.ReferenceIdeal.Value.run m g)
  · intro m ρ _; exact Cert.FfnOut.Gen.frame m ρ
  · intro m ρ _; exact Cert.FfnOutIdeal.Gen.frame m ρ
  · intro m ρ _; exact Cert.FfnOutIdeal.Gen.frame m ρ
  · intro m g _
    exact (θ_run _ _ _).mono (fun r h => ⟨fun c => (h c).2.2, sem_eq_zero_of_no_sems (by decide) r.2⟩) (Cert.FfnOutRefIdeal.Value.run m g)
  · intro m g _
    exact (θ_run _ _ _).mono (fun r h => ⟨fun c => (h c).2.2, sem_eq_zero_of_no_sems (by decide) r.2⟩) (Cert.FfnOutRefIdeal.Value.run m g)
  · intro m ρ _; exact Cert.DwFfnIn.Gen.frame m ρ
  · intro m ρ _; exact Cert.DwFfnInIdeal.Gen.frame m ρ
  · intro m g _
    exact (θ_run _ _ _).mono (fun r h => ⟨fun c => (h c).2, sem_eq_zero_of_no_sems (by decide) r.2⟩) (Cert.DwFfnInRefIdeal.Value.run m g)
  · intro m ρ _; exact Cert.FfnIn.Gen.frame m ρ
  · intro m ρ _; exact Cert.FfnInIdeal.Gen.frame m ρ
  · intro m ρ _; exact Cert.FfnInIdeal.Gen.frame m ρ
  · intro m g _
    exact (θ_run _ _ _).mono (fun r h => ⟨fun c => (h c).2.2.2.2, sem_eq_zero_of_no_sems (by decide) r.2⟩) (Cert.FfnInRefIdeal.Value.run m g)
  · intro m g _
    exact (θ_run _ _ _).mono (fun r h => ⟨fun c => (h c).2.2.2.2, sem_eq_zero_of_no_sems (by decide) r.2⟩) (Cert.FfnInRefIdeal.Value.run m g)
  · intro m ρ _; exact Cert.DwIn.Gen.frame m ρ
  · intro m ρ _; exact Cert.DwInIdeal.Gen.frame m ρ
  · intro m g _
    exact (θ_run _ _ _).mono (fun r h => ⟨fun c => (h c).2, sem_eq_zero_of_no_sems (by decide) r.2⟩) (Cert.DwInRefIdeal.Value.run m g)
  · intro m ρ _; exact Cert.InProj.Gen.frame m ρ
  · intro m ρ _; exact Cert.InProjIdeal.Gen.frame m ρ
  · intro m ρ _; exact Cert.InProjIdeal.Gen.frame m ρ
  · intro m g _
    exact (θ_run _ _ _).mono (fun r h => ⟨fun c => (h c).2.2.2.2, sem_eq_zero_of_no_sems (by decide) r.2⟩) (Cert.InProjRefIdeal.Value.run m g)
  · intro m g _
    exact (θ_run _ _ _).mono (fun r h => ⟨fun c => (h c).2.2.2.2, sem_eq_zero_of_no_sems (by decide) r.2⟩) (Cert.InProjRefIdeal.Value.run m g)
  · intro m ρ _; exact Cert.OutProj.Gen.frame m ρ
  · intro m ρ _; exact Cert.OutProjIdeal.Gen.frame m ρ
  · intro m ρ _; exact Cert.OutProjIdeal.Gen.frame m ρ
  · intro m g _
    exact (θ_run _ _ _).mono (fun r h => ⟨fun c => (h c).2.2.2.2, sem_eq_zero_of_no_sems (by decide) r.2⟩) (Cert.OutProjRefIdeal.Value.run m g)
  · intro m g _
    exact (θ_run _ _ _).mono (fun r h => ⟨fun c => (h c).2.2.2.2, sem_eq_zero_of_no_sems (by decide) r.2⟩) (Cert.OutProjRefIdeal.Value.run m g)
  · intro m ρ _; exact Cert.FfnInFwd.Gen.frame m ρ
  · intro m ρ _; exact Cert.FfnInFwdIdeal.Gen.frame m ρ
  · intro m g _
    exact (θ_run _ _ _).mono (fun r h => ⟨fun c => (h c).2.2, sem_eq_zero_of_no_sems (by decide) r.2⟩) (Cert.FfnInFwdRefIdeal.Value.run m g)
  · intro m ρ _; exact Cert.FfnOutFwd.Gen.frame m ρ
  · intro m ρ _; exact Cert.FfnOutFwdIdeal.Gen.frame m ρ
  · intro m g _
    exact (θ_run _ _ _).mono (fun r h => ⟨fun c => (h c).2.2.2, sem_eq_zero_of_no_sems (by decide) r.2⟩) (Cert.FfnOutFwdRefIdeal.Value.run m g)
  · intro m ρ _; exact Cert.InProjQkv.Gen.frame m ρ
  · intro m ρ _; exact Cert.InProjQkvIdeal.Gen.frame m ρ
  · intro m g _
    exact (θ_run _ _ _).mono (fun r h => ⟨fun c => (h c).2, sem_eq_zero_of_no_sems (by decide) r.2⟩) (Cert.InProjQkvRefIdeal.Value.run m g)
  · intro m ρ _; exact Cert.OutProjFwd.Gen.frame m ρ
  · intro m ρ _; exact Cert.OutProjFwdIdeal.Gen.frame m ρ
  · intro m g _
    exact (θ_run _ _ _).mono (fun r h => ⟨fun c => (h c).2.2.2, sem_eq_zero_of_no_sems (by decide) r.2⟩) (Cert.OutProjFwdRefIdeal.Value.run m g)
  · intro m ρ _; exact Cert.InProjFirst.Gen.frame m ρ
  · intro m ρ _; exact Cert.InProjFirstIdeal.Gen.frame m ρ
  · intro m ρ _; exact Cert.InProjFirstIdeal.Gen.frame m ρ
  · intro m g _
    exact (θ_run _ _ _).mono (fun r h => ⟨fun c => (h c).2.2, sem_eq_zero_of_no_sems (by decide) r.2⟩) (Cert.InProjFirstRefIdeal.Value.run m g)
  · intro m g _
    exact (θ_run _ _ _).mono (fun r h => ⟨fun c => (h c).2.2, sem_eq_zero_of_no_sems (by decide) r.2⟩) (Cert.InProjFirstRefIdeal.Value.run m g)
  · trivial
  · exact conv_algebraic
  · trivial
  · exact ffn_out_algebraic
  · trivial
  · exact dw_ffn_in_algebraic
  · trivial
  · exact ffn_in_algebraic
  · trivial
  · exact dw_in_algebraic
  · trivial
  · exact in_proj_algebraic
  · trivial
  · exact out_proj_algebraic
  · trivial
  · exact ffn_in_fwd_algebraic
  · trivial
  · exact ffn_out_fwd_algebraic
  · trivial
  · exact in_proj_qkv_algebraic
  · trivial
  · exact out_proj_fwd_algebraic
  · trivial
  · exact in_proj_first_algebraic⟩

end Cert.Proof

end
